-- ==== Defs.lean ====
def Pre_InBack (m : (ℓ : Loc Cert.InBack.nD Cert.InBack.τ Cert.InBack.sig) → Buf (Elt Bits) ℓ) : Prop :=
  True

def Pre_InBackIdeal (m : (ℓ : Loc Cert.InBackIdeal.nD Cert.InBackIdeal.τ Cert.InBackIdeal.sig) → Buf (Elt Ideal) ℓ) : Prop :=
  True

def Pre_InBackIdeal_finite_in [hPre_finite_in : Cert.Pre_finite_in.Facts] (m : (ℓ : Loc Cert.InBackIdeal.nD Cert.InBackIdeal.τ Cert.InBackIdeal.sig) → Buf (Elt Ideal) ℓ) : Prop :=
  ∀ c : Dev Cert.InBackIdeal.nD,
    (Cert.Pre_finite_in.fn (F := Ideal) (m ((c.tc : Thread Cert.InBackIdeal.nD Cert.InBackIdeal.τ).loc Cert.InBackIdeal.main_arg0)) (m ((c.tc : Thread Cert.InBackIdeal.nD Cert.InBackIdeal.τ).loc Cert.InBackIdeal.main_arg1)) (m ((c.tc : Thread Cert.InBackIdeal.nD Cert.InBackIdeal.τ).loc Cert.InBackIdeal.main_arg2)) (m ((c.tc : Thread Cert.InBackIdeal.nD Cert.InBackIdeal.τ).loc Cert.InBackIdeal.main_arg3)) (m ((c.tc : Thread Cert.InBackIdeal.nD Cert.InBackIdeal.τ).loc Cert.InBackIdeal.main_arg4)) (m ((c.tc : Thread Cert.InBackIdeal.nD Cert.InBackIdeal.τ).loc Cert.InBackIdeal.main_arg5)) (m ((c.tc : Thread Cert.InBackIdeal.nD Cert.InBackIdeal.τ).loc Cert.InBackIdeal.main_arg6)) (m ((c.tc : Thread Cert.InBackIdeal.nD Cert.InBackIdeal.τ).loc Cert.InBackIdeal.main_arg7)) (m ((c.tc : Thread Cert.InBackIdeal.nD Cert.InBackIdeal.τ).loc Cert.InBackIdeal.main_arg8)) (m ((c.tc : Thread Cert.InBackIdeal.nD Cert.InBackIdeal.τ).loc Cert.InBackIdeal.main_arg9))) = (fun _ => 1#1)

def Pre_InBackRefIdeal (m : (ℓ : Loc Cert.InBackRefIdeal.nD Cert.InBackRefIdeal.τ Cert.InBackRefIdeal.sig) → Buf (Elt Ideal) ℓ) : Prop :=
  True

def Pre_InBackRefIdeal_finite_in [hPre_finite_in : Cert.Pre_finite_in.Facts] (m : (ℓ : Loc Cert.InBackRefIdeal.nD Cert.InBackRefIdeal.τ Cert.InBackRefIdeal.sig) → Buf (Elt Ideal) ℓ) : Prop :=
  ∀ c : Dev Cert.InBackRefIdeal.nD,
    (Cert.Pre_finite_in.fn (F := Ideal) (m ((c.tc : Thread Cert.InBackRefIdeal.nD Cert.InBackRefIdeal.τ).loc Cert.InBackRefIdeal.main_arg0)) (m ((c.tc : Thread Cert.InBackRefIdeal.nD Cert.InBackRefIdeal.τ).loc Cert.InBackRefIdeal.main_arg1)) (m ((c.tc : Thread Cert.InBackRefIdeal.nD Cert.InBackRefIdeal.τ).loc Cert.InBackRefIdeal.main_arg2)) (m ((c.tc : Thread Cert.InBackRefIdeal.nD Cert.InBackRefIdeal.τ).loc Cert.InBackRefIdeal.main_arg3)) (m ((c.tc : Thread Cert.InBackRefIdeal.nD Cert.InBackRefIdeal.τ).loc Cert.InBackRefIdeal.main_arg4)) (m ((c.tc : Thread Cert.InBackRefIdeal.nD Cert.InBackRefIdeal.τ).loc Cert.InBackRefIdeal.main_arg5)) (m ((c.tc : Thread Cert.InBackRefIdeal.nD Cert.InBackRefIdeal.τ).loc Cert.InBackRefIdeal.main_arg6)) (m ((c.tc : Thread Cert.InBackRefIdeal.nD Cert.InBackRefIdeal.τ).loc Cert.InBackRefIdeal.main_arg7)) (m ((c.tc : Thread Cert.InBackRefIdeal.nD Cert.InBackRefIdeal.τ).loc Cert.InBackRefIdeal.main_arg8)) (m ((c.tc : Thread Cert.InBackRefIdeal.nD Cert.InBackRefIdeal.τ).loc Cert.InBackRefIdeal.main_arg9))) = (fun _ => 1#1)

def Pre_AttBack (m : (ℓ : Loc Cert.AttBack.nD Cert.AttBack.τ Cert.AttBack.sig) → Buf (Elt Bits) ℓ) : Prop :=
  True

def Pre_AttBackIdeal (m : (ℓ : Loc Cert.AttBackIdeal.nD Cert.AttBackIdeal.τ Cert.AttBackIdeal.sig) → Buf (Elt Ideal) ℓ) : Prop :=
  True

def Pre_AttBackIdeal_finite_att [hPre_finite_att : Cert.Pre_finite_att.Facts] (m : (ℓ : Loc Cert.AttBackIdeal.nD Cert.AttBackIdeal.τ Cert.AttBackIdeal.sig) → Buf (Elt Ideal) ℓ) : Prop :=
  ∀ c : Dev Cert.AttBackIdeal.nD,
    (Cert.Pre_finite_att.fn (F := Ideal) (m ((c.tc : Thread Cert.AttBackIdeal.nD Cert.AttBackIdeal.τ).loc Cert.AttBackIdeal.main_arg0)) (m ((c.tc : Thread Cert.AttBackIdeal.nD Cert.AttBackIdeal.τ).loc Cert.AttBackIdeal.main_arg1)) (m ((c.tc : Thread Cert.AttBackIdeal.nD Cert.AttBackIdeal.τ).loc Cert.AttBackIdeal.main_arg2)) (m ((c.tc : Thread Cert.AttBackIdeal.nD Cert.AttBackIdeal.τ).loc Cert.AttBackIdeal.main_arg3)) (m ((c.tc : Thread Cert.AttBackIdeal.nD Cert.AttBackIdeal.τ).loc Cert.AttBackIdeal.main_arg4))) = (fun _ => 1#1)

def Pre_AttBackRefIdeal (m : (ℓ : Loc Cert.AttBackRefIdeal.nD Cert.AttBackRefIdeal.τ Cert.AttBackRefIdeal.sig) → Buf (Elt Ideal) ℓ) : Prop :=
  True

def Pre_AttBackRefIdeal_finite_att [hPre_finite_att : Cert.Pre_finite_att.Facts] (m : (ℓ : Loc Cert.AttBackRefIdeal.nD Cert.AttBackRefIdeal.τ Cert.AttBackRefIdeal.sig) → Buf (Elt Ideal) ℓ) : Prop :=
  ∀ c : Dev Cert.AttBackRefIdeal.nD,
    (Cert.Pre_finite_att.fn (F := Ideal) (m ((c.tc : Thread Cert.AttBackRefIdeal.nD Cert.AttBackRefIdeal.τ).loc Cert.AttBackRefIdeal.main_arg0)) (m ((c.tc : Thread Cert.AttBackRefIdeal.nD Cert.AttBackRefIdeal.τ).loc Cert.AttBackRefIdeal.main_arg1)) (m ((c.tc : Thread Cert.AttBackRefIdeal.nD Cert.AttBackRefIdeal.τ).loc Cert.AttBackRefIdeal.main_arg2)) (m ((c.tc : Thread Cert.AttBackRefIdeal.nD Cert.AttBackRefIdeal.τ).loc Cert.AttBackRefIdeal.main_arg3)) (m ((c.tc : Thread Cert.AttBackRefIdeal.nD Cert.AttBackRefIdeal.τ).loc Cert.AttBackRefIdeal.main_arg4))) = (fun _ => 1#1)

def Pre_ParBack (m : (ℓ : Loc Cert.ParBack.nD Cert.ParBack.τ Cert.ParBack.sig) → Buf (Elt Bits) ℓ) : Prop :=
  True

def Pre_ParBackIdeal (m : (ℓ : Loc Cert.ParBackIdeal.nD Cert.ParBackIdeal.τ Cert.ParBackIdeal.sig) → Buf (Elt Ideal) ℓ) : Prop :=
  True

def Pre_ParBackIdeal_nonzero_lam [hPre_nonzero_lam : Cert.Pre_nonzero_lam.Facts] (m : (ℓ : Loc Cert.ParBackIdeal.nD Cert.ParBackIdeal.τ Cert.ParBackIdeal.sig) → Buf (Elt Ideal) ℓ) : Prop :=
  ∀ c : Dev Cert.ParBackIdeal.nD,
    (Cert.Pre_nonzero_lam.fn (F := Ideal) (m ((c.tc : Thread Cert.ParBackIdeal.nD Cert.ParBackIdeal.τ).loc Cert.ParBackIdeal.main_arg0)) (m ((c.tc : Thread Cert.ParBackIdeal.nD Cert.ParBackIdeal.τ).loc Cert.ParBackIdeal.main_arg1)) (m ((c.tc : Thread Cert.ParBackIdeal.nD Cert.ParBackIdeal.τ).loc Cert.ParBackIdeal.main_arg2)) (m ((c.tc : Thread Cert.ParBackIdeal.nD Cert.ParBackIdeal.τ).loc Cert.ParBackIdeal.main_arg3)) (m ((c.tc : Thread Cert.ParBackIdeal.nD Cert.ParBackIdeal.τ).loc Cert.ParBackIdeal.main_arg4)) (m ((c.tc : Thread Cert.ParBackIdeal.nD Cert.ParBackIdeal.τ).loc Cert.ParBackIdeal.main_arg5)) (m ((c.tc : Thread Cert.ParBackIdeal.nD Cert.ParBackIdeal.τ).loc Cert.ParBackIdeal.main_arg6)) (m ((c.tc : Thread Cert.ParBackIdeal.nD Cert.ParBackIdeal.τ).loc Cert.ParBackIdeal.main_arg7)) (m ((c.tc : Thread Cert.ParBackIdeal.nD Cert.ParBackIdeal.τ).loc Cert.ParBackIdeal.main_arg8)) (m ((c.tc : Thread Cert.ParBackIdeal.nD Cert.ParBackIdeal.τ).loc Cert.ParBackIdeal.main_arg9)) (m ((c.tc : Thread Cert.ParBackIdeal.nD Cert.ParBackIdeal.τ).loc Cert.ParBackIdeal.main_arg10))) = (fun _ => 1#1)

def Pre_ParBackRefIdeal (m : (ℓ : Loc Cert.ParBackRefIdeal.nD Cert.ParBackRefIdeal.τ Cert.ParBackRefIdeal.sig) → Buf (Elt Ideal) ℓ) : Prop :=
  True

def Pre_ParBackRefIdeal_nonzero_lam [hPre_nonzero_lam : Cert.Pre_nonzero_lam.Facts] (m : (ℓ : Loc Cert.ParBackRefIdeal.nD Cert.ParBackRefIdeal.τ Cert.ParBackRefIdeal.sig) → Buf (Elt Ideal) ℓ) : Prop :=
  ∀ c : Dev Cert.ParBackRefIdeal.nD,
    (Cert.Pre_nonzero_lam.fn (F := Ideal) (m ((c.tc : Thread Cert.ParBackRefIdeal.nD Cert.ParBackRefIdeal.τ).loc Cert.ParBackRefIdeal.main_arg0)) (m ((c.tc : Thread Cert.ParBackRefIdeal.nD Cert.ParBackRefIdeal.τ).loc Cert.ParBackRefIdeal.main_arg1)) (m ((c.tc : Thread Cert.ParBackRefIdeal.nD Cert.ParBackRefIdeal.τ).loc Cert.ParBackRefIdeal.main_arg2)) (m ((c.tc : Thread Cert.ParBackRefIdeal.nD Cert.ParBackRefIdeal.τ).loc Cert.ParBackRefIdeal.main_arg3)) (m ((c.tc : Thread Cert.ParBackRefIdeal.nD Cert.ParBackRefIdeal.τ).loc Cert.ParBackRefIdeal.main_arg4)) (m ((c.tc : Thread Cert.ParBackRefIdeal.nD Cert.ParBackRefIdeal.τ).loc Cert.ParBackRefIdeal.main_arg5)) (m ((c.tc : Thread Cert.ParBackRefIdeal.nD Cert.ParBackRefIdeal.τ).loc Cert.ParBackRefIdeal.main_arg6)) (m ((c.tc : Thread Cert.ParBackRefIdeal.nD Cert.ParBackRefIdeal.τ).loc Cert.ParBackRefIdeal.main_arg7)) (m ((c.tc : Thread Cert.ParBackRefIdeal.nD Cert.ParBackRefIdeal.τ).loc Cert.ParBackRefIdeal.main_arg8)) (m ((c.tc : Thread Cert.ParBackRefIdeal.nD Cert.ParBackRefIdeal.τ).loc Cert.ParBackRefIdeal.main_arg9)) (m ((c.tc : Thread Cert.ParBackRefIdeal.nD Cert.ParBackRefIdeal.τ).loc Cert.ParBackRefIdeal.main_arg10))) = (fun _ => 1#1)

def Pre_MixBack (m : (ℓ : Loc Cert.MixBack.nD Cert.MixBack.τ Cert.MixBack.sig) → Buf (Elt Bits) ℓ) : Prop :=
  True

def Pre_MixBackIdeal (m : (ℓ : Loc Cert.MixBackIdeal.nD Cert.MixBackIdeal.τ Cert.MixBackIdeal.sig) → Buf (Elt Ideal) ℓ) : Prop :=
  True

def Pre_MixBackIdeal_finite_mix [hPre_finite_mix : Cert.Pre_finite_mix.Facts] (m : (ℓ : Loc Cert.MixBackIdeal.nD Cert.MixBackIdeal.τ Cert.MixBackIdeal.sig) → Buf (Elt Ideal) ℓ) : Prop :=
  ∀ c : Dev Cert.MixBackIdeal.nD,
    (Cert.Pre_finite_mix.fn (F := Ideal) (m ((c.tc : Thread Cert.MixBackIdeal.nD Cert.MixBackIdeal.τ).loc Cert.MixBackIdeal.main_arg0)) (m ((c.tc : Thread Cert.MixBackIdeal.nD Cert.MixBackIdeal.τ).loc Cert.MixBackIdeal.main_arg1)) (m ((c.tc : Thread Cert.MixBackIdeal.nD Cert.MixBackIdeal.τ).loc Cert.MixBackIdeal.main_arg2)) (m ((c.tc : Thread Cert.MixBackIdeal.nD Cert.MixBackIdeal.τ).loc Cert.MixBackIdeal.main_arg3)) (m ((c.tc : Thread Cert.MixBackIdeal.nD Cert.MixBackIdeal.τ).loc Cert.MixBackIdeal.main_arg4)) (m ((c.tc : Thread Cert.MixBackIdeal.nD Cert.MixBackIdeal.τ).loc Cert.MixBackIdeal.main_arg5)) (m ((c.tc : Thread Cert.MixBackIdeal.nD Cert.MixBackIdeal.τ).loc Cert.MixBackIdeal.main_arg6)) (m ((c.tc : Thread Cert.MixBackIdeal.nD Cert.MixBackIdeal.τ).loc Cert.MixBackIdeal.main_arg7)) (m ((c.tc : Thread Cert.MixBackIdeal.nD Cert.MixBackIdeal.τ).loc Cert.MixBackIdeal.main_arg8)) (m ((c.tc : Thread Cert.MixBackIdeal.nD Cert.MixBackIdeal.τ).loc Cert.MixBackIdeal.main_arg9)) (m ((c.tc : Thread Cert.MixBackIdeal.nD Cert.MixBackIdeal.τ).loc Cert.MixBackIdeal.main_arg10)) (m ((c.tc : Thread Cert.MixBackIdeal.nD Cert.MixBackIdeal.τ).loc Cert.MixBackIdeal.main_arg11)) (m ((c.tc : Thread Cert.MixBackIdeal.nD Cert.MixBackIdeal.τ).loc Cert.MixBackIdeal.main_arg12)) (m ((c.tc : Thread Cert.MixBackIdeal.nD Cert.MixBackIdeal.τ).loc Cert.MixBackIdeal.main_arg13))) = (fun _ => 1#1)

def Pre_MixBackRefIdeal (m : (ℓ : Loc Cert.MixBackRefIdeal.nD Cert.MixBackRefIdeal.τ Cert.MixBackRefIdeal.sig) → Buf (Elt Ideal) ℓ) : Prop :=
  True

def Pre_MixBackRefIdeal_finite_mix [hPre_finite_mix : Cert.Pre_finite_mix.Facts] (m : (ℓ : Loc Cert.MixBackRefIdeal.nD Cert.MixBackRefIdeal.τ Cert.MixBackRefIdeal.sig) → Buf (Elt Ideal) ℓ) : Prop :=
  ∀ c : Dev Cert.MixBackRefIdeal.nD,
    (Cert.Pre_finite_mix.fn (F := Ideal) (m ((c.tc : Thread Cert.MixBackRefIdeal.nD Cert.MixBackRefIdeal.τ).loc Cert.MixBackRefIdeal.main_arg0)) (m ((c.tc : Thread Cert.MixBackRefIdeal.nD Cert.MixBackRefIdeal.τ).loc Cert.MixBackRefIdeal.main_arg1)) (m ((c.tc : Thread Cert.MixBackRefIdeal.nD Cert.MixBackRefIdeal.τ).loc Cert.MixBackRefIdeal.main_arg2)) (m ((c.tc : Thread Cert.MixBackRefIdeal.nD Cert.MixBackRefIdeal.τ).loc Cert.MixBackRefIdeal.main_arg3)) (m ((c.tc : Thread Cert.MixBackRefIdeal.nD Cert.MixBackRefIdeal.τ).loc Cert.MixBackRefIdeal.main_arg4)) (m ((c.tc : Thread Cert.MixBackRefIdeal.nD Cert.MixBackRefIdeal.τ).loc Cert.MixBackRefIdeal.main_arg5)) (m ((c.tc : Thread Cert.MixBackRefIdeal.nD Cert.MixBackRefIdeal.τ).loc Cert.MixBackRefIdeal.main_arg6)) (m ((c.tc : Thread Cert.MixBackRefIdeal.nD Cert.MixBackRefIdeal.τ).loc Cert.MixBackRefIdeal.main_arg7)) (m ((c.tc : Thread Cert.MixBackRefIdeal.nD Cert.MixBackRefIdeal.τ).loc Cert.MixBackRefIdeal.main_arg8)) (m ((c.tc : Thread Cert.MixBackRefIdeal.nD Cert.MixBackRefIdeal.τ).loc Cert.MixBackRefIdeal.main_arg9)) (m ((c.tc : Thread Cert.MixBackRefIdeal.nD Cert.MixBackRefIdeal.τ).loc Cert.MixBackRefIdeal.main_arg10)) (m ((c.tc : Thread Cert.MixBackRefIdeal.nD Cert.MixBackRefIdeal.τ).loc Cert.MixBackRefIdeal.main_arg11)) (m ((c.tc : Thread Cert.MixBackRefIdeal.nD Cert.MixBackRefIdeal.τ).loc Cert.MixBackRefIdeal.main_arg12)) (m ((c.tc : Thread Cert.MixBackRefIdeal.nD Cert.MixBackRefIdeal.τ).loc Cert.MixBackRefIdeal.main_arg13))) = (fun _ => 1#1)

def quiescent_InBack [hInBack : Cert.InBack.Facts] : Prop :=
  ∀ (m : (ℓ : Loc Cert.InBack.nD Cert.InBack.τ Cert.InBack.sig) → Buf (Elt Bits) ℓ) (g : Dev Cert.InBack.nD → PrngReg), Pre_InBack m →
    θ_run (Cert.InBack.defs (F := Bits)) (onTc (τ := Cert.InBack.τ) (Cert.InBack.main (F := Bits))) ⟨m, fun _ => 0, g⟩ (fun r => (∀ c : Dev Cert.InBack.nD,
      r.2.mem ((c.tc : Thread Cert.InBack.nD Cert.InBack.τ).loc Cert.InBack.main_arg0) = m ((c.tc : Thread Cert.InBack.nD Cert.InBack.τ).loc Cert.InBack.main_arg0)
      ∧ r.2.mem ((c.tc : Thread Cert.InBack.nD Cert.InBack.τ).loc Cert.InBack.main_arg1) = m ((c.tc : Thread Cert.InBack.nD Cert.InBack.τ).loc Cert.InBack.main_arg1)
      ∧ r.2.mem ((c.tc : Thread Cert.InBack.nD Cert.InBack.τ).loc Cert.InBack.main_arg2) = m ((c.tc : Thread Cert.InBack.nD Cert.InBack.τ).loc Cert.InBack.main_arg2)
      ∧ r.2.mem ((c.tc : Thread Cert.InBack.nD Cert.InBack.τ).loc Cert.InBack.main_arg3) = m ((c.tc : Thread Cert.InBack.nD Cert.InBack.τ).loc Cert.InBack.main_arg3)
      ∧ r.2.mem ((c.tc : Thread Cert.InBack.nD Cert.InBack.τ).loc Cert.InBack.main_arg4) = m ((c.tc : Thread Cert.InBack.nD Cert.InBack.τ).loc Cert.InBack.main_arg4)
      ∧ r.2.mem ((c.tc : Thread Cert.InBack.nD Cert.InBack.τ).loc Cert.InBack.main_arg5) = m ((c.tc : Thread Cert.InBack.nD Cert.InBack.τ).loc Cert.InBack.main_arg5)
      ∧ r.2.mem ((c.tc : Thread Cert.InBack.nD Cert.InBack.τ).loc Cert.InBack.main_arg6) = m ((c.tc : Thread Cert.InBack.nD Cert.InBack.τ).loc Cert.InBack.main_arg6)
      ∧ r.2.mem ((c.tc : Thread Cert.InBack.nD Cert.InBack.τ).loc Cert.InBack.main_arg7) = m ((c.tc : Thread Cert.InBack.nD Cert.InBack.τ).loc Cert.InBack.main_arg7)
      ∧ r.2.mem ((c.tc : Thread Cert.InBack.nD Cert.InBack.τ).loc Cert.InBack.main_arg8) = m ((c.tc : Thread Cert.InBack.nD Cert.InBack.τ).loc Cert.InBack.main_arg8)
      ∧ r.2.mem ((c.tc : Thread Cert.InBack.nD Cert.InBack.τ).loc Cert.InBack.main_arg9) = m ((c.tc : Thread Cert.InBack.nD Cert.InBack.τ).loc Cert.InBack.main_arg9))
      ∧ r.2.sem = fun _ => 0)

def quiescent_InBackIdeal [hInBackIdeal : Cert.InBackIdeal.Facts] : Prop :=
  ∀ (m : (ℓ : Loc Cert.InBackIdeal.nD Cert.InBackIdeal.τ Cert.InBackIdeal.sig) → Buf (Elt Ideal) ℓ) (g : Dev Cert.InBackIdeal.nD → PrngReg), Pre_InBackIdeal m →
    θ_run (Cert.InBackIdeal.defs (F := Ideal)) (onTc (τ := Cert.InBackIdeal.τ) (Cert.InBackIdeal.main (F := Ideal))) ⟨m, fun _ => 0, g⟩ (fun r => (∀ c : Dev Cert.InBackIdeal.nD,
      r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
      ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1)
      ∧ r.2.mem ((c.tc : Thread Cert.InBackIdeal.nD Cert.InBackIdeal.τ).loc Cert.InBackIdeal.main_arg2) = m ((c.tc : Thread Cert.InBackIdeal.nD Cert.InBackIdeal.τ).loc Cert.InBackIdeal.main_arg2)
      ∧ r.2.mem ((c.tc : Thread Cert.InBackIdeal.nD Cert.InBackIdeal.τ).loc Cert.InBackIdeal.main_arg3) = m ((c.tc : Thread Cert.InBackIdeal.nD Cert.InBackIdeal.τ).loc Cert.InBackIdeal.main_arg3)
      ∧ r.2.mem ((c.tc : Thread Cert.InBackIdeal.nD Cert.InBackIdeal.τ).loc Cert.InBackIdeal.main_arg4) = m ((c.tc : Thread Cert.InBackIdeal.nD Cert.InBackIdeal.τ).loc Cert.InBackIdeal.main_arg4)
      ∧ r.2.mem ((c.tc : Thread Cert.InBackIdeal.nD Cert.InBackIdeal.τ).loc Cert.InBackIdeal.main_arg5) = m ((c.tc : Thread Cert.InBackIdeal.nD Cert.InBackIdeal.τ).loc Cert.InBackIdeal.main_arg5)
      ∧ r.2.mem ((c.tc : Thread Cert.InBackIdeal.nD Cert.InBackIdeal.τ).loc Cert.InBackIdeal.main_arg6) = m ((c.tc : Thread Cert.InBackIdeal.nD Cert.InBackIdeal.τ).loc Cert.InBackIdeal.main_arg6)
      ∧ r.2.mem ((c.tc : Thread Cert.InBackIdeal.nD Cert.InBackIdeal.τ).loc Cert.InBackIdeal.main_arg7) = m ((c.tc : Thread Cert.InBackIdeal.nD Cert.InBackIdeal.τ).loc Cert.InBackIdeal.main_arg7)
      ∧ r.2.mem ((c.tc : Thread Cert.InBackIdeal.nD Cert.InBackIdeal.τ).loc Cert.InBackIdeal.main_arg8) = m ((c.tc : Thread Cert.InBackIdeal.nD Cert.InBackIdeal.τ).loc Cert.InBackIdeal.main_arg8)
      ∧ r.2.mem ((c.tc : Thread Cert.InBackIdeal.nD Cert.InBackIdeal.τ).loc Cert.InBackIdeal.main_arg9) = m ((c.tc : Thread Cert.InBackIdeal.nD Cert.InBackIdeal.τ).loc Cert.InBackIdeal.main_arg9))
      ∧ r.2.sem = fun _ => 0)

def quiescent_InBackIdeal_pre_finite_in [hInBackIdeal : Cert.InBackIdeal.Facts] [hPre_finite_in : Cert.Pre_finite_in.Facts] : Prop :=
  ∀ (m : (ℓ : Loc Cert.InBackIdeal.nD Cert.InBackIdeal.τ Cert.InBackIdeal.sig) → Buf (Elt Ideal) ℓ) (g : Dev Cert.InBackIdeal.nD → PrngReg), Pre_InBackIdeal_finite_in m →
    θ_run (Cert.InBackIdeal.defs (F := Ideal)) (onTc (τ := Cert.InBackIdeal.τ) (Cert.InBackIdeal.main (F := Ideal))) ⟨m, fun _ => 0, g⟩ (fun r => (∀ c : Dev Cert.InBackIdeal.nD,
      r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
      ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1)
      ∧ r.2.mem ((c.tc : Thread Cert.InBackIdeal.nD Cert.InBackIdeal.τ).loc Cert.InBackIdeal.main_arg2) = m ((c.tc : Thread Cert.InBackIdeal.nD Cert.InBackIdeal.τ).loc Cert.InBackIdeal.main_arg2)
      ∧ r.2.mem ((c.tc : Thread Cert.InBackIdeal.nD Cert.InBackIdeal.τ).loc Cert.InBackIdeal.main_arg3) = m ((c.tc : Thread Cert.InBackIdeal.nD Cert.InBackIdeal.τ).loc Cert.InBackIdeal.main_arg3)
      ∧ r.2.mem ((c.tc : Thread Cert.InBackIdeal.nD Cert.InBackIdeal.τ).loc Cert.InBackIdeal.main_arg4) = m ((c.tc : Thread Cert.InBackIdeal.nD Cert.InBackIdeal.τ).loc Cert.InBackIdeal.main_arg4)
      ∧ r.2.mem ((c.tc : Thread Cert.InBackIdeal.nD Cert.InBackIdeal.τ).loc Cert.InBackIdeal.main_arg5) = m ((c.tc : Thread Cert.InBackIdeal.nD Cert.InBackIdeal.τ).loc Cert.InBackIdeal.main_arg5)
      ∧ r.2.mem ((c.tc : Thread Cert.InBackIdeal.nD Cert.InBackIdeal.τ).loc Cert.InBackIdeal.main_arg6) = m ((c.tc : Thread Cert.InBackIdeal.nD Cert.InBackIdeal.τ).loc Cert.InBackIdeal.main_arg6)
      ∧ r.2.mem ((c.tc : Thread Cert.InBackIdeal.nD Cert.InBackIdeal.τ).loc Cert.InBackIdeal.main_arg7) = m ((c.tc : Thread Cert.InBackIdeal.nD Cert.InBackIdeal.τ).loc Cert.InBackIdeal.main_arg7)
      ∧ r.2.mem ((c.tc : Thread Cert.InBackIdeal.nD Cert.InBackIdeal.τ).loc Cert.InBackIdeal.main_arg8) = m ((c.tc : Thread Cert.InBackIdeal.nD Cert.InBackIdeal.τ).loc Cert.InBackIdeal.main_arg8)
      ∧ r.2.mem ((c.tc : Thread Cert.InBackIdeal.nD Cert.InBackIdeal.τ).loc Cert.InBackIdeal.main_arg9) = m ((c.tc : Thread Cert.InBackIdeal.nD Cert.InBackIdeal.τ).loc Cert.InBackIdeal.main_arg9))
      ∧ r.2.sem = fun _ => 0)

def quiescent_InBackRefIdeal [hInBackRefIdeal : Cert.InBackRefIdeal.Facts] : Prop :=
  ∀ (m : (ℓ : Loc Cert.InBackRefIdeal.nD Cert.InBackRefIdeal.τ Cert.InBackRefIdeal.sig) → Buf (Elt Ideal) ℓ) (g : Dev Cert.InBackRefIdeal.nD → PrngReg), Pre_InBackRefIdeal m →
    θ_run (Cert.InBackRefIdeal.defs (F := Ideal)) (onTc (τ := Cert.InBackRefIdeal.τ) (Cert.InBackRefIdeal.main (F := Ideal))) ⟨m, fun _ => 0, g⟩ (fun r => (∀ c : Dev Cert.InBackRefIdeal.nD,
      r.2.mem ((c.tc : Thread Cert.InBackRefIdeal.nD Cert.InBackRefIdeal.τ).loc Cert.InBackRefIdeal.main_arg0) = m ((c.tc : Thread Cert.InBackRefIdeal.nD Cert.InBackRefIdeal.τ).loc Cert.InBackRefIdeal.main_arg0)
      ∧ r.2.mem ((c.tc : Thread Cert.InBackRefIdeal.nD Cert.InBackRefIdeal.τ).loc Cert.InBackRefIdeal.main_arg1) = m ((c.tc : Thread Cert.InBackRefIdeal.nD Cert.InBackRefIdeal.τ).loc Cert.InBackRefIdeal.main_arg1)
      ∧ r.2.mem ((c.tc : Thread Cert.InBackRefIdeal.nD Cert.InBackRefIdeal.τ).loc Cert.InBackRefIdeal.main_arg2) = m ((c.tc : Thread Cert.InBackRefIdeal.nD Cert.InBackRefIdeal.τ).loc Cert.InBackRefIdeal.main_arg2)
      ∧ r.2.mem ((c.tc : Thread Cert.InBackRefIdeal.nD Cert.InBackRefIdeal.τ).loc Cert.InBackRefIdeal.main_arg3) = m ((c.tc : Thread Cert.InBackRefIdeal.nD Cert.InBackRefIdeal.τ).loc Cert.InBackRefIdeal.main_arg3)
      ∧ r.2.mem ((c.tc : Thread Cert.InBackRefIdeal.nD Cert.InBackRefIdeal.τ).loc Cert.InBackRefIdeal.main_arg4) = m ((c.tc : Thread Cert.InBackRefIdeal.nD Cert.InBackRefIdeal.τ).loc Cert.InBackRefIdeal.main_arg4)
      ∧ r.2.mem ((c.tc : Thread Cert.InBackRefIdeal.nD Cert.InBackRefIdeal.τ).loc Cert.InBackRefIdeal.main_arg5) = m ((c.tc : Thread Cert.InBackRefIdeal.nD Cert.InBackRefIdeal.τ).loc Cert.InBackRefIdeal.main_arg5)
      ∧ r.2.mem ((c.tc : Thread Cert.InBackRefIdeal.nD Cert.InBackRefIdeal.τ).loc Cert.InBackRefIdeal.main_arg6) = m ((c.tc : Thread Cert.InBackRefIdeal.nD Cert.InBackRefIdeal.τ).loc Cert.InBackRefIdeal.main_arg6)
      ∧ r.2.mem ((c.tc : Thread Cert.InBackRefIdeal.nD Cert.InBackRefIdeal.τ).loc Cert.InBackRefIdeal.main_arg7) = m ((c.tc : Thread Cert.InBackRefIdeal.nD Cert.InBackRefIdeal.τ).loc Cert.InBackRefIdeal.main_arg7)
      ∧ r.2.mem ((c.tc : Thread Cert.InBackRefIdeal.nD Cert.InBackRefIdeal.τ).loc Cert.InBackRefIdeal.main_arg8) = m ((c.tc : Thread Cert.InBackRefIdeal.nD Cert.InBackRefIdeal.τ).loc Cert.InBackRefIdeal.main_arg8)
      ∧ r.2.mem ((c.tc : Thread Cert.InBackRefIdeal.nD Cert.InBackRefIdeal.τ).loc Cert.InBackRefIdeal.main_arg9) = m ((c.tc : Thread Cert.InBackRefIdeal.nD Cert.InBackRefIdeal.τ).loc Cert.InBackRefIdeal.main_arg9))
      ∧ r.2.sem = fun _ => 0)

def quiescent_InBackRefIdeal_pre_finite_in [hInBackRefIdeal : Cert.InBackRefIdeal.Facts] [hPre_finite_in : Cert.Pre_finite_in.Facts] : Prop :=
  ∀ (m : (ℓ : Loc Cert.InBackRefIdeal.nD Cert.InBackRefIdeal.τ Cert.InBackRefIdeal.sig) → Buf (Elt Ideal) ℓ) (g : Dev Cert.InBackRefIdeal.nD → PrngReg), Pre_InBackRefIdeal_finite_in m →
    θ_run (Cert.InBackRefIdeal.defs (F := Ideal)) (onTc (τ := Cert.InBackRefIdeal.τ) (Cert.InBackRefIdeal.main (F := Ideal))) ⟨m, fun _ => 0, g⟩ (fun r => (∀ c : Dev Cert.InBackRefIdeal.nD,
      r.2.mem ((c.tc : Thread Cert.InBackRefIdeal.nD Cert.InBackRefIdeal.τ).loc Cert.InBackRefIdeal.main_arg0) = m ((c.tc : Thread Cert.InBackRefIdeal.nD Cert.InBackRefIdeal.τ).loc Cert.InBackRefIdeal.main_arg0)
      ∧ r.2.mem ((c.tc : Thread Cert.InBackRefIdeal.nD Cert.InBackRefIdeal.τ).loc Cert.InBackRefIdeal.main_arg1) = m ((c.tc : Thread Cert.InBackRefIdeal.nD Cert.InBackRefIdeal.τ).loc Cert.InBackRefIdeal.main_arg1)
      ∧ r.2.mem ((c.tc : Thread Cert.InBackRefIdeal.nD Cert.InBackRefIdeal.τ).loc Cert.InBackRefIdeal.main_arg2) = m ((c.tc : Thread Cert.InBackRefIdeal.nD Cert.InBackRefIdeal.τ).loc Cert.InBackRefIdeal.main_arg2)
      ∧ r.2.mem ((c.tc : Thread Cert.InBackRefIdeal.nD Cert.InBackRefIdeal.τ).loc Cert.InBackRefIdeal.main_arg3) = m ((c.tc : Thread Cert.InBackRefIdeal.nD Cert.InBackRefIdeal.τ).loc Cert.InBackRefIdeal.main_arg3)
      ∧ r.2.mem ((c.tc : Thread Cert.InBackRefIdeal.nD Cert.InBackRefIdeal.τ).loc Cert.InBackRefIdeal.main_arg4) = m ((c.tc : Thread Cert.InBackRefIdeal.nD Cert.InBackRefIdeal.τ).loc Cert.InBackRefIdeal.main_arg4)
      ∧ r.2.mem ((c.tc : Thread Cert.InBackRefIdeal.nD Cert.InBackRefIdeal.τ).loc Cert.InBackRefIdeal.main_arg5) = m ((c.tc : Thread Cert.InBackRefIdeal.nD Cert.InBackRefIdeal.τ).loc Cert.InBackRefIdeal.main_arg5)
      ∧ r.2.mem ((c.tc : Thread Cert.InBackRefIdeal.nD Cert.InBackRefIdeal.τ).loc Cert.InBackRefIdeal.main_arg6) = m ((c.tc : Thread Cert.InBackRefIdeal.nD Cert.InBackRefIdeal.τ).loc Cert.InBackRefIdeal.main_arg6)
      ∧ r.2.mem ((c.tc : Thread Cert.InBackRefIdeal.nD Cert.InBackRefIdeal.τ).loc Cert.InBackRefIdeal.main_arg7) = m ((c.tc : Thread Cert.InBackRefIdeal.nD Cert.InBackRefIdeal.τ).loc Cert.InBackRefIdeal.main_arg7)
      ∧ r.2.mem ((c.tc : Thread Cert.InBackRefIdeal.nD Cert.InBackRefIdeal.τ).loc Cert.InBackRefIdeal.main_arg8) = m ((c.tc : Thread Cert.InBackRefIdeal.nD Cert.InBackRefIdeal.τ).loc Cert.InBackRefIdeal.main_arg8)
      ∧ r.2.mem ((c.tc : Thread Cert.InBackRefIdeal.nD Cert.InBackRefIdeal.τ).loc Cert.InBackRefIdeal.main_arg9) = m ((c.tc : Thread Cert.InBackRefIdeal.nD Cert.InBackRefIdeal.τ).loc Cert.InBackRefIdeal.main_arg9))
      ∧ r.2.sem = fun _ => 0)

def quiescent_AttBack [hAttBack : Cert.AttBack.Facts] : Prop :=
  ∀ (m : (ℓ : Loc Cert.AttBack.nD Cert.AttBack.τ Cert.AttBack.sig) → Buf (Elt Bits) ℓ) (g : Dev Cert.AttBack.nD → PrngReg), Pre_AttBack m →
    θ_run (Cert.AttBack.defs (F := Bits)) (onTc (τ := Cert.AttBack.τ) (Cert.AttBack.main (F := Bits))) ⟨m, fun _ => 0, g⟩ (fun r => (∀ c : Dev Cert.AttBack.nD,
      r.2.mem ((c.tc : Thread Cert.AttBack.nD Cert.AttBack.τ).loc Cert.AttBack.main_arg0) = m ((c.tc : Thread Cert.AttBack.nD Cert.AttBack.τ).loc Cert.AttBack.main_arg0)
      ∧ r.2.mem ((c.tc : Thread Cert.AttBack.nD Cert.AttBack.τ).loc Cert.AttBack.main_arg1) = m ((c.tc : Thread Cert.AttBack.nD Cert.AttBack.τ).loc Cert.AttBack.main_arg1)
      ∧ r.2.mem ((c.tc : Thread Cert.AttBack.nD Cert.AttBack.τ).loc Cert.AttBack.main_arg2) = m ((c.tc : Thread Cert.AttBack.nD Cert.AttBack.τ).loc Cert.AttBack.main_arg2)
      ∧ r.2.mem ((c.tc : Thread Cert.AttBack.nD Cert.AttBack.τ).loc Cert.AttBack.main_arg3) = m ((c.tc : Thread Cert.AttBack.nD Cert.AttBack.τ).loc Cert.AttBack.main_arg3)
      ∧ r.2.mem ((c.tc : Thread Cert.AttBack.nD Cert.AttBack.τ).loc Cert.AttBack.main_arg4) = m ((c.tc : Thread Cert.AttBack.nD Cert.AttBack.τ).loc Cert.AttBack.main_arg4))
      ∧ r.2.sem = fun _ => 0)

def quiescent_AttBackIdeal [hAttBackIdeal : Cert.AttBackIdeal.Facts] : Prop :=
  ∀ (m : (ℓ : Loc Cert.AttBackIdeal.nD Cert.AttBackIdeal.τ Cert.AttBackIdeal.sig) → Buf (Elt Ideal) ℓ) (g : Dev Cert.AttBackIdeal.nD → PrngReg), Pre_AttBackIdeal m →
    θ_run (Cert.AttBackIdeal.defs (F := Ideal)) (onTc (τ := Cert.AttBackIdeal.τ) (Cert.AttBackIdeal.main (F := Ideal))) ⟨m, fun _ => 0, g⟩ (fun r => (∀ c : Dev Cert.AttBackIdeal.nD,
      r.2.mem ((c.tc : Thread Cert.AttBackIdeal.nD Cert.AttBackIdeal.τ).loc Cert.AttBackIdeal.main_arg0) = m ((c.tc : Thread Cert.AttBackIdeal.nD Cert.AttBackIdeal.τ).loc Cert.AttBackIdeal.main_arg0)
      ∧ r.2.mem ((c.tc : Thread Cert.AttBackIdeal.nD Cert.AttBackIdeal.τ).loc Cert.AttBackIdeal.main_arg1) = m ((c.tc : Thread Cert.AttBackIdeal.nD Cert.AttBackIdeal.τ).loc Cert.AttBackIdeal.main_arg1)
      ∧ r.2.mem ((c.tc : Thread Cert.AttBackIdeal.nD Cert.AttBackIdeal.τ).loc Cert.AttBackIdeal.main_arg2) = m ((c.tc : Thread Cert.AttBackIdeal.nD Cert.AttBackIdeal.τ).loc Cert.AttBackIdeal.main_arg2)
      ∧ r.2.mem ((c.tc : Thread Cert.AttBackIdeal.nD Cert.AttBackIdeal.τ).loc Cert.AttBackIdeal.main_arg3) = m ((c.tc : Thread Cert.AttBackIdeal.nD Cert.AttBackIdeal.τ).loc Cert.AttBackIdeal.main_arg3)
      ∧ r.2.mem ((c.tc : Thread Cert.AttBackIdeal.nD Cert.AttBackIdeal.τ).loc Cert.AttBackIdeal.main_arg4) = m ((c.tc : Thread Cert.AttBackIdeal.nD Cert.AttBackIdeal.τ).loc Cert.AttBackIdeal.main_arg4))
      ∧ r.2.sem = fun _ => 0)

def quiescent_AttBackIdeal_pre_finite_att [hAttBackIdeal : Cert.AttBackIdeal.Facts] [hPre_finite_att : Cert.Pre_finite_att.Facts] : Prop :=
  ∀ (m : (ℓ : Loc Cert.AttBackIdeal.nD Cert.AttBackIdeal.τ Cert.AttBackIdeal.sig) → Buf (Elt Ideal) ℓ) (g : Dev Cert.AttBackIdeal.nD → PrngReg), Pre_AttBackIdeal_finite_att m →
    θ_run (Cert.AttBackIdeal.defs (F := Ideal)) (onTc (τ := Cert.AttBackIdeal.τ) (Cert.AttBackIdeal.main (F := Ideal))) ⟨m, fun _ => 0, g⟩ (fun r => (∀ c : Dev Cert.AttBackIdeal.nD,
      r.2.mem ((c.tc : Thread Cert.AttBackIdeal.nD Cert.AttBackIdeal.τ).loc Cert.AttBackIdeal.main_arg0) = m ((c.tc : Thread Cert.AttBackIdeal.nD Cert.AttBackIdeal.τ).loc Cert.AttBackIdeal.main_arg0)
      ∧ r.2.mem ((c.tc : Thread Cert.AttBackIdeal.nD Cert.AttBackIdeal.τ).loc Cert.AttBackIdeal.main_arg1) = m ((c.tc : Thread Cert.AttBackIdeal.nD Cert.AttBackIdeal.τ).loc Cert.AttBackIdeal.main_arg1)
      ∧ r.2.mem ((c.tc : Thread Cert.AttBackIdeal.nD Cert.AttBackIdeal.τ).loc Cert.AttBackIdeal.main_arg2) = m ((c.tc : Thread Cert.AttBackIdeal.nD Cert.AttBackIdeal.τ).loc Cert.AttBackIdeal.main_arg2)
      ∧ r.2.mem ((c.tc : Thread Cert.AttBackIdeal.nD Cert.AttBackIdeal.τ).loc Cert.AttBackIdeal.main_arg3) = m ((c.tc : Thread Cert.AttBackIdeal.nD Cert.AttBackIdeal.τ).loc Cert.AttBackIdeal.main_arg3)
      ∧ r.2.mem ((c.tc : Thread Cert.AttBackIdeal.nD Cert.AttBackIdeal.τ).loc Cert.AttBackIdeal.main_arg4) = m ((c.tc : Thread Cert.AttBackIdeal.nD Cert.AttBackIdeal.τ).loc Cert.AttBackIdeal.main_arg4))
      ∧ r.2.sem = fun _ => 0)

def quiescent_AttBackRefIdeal [hAttBackRefIdeal : Cert.AttBackRefIdeal.Facts] : Prop :=
  ∀ (m : (ℓ : Loc Cert.AttBackRefIdeal.nD Cert.AttBackRefIdeal.τ Cert.AttBackRefIdeal.sig) → Buf (Elt Ideal) ℓ) (g : Dev Cert.AttBackRefIdeal.nD → PrngReg), Pre_AttBackRefIdeal m →
    θ_run (Cert.AttBackRefIdeal.defs (F := Ideal)) (onTc (τ := Cert.AttBackRefIdeal.τ) (Cert.AttBackRefIdeal.main (F := Ideal))) ⟨m, fun _ => 0, g⟩ (fun r => (∀ c : Dev Cert.AttBackRefIdeal.nD,
      r.2.mem ((c.tc : Thread Cert.AttBackRefIdeal.nD Cert.AttBackRefIdeal.τ).loc Cert.AttBackRefIdeal.main_arg0) = m ((c.tc : Thread Cert.AttBackRefIdeal.nD Cert.AttBackRefIdeal.τ).loc Cert.AttBackRefIdeal.main_arg0)
      ∧ r.2.mem ((c.tc : Thread Cert.AttBackRefIdeal.nD Cert.AttBackRefIdeal.τ).loc Cert.AttBackRefIdeal.main_arg1) = m ((c.tc : Thread Cert.AttBackRefIdeal.nD Cert.AttBackRefIdeal.τ).loc Cert.AttBackRefIdeal.main_arg1)
      ∧ r.2.mem ((c.tc : Thread Cert.AttBackRefIdeal.nD Cert.AttBackRefIdeal.τ).loc Cert.AttBackRefIdeal.main_arg2) = m ((c.tc : Thread Cert.AttBackRefIdeal.nD Cert.AttBackRefIdeal.τ).loc Cert.AttBackRefIdeal.main_arg2)
      ∧ r.2.mem ((c.tc : Thread Cert.AttBackRefIdeal.nD Cert.AttBackRefIdeal.τ).loc Cert.AttBackRefIdeal.main_arg3) = m ((c.tc : Thread Cert.AttBackRefIdeal.nD Cert.AttBackRefIdeal.τ).loc Cert.AttBackRefIdeal.main_arg3)
      ∧ r.2.mem ((c.tc : Thread Cert.AttBackRefIdeal.nD Cert.AttBackRefIdeal.τ).loc Cert.AttBackRefIdeal.main_arg4) = m ((c.tc : Thread Cert.AttBackRefIdeal.nD Cert.AttBackRefIdeal.τ).loc Cert.AttBackRefIdeal.main_arg4))
      ∧ r.2.sem = fun _ => 0)

def quiescent_AttBackRefIdeal_pre_finite_att [hAttBackRefIdeal : Cert.AttBackRefIdeal.Facts] [hPre_finite_att : Cert.Pre_finite_att.Facts] : Prop :=
  ∀ (m : (ℓ : Loc Cert.AttBackRefIdeal.nD Cert.AttBackRefIdeal.τ Cert.AttBackRefIdeal.sig) → Buf (Elt Ideal) ℓ) (g : Dev Cert.AttBackRefIdeal.nD → PrngReg), Pre_AttBackRefIdeal_finite_att m →
    θ_run (Cert.AttBackRefIdeal.defs (F := Ideal)) (onTc (τ := Cert.AttBackRefIdeal.τ) (Cert.AttBackRefIdeal.main (F := Ideal))) ⟨m, fun _ => 0, g⟩ (fun r => (∀ c : Dev Cert.AttBackRefIdeal.nD,
      r.2.mem ((c.tc : Thread Cert.AttBackRefIdeal.nD Cert.AttBackRefIdeal.τ).loc Cert.AttBackRefIdeal.main_arg0) = m ((c.tc : Thread Cert.AttBackRefIdeal.nD Cert.AttBackRefIdeal.τ).loc Cert.AttBackRefIdeal.main_arg0)
      ∧ r.2.mem ((c.tc : Thread Cert.AttBackRefIdeal.nD Cert.AttBackRefIdeal.τ).loc Cert.AttBackRefIdeal.main_arg1) = m ((c.tc : Thread Cert.AttBackRefIdeal.nD Cert.AttBackRefIdeal.τ).loc Cert.AttBackRefIdeal.main_arg1)
      ∧ r.2.mem ((c.tc : Thread Cert.AttBackRefIdeal.nD Cert.AttBackRefIdeal.τ).loc Cert.AttBackRefIdeal.main_arg2) = m ((c.tc : Thread Cert.AttBackRefIdeal.nD Cert.AttBackRefIdeal.τ).loc Cert.AttBackRefIdeal.main_arg2)
      ∧ r.2.mem ((c.tc : Thread Cert.AttBackRefIdeal.nD Cert.AttBackRefIdeal.τ).loc Cert.AttBackRefIdeal.main_arg3) = m ((c.tc : Thread Cert.AttBackRefIdeal.nD Cert.AttBackRefIdeal.τ).loc Cert.AttBackRefIdeal.main_arg3)
      ∧ r.2.mem ((c.tc : Thread Cert.AttBackRefIdeal.nD Cert.AttBackRefIdeal.τ).loc Cert.AttBackRefIdeal.main_arg4) = m ((c.tc : Thread Cert.AttBackRefIdeal.nD Cert.AttBackRefIdeal.τ).loc Cert.AttBackRefIdeal.main_arg4))
      ∧ r.2.sem = fun _ => 0)

def quiescent_ParBack [hParBack : Cert.ParBack.Facts] : Prop :=
  ∀ (m : (ℓ : Loc Cert.ParBack.nD Cert.ParBack.τ Cert.ParBack.sig) → Buf (Elt Bits) ℓ) (g : Dev Cert.ParBack.nD → PrngReg), Pre_ParBack m →
    θ_run (Cert.ParBack.defs (F := Bits)) (onTc (τ := Cert.ParBack.τ) (Cert.ParBack.main (F := Bits))) ⟨m, fun _ => 0, g⟩ (fun r => (∀ c : Dev Cert.ParBack.nD,
      r.2.mem ((c.tc : Thread Cert.ParBack.nD Cert.ParBack.τ).loc Cert.ParBack.main_arg0) = m ((c.tc : Thread Cert.ParBack.nD Cert.ParBack.τ).loc Cert.ParBack.main_arg0)
      ∧ r.2.mem ((c.tc : Thread Cert.ParBack.nD Cert.ParBack.τ).loc Cert.ParBack.main_arg1) = m ((c.tc : Thread Cert.ParBack.nD Cert.ParBack.τ).loc Cert.ParBack.main_arg1)
      ∧ r.2.mem ((c.tc : Thread Cert.ParBack.nD Cert.ParBack.τ).loc Cert.ParBack.main_arg2) = m ((c.tc : Thread Cert.ParBack.nD Cert.ParBack.τ).loc Cert.ParBack.main_arg2)
      ∧ r.2.mem ((c.tc : Thread Cert.ParBack.nD Cert.ParBack.τ).loc Cert.ParBack.main_arg3) = m ((c.tc : Thread Cert.ParBack.nD Cert.ParBack.τ).loc Cert.ParBack.main_arg3)
      ∧ r.2.mem ((c.tc : Thread Cert.ParBack.nD Cert.ParBack.τ).loc Cert.ParBack.main_arg4) = m ((c.tc : Thread Cert.ParBack.nD Cert.ParBack.τ).loc Cert.ParBack.main_arg4)
      ∧ r.2.mem ((c.tc : Thread Cert.ParBack.nD Cert.ParBack.τ).loc Cert.ParBack.main_arg5) = m ((c.tc : Thread Cert.ParBack.nD Cert.ParBack.τ).loc Cert.ParBack.main_arg5)
      ∧ r.2.mem ((c.tc : Thread Cert.ParBack.nD Cert.ParBack.τ).loc Cert.ParBack.main_arg6) = m ((c.tc : Thread Cert.ParBack.nD Cert.ParBack.τ).loc Cert.ParBack.main_arg6)
      ∧ r.2.mem ((c.tc : Thread Cert.ParBack.nD Cert.ParBack.τ).loc Cert.ParBack.main_arg7) = m ((c.tc : Thread Cert.ParBack.nD Cert.ParBack.τ).loc Cert.ParBack.main_arg7)
      ∧ r.2.mem ((c.tc : Thread Cert.ParBack.nD Cert.ParBack.τ).loc Cert.ParBack.main_arg8) = m ((c.tc : Thread Cert.ParBack.nD Cert.ParBack.τ).loc Cert.ParBack.main_arg8)
      ∧ r.2.mem ((c.tc : Thread Cert.ParBack.nD Cert.ParBack.τ).loc Cert.ParBack.main_arg9) = m ((c.tc : Thread Cert.ParBack.nD Cert.ParBack.τ).loc Cert.ParBack.main_arg9)
      ∧ r.2.mem ((c.tc : Thread Cert.ParBack.nD Cert.ParBack.τ).loc Cert.ParBack.main_arg10) = m ((c.tc : Thread Cert.ParBack.nD Cert.ParBack.τ).loc Cert.ParBack.main_arg10))
      ∧ r.2.sem = fun _ => 0)

def quiescent_ParBackIdeal [hParBackIdeal : Cert.ParBackIdeal.Facts] : Prop :=
  ∀ (m : (ℓ : Loc Cert.ParBackIdeal.nD Cert.ParBackIdeal.τ Cert.ParBackIdeal.sig) → Buf (Elt Ideal) ℓ) (g : Dev Cert.ParBackIdeal.nD → PrngReg), Pre_ParBackIdeal m →
    θ_run (Cert.ParBackIdeal.defs (F := Ideal)) (onTc (τ := Cert.ParBackIdeal.τ) (Cert.ParBackIdeal.main (F := Ideal))) ⟨m, fun _ => 0, g⟩ (fun r => (∀ c : Dev Cert.ParBackIdeal.nD,
      r.2.mem ((c.tc : Thread Cert.ParBackIdeal.nD Cert.ParBackIdeal.τ).loc Cert.ParBackIdeal.main_arg0) = m ((c.tc : Thread Cert.ParBackIdeal.nD Cert.ParBackIdeal.τ).loc Cert.ParBackIdeal.main_arg0)
      ∧ r.2.mem ((c.tc : Thread Cert.ParBackIdeal.nD Cert.ParBackIdeal.τ).loc Cert.ParBackIdeal.main_arg1) = m ((c.tc : Thread Cert.ParBackIdeal.nD Cert.ParBackIdeal.τ).loc Cert.ParBackIdeal.main_arg1)
      ∧ r.2.mem ((c.tc : Thread Cert.ParBackIdeal.nD Cert.ParBackIdeal.τ).loc Cert.ParBackIdeal.main_arg2) = m ((c.tc : Thread Cert.ParBackIdeal.nD Cert.ParBackIdeal.τ).loc Cert.ParBackIdeal.main_arg2)
      ∧ r.2.mem ((c.tc : Thread Cert.ParBackIdeal.nD Cert.ParBackIdeal.τ).loc Cert.ParBackIdeal.main_arg3) = m ((c.tc : Thread Cert.ParBackIdeal.nD Cert.ParBackIdeal.τ).loc Cert.ParBackIdeal.main_arg3)
      ∧ r.2.mem ((c.tc : Thread Cert.ParBackIdeal.nD Cert.ParBackIdeal.τ).loc Cert.ParBackIdeal.main_arg4) = m ((c.tc : Thread Cert.ParBackIdeal.nD Cert.ParBackIdeal.τ).loc Cert.ParBackIdeal.main_arg4)
      ∧ r.2.mem ((c.tc : Thread Cert.ParBackIdeal.nD Cert.ParBackIdeal.τ).loc Cert.ParBackIdeal.main_arg5) = m ((c.tc : Thread Cert.ParBackIdeal.nD Cert.ParBackIdeal.τ).loc Cert.ParBackIdeal.main_arg5)
      ∧ r.2.mem ((c.tc : Thread Cert.ParBackIdeal.nD Cert.ParBackIdeal.τ).loc Cert.ParBackIdeal.main_arg6) = m ((c.tc : Thread Cert.ParBackIdeal.nD Cert.ParBackIdeal.τ).loc Cert.ParBackIdeal.main_arg6)
      ∧ r.2.mem ((c.tc : Thread Cert.ParBackIdeal.nD Cert.ParBackIdeal.τ).loc Cert.ParBackIdeal.main_arg7) = m ((c.tc : Thread Cert.ParBackIdeal.nD Cert.ParBackIdeal.τ).loc Cert.ParBackIdeal.main_arg7)
      ∧ r.2.mem ((c.tc : Thread Cert.ParBackIdeal.nD Cert.ParBackIdeal.τ).loc Cert.ParBackIdeal.main_arg8) = m ((c.tc : Thread Cert.ParBackIdeal.nD Cert.ParBackIdeal.τ).loc Cert.ParBackIdeal.main_arg8)
      ∧ r.2.mem ((c.tc : Thread Cert.ParBackIdeal.nD Cert.ParBackIdeal.τ).loc Cert.ParBackIdeal.main_arg9) = m ((c.tc : Thread Cert.ParBackIdeal.nD Cert.ParBackIdeal.τ).loc Cert.ParBackIdeal.main_arg9)
      ∧ r.2.mem ((c.tc : Thread Cert.ParBackIdeal.nD Cert.ParBackIdeal.τ).loc Cert.ParBackIdeal.main_arg10) = m ((c.tc : Thread Cert.ParBackIdeal.nD Cert.ParBackIdeal.τ).loc Cert.ParBackIdeal.main_arg10))
      ∧ r.2.sem = fun _ => 0)

def quiescent_ParBackIdeal_pre_nonzero_lam [hParBackIdeal : Cert.ParBackIdeal.Facts] [hPre_nonzero_lam : Cert.Pre_nonzero_lam.Facts] : Prop :=
  ∀ (m : (ℓ : Loc Cert.ParBackIdeal.nD Cert.ParBackIdeal.τ Cert.ParBackIdeal.sig) → Buf (Elt Ideal) ℓ) (g : Dev Cert.ParBackIdeal.nD → PrngReg), Pre_ParBackIdeal_nonzero_lam m →
    θ_run (Cert.ParBackIdeal.defs (F := Ideal)) (onTc (τ := Cert.ParBackIdeal.τ) (Cert.ParBackIdeal.main (F := Ideal))) ⟨m, fun _ => 0, g⟩ (fun r => (∀ c : Dev Cert.ParBackIdeal.nD,
      r.2.mem ((c.tc : Thread Cert.ParBackIdeal.nD Cert.ParBackIdeal.τ).loc Cert.ParBackIdeal.main_arg0) = m ((c.tc : Thread Cert.ParBackIdeal.nD Cert.ParBackIdeal.τ).loc Cert.ParBackIdeal.main_arg0)
      ∧ r.2.mem ((c.tc : Thread Cert.ParBackIdeal.nD Cert.ParBackIdeal.τ).loc Cert.ParBackIdeal.main_arg1) = m ((c.tc : Thread Cert.ParBackIdeal.nD Cert.ParBackIdeal.τ).loc Cert.ParBackIdeal.main_arg1)
      ∧ r.2.mem ((c.tc : Thread Cert.ParBackIdeal.nD Cert.ParBackIdeal.τ).loc Cert.ParBackIdeal.main_arg2) = m ((c.tc : Thread Cert.ParBackIdeal.nD Cert.ParBackIdeal.τ).loc Cert.ParBackIdeal.main_arg2)
      ∧ r.2.mem ((c.tc : Thread Cert.ParBackIdeal.nD Cert.ParBackIdeal.τ).loc Cert.ParBackIdeal.main_arg3) = m ((c.tc : Thread Cert.ParBackIdeal.nD Cert.ParBackIdeal.τ).loc Cert.ParBackIdeal.main_arg3)
      ∧ r.2.mem ((c.tc : Thread Cert.ParBackIdeal.nD Cert.ParBackIdeal.τ).loc Cert.ParBackIdeal.main_arg4) = m ((c.tc : Thread Cert.ParBackIdeal.nD Cert.ParBackIdeal.τ).loc Cert.ParBackIdeal.main_arg4)
      ∧ r.2.mem ((c.tc : Thread Cert.ParBackIdeal.nD Cert.ParBackIdeal.τ).loc Cert.ParBackIdeal.main_arg5) = m ((c.tc : Thread Cert.ParBackIdeal.nD Cert.ParBackIdeal.τ).loc Cert.ParBackIdeal.main_arg5)
      ∧ r.2.mem ((c.tc : Thread Cert.ParBackIdeal.nD Cert.ParBackIdeal.τ).loc Cert.ParBackIdeal.main_arg6) = m ((c.tc : Thread Cert.ParBackIdeal.nD Cert.ParBackIdeal.τ).loc Cert.ParBackIdeal.main_arg6)
      ∧ r.2.mem ((c.tc : Thread Cert.ParBackIdeal.nD Cert.ParBackIdeal.τ).loc Cert.ParBackIdeal.main_arg7) = m ((c.tc : Thread Cert.ParBackIdeal.nD Cert.ParBackIdeal.τ).loc Cert.ParBackIdeal.main_arg7)
      ∧ r.2.mem ((c.tc : Thread Cert.ParBackIdeal.nD Cert.ParBackIdeal.τ).loc Cert.ParBackIdeal.main_arg8) = m ((c.tc : Thread Cert.ParBackIdeal.nD Cert.ParBackIdeal.τ).loc Cert.ParBackIdeal.main_arg8)
      ∧ r.2.mem ((c.tc : Thread Cert.ParBackIdeal.nD Cert.ParBackIdeal.τ).loc Cert.ParBackIdeal.main_arg9) = m ((c.tc : Thread Cert.ParBackIdeal.nD Cert.ParBackIdeal.τ).loc Cert.ParBackIdeal.main_arg9)
      ∧ r.2.mem ((c.tc : Thread Cert.ParBackIdeal.nD Cert.ParBackIdeal.τ).loc Cert.ParBackIdeal.main_arg10) = m ((c.tc : Thread Cert.ParBackIdeal.nD Cert.ParBackIdeal.τ).loc Cert.ParBackIdeal.main_arg10))
      ∧ r.2.sem = fun _ => 0)

def quiescent_ParBackRefIdeal [hParBackRefIdeal : Cert.ParBackRefIdeal.Facts] : Prop :=
  ∀ (m : (ℓ : Loc Cert.ParBackRefIdeal.nD Cert.ParBackRefIdeal.τ Cert.ParBackRefIdeal.sig) → Buf (Elt Ideal) ℓ) (g : Dev Cert.ParBackRefIdeal.nD → PrngReg), Pre_ParBackRefIdeal m →
    θ_run (Cert.ParBackRefIdeal.defs (F := Ideal)) (onTc (τ := Cert.ParBackRefIdeal.τ) (Cert.ParBackRefIdeal.main (F := Ideal))) ⟨m, fun _ => 0, g⟩ (fun r => (∀ c : Dev Cert.ParBackRefIdeal.nD,
      r.2.mem ((c.tc : Thread Cert.ParBackRefIdeal.nD Cert.ParBackRefIdeal.τ).loc Cert.ParBackRefIdeal.main_arg0) = m ((c.tc : Thread Cert.ParBackRefIdeal.nD Cert.ParBackRefIdeal.τ).loc Cert.ParBackRefIdeal.main_arg0)
      ∧ r.2.mem ((c.tc : Thread Cert.ParBackRefIdeal.nD Cert.ParBackRefIdeal.τ).loc Cert.ParBackRefIdeal.main_arg1) = m ((c.tc : Thread Cert.ParBackRefIdeal.nD Cert.ParBackRefIdeal.τ).loc Cert.ParBackRefIdeal.main_arg1)
      ∧ r.2.mem ((c.tc : Thread Cert.ParBackRefIdeal.nD Cert.ParBackRefIdeal.τ).loc Cert.ParBackRefIdeal.main_arg2) = m ((c.tc : Thread Cert.ParBackRefIdeal.nD Cert.ParBackRefIdeal.τ).loc Cert.ParBackRefIdeal.main_arg2)
      ∧ r.2.mem ((c.tc : Thread Cert.ParBackRefIdeal.nD Cert.ParBackRefIdeal.τ).loc Cert.ParBackRefIdeal.main_arg3) = m ((c.tc : Thread Cert.ParBackRefIdeal.nD Cert.ParBackRefIdeal.τ).loc Cert.ParBackRefIdeal.main_arg3)
      ∧ r.2.mem ((c.tc : Thread Cert.ParBackRefIdeal.nD Cert.ParBackRefIdeal.τ).loc Cert.ParBackRefIdeal.main_arg4) = m ((c.tc : Thread Cert.ParBackRefIdeal.nD Cert.ParBackRefIdeal.τ).loc Cert.ParBackRefIdeal.main_arg4)
      ∧ r.2.mem ((c.tc : Thread Cert.ParBackRefIdeal.nD Cert.ParBackRefIdeal.τ).loc Cert.ParBackRefIdeal.main_arg5) = m ((c.tc : Thread Cert.ParBackRefIdeal.nD Cert.ParBackRefIdeal.τ).loc Cert.ParBackRefIdeal.main_arg5)
      ∧ r.2.mem ((c.tc : Thread Cert.ParBackRefIdeal.nD Cert.ParBackRefIdeal.τ).loc Cert.ParBackRefIdeal.main_arg6) = m ((c.tc : Thread Cert.ParBackRefIdeal.nD Cert.ParBackRefIdeal.τ).loc Cert.ParBackRefIdeal.main_arg6)
      ∧ r.2.mem ((c.tc : Thread Cert.ParBackRefIdeal.nD Cert.ParBackRefIdeal.τ).loc Cert.ParBackRefIdeal.main_arg7) = m ((c.tc : Thread Cert.ParBackRefIdeal.nD Cert.ParBackRefIdeal.τ).loc Cert.ParBackRefIdeal.main_arg7)
      ∧ r.2.mem ((c.tc : Thread Cert.ParBackRefIdeal.nD Cert.ParBackRefIdeal.τ).loc Cert.ParBackRefIdeal.main_arg8) = m ((c.tc : Thread Cert.ParBackRefIdeal.nD Cert.ParBackRefIdeal.τ).loc Cert.ParBackRefIdeal.main_arg8)
      ∧ r.2.mem ((c.tc : Thread Cert.ParBackRefIdeal.nD Cert.ParBackRefIdeal.τ).loc Cert.ParBackRefIdeal.main_arg9) = m ((c.tc : Thread Cert.ParBackRefIdeal.nD Cert.ParBackRefIdeal.τ).loc Cert.ParBackRefIdeal.main_arg9)
      ∧ r.2.mem ((c.tc : Thread Cert.ParBackRefIdeal.nD Cert.ParBackRefIdeal.τ).loc Cert.ParBackRefIdeal.main_arg10) = m ((c.tc : Thread Cert.ParBackRefIdeal.nD Cert.ParBackRefIdeal.τ).loc Cert.ParBackRefIdeal.main_arg10))
      ∧ r.2.sem = fun _ => 0)

def quiescent_ParBackRefIdeal_pre_nonzero_lam [hParBackRefIdeal : Cert.ParBackRefIdeal.Facts] [hPre_nonzero_lam : Cert.Pre_nonzero_lam.Facts] : Prop :=
  ∀ (m : (ℓ : Loc Cert.ParBackRefIdeal.nD Cert.ParBackRefIdeal.τ Cert.ParBackRefIdeal.sig) → Buf (Elt Ideal) ℓ) (g : Dev Cert.ParBackRefIdeal.nD → PrngReg), Pre_ParBackRefIdeal_nonzero_lam m →
    θ_run (Cert.ParBackRefIdeal.defs (F := Ideal)) (onTc (τ := Cert.ParBackRefIdeal.τ) (Cert.ParBackRefIdeal.main (F := Ideal))) ⟨m, fun _ => 0, g⟩ (fun r => (∀ c : Dev Cert.ParBackRefIdeal.nD,
      r.2.mem ((c.tc : Thread Cert.ParBackRefIdeal.nD Cert.ParBackRefIdeal.τ).loc Cert.ParBackRefIdeal.main_arg0) = m ((c.tc : Thread Cert.ParBackRefIdeal.nD Cert.ParBackRefIdeal.τ).loc Cert.ParBackRefIdeal.main_arg0)
      ∧ r.2.mem ((c.tc : Thread Cert.ParBackRefIdeal.nD Cert.ParBackRefIdeal.τ).loc Cert.ParBackRefIdeal.main_arg1) = m ((c.tc : Thread Cert.ParBackRefIdeal.nD Cert.ParBackRefIdeal.τ).loc Cert.ParBackRefIdeal.main_arg1)
      ∧ r.2.mem ((c.tc : Thread Cert.ParBackRefIdeal.nD Cert.ParBackRefIdeal.τ).loc Cert.ParBackRefIdeal.main_arg2) = m ((c.tc : Thread Cert.ParBackRefIdeal.nD Cert.ParBackRefIdeal.τ).loc Cert.ParBackRefIdeal.main_arg2)
      ∧ r.2.mem ((c.tc : Thread Cert.ParBackRefIdeal.nD Cert.ParBackRefIdeal.τ).loc Cert.ParBackRefIdeal.main_arg3) = m ((c.tc : Thread Cert.ParBackRefIdeal.nD Cert.ParBackRefIdeal.τ).loc Cert.ParBackRefIdeal.main_arg3)
      ∧ r.2.mem ((c.tc : Thread Cert.ParBackRefIdeal.nD Cert.ParBackRefIdeal.τ).loc Cert.ParBackRefIdeal.main_arg4) = m ((c.tc : Thread Cert.ParBackRefIdeal.nD Cert.ParBackRefIdeal.τ).loc Cert.ParBackRefIdeal.main_arg4)
      ∧ r.2.mem ((c.tc : Thread Cert.ParBackRefIdeal.nD Cert.ParBackRefIdeal.τ).loc Cert.ParBackRefIdeal.main_arg5) = m ((c.tc : Thread Cert.ParBackRefIdeal.nD Cert.ParBackRefIdeal.τ).loc Cert.ParBackRefIdeal.main_arg5)
      ∧ r.2.mem ((c.tc : Thread Cert.ParBackRefIdeal.nD Cert.ParBackRefIdeal.τ).loc Cert.ParBackRefIdeal.main_arg6) = m ((c.tc : Thread Cert.ParBackRefIdeal.nD Cert.ParBackRefIdeal.τ).loc Cert.ParBackRefIdeal.main_arg6)
      ∧ r.2.mem ((c.tc : Thread Cert.ParBackRefIdeal.nD Cert.ParBackRefIdeal.τ).loc Cert.ParBackRefIdeal.main_arg7) = m ((c.tc : Thread Cert.ParBackRefIdeal.nD Cert.ParBackRefIdeal.τ).loc Cert.ParBackRefIdeal.main_arg7)
      ∧ r.2.mem ((c.tc : Thread Cert.ParBackRefIdeal.nD Cert.ParBackRefIdeal.τ).loc Cert.ParBackRefIdeal.main_arg8) = m ((c.tc : Thread Cert.ParBackRefIdeal.nD Cert.ParBackRefIdeal.τ).loc Cert.ParBackRefIdeal.main_arg8)
      ∧ r.2.mem ((c.tc : Thread Cert.ParBackRefIdeal.nD Cert.ParBackRefIdeal.τ).loc Cert.ParBackRefIdeal.main_arg9) = m ((c.tc : Thread Cert.ParBackRefIdeal.nD Cert.ParBackRefIdeal.τ).loc Cert.ParBackRefIdeal.main_arg9)
      ∧ r.2.mem ((c.tc : Thread Cert.ParBackRefIdeal.nD Cert.ParBackRefIdeal.τ).loc Cert.ParBackRefIdeal.main_arg10) = m ((c.tc : Thread Cert.ParBackRefIdeal.nD Cert.ParBackRefIdeal.τ).loc Cert.ParBackRefIdeal.main_arg10))
      ∧ r.2.sem = fun _ => 0)

def quiescent_MixBack [hMixBack : Cert.MixBack.Facts] : Prop :=
  ∀ (m : (ℓ : Loc Cert.MixBack.nD Cert.MixBack.τ Cert.MixBack.sig) → Buf (Elt Bits) ℓ) (g : Dev Cert.MixBack.nD → PrngReg), Pre_MixBack m →
    θ_run (Cert.MixBack.defs (F := Bits)) (onTc (τ := Cert.MixBack.τ) (Cert.MixBack.main (F := Bits))) ⟨m, fun _ => 0, g⟩ (fun r => (∀ c : Dev Cert.MixBack.nD,
      r.2.mem ((c.tc : Thread Cert.MixBack.nD Cert.MixBack.τ).loc Cert.MixBack.main_arg0) = m ((c.tc : Thread Cert.MixBack.nD Cert.MixBack.τ).loc Cert.MixBack.main_arg0)
      ∧ r.2.mem ((c.tc : Thread Cert.MixBack.nD Cert.MixBack.τ).loc Cert.MixBack.main_arg1) = m ((c.tc : Thread Cert.MixBack.nD Cert.MixBack.τ).loc Cert.MixBack.main_arg1)
      ∧ r.2.mem ((c.tc : Thread Cert.MixBack.nD Cert.MixBack.τ).loc Cert.MixBack.main_arg2) = m ((c.tc : Thread Cert.MixBack.nD Cert.MixBack.τ).loc Cert.MixBack.main_arg2)
      ∧ r.2.mem ((c.tc : Thread Cert.MixBack.nD Cert.MixBack.τ).loc Cert.MixBack.main_arg3) = m ((c.tc : Thread Cert.MixBack.nD Cert.MixBack.τ).loc Cert.MixBack.main_arg3)
      ∧ r.2.mem ((c.tc : Thread Cert.MixBack.nD Cert.MixBack.τ).loc Cert.MixBack.main_arg4) = m ((c.tc : Thread Cert.MixBack.nD Cert.MixBack.τ).loc Cert.MixBack.main_arg4)
      ∧ r.2.mem ((c.tc : Thread Cert.MixBack.nD Cert.MixBack.τ).loc Cert.MixBack.main_arg5) = m ((c.tc : Thread Cert.MixBack.nD Cert.MixBack.τ).loc Cert.MixBack.main_arg5)
      ∧ r.2.mem ((c.tc : Thread Cert.MixBack.nD Cert.MixBack.τ).loc Cert.MixBack.main_arg6) = m ((c.tc : Thread Cert.MixBack.nD Cert.MixBack.τ).loc Cert.MixBack.main_arg6)
      ∧ r.2.mem ((c.tc : Thread Cert.MixBack.nD Cert.MixBack.τ).loc Cert.MixBack.main_arg7) = m ((c.tc : Thread Cert.MixBack.nD Cert.MixBack.τ).loc Cert.MixBack.main_arg7)
      ∧ r.2.mem ((c.tc : Thread Cert.MixBack.nD Cert.MixBack.τ).loc Cert.MixBack.main_arg8) = m ((c.tc : Thread Cert.MixBack.nD Cert.MixBack.τ).loc Cert.MixBack.main_arg8)
      ∧ r.2.mem ((c.tc : Thread Cert.MixBack.nD Cert.MixBack.τ).loc Cert.MixBack.main_arg9) = m ((c.tc : Thread Cert.MixBack.nD Cert.MixBack.τ).loc Cert.MixBack.main_arg9)
      ∧ r.2.mem ((c.tc : Thread Cert.MixBack.nD Cert.MixBack.τ).loc Cert.MixBack.main_arg10) = m ((c.tc : Thread Cert.MixBack.nD Cert.MixBack.τ).loc Cert.MixBack.main_arg10)
      ∧ r.2.mem ((c.tc : Thread Cert.MixBack.nD Cert.MixBack.τ).loc Cert.MixBack.main_arg11) = m ((c.tc : Thread Cert.MixBack.nD Cert.MixBack.τ).loc Cert.MixBack.main_arg11)
      ∧ r.2.mem ((c.tc : Thread Cert.MixBack.nD Cert.MixBack.τ).loc Cert.MixBack.main_arg12) = m ((c.tc : Thread Cert.MixBack.nD Cert.MixBack.τ).loc Cert.MixBack.main_arg12)
      ∧ r.2.mem ((c.tc : Thread Cert.MixBack.nD Cert.MixBack.τ).loc Cert.MixBack.main_arg13) = m ((c.tc : Thread Cert.MixBack.nD Cert.MixBack.τ).loc Cert.MixBack.main_arg13))
      ∧ r.2.sem = fun _ => 0)

def quiescent_MixBackIdeal [hMixBackIdeal : Cert.MixBackIdeal.Facts] : Prop :=
  ∀ (m : (ℓ : Loc Cert.MixBackIdeal.nD Cert.MixBackIdeal.τ Cert.MixBackIdeal.sig) → Buf (Elt Ideal) ℓ) (g : Dev Cert.MixBackIdeal.nD → PrngReg), Pre_MixBackIdeal m →
    θ_run (Cert.MixBackIdeal.defs (F := Ideal)) (onTc (τ := Cert.MixBackIdeal.τ) (Cert.MixBackIdeal.main (F := Ideal))) ⟨m, fun _ => 0, g⟩ (fun r => (∀ c : Dev Cert.MixBackIdeal.nD,
      r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
      ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
      ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
      ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
      ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4)
      ∧ r.2.mem ((c.tc : Thread Cert.MixBackIdeal.nD Cert.MixBackIdeal.τ).loc Cert.MixBackIdeal.main_arg5) = m ((c.tc : Thread Cert.MixBackIdeal.nD Cert.MixBackIdeal.τ).loc Cert.MixBackIdeal.main_arg5)
      ∧ r.2.mem ((c.tc : Thread Cert.MixBackIdeal.nD Cert.MixBackIdeal.τ).loc Cert.MixBackIdeal.main_arg6) = m ((c.tc : Thread Cert.MixBackIdeal.nD Cert.MixBackIdeal.τ).loc Cert.MixBackIdeal.main_arg6)
      ∧ r.2.mem ((c.tc : Thread Cert.MixBackIdeal.nD Cert.MixBackIdeal.τ).loc Cert.MixBackIdeal.main_arg7) = m ((c.tc : Thread Cert.MixBackIdeal.nD Cert.MixBackIdeal.τ).loc Cert.MixBackIdeal.main_arg7)
      ∧ r.2.mem ((c.tc : Thread Cert.MixBackIdeal.nD Cert.MixBackIdeal.τ).loc Cert.MixBackIdeal.main_arg8) = m ((c.tc : Thread Cert.MixBackIdeal.nD Cert.MixBackIdeal.τ).loc Cert.MixBackIdeal.main_arg8)
      ∧ r.2.mem ((c.tc : Thread Cert.MixBackIdeal.nD Cert.MixBackIdeal.τ).loc Cert.MixBackIdeal.main_arg9) = m ((c.tc : Thread Cert.MixBackIdeal.nD Cert.MixBackIdeal.τ).loc Cert.MixBackIdeal.main_arg9)
      ∧ r.2.mem ((c.tc : Thread Cert.MixBackIdeal.nD Cert.MixBackIdeal.τ).loc Cert.MixBackIdeal.main_arg10) = m ((c.tc : Thread Cert.MixBackIdeal.nD Cert.MixBackIdeal.τ).loc Cert.MixBackIdeal.main_arg10)
      ∧ r.2.mem ((c.tc : Thread Cert.MixBackIdeal.nD Cert.MixBackIdeal.τ).loc Cert.MixBackIdeal.main_arg11) = m ((c.tc : Thread Cert.MixBackIdeal.nD Cert.MixBackIdeal.τ).loc Cert.MixBackIdeal.main_arg11)
      ∧ r.2.mem ((c.tc : Thread Cert.MixBackIdeal.nD Cert.MixBackIdeal.τ).loc Cert.MixBackIdeal.main_arg12) = m ((c.tc : Thread Cert.MixBackIdeal.nD Cert.MixBackIdeal.τ).loc Cert.MixBackIdeal.main_arg12)
      ∧ r.2.mem ((c.tc : Thread Cert.MixBackIdeal.nD Cert.MixBackIdeal.τ).loc Cert.MixBackIdeal.main_arg13) = m ((c.tc : Thread Cert.MixBackIdeal.nD Cert.MixBackIdeal.τ).loc Cert.MixBackIdeal.main_arg13))
      ∧ r.2.sem = fun _ => 0)

def quiescent_MixBackIdeal_pre_finite_mix [hMixBackIdeal : Cert.MixBackIdeal.Facts] [hPre_finite_mix : Cert.Pre_finite_mix.Facts] : Prop :=
  ∀ (m : (ℓ : Loc Cert.MixBackIdeal.nD Cert.MixBackIdeal.τ Cert.MixBackIdeal.sig) → Buf (Elt Ideal) ℓ) (g : Dev Cert.MixBackIdeal.nD → PrngReg), Pre_MixBackIdeal_finite_mix m →
    θ_run (Cert.MixBackIdeal.defs (F := Ideal)) (onTc (τ := Cert.MixBackIdeal.τ) (Cert.MixBackIdeal.main (F := Ideal))) ⟨m, fun _ => 0, g⟩ (fun r => (∀ c : Dev Cert.MixBackIdeal.nD,
      r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
      ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
      ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
      ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
      ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4)
      ∧ r.2.mem ((c.tc : Thread Cert.MixBackIdeal.nD Cert.MixBackIdeal.τ).loc Cert.MixBackIdeal.main_arg5) = m ((c.tc : Thread Cert.MixBackIdeal.nD Cert.MixBackIdeal.τ).loc Cert.MixBackIdeal.main_arg5)
      ∧ r.2.mem ((c.tc : Thread Cert.MixBackIdeal.nD Cert.MixBackIdeal.τ).loc Cert.MixBackIdeal.main_arg6) = m ((c.tc : Thread Cert.MixBackIdeal.nD Cert.MixBackIdeal.τ).loc Cert.MixBackIdeal.main_arg6)
      ∧ r.2.mem ((c.tc : Thread Cert.MixBackIdeal.nD Cert.MixBackIdeal.τ).loc Cert.MixBackIdeal.main_arg7) = m ((c.tc : Thread Cert.MixBackIdeal.nD Cert.MixBackIdeal.τ).loc Cert.MixBackIdeal.main_arg7)
      ∧ r.2.mem ((c.tc : Thread Cert.MixBackIdeal.nD Cert.MixBackIdeal.τ).loc Cert.MixBackIdeal.main_arg8) = m ((c.tc : Thread Cert.MixBackIdeal.nD Cert.MixBackIdeal.τ).loc Cert.MixBackIdeal.main_arg8)
      ∧ r.2.mem ((c.tc : Thread Cert.MixBackIdeal.nD Cert.MixBackIdeal.τ).loc Cert.MixBackIdeal.main_arg9) = m ((c.tc : Thread Cert.MixBackIdeal.nD Cert.MixBackIdeal.τ).loc Cert.MixBackIdeal.main_arg9)
      ∧ r.2.mem ((c.tc : Thread Cert.MixBackIdeal.nD Cert.MixBackIdeal.τ).loc Cert.MixBackIdeal.main_arg10) = m ((c.tc : Thread Cert.MixBackIdeal.nD Cert.MixBackIdeal.τ).loc Cert.MixBackIdeal.main_arg10)
      ∧ r.2.mem ((c.tc : Thread Cert.MixBackIdeal.nD Cert.MixBackIdeal.τ).loc Cert.MixBackIdeal.main_arg11) = m ((c.tc : Thread Cert.MixBackIdeal.nD Cert.MixBackIdeal.τ).loc Cert.MixBackIdeal.main_arg11)
      ∧ r.2.mem ((c.tc : Thread Cert.MixBackIdeal.nD Cert.MixBackIdeal.τ).loc Cert.MixBackIdeal.main_arg12) = m ((c.tc : Thread Cert.MixBackIdeal.nD Cert.MixBackIdeal.τ).loc Cert.MixBackIdeal.main_arg12)
      ∧ r.2.mem ((c.tc : Thread Cert.MixBackIdeal.nD Cert.MixBackIdeal.τ).loc Cert.MixBackIdeal.main_arg13) = m ((c.tc : Thread Cert.MixBackIdeal.nD Cert.MixBackIdeal.τ).loc Cert.MixBackIdeal.main_arg13))
      ∧ r.2.sem = fun _ => 0)

def quiescent_MixBackRefIdeal [hMixBackRefIdeal : Cert.MixBackRefIdeal.Facts] : Prop :=
  ∀ (m : (ℓ : Loc Cert.MixBackRefIdeal.nD Cert.MixBackRefIdeal.τ Cert.MixBackRefIdeal.sig) → Buf (Elt Ideal) ℓ) (g : Dev Cert.MixBackRefIdeal.nD → PrngReg), Pre_MixBackRefIdeal m →
    θ_run (Cert.MixBackRefIdeal.defs (F := Ideal)) (onTc (τ := Cert.MixBackRefIdeal.τ) (Cert.MixBackRefIdeal.main (F := Ideal))) ⟨m, fun _ => 0, g⟩ (fun r => (∀ c : Dev Cert.MixBackRefIdeal.nD,
      r.2.mem ((c.tc : Thread Cert.MixBackRefIdeal.nD Cert.MixBackRefIdeal.τ).loc Cert.MixBackRefIdeal.main_arg0) = m ((c.tc : Thread Cert.MixBackRefIdeal.nD Cert.MixBackRefIdeal.τ).loc Cert.MixBackRefIdeal.main_arg0)
      ∧ r.2.mem ((c.tc : Thread Cert.MixBackRefIdeal.nD Cert.MixBackRefIdeal.τ).loc Cert.MixBackRefIdeal.main_arg1) = m ((c.tc : Thread Cert.MixBackRefIdeal.nD Cert.MixBackRefIdeal.τ).loc Cert.MixBackRefIdeal.main_arg1)
      ∧ r.2.mem ((c.tc : Thread Cert.MixBackRefIdeal.nD Cert.MixBackRefIdeal.τ).loc Cert.MixBackRefIdeal.main_arg2) = m ((c.tc : Thread Cert.MixBackRefIdeal.nD Cert.MixBackRefIdeal.τ).loc Cert.MixBackRefIdeal.main_arg2)
      ∧ r.2.mem ((c.tc : Thread Cert.MixBackRefIdeal.nD Cert.MixBackRefIdeal.τ).loc Cert.MixBackRefIdeal.main_arg3) = m ((c.tc : Thread Cert.MixBackRefIdeal.nD Cert.MixBackRefIdeal.τ).loc Cert.MixBackRefIdeal.main_arg3)
      ∧ r.2.mem ((c.tc : Thread Cert.MixBackRefIdeal.nD Cert.MixBackRefIdeal.τ).loc Cert.MixBackRefIdeal.main_arg4) = m ((c.tc : Thread Cert.MixBackRefIdeal.nD Cert.MixBackRefIdeal.τ).loc Cert.MixBackRefIdeal.main_arg4)
      ∧ r.2.mem ((c.tc : Thread Cert.MixBackRefIdeal.nD Cert.MixBackRefIdeal.τ).loc Cert.MixBackRefIdeal.main_arg5) = m ((c.tc : Thread Cert.MixBackRefIdeal.nD Cert.MixBackRefIdeal.τ).loc Cert.MixBackRefIdeal.main_arg5)
      ∧ r.2.mem ((c.tc : Thread Cert.MixBackRefIdeal.nD Cert.MixBackRefIdeal.τ).loc Cert.MixBackRefIdeal.main_arg6) = m ((c.tc : Thread Cert.MixBackRefIdeal.nD Cert.MixBackRefIdeal.τ).loc Cert.MixBackRefIdeal.main_arg6)
      ∧ r.2.mem ((c.tc : Thread Cert.MixBackRefIdeal.nD Cert.MixBackRefIdeal.τ).loc Cert.MixBackRefIdeal.main_arg7) = m ((c.tc : Thread Cert.MixBackRefIdeal.nD Cert.MixBackRefIdeal.τ).loc Cert.MixBackRefIdeal.main_arg7)
      ∧ r.2.mem ((c.tc : Thread Cert.MixBackRefIdeal.nD Cert.MixBackRefIdeal.τ).loc Cert.MixBackRefIdeal.main_arg8) = m ((c.tc : Thread Cert.MixBackRefIdeal.nD Cert.MixBackRefIdeal.τ).loc Cert.MixBackRefIdeal.main_arg8)
      ∧ r.2.mem ((c.tc : Thread Cert.MixBackRefIdeal.nD Cert.MixBackRefIdeal.τ).loc Cert.MixBackRefIdeal.main_arg9) = m ((c.tc : Thread Cert.MixBackRefIdeal.nD Cert.MixBackRefIdeal.τ).loc Cert.MixBackRefIdeal.main_arg9)
      ∧ r.2.mem ((c.tc : Thread Cert.MixBackRefIdeal.nD Cert.MixBackRefIdeal.τ).loc Cert.MixBackRefIdeal.main_arg10) = m ((c.tc : Thread Cert.MixBackRefIdeal.nD Cert.MixBackRefIdeal.τ).loc Cert.MixBackRefIdeal.main_arg10)
      ∧ r.2.mem ((c.tc : Thread Cert.MixBackRefIdeal.nD Cert.MixBackRefIdeal.τ).loc Cert.MixBackRefIdeal.main_arg11) = m ((c.tc : Thread Cert.MixBackRefIdeal.nD Cert.MixBackRefIdeal.τ).loc Cert.MixBackRefIdeal.main_arg11)
      ∧ r.2.mem ((c.tc : Thread Cert.MixBackRefIdeal.nD Cert.MixBackRefIdeal.τ).loc Cert.MixBackRefIdeal.main_arg12) = m ((c.tc : Thread Cert.MixBackRefIdeal.nD Cert.MixBackRefIdeal.τ).loc Cert.MixBackRefIdeal.main_arg12)
      ∧ r.2.mem ((c.tc : Thread Cert.MixBackRefIdeal.nD Cert.MixBackRefIdeal.τ).loc Cert.MixBackRefIdeal.main_arg13) = m ((c.tc : Thread Cert.MixBackRefIdeal.nD Cert.MixBackRefIdeal.τ).loc Cert.MixBackRefIdeal.main_arg13))
      ∧ r.2.sem = fun _ => 0)

def quiescent_MixBackRefIdeal_pre_finite_mix [hMixBackRefIdeal : Cert.MixBackRefIdeal.Facts] [hPre_finite_mix : Cert.Pre_finite_mix.Facts] : Prop :=
  ∀ (m : (ℓ : Loc Cert.MixBackRefIdeal.nD Cert.MixBackRefIdeal.τ Cert.MixBackRefIdeal.sig) → Buf (Elt Ideal) ℓ) (g : Dev Cert.MixBackRefIdeal.nD → PrngReg), Pre_MixBackRefIdeal_finite_mix m →
    θ_run (Cert.MixBackRefIdeal.defs (F := Ideal)) (onTc (τ := Cert.MixBackRefIdeal.τ) (Cert.MixBackRefIdeal.main (F := Ideal))) ⟨m, fun _ => 0, g⟩ (fun r => (∀ c : Dev Cert.MixBackRefIdeal.nD,
      r.2.mem ((c.tc : Thread Cert.MixBackRefIdeal.nD Cert.MixBackRefIdeal.τ).loc Cert.MixBackRefIdeal.main_arg0) = m ((c.tc : Thread Cert.MixBackRefIdeal.nD Cert.MixBackRefIdeal.τ).loc Cert.MixBackRefIdeal.main_arg0)
      ∧ r.2.mem ((c.tc : Thread Cert.MixBackRefIdeal.nD Cert.MixBackRefIdeal.τ).loc Cert.MixBackRefIdeal.main_arg1) = m ((c.tc : Thread Cert.MixBackRefIdeal.nD Cert.MixBackRefIdeal.τ).loc Cert.MixBackRefIdeal.main_arg1)
      ∧ r.2.mem ((c.tc : Thread Cert.MixBackRefIdeal.nD Cert.MixBackRefIdeal.τ).loc Cert.MixBackRefIdeal.main_arg2) = m ((c.tc : Thread Cert.MixBackRefIdeal.nD Cert.MixBackRefIdeal.τ).loc Cert.MixBackRefIdeal.main_arg2)
      ∧ r.2.mem ((c.tc : Thread Cert.MixBackRefIdeal.nD Cert.MixBackRefIdeal.τ).loc Cert.MixBackRefIdeal.main_arg3) = m ((c.tc : Thread Cert.MixBackRefIdeal.nD Cert.MixBackRefIdeal.τ).loc Cert.MixBackRefIdeal.main_arg3)
      ∧ r.2.mem ((c.tc : Thread Cert.MixBackRefIdeal.nD Cert.MixBackRefIdeal.τ).loc Cert.MixBackRefIdeal.main_arg4) = m ((c.tc : Thread Cert.MixBackRefIdeal.nD Cert.MixBackRefIdeal.τ).loc Cert.MixBackRefIdeal.main_arg4)
      ∧ r.2.mem ((c.tc : Thread Cert.MixBackRefIdeal.nD Cert.MixBackRefIdeal.τ).loc Cert.MixBackRefIdeal.main_arg5) = m ((c.tc : Thread Cert.MixBackRefIdeal.nD Cert.MixBackRefIdeal.τ).loc Cert.MixBackRefIdeal.main_arg5)
      ∧ r.2.mem ((c.tc : Thread Cert.MixBackRefIdeal.nD Cert.MixBackRefIdeal.τ).loc Cert.MixBackRefIdeal.main_arg6) = m ((c.tc : Thread Cert.MixBackRefIdeal.nD Cert.MixBackRefIdeal.τ).loc Cert.MixBackRefIdeal.main_arg6)
      ∧ r.2.mem ((c.tc : Thread Cert.MixBackRefIdeal.nD Cert.MixBackRefIdeal.τ).loc Cert.MixBackRefIdeal.main_arg7) = m ((c.tc : Thread Cert.MixBackRefIdeal.nD Cert.MixBackRefIdeal.τ).loc Cert.MixBackRefIdeal.main_arg7)
      ∧ r.2.mem ((c.tc : Thread Cert.MixBackRefIdeal.nD Cert.MixBackRefIdeal.τ).loc Cert.MixBackRefIdeal.main_arg8) = m ((c.tc : Thread Cert.MixBackRefIdeal.nD Cert.MixBackRefIdeal.τ).loc Cert.MixBackRefIdeal.main_arg8)
      ∧ r.2.mem ((c.tc : Thread Cert.MixBackRefIdeal.nD Cert.MixBackRefIdeal.τ).loc Cert.MixBackRefIdeal.main_arg9) = m ((c.tc : Thread Cert.MixBackRefIdeal.nD Cert.MixBackRefIdeal.τ).loc Cert.MixBackRefIdeal.main_arg9)
      ∧ r.2.mem ((c.tc : Thread Cert.MixBackRefIdeal.nD Cert.MixBackRefIdeal.τ).loc Cert.MixBackRefIdeal.main_arg10) = m ((c.tc : Thread Cert.MixBackRefIdeal.nD Cert.MixBackRefIdeal.τ).loc Cert.MixBackRefIdeal.main_arg10)
      ∧ r.2.mem ((c.tc : Thread Cert.MixBackRefIdeal.nD Cert.MixBackRefIdeal.τ).loc Cert.MixBackRefIdeal.main_arg11) = m ((c.tc : Thread Cert.MixBackRefIdeal.nD Cert.MixBackRefIdeal.τ).loc Cert.MixBackRefIdeal.main_arg11)
      ∧ r.2.mem ((c.tc : Thread Cert.MixBackRefIdeal.nD Cert.MixBackRefIdeal.τ).loc Cert.MixBackRefIdeal.main_arg12) = m ((c.tc : Thread Cert.MixBackRefIdeal.nD Cert.MixBackRefIdeal.τ).loc Cert.MixBackRefIdeal.main_arg12)
      ∧ r.2.mem ((c.tc : Thread Cert.MixBackRefIdeal.nD Cert.MixBackRefIdeal.τ).loc Cert.MixBackRefIdeal.main_arg13) = m ((c.tc : Thread Cert.MixBackRefIdeal.nD Cert.MixBackRefIdeal.τ).loc Cert.MixBackRefIdeal.main_arg13))
      ∧ r.2.sem = fun _ => 0)

def preserves_InBack_InBackIdeal : Prop :=
  True

def algebraic_InBackIdeal_InBackRefIdeal_pre_finite_in [hInBackIdeal : Cert.InBackIdeal.Facts] [hInBackRefIdeal : Cert.InBackRefIdeal.Facts] [hPre_finite_in : Cert.Pre_finite_in.Facts] : Prop :=
  ∀ (m : (ℓ : Loc Cert.InBackIdeal.nD Cert.InBackIdeal.τ Cert.InBackIdeal.sig) → Buf (Elt Ideal) ℓ) (g : Dev Cert.InBackIdeal.nD → PrngReg)
    (m' : (ℓ : Loc Cert.InBackRefIdeal.nD Cert.InBackRefIdeal.τ Cert.InBackRefIdeal.sig) → Buf (Elt Ideal) ℓ) (g' : Dev Cert.InBackRefIdeal.nD → PrngReg), Pre_InBackIdeal_finite_in m →
    (∀ c : Dev Cert.InBackIdeal.nD,
      m' ((c.tc : Thread Cert.InBackRefIdeal.nD Cert.InBackRefIdeal.τ).loc Cert.InBackRefIdeal.main_arg0) = m ((c.tc : Thread Cert.InBackIdeal.nD Cert.InBackIdeal.τ).loc Cert.InBackIdeal.main_arg0)
      ∧ m' ((c.tc : Thread Cert.InBackRefIdeal.nD Cert.InBackRefIdeal.τ).loc Cert.InBackRefIdeal.main_arg1) = m ((c.tc : Thread Cert.InBackIdeal.nD Cert.InBackIdeal.τ).loc Cert.InBackIdeal.main_arg1)
      ∧ m' ((c.tc : Thread Cert.InBackRefIdeal.nD Cert.InBackRefIdeal.τ).loc Cert.InBackRefIdeal.main_arg2) = m ((c.tc : Thread Cert.InBackIdeal.nD Cert.InBackIdeal.τ).loc Cert.InBackIdeal.main_arg2)
      ∧ m' ((c.tc : Thread Cert.InBackRefIdeal.nD Cert.InBackRefIdeal.τ).loc Cert.InBackRefIdeal.main_arg3) = m ((c.tc : Thread Cert.InBackIdeal.nD Cert.InBackIdeal.τ).loc Cert.InBackIdeal.main_arg3)
      ∧ m' ((c.tc : Thread Cert.InBackRefIdeal.nD Cert.InBackRefIdeal.τ).loc Cert.InBackRefIdeal.main_arg4) = m ((c.tc : Thread Cert.InBackIdeal.nD Cert.InBackIdeal.τ).loc Cert.InBackIdeal.main_arg4)
      ∧ m' ((c.tc : Thread Cert.InBackRefIdeal.nD Cert.InBackRefIdeal.τ).loc Cert.InBackRefIdeal.main_arg5) = m ((c.tc : Thread Cert.InBackIdeal.nD Cert.InBackIdeal.τ).loc Cert.InBackIdeal.main_arg5)
      ∧ m' ((c.tc : Thread Cert.InBackRefIdeal.nD Cert.InBackRefIdeal.τ).loc Cert.InBackRefIdeal.main_arg6) = m ((c.tc : Thread Cert.InBackIdeal.nD Cert.InBackIdeal.τ).loc Cert.InBackIdeal.main_arg6)
      ∧ m' ((c.tc : Thread Cert.InBackRefIdeal.nD Cert.InBackRefIdeal.τ).loc Cert.InBackRefIdeal.main_arg7) = m ((c.tc : Thread Cert.InBackIdeal.nD Cert.InBackIdeal.τ).loc Cert.InBackIdeal.main_arg7)
      ∧ m' ((c.tc : Thread Cert.InBackRefIdeal.nD Cert.InBackRefIdeal.τ).loc Cert.InBackRefIdeal.main_arg8) = m ((c.tc : Thread Cert.InBackIdeal.nD Cert.InBackIdeal.τ).loc Cert.InBackIdeal.main_arg8)
      ∧ m' ((c.tc : Thread Cert.InBackRefIdeal.nD Cert.InBackRefIdeal.τ).loc Cert.InBackRefIdeal.main_arg9) = m ((c.tc : Thread Cert.InBackIdeal.nD Cert.InBackIdeal.τ).loc Cert.InBackIdeal.main_arg9)) →
    ∃ (v0 : (c : Dev Cert.InBackIdeal.nD) → Buf (Elt Ideal) ((c.tc : Thread Cert.InBackIdeal.nD Cert.InBackIdeal.τ).loc Cert.InBackIdeal.main_v14_0)) (v1 : (c : Dev Cert.InBackIdeal.nD) → Buf (Elt Ideal) ((c.tc : Thread Cert.InBackIdeal.nD Cert.InBackIdeal.τ).loc Cert.InBackIdeal.main_v14_1)) (v2 : (c : Dev Cert.InBackIdeal.nD) → Buf (Elt Ideal) ((c.tc : Thread Cert.InBackIdeal.nD Cert.InBackIdeal.τ).loc Cert.InBackIdeal.main_v14_2)) (v3 : (c : Dev Cert.InBackIdeal.nD) → Buf (Elt Ideal) ((c.tc : Thread Cert.InBackIdeal.nD Cert.InBackIdeal.τ).loc Cert.InBackIdeal.main_v14_3)),
      θ_run (Cert.InBackIdeal.defs (F := Ideal)) (onTc (τ := Cert.InBackIdeal.τ) (Cert.InBackIdeal.main (F := Ideal))) ⟨m, fun _ => 0, g⟩ (fun r => ∀ c : Dev Cert.InBackIdeal.nD,
          r.2.mem ((c.tc : Thread Cert.InBackIdeal.nD Cert.InBackIdeal.τ).loc Cert.InBackIdeal.main_v14_0) = v0 c
          ∧ r.2.mem ((c.tc : Thread Cert.InBackIdeal.nD Cert.InBackIdeal.τ).loc Cert.InBackIdeal.main_v14_1) = v1 c
          ∧ r.2.mem ((c.tc : Thread Cert.InBackIdeal.nD Cert.InBackIdeal.τ).loc Cert.InBackIdeal.main_v14_2) = v2 c
          ∧ r.2.mem ((c.tc : Thread Cert.InBackIdeal.nD Cert.InBackIdeal.τ).loc Cert.InBackIdeal.main_v14_3) = v3 c
          ∧ r.2.mem ((c.tc : Thread Cert.InBackIdeal.nD Cert.InBackIdeal.τ).loc Cert.InBackIdeal.main_arg0) = m ((c.tc : Thread Cert.InBackIdeal.nD Cert.InBackIdeal.τ).loc Cert.InBackIdeal.main_arg0)
          ∧ r.2.mem ((c.tc : Thread Cert.InBackIdeal.nD Cert.InBackIdeal.τ).loc Cert.InBackIdeal.main_arg1) = m ((c.tc : Thread Cert.InBackIdeal.nD Cert.InBackIdeal.τ).loc Cert.InBackIdeal.main_arg1)
          ∧ r.2.mem ((c.tc : Thread Cert.InBackIdeal.nD Cert.InBackIdeal.τ).loc Cert.InBackIdeal.main_arg2) = m ((c.tc : Thread Cert.InBackIdeal.nD Cert.InBackIdeal.τ).loc Cert.InBackIdeal.main_arg2)
          ∧ r.2.mem ((c.tc : Thread Cert.InBackIdeal.nD Cert.InBackIdeal.τ).loc Cert.InBackIdeal.main_arg3) = m ((c.tc : Thread Cert.InBackIdeal.nD Cert.InBackIdeal.τ).loc Cert.InBackIdeal.main_arg3)
          ∧ r.2.mem ((c.tc : Thread Cert.InBackIdeal.nD Cert.InBackIdeal.τ).loc Cert.InBackIdeal.main_arg4) = m ((c.tc : Thread Cert.InBackIdeal.nD Cert.InBackIdeal.τ).loc Cert.InBackIdeal.main_arg4)
          ∧ r.2.mem ((c.tc : Thread Cert.InBackIdeal.nD Cert.InBackIdeal.τ).loc Cert.InBackIdeal.main_arg5) = m ((c.tc : Thread Cert.InBackIdeal.nD Cert.InBackIdeal.τ).loc Cert.InBackIdeal.main_arg5)
          ∧ r.2.mem ((c.tc : Thread Cert.InBackIdeal.nD Cert.InBackIdeal.τ).loc Cert.InBackIdeal.main_arg6) = m ((c.tc : Thread Cert.InBackIdeal.nD Cert.InBackIdeal.τ).loc Cert.InBackIdeal.main_arg6)
          ∧ r.2.mem ((c.tc : Thread Cert.InBackIdeal.nD Cert.InBackIdeal.τ).loc Cert.InBackIdeal.main_arg7) = m ((c.tc : Thread Cert.InBackIdeal.nD Cert.InBackIdeal.τ).loc Cert.InBackIdeal.main_arg7)
          ∧ r.2.mem ((c.tc : Thread Cert.InBackIdeal.nD Cert.InBackIdeal.τ).loc Cert.InBackIdeal.main_arg8) = m ((c.tc : Thread Cert.InBackIdeal.nD Cert.InBackIdeal.τ).loc Cert.InBackIdeal.main_arg8)
          ∧ r.2.mem ((c.tc : Thread Cert.InBackIdeal.nD Cert.InBackIdeal.τ).loc Cert.InBackIdeal.main_arg9) = m ((c.tc : Thread Cert.InBackIdeal.nD Cert.InBackIdeal.τ).loc Cert.InBackIdeal.main_arg9))
      ∧ θ_run (Cert.InBackRefIdeal.defs (F := Ideal)) (onTc (τ := Cert.InBackRefIdeal.τ) (Cert.InBackRefIdeal.main (F := Ideal))) ⟨m', fun _ => 0, g'⟩ (fun r => ∀ c : Dev Cert.InBackRefIdeal.nD,
          r.2.mem ((c.tc : Thread Cert.InBackRefIdeal.nD Cert.InBackRefIdeal.τ).loc Cert.InBackRefIdeal.main_v54) = v0 c
          ∧ r.2.mem ((c.tc : Thread Cert.InBackRefIdeal.nD Cert.InBackRefIdeal.τ).loc Cert.InBackRefIdeal.main_v56) = v1 c
          ∧ r.2.mem ((c.tc : Thread Cert.InBackRefIdeal.nD Cert.InBackRefIdeal.τ).loc Cert.InBackRefIdeal.main_v51) = v2 c
          ∧ r.2.mem ((c.tc : Thread Cert.InBackRefIdeal.nD Cert.InBackRefIdeal.τ).loc Cert.InBackRefIdeal.main_v57) = v3 c
          ∧ r.2.mem ((c.tc : Thread Cert.InBackRefIdeal.nD Cert.InBackRefIdeal.τ).loc Cert.InBackRefIdeal.main_arg0) = m' ((c.tc : Thread Cert.InBackRefIdeal.nD Cert.InBackRefIdeal.τ).loc Cert.InBackRefIdeal.main_arg0)
          ∧ r.2.mem ((c.tc : Thread Cert.InBackRefIdeal.nD Cert.InBackRefIdeal.τ).loc Cert.InBackRefIdeal.main_arg1) = m' ((c.tc : Thread Cert.InBackRefIdeal.nD Cert.InBackRefIdeal.τ).loc Cert.InBackRefIdeal.main_arg1)
          ∧ r.2.mem ((c.tc : Thread Cert.InBackRefIdeal.nD Cert.InBackRefIdeal.τ).loc Cert.InBackRefIdeal.main_arg2) = m' ((c.tc : Thread Cert.InBackRefIdeal.nD Cert.InBackRefIdeal.τ).loc Cert.InBackRefIdeal.main_arg2)
          ∧ r.2.mem ((c.tc : Thread Cert.InBackRefIdeal.nD Cert.InBackRefIdeal.τ).loc Cert.InBackRefIdeal.main_arg3) = m' ((c.tc : Thread Cert.InBackRefIdeal.nD Cert.InBackRefIdeal.τ).loc Cert.InBackRefIdeal.main_arg3)
          ∧ r.2.mem ((c.tc : Thread Cert.InBackRefIdeal.nD Cert.InBackRefIdeal.τ).loc Cert.InBackRefIdeal.main_arg4) = m' ((c.tc : Thread Cert.InBackRefIdeal.nD Cert.InBackRefIdeal.τ).loc Cert.InBackRefIdeal.main_arg4)
          ∧ r.2.mem ((c.tc : Thread Cert.InBackRefIdeal.nD Cert.InBackRefIdeal.τ).loc Cert.InBackRefIdeal.main_arg5) = m' ((c.tc : Thread Cert.InBackRefIdeal.nD Cert.InBackRefIdeal.τ).loc Cert.InBackRefIdeal.main_arg5)
          ∧ r.2.mem ((c.tc : Thread Cert.InBackRefIdeal.nD Cert.InBackRefIdeal.τ).loc Cert.InBackRefIdeal.main_arg6) = m' ((c.tc : Thread Cert.InBackRefIdeal.nD Cert.InBackRefIdeal.τ).loc Cert.InBackRefIdeal.main_arg6)
          ∧ r.2.mem ((c.tc : Thread Cert.InBackRefIdeal.nD Cert.InBackRefIdeal.τ).loc Cert.InBackRefIdeal.main_arg7) = m' ((c.tc : Thread Cert.InBackRefIdeal.nD Cert.InBackRefIdeal.τ).loc Cert.InBackRefIdeal.main_arg7)
          ∧ r.2.mem ((c.tc : Thread Cert.InBackRefIdeal.nD Cert.InBackRefIdeal.τ).loc Cert.InBackRefIdeal.main_arg8) = m' ((c.tc : Thread Cert.InBackRefIdeal.nD Cert.InBackRefIdeal.τ).loc Cert.InBackRefIdeal.main_arg8)
          ∧ r.2.mem ((c.tc : Thread Cert.InBackRefIdeal.nD Cert.InBackRefIdeal.τ).loc Cert.InBackRefIdeal.main_arg9) = m' ((c.tc : Thread Cert.InBackRefIdeal.nD Cert.InBackRefIdeal.τ).loc Cert.InBackRefIdeal.main_arg9))

def preserves_AttBack_AttBackIdeal : Prop :=
  True

def algebraic_AttBackIdeal_AttBackRefIdeal_pre_finite_att [hAttBackIdeal : Cert.AttBackIdeal.Facts] [hAttBackRefIdeal : Cert.AttBackRefIdeal.Facts] [hPre_finite_att : Cert.Pre_finite_att.Facts] : Prop :=
  ∀ (m : (ℓ : Loc Cert.AttBackIdeal.nD Cert.AttBackIdeal.τ Cert.AttBackIdeal.sig) → Buf (Elt Ideal) ℓ) (g : Dev Cert.AttBackIdeal.nD → PrngReg)
    (m' : (ℓ : Loc Cert.AttBackRefIdeal.nD Cert.AttBackRefIdeal.τ Cert.AttBackRefIdeal.sig) → Buf (Elt Ideal) ℓ) (g' : Dev Cert.AttBackRefIdeal.nD → PrngReg), Pre_AttBackIdeal_finite_att m →
    (∀ c : Dev Cert.AttBackIdeal.nD,
      m' ((c.tc : Thread Cert.AttBackRefIdeal.nD Cert.AttBackRefIdeal.τ).loc Cert.AttBackRefIdeal.main_arg0) = m ((c.tc : Thread Cert.AttBackIdeal.nD Cert.AttBackIdeal.τ).loc Cert.AttBackIdeal.main_arg0)
      ∧ m' ((c.tc : Thread Cert.AttBackRefIdeal.nD Cert.AttBackRefIdeal.τ).loc Cert.AttBackRefIdeal.main_arg1) = m ((c.tc : Thread Cert.AttBackIdeal.nD Cert.AttBackIdeal.τ).loc Cert.AttBackIdeal.main_arg1)
      ∧ m' ((c.tc : Thread Cert.AttBackRefIdeal.nD Cert.AttBackRefIdeal.τ).loc Cert.AttBackRefIdeal.main_arg2) = m ((c.tc : Thread Cert.AttBackIdeal.nD Cert.AttBackIdeal.τ).loc Cert.AttBackIdeal.main_arg2)
      ∧ m' ((c.tc : Thread Cert.AttBackRefIdeal.nD Cert.AttBackRefIdeal.τ).loc Cert.AttBackRefIdeal.main_arg3) = m ((c.tc : Thread Cert.AttBackIdeal.nD Cert.AttBackIdeal.τ).loc Cert.AttBackIdeal.main_arg3)
      ∧ m' ((c.tc : Thread Cert.AttBackRefIdeal.nD Cert.AttBackRefIdeal.τ).loc Cert.AttBackRefIdeal.main_arg4) = m ((c.tc : Thread Cert.AttBackIdeal.nD Cert.AttBackIdeal.τ).loc Cert.AttBackIdeal.main_arg4)) →
    ∃ (v0 : (c : Dev Cert.AttBackIdeal.nD) → Buf (Elt Ideal) ((c.tc : Thread Cert.AttBackIdeal.nD Cert.AttBackIdeal.τ).loc Cert.AttBackIdeal.main_v7_0)) (v1 : (c : Dev Cert.AttBackIdeal.nD) → Buf (Elt Ideal) ((c.tc : Thread Cert.AttBackIdeal.nD Cert.AttBackIdeal.τ).loc Cert.AttBackIdeal.main_v9_0)) (v2 : (c : Dev Cert.AttBackIdeal.nD) → Buf (Elt Ideal) ((c.tc : Thread Cert.AttBackIdeal.nD Cert.AttBackIdeal.τ).loc Cert.AttBackIdeal.main_v9_1)) (v3 : (c : Dev Cert.AttBackIdeal.nD) → Buf (Elt Ideal) ((c.tc : Thread Cert.AttBackIdeal.nD Cert.AttBackIdeal.τ).loc Cert.AttBackIdeal.main_v9_2)) (v4 : (c : Dev Cert.AttBackIdeal.nD) → Buf (Elt Ideal) ((c.tc : Thread Cert.AttBackIdeal.nD Cert.AttBackIdeal.τ).loc Cert.AttBackIdeal.main_v9_3)),
      θ_run (Cert.AttBackIdeal.defs (F := Ideal)) (onTc (τ := Cert.AttBackIdeal.τ) (Cert.AttBackIdeal.main (F := Ideal))) ⟨m, fun _ => 0, g⟩ (fun r => ∀ c : Dev Cert.AttBackIdeal.nD,
          r.2.mem ((c.tc : Thread Cert.AttBackIdeal.nD Cert.AttBackIdeal.τ).loc Cert.AttBackIdeal.main_v7_0) = v0 c
          ∧ r.2.mem ((c.tc : Thread Cert.AttBackIdeal.nD Cert.AttBackIdeal.τ).loc Cert.AttBackIdeal.main_v9_0) = v1 c
          ∧ r.2.mem ((c.tc : Thread Cert.AttBackIdeal.nD Cert.AttBackIdeal.τ).loc Cert.AttBackIdeal.main_v9_1) = v2 c
          ∧ r.2.mem ((c.tc : Thread Cert.AttBackIdeal.nD Cert.AttBackIdeal.τ).loc Cert.AttBackIdeal.main_v9_2) = v3 c
          ∧ r.2.mem ((c.tc : Thread Cert.AttBackIdeal.nD Cert.AttBackIdeal.τ).loc Cert.AttBackIdeal.main_v9_3) = v4 c
          ∧ r.2.mem ((c.tc : Thread Cert.AttBackIdeal.nD Cert.AttBackIdeal.τ).loc Cert.AttBackIdeal.main_arg0) = m ((c.tc : Thread Cert.AttBackIdeal.nD Cert.AttBackIdeal.τ).loc Cert.AttBackIdeal.main_arg0)
          ∧ r.2.mem ((c.tc : Thread Cert.AttBackIdeal.nD Cert.AttBackIdeal.τ).loc Cert.AttBackIdeal.main_arg1) = m ((c.tc : Thread Cert.AttBackIdeal.nD Cert.AttBackIdeal.τ).loc Cert.AttBackIdeal.main_arg1)
          ∧ r.2.mem ((c.tc : Thread Cert.AttBackIdeal.nD Cert.AttBackIdeal.τ).loc Cert.AttBackIdeal.main_arg2) = m ((c.tc : Thread Cert.AttBackIdeal.nD Cert.AttBackIdeal.τ).loc Cert.AttBackIdeal.main_arg2)
          ∧ r.2.mem ((c.tc : Thread Cert.AttBackIdeal.nD Cert.AttBackIdeal.τ).loc Cert.AttBackIdeal.main_arg3) = m ((c.tc : Thread Cert.AttBackIdeal.nD Cert.AttBackIdeal.τ).loc Cert.AttBackIdeal.main_arg3)
          ∧ r.2.mem ((c.tc : Thread Cert.AttBackIdeal.nD Cert.AttBackIdeal.τ).loc Cert.AttBackIdeal.main_arg4) = m ((c.tc : Thread Cert.AttBackIdeal.nD Cert.AttBackIdeal.τ).loc Cert.AttBackIdeal.main_arg4))
      ∧ θ_run (Cert.AttBackRefIdeal.defs (F := Ideal)) (onTc (τ := Cert.AttBackRefIdeal.τ) (Cert.AttBackRefIdeal.main (F := Ideal))) ⟨m', fun _ => 0, g'⟩ (fun r => ∀ c : Dev Cert.AttBackRefIdeal.nD,
          r.2.mem ((c.tc : Thread Cert.AttBackRefIdeal.nD Cert.AttBackRefIdeal.τ).loc Cert.AttBackRefIdeal.main_v179) = v0 c
          ∧ r.2.mem ((c.tc : Thread Cert.AttBackRefIdeal.nD Cert.AttBackRefIdeal.τ).loc Cert.AttBackRefIdeal.main_v180) = v1 c
          ∧ r.2.mem ((c.tc : Thread Cert.AttBackRefIdeal.nD Cert.AttBackRefIdeal.τ).loc Cert.AttBackRefIdeal.main_v181) = v2 c
          ∧ r.2.mem ((c.tc : Thread Cert.AttBackRefIdeal.nD Cert.AttBackRefIdeal.τ).loc Cert.AttBackRefIdeal.main_v182) = v3 c
          ∧ r.2.mem ((c.tc : Thread Cert.AttBackRefIdeal.nD Cert.AttBackRefIdeal.τ).loc Cert.AttBackRefIdeal.main_v178) = v4 c
          ∧ r.2.mem ((c.tc : Thread Cert.AttBackRefIdeal.nD Cert.AttBackRefIdeal.τ).loc Cert.AttBackRefIdeal.main_arg0) = m' ((c.tc : Thread Cert.AttBackRefIdeal.nD Cert.AttBackRefIdeal.τ).loc Cert.AttBackRefIdeal.main_arg0)
          ∧ r.2.mem ((c.tc : Thread Cert.AttBackRefIdeal.nD Cert.AttBackRefIdeal.τ).loc Cert.AttBackRefIdeal.main_arg1) = m' ((c.tc : Thread Cert.AttBackRefIdeal.nD Cert.AttBackRefIdeal.τ).loc Cert.AttBackRefIdeal.main_arg1)
          ∧ r.2.mem ((c.tc : Thread Cert.AttBackRefIdeal.nD Cert.AttBackRefIdeal.τ).loc Cert.AttBackRefIdeal.main_arg2) = m' ((c.tc : Thread Cert.AttBackRefIdeal.nD Cert.AttBackRefIdeal.τ).loc Cert.AttBackRefIdeal.main_arg2)
          ∧ r.2.mem ((c.tc : Thread Cert.AttBackRefIdeal.nD Cert.AttBackRefIdeal.τ).loc Cert.AttBackRefIdeal.main_arg3) = m' ((c.tc : Thread Cert.AttBackRefIdeal.nD Cert.AttBackRefIdeal.τ).loc Cert.AttBackRefIdeal.main_arg3)
          ∧ r.2.mem ((c.tc : Thread Cert.AttBackRefIdeal.nD Cert.AttBackRefIdeal.τ).loc Cert.AttBackRefIdeal.main_arg4) = m' ((c.tc : Thread Cert.AttBackRefIdeal.nD Cert.AttBackRefIdeal.τ).loc Cert.AttBackRefIdeal.main_arg4))

def preserves_ParBack_ParBackIdeal : Prop :=
  True

def algebraic_ParBackIdeal_ParBackRefIdeal_pre_nonzero_lam [hParBackIdeal : Cert.ParBackIdeal.Facts] [hParBackRefIdeal : Cert.ParBackRefIdeal.Facts] [hPre_nonzero_lam : Cert.Pre_nonzero_lam.Facts] : Prop :=
  ∀ (m : (ℓ : Loc Cert.ParBackIdeal.nD Cert.ParBackIdeal.τ Cert.ParBackIdeal.sig) → Buf (Elt Ideal) ℓ) (g : Dev Cert.ParBackIdeal.nD → PrngReg)
    (m' : (ℓ : Loc Cert.ParBackRefIdeal.nD Cert.ParBackRefIdeal.τ Cert.ParBackRefIdeal.sig) → Buf (Elt Ideal) ℓ) (g' : Dev Cert.ParBackRefIdeal.nD → PrngReg), Pre_ParBackIdeal_nonzero_lam m →
    (∀ c : Dev Cert.ParBackIdeal.nD,
      m' ((c.tc : Thread Cert.ParBackRefIdeal.nD Cert.ParBackRefIdeal.τ).loc Cert.ParBackRefIdeal.main_arg0) = m ((c.tc : Thread Cert.ParBackIdeal.nD Cert.ParBackIdeal.τ).loc Cert.ParBackIdeal.main_arg0)
      ∧ m' ((c.tc : Thread Cert.ParBackRefIdeal.nD Cert.ParBackRefIdeal.τ).loc Cert.ParBackRefIdeal.main_arg1) = m ((c.tc : Thread Cert.ParBackIdeal.nD Cert.ParBackIdeal.τ).loc Cert.ParBackIdeal.main_arg1)
      ∧ m' ((c.tc : Thread Cert.ParBackRefIdeal.nD Cert.ParBackRefIdeal.τ).loc Cert.ParBackRefIdeal.main_arg2) = m ((c.tc : Thread Cert.ParBackIdeal.nD Cert.ParBackIdeal.τ).loc Cert.ParBackIdeal.main_arg2)
      ∧ m' ((c.tc : Thread Cert.ParBackRefIdeal.nD Cert.ParBackRefIdeal.τ).loc Cert.ParBackRefIdeal.main_arg3) = m ((c.tc : Thread Cert.ParBackIdeal.nD Cert.ParBackIdeal.τ).loc Cert.ParBackIdeal.main_arg3)
      ∧ m' ((c.tc : Thread Cert.ParBackRefIdeal.nD Cert.ParBackRefIdeal.τ).loc Cert.ParBackRefIdeal.main_arg4) = m ((c.tc : Thread Cert.ParBackIdeal.nD Cert.ParBackIdeal.τ).loc Cert.ParBackIdeal.main_arg4)
      ∧ m' ((c.tc : Thread Cert.ParBackRefIdeal.nD Cert.ParBackRefIdeal.τ).loc Cert.ParBackRefIdeal.main_arg5) = m ((c.tc : Thread Cert.ParBackIdeal.nD Cert.ParBackIdeal.τ).loc Cert.ParBackIdeal.main_arg5)
      ∧ m' ((c.tc : Thread Cert.ParBackRefIdeal.nD Cert.ParBackRefIdeal.τ).loc Cert.ParBackRefIdeal.main_arg6) = m ((c.tc : Thread Cert.ParBackIdeal.nD Cert.ParBackIdeal.τ).loc Cert.ParBackIdeal.main_arg6)
      ∧ m' ((c.tc : Thread Cert.ParBackRefIdeal.nD Cert.ParBackRefIdeal.τ).loc Cert.ParBackRefIdeal.main_arg7) = m ((c.tc : Thread Cert.ParBackIdeal.nD Cert.ParBackIdeal.τ).loc Cert.ParBackIdeal.main_arg7)
      ∧ m' ((c.tc : Thread Cert.ParBackRefIdeal.nD Cert.ParBackRefIdeal.τ).loc Cert.ParBackRefIdeal.main_arg8) = m ((c.tc : Thread Cert.ParBackIdeal.nD Cert.ParBackIdeal.τ).loc Cert.ParBackIdeal.main_arg8)
      ∧ m' ((c.tc : Thread Cert.ParBackRefIdeal.nD Cert.ParBackRefIdeal.τ).loc Cert.ParBackRefIdeal.main_arg9) = m ((c.tc : Thread Cert.ParBackIdeal.nD Cert.ParBackIdeal.τ).loc Cert.ParBackIdeal.main_arg9)
      ∧ m' ((c.tc : Thread Cert.ParBackRefIdeal.nD Cert.ParBackRefIdeal.τ).loc Cert.ParBackRefIdeal.main_arg10) = m ((c.tc : Thread Cert.ParBackIdeal.nD Cert.ParBackIdeal.τ).loc Cert.ParBackIdeal.main_arg10)) →
    ∃ (v0 : (c : Dev Cert.ParBackIdeal.nD) → Buf (Elt Ideal) ((c.tc : Thread Cert.ParBackIdeal.nD Cert.ParBackIdeal.τ).loc Cert.ParBackIdeal.main_v10_0)) (v1 : (c : Dev Cert.ParBackIdeal.nD) → Buf (Elt Ideal) ((c.tc : Thread Cert.ParBackIdeal.nD Cert.ParBackIdeal.τ).loc Cert.ParBackIdeal.main_v10_1)) (v2 : (c : Dev Cert.ParBackIdeal.nD) → Buf (Elt Ideal) ((c.tc : Thread Cert.ParBackIdeal.nD Cert.ParBackIdeal.τ).loc Cert.ParBackIdeal.main_v10_2)) (v3 : (c : Dev Cert.ParBackIdeal.nD) → Buf (Elt Ideal) ((c.tc : Thread Cert.ParBackIdeal.nD Cert.ParBackIdeal.τ).loc Cert.ParBackIdeal.main_v10_3)) (v4 : (c : Dev Cert.ParBackIdeal.nD) → Buf (Elt Ideal) ((c.tc : Thread Cert.ParBackIdeal.nD Cert.ParBackIdeal.τ).loc Cert.ParBackIdeal.main_v10_4)) (v5 : (c : Dev Cert.ParBackIdeal.nD) → Buf (Elt Ideal) ((c.tc : Thread Cert.ParBackIdeal.nD Cert.ParBackIdeal.τ).loc Cert.ParBackIdeal.main_v10_5)) (v6 : (c : Dev Cert.ParBackIdeal.nD) → Buf (Elt Ideal) ((c.tc : Thread Cert.ParBackIdeal.nD Cert.ParBackIdeal.τ).loc Cert.ParBackIdeal.main_v10_6)),
      θ_run (Cert.ParBackIdeal.defs (F := Ideal)) (onTc (τ := Cert.ParBackIdeal.τ) (Cert.ParBackIdeal.main (F := Ideal))) ⟨m, fun _ => 0, g⟩ (fun r => ∀ c : Dev Cert.ParBackIdeal.nD,
          r.2.mem ((c.tc : Thread Cert.ParBackIdeal.nD Cert.ParBackIdeal.τ).loc Cert.ParBackIdeal.main_v10_0) = v0 c
          ∧ r.2.mem ((c.tc : Thread Cert.ParBackIdeal.nD Cert.ParBackIdeal.τ).loc Cert.ParBackIdeal.main_v10_1) = v1 c
          ∧ r.2.mem ((c.tc : Thread Cert.ParBackIdeal.nD Cert.ParBackIdeal.τ).loc Cert.ParBackIdeal.main_v10_2) = v2 c
          ∧ r.2.mem ((c.tc : Thread Cert.ParBackIdeal.nD Cert.ParBackIdeal.τ).loc Cert.ParBackIdeal.main_v10_3) = v3 c
          ∧ r.2.mem ((c.tc : Thread Cert.ParBackIdeal.nD Cert.ParBackIdeal.τ).loc Cert.ParBackIdeal.main_v10_4) = v4 c
          ∧ r.2.mem ((c.tc : Thread Cert.ParBackIdeal.nD Cert.ParBackIdeal.τ).loc Cert.ParBackIdeal.main_v10_5) = v5 c
          ∧ r.2.mem ((c.tc : Thread Cert.ParBackIdeal.nD Cert.ParBackIdeal.τ).loc Cert.ParBackIdeal.main_v10_6) = v6 c
          ∧ r.2.mem ((c.tc : Thread Cert.ParBackIdeal.nD Cert.ParBackIdeal.τ).loc Cert.ParBackIdeal.main_arg0) = m ((c.tc : Thread Cert.ParBackIdeal.nD Cert.ParBackIdeal.τ).loc Cert.ParBackIdeal.main_arg0)
          ∧ r.2.mem ((c.tc : Thread Cert.ParBackIdeal.nD Cert.ParBackIdeal.τ).loc Cert.ParBackIdeal.main_arg1) = m ((c.tc : Thread Cert.ParBackIdeal.nD Cert.ParBackIdeal.τ).loc Cert.ParBackIdeal.main_arg1)
          ∧ r.2.mem ((c.tc : Thread Cert.ParBackIdeal.nD Cert.ParBackIdeal.τ).loc Cert.ParBackIdeal.main_arg2) = m ((c.tc : Thread Cert.ParBackIdeal.nD Cert.ParBackIdeal.τ).loc Cert.ParBackIdeal.main_arg2)
          ∧ r.2.mem ((c.tc : Thread Cert.ParBackIdeal.nD Cert.ParBackIdeal.τ).loc Cert.ParBackIdeal.main_arg3) = m ((c.tc : Thread Cert.ParBackIdeal.nD Cert.ParBackIdeal.τ).loc Cert.ParBackIdeal.main_arg3)
          ∧ r.2.mem ((c.tc : Thread Cert.ParBackIdeal.nD Cert.ParBackIdeal.τ).loc Cert.ParBackIdeal.main_arg4) = m ((c.tc : Thread Cert.ParBackIdeal.nD Cert.ParBackIdeal.τ).loc Cert.ParBackIdeal.main_arg4)
          ∧ r.2.mem ((c.tc : Thread Cert.ParBackIdeal.nD Cert.ParBackIdeal.τ).loc Cert.ParBackIdeal.main_arg5) = m ((c.tc : Thread Cert.ParBackIdeal.nD Cert.ParBackIdeal.τ).loc Cert.ParBackIdeal.main_arg5)
          ∧ r.2.mem ((c.tc : Thread Cert.ParBackIdeal.nD Cert.ParBackIdeal.τ).loc Cert.ParBackIdeal.main_arg6) = m ((c.tc : Thread Cert.ParBackIdeal.nD Cert.ParBackIdeal.τ).loc Cert.ParBackIdeal.main_arg6)
          ∧ r.2.mem ((c.tc : Thread Cert.ParBackIdeal.nD Cert.ParBackIdeal.τ).loc Cert.ParBackIdeal.main_arg7) = m ((c.tc : Thread Cert.ParBackIdeal.nD Cert.ParBackIdeal.τ).loc Cert.ParBackIdeal.main_arg7)
          ∧ r.2.mem ((c.tc : Thread Cert.ParBackIdeal.nD Cert.ParBackIdeal.τ).loc Cert.ParBackIdeal.main_arg8) = m ((c.tc : Thread Cert.ParBackIdeal.nD Cert.ParBackIdeal.τ).loc Cert.ParBackIdeal.main_arg8)
          ∧ r.2.mem ((c.tc : Thread Cert.ParBackIdeal.nD Cert.ParBackIdeal.τ).loc Cert.ParBackIdeal.main_arg9) = m ((c.tc : Thread Cert.ParBackIdeal.nD Cert.ParBackIdeal.τ).loc Cert.ParBackIdeal.main_arg9)
          ∧ r.2.mem ((c.tc : Thread Cert.ParBackIdeal.nD Cert.ParBackIdeal.τ).loc Cert.ParBackIdeal.main_arg10) = m ((c.tc : Thread Cert.ParBackIdeal.nD Cert.ParBackIdeal.τ).loc Cert.ParBackIdeal.main_arg10))
      ∧ θ_run (Cert.ParBackRefIdeal.defs (F := Ideal)) (onTc (τ := Cert.ParBackRefIdeal.τ) (Cert.ParBackRefIdeal.main (F := Ideal))) ⟨m', fun _ => 0, g'⟩ (fun r => ∀ c : Dev Cert.ParBackRefIdeal.nD,
          r.2.mem ((c.tc : Thread Cert.ParBackRefIdeal.nD Cert.ParBackRefIdeal.τ).loc Cert.ParBackRefIdeal.main_v258) = v0 c
          ∧ r.2.mem ((c.tc : Thread Cert.ParBackRefIdeal.nD Cert.ParBackRefIdeal.τ).loc Cert.ParBackRefIdeal.main_v259) = v1 c
          ∧ r.2.mem ((c.tc : Thread Cert.ParBackRefIdeal.nD Cert.ParBackRefIdeal.τ).loc Cert.ParBackRefIdeal.main_v260) = v2 c
          ∧ r.2.mem ((c.tc : Thread Cert.ParBackRefIdeal.nD Cert.ParBackRefIdeal.τ).loc Cert.ParBackRefIdeal.main_v263) = v3 c
          ∧ r.2.mem ((c.tc : Thread Cert.ParBackRefIdeal.nD Cert.ParBackRefIdeal.τ).loc Cert.ParBackRefIdeal.main_v266) = v4 c
          ∧ r.2.mem ((c.tc : Thread Cert.ParBackRefIdeal.nD Cert.ParBackRefIdeal.τ).loc Cert.ParBackRefIdeal.main_v267) = v5 c
          ∧ r.2.mem ((c.tc : Thread Cert.ParBackRefIdeal.nD Cert.ParBackRefIdeal.τ).loc Cert.ParBackRefIdeal.main_v268) = v6 c
          ∧ r.2.mem ((c.tc : Thread Cert.ParBackRefIdeal.nD Cert.ParBackRefIdeal.τ).loc Cert.ParBackRefIdeal.main_arg0) = m' ((c.tc : Thread Cert.ParBackRefIdeal.nD Cert.ParBackRefIdeal.τ).loc Cert.ParBackRefIdeal.main_arg0)
          ∧ r.2.mem ((c.tc : Thread Cert.ParBackRefIdeal.nD Cert.ParBackRefIdeal.τ).loc Cert.ParBackRefIdeal.main_arg1) = m' ((c.tc : Thread Cert.ParBackRefIdeal.nD Cert.ParBackRefIdeal.τ).loc Cert.ParBackRefIdeal.main_arg1)
          ∧ r.2.mem ((c.tc : Thread Cert.ParBackRefIdeal.nD Cert.ParBackRefIdeal.τ).loc Cert.ParBackRefIdeal.main_arg2) = m' ((c.tc : Thread Cert.ParBackRefIdeal.nD Cert.ParBackRefIdeal.τ).loc Cert.ParBackRefIdeal.main_arg2)
          ∧ r.2.mem ((c.tc : Thread Cert.ParBackRefIdeal.nD Cert.ParBackRefIdeal.τ).loc Cert.ParBackRefIdeal.main_arg3) = m' ((c.tc : Thread Cert.ParBackRefIdeal.nD Cert.ParBackRefIdeal.τ).loc Cert.ParBackRefIdeal.main_arg3)
          ∧ r.2.mem ((c.tc : Thread Cert.ParBackRefIdeal.nD Cert.ParBackRefIdeal.τ).loc Cert.ParBackRefIdeal.main_arg4) = m' ((c.tc : Thread Cert.ParBackRefIdeal.nD Cert.ParBackRefIdeal.τ).loc Cert.ParBackRefIdeal.main_arg4)
          ∧ r.2.mem ((c.tc : Thread Cert.ParBackRefIdeal.nD Cert.ParBackRefIdeal.τ).loc Cert.ParBackRefIdeal.main_arg5) = m' ((c.tc : Thread Cert.ParBackRefIdeal.nD Cert.ParBackRefIdeal.τ).loc Cert.ParBackRefIdeal.main_arg5)
          ∧ r.2.mem ((c.tc : Thread Cert.ParBackRefIdeal.nD Cert.ParBackRefIdeal.τ).loc Cert.ParBackRefIdeal.main_arg6) = m' ((c.tc : Thread Cert.ParBackRefIdeal.nD Cert.ParBackRefIdeal.τ).loc Cert.ParBackRefIdeal.main_arg6)
          ∧ r.2.mem ((c.tc : Thread Cert.ParBackRefIdeal.nD Cert.ParBackRefIdeal.τ).loc Cert.ParBackRefIdeal.main_arg7) = m' ((c.tc : Thread Cert.ParBackRefIdeal.nD Cert.ParBackRefIdeal.τ).loc Cert.ParBackRefIdeal.main_arg7)
          ∧ r.2.mem ((c.tc : Thread Cert.ParBackRefIdeal.nD Cert.ParBackRefIdeal.τ).loc Cert.ParBackRefIdeal.main_arg8) = m' ((c.tc : Thread Cert.ParBackRefIdeal.nD Cert.ParBackRefIdeal.τ).loc Cert.ParBackRefIdeal.main_arg8)
          ∧ r.2.mem ((c.tc : Thread Cert.ParBackRefIdeal.nD Cert.ParBackRefIdeal.τ).loc Cert.ParBackRefIdeal.main_arg9) = m' ((c.tc : Thread Cert.ParBackRefIdeal.nD Cert.ParBackRefIdeal.τ).loc Cert.ParBackRefIdeal.main_arg9)
          ∧ r.2.mem ((c.tc : Thread Cert.ParBackRefIdeal.nD Cert.ParBackRefIdeal.τ).loc Cert.ParBackRefIdeal.main_arg10) = m' ((c.tc : Thread Cert.ParBackRefIdeal.nD Cert.ParBackRefIdeal.τ).loc Cert.ParBackRefIdeal.main_arg10))

def preserves_MixBack_MixBackIdeal : Prop :=
  IdealRules.named_const.Statement Cert.MixBackIdeal.κ "gelu_k" .f32 0x3D372713#32 ((8943 / 200000 : ℝ) : EReal)
  ∧ IdealRules.named_const.Statement Cert.MixBackIdeal.κ "gelu_3k" .f32 0x3E095D4F#32 ((26829 / 200000 : ℝ) : EReal)

def algebraic_MixBackIdeal_MixBackRefIdeal_pre_finite_mix [hMixBackIdeal : Cert.MixBackIdeal.Facts] [hMixBackRefIdeal : Cert.MixBackRefIdeal.Facts] [hPre_finite_mix : Cert.Pre_finite_mix.Facts] : Prop :=
  ∀ (m : (ℓ : Loc Cert.MixBackIdeal.nD Cert.MixBackIdeal.τ Cert.MixBackIdeal.sig) → Buf (Elt Ideal) ℓ) (g : Dev Cert.MixBackIdeal.nD → PrngReg)
    (m' : (ℓ : Loc Cert.MixBackRefIdeal.nD Cert.MixBackRefIdeal.τ Cert.MixBackRefIdeal.sig) → Buf (Elt Ideal) ℓ) (g' : Dev Cert.MixBackRefIdeal.nD → PrngReg), Pre_MixBackIdeal_finite_mix m →
    (∀ c : Dev Cert.MixBackIdeal.nD,
      m' ((c.tc : Thread Cert.MixBackRefIdeal.nD Cert.MixBackRefIdeal.τ).loc Cert.MixBackRefIdeal.main_arg0) = m ((c.tc : Thread Cert.MixBackIdeal.nD Cert.MixBackIdeal.τ).loc Cert.MixBackIdeal.main_arg0)
      ∧ m' ((c.tc : Thread Cert.MixBackRefIdeal.nD Cert.MixBackRefIdeal.τ).loc Cert.MixBackRefIdeal.main_arg1) = m ((c.tc : Thread Cert.MixBackIdeal.nD Cert.MixBackIdeal.τ).loc Cert.MixBackIdeal.main_arg1)
      ∧ m' ((c.tc : Thread Cert.MixBackRefIdeal.nD Cert.MixBackRefIdeal.τ).loc Cert.MixBackRefIdeal.main_arg2) = m ((c.tc : Thread Cert.MixBackIdeal.nD Cert.MixBackIdeal.τ).loc Cert.MixBackIdeal.main_arg2)
      ∧ m' ((c.tc : Thread Cert.MixBackRefIdeal.nD Cert.MixBackRefIdeal.τ).loc Cert.MixBackRefIdeal.main_arg3) = m ((c.tc : Thread Cert.MixBackIdeal.nD Cert.MixBackIdeal.τ).loc Cert.MixBackIdeal.main_arg3)
      ∧ m' ((c.tc : Thread Cert.MixBackRefIdeal.nD Cert.MixBackRefIdeal.τ).loc Cert.MixBackRefIdeal.main_arg4) = m ((c.tc : Thread Cert.MixBackIdeal.nD Cert.MixBackIdeal.τ).loc Cert.MixBackIdeal.main_arg4)
      ∧ m' ((c.tc : Thread Cert.MixBackRefIdeal.nD Cert.MixBackRefIdeal.τ).loc Cert.MixBackRefIdeal.main_arg5) = m ((c.tc : Thread Cert.MixBackIdeal.nD Cert.MixBackIdeal.τ).loc Cert.MixBackIdeal.main_arg5)
      ∧ m' ((c.tc : Thread Cert.MixBackRefIdeal.nD Cert.MixBackRefIdeal.τ).loc Cert.MixBackRefIdeal.main_arg6) = m ((c.tc : Thread Cert.MixBackIdeal.nD Cert.MixBackIdeal.τ).loc Cert.MixBackIdeal.main_arg6)
      ∧ m' ((c.tc : Thread Cert.MixBackRefIdeal.nD Cert.MixBackRefIdeal.τ).loc Cert.MixBackRefIdeal.main_arg7) = m ((c.tc : Thread Cert.MixBackIdeal.nD Cert.MixBackIdeal.τ).loc Cert.MixBackIdeal.main_arg7)
      ∧ m' ((c.tc : Thread Cert.MixBackRefIdeal.nD Cert.MixBackRefIdeal.τ).loc Cert.MixBackRefIdeal.main_arg8) = m ((c.tc : Thread Cert.MixBackIdeal.nD Cert.MixBackIdeal.τ).loc Cert.MixBackIdeal.main_arg8)
      ∧ m' ((c.tc : Thread Cert.MixBackRefIdeal.nD Cert.MixBackRefIdeal.τ).loc Cert.MixBackRefIdeal.main_arg9) = m ((c.tc : Thread Cert.MixBackIdeal.nD Cert.MixBackIdeal.τ).loc Cert.MixBackIdeal.main_arg9)
      ∧ m' ((c.tc : Thread Cert.MixBackRefIdeal.nD Cert.MixBackRefIdeal.τ).loc Cert.MixBackRefIdeal.main_arg10) = m ((c.tc : Thread Cert.MixBackIdeal.nD Cert.MixBackIdeal.τ).loc Cert.MixBackIdeal.main_arg10)
      ∧ m' ((c.tc : Thread Cert.MixBackRefIdeal.nD Cert.MixBackRefIdeal.τ).loc Cert.MixBackRefIdeal.main_arg11) = m ((c.tc : Thread Cert.MixBackIdeal.nD Cert.MixBackIdeal.τ).loc Cert.MixBackIdeal.main_arg11)
      ∧ m' ((c.tc : Thread Cert.MixBackRefIdeal.nD Cert.MixBackRefIdeal.τ).loc Cert.MixBackRefIdeal.main_arg12) = m ((c.tc : Thread Cert.MixBackIdeal.nD Cert.MixBackIdeal.τ).loc Cert.MixBackIdeal.main_arg12)
      ∧ m' ((c.tc : Thread Cert.MixBackRefIdeal.nD Cert.MixBackRefIdeal.τ).loc Cert.MixBackRefIdeal.main_arg13) = m ((c.tc : Thread Cert.MixBackIdeal.nD Cert.MixBackIdeal.τ).loc Cert.MixBackIdeal.main_arg13)) →
    ∃ (v0 : (c : Dev Cert.MixBackIdeal.nD) → Buf (Elt Ideal) ((c.tc : Thread Cert.MixBackIdeal.nD Cert.MixBackIdeal.τ).loc Cert.MixBackIdeal.main_v16_0)) (v1 : (c : Dev Cert.MixBackIdeal.nD) → Buf (Elt Ideal) ((c.tc : Thread Cert.MixBackIdeal.nD Cert.MixBackIdeal.τ).loc Cert.MixBackIdeal.main_v16_1)) (v2 : (c : Dev Cert.MixBackIdeal.nD) → Buf (Elt Ideal) ((c.tc : Thread Cert.MixBackIdeal.nD Cert.MixBackIdeal.τ).loc Cert.MixBackIdeal.main_v16_2)) (v3 : (c : Dev Cert.MixBackIdeal.nD) → Buf (Elt Ideal) ((c.tc : Thread Cert.MixBackIdeal.nD Cert.MixBackIdeal.τ).loc Cert.MixBackIdeal.main_v16_3)) (v4 : (c : Dev Cert.MixBackIdeal.nD) → Buf (Elt Ideal) ((c.tc : Thread Cert.MixBackIdeal.nD Cert.MixBackIdeal.τ).loc Cert.MixBackIdeal.main_v16_4)) (v5 : (c : Dev Cert.MixBackIdeal.nD) → Buf (Elt Ideal) ((c.tc : Thread Cert.MixBackIdeal.nD Cert.MixBackIdeal.τ).loc Cert.MixBackIdeal.main_v16_5)) (v6 : (c : Dev Cert.MixBackIdeal.nD) → Buf (Elt Ideal) ((c.tc : Thread Cert.MixBackIdeal.nD Cert.MixBackIdeal.τ).loc Cert.MixBackIdeal.main_v16_6)) (v7 : (c : Dev Cert.MixBackIdeal.nD) → Buf (Elt Ideal) ((c.tc : Thread Cert.MixBackIdeal.nD Cert.MixBackIdeal.τ).loc Cert.MixBackIdeal.main_v16_7)) (v8 : (c : Dev Cert.MixBackIdeal.nD) → Buf (Elt Ideal) ((c.tc : Thread Cert.MixBackIdeal.nD Cert.MixBackIdeal.τ).loc Cert.MixBackIdeal.main_v16_8)) (v9 : (c : Dev Cert.MixBackIdeal.nD) → Buf (Elt Ideal) ((c.tc : Thread Cert.MixBackIdeal.nD Cert.MixBackIdeal.τ).loc Cert.MixBackIdeal.main_v16_9)) (v10 : (c : Dev Cert.MixBackIdeal.nD) → Buf (Elt Ideal) ((c.tc : Thread Cert.MixBackIdeal.nD Cert.MixBackIdeal.τ).loc Cert.MixBackIdeal.main_v16_10)) (v11 : (c : Dev Cert.MixBackIdeal.nD) → Buf (Elt Ideal) ((c.tc : Thread Cert.MixBackIdeal.nD Cert.MixBackIdeal.τ).loc Cert.MixBackIdeal.main_v16_11)) (v12 : (c : Dev Cert.MixBackIdeal.nD) → Buf (Elt Ideal) ((c.tc : Thread Cert.MixBackIdeal.nD Cert.MixBackIdeal.τ).loc Cert.MixBackIdeal.main_v16_12)) (v13 : (c : Dev Cert.MixBackIdeal.nD) → Buf (Elt Ideal) ((c.tc : Thread Cert.MixBackIdeal.nD Cert.MixBackIdeal.τ).loc Cert.MixBackIdeal.main_v16_13)) (v14 : (c : Dev Cert.MixBackIdeal.nD) → Buf (Elt Ideal) ((c.tc : Thread Cert.MixBackIdeal.nD Cert.MixBackIdeal.τ).loc Cert.MixBackIdeal.main_v16_14)) (v15 : (c : Dev Cert.MixBackIdeal.nD) → Buf (Elt Ideal) ((c.tc : Thread Cert.MixBackIdeal.nD Cert.MixBackIdeal.τ).loc Cert.MixBackIdeal.main_v16_15)) (v16 : (c : Dev Cert.MixBackIdeal.nD) → Buf (Elt Ideal) ((c.tc : Thread Cert.MixBackIdeal.nD Cert.MixBackIdeal.τ).loc Cert.MixBackIdeal.main_v16_16)),
      θ_run (Cert.MixBackIdeal.defs (F := Ideal)) (onTc (τ := Cert.MixBackIdeal.τ) (Cert.MixBackIdeal.main (F := Ideal))) ⟨m, fun _ => 0, g⟩ (fun r => ∀ c : Dev Cert.MixBackIdeal.nD,
          r.2.mem ((c.tc : Thread Cert.MixBackIdeal.nD Cert.MixBackIdeal.τ).loc Cert.MixBackIdeal.main_v16_0) = v0 c
          ∧ r.2.mem ((c.tc : Thread Cert.MixBackIdeal.nD Cert.MixBackIdeal.τ).loc Cert.MixBackIdeal.main_v16_1) = v1 c
          ∧ r.2.mem ((c.tc : Thread Cert.MixBackIdeal.nD Cert.MixBackIdeal.τ).loc Cert.MixBackIdeal.main_v16_2) = v2 c
          ∧ r.2.mem ((c.tc : Thread Cert.MixBackIdeal.nD Cert.MixBackIdeal.τ).loc Cert.MixBackIdeal.main_v16_3) = v3 c
          ∧ r.2.mem ((c.tc : Thread Cert.MixBackIdeal.nD Cert.MixBackIdeal.τ).loc Cert.MixBackIdeal.main_v16_4) = v4 c
          ∧ r.2.mem ((c.tc : Thread Cert.MixBackIdeal.nD Cert.MixBackIdeal.τ).loc Cert.MixBackIdeal.main_v16_5) = v5 c
          ∧ r.2.mem ((c.tc : Thread Cert.MixBackIdeal.nD Cert.MixBackIdeal.τ).loc Cert.MixBackIdeal.main_v16_6) = v6 c
          ∧ r.2.mem ((c.tc : Thread Cert.MixBackIdeal.nD Cert.MixBackIdeal.τ).loc Cert.MixBackIdeal.main_v16_7) = v7 c
          ∧ r.2.mem ((c.tc : Thread Cert.MixBackIdeal.nD Cert.MixBackIdeal.τ).loc Cert.MixBackIdeal.main_v16_8) = v8 c
          ∧ r.2.mem ((c.tc : Thread Cert.MixBackIdeal.nD Cert.MixBackIdeal.τ).loc Cert.MixBackIdeal.main_v16_9) = v9 c
          ∧ r.2.mem ((c.tc : Thread Cert.MixBackIdeal.nD Cert.MixBackIdeal.τ).loc Cert.MixBackIdeal.main_v16_10) = v10 c
          ∧ r.2.mem ((c.tc : Thread Cert.MixBackIdeal.nD Cert.MixBackIdeal.τ).loc Cert.MixBackIdeal.main_v16_11) = v11 c
          ∧ r.2.mem ((c.tc : Thread Cert.MixBackIdeal.nD Cert.MixBackIdeal.τ).loc Cert.MixBackIdeal.main_v16_12) = v12 c
          ∧ r.2.mem ((c.tc : Thread Cert.MixBackIdeal.nD Cert.MixBackIdeal.τ).loc Cert.MixBackIdeal.main_v16_13) = v13 c
          ∧ r.2.mem ((c.tc : Thread Cert.MixBackIdeal.nD Cert.MixBackIdeal.τ).loc Cert.MixBackIdeal.main_v16_14) = v14 c
          ∧ r.2.mem ((c.tc : Thread Cert.MixBackIdeal.nD Cert.MixBackIdeal.τ).loc Cert.MixBackIdeal.main_v16_15) = v15 c
          ∧ r.2.mem ((c.tc : Thread Cert.MixBackIdeal.nD Cert.MixBackIdeal.τ).loc Cert.MixBackIdeal.main_v16_16) = v16 c
          ∧ r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
          ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
          ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
          ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
          ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4)
          ∧ r.2.mem ((c.tc : Thread Cert.MixBackIdeal.nD Cert.MixBackIdeal.τ).loc Cert.MixBackIdeal.main_arg5) = m ((c.tc : Thread Cert.MixBackIdeal.nD Cert.MixBackIdeal.τ).loc Cert.MixBackIdeal.main_arg5)
          ∧ r.2.mem ((c.tc : Thread Cert.MixBackIdeal.nD Cert.MixBackIdeal.τ).loc Cert.MixBackIdeal.main_arg6) = m ((c.tc : Thread Cert.MixBackIdeal.nD Cert.MixBackIdeal.τ).loc Cert.MixBackIdeal.main_arg6)
          ∧ r.2.mem ((c.tc : Thread Cert.MixBackIdeal.nD Cert.MixBackIdeal.τ).loc Cert.MixBackIdeal.main_arg7) = m ((c.tc : Thread Cert.MixBackIdeal.nD Cert.MixBackIdeal.τ).loc Cert.MixBackIdeal.main_arg7)
          ∧ r.2.mem ((c.tc : Thread Cert.MixBackIdeal.nD Cert.MixBackIdeal.τ).loc Cert.MixBackIdeal.main_arg8) = m ((c.tc : Thread Cert.MixBackIdeal.nD Cert.MixBackIdeal.τ).loc Cert.MixBackIdeal.main_arg8)
          ∧ r.2.mem ((c.tc : Thread Cert.MixBackIdeal.nD Cert.MixBackIdeal.τ).loc Cert.MixBackIdeal.main_arg9) = m ((c.tc : Thread Cert.MixBackIdeal.nD Cert.MixBackIdeal.τ).loc Cert.MixBackIdeal.main_arg9)
          ∧ r.2.mem ((c.tc : Thread Cert.MixBackIdeal.nD Cert.MixBackIdeal.τ).loc Cert.MixBackIdeal.main_arg10) = m ((c.tc : Thread Cert.MixBackIdeal.nD Cert.MixBackIdeal.τ).loc Cert.MixBackIdeal.main_arg10)
          ∧ r.2.mem ((c.tc : Thread Cert.MixBackIdeal.nD Cert.MixBackIdeal.τ).loc Cert.MixBackIdeal.main_arg11) = m ((c.tc : Thread Cert.MixBackIdeal.nD Cert.MixBackIdeal.τ).loc Cert.MixBackIdeal.main_arg11)
          ∧ r.2.mem ((c.tc : Thread Cert.MixBackIdeal.nD Cert.MixBackIdeal.τ).loc Cert.MixBackIdeal.main_arg12) = m ((c.tc : Thread Cert.MixBackIdeal.nD Cert.MixBackIdeal.τ).loc Cert.MixBackIdeal.main_arg12)
          ∧ r.2.mem ((c.tc : Thread Cert.MixBackIdeal.nD Cert.MixBackIdeal.τ).loc Cert.MixBackIdeal.main_arg13) = m ((c.tc : Thread Cert.MixBackIdeal.nD Cert.MixBackIdeal.τ).loc Cert.MixBackIdeal.main_arg13))
      ∧ θ_run (Cert.MixBackRefIdeal.defs (F := Ideal)) (onTc (τ := Cert.MixBackRefIdeal.τ) (Cert.MixBackRefIdeal.main (F := Ideal))) ⟨m', fun _ => 0, g'⟩ (fun r => ∀ c : Dev Cert.MixBackRefIdeal.nD,
          r.2.mem ((c.tc : Thread Cert.MixBackRefIdeal.nD Cert.MixBackRefIdeal.τ).loc Cert.MixBackRefIdeal.main_v173) = v0 c
          ∧ r.2.mem ((c.tc : Thread Cert.MixBackRefIdeal.nD Cert.MixBackRefIdeal.τ).loc Cert.MixBackRefIdeal.main_v174) = v1 c
          ∧ r.2.mem ((c.tc : Thread Cert.MixBackRefIdeal.nD Cert.MixBackRefIdeal.τ).loc Cert.MixBackRefIdeal.main_v175) = v2 c
          ∧ r.2.mem ((c.tc : Thread Cert.MixBackRefIdeal.nD Cert.MixBackRefIdeal.τ).loc Cert.MixBackRefIdeal.main_v177) = v3 c
          ∧ r.2.mem ((c.tc : Thread Cert.MixBackRefIdeal.nD Cert.MixBackRefIdeal.τ).loc Cert.MixBackRefIdeal.main_v178) = v4 c
          ∧ r.2.mem ((c.tc : Thread Cert.MixBackRefIdeal.nD Cert.MixBackRefIdeal.τ).loc Cert.MixBackRefIdeal.main_v180) = v5 c
          ∧ r.2.mem ((c.tc : Thread Cert.MixBackRefIdeal.nD Cert.MixBackRefIdeal.τ).loc Cert.MixBackRefIdeal.main_v181) = v6 c
          ∧ r.2.mem ((c.tc : Thread Cert.MixBackRefIdeal.nD Cert.MixBackRefIdeal.τ).loc Cert.MixBackRefIdeal.main_v152) = v7 c
          ∧ r.2.mem ((c.tc : Thread Cert.MixBackRefIdeal.nD Cert.MixBackRefIdeal.τ).loc Cert.MixBackRefIdeal.main_v182) = v8 c
          ∧ r.2.mem ((c.tc : Thread Cert.MixBackRefIdeal.nD Cert.MixBackRefIdeal.τ).loc Cert.MixBackRefIdeal.main_v133) = v9 c
          ∧ r.2.mem ((c.tc : Thread Cert.MixBackRefIdeal.nD Cert.MixBackRefIdeal.τ).loc Cert.MixBackRefIdeal.main_v183) = v10 c
          ∧ r.2.mem ((c.tc : Thread Cert.MixBackRefIdeal.nD Cert.MixBackRefIdeal.τ).loc Cert.MixBackRefIdeal.main_v107) = v11 c
          ∧ r.2.mem ((c.tc : Thread Cert.MixBackRefIdeal.nD Cert.MixBackRefIdeal.τ).loc Cert.MixBackRefIdeal.main_v184) = v12 c
          ∧ r.2.mem ((c.tc : Thread Cert.MixBackRefIdeal.nD Cert.MixBackRefIdeal.τ).loc Cert.MixBackRefIdeal.main_v186) = v13 c
          ∧ r.2.mem ((c.tc : Thread Cert.MixBackRefIdeal.nD Cert.MixBackRefIdeal.τ).loc Cert.MixBackRefIdeal.main_v188) = v14 c
          ∧ r.2.mem ((c.tc : Thread Cert.MixBackRefIdeal.nD Cert.MixBackRefIdeal.τ).loc Cert.MixBackRefIdeal.main_v189) = v15 c
          ∧ r.2.mem ((c.tc : Thread Cert.MixBackRefIdeal.nD Cert.MixBackRefIdeal.τ).loc Cert.MixBackRefIdeal.main_v191) = v16 c
          ∧ r.2.mem ((c.tc : Thread Cert.MixBackRefIdeal.nD Cert.MixBackRefIdeal.τ).loc Cert.MixBackRefIdeal.main_arg0) = m' ((c.tc : Thread Cert.MixBackRefIdeal.nD Cert.MixBackRefIdeal.τ).loc Cert.MixBackRefIdeal.main_arg0)
          ∧ r.2.mem ((c.tc : Thread Cert.MixBackRefIdeal.nD Cert.MixBackRefIdeal.τ).loc Cert.MixBackRefIdeal.main_arg1) = m' ((c.tc : Thread Cert.MixBackRefIdeal.nD Cert.MixBackRefIdeal.τ).loc Cert.MixBackRefIdeal.main_arg1)
          ∧ r.2.mem ((c.tc : Thread Cert.MixBackRefIdeal.nD Cert.MixBackRefIdeal.τ).loc Cert.MixBackRefIdeal.main_arg2) = m' ((c.tc : Thread Cert.MixBackRefIdeal.nD Cert.MixBackRefIdeal.τ).loc Cert.MixBackRefIdeal.main_arg2)
          ∧ r.2.mem ((c.tc : Thread Cert.MixBackRefIdeal.nD Cert.MixBackRefIdeal.τ).loc Cert.MixBackRefIdeal.main_arg3) = m' ((c.tc : Thread Cert.MixBackRefIdeal.nD Cert.MixBackRefIdeal.τ).loc Cert.MixBackRefIdeal.main_arg3)
          ∧ r.2.mem ((c.tc : Thread Cert.MixBackRefIdeal.nD Cert.MixBackRefIdeal.τ).loc Cert.MixBackRefIdeal.main_arg4) = m' ((c.tc : Thread Cert.MixBackRefIdeal.nD Cert.MixBackRefIdeal.τ).loc Cert.MixBackRefIdeal.main_arg4)
          ∧ r.2.mem ((c.tc : Thread Cert.MixBackRefIdeal.nD Cert.MixBackRefIdeal.τ).loc Cert.MixBackRefIdeal.main_arg5) = m' ((c.tc : Thread Cert.MixBackRefIdeal.nD Cert.MixBackRefIdeal.τ).loc Cert.MixBackRefIdeal.main_arg5)
          ∧ r.2.mem ((c.tc : Thread Cert.MixBackRefIdeal.nD Cert.MixBackRefIdeal.τ).loc Cert.MixBackRefIdeal.main_arg6) = m' ((c.tc : Thread Cert.MixBackRefIdeal.nD Cert.MixBackRefIdeal.τ).loc Cert.MixBackRefIdeal.main_arg6)
          ∧ r.2.mem ((c.tc : Thread Cert.MixBackRefIdeal.nD Cert.MixBackRefIdeal.τ).loc Cert.MixBackRefIdeal.main_arg7) = m' ((c.tc : Thread Cert.MixBackRefIdeal.nD Cert.MixBackRefIdeal.τ).loc Cert.MixBackRefIdeal.main_arg7)
          ∧ r.2.mem ((c.tc : Thread Cert.MixBackRefIdeal.nD Cert.MixBackRefIdeal.τ).loc Cert.MixBackRefIdeal.main_arg8) = m' ((c.tc : Thread Cert.MixBackRefIdeal.nD Cert.MixBackRefIdeal.τ).loc Cert.MixBackRefIdeal.main_arg8)
          ∧ r.2.mem ((c.tc : Thread Cert.MixBackRefIdeal.nD Cert.MixBackRefIdeal.τ).loc Cert.MixBackRefIdeal.main_arg9) = m' ((c.tc : Thread Cert.MixBackRefIdeal.nD Cert.MixBackRefIdeal.τ).loc Cert.MixBackRefIdeal.main_arg9)
          ∧ r.2.mem ((c.tc : Thread Cert.MixBackRefIdeal.nD Cert.MixBackRefIdeal.τ).loc Cert.MixBackRefIdeal.main_arg10) = m' ((c.tc : Thread Cert.MixBackRefIdeal.nD Cert.MixBackRefIdeal.τ).loc Cert.MixBackRefIdeal.main_arg10)
          ∧ r.2.mem ((c.tc : Thread Cert.MixBackRefIdeal.nD Cert.MixBackRefIdeal.τ).loc Cert.MixBackRefIdeal.main_arg11) = m' ((c.tc : Thread Cert.MixBackRefIdeal.nD Cert.MixBackRefIdeal.τ).loc Cert.MixBackRefIdeal.main_arg11)
          ∧ r.2.mem ((c.tc : Thread Cert.MixBackRefIdeal.nD Cert.MixBackRefIdeal.τ).loc Cert.MixBackRefIdeal.main_arg12) = m' ((c.tc : Thread Cert.MixBackRefIdeal.nD Cert.MixBackRefIdeal.τ).loc Cert.MixBackRefIdeal.main_arg12)
          ∧ r.2.mem ((c.tc : Thread Cert.MixBackRefIdeal.nD Cert.MixBackRefIdeal.τ).loc Cert.MixBackRefIdeal.main_arg13) = m' ((c.tc : Thread Cert.MixBackRefIdeal.nD Cert.MixBackRefIdeal.τ).loc Cert.MixBackRefIdeal.main_arg13))

def Claim : Prop :=
  ∃ (hInBack : Cert.InBack.Facts) (hInBackIdeal : Cert.InBackIdeal.Facts) (hInBackRefIdeal : Cert.InBackRefIdeal.Facts) (hAttBack : Cert.AttBack.Facts) (hAttBackIdeal : Cert.AttBackIdeal.Facts) (hAttBackRefIdeal : Cert.AttBackRefIdeal.Facts) (hParBack : Cert.ParBack.Facts) (hParBackIdeal : Cert.ParBackIdeal.Facts) (hParBackRefIdeal : Cert.ParBackRefIdeal.Facts) (hMixBack : Cert.MixBack.Facts) (hMixBackIdeal : Cert.MixBackIdeal.Facts) (hMixBackRefIdeal : Cert.MixBackRefIdeal.Facts) (hPre_finite_in : Cert.Pre_finite_in.Facts) (hPre_finite_att : Cert.Pre_finite_att.Facts) (hPre_nonzero_lam : Cert.Pre_nonzero_lam.Facts) (hPre_finite_mix : Cert.Pre_finite_mix.Facts),
    quiescent_InBack (hInBack := hInBack)
    ∧ quiescent_InBackIdeal (hInBackIdeal := hInBackIdeal)
    ∧ quiescent_InBackIdeal_pre_finite_in (hInBackIdeal := hInBackIdeal) (hPre_finite_in := hPre_finite_in)
    ∧ quiescent_InBackRefIdeal (hInBackRefIdeal := hInBackRefIdeal)
    ∧ quiescent_InBackRefIdeal_pre_finite_in (hInBackRefIdeal := hInBackRefIdeal) (hPre_finite_in := hPre_finite_in)
    ∧ quiescent_AttBack (hAttBack := hAttBack)
    ∧ quiescent_AttBackIdeal (hAttBackIdeal := hAttBackIdeal)
    ∧ quiescent_AttBackIdeal_pre_finite_att (hAttBackIdeal := hAttBackIdeal) (hPre_finite_att := hPre_finite_att)
    ∧ quiescent_AttBackRefIdeal (hAttBackRefIdeal := hAttBackRefIdeal)
    ∧ quiescent_AttBackRefIdeal_pre_finite_att (hAttBackRefIdeal := hAttBackRefIdeal) (hPre_finite_att := hPre_finite_att)
    ∧ quiescent_ParBack (hParBack := hParBack)
    ∧ quiescent_ParBackIdeal (hParBackIdeal := hParBackIdeal)
    ∧ quiescent_ParBackIdeal_pre_nonzero_lam (hParBackIdeal := hParBackIdeal) (hPre_nonzero_lam := hPre_nonzero_lam)
    ∧ quiescent_ParBackRefIdeal (hParBackRefIdeal := hParBackRefIdeal)
    ∧ quiescent_ParBackRefIdeal_pre_nonzero_lam (hParBackRefIdeal := hParBackRefIdeal) (hPre_nonzero_lam := hPre_nonzero_lam)
    ∧ quiescent_MixBack (hMixBack := hMixBack)
    ∧ quiescent_MixBackIdeal (hMixBackIdeal := hMixBackIdeal)
    ∧ quiescent_MixBackIdeal_pre_finite_mix (hMixBackIdeal := hMixBackIdeal) (hPre_finite_mix := hPre_finite_mix)
    ∧ quiescent_MixBackRefIdeal (hMixBackRefIdeal := hMixBackRefIdeal)
    ∧ quiescent_MixBackRefIdeal_pre_finite_mix (hMixBackRefIdeal := hMixBackRefIdeal) (hPre_finite_mix := hPre_finite_mix)
    ∧ preserves_InBack_InBackIdeal
    ∧ algebraic_InBackIdeal_InBackRefIdeal_pre_finite_in (hInBackIdeal := hInBackIdeal) (hInBackRefIdeal := hInBackRefIdeal) (hPre_finite_in := hPre_finite_in)
    ∧ preserves_AttBack_AttBackIdeal
    ∧ algebraic_AttBackIdeal_AttBackRefIdeal_pre_finite_att (hAttBackIdeal := hAttBackIdeal) (hAttBackRefIdeal := hAttBackRefIdeal) (hPre_finite_att := hPre_finite_att)
    ∧ preserves_ParBack_ParBackIdeal
    ∧ algebraic_ParBackIdeal_ParBackRefIdeal_pre_nonzero_lam (hParBackIdeal := hParBackIdeal) (hParBackRefIdeal := hParBackRefIdeal) (hPre_nonzero_lam := hPre_nonzero_lam)
    ∧ preserves_MixBack_MixBackIdeal
    ∧ algebraic_MixBackIdeal_MixBackRefIdeal_pre_finite_mix (hMixBackIdeal := hMixBackIdeal) (hMixBackRefIdeal := hMixBackRefIdeal) (hPre_finite_mix := hPre_finite_mix)
-- ==== Pre_finite_att.lean ====
abbrev S2x2048x512 : Shape := ⟨3, ![2, 2048, 512]⟩
abbrev S2x2048x128 : Shape := ⟨3, ![2, 2048, 128]⟩
abbrev S1x8 : Shape := ⟨2, ![1, 8]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S2x2048x128 : S_.BroadcastsInDim S2x2048x128 (![] : Fin 0 → Fin S2x2048x128.rank)
  reducesTo_S2x2048x128_S_d0_1_2 : S2x2048x128.ReducesTo [0, 1, 2] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_arg4 : FVec F S2x2048x512 .f32) (main_v13 : IVec S_ 1) (main_v16 : IVec S1x8 1) : IVec S_ 1 :=
  let main_c_5 : IVec S_ 1 := constantI S_ 1 1#1
  let main_v17 : IVec S_ 1 := (fun x v => Host.reduce IntOp.andi x v reducesTo_S1x8_S_d0_1 h_S_) main_v16 main_c_5
  let main_v18 : IVec S_ 1 := andi main_v13 main_v17
  let main_v19 : FVec F S2x2048x512 .f32 := Host.absf main_arg4
  let main_cst_6 : FVec F S_ .f32 := constant S_ .f32 0x7F800000#32
  let main_v20 : FVec F S2x2048x512 .f32 := broadcastInDim S2x2048x512 ![] bcast_S_S2x2048x512 main_cst_6
  let main_v21 : IVec S2x2048x512 1 := cmpf .olt main_v19 main_v20
  let main_c_7 : IVec S_ 1 := constantI S_ 1 1#1
  let main_v22 : IVec S_ 1 := (fun x v => Host.reduce IntOp.andi x v reducesTo_S2x2048x512_S_d0_1_2 h_S_) main_v21 main_c_7
  let main_v23 : IVec S_ 1 := andi main_v18 main_v22
  main_v23

def fn {F : FTy → Type} [FloatOps F] (main_arg0 : FVec F S2x2048x512 .f32) (main_arg1 : FVec F S2x2048x128 .f32) (main_arg2 : FVec F S2x2048x128 .f32) (main_arg3 : FVec F S1x8 .f32) (main_arg4 : FVec F S2x2048x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x2048x128 .f32 := Host.absf main_arg1
  let main_cst_0 : FVec F S_ .f32 := constant S_ .f32 0x7F800000#32
  let main_v5 : FVec F S2x2048x128 .f32 := broadcastInDim S2x2048x128 ![] bcast_S_S2x2048x128 main_cst_0
  let main_v6 : IVec S2x2048x128 1 := cmpf .olt main_v4 main_v5
  let main_c_1 : IVec S_ 1 := constantI S_ 1 1#1
  let main_v7 : IVec S_ 1 := (fun x v => Host.reduce IntOp.andi x v reducesTo_S2x2048x128_S_d0_1_2 h_S_) main_v6 main_c_1
  let main_v8 : IVec S_ 1 := andi main_v3 main_v7
  let main_v9 : FVec F S2x2048x128 .f32 := Host.absf main_arg2
  let main_cst_2 : FVec F S_ .f32 := constant S_ .f32 0x7F800000#32
  let main_v10 : FVec F S2x2048x128 .f32 := broadcastInDim S2x2048x128 ![] bcast_S_S2x2048x128 main_cst_2
  let main_v11 : IVec S2x2048x128 1 := cmpf .olt main_v9 main_v10
  let main_c_3 : IVec S_ 1 := constantI S_ 1 1#1
  let main_v12 : IVec S_ 1 := (fun x v => Host.reduce IntOp.andi x v reducesTo_S2x2048x128_S_d0_1_2 h_S_) main_v11 main_c_3
  let main_v13 : IVec S_ 1 := andi main_v8 main_v12
  let main_v14 : FVec F S1x8 .f32 := Host.absf main_arg3
  let main_cst_4 : FVec F S_ .f32 := constant S_ .f32 0x7F800000#32
  let main_v15 : FVec F S1x8 .f32 := broadcastInDim S1x8 ![] bcast_S_S1x8 main_cst_4
  let main_v16 : IVec S1x8 1 := cmpf .olt main_v14 main_v15
  fn_part1 (F := F) main_arg4 main_v13 main_v16
-- ==== Pre_finite_in.lean ====
abbrev S2x2048x1024 : Shape := ⟨3, ![2, 2048, 1024]⟩
abbrev S1x1024 : Shape := ⟨2, ![1, 1024]⟩
abbrev S1x1024x2304 : Shape := ⟨3, ![1, 1024, 2304]⟩
abbrev S2x2048x512 : Shape := ⟨3, ![2, 2048, 512]⟩
abbrev S2x2048x128 : Shape := ⟨3, ![2, 2048, 128]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2304 : S_.BroadcastsInDim S1x1024x2304 (![] : Fin 0 → Fin S1x1024x2304.rank)
  reducesTo_S1x1024x2304_S_d0_1_2 : S1x1024x2304.ReducesTo [0, 1, 2] S_
  bcast_S_S2x2048x512 : S_.BroadcastsInDim S2x2048x512 (![] : Fin 0 → Fin S2x2048x512.rank)
  reducesTo_S2x2048x512_S_d0_1_2 : S2x2048x512.ReducesTo [0, 1, 2] S_
  bcast_S_S2x2048x128 : S_.BroadcastsInDim S2x2048x128 (![] : Fin 0 → Fin S2x2048x128.rank)
  reducesTo_S2x2048x128_S_d0_1_2 : S2x2048x128.ReducesTo [0, 1, 2] S_

variable [Facts]

def fn_part2 {F : FTy → Type} [FloatOps F] (main_arg8 : FVec F S2x2048x128 .f32) (main_arg9 : FVec F S2x2048x512 .f32) (main_v33 : IVec S_ 1) : IVec S_ 1 :=
  let main_v34 : FVec F S2x2048x128 .f32 := Host.absf main_arg8
  let main_cst_12 : FVec F S_ .f32 := constant S_ .f32 0x7F800000#32
  let main_v35 : FVec F S2x2048x128 .f32 := broadcastInDim S2x2048x128 ![] bcast_S_S2x2048x128 main_cst_12
  let main_v36 : IVec S2x2048x128 1 := cmpf .olt main_v34 main_v35
  let main_c_13 : IVec S_ 1 := constantI S_ 1 1#1
  let main_v37 : IVec S_ 1 := (fun x v => Host.reduce IntOp.andi x v reducesTo_S2x2048x128_S_d0_1_2 h_S_) main_v36 main_c_13
  let main_v38 : IVec S_ 1 := andi main_v33 main_v37
  let main_v39 : FVec F S2x2048x512 .f32 := Host.absf main_arg9
  let main_cst_14 : FVec F S_ .f32 := constant S_ .f32 0x7F800000#32
  let main_v40 : FVec F S2x2048x512 .f32 := broadcastInDim S2x2048x512 ![] bcast_S_S2x2048x512 main_cst_14
  let main_v41 : IVec S2x2048x512 1 := cmpf .olt main_v39 main_v40
  let main_c_15 : IVec S_ 1 := constantI S_ 1 1#1
  let main_v42 : IVec S_ 1 := (fun x v => Host.reduce IntOp.andi x v reducesTo_S2x2048x512_S_d0_1_2 h_S_) main_v41 main_c_15
  let main_v43 : IVec S_ 1 := andi main_v38 main_v42
  main_v43

def fn_part1 {F : FTy → Type} [FloatOps F] (main_arg5 : FVec F S2x2048x512 .f32) (main_arg6 : FVec F S2x2048x512 .f32) (main_arg7 : FVec F S2x2048x128 .f32) (main_arg8 : FVec F S2x2048x128 .f32) (main_arg9 : FVec F S2x2048x512 .f32) (main_v13 : IVec S_ 1) (main_v16 : IVec S2x2048x512 1) : IVec S_ 1 :=
  let main_c_5 : IVec S_ 1 := constantI S_ 1 1#1
  let main_v17 : IVec S_ 1 := (fun x v => Host.reduce IntOp.andi x v reducesTo_S2x2048x512_S_d0_1_2 h_S_) main_v16 main_c_5
  let main_v18 : IVec S_ 1 := andi main_v13 main_v17
  let main_v19 : FVec F S2x2048x512 .f32 := Host.absf main_arg5
  let main_cst_6 : FVec F S_ .f32 := constant S_ .f32 0x7F800000#32
  let main_v20 : FVec F S2x2048x512 .f32 := broadcastInDim S2x2048x512 ![] bcast_S_S2x2048x512 main_cst_6
  let main_v21 : IVec S2x2048x512 1 := cmpf .olt main_v19 main_v20
  let main_c_7 : IVec S_ 1 := constantI S_ 1 1#1
  let main_v22 : IVec S_ 1 := (fun x v => Host.reduce IntOp.andi x v reducesTo_S2x2048x512_S_d0_1_2 h_S_) main_v21 main_c_7
  let main_v23 : IVec S_ 1 := andi main_v18 main_v22
  let main_v24 : FVec F S2x2048x512 .f32 := Host.absf main_arg6
  let main_cst_8 : FVec F S_ .f32 := constant S_ .f32 0x7F800000#32
  let main_v25 : FVec F S2x2048x512 .f32 := broadcastInDim S2x2048x512 ![] bcast_S_S2x2048x512 main_cst_8
  let main_v26 : IVec S2x2048x512 1 := cmpf .olt main_v24 main_v25
  let main_c_9 : IVec S_ 1 := constantI S_ 1 1#1
  let main_v27 : IVec S_ 1 := (fun x v => Host.reduce IntOp.andi x v reducesTo_S2x2048x512_S_d0_1_2 h_S_) main_v26 main_c_9
  let main_v28 : IVec S_ 1 := andi main_v23 main_v27
  let main_v29 : FVec F S2x2048x128 .f32 := Host.absf main_arg7
  let main_cst_10 : FVec F S_ .f32 := constant S_ .f32 0x7F800000#32
  let main_v30 : FVec F S2x2048x128 .f32 := broadcastInDim S2x2048x128 ![] bcast_S_S2x2048x128 main_cst_10
  let main_v31 : IVec S2x2048x128 1 := cmpf .olt main_v29 main_v30
  let main_c_11 : IVec S_ 1 := constantI S_ 1 1#1
  let main_v32 : IVec S_ 1 := (fun x v => Host.reduce IntOp.andi x v reducesTo_S2x2048x128_S_d0_1_2 h_S_) main_v31 main_c_11
  let main_v33 : IVec S_ 1 := andi main_v28 main_v32
  fn_part2 (F := F) main_arg8 main_arg9 main_v33

def fn {F : FTy → Type} [FloatOps F] (main_arg0 : FVec F S2x2048x1024 .f32) (main_arg1 : FVec F S1x1024 .f32) (main_arg2 : FVec F S1x1024x2304 .f32) (main_arg3 : FVec F S2x2048x1024 .f32) (main_arg4 : FVec F S2x2048x512 .f32) (main_arg5 : FVec F S2x2048x512 .f32) (main_arg6 : FVec F S2x2048x512 .f32) (main_arg7 : FVec F S2x2048x128 .f32) (main_arg8 : FVec F S2x2048x128 .f32) (main_arg9 : FVec F S2x2048x512 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2304 .f32 := Host.absf main_arg2
  let main_cst_2 : FVec F S_ .f32 := constant S_ .f32 0x7F800000#32
  let main_v10 : FVec F S1x1024x2304 .f32 := broadcastInDim S1x1024x2304 ![] bcast_S_S1x1024x2304 main_cst_2
  let main_v11 : IVec S1x1024x2304 1 := cmpf .olt main_v9 main_v10
  let main_c_3 : IVec S_ 1 := constantI S_ 1 1#1
  let main_v12 : IVec S_ 1 := (fun x v => Host.reduce IntOp.andi x v reducesTo_S1x1024x2304_S_d0_1_2 h_S_) main_v11 main_c_3
  let main_v13 : IVec S_ 1 := andi main_v8 main_v12
  let main_v14 : FVec F S2x2048x512 .f32 := Host.absf main_arg4
  let main_cst_4 : FVec F S_ .f32 := constant S_ .f32 0x7F800000#32
  let main_v15 : FVec F S2x2048x512 .f32 := broadcastInDim S2x2048x512 ![] bcast_S_S2x2048x512 main_cst_4
  let main_v16 : IVec S2x2048x512 1 := cmpf .olt main_v14 main_v15
  fn_part1 (F := F) main_arg5 main_arg6 main_arg7 main_arg8 main_arg9 main_v13 main_v16
-- ==== Pre_finite_mix.lean ====
abbrev S2x2048x1024 : Shape := ⟨3, ![2, 2048, 1024]⟩
abbrev S2x2048x512 : Shape := ⟨3, ![2, 2048, 512]⟩
abbrev S1x2x2048x256 : Shape := ⟨4, ![1, 2, 2048, 256]⟩
abbrev S1x512x512 : Shape := ⟨3, ![1, 512, 512]⟩
abbrev S1x512 : Shape := ⟨2, ![1, 512]⟩
abbrev S1x1024x1024 : Shape := ⟨3, ![1, 1024, 1024]⟩
abbrev S1x1024 : Shape := ⟨2, ![1, 1024]⟩
abbrev S1x256x1024 : Shape := ⟨3, ![1, 256, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x2048x512 : S_.BroadcastsInDim S2x2048x512 (![] : Fin 0 → Fin S2x2048x512.rank)
  reducesTo_S2x2048x512_S_d0_1_2 : S2x2048x512.ReducesTo [0, 1, 2] S_
  bcast_S_S1x2x2048x256 : S_.BroadcastsInDim S1x2x2048x256 (![] : Fin 0 → Fin S1x2x2048x256.rank)
  reducesTo_S1x2x2048x256_S_d0_1_2_3 : S1x2x2048x256.ReducesTo [0, 1, 2, 3] S_
  bcast_S_S1x512x512 : S_.BroadcastsInDim S1x512x512 (![] : Fin 0 → Fin S1x512x512.rank)
  reducesTo_S1x512x512_S_d0_1_2 : S1x512x512.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x256x1024 : S_.BroadcastsInDim S1x256x1024 (![] : Fin 0 → Fin S1x256x1024.rank)
  reducesTo_S1x256x1024_S_d0_1_2 : S1x256x1024.ReducesTo [0, 1, 2] S_

variable [Facts]

def fn_part3 {F : FTy → Type} [FloatOps F] (main_arg12 : FVec F S1x1024x1024 .f32) (main_v48 : IVec S_ 1) (main_v49 : FVec F S1x256x1024 .f32) (main_v50 : FVec F S1x256x1024 .f32) : IVec S_ 1 :=
  let main_v51 : IVec S1x256x1024 1 := cmpf .olt main_v49 main_v50
  let main_c_19 : IVec S_ 1 := constantI S_ 1 1#1
  let main_v52 : IVec S_ 1 := (fun x v => Host.reduce IntOp.andi x v reducesTo_S1x256x1024_S_d0_1_2 h_S_) main_v51 main_c_19
  let main_v53 : IVec S_ 1 := andi main_v48 main_v52
  let main_v54 : FVec F S1x1024x1024 .f32 := Host.absf main_arg12
  let main_cst_20 : FVec F S_ .f32 := constant S_ .f32 0x7F800000#32
  let main_v55 : FVec F S1x1024x1024 .f32 := broadcastInDim S1x1024x1024 ![] bcast_S_S1x1024x1024 main_cst_20
  let main_v56 : IVec S1x1024x1024 1 := cmpf .olt main_v54 main_v55
  let main_c_21 : IVec S_ 1 := constantI S_ 1 1#1
  let main_v57 : IVec S_ 1 := (fun x v => Host.reduce IntOp.andi x v reducesTo_S1x1024x1024_S_d0_1_2 h_S_) main_v56 main_c_21
  let main_v58 : IVec S_ 1 := andi main_v53 main_v57
  main_v58

def fn_part2 {F : FTy → Type} [FloatOps F] (main_arg7 : FVec F S1x512x512 .f32) (main_arg9 : FVec F S1x1024x1024 .f32) (main_arg10 : FVec F S1x1024 .f32) (main_arg11 : FVec F S1x256x1024 .f32) (main_arg12 : FVec F S1x1024x1024 .f32) (main_v33 : IVec S_ 1) : IVec S_ 1 :=
  let main_v34 : FVec F S1x512x512 .f32 := Host.absf main_arg7
  let main_cst_12 : FVec F S_ .f32 := constant S_ .f32 0x7F800000#32
  let main_v35 : FVec F S1x512x512 .f32 := broadcastInDim S1x512x512 ![] bcast_S_S1x512x512 main_cst_12
  let main_v36 : IVec S1x512x512 1 := cmpf .olt main_v34 main_v35
  let main_c_13 : IVec S_ 1 := constantI S_ 1 1#1
  let main_v37 : IVec S_ 1 := (fun x v => Host.reduce IntOp.andi x v reducesTo_S1x512x512_S_d0_1_2 h_S_) main_v36 main_c_13
  let main_v38 : IVec S_ 1 := andi main_v33 main_v37
  let main_v39 : FVec F S1x1024x1024 .f32 := Host.absf main_arg9
  let main_cst_14 : FVec F S_ .f32 := constant S_ .f32 0x7F800000#32
  let main_v40 : FVec F S1x1024x1024 .f32 := broadcastInDim S1x1024x1024 ![] bcast_S_S1x1024x1024 main_cst_14
  let main_v41 : IVec S1x1024x1024 1 := cmpf .olt main_v39 main_v40
  let main_c_15 : IVec S_ 1 := constantI S_ 1 1#1
  let main_v42 : IVec S_ 1 := (fun x v => Host.reduce IntOp.andi x v reducesTo_S1x1024x1024_S_d0_1_2 h_S_) main_v41 main_c_15
  let main_v43 : IVec S_ 1 := andi main_v38 main_v42
  let main_v44 : FVec F S1x1024 .f32 := Host.absf main_arg10
  let main_cst_16 : FVec F S_ .f32 := constant S_ .f32 0x7F800000#32
  let main_v45 : FVec F S1x1024 .f32 := broadcastInDim S1x1024 ![] bcast_S_S1x1024 main_cst_16
  let main_v46 : IVec S1x1024 1 := cmpf .olt main_v44 main_v45
  let main_c_17 : IVec S_ 1 := constantI S_ 1 1#1
  let main_v47 : IVec S_ 1 := (fun x v => Host.reduce IntOp.andi x v reducesTo_S1x1024_S_d0_1 h_S_) main_v46 main_c_17
  let main_v48 : IVec S_ 1 := andi main_v43 main_v47
  let main_v49 : FVec F S1x256x1024 .f32 := Host.absf main_arg11
  let main_cst_18 : FVec F S_ .f32 := constant S_ .f32 0x7F800000#32
  let main_v50 : FVec F S1x256x1024 .f32 := broadcastInDim S1x256x1024 ![] bcast_S_S1x256x1024 main_cst_18
  fn_part3 (F := F) main_arg12 main_v48 main_v49 main_v50

def fn_part1 {F : FTy → Type} [FloatOps F] (main_arg4 : FVec F S2x2048x512 .f32) (main_arg5 : FVec F S1x2x2048x256 .f32) (main_arg6 : FVec F S2x2048x1024 .f32) (main_arg7 : FVec F S1x512x512 .f32) (main_arg9 : FVec F S1x1024x1024 .f32) (main_arg10 : FVec F S1x1024 .f32) (main_arg11 : FVec F S1x256x1024 .f32) (main_arg12 : FVec F S1x1024x1024 .f32) (main_v13 : IVec S_ 1) (main_v16 : IVec S2x2048x512 1) : IVec S_ 1 :=
  let main_c_5 : IVec S_ 1 := constantI S_ 1 1#1
  let main_v17 : IVec S_ 1 := (fun x v => Host.reduce IntOp.andi x v reducesTo_S2x2048x512_S_d0_1_2 h_S_) main_v16 main_c_5
  let main_v18 : IVec S_ 1 := andi main_v13 main_v17
  let main_v19 : FVec F S2x2048x512 .f32 := Host.absf main_arg4
  let main_cst_6 : FVec F S_ .f32 := constant S_ .f32 0x7F800000#32
  let main_v20 : FVec F S2x2048x512 .f32 := broadcastInDim S2x2048x512 ![] bcast_S_S2x2048x512 main_cst_6
  let main_v21 : IVec S2x2048x512 1 := cmpf .olt main_v19 main_v20
  let main_c_7 : IVec S_ 1 := constantI S_ 1 1#1
  let main_v22 : IVec S_ 1 := (fun x v => Host.reduce IntOp.andi x v reducesTo_S2x2048x512_S_d0_1_2 h_S_) main_v21 main_c_7
  let main_v23 : IVec S_ 1 := andi main_v18 main_v22
  let main_v24 : FVec F S1x2x2048x256 .f32 := Host.absf main_arg5
  let main_cst_8 : FVec F S_ .f32 := constant S_ .f32 0x7F800000#32
  let main_v25 : FVec F S1x2x2048x256 .f32 := broadcastInDim S1x2x2048x256 ![] bcast_S_S1x2x2048x256 main_cst_8
  let main_v26 : IVec S1x2x2048x256 1 := cmpf .olt main_v24 main_v25
  let main_c_9 : IVec S_ 1 := constantI S_ 1 1#1
  let main_v27 : IVec S_ 1 := (fun x v => Host.reduce IntOp.andi x v reducesTo_S1x2x2048x256_S_d0_1_2_3 h_S_) main_v26 main_c_9
  let main_v28 : IVec S_ 1 := andi main_v23 main_v27
  let main_v29 : FVec F S2x2048x1024 .f32 := Host.absf main_arg6
  let main_cst_10 : FVec F S_ .f32 := constant S_ .f32 0x7F800000#32
  let main_v30 : FVec F S2x2048x1024 .f32 := broadcastInDim S2x2048x1024 ![] bcast_S_S2x2048x1024 main_cst_10
  let main_v31 : IVec S2x2048x1024 1 := cmpf .olt main_v29 main_v30
  let main_c_11 : IVec S_ 1 := constantI S_ 1 1#1
  let main_v32 : IVec S_ 1 := (fun x v => Host.reduce IntOp.andi x v reducesTo_S2x2048x1024_S_d0_1_2 h_S_) main_v31 main_c_11
  let main_v33 : IVec S_ 1 := andi main_v28 main_v32
  fn_part2 (F := F) main_arg7 main_arg9 main_arg10 main_arg11 main_arg12 main_v33

def fn {F : FTy → Type} [FloatOps F] (main_arg0 : FVec F S2x2048x1024 .f32) (main_arg1 : FVec F S2x2048x512 .f32) (main_arg2 : FVec F S2x2048x512 .f32) (main_arg3 : FVec F S2x2048x512 .f32) (main_arg4 : FVec F S2x2048x512 .f32) (main_arg5 : FVec F S1x2x2048x256 .f32) (main_arg6 : FVec F S2x2048x1024 .f32) (main_arg7 : FVec F S1x512x512 .f32) (main_arg8 : FVec F S1x512 .f32) (main_arg9 : FVec F S1x1024x1024 .f32) (main_arg10 : FVec F S1x1024 .f32) (main_arg11 : FVec F S1x256x1024 .f32) (main_arg12 : FVec F S1x1024x1024 .f32) (main_arg13 : FVec F S1x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : IVec S_ 1 := andi main_v3 main_v7
  let main_v9 : FVec F S2x2048x512 .f32 := Host.absf main_arg2
  let main_cst_2 : FVec F S_ .f32 := constant S_ .f32 0x7F800000#32
  let main_v10 : FVec F S2x2048x512 .f32 := broadcastInDim S2x2048x512 ![] bcast_S_S2x2048x512 main_cst_2
  let main_v11 : IVec S2x2048x512 1 := cmpf .olt main_v9 main_v10
  let main_c_3 : IVec S_ 1 := constantI S_ 1 1#1
  let main_v12 : IVec S_ 1 := (fun x v => Host.reduce IntOp.andi x v reducesTo_S2x2048x512_S_d0_1_2 h_S_) main_v11 main_c_3
  let main_v13 : IVec S_ 1 := andi main_v8 main_v12
  let main_v14 : FVec F S2x2048x512 .f32 := Host.absf main_arg3
  let main_cst_4 : FVec F S_ .f32 := constant S_ .f32 0x7F800000#32
  let main_v15 : FVec F S2x2048x512 .f32 := broadcastInDim S2x2048x512 ![] bcast_S_S2x2048x512 main_cst_4
  let main_v16 : IVec S2x2048x512 1 := cmpf .olt main_v14 main_v15
  fn_part1 (F := F) main_arg4 main_arg5 main_arg6 main_arg7 main_arg9 main_arg10 main_arg11 main_arg12 main_v13 main_v16
-- ==== Pre_nonzero_lam.lean ====
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S32x64 : Shape := ⟨2, ![32, 64]⟩
abbrev S4x128x1024 : Shape := ⟨3, ![4, 128, 1024]⟩
abbrev S_ : Shape := ⟨0, ![]⟩

class Facts : Prop where
  bcast_S_S1x32x64 : S_.BroadcastsInDim S1x32x64 (![] : Fin 0 → Fin S1x32x64.rank)
  reducesTo_S1x32x64_S_d0_1_2 : S1x32x64.ReducesTo [0, 1, 2] S_
  h_S_ : 0 < S_.numel
  bcast_S_S1x32 : S_.BroadcastsInDim S1x32 (![] : Fin 0 → Fin S1x32.rank)
  reducesTo_S1x32_S_d0_1 : S1x32.ReducesTo [0, 1] S_
  bcast_S_S1x32x64x16 : S_.BroadcastsInDim S1x32x64x16 (![] : Fin 0 → Fin S1x32x64x16.rank)
  reducesTo_S1x32x64x16_S_d0_1_2_3 : S1x32x64x16.ReducesTo [0, 1, 2, 3] S_
  bcast_S_S32x64 : S_.BroadcastsInDim S32x64 (![] : Fin 0 → Fin S32x64.rank)
  reducesTo_S32x64_S_d0_1 : S32x64.ReducesTo [0, 1] S_
  bcast_S_S4x128x1024 : S_.BroadcastsInDim S4x128x1024 (![] : Fin 0 → Fin S4x128x1024.rank)
  reducesTo_S4x128x1024_S_d0_1_2 : S4x128x1024.ReducesTo [0, 1, 2] S_

variable [Facts]

def fn_part2 {F : FTy → Type} [FloatOps F] (main_arg0 : FVec F S1x32x64 .f32) (main_arg1 : FVec F S1x32x64 .f32) (main_arg9 : FVec F S4x128x1024 .f32) (main_v33 : IVec S_ 1) : IVec S_ 1 :=
  let main_v34 : FVec F S4x128x1024 .f32 := Host.absf main_arg9
  let main_cst_12 : FVec F S_ .f32 := constant S_ .f32 0x7F800000#32
  let main_v35 : FVec F S4x128x1024 .f32 := broadcastInDim S4x128x1024 ![] bcast_S_S4x128x1024 main_cst_12
  let main_v36 : IVec S4x128x1024 1 := cmpf .olt main_v34 main_v35
  let main_c_13 : IVec S_ 1 := constantI S_ 1 1#1
  let main_v37 : IVec S_ 1 := (fun x v => Host.reduce IntOp.andi x v reducesTo_S4x128x1024_S_d0_1_2 h_S_) main_v36 main_c_13
  let main_v38 : IVec S_ 1 := andi main_v33 main_v37
  let main_v39 : FVec F S1x32x64 .f32 := mulf main_arg0 main_arg0
  let main_v40 : FVec F S1x32x64 .f32 := mulf main_arg1 main_arg1
  let main_v41 : FVec F S1x32x64 .f32 := addf main_v39 main_v40
  let main_cst_14 : FVec F S_ .f32 := constant S_ .f32 0x00000000#32
  let main_v42 : FVec F S1x32x64 .f32 := broadcastInDim S1x32x64 ![] bcast_S_S1x32x64 main_cst_14
  let main_v43 : IVec S1x32x64 1 := cmpf .ogt main_v41 main_v42
  let main_c_15 : IVec S_ 1 := constantI S_ 1 1#1
  let main_v44 : IVec S_ 1 := (fun x v => Host.reduce IntOp.andi x v reducesTo_S1x32x64_S_d0_1_2 h_S_) main_v43 main_c_15
  let main_v45 : IVec S_ 1 := andi main_v38 main_v44
  main_v45

def fn_part1 {F : FTy → Type} [FloatOps F] (main_arg0 : FVec F S1x32x64 .f32) (main_arg1 : FVec F S1x32x64 .f32) (main_arg4 : FVec F S1x32x64x16 .f32) (main_arg7 : FVec F S32x64 .f32) (main_arg8 : FVec F S32x64 .f32) (main_arg9 : FVec F S4x128x1024 .f32) (main_v13 : IVec S_ 1) (main_v16 : IVec S1x32x64x16 1) : IVec S_ 1 :=
  let main_c_5 : IVec S_ 1 := constantI S_ 1 1#1
  let main_v17 : IVec S_ 1 := (fun x v => Host.reduce IntOp.andi x v reducesTo_S1x32x64x16_S_d0_1_2_3 h_S_) main_v16 main_c_5
  let main_v18 : IVec S_ 1 := andi main_v13 main_v17
  let main_v19 : FVec F S1x32x64x16 .f32 := Host.absf main_arg4
  let main_cst_6 : FVec F S_ .f32 := constant S_ .f32 0x7F800000#32
  let main_v20 : FVec F S1x32x64x16 .f32 := broadcastInDim S1x32x64x16 ![] bcast_S_S1x32x64x16 main_cst_6
  let main_v21 : IVec S1x32x64x16 1 := cmpf .olt main_v19 main_v20
  let main_c_7 : IVec S_ 1 := constantI S_ 1 1#1
  let main_v22 : IVec S_ 1 := (fun x v => Host.reduce IntOp.andi x v reducesTo_S1x32x64x16_S_d0_1_2_3 h_S_) main_v21 main_c_7
  let main_v23 : IVec S_ 1 := andi main_v18 main_v22
  let main_v24 : FVec F S32x64 .f32 := Host.absf main_arg7
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32x64 .f32 := Host.absf main_arg8
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg0 main_arg1 main_arg9 main_v33

def fn {F : FTy → Type} [FloatOps F] (main_arg0 : FVec F S1x32x64 .f32) (main_arg1 : FVec F S1x32x64 .f32) (main_arg2 : FVec F S1x32 .f32) (main_arg3 : FVec F S1x32x64x16 .f32) (main_arg4 : FVec F S1x32x64x16 .f32) (main_arg5 : FVec F S1x32x16x64 .f32) (main_arg6 : FVec F S1x32x16x64 .f32) (main_arg7 : FVec F S32x64 .f32) (main_arg8 : FVec F S32x64 .f32) (main_arg9 : FVec F S4x128x1024 .f32) (main_arg10 : FVec F S4x128x1024 .f32) : IVec S_ 1 :=
  let main_v0 : FVec F S1x32x64 .f32 := Host.absf main_arg0
  let main_cst : FVec F S_ .f32 := constant S_ .f32 0x7F800000#32
  let main_v1 : FVec F S1x32x64 .f32 := broadcastInDim S1x32x64 ![] bcast_S_S1x32x64 main_cst
  let main_v2 : IVec S1x32x64 1 := cmpf .olt main_v0 main_v1
  let main_c : IVec S_ 1 := constantI S_ 1 1#1
  let main_v3 : IVec S_ 1 := (fun x v => Host.reduce IntOp.andi x v reducesTo_S1x32x64_S_d0_1_2 h_S_) main_v2 main_c
  let main_v4 : FVec F S1x32x64 .f32 := Host.absf main_arg1
  let main_cst_0 : FVec F S_ .f32 := constant S_ .f32 0x7F800000#32
  let main_v5 : FVec F S1x32x64 .f32 := broadcastInDim S1x32x64 ![] bcast_S_S1x32x64 main_cst_0
  let main_v6 : IVec S1x32x64 1 := cmpf .olt main_v4 main_v5
  let main_c_1 : IVec S_ 1 := constantI S_ 1 1#1
  let main_v7 : IVec S_ 1 := (fun x v => Host.reduce IntOp.andi x v reducesTo_S1x32x64_S_d0_1_2 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S1x32x64x16 .f32 := Host.absf main_arg3
  let main_cst_4 : FVec F S_ .f32 := constant S_ .f32 0x7F800000#32
  let main_v15 : FVec F S1x32x64x16 .f32 := broadcastInDim S1x32x64x16 ![] bcast_S_S1x32x64x16 main_cst_4
  let main_v16 : IVec S1x32x64x16 1 := cmpf .olt main_v14 main_v15
  fn_part1 (F := F) main_arg0 main_arg1 main_arg4 main_arg7 main_arg8 main_arg9 main_v13 main_v16
-- ==== InBack.lean ====
abbrev S2x2048x1024 : Shape := ⟨3, ![2, 2048, 1024]⟩
abbrev S1x1024 : Shape := ⟨2, ![1, 1024]⟩
abbrev S1x1024x2304 : Shape := ⟨3, ![1, 1024, 2304]⟩
abbrev S2x2048x512 : Shape := ⟨3, ![2, 2048, 512]⟩
abbrev S2x2048x128 : Shape := ⟨3, ![2, 2048, 128]⟩
abbrev S1024x2304 : Shape := ⟨2, ![1024, 2304]⟩
abbrev S2304x1024 : Shape := ⟨2, ![2304, 1024]⟩
abbrev S4096x1024 : Shape := ⟨2, ![4096, 1024]⟩
abbrev S4096x512 : Shape := ⟨2, ![4096, 512]⟩
abbrev S4096x128 : Shape := ⟨2, ![4096, 128]⟩
abbrev S1x288x1024 : Shape := ⟨3, ![1, 288, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x2304 : Shape := ⟨2, ![512, 2304]⟩
abbrev S1024 : Shape := ⟨1, ![1024]⟩
abbrev S64x1024 : Shape := ⟨2, ![64, 1024]⟩
abbrev S288x1024 : Shape := ⟨2, ![288, 1024]⟩

abbrev nBuf : Space → Nat
  | .hbm => 28
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2304, .f32⟩
  | .hbm, ⟨3, _⟩ => ⟨S2x2048x1024, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x128, .f32⟩
  | .hbm, ⟨8, _⟩ => ⟨S2x2048x128, .f32⟩
  | .hbm, ⟨9, _⟩ => ⟨S2x2048x512, .f32⟩
  | .hbm, ⟨10, _⟩ => ⟨S1024x2304, .f32⟩
  | .hbm, ⟨11, _⟩ => ⟨S2304x1024, .f32⟩
  | .hbm, ⟨12, _⟩ => ⟨S2304x1024, .bf16⟩
  | .hbm, ⟨13, _⟩ => ⟨S4096x1024, .f32⟩
  | .hbm, ⟨14, _⟩ => ⟨S4096x1024, .f32⟩
  | .hbm, ⟨15, _⟩ => ⟨S4096x512, .f32⟩
  | .hbm, ⟨16, _⟩ => ⟨S4096x512, .bf16⟩
  | .hbm, ⟨17, _⟩ => ⟨S4096x512, .f32⟩
  | .hbm, ⟨18, _⟩ => ⟨S4096x512, .bf16⟩
  | .hbm, ⟨19, _⟩ => ⟨S4096x512, .f32⟩
  | .hbm, ⟨20, _⟩ => ⟨S4096x128, .f32⟩
  | .hbm, ⟨21, _⟩ => ⟨S4096x128, .f32⟩
  | .hbm, ⟨22, _⟩ => ⟨S4096x512, .f32⟩
  | .hbm, ⟨23, _⟩ => ⟨S4096x512, .bf16⟩
  | .hbm, ⟨24, _⟩ => ⟨S4096x1024, .f32⟩
  | .hbm, ⟨25, _⟩ => ⟨S1x288x1024, .f32⟩
  | .hbm, ⟨26, _⟩ => ⟨S1x1024, .f32⟩
  | .hbm, ⟨27, _⟩ => ⟨S2304x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x512, .bf16⟩
  | .local _ .vmem, ⟨15, _⟩ => ⟨S512x512, .bf16⟩
  | .local _ .vmem, ⟨16, _⟩ => ⟨S1x1024, .f32⟩
  | .local _ .vmem, ⟨17, _⟩ => ⟨S2304x1024, .bf16⟩
  | .local _ .vmem, ⟨18, _⟩ => ⟨S512x1024, .f32⟩
  | .local _ .vmem, ⟨19, _⟩ => ⟨S512x1024, .f32⟩
  | .local _ .vmem, ⟨20, _⟩ => ⟨S1x288x1024, .f32⟩
  | .local _ .vmem, ⟨21, _⟩ => ⟨S1x1024, .f32⟩
  | .local _ .vmem, ⟨22, _⟩ => ⟨S2304x1024, .bf16⟩
  | .local _ .vmem, ⟨23, _⟩ => ⟨S2304x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v67 : BitVec 1 := Scalar.cmpi .eq arg0 c7_i32
  let v68 : BitVec 32 := Scalar.extui v67
  let c0_i32_37 : BitVec 32 := 0#32
  let v69 : BitVec 1 := Scalar.cmpi .ne v68 c0_i32_37
  v69

@[reducible] def k0_t1_loop : Scf.Loop 32 :=
  let c0_i32_38 : BitVec 32 := 0#32
  let c36_i32 : BitVec 32 := 36#32
  let v70 : BitVec 32 := Scalar.addi c0_i32_38 c36_i32
  let c1_i32 : BitVec 32 := 1#32
  ⟨c0_i32_38, v70, c1_i32⟩
def k0_mult1 (k0_t1 : Fin k0_t1_loop.trips) : BitVec 32 :=
  let c0_i32_38 : BitVec 32 := 0#32
  let c1_i32 : BitVec 32 := 1#32
  let arg16 : BitVec 32 := Scf.iv c0_i32_38 c1_i32 k0_t1
  let c64_i32 : BitVec 32 := 64#32
  let v77 : BitVec 32 := Scalar.muli arg16 c64_i32
  v77
def k0_off1 (k0_t1 : Fin k0_t1_loop.trips) : Fin 2 → Nat :=
  let c0_i32_38 : BitVec 32 := 0#32
  let c1_i32 : BitVec 32 := 1#32
  let arg16 : BitVec 32 := Scf.iv c0_i32_38 c1_i32 k0_t1
  let c64_i32 : BitVec 32 := 64#32
  let v77 : BitVec 32 := Scalar.muli arg16 c64_i32
  let v78 : BitVec 32 := v77
  let v79 : Index := Scalar.indexCast v78
  let c0_45 : Index := 0#32
  ![v79.toNat, 0]
def k0_mult2 : BitVec 32 :=
  let c0_i32_40 : BitVec 32 := 0#32
  c0_i32_40
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2304x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x288x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2304x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InBackRefIdeal.lean ====
abbrev S2x2048x1024 : Shape := ⟨3, ![2, 2048, 1024]⟩
abbrev S1x1024 : Shape := ⟨2, ![1, 1024]⟩
abbrev S1x1024x2304 : Shape := ⟨3, ![1, 1024, 2304]⟩
abbrev S2x2048x512 : Shape := ⟨3, ![2, 2048, 512]⟩
abbrev S2x2048x128 : Shape := ⟨3, ![2, 2048, 128]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2304 : Shape := ⟨2, ![1024, 2304]⟩
abbrev S2x2048x2304 : Shape := ⟨3, ![2, 2048, 2304]⟩
abbrev S2304x1024 : Shape := ⟨2, ![2304, 1024]⟩
abbrev S4096x1024 : Shape := ⟨2, ![4096, 1024]⟩
abbrev S288x1024 : Shape := ⟨2, ![288, 1024]⟩
abbrev S1x288x1024 : Shape := ⟨3, ![1, 288, 1024]⟩

abbrev nBuf : Space → Nat
  | .hbm => 77
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S1x1024x2304, .f32⟩
  | .hbm, ⟨3, _⟩ => ⟨S2x2048x1024, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x128, .f32⟩
  | .hbm, ⟨8, _⟩ => ⟨S2x2048x128, .f32⟩
  | .hbm, ⟨9, _⟩ => ⟨S2x2048x512, .f32⟩
  | .hbm, ⟨10, _⟩ => ⟨S1024, .f32⟩
  | .hbm, ⟨11, _⟩ => ⟨S2x2048x1024, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S2x2048x1024, .f32⟩
  | .hbm, ⟨27, _⟩ => ⟨S2x2048x1024, .f32⟩
  | .hbm, ⟨28, _⟩ => ⟨S1x1x1024, .f32⟩
  | .hbm, ⟨29, _⟩ => ⟨S2x2048x1024, .f32⟩
  | .hbm, ⟨30, _⟩ => ⟨S2x2048x1024, .f32⟩
  | .hbm, ⟨31, _⟩ => ⟨S1024x2304, .f32⟩
  | .hbm, ⟨32, _⟩ => ⟨S2x2048x2304, .f32⟩
  | .hbm, ⟨33, _⟩ => ⟨S2x2048x512, .f32⟩
  | .hbm, ⟨34, _⟩ => ⟨S2x2048x512, .f32⟩
  | .hbm, ⟨35, _⟩ => ⟨S2x2048x512, .f32⟩
  | .hbm, ⟨36, _⟩ => ⟨S2x2048x128, .f32⟩
  | .hbm, ⟨37, _⟩ => ⟨S2x2048x128, .f32⟩
  | .hbm, ⟨38, _⟩ => ⟨S2x2048x512, .f32⟩
  | .hbm, ⟨39, _⟩ => ⟨S2x2048x2304, .f32⟩
  | .hbm, ⟨40, _⟩ => ⟨S2304x1024, .f32⟩
  | .hbm, ⟨41, _⟩ => ⟨S1024x2304, .f32⟩
  | .hbm, ⟨42, _⟩ => ⟨S2x2048x1024, .f32⟩
  | .hbm, ⟨43, _⟩ => ⟨S1x1024x2304, .f32⟩
  | .hbm, ⟨44, _⟩ => ⟨S2x2048x1024, .f32⟩
  | .hbm, ⟨45, _⟩ => ⟨S_, .f32⟩
  | .hbm, ⟨46, _⟩ => ⟨S1024, .f32⟩
  | .hbm, ⟨47, _⟩ => ⟨S1x1x1024, .f32⟩
  | .hbm, ⟨48, _⟩ => ⟨S2x2048x1024, .f32⟩
  | .hbm, ⟨49, _⟩ => ⟨S2x2048x1024, .f32⟩
  | .hbm, ⟨50, _⟩ => ⟨S_, .f32⟩
  | .hbm, ⟨51, _⟩ => ⟨S1024, .f32⟩
  | .hbm, ⟨52, _⟩ => ⟨S2x2048x1024, .f32⟩
  | .hbm, ⟨53, _⟩ => ⟨S_, .f32⟩
  | .hbm, ⟨54, _⟩ => ⟨S2x2048, .f32⟩
  | .hbm, ⟨55, _⟩ => ⟨S2x2048x1, .f32⟩
  | .hbm, ⟨56, _⟩ => ⟨S2x2048x1024, .f32⟩
  | .hbm, ⟨57, _⟩ => ⟨S2x2048x1024, .f32⟩
  | .hbm, ⟨58, _⟩ => ⟨S2x2048x1024, .f32⟩
  | .hbm, ⟨59, _⟩ => ⟨S2x2048x1, .f32⟩
  | .hbm, ⟨60, _⟩ => ⟨S_, .f32⟩
  | .hbm, ⟨61, _⟩ => ⟨S2x2048x1, .f32⟩
  | .hbm, ⟨62, _⟩ => ⟨S2x2048x1, .f32⟩
  | .hbm, ⟨63, _⟩ => ⟨S_, .f32⟩
  | .hbm, ⟨64, _⟩ => ⟨S2x2048, .f32⟩
  | .hbm, ⟨65, _⟩ => ⟨S2x2048x1024, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S1x1024, .f32⟩
  | .hbm, ⟨71, _⟩ => ⟨S1024x2304, .f32⟩
  | .hbm, ⟨72, _⟩ => ⟨S2304x1024, .f32⟩
  | .hbm, ⟨73, _⟩ => ⟨S4096x1024, .f32⟩
  | .hbm, ⟨74, _⟩ => ⟨S288x1024, .f32⟩
  | .hbm, ⟨75, _⟩ => ⟨S1x288x1024, .f32⟩
  | .hbm, ⟨76, _⟩ => ⟨S2304x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== AttBack.lean ====
abbrev S2x2048x512 : Shape := ⟨3, ![2, 2048, 512]⟩
abbrev S2x2048x128 : Shape := ⟨3, ![2, 2048, 128]⟩
abbrev S1x8 : Shape := ⟨2, ![1, 8]⟩
abbrev S4096x512 : Shape := ⟨2, ![4096, 512]⟩
abbrev S4096x128 : Shape := ⟨2, ![4096, 128]⟩
abbrev S8 : Shape := ⟨1, ![8]⟩
abbrev S4096x8 : Shape := ⟨2, ![4096, 8]⟩
abbrev S128x512 : Shape := ⟨2, ![128, 512]⟩
abbrev S128x128 : Shape := ⟨2, ![128, 128]⟩
abbrev S128x8 : Shape := ⟨2, ![128, 8]⟩
abbrev S512x256 : Shape := ⟨2, ![512, 256]⟩
abbrev S128x256 : Shape := ⟨2, ![128, 256]⟩
abbrev S256x128 : Shape := ⟨2, ![256, 128]⟩
abbrev S128x64 : Shape := ⟨2, ![128, 64]⟩
abbrev S256x64 : Shape := ⟨2, ![256, 64]⟩
abbrev S128x1 : Shape := ⟨2, ![128, 1]⟩
abbrev S1 : Shape := ⟨1, ![1]⟩
abbrev S128 : Shape := ⟨1, ![128]⟩
abbrev S512x1 : Shape := ⟨2, ![512, 1]⟩
abbrev S512x64 : Shape := ⟨2, ![512, 64]⟩
abbrev S512 : Shape := ⟨1, ![512]⟩
abbrev S64x256 : Shape := ⟨2, ![64, 256]⟩
abbrev S1x1 : Shape := ⟨2, ![1, 1]⟩

abbrev nBuf : Space → Nat
  | .hbm => 19
  | .vmem => 39
  | .smem => 2
  | _ => 0

abbrev bufTy : (tb : Table) → Fin (tcTables nBuf tb) → BufTy
  | .hbm, ⟨0, _⟩ => ⟨S2x2048x512, .f32⟩
  | .hbm, ⟨1, _⟩ => ⟨S2x2048x128, .f32⟩
  | .hbm, ⟨2, _⟩ => ⟨S2x2048x128, .f32⟩
  | .hbm, ⟨3, _⟩ => ⟨S1x8, .f32⟩
  | .hbm, ⟨4, _⟩ => ⟨S2x2048x512, .f32⟩
  | .hbm, ⟨5, _⟩ => ⟨S4096x512, .f32⟩
  | .hbm, ⟨6, _⟩ => ⟨S4096x512, .bf16⟩
  | .hbm, ⟨7, _⟩ => ⟨S4096x128, .f32⟩
  | .hbm, ⟨8, _⟩ => ⟨S4096x128, .bf16⟩
  | .hbm, ⟨9, _⟩ => ⟨S4096x128, .f32⟩
  | .hbm, ⟨10, _⟩ => ⟨S4096x128, .bf16⟩
  | .hbm, ⟨11, _⟩ => ⟨S8, .f32⟩
  | .hbm, ⟨12, _⟩ => ⟨S4096x512, .f32⟩
  | .hbm, ⟨13, _⟩ => ⟨S4096x8, .f32⟩
  | .hbm, ⟨14, _⟩ => ⟨S4096x512, .f32⟩
  | .hbm, ⟨15, _⟩ => ⟨S4096x512, .f32⟩
  | .hbm, ⟨16, _⟩ => ⟨S4096x128, .f32⟩
  | .hbm, ⟨17, _⟩ => ⟨S4096x128, .f32⟩
  | .hbm, ⟨18, _⟩ => ⟨S1x8, .f32⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x512, .f32⟩
  | .local _ .vmem, ⟨11, _⟩ => ⟨S128x512, .f32⟩
  | .local _ .vmem, ⟨12, _⟩ => ⟨S128x8, .f32⟩
  | .local _ .vmem, ⟨13, _⟩ => ⟨S128x8, .f32⟩
  | .local _ .vmem, ⟨14, _⟩ => ⟨S128x512, .bf16⟩
  | .local _ .vmem, ⟨15, _⟩ => ⟨S128x512, .bf16⟩
  | .local _ .vmem, ⟨16, _⟩ => ⟨S128x128, .bf16⟩
  | .local _ .vmem, ⟨17, _⟩ => ⟨S128x128, .bf16⟩
  | .local _ .vmem, ⟨18, _⟩ => ⟨S128x128, .bf16⟩
  | .local _ .vmem, ⟨19, _⟩ => ⟨S128x128, .bf16⟩
  | .local _ .vmem, ⟨20, _⟩ => ⟨S128x128, .bf16⟩
  | .local _ .vmem, ⟨21, _⟩ => ⟨S128x128, .bf16⟩
  | .local _ .vmem, ⟨22, _⟩ => ⟨S128x128, .bf16⟩
  | .local _ .vmem, ⟨23, _⟩ => ⟨S128x128, .bf16⟩
  | .local _ .vmem, ⟨24, _⟩ => ⟨S128x512, .f32⟩
  | .local _ .vmem, ⟨25, _⟩ => ⟨S128x512, .f32⟩
  | .local _ .vmem, ⟨26, _⟩ => ⟨S128x512, .f32⟩
  | .local _ .vmem, ⟨27, _⟩ => ⟨S128x512, .f32⟩
  | .local _ .vmem, ⟨28, _⟩ => ⟨S128x8, .f32⟩
  | .local _ .vmem, ⟨29, _⟩ => ⟨S128x8, .f32⟩
  | .local _ .vmem, ⟨30, _⟩ => ⟨S128x512, .f32⟩
  | .local _ .vmem, ⟨31, _⟩ => ⟨S128x512, .f32⟩
  | .local _ .vmem, ⟨32, _⟩ => ⟨S128x128, .f32⟩
  | .local _ .vmem, ⟨33, _⟩ => ⟨S128x128, .f32⟩
  | .local _ .vmem, ⟨34, _⟩ => ⟨S128x128, .f32⟩
  | .local _ .vmem, ⟨35, _⟩ => ⟨S128x128, .f32⟩
  | .local _ .vmem, ⟨36, _⟩ => ⟨S1x8, .f32⟩
  | .local _ .vmem, ⟨37, _⟩ => ⟨S128x128, .f32⟩
  | .local _ .vmem, ⟨38, _⟩ => ⟨S128x128, .f32⟩
  | .local _ .smem, ⟨0, _⟩ => ⟨S8, .f32⟩
  | .local _ .smem, ⟨1, _⟩ => ⟨S8, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc1_stg11_1 : Ref sig .tc := ⟨.vmem, 35, rfl⟩
abbrev cc1_stg12_0 : Ref sig .tc := ⟨.vmem, 36, rfl⟩
abbrev cc1_scratch0 : Ref sig .tc := ⟨.vmem, 37, rfl⟩
abbrev cc1_scratch1 : Ref sig .tc := ⟨.vmem, 38, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38

abbrev nD : Nat := 1
abbrev τ : Topo := Topo.v7x

variable {F : FTy → Type} [FloatOps F]

abbrev grid0 : Pipeline.Grid := ⟨2, ![2, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![2, 17], ![false, false]⟩

def k1_cond2 (i : grid1.Coords) : BitVec 1 :=
  let arg1 : BitVec 32 := BitVec.ofNat 32 (i 1).val
  let c16_i32 : BitVec 32 := 16#32
  let v0 : BitVec 1 := Scalar.cmpi .slt arg1 c16_i32
  let v255 : BitVec 32 := Scalar.extui v0
  let c0_i32_78 : BitVec 32 := 0#32
  let v256 : BitVec 1 := Scalar.cmpi .ne v255 c0_i32_78
  v256

def k1_cond3 (i : grid1.Coords) : BitVec 1 :=
  let arg0 : BitVec 32 := BitVec.ofNat 32 (i 0).val
  let c0_i32_79 : BitVec 32 := 0#32
  let v257 : BitVec 1 := Scalar.cmpi .eq arg0 c0_i32_79
  let arg1 : BitVec 32 := BitVec.ofNat 32 (i 1).val
  let c0_i32_80 : BitVec 32 := 0#32
  let v258 : BitVec 1 := Scalar.cmpi .eq arg1 c0_i32_80
  let v259 : BitVec 1 := Scalar.andi v257 v258
  let v260 : BitVec 32 := Scalar.extui v259
  let c0_i32_81 : BitVec 32 := 0#32
  let v261 : BitVec 1 := Scalar.cmpi .ne v260 c0_i32_81
  v261

def k1_cond4 (i : grid1.Coords) : BitVec 1 :=
  let arg0 : BitVec 32 := BitVec.ofNat 32 (i 0).val
  let c0_i32_82 : BitVec 32 := 0#32
  let v262 : BitVec 1 := Scalar.cmpi .ne arg0 c0_i32_82
  let arg1 : BitVec 32 := BitVec.ofNat 32 (i 1).val
  let c0_i32_83 : BitVec 32 := 0#32
  let v263 : BitVec 1 := Scalar.cmpi .ne arg1 c0_i32_83
  let v264 : BitVec 1 := Scalar.ori v262 v263
  let v265 : BitVec 32 := Scalar.extui v264
  let c0_i32_84 : BitVec 32 := 0#32
  let v266 : BitVec 1 := Scalar.cmpi .ne v265 c0_i32_84
  v266

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc1_transform_3 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc1_transform_4 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc1_transform_5 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc1_transform_6 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc1_transform_7 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc1_transform_8 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc1_transform_9 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c15_i32 : BitVec 32 := 15#32
  let v1 : BitVec 32 := Scalar.minsi arg1 c15_i32
  let v2 : BitVec 32 := Scalar.addi v0 v1
  let c0_i32 : BitVec 32 := 0#32
  let c0_i32_0 : BitVec 32 := 0#32
  ![v2.toNat, c0_i32.toNat]

def cc1_transform_10 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc1_transform_11 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S128x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S128x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S128x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S128x8 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S128x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S128x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S128x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 1 → Memref sig .tc .vmem S1x8 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]
-- ==== AttBackRefIdeal.lean ====
abbrev S2x2048x512 : Shape := ⟨3, ![2, 2048, 512]⟩
abbrev S2x2048x128 : Shape := ⟨3, ![2, 2048, 128]⟩
abbrev S1x8 : Shape := ⟨2, ![1, 8]⟩
abbrev S8 : Shape := ⟨1, ![8]⟩
abbrev S2x16x128x2x64 : Shape := ⟨5, ![2, 16, 128, 2, 64]⟩
abbrev S2x1x128x2x64 : Shape := ⟨5, ![2, 1, 128, 2, 64]⟩
abbrev S_ : Shape := ⟨0, ![]⟩
abbrev S2x15x128x2x64 : Shape := ⟨5, ![2, 15, 128, 2, 64]⟩
abbrev S2x16x256x2x64 : Shape := ⟨5, ![2, 16, 256, 2, 64]⟩
abbrev S2x16x128x2x4x64 : Shape := ⟨6, ![2, 16, 128, 2, 4, 64]⟩
abbrev S2x16x2x256x128x4 : Shape := ⟨6, ![2, 16, 2, 256, 128, 4]⟩
abbrev S2x16x2x4x128x256 : Shape := ⟨6, ![2, 16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x16x1x1x128x256 : Shape := ⟨6, ![1, 16, 1, 1, 128, 256]⟩
abbrev S1x1x2x4x128x256 : Shape := ⟨6, ![1, 1, 2, 4, 128, 256]⟩
abbrev S1x1x2x4x1x1 : Shape := ⟨6, ![1, 1, 2, 4, 1, 1]⟩
abbrev S2x16x2x4x128 : Shape := ⟨5, ![2, 16, 2, 4, 128]⟩
abbrev S2x16x2x4x128x1 : Shape := ⟨6, ![2, 16, 2, 4, 128, 1]⟩
abbrev S2x16x2x64x4x128 : Shape := ⟨6, ![2, 16, 2, 64, 4, 128]⟩
abbrev S2x16x2x64x256 : Shape := ⟨5, ![2, 16, 2, 64, 256]⟩
abbrev S2x4x1 : Shape := ⟨3, ![2, 4, 1]⟩
abbrev S2x16x2x128x4x64 : Shape := ⟨6, ![2, 16, 2, 128, 4, 64]⟩
abbrev S2x16x2x256x64 : Shape := ⟨5, ![2, 16, 2, 256, 64]⟩
abbrev S4096x512 : Shape := ⟨2, ![4096, 512]⟩
abbrev S4096x128 : Shape := ⟨2, ![4096, 128]⟩

abbrev nBuf : Space → Nat
  | .hbm => 230
  | .vmem => 0
  | .smem => 0
  | _ => 0

abbrev hbmTy0_0 (i : Nat) : BufTy := match i % 128 with
  | 0 => ⟨S2x2048x512, .f32⟩
  | 1 => ⟨S2x2048x128, .f32⟩
  | 2 => ⟨S2x2048x128, .f32⟩
  | 3 => ⟨S1x8, .f32⟩
  | 4 => ⟨S2x2048x512, .f32⟩
  | 5 => ⟨S8, .f32⟩
  | 6 => ⟨S2x16x128x2x64, .f32⟩
  | 7 => ⟨S2x1x128x2x64, .f32⟩
  | 8 => ⟨S_, .f32⟩
  | 9 => ⟨S2x1x128x2x64, .f32⟩
  | 10 => ⟨S2x15x128x2x64, .f32⟩
  | 11 => ⟨S2x16x128x2x64, .f32⟩
  | 12 => ⟨S_, .f32⟩
  | 13 => ⟨S2x1x128x2x64, .f32⟩
  | 14 => ⟨S2x16x256x2x64, .f32⟩
  | 15 => ⟨S2x16x128x2x64, .f32⟩
  | 16 => ⟨S2x1x128x2x64, .f32⟩
  | 17 => ⟨S_, .f32⟩
  | 18 => ⟨S2x1x128x2x64, .f32⟩
  | 19 => ⟨S2x15x128x2x64, .f32⟩
  | 20 => ⟨S2x16x128x2x64, .f32⟩
  | 21 => ⟨S_, .f32⟩
  | 22 => ⟨S2x1x128x2x64, .f32⟩
  | 23 => ⟨S2x16x256x2x64, .f32⟩
  | 24 => ⟨S2x16x128x2x4x64, .f32⟩
  | 25 => ⟨S2x16x2x256x128x4, .f32⟩
  | 26 => ⟨S2x16x2x4x128x256, .f32⟩
  | 27 => ⟨S_, .f32⟩
  | 28 => ⟨S2x16x2x4x128x256, .f32⟩
  | 29 => ⟨S2x16x2x4x128x256, .f32⟩
  | 30 => ⟨S128, .i32⟩
  | 31 => ⟨S128x1, .i32⟩
  | 32 => ⟨S256, .i32⟩
  | 33 => ⟨S1x256, .i32⟩
  | 34 => ⟨S_, .i32⟩
  | 35 => ⟨S128x1, .i32⟩
  | 36 => ⟨S128x1, .i32⟩
  | 37 => ⟨S128x256, .i32⟩
  | 38 => ⟨S128x256, .i32⟩
  | 39 => ⟨S128x256, .i32⟩
  | 40 => ⟨S_, .i32⟩
  | 41 => ⟨S128x256, .i32⟩
  | 42 => ⟨S128x256, .i1⟩
  | 43 => ⟨S_, .i32⟩
  | 44 => ⟨S128x256, .i32⟩
  | 45 => ⟨S128x256, .i1⟩
  | 46 => ⟨S128x256, .i1⟩
  | 47 => ⟨S16, .i32⟩
  | 48 => ⟨S16x1, .i32⟩
  | 49 => ⟨S_, .i32⟩
  | 50 => ⟨S16x1, .i32⟩
  | 51 => ⟨S16x1, .i1⟩
  | 52 => ⟨S256, .i32⟩
  | 53 => ⟨S1x256, .i32⟩
  | 54 => ⟨S_, .i32⟩
  | 55 => ⟨S1x256, .i32⟩
  | 56 => ⟨S1x256, .i1⟩
  | 57 => ⟨S16x256, .i1⟩
  | 58 => ⟨S16x256, .i1⟩
  | 59 => ⟨S16x256, .i1⟩
  | 60 => ⟨S1x128x256, .i1⟩
  | 61 => ⟨S16x1x256, .i1⟩
  | 62 => ⟨S16x128x256, .i1⟩
  | 63 => ⟨S16x128x256, .i1⟩
  | 64 => ⟨S16x128x256, .i1⟩
  | 65 => ⟨S_, .f32⟩
  | 66 => ⟨S8, .f32⟩
  | 67 => ⟨S8, .f32⟩
  | 68 => ⟨S_, .f32⟩
  | 69 => ⟨S8, .f32⟩
  | 70 => ⟨S8, .f32⟩
  | 71 => ⟨S_, .f32⟩
  | 72 => ⟨S8, .f32⟩
  | 73 => ⟨S8, .f32⟩
  | 74 => ⟨S_, .f32⟩
  | 75 => ⟨S8, .f32⟩
  | 76 => ⟨S8, .f32⟩
  | 77 => ⟨S8, .f32⟩
  | 78 => ⟨S2x4, .f32⟩
  | 79 => ⟨S2x4x1x1, .f32⟩
  | 80 => ⟨S2x4x1x1, .f32⟩
  | 81 => ⟨S128x256, .f32⟩
  | 82 => ⟨S1x1x128x256, .f32⟩
  | 83 => ⟨S2x4x128x256, .f32⟩
  | 84 => ⟨S2x4x128x256, .f32⟩
  | 85 => ⟨S2x4x128x256, .f32⟩
  | 86 => ⟨S1x16x1x1x128x256, .i1⟩
  | 87 => ⟨S1x1x2x4x128x256, .f32⟩
  | 88 => ⟨S2x16x2x4x128x256, .f32⟩
  | 89 => ⟨S2x16x2x4x128x256, .f32⟩
  | 90 => ⟨S_, .f32⟩
  | 91 => ⟨S_, .f32⟩
  | 92 => ⟨S2x16x2x4x128x256, .i1⟩
  | 93 => ⟨S2x16x2x4x128x256, .f32⟩
  | 94 => ⟨S2x16x2x4x128x256, .f32⟩
  | 95 => ⟨S_, .f32⟩
  | 96 => ⟨S2x16x2x4x128x256, .f32⟩
  | 97 => ⟨S2x4, .f32⟩
  | 98 => ⟨S1x1x2x4x1x1, .f32⟩
  | 99 => ⟨S_, .f32⟩
  | 100 => ⟨S2x16x2x4x128, .f32⟩
  | 101 => ⟨S2x16x2x4x128x1, .f32⟩
  | 102 => ⟨S2x16x2x4x128x256, .f32⟩
  | 103 => ⟨S2x16x2x4x128x256, .i1⟩
  | 104 => ⟨S2x16x2x4x128x256, .f32⟩
  | 105 => ⟨S_, .f32⟩
  | 106 => ⟨S2x16x2x4x128, .f32⟩
  | 107 => ⟨S2x16x2x4x128x1, .f32⟩
  | 108 => ⟨S2x16x2x4x128x1, .f32⟩
  | 109 => ⟨S2x16x2x4x128x1, .f32⟩
  | 110 => ⟨S2x16x2x4x128x1, .f32⟩
  | 111 => ⟨S2x16x2x4x128x1, .i1⟩
  | 112 => ⟨S2x16x2x4x128x1, .f32⟩
  | 113 => ⟨S2x16x2x4x128x1, .i1⟩
  | 114 => ⟨S_, .f32⟩
  | 115 => ⟨S2x16x2x4x128x1, .f32⟩
  | 116 => ⟨S_, .f32⟩
  | 117 => ⟨S2x16x2x4x128x1, .f32⟩
  | 118 => ⟨S_, .f32⟩
  | 119 => ⟨S2x16x2x4x128x1, .f32⟩
  | 120 => ⟨S2x16x2x4x128x1, .f32⟩
  | 121 => ⟨S2x16x2x4x128x1, .f32⟩
  | 122 => ⟨S2x16x2x4x128x1, .f32⟩
  | 123 => ⟨S2x16x2x4x128x1, .i1⟩
  | 124 => ⟨S2x16x2x4x128x1, .f32⟩
  | 125 => ⟨S2x16x2x4x128x1, .i1⟩
  | 126 => ⟨S_, .f32⟩
  | 127 => ⟨S2x16x2x4x128x1, .f32⟩
  | _ => ⟨S2x2048x512, .f32⟩

abbrev hbmTy0_1 (i : Nat) : BufTy := match i % 128 with
  | 0 => ⟨S_, .f32⟩
  | 1 => ⟨S2x16x2x4x128x1, .f32⟩
  | 2 => ⟨S_, .f32⟩
  | 3 => ⟨S2x16x2x4x128x1, .f32⟩
  | 4 => ⟨S2x16x2x4x128x1, .f32⟩
  | 5 => ⟨S2x16x2x4x128x1, .f32⟩
  | 6 => ⟨S2x16x2x4x128x256, .f32⟩
  | 7 => ⟨S2x16x2x4x128x256, .f32⟩
  | 8 => ⟨S2x16x2x4x128x256, .f32⟩
  | 9 => ⟨S_, .f32⟩
  | 10 => ⟨S2x16x2x4x128, .f32⟩
  | 11 => ⟨S2x16x2x4x128x1, .f32⟩
  | 12 => ⟨S2x16x2x4x128x1, .f32⟩
  | 13 => ⟨S2x16x2x4x128x1, .f32⟩
  | 14 => ⟨S2x16x2x4x128x1, .f32⟩
  | 15 => ⟨S2x16x2x4x128x1, .f32⟩
  | 16 => ⟨S2x16x2x4x128x256, .f32⟩
  | 17 => ⟨S2x16x2x4x128x256, .f32⟩
  | 18 => ⟨S2x16x2x4x128x1, .f32⟩
  | 19 => ⟨S_, .f32⟩
  | 20 => ⟨S2x16x2x4x128x1, .f32⟩
  | 21 => ⟨S2x16x2x4x128x1, .f32⟩
  | 22 => ⟨S2x16x2x64x4x128, .f32⟩
  | 23 => ⟨S2x16x128x2x4x64, .f32⟩
  | 24 => ⟨S2x2048x512, .f32⟩
  | 25 => ⟨S2x16x128x2x4x64, .f32⟩
  | 26 => ⟨S2x16x2x64x4x128, .f32⟩
  | 27 => ⟨S2x16x2x4x128x256, .f32⟩
  | 28 => ⟨S2x16x2x64x256, .f32⟩
  | 29 => ⟨S2x16x256x2x64, .f32⟩
  | 30 => ⟨S2x16x2x4x128x256, .f32⟩
  | 31 => ⟨S2x16x2x4x128x256, .f32⟩
  | 32 => ⟨S2x16x2x4x128x256, .f32⟩
  | 33 => ⟨S_, .f32⟩
  | 34 => ⟨S2x16x2x4x128, .f32⟩
  | 35 => ⟨S2x16x2x4x128x1, .f32⟩
  | 36 => ⟨S2x16x2x4x128x1, .f32⟩
  | 37 => ⟨S2x16x2x4x128x256, .f32⟩
  | 38 => ⟨S2x16x2x4x128x256, .f32⟩
  | 39 => ⟨S2x16x2x4x128x1, .f32⟩
  | 40 => ⟨S_, .f32⟩
  | 41 => ⟨S2x4x1, .f32⟩
  | 42 => ⟨S1x1x2x4x1x1, .f32⟩
  | 43 => ⟨S2x16x2x4x128x1, .f32⟩
  | 44 => ⟨S_, .f32⟩
  | 45 => ⟨S2x16x2x4x128, .f32⟩
  | 46 => ⟨S2x16x2x4x128x256, .f32⟩
  | 47 => ⟨S2x16x2x4x128x256, .f32⟩
  | 48 => ⟨S2x16x2x4x128x256, .f32⟩
  | 49 => ⟨S2x16x2x4x128x256, .f32⟩
  | 50 => ⟨S_, .f32⟩
  | 51 => ⟨S2x16x2x4x128, .f32⟩
  | 52 => ⟨S2x16x2x4x128x1, .f32⟩
  | 53 => ⟨S2x16x2x4x128x1, .f32⟩
  | 54 => ⟨S2x16x2x4x128x1, .f32⟩
  | 55 => ⟨S_, .f32⟩
  | 56 => ⟨S2x4x1, .f32⟩
  | 57 => ⟨S1x1x2x4x1x1, .f32⟩
  | 58 => ⟨S1x1x2x4x1x1, .f32⟩
  | 59 => ⟨S2x16x2x4x128x1, .f32⟩
  | 60 => ⟨S_, .f32⟩
  | 61 => ⟨S2x16x2x4x128, .f32⟩
  | 62 => ⟨S2x16x2x4x128, .f32⟩
  | 63 => ⟨S2x16x2x4x128x256, .f32⟩
  | 64 => ⟨S2x16x2x4x128x256, .f32⟩
  | 65 => ⟨S2x16x2x4x128x256, .f32⟩
  | 66 => ⟨S_, .f32⟩
  | 67 => ⟨S2x4, .f32⟩
  | 68 => ⟨S8, .f32⟩
  | 69 => ⟨S_, .f32⟩
  | 70 => ⟨S2x16x2x4x128x256, .f32⟩
  | 71 => ⟨S2x16x2x4x128x256, .f32⟩
  | 72 => ⟨S_, .f32⟩
  | 73 => ⟨S2x16x2x4x128x256, .f32⟩
  | 74 => ⟨S2x16x2x4x128x256, .f32⟩
  | 75 => ⟨S2x16x2x256x128x4, .f32⟩
  | 76 => ⟨S2x16x2x128x4x64, .f32⟩
  | 77 => ⟨S2x16x128x2x4x64, .f32⟩
  | 78 => ⟨S2x16x2x256x64, .f32⟩
  | 79 => ⟨S2x16x256x2x64, .f32⟩
  | 80 => ⟨S2x2048x512, .f32⟩
  | 81 => ⟨S2x16x128x2x64, .f32⟩
  | 82 => ⟨S2x16x128x2x64, .f32⟩
  | 83 => ⟨S2x1x128x2x64, .f32⟩
  | 84 => ⟨S2x15x128x2x64, .f32⟩
  | 85 => ⟨S_, .f32⟩
  | 86 => ⟨S2x16x128x2x64, .f32⟩
  | 87 => ⟨S2x16x128x2x64, .f32⟩
  | 88 => ⟨S2x2048x128, .f32⟩
  | 89 => ⟨S2x16x128x2x64, .f32⟩
  | 90 => ⟨S2x16x128x2x64, .f32⟩
  | 91 => ⟨S2x1x128x2x64, .f32⟩
  | 92 => ⟨S2x15x128x2x64, .f32⟩
  | 93 => ⟨S_, .f32⟩
  | 94 => ⟨S2x16x128x2x64, .f32⟩
  | 95 => ⟨S2x16x128x2x64, .f32⟩
  | 96 => ⟨S2x2048x128, .f32⟩
  | 97 => ⟨S1x8, .f32⟩
  | 98 => ⟨S4096x512, .f32⟩
  | 99 => ⟨S4096x512, .f32⟩
  | 100 => ⟨S4096x128, .f32⟩
  | 101 => ⟨S4096x128, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_12 : Ref sig .tc := ⟨.hbm, 90, rfl⟩
abbrev main_call0_v0 : Ref sig .tc := ⟨.hbm, 91, rfl⟩
abbrev main_v71_1 : Ref sig .tc := ⟨.hbm, 92, rfl⟩
abbrev main_call0_v2 : Ref sig .tc := ⟨.hbm, 93, rfl⟩
abbrev main_v71_0 : Ref sig .tc := ⟨.hbm, 94, rfl⟩
abbrev main_call0_cst : Ref sig .tc := ⟨.hbm, 95, rfl⟩
abbrev main_v71_2 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_15 : Ref sig .tc := ⟨.hbm, 114, rfl⟩
abbrev main_v87 : Ref sig .tc := ⟨.hbm, 115, rfl⟩
abbrev main_cst_16 : Ref sig .tc := ⟨.hbm, 116, rfl⟩
abbrev main_v88 : Ref sig .tc := ⟨.hbm, 117, rfl⟩
abbrev main_cst_17 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_18 : Ref sig .tc := ⟨.hbm, 126, rfl⟩
abbrev main_v96 : Ref sig .tc := ⟨.hbm, 127, rfl⟩
abbrev main_cst_19 : Ref sig .tc := ⟨.hbm, 128, rfl⟩
abbrev main_v97 : Ref sig .tc := ⟨.hbm, 129, rfl⟩
abbrev main_cst_20 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_21 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_22 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_23 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_24 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_25 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_26 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_cst_27 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_cst_28 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_cst_29 : Ref sig .tc := ⟨.hbm, 194, rfl⟩
abbrev main_v153 : Ref sig .tc := ⟨.hbm, 195, rfl⟩
abbrev main_v154 : Ref sig .tc := ⟨.hbm, 196, rfl⟩
abbrev main_call1_cst : Ref sig .tc := ⟨.hbm, 197, rfl⟩
abbrev main_call1_v0 : Ref sig .tc := ⟨.hbm, 198, rfl⟩
abbrev main_v155 : Ref sig .tc := ⟨.hbm, 199, rfl⟩
abbrev main_cst_30 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_cst_31 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_cst_32 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩

abbrev nD : Nat := 1
abbrev τ : Topo := Topo.v7x

variable {F : FTy → Type} [FloatOps F]
-- ==== ParBack.lean ====
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S32x64 : Shape := ⟨2, ![32, 64]⟩
abbrev S4x128x1024 : Shape := ⟨3, ![4, 128, 1024]⟩
abbrev S32 : Shape := ⟨1, ![32]⟩
abbrev S32x1 : Shape := ⟨2, ![32, 1]⟩
abbrev S32x64x16 : Shape := ⟨3, ![32, 64, 16]⟩
abbrev S32x16x64 : Shape := ⟨3, ![32, 16, 64]⟩
abbrev S512x64 : Shape := ⟨2, ![512, 64]⟩
abbrev S128x512 : Shape := ⟨2, ![128, 512]⟩
abbrev S1x128x512 : Shape := ⟨3, ![1, 128, 512]⟩
abbrev S128x64 : Shape := ⟨2, ![128, 64]⟩
abbrev S32x1x64 : Shape := ⟨3, ![32, 1, 64]⟩

abbrev nBuf : Space → Nat
  | .hbm => 28
  | .vmem => 18
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S1x32x16x64, .f32⟩
  | .hbm, ⟨6, _⟩ => ⟨S1x32x16x64, .f32⟩
  | .hbm, ⟨7, _⟩ => ⟨S32x64, .f32⟩
  | .hbm, ⟨8, _⟩ => ⟨S32x64, .f32⟩
  | .hbm, ⟨9, _⟩ => ⟨S4x128x1024, .f32⟩
  | .hbm, ⟨10, _⟩ => ⟨S4x128x1024, .f32⟩
  | .hbm, ⟨11, _⟩ => ⟨S32x64, .f32⟩
  | .hbm, ⟨12, _⟩ => ⟨S32x64, .f32⟩
  | .hbm, ⟨13, _⟩ => ⟨S32, .f32⟩
  | .hbm, ⟨14, _⟩ => ⟨S32x1, .f32⟩
  | .hbm, ⟨15, _⟩ => ⟨S32x64x16, .f32⟩
  | .hbm, ⟨16, _⟩ => ⟨S32x16x64, .f32⟩
  | .hbm, ⟨17, _⟩ => ⟨S512x64, .f32⟩
  | .hbm, ⟨18, _⟩ => ⟨S32x64x16, .f32⟩
  | .hbm, ⟨19, _⟩ => ⟨S32x16x64, .f32⟩
  | .hbm, ⟨20, _⟩ => ⟨S512x64, .f32⟩
  | .hbm, ⟨21, _⟩ => ⟨S32x64, .f32⟩
  | .hbm, ⟨22, _⟩ => ⟨S32x64, .f32⟩
  | .hbm, ⟨23, _⟩ => ⟨S32x1, .f32⟩
  | .hbm, ⟨24, _⟩ => ⟨S512x64, .f32⟩
  | .hbm, ⟨25, _⟩ => ⟨S512x64, .f32⟩
  | .hbm, ⟨26, _⟩ => ⟨S512x64, .f32⟩
  | .hbm, ⟨27, _⟩ => ⟨S512x64, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S512x64, .f32⟩
  | .local _ .vmem, ⟨4, _⟩ => ⟨S512x64, .f32⟩
  | .local _ .vmem, ⟨5, _⟩ => ⟨S32x64, .f32⟩
  | .local _ .vmem, ⟨6, _⟩ => ⟨S32x64, .f32⟩
  | .local _ .vmem, ⟨7, _⟩ => ⟨S4x128x1024, .f32⟩
  | .local _ .vmem, ⟨8, _⟩ => ⟨S4x128x1024, .f32⟩
  | .local _ .vmem, ⟨9, _⟩ => ⟨S32x64, .f32⟩
  | .local _ .vmem, ⟨10, _⟩ => ⟨S32x64, .f32⟩
  | .local _ .vmem, ⟨11, _⟩ => ⟨S32x1, .f32⟩
  | .local _ .vmem, ⟨12, _⟩ => ⟨S512x64, .f32⟩
  | .local _ .vmem, ⟨13, _⟩ => ⟨S512x64, .f32⟩
  | .local _ .vmem, ⟨14, _⟩ => ⟨S512x64, .f32⟩
  | .local _ .vmem, ⟨15, _⟩ => ⟨S512x64, .f32⟩
  | .local _ .vmem, ⟨16, _⟩ => ⟨S512x64, .f32⟩
  | .local _ .vmem, ⟨17, _⟩ => ⟨S512x64, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev main_v10_5 : Ref sig .tc := ⟨.hbm, 26, rfl⟩
abbrev main_v10_6 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S512x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== ParBackRefIdeal.lean ====
abbrev S1x32x64 : Shape := ⟨3, ![1, 32, 64]⟩
abbrev S1x32 : Shape := ⟨2, ![1, 32]⟩
abbrev S1x32x64x16 : Shape := ⟨4, ![1, 32, 64, 16]⟩
abbrev S1x32x16x64 : Shape := ⟨4, ![1, 32, 16, 64]⟩
abbrev S32x64 : Shape := ⟨2, ![32, 64]⟩
abbrev S4x128x1024 : Shape := ⟨3, ![4, 128, 1024]⟩
abbrev S32 : Shape := ⟨1, ![32]⟩
abbrev S32x1 : Shape := ⟨2, ![32, 1]⟩
abbrev S_ : Shape := ⟨0, ![]⟩
abbrev S32x64x1 : Shape := ⟨3, ![32, 64, 1]⟩
abbrev S32x64x16 : Shape := ⟨3, ![32, 64, 16]⟩
abbrev S32x16x64 : Shape := ⟨3, ![32, 16, 64]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S4x8x16x64 : Shape := ⟨4, ![4, 8, 16, 64]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S512x64 : Shape := ⟨2, ![512, 64]⟩

abbrev nBuf : Space → Nat
  | .hbm => 303
  | .vmem => 0
  | .smem => 0
  | _ => 0

abbrev hbmTy0_0 (i : Nat) : BufTy := match i % 128 with
  | 0 => ⟨S1x32x64, .f32⟩
  | 1 => ⟨S1x32x64, .f32⟩
  | 2 => ⟨S1x32, .f32⟩
  | 3 => ⟨S1x32x64x16, .f32⟩
  | 4 => ⟨S1x32x64x16, .f32⟩
  | 5 => ⟨S1x32x16x64, .f32⟩
  | 6 => ⟨S1x32x16x64, .f32⟩
  | 7 => ⟨S32x64, .f32⟩
  | 8 => ⟨S32x64, .f32⟩
  | 9 => ⟨S4x128x1024, .f32⟩
  | 10 => ⟨S4x128x1024, .f32⟩
  | 11 => ⟨S32x64, .f32⟩
  | 12 => ⟨S32x64, .f32⟩
  | 13 => ⟨S32, .f32⟩
  | 14 => ⟨S32, .f32⟩
  | 15 => ⟨S32x1, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S_, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S_, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S_, .f32⟩
  | 49 => ⟨S32x64, .f32⟩
  | 50 => ⟨S32x64, .f32⟩
  | 51 => ⟨S32x64x1, .f32⟩
  | 52 => ⟨S32x64x16, .f32⟩
  | 53 => ⟨S32x64x16, .f32⟩
  | 54 => ⟨S32x64x16, .f32⟩
  | 55 => ⟨S32x64x1, .f32⟩
  | 56 => ⟨S32x64x16, .f32⟩
  | 57 => ⟨S32x64x16, .f32⟩
  | 58 => ⟨S32x64x16, .f32⟩
  | 59 => ⟨S32x64x16, .f32⟩
  | 60 => ⟨S32x64x1, .f32⟩
  | 61 => ⟨S32x64x16, .f32⟩
  | 62 => ⟨S32x64x16, .f32⟩
  | 63 => ⟨S32x64x16, .f32⟩
  | 64 => ⟨S32x64x1, .f32⟩
  | 65 => ⟨S32x64x16, .f32⟩
  | 66 => ⟨S32x64x16, .f32⟩
  | 67 => ⟨S32x64x16, .f32⟩
  | 68 => ⟨S32x64x16, .f32⟩
  | 69 => ⟨S32x16x64, .f32⟩
  | 70 => ⟨S8, .i32⟩
  | 71 => ⟨S8x1, .i32⟩
  | 72 => ⟨S8, .i32⟩
  | 73 => ⟨S1x8, .i32⟩
  | 74 => ⟨S8x8, .i32⟩
  | 75 => ⟨S8x8, .i32⟩
  | 76 => ⟨S8x8, .i1⟩
  | 77 => ⟨S8x8, .f32⟩
  | 78 => ⟨S4x8x16x64, .f32⟩
  | 79 => ⟨S4x8x16x1x64, .f32⟩
  | 80 => ⟨S1x8x1x8x1, .f32⟩
  | 81 => ⟨S4x8x16x8x64, .f32⟩
  | 82 => ⟨S4x8x16x8x64, .f32⟩
  | 83 => ⟨S4x8x16x8x64, .f32⟩
  | 84 => ⟨S4x128x512, .f32⟩
  | 85 => ⟨S32x16x64, .f32⟩
  | 86 => ⟨S8, .i32⟩
  | 87 => ⟨S8x1, .i32⟩
  | 88 => ⟨S8, .i32⟩
  | 89 => ⟨S1x8, .i32⟩
  | 90 => ⟨S8x8, .i32⟩
  | 91 => ⟨S8x8, .i32⟩
  | 92 => ⟨S8x8, .i1⟩
  | 93 => ⟨S8x8, .f32⟩
  | 94 => ⟨S4x8x16x64, .f32⟩
  | 95 => ⟨S4x8x16x1x64, .f32⟩
  | 96 => ⟨S1x8x1x8x1, .f32⟩
  | 97 => ⟨S4x8x16x8x64, .f32⟩
  | 98 => ⟨S4x8x16x8x64, .f32⟩
  | 99 => ⟨S4x8x16x8x64, .f32⟩
  | 100 => ⟨S4x128x512, .f32⟩
  | 101 => ⟨S4x128x1024, .f32⟩
  | 102 => ⟨S32x16x64, .f32⟩
  | 103 => ⟨S8, .i32⟩
  | 104 => ⟨S8x1, .i32⟩
  | 105 => ⟨S8, .i32⟩
  | 106 => ⟨S1x8, .i32⟩
  | 107 => ⟨S8x8, .i32⟩
  | 108 => ⟨S8x8, .i32⟩
  | 109 => ⟨S8x8, .i1⟩
  | 110 => ⟨S8x8, .f32⟩
  | 111 => ⟨S4x8x16x64, .f32⟩
  | 112 => ⟨S4x8x16x1x64, .f32⟩
  | 113 => ⟨S1x8x1x8x1, .f32⟩
  | 114 => ⟨S4x8x16x8x64, .f32⟩
  | 115 => ⟨S4x8x16x8x64, .f32⟩
  | 116 => ⟨S4x8x16x8x64, .f32⟩
  | 117 => ⟨S4x128x512, .f32⟩
  | 118 => ⟨S32x16x64, .f32⟩
  | 119 => ⟨S32x16x64, .f32⟩
  | 120 => ⟨S8, .i32⟩
  | 121 => ⟨S8x1, .i32⟩
  | 122 => ⟨S8, .i32⟩
  | 123 => ⟨S1x8, .i32⟩
  | 124 => ⟨S8x8, .i32⟩
  | 125 => ⟨S8x8, .i32⟩
  | 126 => ⟨S8x8, .i1⟩
  | 127 => ⟨S8x8, .f32⟩
  | _ => ⟨S1x32x64, .f32⟩

abbrev hbmTy0_1 (i : Nat) : BufTy := match i % 128 with
  | 0 => ⟨S4x8x16x64, .f32⟩
  | 1 => ⟨S4x8x16x1x64, .f32⟩
  | 2 => ⟨S1x8x1x8x1, .f32⟩
  | 3 => ⟨S4x8x16x8x64, .f32⟩
  | 4 => ⟨S4x8x16x8x64, .f32⟩
  | 5 => ⟨S4x8x16x8x64, .f32⟩
  | 6 => ⟨S4x128x512, .f32⟩
  | 7 => ⟨S4x128x1024, .f32⟩
  | 8 => ⟨S4x128x512, .f32⟩
  | 9 => ⟨S4x128x512, .f32⟩
  | 10 => ⟨S4x8x16x8x64, .f32⟩
  | 11 => ⟨S4x8x16x8x64, .f32⟩
  | 12 => ⟨S4x8x16x8x64, .f32⟩
  | 13 => ⟨S_, .f32⟩
  | 14 => ⟨S4x8x16x64, .f32⟩
  | 15 => ⟨S4x8x16x1x64, .f32⟩
  | 16 => ⟨S_, .f32⟩
  | 17 => ⟨S4x8x16x64, .f32⟩
  | 18 => ⟨S32x16x64, .f32⟩
  | 19 => ⟨S32x16x64, .f32⟩
  | 20 => ⟨S1x32x16x64, .f32⟩
  | 21 => ⟨S4x8x16x8x64, .f32⟩
  | 22 => ⟨S4x8x16x8x64, .f32⟩
  | 23 => ⟨S4x8x16x8x64, .f32⟩
  | 24 => ⟨S_, .f32⟩
  | 25 => ⟨S4x8x16x64, .f32⟩
  | 26 => ⟨S4x8x16x1x64, .f32⟩
  | 27 => ⟨S_, .f32⟩
  | 28 => ⟨S4x8x16x64, .f32⟩
  | 29 => ⟨S32x16x64, .f32⟩
  | 30 => ⟨S1x32x16x64, .f32⟩
  | 31 => ⟨S4x128x512, .f32⟩
  | 32 => ⟨S4x128x512, .f32⟩
  | 33 => ⟨S4x8x16x8x64, .f32⟩
  | 34 => ⟨S4x8x16x8x64, .f32⟩
  | 35 => ⟨S4x8x16x8x64, .f32⟩
  | 36 => ⟨S_, .f32⟩
  | 37 => ⟨S4x8x16x64, .f32⟩
  | 38 => ⟨S4x8x16x1x64, .f32⟩
  | 39 => ⟨S_, .f32⟩
  | 40 => ⟨S4x8x16x64, .f32⟩
  | 41 => ⟨S32x16x64, .f32⟩
  | 42 => ⟨S32x64x16, .f32⟩
  | 43 => ⟨S4x8x16x8x64, .f32⟩
  | 44 => ⟨S4x8x16x8x64, .f32⟩
  | 45 => ⟨S4x8x16x8x64, .f32⟩
  | 46 => ⟨S_, .f32⟩
  | 47 => ⟨S4x8x16x64, .f32⟩
  | 48 => ⟨S4x8x16x1x64, .f32⟩
  | 49 => ⟨S_, .f32⟩
  | 50 => ⟨S4x8x16x64, .f32⟩
  | 51 => ⟨S32x16x64, .f32⟩
  | 52 => ⟨S32x64x16, .f32⟩
  | 53 => ⟨S32x64x16, .f32⟩
  | 54 => ⟨S32x64x16, .f32⟩
  | 55 => ⟨S32x64x16, .f32⟩
  | 56 => ⟨S_, .f32⟩
  | 57 => ⟨S32x64, .f32⟩
  | 58 => ⟨S32x64x1, .f32⟩
  | 59 => ⟨S1x32x64x16, .f32⟩
  | 60 => ⟨S_, .f32⟩
  | 61 => ⟨S32x64, .f32⟩
  | 62 => ⟨S32x64x16, .f32⟩
  | 63 => ⟨S32x64x16, .f32⟩
  | 64 => ⟨S32x64x16, .f32⟩
  | 65 => ⟨S_, .f32⟩
  | 66 => ⟨S32x64, .f32⟩
  | 67 => ⟨S32x64x1, .f32⟩
  | 68 => ⟨S1x32x64x16, .f32⟩
  | 69 => ⟨S_, .f32⟩
  | 70 => ⟨S32x64, .f32⟩
  | 71 => ⟨S32x64x16, .f32⟩
  | 72 => ⟨S32x64x16, .f32⟩
  | 73 => ⟨S32x64x16, .f32⟩
  | 74 => ⟨S32x64x16, .f32⟩
  | 75 => ⟨S_, .f32⟩
  | 76 => ⟨S32x64, .f32⟩
  | 77 => ⟨S32x64x1, .f32⟩
  | 78 => ⟨S1x32x64x16, .f32⟩
  | 79 => ⟨S1x32x64x16, .f32⟩
  | 80 => ⟨S_, .f32⟩
  | 81 => ⟨S32x64, .f32⟩
  | 82 => ⟨S32x64, .f32⟩
  | 83 => ⟨S32x64x16, .f32⟩
  | 84 => ⟨S32x64x16, .f32⟩
  | 85 => ⟨S32x64x16, .f32⟩
  | 86 => ⟨S_, .f32⟩
  | 87 => ⟨S32x64, .f32⟩
  | 88 => ⟨S32x64x1, .f32⟩
  | 89 => ⟨S1x32x64x16, .f32⟩
  | 90 => ⟨S1x32x64x16, .f32⟩
  | 91 => ⟨S_, .f32⟩
  | 92 => ⟨S32x64, .f32⟩
  | 93 => ⟨S32x64, .f32⟩
  | 94 => ⟨S32x64, .f32⟩
  | 95 => ⟨S32x64, .f32⟩
  | 96 => ⟨S32x64, .f32⟩
  | 97 => ⟨S32x64, .f32⟩
  | 98 => ⟨S32x64, .f32⟩
  | 99 => ⟨S32x64, .f32⟩
  | 100 => ⟨S32x64, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S1x32x64, .f32⟩

abbrev hbmTy0_2 (i : Nat) : BufTy := match i % 128 with
  | 0 => ⟨S32x64, .f32⟩
  | 1 => ⟨S32x64, .f32⟩
  | 2 => ⟨S_, .f32⟩
  | 3 => ⟨S32, .f32⟩
  | 4 => ⟨S32x1, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S_, .f32⟩
  | 15 => ⟨S32, .f32⟩
  | 16 => ⟨S32x1, .f32⟩
  | 17 => ⟨S32x1, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S_, .f32⟩
  | 24 => ⟨S32, .f32⟩
  | 25 => ⟨S32x1, .f32⟩
  | 26 => ⟨S32x1, .f32⟩
  | 27 => ⟨S32x64, .f32⟩
  | 28 => ⟨S32x64, .f32⟩
  | 29 => ⟨S32x64, .f32⟩
  | 30 => ⟨S_, .f32⟩
  | 31 => ⟨S32, .f32⟩
  | 32 => ⟨S32, .f32⟩
  | 33 => ⟨S1x32, .f32⟩
  | 34 => ⟨S1x32x64, .f32⟩
  | 35 => ⟨S1x32x64, .f32⟩
  | 36 => ⟨S32x64, .f32⟩
  | 37 => ⟨S32x64, .f32⟩
  | 38 => ⟨S32x1, .f32⟩
  | 39 => ⟨S32x64x16, .f32⟩
  | 40 => ⟨S32x16x64, .f32⟩
  | 41 => ⟨S512x64, .f32⟩
  | 42 => ⟨S32x64x16, .f32⟩
  | 43 => ⟨S32x16x64, .f32⟩
  | 44 => ⟨S512x64, .f32⟩
  | 45 => ⟨S512x64, .f32⟩
  | 46 => ⟨S512x64, .f32⟩
  | _ => ⟨S1x32x64, .f32⟩

abbrev hbmTy (i : Nat) : BufTy := match i / 128 with
  | 0 => hbmTy0_0 i
  | 1 => hbmTy0_1 i
  | 2 => hbmTy0_2 i
  | _ => ⟨S1x32x64, .f32⟩

abbrev bufTy : (tb : Table) → Fin (tcTables nBuf tb) → BufTy
  | .hbm, ⟨i, _⟩ => hbmTy i
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_1 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_cst_2 : Ref sig .tc := ⟨.hbm, 141, rfl⟩
abbrev main_v127 : Ref sig .tc := ⟨.hbm, 142, rfl⟩
abbrev main_v128 : Ref sig .tc := ⟨.hbm, 143, rfl⟩
abbrev main_cst_3 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_cst_4 : Ref sig .tc := ⟨.hbm, 152, rfl⟩
abbrev main_v136 : Ref sig .tc := ⟨.hbm, 153, rfl⟩
abbrev main_v137 : Ref sig .tc := ⟨.hbm, 154, rfl⟩
abbrev main_cst_5 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_cst_6 : Ref sig .tc := ⟨.hbm, 164, rfl⟩
abbrev main_v146 : Ref sig .tc := ⟨.hbm, 165, rfl⟩
abbrev main_v147 : Ref sig .tc := ⟨.hbm, 166, rfl⟩
abbrev main_cst_7 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_cst_8 : Ref sig .tc := ⟨.hbm, 174, rfl⟩
abbrev main_v154 : Ref sig .tc := ⟨.hbm, 175, rfl⟩
abbrev main_v155 : Ref sig .tc := ⟨.hbm, 176, rfl⟩
abbrev main_cst_9 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_cst_10 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_cst_11 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_cst_12 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_cst_13 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_cst_14 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_cst_15 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_cst_16 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_cst_17 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_v206 : Ref sig .tc := ⟨.hbm, 236, rfl⟩
abbrev main_v207 : Ref sig .tc := ⟨.hbm, 237, rfl⟩
abbrev main_v208 : Ref sig .tc := ⟨.hbm, 238, rfl⟩
abbrev main_v209 : Ref sig .tc := ⟨.hbm, 239, rfl⟩
abbrev main_v210 : Ref sig .tc := ⟨.hbm, 240, rfl⟩
abbrev main_v211 : Ref sig .tc := ⟨.hbm, 241, rfl⟩
abbrev main_v212 : Ref sig .tc := ⟨.hbm, 242, rfl⟩
abbrev main_v213 : Ref sig .tc := ⟨.hbm, 243, rfl⟩
abbrev main_v214 : Ref sig .tc := ⟨.hbm, 244, rfl⟩
abbrev main_v215 : Ref sig .tc := ⟨.hbm, 245, rfl⟩
abbrev main_v216 : Ref sig .tc := ⟨.hbm, 246, rfl⟩
abbrev main_v217 : Ref sig .tc := ⟨.hbm, 247, rfl⟩
abbrev main_v218 : Ref sig .tc := ⟨.hbm, 248, rfl⟩
abbrev main_v219 : Ref sig .tc := ⟨.hbm, 249, rfl⟩
abbrev main_v220 : Ref sig .tc := ⟨.hbm, 250, rfl⟩
abbrev main_v221 : Ref sig .tc := ⟨.hbm, 251, rfl⟩
abbrev main_v222 : Ref sig .tc := ⟨.hbm, 252, rfl⟩
abbrev main_v223 : Ref sig .tc := ⟨.hbm, 253, rfl⟩
abbrev main_v224 : Ref sig .tc := ⟨.hbm, 254, rfl⟩
abbrev main_v225 : Ref sig .tc := ⟨.hbm, 255, rfl⟩
abbrev main_v226 : Ref sig .tc := ⟨.hbm, 256, rfl⟩
abbrev main_v227 : Ref sig .tc := ⟨.hbm, 257, rfl⟩
abbrev main_cst_18 : Ref sig .tc := ⟨.hbm, 258, rfl⟩
abbrev main_v228 : Ref sig .tc := ⟨.hbm, 259, rfl⟩
abbrev main_v229 : Ref sig .tc := ⟨.hbm, 260, rfl⟩
abbrev main_v230 : Ref sig .tc := ⟨.hbm, 261, rfl⟩
abbrev main_v231 : Ref sig .tc := ⟨.hbm, 262, rfl⟩
abbrev main_v232 : Ref sig .tc := ⟨.hbm, 263, rfl⟩
abbrev main_v233 : Ref sig .tc := ⟨.hbm, 264, rfl⟩
abbrev main_v234 : Ref sig .tc := ⟨.hbm, 265, rfl⟩
abbrev main_v235 : Ref sig .tc := ⟨.hbm, 266, rfl⟩
abbrev main_v236 : Ref sig .tc := ⟨.hbm, 267, rfl⟩
abbrev main_v237 : Ref sig .tc := ⟨.hbm, 268, rfl⟩
abbrev main_v238 : Ref sig .tc := ⟨.hbm, 269, rfl⟩
abbrev main_cst_19 : Ref sig .tc := ⟨.hbm, 270, rfl⟩
abbrev main_v239 : Ref sig .tc := ⟨.hbm, 271, rfl⟩
abbrev main_v240 : Ref sig .tc := ⟨.hbm, 272, rfl⟩
abbrev main_v241 : Ref sig .tc := ⟨.hbm, 273, rfl⟩
abbrev main_v242 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_v246 : Ref sig .tc := ⟨.hbm, 278, rfl⟩
abbrev main_cst_20 : Ref sig .tc := ⟨.hbm, 279, rfl⟩
abbrev main_v247 : Ref sig .tc := ⟨.hbm, 280, rfl⟩
abbrev main_v248 : Ref sig .tc := ⟨.hbm, 281, rfl⟩
abbrev main_v249 : Ref sig .tc := ⟨.hbm, 282, rfl⟩
abbrev main_v250 : Ref sig .tc := ⟨.hbm, 283, rfl⟩
abbrev main_v251 : Ref sig .tc := ⟨.hbm, 284, rfl⟩
abbrev main_v252 : Ref sig .tc := ⟨.hbm, 285, rfl⟩
abbrev main_cst_21 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_v263 : Ref sig .tc := ⟨.hbm, 297, rfl⟩
abbrev main_v264 : Ref sig .tc := ⟨.hbm, 298, rfl⟩
abbrev main_v265 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩

abbrev nD : Nat := 1
abbrev τ : Topo := Topo.v7x

variable {F : FTy → Type} [FloatOps F]
-- ==== MixBack.lean ====
abbrev S2x2048x1024 : Shape := ⟨3, ![2, 2048, 1024]⟩
abbrev S2x2048x512 : Shape := ⟨3, ![2, 2048, 512]⟩
abbrev S1x2x2048x256 : Shape := ⟨4, ![1, 2, 2048, 256]⟩
abbrev S1x512x512 : Shape := ⟨3, ![1, 512, 512]⟩
abbrev S1x512 : Shape := ⟨2, ![1, 512]⟩
abbrev S1x1024x1024 : Shape := ⟨3, ![1, 1024, 1024]⟩
abbrev S1x1024 : Shape := ⟨2, ![1, 1024]⟩
abbrev S1x256x1024 : Shape := ⟨3, ![1, 256, 1024]⟩
abbrev S4096x1024 : Shape := ⟨2, ![4096, 1024]⟩
abbrev S4096x512 : Shape := ⟨2, ![4096, 512]⟩
abbrev S2x2048x256 : Shape := ⟨3, ![2, 2048, 256]⟩
abbrev S4096x256 : Shape := ⟨2, ![4096, 256]⟩
abbrev S512x512 : Shape := ⟨2, ![512, 512]⟩
abbrev S1024x1024 : Shape := ⟨2, ![1024, 1024]⟩
abbrev S256x1024 : Shape := ⟨2, ![256, 1024]⟩
abbrev S1x1 : Shape := ⟨2, ![1, 1]⟩
abbrev S1x64x512 : Shape := ⟨3, ![1, 64, 512]⟩
abbrev S1x128x1024 : Shape := ⟨3, ![1, 128, 1024]⟩
abbrev S1x256x128 : Shape := ⟨3, ![1, 256, 128]⟩
abbrev S8x256x128 : Shape := ⟨3, ![8, 256, 128]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S1 : Shape := ⟨1, ![1]⟩
abbrev S512 : Shape := ⟨1, ![512]⟩
abbrev S1024 : Shape := ⟨1, ![1024]⟩
abbrev S64x1024 : Shape := ⟨2, ![64, 1024]⟩
abbrev S64x512 : Shape := ⟨2, ![64, 512]⟩
abbrev S128x1024 : Shape := ⟨2, ![128, 1024]⟩
abbrev S256x128 : Shape := ⟨2, ![256, 128]⟩

abbrev nBuf : Space → Nat
  | .hbm => 47
  | .vmem => 47
  | .smem => 0
  | _ => 0

abbrev bufTy : (tb : Table) → Fin (tcTables nBuf tb) → BufTy
  | .hbm, ⟨0, _⟩ => ⟨S2x2048x1024, .f32⟩
  | .hbm, ⟨1, _⟩ => ⟨S2x2048x512, .f32⟩
  | .hbm, ⟨2, _⟩ => ⟨S2x2048x512, .f32⟩
  | .hbm, ⟨3, _⟩ => ⟨S2x2048x512, .f32⟩
  | .hbm, ⟨4, _⟩ => ⟨S2x2048x512, .f32⟩
  | .hbm, ⟨5, _⟩ => ⟨S1x2x2048x256, .f32⟩
  | .hbm, ⟨6, _⟩ => ⟨S2x2048x1024, .f32⟩
  | .hbm, ⟨7, _⟩ => ⟨S1x512x512, .f32⟩
  | .hbm, ⟨8, _⟩ => ⟨S1x512, .f32⟩
  | .hbm, ⟨9, _⟩ => ⟨S1x1024x1024, .f32⟩
  | .hbm, ⟨10, _⟩ => ⟨S1x1024, .f32⟩
  | .hbm, ⟨11, _⟩ => ⟨S1x256x1024, .f32⟩
  | .hbm, ⟨12, _⟩ => ⟨S1x1024x1024, .f32⟩
  | .hbm, ⟨13, _⟩ => ⟨S1x1024, .f32⟩
  | .hbm, ⟨14, _⟩ => ⟨S4096x1024, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S2x2048x256, .f32⟩
  | .hbm, ⟨20, _⟩ => ⟨S4096x256, .f32⟩
  | .hbm, ⟨21, _⟩ => ⟨S4096x1024, .f32⟩
  | .hbm, ⟨22, _⟩ => ⟨S512x512, .f32⟩
  | .hbm, ⟨23, _⟩ => ⟨S512x512, .bf16⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .bf16⟩
  | .hbm, ⟨28, _⟩ => ⟨S256x1024, .f32⟩
  | .hbm, ⟨29, _⟩ => ⟨S256x1024, .bf16⟩
  | .hbm, ⟨30, _⟩ => ⟨S1x1, .f32⟩
  | .hbm, ⟨31, _⟩ => ⟨S4096x1024, .f32⟩
  | .hbm, ⟨32, _⟩ => ⟨S4096x512, .f32⟩
  | .hbm, ⟨33, _⟩ => ⟨S4096x512, .bf16⟩
  | .hbm, ⟨34, _⟩ => ⟨S4096x512, .f32⟩
  | .hbm, ⟨35, _⟩ => ⟨S4096x512, .bf16⟩
  | .hbm, ⟨36, _⟩ => ⟨S1x64x512, .f32⟩
  | .hbm, ⟨37, _⟩ => ⟨S1x512, .f32⟩
  | .hbm, ⟨38, _⟩ => ⟨S1x128x1024, .f32⟩
  | .hbm, ⟨39, _⟩ => ⟨S1x1024, .f32⟩
  | .hbm, ⟨40, _⟩ => ⟨S1x128x1024, .f32⟩
  | .hbm, ⟨41, _⟩ => ⟨S1x1024, .f32⟩
  | .hbm, ⟨42, _⟩ => ⟨S1x256x128, .f32⟩
  | .hbm, ⟨43, _⟩ => ⟨S1024x1024, .bf16⟩
  | .hbm, ⟨44, _⟩ => ⟨S1024x1024, .bf16⟩
  | .hbm, ⟨45, _⟩ => ⟨S8x256x128, .bf16⟩
  | .hbm, ⟨46, _⟩ => ⟨S512x512, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x256, .f32⟩
  | .local _ .vmem, ⟨11, _⟩ => ⟨S256x256, .f32⟩
  | .local _ .vmem, ⟨12, _⟩ => ⟨S256x1024, .f32⟩
  | .local _ .vmem, ⟨13, _⟩ => ⟨S256x1024, .f32⟩
  | .local _ .vmem, ⟨14, _⟩ => ⟨S512x512, .bf16⟩
  | .local _ .vmem, ⟨15, _⟩ => ⟨S1x512, .f32⟩
  | .local _ .vmem, ⟨16, _⟩ => ⟨S1024x1024, .bf16⟩
  | .local _ .vmem, ⟨17, _⟩ => ⟨S1x1024, .f32⟩
  | .local _ .vmem, ⟨18, _⟩ => ⟨S1024x1024, .bf16⟩
  | .local _ .vmem, ⟨19, _⟩ => ⟨S1x1024, .f32⟩
  | .local _ .vmem, ⟨20, _⟩ => ⟨S256x1024, .bf16⟩
  | .local _ .vmem, ⟨21, _⟩ => ⟨S1x1, .f32⟩
  | .local _ .vmem, ⟨22, _⟩ => ⟨S256x1024, .f32⟩
  | .local _ .vmem, ⟨23, _⟩ => ⟨S256x1024, .f32⟩
  | .local _ .vmem, ⟨24, _⟩ => ⟨S256x512, .f32⟩
  | .local _ .vmem, ⟨25, _⟩ => ⟨S256x512, .f32⟩
  | .local _ .vmem, ⟨26, _⟩ => ⟨S256x512, .bf16⟩
  | .local _ .vmem, ⟨27, _⟩ => ⟨S256x512, .bf16⟩
  | .local _ .vmem, ⟨28, _⟩ => ⟨S256x512, .f32⟩
  | .local _ .vmem, ⟨29, _⟩ => ⟨S256x512, .f32⟩
  | .local _ .vmem, ⟨30, _⟩ => ⟨S256x512, .bf16⟩
  | .local _ .vmem, ⟨31, _⟩ => ⟨S256x512, .bf16⟩
  | .local _ .vmem, ⟨32, _⟩ => ⟨S1x64x512, .f32⟩
  | .local _ .vmem, ⟨33, _⟩ => ⟨S1x512, .f32⟩
  | .local _ .vmem, ⟨34, _⟩ => ⟨S1x128x1024, .f32⟩
  | .local _ .vmem, ⟨35, _⟩ => ⟨S1x1024, .f32⟩
  | .local _ .vmem, ⟨36, _⟩ => ⟨S1x128x1024, .f32⟩
  | .local _ .vmem, ⟨37, _⟩ => ⟨S1x1024, .f32⟩
  | .local _ .vmem, ⟨38, _⟩ => ⟨S1x256x128, .f32⟩
  | .local _ .vmem, ⟨39, _⟩ => ⟨S1024x1024, .bf16⟩
  | .local _ .vmem, ⟨40, _⟩ => ⟨S1024x1024, .bf16⟩
  | .local _ .vmem, ⟨41, _⟩ => ⟨S8x256x128, .bf16⟩
  | .local _ .vmem, ⟨42, _⟩ => ⟨S512x512, .bf16⟩
  | .local _ .vmem, ⟨43, _⟩ => ⟨S512x512, .f32⟩
  | .local _ .vmem, ⟨44, _⟩ => ⟨S1024x1024, .f32⟩
  | .local _ .vmem, ⟨45, _⟩ => ⟨S1024x1024, .f32⟩
  | .local _ .vmem, ⟨46, _⟩ => ⟨S256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v16_3 : Ref sig .tc := ⟨.hbm, 33, rfl⟩
abbrev main_v16_4 : Ref sig .tc := ⟨.hbm, 34, rfl⟩
abbrev main_v16_5 : Ref sig .tc := ⟨.hbm, 35, rfl⟩
abbrev main_v16_6 : Ref sig .tc := ⟨.hbm, 36, rfl⟩
abbrev main_v16_7 : Ref sig .tc := ⟨.hbm, 37, rfl⟩
abbrev main_v16_8 : Ref sig .tc := ⟨.hbm, 38, rfl⟩
abbrev main_v16_9 : Ref sig .tc := ⟨.hbm, 39, rfl⟩
abbrev main_v16_10 : Ref sig .tc := ⟨.hbm, 40, rfl⟩
abbrev main_v16_11 : Ref sig .tc := ⟨.hbm, 41, rfl⟩
abbrev main_v16_12 : Ref sig .tc := ⟨.hbm, 42, rfl⟩
abbrev main_v16_13 : Ref sig .tc := ⟨.hbm, 43, rfl⟩
abbrev main_v16_14 : Ref sig .tc := ⟨.hbm, 44, rfl⟩
abbrev main_v16_15 : Ref sig .tc := ⟨.hbm, 45, rfl⟩
abbrev main_v16_16 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg24_0 : Ref sig .tc := ⟨.vmem, 36, rfl⟩
abbrev cc0_stg25_0 : Ref sig .tc := ⟨.vmem, 37, rfl⟩
abbrev cc0_stg26_0 : Ref sig .tc := ⟨.vmem, 38, rfl⟩
abbrev cc0_stg27_0 : Ref sig .tc := ⟨.vmem, 39, rfl⟩
abbrev cc0_stg28_0 : Ref sig .tc := ⟨.vmem, 40, rfl⟩
abbrev cc0_stg29_0 : Ref sig .tc := ⟨.vmem, 41, rfl⟩
abbrev cc0_stg30_0 : Ref sig .tc := ⟨.vmem, 42, rfl⟩
abbrev cc0_scratch0 : Ref sig .tc := ⟨.vmem, 43, rfl⟩
abbrev cc0_scratch1 : Ref sig .tc := ⟨.vmem, 44, rfl⟩
abbrev cc0_scratch2 : Ref sig .tc := ⟨.vmem, 45, rfl⟩
abbrev cc0_scratch3 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem21_0 : DmaSem sig := 33
abbrev cc0_sem22_0 : DmaSem sig := 34
abbrev cc0_sem23_0 : DmaSem sig := 35
abbrev cc0_sem24_0 : DmaSem sig := 36
abbrev cc0_sem25_0 : DmaSem sig := 37
abbrev cc0_sem26_0 : DmaSem sig := 38
abbrev cc0_sem27_0 : DmaSem sig := 39
abbrev cc0_sem28_0 : DmaSem sig := 40
abbrev cc0_sem29_0 : DmaSem sig := 41
abbrev cc0_sem30_0 : DmaSem sig := 42

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v253 : BitVec 1 := Scalar.cmpi .eq arg0 c15_i32
  let v254 : BitVec 32 := Scalar.extui v253
  let c0_i32_127 : BitVec 32 := 0#32
  let v255 : BitVec 1 := Scalar.cmpi .ne v254 c0_i32_127
  v255

@[reducible] def k0_t1_loop : Scf.Loop 32 :=
  let c0_i32_128 : BitVec 32 := 0#32
  let c16_i32 : BitVec 32 := 16#32
  let v256 : BitVec 32 := Scalar.addi c0_i32_128 c16_i32
  let c1_i32 : BitVec 32 := 1#32
  ⟨c0_i32_128, v256, c1_i32⟩
def k0_mult1 (k0_t1 : Fin k0_t1_loop.trips) : BitVec 32 :=
  let c0_i32_128 : BitVec 32 := 0#32
  let c1_i32 : BitVec 32 := 1#32
  let arg36 : BitVec 32 := Scf.iv c0_i32_128 c1_i32 k0_t1
  let c64_i32 : BitVec 32 := 64#32
  let v321 : BitVec 32 := Scalar.muli arg36 c64_i32
  v321
def k0_off1 (k0_t1 : Fin k0_t1_loop.trips) : Fin 2 → Nat :=
  let c0_i32_128 : BitVec 32 := 0#32
  let c1_i32 : BitVec 32 := 1#32
  let arg36 : BitVec 32 := Scf.iv c0_i32_128 c1_i32 k0_t1
  let c64_i32 : BitVec 32 := 64#32
  let v321 : BitVec 32 := Scalar.muli arg36 c64_i32
  let v322 : BitVec 32 := v321
  let v323 : Index := Scalar.indexCast v322
  let c0_183 : Index := 0#32
  ![v323.toNat, 0]
@[reducible] def k0_t2_loop : Scf.Loop 32 :=
  let c0_i32_130 : BitVec 32 := 0#32
  let c16_i32_131 : BitVec 32 := 16#32
  let v257 : BitVec 32 := Scalar.addi c0_i32_130 c16_i32_131
  let c1_i32_132 : BitVec 32 := 1#32
  ⟨c0_i32_130, v257, c1_i32_132⟩
def k0_mult2 (k0_t2 : Fin k0_t2_loop.trips) : BitVec 32 :=
  let c0_i32_130 : BitVec 32 := 0#32
  let c1_i32_132 : BitVec 32 := 1#32
  let arg36 : BitVec 32 := Scf.iv c0_i32_130 c1_i32_132 k0_t2
  let c64_i32 : BitVec 32 := 64#32
  let v321 : BitVec 32 := Scalar.muli arg36 c64_i32
  v321
def k0_off2 (k0_t2 : Fin k0_t2_loop.trips) : Fin 2 → Nat :=
  let c0_i32_130 : BitVec 32 := 0#32
  let c1_i32_132 : BitVec 32 := 1#32
  let arg36 : BitVec 32 := Scf.iv c0_i32_130 c1_i32_132 k0_t2
  let c64_i32 : BitVec 32 := 64#32
  let v321 : BitVec 32 := Scalar.muli arg36 c64_i32
  let v322 : BitVec 32 := v321
  let v323 : Index := Scalar.indexCast v322
  let c0_183 : Index := 0#32
  ![v323.toNat, 0]
@[reducible] def k0_t3_loop : Scf.Loop 32 :=
  let c0_i32_134 : BitVec 32 := 0#32
  let c8_i32 : BitVec 32 := 8#32
  let v258 : BitVec 32 := Scalar.addi c0_i32_134 c8_i32
  let c1_i32_135 : BitVec 32 := 1#32
  ⟨c0_i32_134, v258, c1_i32_135⟩
def k0_mult3 (k0_t3 : Fin k0_t3_loop.trips) : BitVec 32 :=
  let c0_i32_134 : BitVec 32 := 0#32
  let c1_i32_135 : BitVec 32 := 1#32
  let arg36 : BitVec 32 := Scf.iv c0_i32_134 c1_i32_135 k0_t3
  let c64_i32 : BitVec 32 := 64#32
  let v321 : BitVec 32 := Scalar.muli arg36 c64_i32
  v321
def k0_off3 (k0_t3 : Fin k0_t3_loop.trips) : Fin 2 → Nat :=
  let c0_i32_134 : BitVec 32 := 0#32
  let c1_i32_135 : BitVec 32 := 1#32
  let arg36 : BitVec 32 := Scf.iv c0_i32_134 c1_i32_135 k0_t3
  let c64_i32 : BitVec 32 := 64#32
  let v321 : BitVec 32 := Scalar.muli arg36 c64_i32
  let v322 : BitVec 32 := v321
  let v323 : Index := Scalar.indexCast v322
  let c0_183 : Index := 0#32
  ![v323.toNat, 0]
def k0_mult4 : BitVec 32 :=
  let c0_i32_137 : BitVec 32 := 0#32
  c0_i32_137
def k0_mult5 : BitVec 32 :=
  let c0_i32_142 : BitVec 32 := 0#32
  c0_i32_142
def k0_mult6 : BitVec 32 :=
  let c0_i32_147 : BitVec 32 := 0#32
  c0_i32_147
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x64x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x256x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1024x1024 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1024x1024 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S8x256x128 .bf16 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S512x512 .bf16 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]
-- ==== MixBackIdeal.lean ====
variable {F : FTy → Type} [FloatOps F] [Named F]
def κ : String → Option EReal := fun
  | "gelu_3k" => some ((26829 / 200000 : ℝ) : EReal)
  | "gelu_k" => some ((8943 / 200000 : ℝ) : EReal)
  | _ => none
-- ==== MixBackRefIdeal.lean ====
abbrev S2x2048x1024 : Shape := ⟨3, ![2, 2048, 1024]⟩
abbrev S2x2048x512 : Shape := ⟨3, ![2, 2048, 512]⟩
abbrev S1x2x2048x256 : Shape := ⟨4, ![1, 2, 2048, 256]⟩
abbrev S1x512x512 : Shape := ⟨3, ![1, 512, 512]⟩
abbrev S1x512 : Shape := ⟨2, ![1, 512]⟩
abbrev S1x1024x1024 : Shape := ⟨3, ![1, 1024, 1024]⟩
abbrev S1x1024 : Shape := ⟨2, ![1, 1024]⟩
abbrev S1x256x1024 : Shape := ⟨3, ![1, 256, 1024]⟩
abbrev S_ : Shape := ⟨0, ![]⟩
abbrev S512x512 : Shape := ⟨2, ![512, 512]⟩
abbrev S512 : Shape := ⟨1, ![512]⟩
abbrev S1x1x512 : Shape := ⟨3, ![1, 1, 512]⟩
abbrev S1024x1024 : Shape := ⟨2, ![1024, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S2x2048x256 : Shape := ⟨3, ![2, 2048, 256]⟩
abbrev S256x1024 : Shape := ⟨2, ![256, 1024]⟩
abbrev S1024x256 : Shape := ⟨2, ![1024, 256]⟩
abbrev S256x8x128 : Shape := ⟨3, ![256, 8, 128]⟩
abbrev S8x256x128 : Shape := ⟨3, ![8, 256, 128]⟩
abbrev S1x1 : Shape := ⟨2, ![1, 1]⟩
abbrev S4096x1024 : Shape := ⟨2, ![4096, 1024]⟩
abbrev S4096x512 : Shape := ⟨2, ![4096, 512]⟩
abbrev S1x64x512 : Shape := ⟨3, ![1, 64, 512]⟩
abbrev S1x128x1024 : Shape := ⟨3, ![1, 128, 1024]⟩
abbrev S1x256x128 : Shape := ⟨3, ![1, 256, 128]⟩

abbrev nBuf : Space → Nat
  | .hbm => 273
  | .vmem => 0
  | .smem => 0
  | _ => 0

abbrev hbmTy0_0 (i : Nat) : BufTy := match i % 128 with
  | 0 => ⟨S2x2048x1024, .f32⟩
  | 1 => ⟨S2x2048x512, .f32⟩
  | 2 => ⟨S2x2048x512, .f32⟩
  | 3 => ⟨S2x2048x512, .f32⟩
  | 4 => ⟨S2x2048x512, .f32⟩
  | 5 => ⟨S1x2x2048x256, .f32⟩
  | 6 => ⟨S2x2048x1024, .f32⟩
  | 7 => ⟨S1x512x512, .f32⟩
  | 8 => ⟨S1x512, .f32⟩
  | 9 => ⟨S1x1024x1024, .f32⟩
  | 10 => ⟨S1x1024, .f32⟩
  | 11 => ⟨S1x256x1024, .f32⟩
  | 12 => ⟨S1x1024x1024, .f32⟩
  | 13 => ⟨S1x1024, .f32⟩
  | 14 => ⟨S_, .f32⟩
  | 15 => ⟨S_, .f32⟩
  | 16 => ⟨S_, .f32⟩
  | 17 => ⟨S2x2048x512, .f32⟩
  | 18 => ⟨S2x2048x512, .f32⟩
  | 19 => ⟨S2x2048x512, .f32⟩
  | 20 => ⟨S_, .f32⟩
  | 21 => ⟨S2x2048x512, .f32⟩
  | 22 => ⟨S2x2048x512, .f32⟩
  | 23 => ⟨S2x2048x512, .f32⟩
  | 24 => ⟨S2x2048x512, .f32⟩
  | 25 => ⟨S2x2048x512, .f32⟩
  | 26 => ⟨S_, .f32⟩
  | 27 => ⟨S2x2048x512, .f32⟩
  | 28 => ⟨S2x2048x512, .f32⟩
  | 29 => ⟨S2x2048x512, .f32⟩
  | 30 => ⟨S_, .f32⟩
  | 31 => ⟨S2x2048x512, .f32⟩
  | 32 => ⟨S2x2048x512, .f32⟩
  | 33 => ⟨S_, .f32⟩
  | 34 => ⟨S2x2048x512, .f32⟩
  | 35 => ⟨S2x2048x512, .f32⟩
  | 36 => ⟨S2x2048x512, .f32⟩
  | 37 => ⟨S_, .f32⟩
  | 38 => ⟨S2x2048x512, .f32⟩
  | 39 => ⟨S2x2048x512, .f32⟩
  | 40 => ⟨S_, .f32⟩
  | 41 => ⟨S2x2048x512, .f32⟩
  | 42 => ⟨S2x2048x512, .f32⟩
  | 43 => ⟨S2x2048x512, .f32⟩
  | 44 => ⟨S512x512, .f32⟩
  | 45 => ⟨S2x2048x512, .f32⟩
  | 46 => ⟨S512, .f32⟩
  | 47 => ⟨S1x1x512, .f32⟩
  | 48 => ⟨S2x2048x512, .f32⟩
  | 49 => ⟨S2x2048x512, .f32⟩
  | 50 => ⟨S2x2048x512, .f32⟩
  | 51 => ⟨S2x2048x512, .f32⟩
  | 52 => ⟨S_, .f32⟩
  | 53 => ⟨S2x2048x512, .f32⟩
  | 54 => ⟨S2x2048x512, .f32⟩
  | 55 => ⟨S_, .f32⟩
  | 56 => ⟨S2x2048x512, .f32⟩
  | 57 => ⟨S2x2048x512, .f32⟩
  | 58 => ⟨S_, .f32⟩
  | 59 => ⟨S2x2048x512, .f32⟩
  | 60 => ⟨S2x2048x512, .f32⟩
  | 61 => ⟨S2x2048x512, .f32⟩
  | 62 => ⟨S2x2048x512, .f32⟩
  | 63 => ⟨S2x2048x512, .f32⟩
  | 64 => ⟨S2x2048x512, .f32⟩
  | 65 => ⟨S_, .f32⟩
  | 66 => ⟨S2x2048x512, .f32⟩
  | 67 => ⟨S2x2048x512, .f32⟩
  | 68 => ⟨S_, .f32⟩
  | 69 => ⟨S2x2048x512, .f32⟩
  | 70 => ⟨S2x2048x512, .f32⟩
  | 71 => ⟨S_, .f32⟩
  | 72 => ⟨S2x2048x512, .f32⟩
  | 73 => ⟨S2x2048x512, .f32⟩
  | 74 => ⟨S2x2048x512, .f32⟩
  | 75 => ⟨S2x2048x512, .f32⟩
  | 76 => ⟨S2x2048x512, .f32⟩
  | 77 => ⟨S2x2048x512, .f32⟩
  | 78 => ⟨S2x2048x512, .f32⟩
  | 79 => ⟨S_, .f32⟩
  | 80 => ⟨S2x2048x512, .f32⟩
  | 81 => ⟨S2x2048x512, .f32⟩
  | 82 => ⟨S_, .f32⟩
  | 83 => ⟨S2x2048x512, .f32⟩
  | 84 => ⟨S2x2048x512, .f32⟩
  | 85 => ⟨S_, .f32⟩
  | 86 => ⟨S2x2048x512, .f32⟩
  | 87 => ⟨S2x2048x512, .f32⟩
  | 88 => ⟨S2x2048x512, .f32⟩
  | 89 => ⟨S2x2048x512, .f32⟩
  | 90 => ⟨S2x2048x512, .f32⟩
  | 91 => ⟨S2x2048x1024, .f32⟩
  | 92 => ⟨S1024x1024, .f32⟩
  | 93 => ⟨S2x2048x1024, .f32⟩
  | 94 => ⟨S1024, .f32⟩
  | 95 => ⟨S2x2048x1024, .f32⟩
  | 96 => ⟨S_, .f32⟩
  | 97 => ⟨S2x2048, .f32⟩
  | 98 => ⟨S2x2048x1, .f32⟩
  | 99 => ⟨S_, .f32⟩
  | 100 => ⟨S2x2048x1, .f32⟩
  | 101 => ⟨S2x2048x1, .f32⟩
  | 102 => ⟨S_, .f32⟩
  | 103 => ⟨S2x2048x1, .f32⟩
  | 104 => ⟨S2x2048x1, .f32⟩
  | 105 => ⟨S2x2048x1, .f32⟩
  | 106 => ⟨S2x2048x1, .f32⟩
  | 107 => ⟨S_, .f32⟩
  | 108 => ⟨S2x2048x1, .f32⟩
  | 109 => ⟨S2x2048x1, .f32⟩
  | 110 => ⟨S2x2048x1024, .f32⟩
  | 111 => ⟨S2x2048x1024, .f32⟩
  | 112 => ⟨S1x1x1024, .f32⟩
  | 113 => ⟨S2x2048x1024, .f32⟩
  | 114 => ⟨S2x2048x1024, .f32⟩
  | 115 => ⟨S2x2048x1024, .f32⟩
  | 116 => ⟨S1024x1024, .f32⟩
  | 117 => ⟨S2x2048x1024, .f32⟩
  | 118 => ⟨S1024, .f32⟩
  | 119 => ⟨S1x1x1024, .f32⟩
  | 120 => ⟨S2x2048x1024, .f32⟩
  | 121 => ⟨S2x2048x1024, .f32⟩
  | 122 => ⟨S2x2048x1024, .f32⟩
  | 123 => ⟨S2x2048x1024, .f32⟩
  | 124 => ⟨S_, .f32⟩
  | 125 => ⟨S2x2048x1024, .f32⟩
  | 126 => ⟨S2x2048x1024, .f32⟩
  | 127 => ⟨S_, .f32⟩
  | _ => ⟨S2x2048x1024, .f32⟩

abbrev hbmTy0_1 (i : Nat) : BufTy := match i % 128 with
  | 0 => ⟨S2x2048x1024, .f32⟩
  | 1 => ⟨S2x2048x1024, .f32⟩
  | 2 => ⟨S_, .f32⟩
  | 3 => ⟨S2x2048x1024, .f32⟩
  | 4 => ⟨S2x2048x1024, .f32⟩
  | 5 => ⟨S2x2048x1024, .f32⟩
  | 6 => ⟨S2x2048x256, .f32⟩
  | 7 => ⟨S256x1024, .f32⟩
  | 8 => ⟨S2x2048x1024, .f32⟩
  | 9 => ⟨S2x2048x1024, .f32⟩
  | 10 => ⟨S2x2048x1024, .f32⟩
  | 11 => ⟨S2x2048x1024, .f32⟩
  | 12 => ⟨S2x2048x1024, .f32⟩
  | 13 => ⟨S_, .f32⟩
  | 14 => ⟨S2x2048x1024, .f32⟩
  | 15 => ⟨S2x2048x1024, .f32⟩
  | 16 => ⟨S_, .f32⟩
  | 17 => ⟨S2x2048, .f32⟩
  | 18 => ⟨S_, .f32⟩
  | 19 => ⟨S2x2048, .f32⟩
  | 20 => ⟨S2x2048, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S2x2048, .f32⟩
  | 29 => ⟨S_, .f32⟩
  | 30 => ⟨S2x2048, .f32⟩
  | 31 => ⟨S2x2048, .f32⟩
  | 32 => ⟨S2x2048x1024, .f32⟩
  | 33 => ⟨S2x2048x1024, .f32⟩
  | 34 => ⟨S2x2048x1024, .f32⟩
  | 35 => ⟨S2x2048x1024, .f32⟩
  | 36 => ⟨S1024x256, .f32⟩
  | 37 => ⟨S256x1024, .f32⟩
  | 38 => ⟨S1x256x1024, .f32⟩
  | 39 => ⟨S2x2048x1024, .f32⟩
  | 40 => ⟨S_, .f32⟩
  | 41 => ⟨S1024, .f32⟩
  | 42 => ⟨S1x1x1024, .f32⟩
  | 43 => ⟨S_, .f32⟩
  | 44 => ⟨S1024, .f32⟩
  | 45 => ⟨S1x1024, .f32⟩
  | 46 => ⟨S1024x1024, .f32⟩
  | 47 => ⟨S1024x1024, .f32⟩
  | 48 => ⟨S2x2048x1024, .f32⟩
  | 49 => ⟨S2x2048x1024, .f32⟩
  | 50 => ⟨S1x1024x1024, .f32⟩
  | 51 => ⟨S2x2048x1024, .f32⟩
  | 52 => ⟨S_, .f32⟩
  | 53 => ⟨S1024, .f32⟩
  | 54 => ⟨S1x1x1024, .f32⟩
  | 55 => ⟨S2x2048x1024, .f32⟩
  | 56 => ⟨S2x2048x1024, .f32⟩
  | 57 => ⟨S_, .f32⟩
  | 58 => ⟨S1024, .f32⟩
  | 59 => ⟨S2x2048x1024, .f32⟩
  | 60 => ⟨S_, .f32⟩
  | 61 => ⟨S2x2048, .f32⟩
  | 62 => ⟨S2x2048x1, .f32⟩
  | 63 => ⟨S2x2048x1024, .f32⟩
  | 64 => ⟨S2x2048x1024, .f32⟩
  | 65 => ⟨S2x2048x1, .f32⟩
  | 66 => ⟨S_, .f32⟩
  | 67 => ⟨S2x2048x1, .f32⟩
  | 68 => ⟨S2x2048x1, .f32⟩
  | 69 => ⟨S_, .f32⟩
  | 70 => ⟨S2x2048, .f32⟩
  | 71 => ⟨S2x2048x1024, .f32⟩
  | 72 => ⟨S2x2048x1024, .f32⟩
  | 73 => ⟨S2x2048x1024, .f32⟩
  | 74 => ⟨S2x2048x1024, .f32⟩
  | 75 => ⟨S2x2048x1024, .f32⟩
  | 76 => ⟨S1x1024, .f32⟩
  | 77 => ⟨S1024x1024, .f32⟩
  | 78 => ⟨S1024x1024, .f32⟩
  | 79 => ⟨S2x2048x1024, .f32⟩
  | 80 => ⟨S1x1024x1024, .f32⟩
  | 81 => ⟨S2x2048x512, .f32⟩
  | 82 => ⟨S2x2048x512, .f32⟩
  | 83 => ⟨S2x2048x512, .f32⟩
  | 84 => ⟨S2x2048x512, .f32⟩
  | 85 => ⟨S2x2048x512, .f32⟩
  | 86 => ⟨S2x2048x512, .f32⟩
  | 87 => ⟨S2x2048x512, .f32⟩
  | 88 => ⟨S2x2048x512, .f32⟩
  | 89 => ⟨S2x2048x512, .f32⟩
  | 90 => ⟨S2x2048x512, .f32⟩
  | 91 => ⟨S2x2048x512, .f32⟩
  | 92 => ⟨S2x2048x512, .f32⟩
  | 93 => ⟨S2x2048x512, .f32⟩
  | 94 => ⟨S2x2048x512, .f32⟩
  | 95 => ⟨S2x2048x512, .f32⟩
  | 96 => ⟨S2x2048x512, .f32⟩
  | 97 => ⟨S2x2048x512, .f32⟩
  | 98 => ⟨S_, .f32⟩
  | 99 => ⟨S512, .f32⟩
  | 100 => ⟨S1x1x512, .f32⟩
  | 101 => ⟨S_, .f32⟩
  | 102 => ⟨S512, .f32⟩
  | 103 => ⟨S1x512, .f32⟩
  | 104 => ⟨S512x512, .f32⟩
  | 105 => ⟨S512x512, .f32⟩
  | 106 => ⟨S2x2048x512, .f32⟩
  | 107 => ⟨S2x2048x512, .f32⟩
  | 108 => ⟨S1x512x512, .f32⟩
  | 109 => ⟨S2x2048x512, .f32⟩
  | 110 => ⟨S2x2048x512, .f32⟩
  | 111 => ⟨S_, .f32⟩
  | 112 => ⟨S2x2048x512, .f32⟩
  | 113 => ⟨S2x2048x512, .f32⟩
  | 114 => ⟨S2x2048x512, .f32⟩
  | 115 => ⟨S_, .f32⟩
  | 116 => ⟨S2x2048x512, .f32⟩
  | 117 => ⟨S2x2048x512, .f32⟩
  | 118 => ⟨S2x2048x512, .f32⟩
  | 119 => ⟨S2x2048x512, .f32⟩
  | 120 => ⟨S2x2048x512, .f32⟩
  | 121 => ⟨S2x2048x512, .f32⟩
  | 122 => ⟨S2x2048x512, .f32⟩
  | 123 => ⟨S256x1024, .f32⟩
  | 124 => ⟨S256x8x128, .f32⟩
  | 125 => ⟨S8x256x128, .f32⟩
  | 126 => ⟨S1x1, .f32⟩
  | 127 => ⟨S4096x1024, .f32⟩
  | _ => ⟨S2x2048x1024, .f32⟩

abbrev hbmTy0_2 (i : Nat) : BufTy := match i % 128 with
  | 0 => ⟨S4096x512, .f32⟩
  | 1 => ⟨S4096x512, .f32⟩
  | 2 => ⟨S4096x512, .bf16⟩
  | 3 => ⟨S4096x512, .f32⟩
  | 4 => ⟨S4096x512, .f32⟩
  | 5 => ⟨S4096x512, .bf16⟩
  | 6 => ⟨S1x64x512, .f32⟩
  | 7 => ⟨S1x128x1024, .f32⟩
  | 8 => ⟨S1x128x1024, .f32⟩
  | 9 => ⟨S1x256x128, .f32⟩
  | 10 => ⟨S1024x1024, .f32⟩
  | 11 => ⟨S1024x1024, .bf16⟩
  | 12 => ⟨S1024x1024, .f32⟩
  | 13 => ⟨S1024x1024, .bf16⟩
  | 14 => ⟨S8x256x128, .bf16⟩
  | 15 => ⟨S512x512, .f32⟩
  | 16 => ⟨S512x512, .bf16⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_5 : Ref sig .tc := ⟨.hbm, 37, rfl⟩
abbrev main_v17 : Ref sig .tc := ⟨.hbm, 38, rfl⟩
abbrev main_v18 : Ref sig .tc := ⟨.hbm, 39, rfl⟩
abbrev main_cst_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_cst_8 : Ref sig .tc := ⟨.hbm, 55, rfl⟩
abbrev main_v32 : Ref sig .tc := ⟨.hbm, 56, rfl⟩
abbrev main_v33 : Ref sig .tc := ⟨.hbm, 57, rfl⟩
abbrev main_cst_9 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_v38_2 : Ref sig .tc := ⟨.hbm, 70, rfl⟩
abbrev main_call0_cst_1 : Ref sig .tc := ⟨.hbm, 71, rfl⟩
abbrev main_call0_v6 : Ref sig .tc := ⟨.hbm, 72, rfl⟩
abbrev main_call0_v7 : Ref sig .tc := ⟨.hbm, 73, rfl⟩
abbrev main_v38_1 : Ref sig .tc := ⟨.hbm, 74, rfl⟩
abbrev main_v38_0 : Ref sig .tc := ⟨.hbm, 75, rfl⟩
abbrev main_v39 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_v40_2 : Ref sig .tc := ⟨.hbm, 84, rfl⟩
abbrev main_call1_cst_1 : Ref sig .tc := ⟨.hbm, 85, rfl⟩
abbrev main_call1_v6 : Ref sig .tc := ⟨.hbm, 86, rfl⟩
abbrev main_call1_v7 : Ref sig .tc := ⟨.hbm, 87, rfl⟩
abbrev main_v40_1 : Ref sig .tc := ⟨.hbm, 88, rfl⟩
abbrev main_v40_0 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_cst_10 : Ref sig .tc := ⟨.hbm, 96, rfl⟩
abbrev main_v47 : Ref sig .tc := ⟨.hbm, 97, rfl⟩
abbrev main_v48 : Ref sig .tc := ⟨.hbm, 98, rfl⟩
abbrev main_cst_11 : Ref sig .tc := ⟨.hbm, 99, rfl⟩
abbrev main_v49 : Ref sig .tc := ⟨.hbm, 100, rfl⟩
abbrev main_v50 : Ref sig .tc := ⟨.hbm, 101, rfl⟩
abbrev main_cst_12 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_cst_13 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_cst_14 : Ref sig .tc := ⟨.hbm, 124, rfl⟩
abbrev main_v71 : Ref sig .tc := ⟨.hbm, 125, rfl⟩
abbrev main_v72 : Ref sig .tc := ⟨.hbm, 126, rfl⟩
abbrev main_cst_15 : Ref sig .tc := ⟨.hbm, 127, rfl⟩
abbrev main_v73 : Ref sig .tc := ⟨.hbm, 128, rfl⟩
abbrev main_v74 : Ref sig .tc := ⟨.hbm, 129, rfl⟩
abbrev main_cst_16 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_17 : Ref sig .tc := ⟨.hbm, 141, rfl⟩
abbrev main_v85 : Ref sig .tc := ⟨.hbm, 142, rfl⟩
abbrev main_v86 : Ref sig .tc := ⟨.hbm, 143, rfl⟩
abbrev main_cst_18 : Ref sig .tc := ⟨.hbm, 144, rfl⟩
abbrev main_v87 : Ref sig .tc := ⟨.hbm, 145, rfl⟩
abbrev main_cst_19 : Ref sig .tc := ⟨.hbm, 146, rfl⟩
abbrev main_v88 : Ref sig .tc := ⟨.hbm, 147, rfl⟩
abbrev main_v89 : Ref sig .tc := ⟨.hbm, 148, rfl⟩
abbrev main_cst_20 : Ref sig .tc := ⟨.hbm, 149, rfl⟩
abbrev main_v90 : Ref sig .tc := ⟨.hbm, 150, rfl⟩
abbrev main_cst_21 : Ref sig .tc := ⟨.hbm, 151, rfl⟩
abbrev main_v91 : Ref sig .tc := ⟨.hbm, 152, rfl⟩
abbrev main_cst_22 : Ref sig .tc := ⟨.hbm, 153, rfl⟩
abbrev main_cst_23 : Ref sig .tc := ⟨.hbm, 154, rfl⟩
abbrev main_v92 : Ref sig .tc := ⟨.hbm, 155, rfl⟩
abbrev main_v93 : Ref sig .tc := ⟨.hbm, 156, rfl⟩
abbrev main_cst_24 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_cst_25 : Ref sig .tc := ⟨.hbm, 168, rfl⟩
abbrev main_v104 : Ref sig .tc := ⟨.hbm, 169, rfl⟩
abbrev main_v105 : Ref sig .tc := ⟨.hbm, 170, rfl⟩
abbrev main_cst_26 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_cst_27 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_cst_28 : Ref sig .tc := ⟨.hbm, 185, rfl⟩
abbrev main_v118 : Ref sig .tc := ⟨.hbm, 186, rfl⟩
abbrev main_v119 : Ref sig .tc := ⟨.hbm, 187, rfl⟩
abbrev main_cst_29 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_cst_30 : Ref sig .tc := ⟨.hbm, 194, rfl⟩
abbrev main_v125 : Ref sig .tc := ⟨.hbm, 195, rfl⟩
abbrev main_v126 : Ref sig .tc := ⟨.hbm, 196, rfl⟩
abbrev main_cst_31 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_v141 : Ref sig .tc := ⟨.hbm, 212, rfl⟩
abbrev main_call2_v0 : Ref sig .tc := ⟨.hbm, 213, rfl⟩
abbrev main_call2_v1 : Ref sig .tc := ⟨.hbm, 214, rfl⟩
abbrev main_call2_v2 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_call3_v0 : Ref sig .tc := ⟨.hbm, 219, rfl⟩
abbrev main_call3_v1 : Ref sig .tc := ⟨.hbm, 220, rfl⟩
abbrev main_call3_v2 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_cst_32 : Ref sig .tc := ⟨.hbm, 226, rfl⟩
abbrev main_v149 : Ref sig .tc := ⟨.hbm, 227, rfl⟩
abbrev main_v150 : Ref sig .tc := ⟨.hbm, 228, rfl⟩
abbrev main_cst_33 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_cst_34 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_cst_35 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩

abbrev nD : Nat := 1
abbrev τ : Topo := Topo.v7x

variable {F : FTy → Type} [FloatOps F]
-- ==== Proof.InBackCases.lean ====
/-
Where the kernel's stores leave their values, case by case: the gradient of the block, and the two
running sums (of the weight gradient and of the norm's gain), each as a payload of what was loaded.
-/
module

public import proofs.«01_k».proof.Proof.Gen.InBackIdeal.Frame
public import Idealize.ShloMosaic.Lib.Pipeline.Value
public import Idealize.ShloMosaic.Lib.Pipeline.ReadBack
public import Idealize.ShloMosaic.Lib.StableHlo.Run
public import Idealize.ShloMosaic.Lib.Tactic
public import Idealize.ShloMosaic.Lib.Quiescent

set_option maxRecDepth 16384

@[expose] public section

noncomputable section

namespace Cert.InBackIdeal.Own

open Idealize.ShloMosaic Idealize.ShloMosaic.TcCoe Idealize.SL.Sem
open Idealize.ShloMosaic.Pipeline (Dat)
open Cert.InBackIdeal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

variable (c : Dev nD) (i : grid0.Coords)
  {a1 : Memref sig .tc .vmem S512x1024 .f32}
  {a2 : Memref sig .tc .vmem S512x1024 .f32}
  {a3 : Memref sig .tc .vmem S512x512 .bf16}
  {a4 : Memref sig .tc .vmem S512x512 .bf16}
  {a5 : Memref sig .tc .vmem S512x512 .f32}
  {a6 : Memref sig .tc .vmem S512x128 .f32}
  {a7 : Memref sig .tc .vmem S512x128 .f32}
  {a8 : Memref sig .tc .vmem S512x512 .bf16}
  {a9 : Memref sig .tc .vmem S1x1024 .f32}
  {a10 : Memref sig .tc .vmem S2304x1024 .bf16}
  {a11 : Memref sig .tc .vmem S512x1024 .f32}
  {a12 : Memref sig .tc .vmem S1x288x1024 .f32}
  {a13 : Memref sig .tc .vmem S1x1024 .f32}
  {a14 : Memref sig .tc .vmem S2304x1024 .bf16}
  {a15 : Memref sig .tc .vmem S2304x1024 .f32}
  (h1 : (a1).IsWhole) (h2 : (a2).IsWhole) (h3 : (a3).IsWhole) (h4 : (a4).IsWhole) (h5 : (a5).IsWhole) (h6 : (a6).IsWhole) (h7 : (a7).IsWhole) (h8 : (a8).IsWhole) (h9 : (a9).IsWhole) (h10 : (a10).IsWhole) (h11 : (a11).IsWhole) (h12 : (a12).IsWhole) (h13 : (a13).IsWhole) (h14 : (a14).IsWhole) (h15 : (a15).IsWhole)
  (x0 : Vec F S512x1024 .f32) (x1 : Vec F S512x1024 .f32) (x2 : Vec F S512x512 .bf16) (x3 : Vec F S512x512 .bf16) (x4 : Vec F S512x512 .f32) (x5 : Vec F S512x128 .f32) (x6 : Vec F S512x128 .f32) (x7 : Vec F S512x512 .bf16) (x8 : Vec F S1x1024 .f32) (x9 : Vec F S2304x1024 .bf16) (xo : Vec F S1x1024 .f32) (xs : Vec F S2304x1024 .f32)

theorem out0_A_10_val (hc0 : cond0_0 i) (hc1 : ¬cond0_1 i) :
    out0_A_10 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9
      = k0_pay2 (k0_pay10 x0) (k0_pay11 x0) x8 (k0_pay13 x2 x3 x4 x5 x6 x7) x9 x1 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9)]
  unfold kernelRun0_A; dsimp only
  sl_unfold_words
  rw [View.canon_unit_zero off2]
  simp only [View.readAt_eq_ld, Memref.IsWhole.read_unread, View.ld_unit_zero (S := S512x1024) off2, View.ld_unit_zero (S := S512x512) off2, View.ld_unit_zero (S := S512x128) off2, View.ld_unit_zero (S := S1x1024) off2, View.ld_unit_zero (S := S2304x1024) off2]

theorem out0_A_12_val (hc0 : cond0_0 i) (hc1 : ¬cond0_1 i) :
    out0_A_12 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9
      = k0_pay4 (k0_pay11 x0) (k0_pay13 x2 x3 x4 x5 x6 x7) x9 k0_pay8 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9)]
  unfold kernelRun0_A; dsimp only
  sl_unfold_words
  rw [View.canon_cons_unit_zero (S := S1x1024) off2, View.readCov_unit_zero (S := S1x1024) _ off2]
  simp only [View.readAt_eq_ld, Memref.IsWhole.read_unread, View.ld_unit_zero (S := S512x1024) off2, View.ld_unit_zero (S := S512x512) off2, View.ld_unit_zero (S := S512x128) off2, View.ld_unit_zero (S := S1x1024) off2, View.ld_unit_zero (S := S2304x1024) off2]

theorem sout0_A_0_val (hc0 : cond0_0 i) (hc1 : ¬cond0_1 i) :
    sout0_A_0 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9
      = k0_pay3 (k0_pay12 x0 x8) (k0_pay13 x2 x3 x4 x5 x6 x7) k0_pay7 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9)]
  unfold kernelRun0_A; dsimp only
  sl_unfold_words
  rw [View.canon_cons_unit_zero (S := S2304x1024) off2, View.readCov_unit_zero (S := S2304x1024) _ off2]
  simp only [View.readAt_eq_ld, Memref.IsWhole.read_unread, View.ld_unit_zero (S := S512x1024) off2, View.ld_unit_zero (S := S512x512) off2, View.ld_unit_zero (S := S512x128) off2, View.ld_unit_zero (S := S1x1024) off2, View.ld_unit_zero (S := S2304x1024) off2]

theorem out0_B_10_val (hc0 : ¬cond0_0 i) (hc1 : ¬cond0_1 i) :
    out0_B_10 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 xo xs
      = k0_pay2 (k0_pay10 x0) (k0_pay11 x0) x8 (k0_pay13 x2 x3 x4 x5 x6 x7) x9 x1 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 xo xs)]
  unfold kernelRun0_B; dsimp only
  sl_unfold_words
  rw [View.canon_unit_zero off2]
  simp only [View.readAt_eq_ld, Memref.IsWhole.read_unread, View.ld_unit_zero (S := S512x1024) off2, View.ld_unit_zero (S := S512x512) off2, View.ld_unit_zero (S := S512x128) off2, View.ld_unit_zero (S := S1x1024) off2, View.ld_unit_zero (S := S2304x1024) off2]

theorem out0_B_12_val (hc0 : ¬cond0_0 i) (hc1 : ¬cond0_1 i) :
    out0_B_12 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 xo xs
      = k0_pay4 (k0_pay11 x0) (k0_pay13 x2 x3 x4 x5 x6 x7) x9 xo := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 xo xs)]
  unfold kernelRun0_B; dsimp only
  sl_unfold_words
  rw [View.canon_unit_zero off2]
  simp only [View.readAt_eq_ld, Memref.IsWhole.read_unread, View.ld_unit_zero (S := S512x1024) off2, View.ld_unit_zero (S := S512x512) off2, View.ld_unit_zero (S := S512x128) off2, View.ld_unit_zero (S := S1x1024) off2, View.ld_unit_zero (S := S2304x1024) off2]

theorem sout0_B_0_val (hc0 : ¬cond0_0 i) (hc1 : ¬cond0_1 i) :
    sout0_B_0 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 xo xs
      = k0_pay3 (k0_pay12 x0 x8) (k0_pay13 x2 x3 x4 x5 x6 x7) xs := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 xo xs)]
  unfold kernelRun0_B; dsimp only
  sl_unfold_words
  rw [View.canon_unit_zero off2]
  simp only [View.readAt_eq_ld, Memref.IsWhole.read_unread, View.ld_unit_zero (S := S512x1024) off2, View.ld_unit_zero (S := S512x512) off2, View.ld_unit_zero (S := S512x128) off2, View.ld_unit_zero (S := S1x1024) off2, View.ld_unit_zero (S := S2304x1024) off2]

theorem out0_C_10_val (hc0 : ¬cond0_0 i) (hc1 : cond0_1 i) :
    out0_C_10 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 xo xs
      = k0_pay2 (k0_pay10 x0) (k0_pay11 x0) x8 (k0_pay13 x2 x3 x4 x5 x6 x7) x9 x1 := by
  unfold out0_C_10
  rw [View.read_writes_eq_canon _ _ _ (cover0_C_10 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 xo xs)]
  unfold kernelRun0_C; dsimp only
  sl_unfold_words
  rw [View.canon_unit_zero off2]
  simp only [View.readAt_eq_ld, Memref.IsWhole.read_unread, View.ld_unit_zero (S := S512x1024) off2, View.ld_unit_zero (S := S512x512) off2, View.ld_unit_zero (S := S512x128) off2, View.ld_unit_zero (S := S1x1024) off2, View.ld_unit_zero (S := S2304x1024) off2]

theorem out0_C_12_val (hc0 : ¬cond0_0 i) (hc1 : cond0_1 i) :
    out0_C_12 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 xo xs
      = k0_pay4 (k0_pay11 x0) (k0_pay13 x2 x3 x4 x5 x6 x7) x9 xo := by
  unfold out0_C_12
  rw [View.read_writes_eq_canon _ _ _ (cover0_C_12 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 xo xs)]
  unfold kernelRun0_C; dsimp only
  sl_unfold_words
  rw [View.canon_unit_zero off2]
  simp only [View.readAt_eq_ld, Memref.IsWhole.read_unread, View.ld_unit_zero (S := S512x1024) off2, View.ld_unit_zero (S := S512x512) off2, View.ld_unit_zero (S := S512x128) off2, View.ld_unit_zero (S := S1x1024) off2, View.ld_unit_zero (S := S2304x1024) off2]

theorem sout0_C_0_val (hc0 : ¬cond0_0 i) (hc1 : cond0_1 i) :
    sout0_C_0 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 xo xs
      = k0_pay3 (k0_pay12 x0 x8) (k0_pay13 x2 x3 x4 x5 x6 x7) xs := by
  unfold sout0_C_0
  rw [View.read_writes_eq_canon _ _ _ (scover0_C_0 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 xo xs)]
  unfold kernelRun0_C; dsimp only
  sl_unfold_words
  rw [View.canon_unit_zero off2]
  simp only [View.readAt_eq_ld, Memref.IsWhole.read_unread, View.ld_unit_zero (S := S512x1024) off2, View.ld_unit_zero (S := S512x512) off2, View.ld_unit_zero (S := S512x128) off2, View.ld_unit_zero (S := S1x1024) off2, View.ld_unit_zero (S := S2304x1024) off2]

theorem out0_C_11_val (hc0 : ¬cond0_0 i) (hc1 : cond0_1 i) :
    out0_C_11 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 xo xs
      = k0_pay6 (View.ld (k0_pay3 (k0_pay12 x0 x8) (k0_pay13 x2 x3 x4 x5 x6 x7) xs) (Rect.unit (s := S2304x1024) ![0, 0] S288x1024.size inb_S2304x1024_S288x1024_0_0)) := by
  unfold out0_C_11
  rw [View.read_writes_eq_canon _ _ _ (cover0_C_11 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 xo xs)]
  unfold kernelRun0_C; dsimp only
  sl_unfold_words
  rw [View.canon_unit_zero off3]
  simp only [View.readAt_eq_ld, Memref.IsWhole.read_unread, View.ld_unit_zero (S := S512x1024) off2, View.ld_unit_zero (S := S512x512) off2, View.ld_unit_zero (S := S512x128) off2, View.ld_unit_zero (S := S1x1024) off2, View.ld_unit_zero (S := S2304x1024) off2]
  rw [View.readCov_eq_canon_ld _ _ _ (fun _ => ⟨_, List.mem_singleton_self _, View.mem_set_unit_zero off2 inb_S2304x1024_S2304x1024_0_0 _⟩), View.canon_unit_zero off2]

/-- Each trip of the closing loop stores a block of rows of the rounded sum. -/
theorem trip_pieces (X : BufTy.Contents (Elt F) a15.view.ty) (hc1 : cond0_1 i) (k : Fin k0_t1_loop.trips) :
    ∀ p ∈ tripL_k0_t1 (F := F) Variants.none c none i a1 h1 a2 h2 a3 h3 a4 h4 a5 h5 a6 h6 a7 h7 a8 h8 a9 h9 a10 h10 a11 h11 a12 h12 a13 h13 a14 h14 a15 h15 hc1 X k, ∀ x : p.1.shape.Idx,
      p.2 x = (truncf .bf16 (View.read (Elt F) a15.view X : Vec F S2304x1024 .f32) bitsLt_bf16_f32 : FVec F S2304x1024 .bf16) (p.1.emb x) := by
  intro p hp
  unfold tripL_k0_t1 trip_k0_t1 at hp
  obtain rfl := List.mem_singleton.mp hp
  intro x
  rfl

/-- So do all trips together. -/
theorem loop_pieces (X : BufTy.Contents (Elt F) a15.view.ty) (hc1 : cond0_1 i) : ∀ n : Nat,
    ∀ p ∈ pb_k0_t1 (F := F) Variants.none c none i a1 h1 a2 h2 a3 h3 a4 h4 a5 h5 a6 h6 a7 h7 a8 h8 a9 h9 a10 h10 a11 h11 a12 h12 a13 h13 a14 h14 a15 h15 hc1 X n, ∀ x : p.1.shape.Idx,
      p.2 x = (truncf .bf16 (View.read (Elt F) a15.view X : Vec F S2304x1024 .f32) bitsLt_bf16_f32 : FVec F S2304x1024 .bf16) (p.1.emb x)
  | 0 => fun p hp => absurd hp List.not_mem_nil
  | n + 1 => fun p hp => by
    rw [pb_k0_t1.eq_2] at hp
    unfold pb_k0_t1Step at hp
    split at hp
    · rcases List.mem_append.mp hp with h | h
      · exact trip_pieces c i h1 h2 h3 h4 h5 h6 h7 h8 h9 h10 h11 h12 h13 h14 h15 X hc1 _ p h
      · exact loop_pieces X hc1 n p h
    · exact loop_pieces X hc1 n p hp

theorem out0_C_13_val (hc0 : ¬cond0_0 i) (hc1 : cond0_1 i) :
    out0_C_13 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 xo xs
      = truncf .bf16 (k0_pay3 (k0_pay12 x0 x8) (k0_pay13 x2 x3 x4 x5 x6 x7) xs) bitsLt_bf16_f32 := by
  unfold out0_C_13
  rw [View.read_writes_eq_canon _ _ _ (cover0_C_13 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 xo xs)]
  funext y
  have hcov := cover0_C_13 c i a1 h1 a2 h2 a3 h3 a4 h4 a5 h5 a6 h6 a7 h7 a8 h8 a9 h9 a10 h10 a11 h11 a12 h12 a13 h13 a14 h14 a15 h15 hc0 hc1 x0 x1 x2 x3 x4 x5 x6 x7 x8 x9 xo xs y
  unfold kernelRun0_C at hcov ⊢; dsimp only at hcov ⊢
  rw [View.canon_apply_of_pieces _ _ (loop_pieces c i h1 h2 h3 h4 h5 h6 h7 h8 h9 h10 h11 h12 h13 h14 h15 _ hc1 _) y hcov]
  sl_unfold_words
  simp only [View.readAt_eq_ld, Memref.IsWhole.read_unread, View.ld_unit_zero (S := S512x1024) off2, View.ld_unit_zero (S := S512x512) off2, View.ld_unit_zero (S := S512x128) off2, View.ld_unit_zero (S := S1x1024) off2, View.ld_unit_zero (S := S2304x1024) off2]
  rw [View.read_writes_eq_canon _ _ _ (fun _ => ⟨_, List.mem_singleton_self _, View.mem_set_unit_zero off2 inb_S2304x1024_S2304x1024_0_0 _⟩), View.canon_unit_zero off2]

end Cert.InBackIdeal.Own

end

end
-- ==== Proof.Reals.lean ====
/-
Extended reals that are real: sums of coerced reals, quotients, reciprocal roots, the constants the
programs print, and what a printed test "every entry is below infinity in absolute value" says.
-/
module

public import Idealize.ShloMosaic.Lib.Pointwise
public import Idealize.ShloMosaic.Lib.ReduceAll
public import Idealize.ShloMosaic.Lib.Affine

@[expose] public section

noncomputable section

namespace Own

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem div_coe_coe (x y : ℝ) (h : y ≠ 0) : Ideal.div (x : EReal) (y : EReal) = ((x / y : ℝ) : EReal) := by
  rw [Ideal.div_coe h, ← EReal.coe_mul, mul_one_div]

theorem rsqrt_pos (x : ℝ) (h : 0 < x) : Ideal.rsqrt (x : EReal) = (((Real.sqrt x)⁻¹ : ℝ) : EReal) := by
  rw [Ideal.rsqrt_coe, if_neg (not_lt.mpr h.le), if_neg h.ne']

/-- An entry whose absolute value compares below the printed infinity is a real number. -/
theorem real_of_lt (x : EReal) (h : FloatOps.cmpf (F := Ideal) (φ := .f32) .olt (FloatOps.hostAbsf (F := Ideal) (φ := .f32) x)
    (FloatOps.ofBits (F := Ideal) .f32 0x7F800000#32) = 1#1) : ∃ r : ℝ, x = (r : EReal) := by
  have hi : Ideal.ofBits .f32 0x7F800000#32 = ⊤ := by simp [Ideal.ofBits, Ideal.ieee]
  have h' : Ideal.cmp .olt (max x (-x)) (Ideal.ofBits .f32 0x7F800000#32) = 1#1 := h
  rw [hi] at h'
  change BitVec.ofBool (decide (max x (-x) < ⊤)) = 1#1 at h'
  have h2 : decide (max x (-x) < ⊤) = true := by
    by_contra hc
    rw [Bool.not_eq_true] at hc
    rw [hc] at h'
    exact absurd h' (by decide)
  have h3 : max x (-x) < ⊤ := of_decide_eq_true h2
  have hx : x < ⊤ := lt_of_le_of_lt (le_max_left _ _) h3
  have hx' : -x < ⊤ := lt_of_le_of_lt (le_max_right _ _) h3
  induction x with
  | bot => simp at hx'
  | top => simp at hx
  | coe r => exact ⟨r, rfl⟩

/-- The printed test over a whole array. -/
theorem real_of_all {s : Shape} {axes : List (Fin s.rank)} (x : FVec Ideal s .f32)
    (hb : (⟨0, ![]⟩ : Shape).BroadcastsInDim s ![]) (h : s.ReducesTo axes ⟨0, ![]⟩) (hu : 0 < (⟨0, ![]⟩ : Shape).numel)
    (j : (⟨0, ![]⟩ : Shape).Idx)
    (e : Host.reduce IntOp.andi (cmpf .olt (Host.absf x) (broadcastInDim s ![] hb (constant (F := Ideal) ⟨0, ![]⟩ .f32 0x7F800000#32)))
      (constantI ⟨0, ![]⟩ 1 1#1) h hu j = 1#1) (i : s.Idx) : ∃ r : ℝ, x i = (r : EReal) :=
  real_of_lt _ (Host.reduce_andi_all _ _ h hu j e i)

theorem k1024 : Ideal.ofBits .f32 0x44800000#32 = ((1024 : ℝ) : EReal) := by
  simp [Ideal.ofBits, Ideal.ieee]; rw [← EReal.coe_mul]; norm_num

theorem kHalf : Ideal.ofBits .f32 0xBF000000#32 = ((-(1 / 2) : ℝ) : EReal) := by
  simp [Ideal.ofBits, Ideal.ieee]; rw [← EReal.coe_mul]; norm_num

/-- The norm's small constant, the double nearest a millionth in single precision. -/
def eps : ℝ := 8796093 / 8796093022208

theorem eps_pos : 0 < eps := by unfold eps; norm_num

theorem kEps : Ideal.ofBits .f32 0x358637BD#32 = (eps : EReal) := by
  unfold eps; simp [Ideal.ofBits, Ideal.ieee]; rw [← EReal.coe_mul]; norm_num

end Own

end

end
-- ==== Proof.InBackPoint.lean ====
/-
The projection's gradient as plain sums, and the kernel's blocks read at an index as those sums.
-/
module

public import proofs.«01_k».proof.Proof.InBackCases
public import proofs.«01_k».proof.Proof.Reals
public import proofs.«01_k».proof.Proof.Gen.InBackIdeal.Value
public import Idealize.ShloMosaic.Lib.Pipeline.ValueKit
public import Idealize.ShloMosaic.Lib.Claim

set_option maxRecDepth 16384

@[expose] public section

noncomputable section

namespace Cert.InBackIdeal.Own

open Idealize.ShloMosaic Idealize.ShloMosaic.TcCoe Idealize.SL.Sem
open Idealize.ShloMosaic.Pipeline (Dat)
open Cert.InBackIdeal.Gen

/-- The ten argument arrays. -/
structure Args where
  x : S2x2048x1024.Idx → EReal
  g : S1x1024.Idx → EReal
  w : S1x1024x2304.Idx → EReal
  ch : S2x2048x1024.Idx → EReal
  du : S2x2048x512.Idx → EReal
  dz : S2x2048x512.Idx → EReal
  dq : S2x2048x512.Idx → EReal
  dk : S2x2048x128.Idx → EReal
  dv : S2x2048x128.Idx → EReal
  da : S2x2048x512.Idx → EReal

namespace Args

variable (A : Args)

/-- The mean square of a row plus the small constant. -/
def ms (b : Fin 2) (s : Fin 2048) : EReal :=
  Ideal.div (∑ d : Fin 1024, A.x (ix3 b s d) * A.x (ix3 b s d)) (Ideal.ofBits .f32 0x44800000#32) + Ideal.ofBits .f32 0x358637BD#32

def r (b : Fin 2) (s : Fin 2048) : EReal := Ideal.rsqrt (A.ms b s)

/-- The cotangents of the six parts of the projection, side by side. -/
def D (b : Fin 2) (s : Fin 2048) (n : Fin 2304) : EReal :=
  if h : n.val < 512 then A.du (ix3 b s ⟨n.val, h⟩)
  else if h : n.val - 512 < 512 then A.dz (ix3 b s ⟨n.val - 512, h⟩)
  else if h : n.val - 512 - 512 < 512 then A.dq (ix3 b s ⟨n.val - 512 - 512, h⟩)
  else if h : n.val - 512 - 512 - 512 < 128 then A.dk (ix3 b s ⟨n.val - 512 - 512 - 512, h⟩)
  else if h : n.val - 512 - 512 - 512 - 128 < 128 then A.dv (ix3 b s ⟨n.val - 512 - 512 - 512 - 128, h⟩)
  else A.da (ix3 b s ⟨n.val - 512 - 512 - 512 - 128 - 128, by omega⟩)

/-- The cotangent of the normalised row. -/
def dh (b : Fin 2) (s : Fin 2048) (d : Fin 1024) : EReal := ∑ n : Fin 2304, A.D b s n * A.w (ix3 0 d n)

/-- The normalised row. -/
def hn (b : Fin 2) (s : Fin 2048) (d : Fin 1024) : EReal := A.x (ix3 b s d) * A.r b s * A.g (ix2 0 d)

def dw (n : Fin 2304) (d : Fin 1024) : EReal := ∑ b : Fin 2, ∑ s : Fin 2048, A.D b s n * A.hn b s d

def dg (d : Fin 1024) : EReal := ∑ b : Fin 2, ∑ s : Fin 2048, A.dh b s d * (A.x (ix3 b s d) * A.r b s)

/-- The row's gradient as the kernel writes it. -/
def gx (b : Fin 2) (s : Fin 2048) (d : Fin 1024) : EReal :=
  A.ch (ix3 b s d) + A.r b s * (A.dh b s d * A.g (ix2 0 d)
    - A.x (ix3 b s d) * A.r b s * Ideal.div (∑ e : Fin 1024, A.dh b s e * A.g (ix2 0 e) * (A.x (ix3 b s e) * A.r b s)) (Ideal.ofBits .f32 0x44800000#32))

end Args

variable (m : (ℓ : Loc nD τ sig) → Buf (Elt Ideal) ℓ) (c : Dev nD)

def args : Args where
  x := m ((c : Thread nD τ).loc main_arg0)
  g := m ((c : Thread nD τ).loc main_arg1)
  w := m ((c : Thread nD τ).loc main_arg2)
  ch := m ((c : Thread nD τ).loc main_arg3)
  du := m ((c : Thread nD τ).loc main_arg4)
  dz := m ((c : Thread nD τ).loc main_arg5)
  dq := m ((c : Thread nD τ).loc main_arg6)
  dk := m ((c : Thread nD τ).loc main_arg7)
  dv := m ((c : Thread nD τ).loc main_arg8)
  da := m ((c : Thread nD τ).loc main_arg9)

/-- Row `p` of block `t` is the row `(512 t + p) mod 2048` of batch `(512 t + p) / 2048`. -/
def bat (t : Fin cfg0.N) (p : Fin 512) : Fin 2 := ⟨(512 * t.val + p.val) / 2048, by
  have := t.isLt; have h : cfg0.N = 8 := N_0; omega⟩
def row (t : Fin cfg0.N) (p : Fin 512) : Fin 2048 := ⟨(512 * t.val + p.val) % 2048, by omega⟩

theorem idx_0 : ∀ t : Fin cfg0.N, win0_0.index t = ![t.val, 0] := (by decide +kernel : ∀ t : Fin grid0.N, _)
theorem idx_1 : ∀ t : Fin cfg0.N, win0_1.index t = ![t.val, 0] := (by decide +kernel : ∀ t : Fin grid0.N, _)
theorem idx_2 : ∀ t : Fin cfg0.N, win0_2.index t = ![t.val, 0] := (by decide +kernel : ∀ t : Fin grid0.N, _)
theorem idx_3 : ∀ t : Fin cfg0.N, win0_3.index t = ![t.val, 0] := (by decide +kernel : ∀ t : Fin grid0.N, _)
theorem idx_4 : ∀ t : Fin cfg0.N, win0_4.index t = ![t.val, 0] := (by decide +kernel : ∀ t : Fin grid0.N, _)
theorem idx_5 : ∀ t : Fin cfg0.N, win0_5.index t = ![t.val, 0] := (by decide +kernel : ∀ t : Fin grid0.N, _)
theorem idx_6 : ∀ t : Fin cfg0.N, win0_6.index t = ![t.val, 0] := (by decide +kernel : ∀ t : Fin grid0.N, _)
theorem idx_7 : ∀ t : Fin cfg0.N, win0_7.index t = ![t.val, 0] := (by decide +kernel : ∀ t : Fin grid0.N, _)
theorem idx_8 : ∀ t : Fin cfg0.N, win0_8.index t = ![0, 0] := (by decide +kernel : ∀ t : Fin grid0.N, _)
theorem idx_9 : ∀ t : Fin cfg0.N, win0_9.index t = ![0, 0] := (by decide +kernel : ∀ t : Fin grid0.N, _)

theorem blk_0 (t : Fin cfg0.N) (p : Fin 512) (q : Fin 1024) :
    iblk m c 0 t (ix2 p q) = (args m c).x (ix3 (bat t p) (row t p) q) := by
  have hN : cfg0.N = 8 := N_0
  have ht := t.isLt
  blk_simp [iblk, V, idx_0 t]
  entry_read
  pointwise
  unfold args bat row; dsimp only
  blk_ext [iblk, V, idx_0 t]

theorem blk_1 (t : Fin cfg0.N) (p : Fin 512) (q : Fin 1024) :
    iblk m c 1 t (ix2 p q) = (args m c).ch (ix3 (bat t p) (row t p) q) := by
  have hN : cfg0.N = 8 := N_0
  have ht := t.isLt
  blk_simp [iblk, V, idx_1 t]
  entry_read
  pointwise
  unfold args bat row; dsimp only
  blk_ext [iblk, V, idx_1 t]

theorem blk_2 (t : Fin cfg0.N) (p : Fin 512) (q : Fin 512) :
    iblk m c 2 t (ix2 p q) = (args m c).du (ix3 (bat t p) (row t p) q) := by
  have hN : cfg0.N = 8 := N_0
  have ht := t.isLt
  blk_simp [iblk, V, idx_2 t]
  entry_read
  pointwise
  unfold args bat row; dsimp only
  blk_ext [iblk, V, idx_2 t]

theorem blk_3 (t : Fin cfg0.N) (p : Fin 512) (q : Fin 512) :
    iblk m c 3 t (ix2 p q) = (args m c).dz (ix3 (bat t p) (row t p) q) := by
  have hN : cfg0.N = 8 := N_0
  have ht := t.isLt
  blk_simp [iblk, V, idx_3 t]
  entry_read
  pointwise
  unfold args bat row; dsimp only
  blk_ext [iblk, V, idx_3 t]

theorem blk_4 (t : Fin cfg0.N) (p : Fin 512) (q : Fin 512) :
    iblk m c 4 t (ix2 p q) = (args m c).dq (ix3 (bat t p) (row t p) q) := by
  have hN : cfg0.N = 8 := N_0
  have ht := t.isLt
  blk_simp [iblk, V, idx_4 t]
  entry_read
  pointwise
  unfold args bat row; dsimp only
  blk_ext [iblk, V, idx_4 t]

theorem blk_5 (t : Fin cfg0.N) (p : Fin 512) (q : Fin 128) :
    iblk m c 5 t (ix2 p q) = (args m c).dk (ix3 (bat t p) (row t p) q) := by
  have hN : cfg0.N = 8 := N_0
  have ht := t.isLt
  blk_simp [iblk, V, idx_5 t]
  entry_read
  pointwise
  unfold args bat row; dsimp only
  blk_ext [iblk, V, idx_5 t]

theorem blk_6 (t : Fin cfg0.N) (p : Fin 512) (q : Fin 128) :
    iblk m c 6 t (ix2 p q) = (args m c).dv (ix3 (bat t p) (row t p) q) := by
  have hN : cfg0.N = 8 := N_0
  have ht := t.isLt
  blk_simp [iblk, V, idx_6 t]
  entry_read
  pointwise
  unfold args bat row; dsimp only
  blk_ext [iblk, V, idx_6 t]

theorem blk_7 (t : Fin cfg0.N) (p : Fin 512) (q : Fin 512) :
    iblk m c 7 t (ix2 p q) = (args m c).da (ix3 (bat t p) (row t p) q) := by
  have hN : cfg0.N = 8 := N_0
  have ht := t.isLt
  blk_simp [iblk, V, idx_7 t]
  entry_read
  pointwise
  unfold args bat row; dsimp only
  blk_ext [iblk, V, idx_7 t]

theorem blk_8 (t : Fin cfg0.N) (q : Fin 1024) : iblk m c 8 t (ix2 0 q) = (args m c).g (ix2 0 q) := by
  unfold args
  blk_ext [iblk, V, idx_8 t]

theorem blk_9 (t : Fin cfg0.N) (p : Fin 2304) (q : Fin 1024) : iblk m c 9 t (ix2 p q) = (args m c).w (ix3 0 q p) := by
  blk_simp [iblk, V, idx_9 t]
  entry_read
  pointwise
  unfold args
  blk_ext [iblk, V, idx_9 t]

end Cert.InBackIdeal.Own

end

end
-- ==== Proof.Fold.lean ====
/-
A running sum over the points of a grid, read at one entry; and sums regrouped over tiles.
-/
module

public import Idealize.ShloMosaic.Lib.Pipeline.Value
public import Idealize.ShloMosaic.Lib.Pointwise
public import proofs.«01_k».proof.Proof.Reals

@[expose] public section

namespace Own

open Idealize.ShloMosaic

/-- A fold whose first point leaves `add 0` at the entry `read` and whose every later point adds to it
leaves the sum. -/
theorem fold_sum {α : Type} {N : ℕ} (a : (n : ℕ) → n < N → α) (g : (n : ℕ) → n < N → α → α) (read : α → EReal) (add : Fin N → EReal)
    (ha : ∀ h, read (a 0 h) = add ⟨0, h⟩) (hg : ∀ n h x, n ≠ 0 → read (g n h x) = read x + add ⟨n, h⟩) :
    ∀ (j : ℕ) (h : 0 + j < N), read (Pipeline.accAt a g 0 j h) = ∑ k : Fin (j + 1), add ⟨k.val, by omega⟩
  | 0, h => by
    rw [Pipeline.accAt_zero, ha]
    simp
  | j + 1, h => by
    refine Eq.trans ?_ (Fin.sum_univ_castSucc fun k : Fin (j + 1 + 1) => add ⟨k.val, by omega⟩).symm
    have e : (⟨0 + (j + 1), h⟩ : Fin N) = ⟨j + 1, by omega⟩ := Fin.ext (Nat.zero_add _)
    rw [Pipeline.accAt_succ, hg _ _ _ (by omega), fold_sum a g read add ha hg j (by omega), e]
    rfl

/-- The host's sum over the two leading axes of a rank-3 array, at an index of the axis that stays. -/
theorem hostSum_lead {n0 n1 n2 : ℕ} (h : (⟨3, ![n0, n1, n2]⟩ : Shape).ReducesTo [0, 1] (⟨1, ![n2]⟩ : Shape))
    (v : (⟨3, ![n0, n1, n2]⟩ : Shape).Idx → EReal) (init : EReal) (k : Fin n2) :
    Ideal.hostReduceAdd h v init (ix1 k) = init + ∑ a : Fin n0, ∑ b : Fin n1, v (ix3 a b k) := by
  have hf : ∀ i : (⟨3, ![n0, n1, n2]⟩ : Shape).Idx, h.drop i = ix1 k ↔ ∃ q : Fin n0 × Fin n1, ix3 q.1 q.2 k = i := by
    intro i
    constructor
    · intro e
      refine ⟨(i 0, i 1), funext fun a => ?_⟩
      match a with
      | ⟨0, _⟩ => rfl
      | ⟨1, _⟩ => rfl
      | ⟨2, _⟩ => exact Fin.ext (congrArg Fin.val (congrFun e 0)).symm
    · rintro ⟨q, rfl⟩
      funext b
      fin_cases b
      exact Fin.ext rfl
  refine congrArg (init + ·) ((Finset.sum_filter_eq_sum_of_fiber _ (fun q : Fin n0 × Fin n1 => ix3 q.1 q.2 k)
    (fun _ _ e => Prod.ext (congrFun e 0) (congrFun e 1)) hf v).trans ?_)
  simp only [Fintype.sum_prod_type]

end Own

end
-- ==== Proof.InBackFold.lean ====
/-
One grid point's payloads on the blocks it loads, and the fold of the points: the two running sums.
-/
module

public import proofs.«01_k».proof.Proof.InBackPoint
public import proofs.«01_k».proof.Proof.Fold

set_option maxRecDepth 16384

@[expose] public section

noncomputable section

namespace Cert.InBackIdeal.Own

open Idealize.ShloMosaic Idealize.ShloMosaic.TcCoe Idealize.SL.Sem
open Idealize.ShloMosaic.Pipeline (Dat)
open Cert.InBackIdeal.Gen Cert.InBackIdeal.Value

variable (m : (ℓ : Loc nD τ sig) → Buf (Elt Ideal) ℓ) (c : Dev nD)

/-- The cotangents of block `t`, as the body concatenates them. -/
abbrev dblk (t : Fin cfg0.N) : FVec Ideal S512x2304 .bf16 :=
  k0_pay13 (F := Ideal) (iblk m c 2 t) (iblk m c 3 t) (iblk m c 4 t) (iblk m c 5 t) (iblk m c 6 t) (iblk m c 7 t)

theorem pay10_blk (t : Fin cfg0.N) (p : Fin 512) :
    k0_pay10 (F := Ideal) (iblk m c 0 t) (ix2 p 0) = (args m c).r (bat t p) (row t p) := by
  pointwise [k0_pay10, k0_pay9]
  simp only [blk_0]
  rfl

theorem pay11_blk (t : Fin cfg0.N) (p : Fin 512) (q : Fin 1024) :
    k0_pay11 (F := Ideal) (iblk m c 0 t) (ix2 p q) = (args m c).x (ix3 (bat t p) (row t p) q) * (args m c).r (bat t p) (row t p) := by
  pointwise [k0_pay11, k0_pay9]
  rw [pay10_blk, blk_0]

theorem pay12_blk (t : Fin cfg0.N) (p : Fin 512) (q : Fin 1024) :
    k0_pay12 (F := Ideal) (iblk m c 0 t) (iblk m c 8 t) (ix2 p q) = (args m c).hn (bat t p) (row t p) q := by
  pointwise [k0_pay12]
  rw [pay11_blk, blk_8]
  rfl

theorem pay13_blk (t : Fin cfg0.N) (p : Fin 512) (n : Fin 2304) :
    dblk m c t (ix2 p n) = (args m c).D (bat t p) (row t p) n := by
  pointwise [dblk, k0_pay13]
  simp only [blk_2, blk_3, blk_4, blk_5, blk_6, blk_7]
  rfl

theorem pay1_blk (t : Fin cfg0.N) (p : Fin 512) (q : Fin 1024) :
    k0_pay1 (F := Ideal) (dblk m c t) (iblk m c 9 t) (ix2 p q) = (args m c).dh (bat t p) (row t p) q := by
  pointwise [k0_pay1]
  simp only [pay13_blk, blk_9]
  rfl

theorem pay2_blk (t : Fin cfg0.N) (p : Fin 512) (q : Fin 1024) :
    k0_pay2 (F := Ideal) (k0_pay10 (iblk m c 0 t)) (k0_pay11 (iblk m c 0 t)) (iblk m c 8 t) (dblk m c t) (iblk m c 9 t) (iblk m c 1 t) (ix2 p q)
      = (args m c).gx (bat t p) (row t p) q := by
  pointwise [k0_pay2]
  simp only [pay1_blk, pay10_blk, pay11_blk, blk_8, blk_1]
  rfl

/-- Block `t`'s part of the weight's gradient, -/
def addW (t : Fin cfg0.N) (n : Fin 2304) (d : Fin 1024) : EReal :=
  ∑ p : Fin 512, (args m c).D (bat t p) (row t p) n * (args m c).hn (bat t p) (row t p) d

/-- and of the gain's. -/
def addG (t : Fin cfg0.N) (d : Fin 1024) : EReal :=
  ∑ p : Fin 512, (args m c).dh (bat t p) (row t p) d * ((args m c).x (ix3 (bat t p) (row t p) d) * (args m c).r (bat t p) (row t p))

theorem pay3_blk (t : Fin cfg0.N) (v : Vec Ideal S2304x1024 .f32) (n : Fin 2304) (d : Fin 1024) :
    k0_pay3 (F := Ideal) (k0_pay12 (iblk m c 0 t) (iblk m c 8 t)) (dblk m c t) v (ix2 n d) = v (ix2 n d) + addW m c t n d := by
  pointwise [k0_pay3]
  simp only [pay13_blk, pay12_blk]
  rfl

theorem pay4_blk (t : Fin cfg0.N) (v : Vec Ideal S1x1024 .f32) (d : Fin 1024) :
    k0_pay4 (F := Ideal) (k0_pay11 (iblk m c 0 t)) (dblk m c t) (iblk m c 9 t) v (ix2 0 d) = v (ix2 0 d) + addG m c t d := by
  pointwise [k0_pay4]
  simp only [pay1_blk, pay11_blk]
  rfl

/-- Every point writes its block of the input's gradient. -/
theorem st_gx (t : Fin cfg0.N) (acc) (p : Fin 512) (q : Fin 1024) :
    (stAt0 m c t.val t.isLt acc).1 (ix2 p q) = (args m c).gx (bat t p) (row t p) q := by
  by_cases h0 : t.val % 8 = 0
  · rw [stAt0_A m c t acc h0 (by omega)]
    dsimp only
    rw [out0_A_10_val c _ (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (Memref.isWhole_whole _)]
    exact pay2_blk m c t p q
  · by_cases h1 : t.val % 8 = 7
    · rw [stAt0_C m c t acc h0 h1]
      dsimp only
      rw [out0_C_10_val c _ (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (Memref.isWhole_whole _)]
      exact pay2_blk m c t p q
    · rw [stAt0_B m c t acc h0 h1]
      dsimp only
      rw [out0_B_10_val c _ (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (Memref.isWhole_whole _)]
      exact pay2_blk m c t p q

/-- The two running sums at the first point, -/
theorem st_first (t : Fin cfg0.N) (acc) (h0 : t.val % 8 = 0) :
    (∀ n d, (stAt0 m c t.val t.isLt acc).2.2.2.2 (ix2 n d) = addW m c t n d)
      ∧ ∀ d, (stAt0 m c t.val t.isLt acc).2.2.1 (ix2 0 d) = addG m c t d := by
  rw [stAt0_A m c t acc h0 (by omega)]
  dsimp only
  rw [sout0_A_0_val c _ (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (Memref.isWhole_whole _), out0_A_12_val c _ (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (Memref.isWhole_whole _)]
  constructor
  · intro n d
    refine (pay3_blk m c t _ n d).trans ?_
    rw [show (k0_pay7 (F := Ideal)) (ix2 n d) = 0 by pointwise [k0_pay7], zero_add]
  · intro d
    refine (pay4_blk m c t _ d).trans ?_
    rw [show (k0_pay8 (F := Ideal)) (ix2 0 d) = 0 by pointwise [k0_pay8], zero_add]

/-- and at every later one. -/
theorem st_next (t : Fin cfg0.N) (acc) (h0 : ¬t.val % 8 = 0) :
    (∀ n d, (stAt0 m c t.val t.isLt acc).2.2.2.2 (ix2 n d) = acc.2.2.2.2 (ix2 n d) + addW m c t n d)
      ∧ ∀ d, (stAt0 m c t.val t.isLt acc).2.2.1 (ix2 0 d) = acc.2.2.1 (ix2 0 d) + addG m c t d := by
  by_cases h1 : t.val % 8 = 7
  · rw [stAt0_C m c t acc h0 h1]
    dsimp only
    rw [sout0_C_0_val c _ (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (Memref.isWhole_whole _), out0_C_12_val c _ (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (Memref.isWhole_whole _)]
    exact ⟨pay3_blk m c t _, pay4_blk m c t _⟩
  · rw [stAt0_B m c t acc h0 h1]
    dsimp only
    rw [sout0_B_0_val c _ (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (Memref.isWhole_whole _), out0_B_12_val c _ (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (Memref.isWhole_whole _)]
    exact ⟨pay3_blk m c t _, pay4_blk m c t _⟩

/-- At the last point the weight's gradient leaves the scratch: a slab of rows whole, all rows rounded. -/
theorem st_last (t : Fin cfg0.N) (acc) (h1 : t.val % 8 = 7) :
    (∀ (n : Fin 288) d, (stAt0 m c t.val t.isLt acc).2.1 (ix3 0 n d) = (stAt0 m c t.val t.isLt acc).2.2.2.2 (ix2 ⟨n.val, by omega⟩ d))
      ∧ ∀ n d, (stAt0 m c t.val t.isLt acc).2.2.2.1 (ix2 n d) = (stAt0 m c t.val t.isLt acc).2.2.2.2 (ix2 n d) := by
  rw [stAt0_C m c t acc (by omega) h1]
  dsimp only
  rw [sout0_C_0_val c _ (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (Memref.isWhole_whole _), out0_C_11_val c _ (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (Memref.isWhole_whole _), out0_C_13_val c _ (hs0_0 t) (hs0_1 t) (hs0_2 t) (hs0_3 t) (hs0_4 t) (hs0_5 t) (hs0_6 t) (hs0_7 t) (hs0_8 t) (hs0_9 t) (hs0_10 t) (hs0_11 t) (hs0_12 t) (hs0_13 t) (Memref.isWhole_whole _)]
  constructor
  · intro n d
    generalize k0_pay3 (F := Ideal) _ _ _ = v
    pointwise [k0_pay6]
  · intro n d
    rfl

attribute [local irreducible] stAt0 Pipeline.accAt

/-- The running sums after `j + 1` points. -/
theorem acc_dw (j : ℕ) (h : 0 + j < cfg0.N) (n : Fin 2304) (d : Fin 1024) :
    (Pipeline.accAt (fun n h => stAt0 m c n h junk0) (stAt0 m c) 0 j h).2.2.2.2 (ix2 n d) = ∑ k : Fin (j + 1), addW m c ⟨k.val, by omega⟩ n d :=
  Own.fold_sum _ _ (fun s => s.2.2.2.2 (ix2 n d)) (fun t => addW m c t n d) (fun h => (st_first m c ⟨0, h⟩ junk0 rfl).1 n d)
    (fun k h x hk => (st_next m c ⟨k, h⟩ x (by have : cfg0.N = 8 := N_0; show ¬k % 8 = 0; omega)).1 n d) j h

theorem acc_dg (j : ℕ) (h : 0 + j < cfg0.N) (d : Fin 1024) :
    (Pipeline.accAt (fun n h => stAt0 m c n h junk0) (stAt0 m c) 0 j h).2.2.1 (ix2 0 d) = ∑ k : Fin (j + 1), addG m c ⟨k.val, by omega⟩ d :=
  Own.fold_sum _ _ (fun s => s.2.2.1 (ix2 0 d)) (fun t => addG m c t d) (fun h => (st_first m c ⟨0, h⟩ junk0 rfl).2 d)
    (fun k h x hk => (st_next m c ⟨k, h⟩ x (by have : cfg0.N = 8 := N_0; show ¬k % 8 = 0; omega)).2 d) j h

/-- A sum over the blocks' rows is the sum over the batches' rows. -/
theorem sum_rows (f : Fin 2 → Fin 2048 → EReal) :
    ∑ k : Fin 8, ∑ p : Fin 512, f ⟨(512 * k.val + p.val) / 2048, by omega⟩ ⟨(512 * k.val + p.val) % 2048, by omega⟩
      = ∑ b : Fin 2, ∑ s : Fin 2048, f b s := by
  have h1 := Fin.sum_univ_tiles 8 512 (N := 4096) rfl fun T => f ⟨T.val / 2048, by omega⟩ ⟨T.val % 2048, by omega⟩
  have h2 := Fin.sum_univ_tiles 2 2048 (N := 4096) rfl fun T => f ⟨T.val / 2048, by omega⟩ ⟨T.val % 2048, by omega⟩
  refine Eq.trans ?_ (h1.symm.trans (h2.trans ?_))
  · refine Finset.sum_congr rfl fun k _ => Finset.sum_congr rfl fun p _ => ?_
    congr 1 <;> exact Fin.ext (by dsimp only; rw [Nat.mul_comm])
  · refine Finset.sum_congr rfl fun b _ => Finset.sum_congr rfl fun s _ => ?_
    congr 1 <;> exact Fin.ext (by dsimp only; omega)

theorem last_lt : 0 + 7 < cfg0.N := by rw [show cfg0.N = 8 from N_0]; omega

theorem sum_addW (n : Fin 2304) (d : Fin 1024) :
    ∑ k : Fin (7 + 1), addW m c ⟨k.val, by have h : cfg0.N = 8 := N_0; omega⟩ n d = (args m c).dw n d :=
  sum_rows fun b s => (args m c).D b s n * (args m c).hn b s d

theorem sum_addG (d : Fin 1024) :
    ∑ k : Fin (7 + 1), addG m c ⟨k.val, by have h : cfg0.N = 8 := N_0; omega⟩ d = (args m c).dg d :=
  sum_rows fun b s => (args m c).dh b s d * ((args m c).x (ix3 b s d) * (args m c).r b s)

/-! ## The four results -/

theorem G10_val (T : Fin 4096) (q : Fin 1024) :
    G10 m c (ix2 T q) = (args m c).gx ⟨T.val / 2048, by omega⟩ ⟨T.val % 2048, by omega⟩ q := by
  have hN : cfg0.N = 8 := N_0
  have hT := T.isLt
  have key : ∀ (j : ℕ) (h : 0 + j < cfg0.N) (p : Fin 512),
      (Pipeline.accAt (fun n h => stAt0 m c n h junk0) (stAt0 m c) 0 j h).1 (ix2 p q)
        = (args m c).gx (bat ⟨0 + j, h⟩ p) (row ⟨0 + j, h⟩ p) q := by
    intro j h p
    cases j with
    | zero =>
      rw [Pipeline.accAt_zero]
      exact st_gx m c ⟨0, h⟩ junk0 p q
    | succ j =>
      rw [Pipeline.accAt_succ]
      exact st_gx m c ⟨0 + (j + 1), h⟩ _ p q
  have hp : pt10Of (ix2 T q) = T.val / 512 := by
    show 1 * (T.val / 512 - 0) + 1 * (q.val / 1024 - 0) = _
    have := q.isLt
    omega
  unfold G10
  rw [dif_pos (by rw [hp]; omega)]
  have hl : loc10Of (ix2 T q) = ix2 ⟨T.val % 512, by omega⟩ q := by
    funext a
    fin_cases a
    · rfl
    · exact Fin.ext (Nat.mod_eq_of_lt q.isLt)
  rw [hl, key]
  congr 1 <;> refine Fin.ext ?_ <;> simp only [bat, row, hp] <;> omega

theorem G12_val (d : Fin 1024) : G12 m c (ix2 0 d) = (args m c).dg d := by
  rw [G12_last]
  exact (acc_dg m c 7 last_lt d).trans (sum_addG m c d)

theorem last_scratch (n : Fin 2304) (d : Fin 1024) (h : 0 + 7 < cfg0.N) :
    (stAt0 m c (0 + 7) h (Pipeline.accAt (fun n h => stAt0 m c n h junk0) (stAt0 m c) 0 6 (by omega))).2.2.2.2 (ix2 n d) = (args m c).dw n d := by
  have e := (acc_dw m c 7 h n d).trans (sum_addW m c n d)
  rw [Pipeline.accAt_succ] at e
  exact e

theorem G11_val (n : Fin 288) (d : Fin 1024) : G11 m c (ix3 0 n d) = (args m c).dw ⟨n.val, by omega⟩ d := by
  rw [G11_last, Pipeline.accAt_succ]
  exact ((st_last m c ⟨0 + 7, last_lt⟩ _ rfl).1 n d).trans (last_scratch m c _ d last_lt)

theorem G13_val (n : Fin 2304) (d : Fin 1024) : G13 m c (ix2 n d) = (args m c).dw n d := by
  rw [G13_last, Pipeline.accAt_succ]
  exact ((st_last m c ⟨0 + 7, last_lt⟩ _ rfl).2 n d).trans (last_scratch m c n d last_lt)

end Cert.InBackIdeal.Own

end

end
-- ==== Proof.InBackRead.lean ====
/-
The reference of the input projection's backward pass, read at an index, and the equality of the two gradients.
-/
module

public import proofs.«01_k».proof.Proof.InBackFold
public import proofs.«01_k».proof.Proof.Gen.InBackRefIdeal.Read

set_option maxRecDepth 16384

@[expose] public section

noncomputable section

namespace Cert.InBackIdeal.Own

open Idealize.ShloMosaic Idealize.ShloMosaic.TcCoe Idealize.SL.Sem
open Cert.InBackRefIdeal.Read

variable (A : Args) (b : Fin 2) (s : Fin 2048)

theorem ref_ms : val_main_v7 (F := Ideal) A.x (ix3 b s 0) = A.ms b s := by
  pointwise [val_main_v7, val_main_v6, val_main_v5, val_main_v4, val_main_v3, val_main_v2, val_main_v1, val_main_cst, val_main_cst_0, val_main_cst_1]
  rfl

theorem ref_r : val_main_v8 (F := Ideal) A.x (ix3 b s 0) = A.r b s := by
  pointwise [val_main_v8]
  rw [ref_ms]
  rfl

theorem ref_dr : val_main_v11 (F := Ideal) A.x (ix3 b s 0) = Ideal.ofBits .f32 0xBF000000#32 * Ideal.div (A.r b s) (A.ms b s) := by
  pointwise [val_main_v11, val_main_v10, val_main_v9, val_main_cst_2]
  rw [ref_ms, ref_r]

theorem ref_xr (d : Fin 1024) : val_main_v13 (F := Ideal) A.x (ix3 b s d) = A.x (ix3 b s d) * A.r b s := by
  pointwise [val_main_v13, val_main_v12]
  rw [ref_r]

theorem ref_hn (d : Fin 1024) : val_main_v16 (F := Ideal) A.x A.g (ix3 b s d) = A.hn b s d := by
  pointwise [val_main_v16, val_main_v15, val_main_v14, val_main_v0]
  rw [ref_xr]
  rfl

theorem ref_D (n : Fin 2304) : val_main_v25 (F := Ideal) A.du A.dz A.dq A.dk A.dv A.da (ix3 b s n) = A.D b s n := by
  pointwise [val_main_v25]
  rfl

theorem ref_dw (n : Fin 2304) (d : Fin 1024) : val_main_v53 (F := Ideal) A.x A.g A.du A.dz A.dq A.dk A.dv A.da (ix2 n d) = A.dw n d := by
  pointwise [val_main_v53, val_main_v52, val_main_v29, val_main_v27, val_main_v26]
  simp only [ref_D, ref_hn]
  rfl

theorem ref_dh (d : Fin 1024) : val_main_v28 (F := Ideal) A.w A.du A.dz A.dq A.dk A.dv A.da (ix3 b s d) = A.dh b s d := by
  pointwise [val_main_v28, val_main_v17]
  simp only [ref_D]
  rfl

theorem ref_dg (d : Fin 1024) : val_main_v51 (F := Ideal) A.x A.w A.du A.dz A.dq A.dk A.dv A.da (ix2 0 d) = A.dg d := by
  pointwise [val_main_v51, val_main_v35, val_main_v32, val_main_v31, val_main_v30, val_main_cst_3, val_main_cst_4]
  rw [Own.hostSum_lead]
  pointwise
  simp only [Own.hostSum_lead, Fin.sum_univ_one]
  pointwise
  simp only [ref_xr, ref_dh]
  exact Finset.sum_congr rfl fun b _ => Finset.sum_congr rfl fun s _ => mul_comm (G := EReal) _ _

/-- The row's inner product with its cotangent, and what the mean square sends back. -/
def Args.ip : EReal := ∑ d : Fin 1024, A.x (ix3 b s d) * (A.dh b s d * A.g (ix2 0 d))
def Args.back : EReal := Ideal.div (A.ip b s * (Ideal.ofBits .f32 0xBF000000#32 * Ideal.div (A.r b s) (A.ms b s))) (Ideal.ofBits .f32 0x44800000#32)

theorem ref_dhg (d : Fin 1024) : val_main_v34 (F := Ideal) A.g A.w A.du A.dz A.dq A.dk A.dv A.da (ix3 b s d) = A.dh b s d * A.g (ix2 0 d) := by
  pointwise [val_main_v34, val_main_v33, val_main_v14, val_main_v0]
  rw [ref_dh]

theorem ref_back (d : Fin 1024) : val_main_v46 (F := Ideal) A.x A.g A.w A.du A.dz A.dq A.dk A.dv A.da (ix3 b s d) = A.back b s := by
  pointwise [val_main_v46, val_main_v45, val_main_v44, val_main_v43, val_main_v42, val_main_v38, val_main_v37, val_main_v36, val_main_cst_5, val_main_cst_6, val_main_cst_7]
  simp only [Fin.sum_univ_one, ref_dhg, ref_dr]
  rfl

theorem ref_gx (d : Fin 1024) : val_main_v50 (F := Ideal) A.x A.g A.w A.ch A.du A.dz A.dq A.dk A.dv A.da (ix3 b s d)
    = A.ch (ix3 b s d) + A.dh b s d * A.g (ix2 0 d) * A.r b s + A.x (ix3 b s d) * A.back b s + A.back b s * A.x (ix3 b s d) := by
  pointwise [val_main_v50, val_main_v49, val_main_v48, val_main_v47, val_main_v41, val_main_v40, val_main_v39]
  simp only [ref_back, ref_dhg, ref_r]

/-! ## The equality over the reals -/

/-- Every entry is real, the added cotangent's aside. -/
structure Args.Real : Prop where
  x : ∀ i, ∃ r : ℝ, A.x i = r
  g : ∀ i, ∃ r : ℝ, A.g i = r
  w : ∀ i, ∃ r : ℝ, A.w i = r
  du : ∀ i, ∃ r : ℝ, A.du i = r
  dz : ∀ i, ∃ r : ℝ, A.dz i = r
  dq : ∀ i, ∃ r : ℝ, A.dq i = r
  dk : ∀ i, ∃ r : ℝ, A.dk i = r
  dv : ∀ i, ∃ r : ℝ, A.dv i = r
  da : ∀ i, ∃ r : ℝ, A.da i = r

variable {A}

theorem Args.Real.D (h : A.Real) (n : Fin 2304) : ∃ r : ℝ, A.D b s n = r := by
  unfold Args.D
  split_ifs
  · exact h.du _
  · exact h.dz _
  · exact h.dq _
  · exact h.dk _
  · exact h.dv _
  · exact h.da _

theorem Args.Real.dh (h : A.Real) (d : Fin 1024) : ∃ r : ℝ, A.dh b s d = r := by
  choose D hD using h.D b s
  choose w hw using h.w
  exact ⟨∑ n, D n * w (ix3 0 d n), by simp only [Args.dh, hD, hw, Own.coe_sum, EReal.coe_mul]⟩

theorem gx_eq (h : A.Real) (d : Fin 1024) :
    A.ch (ix3 b s d) + A.dh b s d * A.g (ix2 0 d) * A.r b s + A.x (ix3 b s d) * A.back b s + A.back b s * A.x (ix3 b s d) = A.gx b s d := by
  choose x hx using h.x
  choose g hg using h.g
  choose dh hdh using h.dh b s
  obtain ⟨M, hM, hM0⟩ : ∃ M : ℝ, A.ms b s = M ∧ 0 < M := by
    refine ⟨(∑ e, x (ix3 b s e) * x (ix3 b s e)) / 1024 + Own.eps, ?_, ?_⟩
    · simp only [Args.ms, hx, Own.k1024, Own.kEps, ← EReal.coe_mul, ← Own.coe_sum]
      rw [Own.div_coe_coe _ _ (by norm_num), ← EReal.coe_add]
    · have := Own.eps_pos
      have h0 : 0 ≤ ∑ e, x (ix3 b s e) * x (ix3 b s e) := Finset.sum_nonneg fun e _ => mul_self_nonneg _
      positivity
  have hr : A.r b s = (((Real.sqrt M)⁻¹ : ℝ) : EReal) := by rw [Args.r, hM, Own.rsqrt_pos M hM0]
  have hR : (Real.sqrt M)⁻¹ * (Real.sqrt M)⁻¹ = M⁻¹ := by rw [← mul_inv, Real.mul_self_sqrt hM0.le]
  generalize (Real.sqrt M)⁻¹ = R at hr hR
  simp only [Args.back, Args.ip, Args.gx, hx, hg, hdh, hr, hM, Own.k1024, Own.kHalf, ← EReal.coe_mul, ← Own.coe_sum]
  rw [Own.div_coe_coe R M hM0.ne', ← EReal.coe_mul, ← EReal.coe_mul, Own.div_coe_coe _ _ (by norm_num), Own.div_coe_coe _ _ (by norm_num)]
  simp only [add_assoc]
  congr 1
  simp only [← EReal.coe_mul, ← EReal.coe_sub, ← EReal.coe_add]
  congr 1
  have e : ∑ k, dh k * g (ix2 0 k) * (x (ix3 b s k) * R) = (∑ k, x (ix3 b s k) * (dh k * g (ix2 0 k))) * R := by
    rw [Finset.sum_mul]
    exact Finset.sum_congr rfl fun k _ => by ring
  rw [e]
  generalize ∑ k, x (ix3 b s k) * (dh k * g (ix2 0 k)) = S
  have e2 : R / M = R * (R * R) := by rw [hR, div_eq_mul_inv]
  rw [e2]
  ring

end Cert.InBackIdeal.Own

end

end
-- ==== Proof.InBack.lean ====
/-
The claims about the input projection's backward pass.
-/
module

public import proofs.«01_k».proof.Defs
public import proofs.«01_k».proof.Proof.InBackRead
public import proofs.«01_k».proof.Proof.Gen.InBackRefIdeal.Run
public import proofs.«01_k».proof.Proof.Gen.Pre_finite_in
public import proofs.«01_k».proof.Proof.Gen.InBack.Frame

set_option maxRecDepth 16384

@[expose] public section

noncomputable section

namespace Cert.InBackIdeal.Own

open Idealize.ShloMosaic Idealize.ShloMosaic.TcCoe Idealize.SL.Sem
open Cert.InBackIdeal.Gen Cert.InBackIdeal.Value Cert.InBackRefIdeal.Read

/-- What the precondition says: every argument but the added cotangent is real. -/
theorem args_real (m : (ℓ : Loc nD τ sig) → Buf (Elt Ideal) ℓ) (h : Cert.Pre_InBackIdeal_finite_in m) (c : Dev nD) : (args m c).Real := by
  have e := congrFun (h c) ix0
  dsimp only [Cert.Pre_finite_in.fn, Cert.Pre_finite_in.fn_part1, Cert.Pre_finite_in.fn_part2] at e
  obtain ⟨e, h9⟩ := IntOp.andi_eq_one.mp e
  obtain ⟨e, h8⟩ := IntOp.andi_eq_one.mp e
  obtain ⟨e, h7⟩ := IntOp.andi_eq_one.mp e
  obtain ⟨e, h6⟩ := IntOp.andi_eq_one.mp e
  obtain ⟨e, h5⟩ := IntOp.andi_eq_one.mp e
  obtain ⟨e, h4⟩ := IntOp.andi_eq_one.mp e
  obtain ⟨e, h2⟩ := IntOp.andi_eq_one.mp e
  obtain ⟨h0, h1⟩ := IntOp.andi_eq_one.mp e
  exact ⟨Own.real_of_all _ _ _ _ _ h0, Own.real_of_all _ _ _ _ _ h1, Own.real_of_all _ _ _ _ _ h2, Own.real_of_all _ _ _ _ _ h4,
    Own.real_of_all _ _ _ _ _ h5, Own.real_of_all _ _ _ _ _ h6, Own.real_of_all _ _ _ _ _ h7, Own.real_of_all _ _ _ _ _ h8,
    Own.real_of_all _ _ _ _ _ h9⟩

variable (m : (ℓ : Loc nD τ sig) → Buf (Elt Ideal) ℓ) (c : Dev nD)

theorem ref_54 (A : Args) (T : Fin 4096) (q : Fin 1024) : val_main_v54 (F := Ideal) A.x A.g A.w A.ch A.du A.dz A.dq A.dk A.dv A.da (ix2 T q)
    = val_main_v50 (F := Ideal) A.x A.g A.w A.ch A.du A.dz A.dq A.dk A.dv A.da (ix3 ⟨T.val / 2048, by omega⟩ ⟨T.val % 2048, by omega⟩ q) := by
  pointwise [val_main_v54]

theorem ref_56 (A : Args) (n : Fin 288) (d : Fin 1024) : val_main_v56 (F := Ideal) A.x A.g A.du A.dz A.dq A.dk A.dv A.da (ix3 0 n d)
    = val_main_v53 (F := Ideal) A.x A.g A.du A.dz A.dq A.dk A.dv A.da (ix2 ⟨n.val, by omega⟩ d) := by
  pointwise [val_main_v56, val_main_v55]

theorem out_gx (h : (args m c).Real) (A : Args) (hA : A = args m c) :
    val_main_v54 (F := Ideal) A.x A.g A.w A.ch A.du A.dz A.dq A.dk A.dv A.da = G10 m c := by
  subst hA
  funext i
  rw [eq_ix2 i]
  exact ((ref_54 _ (i 0) (i 1)).trans ((ref_gx _ _ _ _).trans (gx_eq _ _ h _))).trans (G10_val m c (i 0) (i 1)).symm

theorem out_dw0 (A : Args) (hA : A = args m c) :
    val_main_v56 (F := Ideal) A.x A.g A.du A.dz A.dq A.dk A.dv A.da = G11 m c := by
  subst hA
  funext i
  rw [eq_ix3 i, Fin.fin_one_eq_zero (i 0)]
  exact ((ref_56 _ (i 1) (i 2)).trans (ref_dw _ _ _)).trans (G11_val m c (i 1) (i 2)).symm

theorem out_dg (A : Args) (hA : A = args m c) :
    val_main_v51 (F := Ideal) A.x A.w A.du A.dz A.dq A.dk A.dv A.da = G12 m c := by
  subst hA
  funext i
  rw [eq_ix2 i, Fin.fin_one_eq_zero (i 0)]
  exact (ref_dg _ (i 1)).trans (G12_val m c (i 1)).symm

theorem out_dw (A : Args) (hA : A = args m c) :
    val_main_v57 (F := Ideal) A.x A.g A.du A.dz A.dq A.dk A.dv A.da = G13 m c := by
  subst hA
  funext i
  rw [eq_ix2 i]
  exact (ref_dw _ (i 0) (i 1)).trans (G13_val m c (i 0) (i 1)).symm

theorem frame_bits : Cert.quiescent_InBack := fun m ρ _ => Cert.InBack.Gen.frame m ρ
theorem frame_ideal : Cert.quiescent_InBackIdeal := fun m ρ _ => Cert.InBackIdeal.Gen.frame m ρ
theorem frame_ideal_pre : Cert.quiescent_InBackIdeal_pre_finite_in := fun m ρ _ => Cert.InBackIdeal.Gen.frame m ρ
theorem frame_ref : Cert.quiescent_InBackRefIdeal := fun m ρ _ =>
  (θ_run Cert.InBackRefIdeal.defs _ _).mono (fun r h => ⟨fun c => (h c).2.2.2.2, sem_eq_zero_of_no_sems (by decide) r.2⟩)
    (Cert.InBackRefIdeal.Value.run (F := Ideal) m ρ)
theorem frame_ref_pre : Cert.quiescent_InBackRefIdeal_pre_finite_in := fun m ρ _ => frame_ref m ρ trivial

theorem algebraic : Cert.algebraic_InBackIdeal_InBackRefIdeal_pre_finite_in := by
  intro m ρ m' ρ' hp ha
  refine ⟨G10 m, G11 m, G12 m, G13 m, Cert.InBackIdeal.Value.run m ρ, ?_⟩
  refine (θ_run Cert.InBackRefIdeal.defs _ _).mono (fun r h c => ?_) (Cert.InBackRefIdeal.Value.run (F := Ideal) m' ρ')
  obtain ⟨h0, h1, h2, h3, h4⟩ := h c
  have e : (Args.mk (m' ((c.tc : Thread Cert.InBackRefIdeal.nD Cert.InBackRefIdeal.τ).loc Cert.InBackRefIdeal.main_arg0)) (m' ((c.tc : Thread Cert.InBackRefIdeal.nD Cert.InBackRefIdeal.τ).loc Cert.InBackRefIdeal.main_arg1)) (m' ((c.tc : Thread Cert.InBackRefIdeal.nD Cert.InBackRefIdeal.τ).loc Cert.InBackRefIdeal.main_arg2)) (m' ((c.tc : Thread Cert.InBackRefIdeal.nD Cert.InBackRefIdeal.τ).loc Cert.InBackRefIdeal.main_arg3)) (m' ((c.tc : Thread Cert.InBackRefIdeal.nD Cert.InBackRefIdeal.τ).loc Cert.InBackRefIdeal.main_arg4)) (m' ((c.tc : Thread Cert.InBackRefIdeal.nD Cert.InBackRefIdeal.τ).loc Cert.InBackRefIdeal.main_arg5)) (m' ((c.tc : Thread Cert.InBackRefIdeal.nD Cert.InBackRefIdeal.τ).loc Cert.InBackRefIdeal.main_arg6)) (m' ((c.tc : Thread Cert.InBackRefIdeal.nD Cert.InBackRefIdeal.τ).loc Cert.InBackRefIdeal.main_arg7)) (m' ((c.tc : Thread Cert.InBackRefIdeal.nD Cert.InBackRefIdeal.τ).loc Cert.InBackRefIdeal.main_arg8)) (m' ((c.tc : Thread Cert.InBackRefIdeal.nD Cert.InBackRefIdeal.τ).loc Cert.InBackRefIdeal.main_arg9))) = args m c := by
    obtain ⟨a0, a1, a2, a3, a4, a5, a6, a7, a8, a9⟩ := ha c
    unfold args
    congr 1
  have k0 := out_gx m c (args_real m hp c) _ e
  have k1 := out_dw0 m c _ e
  have k2 := out_dg m c _ e
  have k3 := out_dw m c _ e
  exact ⟨h0.trans ((val_main_v54_eq m' c).trans k0), h1.trans ((val_main_v56_eq _ _ _ _ _ _ _ _).trans k1),
    h2.trans ((val_main_v51_eq _ _ _ _ _ _ _ _).trans k2), h3.trans ((val_main_v57_eq _ _ _ _ _ _ _ _).trans k3), h4⟩

end Cert.InBackIdeal.Own

end

end
-- ==== Proof.AttFwdRun.lean ====
/- What one grid point of the forward attention kernel leaves in its two output blocks. -/
module

public import proofs.«01_k».proof.Proof.Gen.AttBackIdeal.Launch
public import proofs.«01_k».proof.Proof.Gen.AttBackIdeal.Skeleton
public import proofs.«01_k».proof.Proof.Gen.AttBackIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.AttBackIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttBackIdeal.Gen

variable {F : FTy → Type} [FloatOps F]

/-- The assertions over the machine's memory in which every triple here is stated. -/
abbrev Assn (F : FTy → Type) [FloatOps F] : Type := sProp (MT nD τ sig Unit (Elt F) ℕ (UR sig nD τ) ℕ)
set_option maxHeartbeats 1000000 in
/-- The forward body runs on whole memrefs from the six input blocks, whatever the output blocks hold, and ends
    with the inputs as they were and the listed pieces written to each output block. -/
noncomputable def fwdRun (c : Dev nD) (i : grid0.Coords)
  (a0 : Memref sig .tc .smem S8 .f32) (ha0 : a0.IsWhole)
  (a1 : Memref sig .tc .vmem S128x512 .bf16) (ha1 : a1.IsWhole)
  (a2 : Memref sig .tc .vmem S128x128 .bf16) (ha2 : a2.IsWhole)
  (a3 : Memref sig .tc .vmem S128x128 .bf16) (ha3 : a3.IsWhole)
  (a4 : Memref sig .tc .vmem S128x128 .bf16) (ha4 : a4.IsWhole)
  (a5 : Memref sig .tc .vmem S128x128 .bf16) (ha5 : a5.IsWhole)
  (a6 : Memref sig .tc .vmem S128x512 .f32) (ha6 : a6.IsWhole)
  (a7 : Memref sig .tc .vmem S128x8 .f32) (ha7 : a7.IsWhole)
  (x0 : Vec F S8 .f32) (x1 : Vec F S128x512 .bf16) (x2 : Vec F S128x128 .bf16) (x3 : Vec F S128x128 .bf16) (x4 : Vec F S128x128 .bf16) (x5 : Vec F S128x128 .bf16) :
    Σ' (L6 : List (View.Piece (Elt F) S128x512 .f32)), { L7 : List (View.Piece (Elt F) S128x8 .f32) //
      ∀ (E : Set ℕ) (K : PUnit → Assn F),
        iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ (∃ d, owns (c : Thread nD τ) a6 fullShare d)
          ∗ (∃ d, owns (c : Thread nD τ) a7 fullShare d)
          ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare x5
            ∗ (∃ f, a6.view.loc (c : Thread nD τ) ↦[a6.view.set]{fullShare} a6.view.writes (Elt F) f L6)
            ∗ (∃ f, a7.view.loc (c : Thread nD τ) ↦[a7.view.set]{fullShare} a7.view.writes (Elt F) f L7)) -∗ K ⟨⟩))
          ⊢ wp frame (wpE (defs₀ (F := F)) Variants.none c none) E (cc0_attn_forward i a0 ha0 a1 ha1 a2 ha2 a3 ha3 a4 ha4 a5 ha5 a6 ha6 a7 ha7) K } := by
  refine ⟨?_, ?_, fun E K => ?run⟩
  case run =>
    simp only [cc0_attn_forward_eq_skeleton]; unfold cc0_attn_forward_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, Hk⟩
    obtain rfl := ha0.eq_unread e0
    obtain rfl := ha1.eq_unread e1
    obtain rfl := ha2.eq_unread e2
    obtain rfl := ha3.eq_unread e3
    obtain rfl := ha4.eq_unread e4
    obtain rfl := ha5.eq_unread e5
    sl_exec
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    isplitl [H5]
    · iexists _; isplitr; · ipureintro; exact ha5.read_unread _
      iexact H5
    isplitl [H6]
    · iexists _; iexact H6
    iexists _; iexact H7

end Cert.AttBackIdeal.Own

end
-- ==== Proof.AttFwdDat.lean ====
/- The proof data of the forward attention call: what its staging buffers hold at each grid point, and its body obligation. -/
module

public import proofs.«01_k».proof.Proof.Gen.AttBackIdeal.Launch
public import proofs.«01_k».proof.Proof.Gen.AttBackIdeal.Skeleton
public import proofs.«01_k».proof.Proof.Gen.AttBackIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.AttFwdRun

@[expose] public section

set_option maxRecDepth 16384

noncomputable section

namespace Cert.AttBackIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttBackIdeal.Gen

variable {F : FTy → Type} [FloatOps F]

/-- A window's staging buffer once the stores listed in `L`, which cover it, have run. -/
theorem owns_of_pieces {S : Shape} {e : EltTy} (c : Dev nD) (a : Memref sig .tc .vmem S e) (L : List (View.Piece (Elt F) S e))
    (h : ∀ y, ∃ p ∈ L, y ∈ p.1.set) :
    (iprop(∃ f, a.view.loc (c : Thread nD τ) ↦[a.view.set]{fullShare} a.view.writes (Elt F) f L) : Assn F)
      ⊢ owns (c : Thread nD τ) a fullShare (View.canon L) := by
  iintro ⟨%f, H⟩
  unfold owns; iexists _; isplitr
  swap; · iexact H
  ipureintro; exact View.read_writes_eq_canon _ _ _ h

/-- An output window's buffer that was neither written back nor left alone at the point before still holds what the body
    left there. -/
theorem before_kept {cfg : Cfg sig Λ₀} {c : Dev nD} (dat : Dat τ (Elt F) Unit ℕ (UR sig nD τ) ℕ cfg c) (w : Fin cfg.W)
    (hw : (cfg.win w).isOut = true) (t : Fin cfg.N) (ht : t.val ≠ 0)
    (hfl : (cfg.win w).flush ⟨t.val - 1, Nat.lt_of_le_of_lt (Nat.sub_le _ _) t.isLt⟩ = false)
    (hlive : cfg.idle w (cfg.grid.coords ⟨t.val - 1, Nat.lt_of_le_of_lt (Nat.sub_le _ _) t.isLt⟩) = false)
    (hclip : ∀ (i : cfg.grid.Coords) a, (cfg.win w).clip i a = none) (d) :
    dat.before w t d = dat.after w ⟨t.val - 1, Nat.lt_of_le_of_lt (Nat.sub_le _ _) t.isLt⟩ := by
  rw [dat.before_of_pos w t ht ((cfg.win w).fetch_out hw t), hfl, if_neg Bool.false_ne_true]
  unfold Dat.left; rw [hlive]; dsimp only; unfold Dat.kept
  rw [Pipeline.fill_of_clip_none w _ (hclip _) d (dat.after w _), Window.fill_cut]

-- the core's buffers when the call is entered
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The forward body's run at point `t`, on the point's buffers and blocks. -/
def fwdAt (c : Dev nD) (t : Fin cfg0.N) :=
  fwdRun (F := F) c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (iblk0 V c 0 t) (iblk0 V c 1 t) (iblk0 V c 2 t) (iblk0 V c 3 t) (iblk0 V c 4 t) (iblk0 V c 5 t)

theorem fwdCover6 (c : Dev nD) (t : Fin cfg0.N) (y : S128x512.Idx) : ∃ p ∈ (fwdAt V c t).1, y ∈ p.1.set :=
  View.cover_of_tiledL (fwdAt V c t).1 S128x64.size (by sl_kernel_rfl) y
theorem fwdCover7 (c : Dev nD) (t : Fin cfg0.N) (y : S128x8.Idx) : ∃ p ∈ (fwdAt V c t).2.1, y ∈ p.1.set :=
  View.cover_of_tiledL (fwdAt V c t).2.1 S128x1.size (by sl_kernel_rfl) y

/-- The proof data of the forward call: the inputs stay at their blocks, the outputs hold what the run's stores leave, and
    nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => View.canon (fwdAt V c t).1
    | ⟨7, _⟩ => View.canon (fwdAt V c t).2.1
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

/-! What each input window's buffer holds after and before the body at a point: its block. -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem before0_0 (c : Dev nD) (t : Fin cfg0.N) (d) : (dat0 V c).before 0 t d = iblk0 V c 0 t :=
  (((dat0 V c)).before_in_eq_fetched 0 rfl (fun _ => rfl) (fun _ _ _ => rfl)
    (fun t => by rw [after0_0]; unfold Dat.blockOf iblk0; rw [A_eq0]) t d).trans (by unfold Dat.fetched Dat.blockOf iblk0; rw [A_eq0]; try rfl)
theorem before0_1 (c : Dev nD) (t : Fin cfg0.N) (d) : (dat0 V c).before 1 t d = iblk0 V c 1 t :=
  (((dat0 V c)).before_in_eq_fetched 1 rfl (fun _ => rfl) (fun _ _ _ => rfl)
    (fun t => by rw [after0_1]; unfold Dat.blockOf iblk0; rw [A_eq0]) t d).trans (by unfold Dat.fetched Dat.blockOf iblk0; rw [A_eq0]; try rfl)
theorem before0_2 (c : Dev nD) (t : Fin cfg0.N) (d) : (dat0 V c).before 2 t d = iblk0 V c 2 t :=
  (((dat0 V c)).before_in_eq_fetched 2 rfl (fun _ => rfl) (fun _ _ _ => rfl)
    (fun t => by rw [after0_2]; unfold Dat.blockOf iblk0; rw [A_eq0]) t d).trans (by unfold Dat.fetched Dat.blockOf iblk0; rw [A_eq0]; try rfl)
theorem before0_3 (c : Dev nD) (t : Fin cfg0.N) (d) : (dat0 V c).before 3 t d = iblk0 V c 3 t :=
  (((dat0 V c)).before_in_eq_fetched 3 rfl (fun _ => rfl) (fun _ _ _ => rfl)
    (fun t => by rw [after0_3]; unfold Dat.blockOf iblk0; rw [A_eq0]) t d).trans (by unfold Dat.fetched Dat.blockOf iblk0; rw [A_eq0]; try rfl)
theorem before0_4 (c : Dev nD) (t : Fin cfg0.N) (d) : (dat0 V c).before 4 t d = iblk0 V c 4 t :=
  (((dat0 V c)).before_in_eq_fetched 4 rfl (fun _ => rfl) (fun _ _ _ => rfl)
    (fun t => by rw [after0_4]; unfold Dat.blockOf iblk0; rw [A_eq0]) t d).trans (by unfold Dat.fetched Dat.blockOf iblk0; rw [A_eq0]; try rfl)
theorem before0_5 (c : Dev nD) (t : Fin cfg0.N) (d) : (dat0 V c).before 5 t d = iblk0 V c 5 t :=
  (((dat0 V c)).before_in_eq_fetched 5 rfl (fun _ => rfl) (fun _ _ _ => rfl)
    (fun t => by rw [after0_5]; unfold Dat.blockOf iblk0; rw [A_eq0]) t d).trans (by unfold Dat.fetched Dat.blockOf iblk0; rw [A_eq0]; try rfl)

/-- What the body is called with at point `t`. -/
def pre0 (c : Dev nD) (t : Fin cfg0.N) : Assn F :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d)))

/-- What the body hands back at point `t`. -/
def post0 (c : Dev nD) (t : Fin cfg0.N) : Assn F :=
  iprop((dat0 V c).Φ t.succ ∗ (dat0 V c).owesAt () t.succ
    ∗ owns (c : Thread nD τ) (win0_0.stage (cfg0.slots t 0)) fullShare ((dat0 V c).after 0 t)
    ∗ owns (c : Thread nD τ) (win0_1.stage (cfg0.slots t 1)) fullShare ((dat0 V c).after 1 t)
    ∗ owns (c : Thread nD τ) (win0_2.stage (cfg0.slots t 2)) fullShare ((dat0 V c).after 2 t)
    ∗ owns (c : Thread nD τ) (win0_3.stage (cfg0.slots t 3)) fullShare ((dat0 V c).after 3 t)
    ∗ owns (c : Thread nD τ) (win0_4.stage (cfg0.slots t 4)) fullShare ((dat0 V c).after 4 t)
    ∗ owns (c : Thread nD τ) (win0_5.stage (cfg0.slots t 5)) fullShare ((dat0 V c).after 5 t)
    ∗ owns (c : Thread nD τ) (win0_6.stage (cfg0.slots t 6)) fullShare ((dat0 V c).after 6 t)
    ∗ owns (c : Thread nD τ) (win0_7.stage (cfg0.slots t 7)) fullShare ((dat0 V c).after 7 t))

set_option maxHeartbeats 800000 in
/-- The forward body at any point carries the one to the other. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5,
    show (dat0 V c).after 6 t = View.canon (fwdAt V c t).1 by dsimp only [dat0],
    show (dat0 V c).after 7 t = View.canon (fwdAt V c t).2.1 by dsimp only [dat0]]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((fwdAt V c t).2.2 Set.univ _)
  iframe H0 H1 H2 H3 H4 H5
  isplitl [H6]; · iexists _; iexact H6
  isplitl [H7]; · iexists _; iexact H7
  iintro ⟨H0, H1, H2, H3, H4, H5, H6, H7⟩
  iframe HΦ Ho H0 H1 H2 H3 H4 H5
  isplitl [H6]; · iapply (owns_of_pieces c _ _ (fwdCover6 V c t)); iexact H6
  iapply (owns_of_pieces c _ _ (fwdCover7 V c t)); iexact H7

/-- The body table's row at the point's slots is the body. -/
theorem row0 (t : Fin cfg0.N) : defs₀ (F := F) .tc cfg0.body (cfg0.bodyArgs t (cfg0.slots t)) = bodyAt0 t := by
  unfold defs₀; rw [Defs.onTc_tc]

/-- The forward call's body obligation. -/
theorem obligation0 (c : Dev nD) : BodyObligation (dat0 (F := F) V c) (defs₀ (F := F)) Variants.none () Set.univ := fun t => by
  rw [bigSep_W0, bigSep_W0, row0]
  exact triple_restated (sound0 V c t) rfl .rfl fun _ => .rfl

end Cert.AttBackIdeal.Own

end
-- ==== Proof.AttBwdRunA.lean ====
/- What the backward attention kernel leaves at the very first point. -/
module

public import proofs.«01_k».proof.Proof.Gen.AttBackIdeal.Launch
public import proofs.«01_k».proof.Proof.Gen.AttBackIdeal.Skeleton
public import proofs.«01_k».proof.Proof.Gen.AttBackIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.AttFwdRun

@[expose] public section

set_option maxRecDepth 16384

noncomputable section

namespace Cert.AttBackIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttBackIdeal.Gen

variable {F : FTy → Type} [FloatOps F]

/-- The grid point is the first of its batch entry: the body clears both carried blocks. -/
abbrev isStart (i : grid1.Coords) : Prop := (Scalar.cmpi .ne (Scalar.extui (Scalar.cmpi .eq (BitVec.ofNat 32 (i 1).val) 0#32)) 0#32) = 1#1
/-- The grid point has a query block of its own: the body stores the gradient of `q`. -/
abbrev isLive (i : grid1.Coords) : Prop := k1_cond2 i = 1#1
/-- The grid point is the very first: the body stores the sink gradient. -/
abbrev isFirst (i : grid1.Coords) : Prop := k1_cond3 i = 1#1
/-- The grid point is not the very first: the body adds to the sink gradient. -/
abbrev isLater (i : grid1.Coords) : Prop := k1_cond4 i = 1#1

set_option maxHeartbeats 2000000 in
/-- The backward body at the very first point: both carried blocks cleared, every output written: from the nine input
    blocks it ends with the inputs as they were and the listed pieces written. -/
noncomputable def bwdRunA (c : Dev nD) (i : grid1.Coords)
  (a0 : Memref sig .tc .smem S8 .f32) (ha0 : a0.IsWhole)
  (a1 : Memref sig .tc .vmem S128x512 .bf16) (ha1 : a1.IsWhole)
  (a2 : Memref sig .tc .vmem S128x128 .bf16) (ha2 : a2.IsWhole)
  (a3 : Memref sig .tc .vmem S128x128 .bf16) (ha3 : a3.IsWhole)
  (a4 : Memref sig .tc .vmem S128x128 .bf16) (ha4 : a4.IsWhole)
  (a5 : Memref sig .tc .vmem S128x128 .bf16) (ha5 : a5.IsWhole)
  (a6 : Memref sig .tc .vmem S128x512 .f32) (ha6 : a6.IsWhole)
  (a7 : Memref sig .tc .vmem S128x512 .f32) (ha7 : a7.IsWhole)
  (a8 : Memref sig .tc .vmem S128x8 .f32) (ha8 : a8.IsWhole)
  (a9 : Memref sig .tc .vmem S128x512 .f32) (ha9 : a9.IsWhole)
  (a10 : Memref sig .tc .vmem S128x128 .f32) (ha10 : a10.IsWhole)
  (a11 : Memref sig .tc .vmem S128x128 .f32) (ha11 : a11.IsWhole)
  (a12 : Memref sig .tc .vmem S1x8 .f32) (ha12 : a12.IsWhole)
  (a13 : Memref sig .tc .vmem S128x128 .f32) (ha13 : a13.IsWhole)
  (a14 : Memref sig .tc .vmem S128x128 .f32) (ha14 : a14.IsWhole)
  (c0 : isStart i)  (c1 : isLive i)  (c2 : isFirst i)  (c3 : ¬isLater i)
  (x0 : Vec F S8 .f32) (x1 : Vec F S128x512 .bf16) (x2 : Vec F S128x128 .bf16) (x3 : Vec F S128x128 .bf16) (x4 : Vec F S128x128 .bf16) (x5 : Vec F S128x128 .bf16) (x6 : Vec F S128x512 .f32) (x7 : Vec F S128x512 .f32) (x8 : Vec F S128x8 .f32) :
    Σ' (L9 : List (View.Piece (Elt F) S128x512 .f32)), Σ' (L10 : List (View.Piece (Elt F) S128x128 .f32)), Σ' (L11 : List (View.Piece (Elt F) S128x128 .f32)), Σ' (L12 : List (View.Piece (Elt F) S1x8 .f32)), Σ' (L13 : List (View.Piece (Elt F) S128x128 .f32)), { L14 : List (View.Piece (Elt F) S128x128 .f32) //
      ∀ (E : Set ℕ) (K : PUnit → Assn F),
        iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ owns (c : Thread nD τ) a8 fullShare x8
          ∗ (∃ d, owns (c : Thread nD τ) a9 fullShare d)
          ∗ (∃ d, owns (c : Thread nD τ) a10 fullShare d)
          ∗ (∃ d, owns (c : Thread nD τ) a11 fullShare d)
          ∗ (∃ d, owns (c : Thread nD τ) a12 fullShare d)
          ∗ (∃ d, owns (c : Thread nD τ) a13 fullShare d)
          ∗ (∃ d, owns (c : Thread nD τ) a14 fullShare d)
          ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ (∃ f, a9.view.loc (c : Thread nD τ) ↦[a9.view.set]{fullShare} a9.view.writes (Elt F) f L9)
            ∗ (∃ f, a10.view.loc (c : Thread nD τ) ↦[a10.view.set]{fullShare} a10.view.writes (Elt F) f L10)
            ∗ (∃ f, a11.view.loc (c : Thread nD τ) ↦[a11.view.set]{fullShare} a11.view.writes (Elt F) f L11)
            ∗ (∃ f, a12.view.loc (c : Thread nD τ) ↦[a12.view.set]{fullShare} a12.view.writes (Elt F) f L12)
            ∗ (∃ f, a13.view.loc (c : Thread nD τ) ↦[a13.view.set]{fullShare} a13.view.writes (Elt F) f L13)
            ∗ (∃ f, a14.view.loc (c : Thread nD τ) ↦[a14.view.set]{fullShare} a14.view.writes (Elt F) f L14)) -∗ K ⟨⟩))
          ⊢ wp frame (wpE (defs₀ (F := F)) Variants.none c none) E (cc1_attn_backward i a0 ha0 a1 ha1 a2 ha2 a3 ha3 a4 ha4 a5 ha5 a6 ha6 a7 ha7 a8 ha8 a9 ha9 a10 ha10 a11 ha11 a12 ha12 a13 ha13 a14 ha14) K } := by
  refine ⟨?_, ?_, ?_, ?_, ?_, ?_, fun E K => ?run⟩
  case run =>
    simp only [cc1_attn_backward_eq_skeleton]; unfold cc1_attn_backward_skel
    simp only [k1_part1_eq_skeleton, k1_part2_eq_skeleton, k1_part3_eq_skeleton, k1_part4_eq_skeleton, k1_part5_eq_skeleton, k1_part6_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := ha0.eq_unread e0
    obtain rfl := ha1.eq_unread e1
    obtain rfl := ha2.eq_unread e2
    obtain rfl := ha3.eq_unread e3
    obtain rfl := ha4.eq_unread e4
    obtain rfl := ha5.eq_unread e5
    obtain rfl := ha6.eq_unread e6
    obtain rfl := ha7.eq_unread e7
    obtain rfl := ha8.eq_unread e8
    sl_exec (disch := first | sl_exact c0 | sl_exact c1 | sl_exact c2 | sl_exact c3)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    isplitl [H5]
    · iexists _; isplitr; · ipureintro; exact ha5.read_unread _
      iexact H5
    isplitl [H6]
    · iexists _; isplitr; · ipureintro; exact ha6.read_unread _
      iexact H6
    isplitl [H7]
    · iexists _; isplitr; · ipureintro; exact ha7.read_unread _
      iexact H7
    isplitl [H8]
    · iexists _; isplitr; · ipureintro; exact ha8.read_unread _
      iexact H8
    isplitl [H9]
    · iexists _; iexact H9
    isplitl [H10]
    · iexists _; iexact H10
    isplitl [H11]
    · iexists _; iexact H11
    isplitl [H12]
    · iexists _; iexact H12
    isplitl [H13]
    · iexists _; iexact H13
    iexists _; iexact H14

end Cert.AttBackIdeal.Own

end
-- ==== Proof.AttBwdRunB.lean ====
/- What the backward attention kernel leaves at the first point of a later batch entry. -/
module

public import proofs.«01_k».proof.Proof.Gen.AttBackIdeal.Launch
public import proofs.«01_k».proof.Proof.Gen.AttBackIdeal.Skeleton
public import proofs.«01_k».proof.Proof.Gen.AttBackIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.AttBwdRunA

@[expose] public section

set_option maxRecDepth 16384

noncomputable section

namespace Cert.AttBackIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttBackIdeal.Gen

variable {F : FTy → Type} [FloatOps F]
set_option maxHeartbeats 2000000 in
/-- The backward body at the first point of a later batch entry: both carried blocks cleared, the sink gradient added to: from the nine input
    blocks it ends with the inputs as they were and the listed pieces written. -/
noncomputable def bwdRunB (c : Dev nD) (i : grid1.Coords)
  (a0 : Memref sig .tc .smem S8 .f32) (ha0 : a0.IsWhole)
  (a1 : Memref sig .tc .vmem S128x512 .bf16) (ha1 : a1.IsWhole)
  (a2 : Memref sig .tc .vmem S128x128 .bf16) (ha2 : a2.IsWhole)
  (a3 : Memref sig .tc .vmem S128x128 .bf16) (ha3 : a3.IsWhole)
  (a4 : Memref sig .tc .vmem S128x128 .bf16) (ha4 : a4.IsWhole)
  (a5 : Memref sig .tc .vmem S128x128 .bf16) (ha5 : a5.IsWhole)
  (a6 : Memref sig .tc .vmem S128x512 .f32) (ha6 : a6.IsWhole)
  (a7 : Memref sig .tc .vmem S128x512 .f32) (ha7 : a7.IsWhole)
  (a8 : Memref sig .tc .vmem S128x8 .f32) (ha8 : a8.IsWhole)
  (a9 : Memref sig .tc .vmem S128x512 .f32) (ha9 : a9.IsWhole)
  (a10 : Memref sig .tc .vmem S128x128 .f32) (ha10 : a10.IsWhole)
  (a11 : Memref sig .tc .vmem S128x128 .f32) (ha11 : a11.IsWhole)
  (a12 : Memref sig .tc .vmem S1x8 .f32) (ha12 : a12.IsWhole)
  (a13 : Memref sig .tc .vmem S128x128 .f32) (ha13 : a13.IsWhole)
  (a14 : Memref sig .tc .vmem S128x128 .f32) (ha14 : a14.IsWhole)
  (c0 : isStart i)  (c1 : isLive i)  (c2 : ¬isFirst i)  (c3 : isLater i)
  (x0 : Vec F S8 .f32) (x1 : Vec F S128x512 .bf16) (x2 : Vec F S128x128 .bf16) (x3 : Vec F S128x128 .bf16) (x4 : Vec F S128x128 .bf16) (x5 : Vec F S128x128 .bf16) (x6 : Vec F S128x512 .f32) (x7 : Vec F S128x512 .f32) (x8 : Vec F S128x8 .f32) (y12 : Vec F S1x8 .f32) :
    Σ' (L9 : List (View.Piece (Elt F) S128x512 .f32)), Σ' (L10 : List (View.Piece (Elt F) S128x128 .f32)), Σ' (L11 : List (View.Piece (Elt F) S128x128 .f32)), Σ' (L12 : List (View.Piece (Elt F) S1x8 .f32)), Σ' (L13 : List (View.Piece (Elt F) S128x128 .f32)), { L14 : List (View.Piece (Elt F) S128x128 .f32) //
      ∀ (E : Set ℕ) (K : PUnit → Assn F),
        iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ owns (c : Thread nD τ) a8 fullShare x8
          ∗ (∃ d, owns (c : Thread nD τ) a9 fullShare d)
          ∗ (∃ d, owns (c : Thread nD τ) a10 fullShare d)
          ∗ (∃ d, owns (c : Thread nD τ) a11 fullShare d)
          ∗ owns (c : Thread nD τ) a12 fullShare y12
          ∗ (∃ d, owns (c : Thread nD τ) a13 fullShare d)
          ∗ (∃ d, owns (c : Thread nD τ) a14 fullShare d)
          ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ (∃ f, a9.view.loc (c : Thread nD τ) ↦[a9.view.set]{fullShare} a9.view.writes (Elt F) f L9)
            ∗ (∃ f, a10.view.loc (c : Thread nD τ) ↦[a10.view.set]{fullShare} a10.view.writes (Elt F) f L10)
            ∗ (∃ f, a11.view.loc (c : Thread nD τ) ↦[a11.view.set]{fullShare} a11.view.writes (Elt F) f L11)
            ∗ (∃ f, a12.view.loc (c : Thread nD τ) ↦[a12.view.set]{fullShare} a12.view.writes (Elt F) f L12)
            ∗ (∃ f, a13.view.loc (c : Thread nD τ) ↦[a13.view.set]{fullShare} a13.view.writes (Elt F) f L13)
            ∗ (∃ f, a14.view.loc (c : Thread nD τ) ↦[a14.view.set]{fullShare} a14.view.writes (Elt F) f L14)) -∗ K ⟨⟩))
          ⊢ wp frame (wpE (defs₀ (F := F)) Variants.none c none) E (cc1_attn_backward i a0 ha0 a1 ha1 a2 ha2 a3 ha3 a4 ha4 a5 ha5 a6 ha6 a7 ha7 a8 ha8 a9 ha9 a10 ha10 a11 ha11 a12 ha12 a13 ha13 a14 ha14) K } := by
  refine ⟨?_, ?_, ?_, ?_, ?_, ?_, fun E K => ?run⟩
  case run =>
    simp only [cc1_attn_backward_eq_skeleton]; unfold cc1_attn_backward_skel
    simp only [k1_part1_eq_skeleton, k1_part2_eq_skeleton, k1_part3_eq_skeleton, k1_part4_eq_skeleton, k1_part5_eq_skeleton, k1_part6_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, ⟨%d11, %f11, -, H11⟩, ⟨%f12, %e12, H12⟩, ⟨%d13, %f13, -, H13⟩, ⟨%d14, %f14, -, H14⟩, Hk⟩
    obtain rfl := ha0.eq_unread e0
    obtain rfl := ha1.eq_unread e1
    obtain rfl := ha2.eq_unread e2
    obtain rfl := ha3.eq_unread e3
    obtain rfl := ha4.eq_unread e4
    obtain rfl := ha5.eq_unread e5
    obtain rfl := ha6.eq_unread e6
    obtain rfl := ha7.eq_unread e7
    obtain rfl := ha8.eq_unread e8
    obtain rfl := ha12.eq_unread e12
    sl_exec (disch := first | sl_exact c0 | sl_exact c1 | sl_exact c2 | sl_exact c3)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    isplitl [H5]
    · iexists _; isplitr; · ipureintro; exact ha5.read_unread _
      iexact H5
    isplitl [H6]
    · iexists _; isplitr; · ipureintro; exact ha6.read_unread _
      iexact H6
    isplitl [H7]
    · iexists _; isplitr; · ipureintro; exact ha7.read_unread _
      iexact H7
    isplitl [H8]
    · iexists _; isplitr; · ipureintro; exact ha8.read_unread _
      iexact H8
    isplitl [H9]
    · iexists _; iexact H9
    isplitl [H10]
    · iexists _; iexact H10
    isplitl [H11]
    · iexists _; iexact H11
    isplitl [H12]
    · iexists _; iexact H12
    isplitl [H13]
    · iexists _; iexact H13
    iexists _; iexact H14

end Cert.AttBackIdeal.Own

end
-- ==== Proof.AttBwdRunC.lean ====
/- What the backward attention kernel leaves at a point inside a batch entry. -/
module

public import proofs.«01_k».proof.Proof.Gen.AttBackIdeal.Launch
public import proofs.«01_k».proof.Proof.Gen.AttBackIdeal.Skeleton
public import proofs.«01_k».proof.Proof.Gen.AttBackIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.AttBwdRunB

@[expose] public section

set_option maxRecDepth 16384

noncomputable section

namespace Cert.AttBackIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttBackIdeal.Gen

variable {F : FTy → Type} [FloatOps F]
set_option maxHeartbeats 2000000 in
/-- The backward body at a point inside a batch entry: the carried blocks read, the sink gradient added to: from the nine input
    blocks it ends with the inputs as they were and the listed pieces written. -/
noncomputable def bwdRunC (c : Dev nD) (i : grid1.Coords)
  (a0 : Memref sig .tc .smem S8 .f32) (ha0 : a0.IsWhole)
  (a1 : Memref sig .tc .vmem S128x512 .bf16) (ha1 : a1.IsWhole)
  (a2 : Memref sig .tc .vmem S128x128 .bf16) (ha2 : a2.IsWhole)
  (a3 : Memref sig .tc .vmem S128x128 .bf16) (ha3 : a3.IsWhole)
  (a4 : Memref sig .tc .vmem S128x128 .bf16) (ha4 : a4.IsWhole)
  (a5 : Memref sig .tc .vmem S128x128 .bf16) (ha5 : a5.IsWhole)
  (a6 : Memref sig .tc .vmem S128x512 .f32) (ha6 : a6.IsWhole)
  (a7 : Memref sig .tc .vmem S128x512 .f32) (ha7 : a7.IsWhole)
  (a8 : Memref sig .tc .vmem S128x8 .f32) (ha8 : a8.IsWhole)
  (a9 : Memref sig .tc .vmem S128x512 .f32) (ha9 : a9.IsWhole)
  (a10 : Memref sig .tc .vmem S128x128 .f32) (ha10 : a10.IsWhole)
  (a11 : Memref sig .tc .vmem S128x128 .f32) (ha11 : a11.IsWhole)
  (a12 : Memref sig .tc .vmem S1x8 .f32) (ha12 : a12.IsWhole)
  (a13 : Memref sig .tc .vmem S128x128 .f32) (ha13 : a13.IsWhole)
  (a14 : Memref sig .tc .vmem S128x128 .f32) (ha14 : a14.IsWhole)
  (c0 : ¬isStart i)  (c1 : isLive i)  (c2 : ¬isFirst i)  (c3 : isLater i)
  (x0 : Vec F S8 .f32) (x1 : Vec F S128x512 .bf16) (x2 : Vec F S128x128 .bf16) (x3 : Vec F S128x128 .bf16) (x4 : Vec F S128x128 .bf16) (x5 : Vec F S128x128 .bf16) (x6 : Vec F S128x512 .f32) (x7 : Vec F S128x512 .f32) (x8 : Vec F S128x8 .f32) (y12 : Vec F S1x8 .f32) (y13 : Vec F S128x128 .f32) (y14 : Vec F S128x128 .f32) :
    Σ' (L9 : List (View.Piece (Elt F) S128x512 .f32)), Σ' (L10 : List (View.Piece (Elt F) S128x128 .f32)), Σ' (L11 : List (View.Piece (Elt F) S128x128 .f32)), Σ' (L12 : List (View.Piece (Elt F) S1x8 .f32)), Σ' (L13 : List (View.Piece (Elt F) S128x128 .f32)), { L14 : List (View.Piece (Elt F) S128x128 .f32) //
      ∀ (E : Set ℕ) (K : PUnit → Assn F),
        iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ owns (c : Thread nD τ) a8 fullShare x8
          ∗ (∃ d, owns (c : Thread nD τ) a9 fullShare d)
          ∗ (∃ d, owns (c : Thread nD τ) a10 fullShare d)
          ∗ (∃ d, owns (c : Thread nD τ) a11 fullShare d)
          ∗ owns (c : Thread nD τ) a12 fullShare y12
          ∗ owns (c : Thread nD τ) a13 fullShare y13
          ∗ owns (c : Thread nD τ) a14 fullShare y14
          ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ (∃ f, a9.view.loc (c : Thread nD τ) ↦[a9.view.set]{fullShare} a9.view.writes (Elt F) f L9)
            ∗ (∃ f, a10.view.loc (c : Thread nD τ) ↦[a10.view.set]{fullShare} a10.view.writes (Elt F) f L10)
            ∗ (∃ f, a11.view.loc (c : Thread nD τ) ↦[a11.view.set]{fullShare} a11.view.writes (Elt F) f L11)
            ∗ (∃ f, a12.view.loc (c : Thread nD τ) ↦[a12.view.set]{fullShare} a12.view.writes (Elt F) f L12)
            ∗ (∃ f, a13.view.loc (c : Thread nD τ) ↦[a13.view.set]{fullShare} a13.view.writes (Elt F) f L13)
            ∗ (∃ f, a14.view.loc (c : Thread nD τ) ↦[a14.view.set]{fullShare} a14.view.writes (Elt F) f L14)) -∗ K ⟨⟩))
          ⊢ wp frame (wpE (defs₀ (F := F)) Variants.none c none) E (cc1_attn_backward i a0 ha0 a1 ha1 a2 ha2 a3 ha3 a4 ha4 a5 ha5 a6 ha6 a7 ha7 a8 ha8 a9 ha9 a10 ha10 a11 ha11 a12 ha12 a13 ha13 a14 ha14) K } := by
  refine ⟨?_, ?_, ?_, ?_, ?_, ?_, fun E K => ?run⟩
  case run =>
    simp only [cc1_attn_backward_eq_skeleton]; unfold cc1_attn_backward_skel
    simp only [k1_part1_eq_skeleton, k1_part2_eq_skeleton, k1_part3_eq_skeleton, k1_part4_eq_skeleton, k1_part5_eq_skeleton, k1_part6_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, ⟨%d10, %f10, -, H10⟩, ⟨%d11, %f11, -, H11⟩, ⟨%f12, %e12, H12⟩, ⟨%f13, %e13, H13⟩, ⟨%f14, %e14, H14⟩, Hk⟩
    obtain rfl := ha0.eq_unread e0
    obtain rfl := ha1.eq_unread e1
    obtain rfl := ha2.eq_unread e2
    obtain rfl := ha3.eq_unread e3
    obtain rfl := ha4.eq_unread e4
    obtain rfl := ha5.eq_unread e5
    obtain rfl := ha6.eq_unread e6
    obtain rfl := ha7.eq_unread e7
    obtain rfl := ha8.eq_unread e8
    obtain rfl := ha12.eq_unread e12
    obtain rfl := ha13.eq_unread e13
    obtain rfl := ha14.eq_unread e14
    sl_exec (disch := first | sl_exact c0 | sl_exact c1 | sl_exact c2 | sl_exact c3)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    isplitl [H5]
    · iexists _; isplitr; · ipureintro; exact ha5.read_unread _
      iexact H5
    isplitl [H6]
    · iexists _; isplitr; · ipureintro; exact ha6.read_unread _
      iexact H6
    isplitl [H7]
    · iexists _; isplitr; · ipureintro; exact ha7.read_unread _
      iexact H7
    isplitl [H8]
    · iexists _; isplitr; · ipureintro; exact ha8.read_unread _
      iexact H8
    isplitl [H9]
    · iexists _; iexact H9
    isplitl [H10]
    · iexists _; iexact H10
    isplitl [H11]
    · iexists _; iexact H11
    isplitl [H12]
    · iexists _; iexact H12
    isplitl [H13]
    · iexists _; iexact H13
    iexists _; iexact H14

end Cert.AttBackIdeal.Own

end
-- ==== Proof.AttBwdRunD.lean ====
/- What the backward attention kernel leaves at the last point of a batch entry, without a query block. -/
module

public import proofs.«01_k».proof.Proof.Gen.AttBackIdeal.Launch
public import proofs.«01_k».proof.Proof.Gen.AttBackIdeal.Skeleton
public import proofs.«01_k».proof.Proof.Gen.AttBackIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.AttBwdRunC

@[expose] public section

set_option maxRecDepth 16384

noncomputable section

namespace Cert.AttBackIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttBackIdeal.Gen

variable {F : FTy → Type} [FloatOps F]
set_option maxHeartbeats 2000000 in
/-- The backward body at the last point of a batch entry, without a query block: the gradient of `q` not touched: from the nine input
    blocks it ends with the inputs as they were and the listed pieces written. -/
noncomputable def bwdRunD (c : Dev nD) (i : grid1.Coords)
  (a0 : Memref sig .tc .smem S8 .f32) (ha0 : a0.IsWhole)
  (a1 : Memref sig .tc .vmem S128x512 .bf16) (ha1 : a1.IsWhole)
  (a2 : Memref sig .tc .vmem S128x128 .bf16) (ha2 : a2.IsWhole)
  (a3 : Memref sig .tc .vmem S128x128 .bf16) (ha3 : a3.IsWhole)
  (a4 : Memref sig .tc .vmem S128x128 .bf16) (ha4 : a4.IsWhole)
  (a5 : Memref sig .tc .vmem S128x128 .bf16) (ha5 : a5.IsWhole)
  (a6 : Memref sig .tc .vmem S128x512 .f32) (ha6 : a6.IsWhole)
  (a7 : Memref sig .tc .vmem S128x512 .f32) (ha7 : a7.IsWhole)
  (a8 : Memref sig .tc .vmem S128x8 .f32) (ha8 : a8.IsWhole)
  (a9 : Memref sig .tc .vmem S128x512 .f32) (ha9 : a9.IsWhole)
  (a10 : Memref sig .tc .vmem S128x128 .f32) (ha10 : a10.IsWhole)
  (a11 : Memref sig .tc .vmem S128x128 .f32) (ha11 : a11.IsWhole)
  (a12 : Memref sig .tc .vmem S1x8 .f32) (ha12 : a12.IsWhole)
  (a13 : Memref sig .tc .vmem S128x128 .f32) (ha13 : a13.IsWhole)
  (a14 : Memref sig .tc .vmem S128x128 .f32) (ha14 : a14.IsWhole)
  (c0 : ¬isStart i)  (c1 : ¬isLive i)  (c2 : ¬isFirst i)  (c3 : isLater i)
  (x0 : Vec F S8 .f32) (x1 : Vec F S128x512 .bf16) (x2 : Vec F S128x128 .bf16) (x3 : Vec F S128x128 .bf16) (x4 : Vec F S128x128 .bf16) (x5 : Vec F S128x128 .bf16) (x6 : Vec F S128x512 .f32) (x7 : Vec F S128x512 .f32) (x8 : Vec F S128x8 .f32) (y9 : Vec F S128x512 .f32) (y12 : Vec F S1x8 .f32) (y13 : Vec F S128x128 .f32) (y14 : Vec F S128x128 .f32) :
    Σ' (L10 : List (View.Piece (Elt F) S128x128 .f32)), Σ' (L11 : List (View.Piece (Elt F) S128x128 .f32)), Σ' (L12 : List (View.Piece (Elt F) S1x8 .f32)), Σ' (L13 : List (View.Piece (Elt F) S128x128 .f32)), { L14 : List (View.Piece (Elt F) S128x128 .f32) //
      ∀ (E : Set ℕ) (K : PUnit → Assn F),
        iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ owns (c : Thread nD τ) a8 fullShare x8
          ∗ owns (c : Thread nD τ) a9 fullShare y9
          ∗ (∃ d, owns (c : Thread nD τ) a10 fullShare d)
          ∗ (∃ d, owns (c : Thread nD τ) a11 fullShare d)
          ∗ owns (c : Thread nD τ) a12 fullShare y12
          ∗ owns (c : Thread nD τ) a13 fullShare y13
          ∗ owns (c : Thread nD τ) a14 fullShare y14
          ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ owns (c : Thread nD τ) a9 fullShare y9
            ∗ (∃ f, a10.view.loc (c : Thread nD τ) ↦[a10.view.set]{fullShare} a10.view.writes (Elt F) f L10)
            ∗ (∃ f, a11.view.loc (c : Thread nD τ) ↦[a11.view.set]{fullShare} a11.view.writes (Elt F) f L11)
            ∗ (∃ f, a12.view.loc (c : Thread nD τ) ↦[a12.view.set]{fullShare} a12.view.writes (Elt F) f L12)
            ∗ (∃ f, a13.view.loc (c : Thread nD τ) ↦[a13.view.set]{fullShare} a13.view.writes (Elt F) f L13)
            ∗ (∃ f, a14.view.loc (c : Thread nD τ) ↦[a14.view.set]{fullShare} a14.view.writes (Elt F) f L14)) -∗ K ⟨⟩))
          ⊢ wp frame (wpE (defs₀ (F := F)) Variants.none c none) E (cc1_attn_backward i a0 ha0 a1 ha1 a2 ha2 a3 ha3 a4 ha4 a5 ha5 a6 ha6 a7 ha7 a8 ha8 a9 ha9 a10 ha10 a11 ha11 a12 ha12 a13 ha13 a14 ha14) K } := by
  refine ⟨?_, ?_, ?_, ?_, ?_, fun E K => ?run⟩
  case run =>
    simp only [cc1_attn_backward_eq_skeleton]; unfold cc1_attn_backward_skel
    simp only [k1_part1_eq_skeleton, k1_part2_eq_skeleton, k1_part3_eq_skeleton, k1_part4_eq_skeleton, k1_part5_eq_skeleton, k1_part6_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%d11, %f11, -, H11⟩, ⟨%f12, %e12, H12⟩, ⟨%f13, %e13, H13⟩, ⟨%f14, %e14, H14⟩, Hk⟩
    obtain rfl := ha0.eq_unread e0
    obtain rfl := ha1.eq_unread e1
    obtain rfl := ha2.eq_unread e2
    obtain rfl := ha3.eq_unread e3
    obtain rfl := ha4.eq_unread e4
    obtain rfl := ha5.eq_unread e5
    obtain rfl := ha6.eq_unread e6
    obtain rfl := ha7.eq_unread e7
    obtain rfl := ha8.eq_unread e8
    obtain rfl := ha9.eq_unread e9
    obtain rfl := ha12.eq_unread e12
    obtain rfl := ha13.eq_unread e13
    obtain rfl := ha14.eq_unread e14
    sl_exec (disch := first | sl_exact c0 | sl_exact c1 | sl_exact c2 | sl_exact c3)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    isplitl [H5]
    · iexists _; isplitr; · ipureintro; exact ha5.read_unread _
      iexact H5
    isplitl [H6]
    · iexists _; isplitr; · ipureintro; exact ha6.read_unread _
      iexact H6
    isplitl [H7]
    · iexists _; isplitr; · ipureintro; exact ha7.read_unread _
      iexact H7
    isplitl [H8]
    · iexists _; isplitr; · ipureintro; exact ha8.read_unread _
      iexact H8
    isplitl [H9]
    · iexists _; isplitr; · ipureintro; exact ha9.read_unread _
      iexact H9
    isplitl [H10]
    · iexists _; iexact H10
    isplitl [H11]
    · iexists _; iexact H11
    isplitl [H12]
    · iexists _; iexact H12
    isplitl [H13]
    · iexists _; iexact H13
    iexists _; iexact H14

end Cert.AttBackIdeal.Own

end
-- ==== Proof.AttBwdDat.lean ====
/- The proof data of the backward attention call: what its buffers hold after each grid point, and its body obligation. -/
module

public import proofs.«01_k».proof.Proof.Gen.AttBackIdeal.Launch
public import proofs.«01_k».proof.Proof.Gen.AttBackIdeal.Skeleton
public import proofs.«01_k».proof.Proof.Gen.AttBackIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.AttFwdDat
public import proofs.«01_k».proof.Proof.AttBwdRunD
public import Idealize.ShloMosaic.Lib.Pipeline.Value

@[expose] public section

set_option maxRecDepth 16384

noncomputable section

namespace Cert.AttBackIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttBackIdeal.Gen

variable {F : FTy → Type} [FloatOps F]

theorem off2 : (![0, 0] : Fin 2 → Nat) = fun _ => 0 := funext fun a => by fin_cases a <;> rfl

theorem leaves_eq {cfg : Cfg sig Λ₀} {c : Dev nD} (dat : Dat τ (Elt F) Unit ℕ (UR sig nD τ) ℕ cfg c) (w : Fin cfg.W) (t : Fin cfg.N)
    (h : cfg.idle w (cfg.grid.coords t) = false ∨ (cfg.win w).flush t = true) :
    dat.leavesExact w t = owns c ((cfg.win w).stage (cfg.slots t w)) fullShare (dat.after w t) := by
  unfold Dat.leavesExact
  rcases h with h | h
  · rw [h]
  · cases cfg.idle w (cfg.grid.coords t)
    · rfl
    · rw [h]

/-! ## The grid's 34 points -/

theorem start_iff : ∀ t : Fin cfg1.N, isStart (grid1.coords t) ↔ t.val % 17 = 0 :=
  (by decide +kernel : ∀ t : Fin grid1.N, isStart (grid1.coords t) ↔ t.val % 17 = 0)
theorem live_iff : ∀ t : Fin cfg1.N, isLive (grid1.coords t) ↔ t.val % 17 ≠ 16 :=
  (by decide +kernel : ∀ t : Fin grid1.N, isLive (grid1.coords t) ↔ t.val % 17 ≠ 16)
theorem first_iff : ∀ t : Fin cfg1.N, isFirst (grid1.coords t) ↔ t.val = 0 :=
  (by decide +kernel : ∀ t : Fin grid1.N, isFirst (grid1.coords t) ↔ t.val = 0)
theorem later_iff : ∀ t : Fin cfg1.N, isLater (grid1.coords t) ↔ t.val ≠ 0 :=
  (by decide +kernel : ∀ t : Fin grid1.N, isLater (grid1.coords t) ↔ t.val ≠ 0)
/-- The block of the gradient of `q` is written back at the last point of a batch entry or stored at the point. -/
theorem leave9 : ∀ t : Fin cfg1.N, cfg1.idle 9 (cfg1.grid.coords t) = false ∨ (cfg1.win 9).flush t = true :=
  (by decide +kernel : ∀ t : Fin grid1.N, idle1 9 (grid1.coords t) = false ∨ win1_9.flush t = true)
theorem stored12 : ∀ t : Fin cfg1.N, cfg1.idle 12 (cfg1.grid.coords t) = false :=
  (by decide +kernel : ∀ t : Fin grid1.N, idle1 12 (grid1.coords t) = false)
/-- At the last point with a query block, that block of the gradient stays in its buffer. -/
theorem stay9 : ∀ t : Fin cfg1.N, t.val % 17 = 15 → (cfg1.win 9).flush t = false ∧ cfg1.idle 9 (cfg1.grid.coords t) = false :=
  (by decide +kernel : ∀ t : Fin grid1.N, t.val % 17 = 15 → win1_9.flush t = false ∧ idle1 9 (grid1.coords t) = false)

-- the core's buffers when the call is entered
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two blocks carried from point to point. -/
abbrev sc0 : Memref sig .tc .vmem S128x128 .f32 := Memref.whole cc1_scratch0
abbrev sc1 : Memref sig .tc .vmem S128x128 .f32 := Memref.whole cc1_scratch1

/-- What the output buffers and the carried blocks hold after a point. -/
structure St (F : FTy → Type) where
  dq : Vec F S128x512 .f32
  dk : Vec F S128x128 .f32
  dv : Vec F S128x128 .f32
  ds : Vec F S1x8 .f32
  kc : Vec F S128x128 .f32
  vc : Vec F S128x128 .f32

/-- A list of stores covers its buffer. -/
abbrev Covers {S : Shape} {e : EltTy} (L : List (View.Piece (Elt F) S e)) : Prop := ∀ y : S.Idx, ∃ p ∈ L, y ∈ p.1.set

theorem covers_head {S : Shape} {e : EltTy} {off : Fin S.rank → ℕ} (h : off = fun _ => 0) {inb : ∀ a, off a + S.size a ≤ S.size a}
    {x : S.Idx → Elt F e} {L : List (View.Piece (Elt F) S e)} : Covers (⟨Rect.unit off S.size inb, x⟩ :: L) :=
  fun y => ⟨_, List.mem_cons_self, View.mem_set_unit_zero h inb y⟩

variable (c : Dev nD) (t : Fin cfg1.N)

/-- The run at a point of kind A. -/
def bwdAtA (c : Dev nD) (t : Fin cfg1.N) (h : t.val = 0) :=
  bwdRunA (F := F) c (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_7.stage (cfg1.slots t 7)) (hstage1_7 ((cfg1.slots t 7).cast nbuf1_7))
    (win1_8.stage (cfg1.slots t 8)) (hstage1_8 ((cfg1.slots t 8).cast nbuf1_8))
    (win1_9.stage (cfg1.slots t 9)) (hstage1_9 ((cfg1.slots t 9).cast nbuf1_9))
    (win1_10.stage (cfg1.slots t 10)) (hstage1_10 ((cfg1.slots t 10).cast nbuf1_10))
    (win1_11.stage (cfg1.slots t 11)) (hstage1_11 ((cfg1.slots t 11).cast nbuf1_11))
    (win1_12.stage (cfg1.slots t 12)) (hstage1_12 ((cfg1.slots t 12).cast nbuf1_12))
    sc0 (Memref.isWhole_whole _) sc1 (Memref.isWhole_whole _)
    ((start_iff t).mpr (by omega)) ((live_iff t).mpr (by omega)) ((first_iff t).mpr h) (fun e => (later_iff t).mp e h)
    (iblk1 V c 0 t) (iblk1 V c 1 t) (iblk1 V c 2 t) (iblk1 V c 3 t) (iblk1 V c 4 t) (iblk1 V c 5 t) (iblk1 V c 6 t) (iblk1 V c 7 t) (iblk1 V c 8 t)

/-- The run at a point of kind B, from what the point before left. -/
def bwdAtB (c : Dev nD) (t : Fin cfg1.N) (h : t.val % 17 = 0) (h' : t.val ≠ 0) (s : St F) :=
  bwdRunB (F := F) c (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_7.stage (cfg1.slots t 7)) (hstage1_7 ((cfg1.slots t 7).cast nbuf1_7))
    (win1_8.stage (cfg1.slots t 8)) (hstage1_8 ((cfg1.slots t 8).cast nbuf1_8))
    (win1_9.stage (cfg1.slots t 9)) (hstage1_9 ((cfg1.slots t 9).cast nbuf1_9))
    (win1_10.stage (cfg1.slots t 10)) (hstage1_10 ((cfg1.slots t 10).cast nbuf1_10))
    (win1_11.stage (cfg1.slots t 11)) (hstage1_11 ((cfg1.slots t 11).cast nbuf1_11))
    (win1_12.stage (cfg1.slots t 12)) (hstage1_12 ((cfg1.slots t 12).cast nbuf1_12))
    sc0 (Memref.isWhole_whole _) sc1 (Memref.isWhole_whole _)
    ((start_iff t).mpr h) ((live_iff t).mpr (by omega)) (fun e => h' ((first_iff t).mp e)) ((later_iff t).mpr h')
    (iblk1 V c 0 t) (iblk1 V c 1 t) (iblk1 V c 2 t) (iblk1 V c 3 t) (iblk1 V c 4 t) (iblk1 V c 5 t) (iblk1 V c 6 t) (iblk1 V c 7 t) (iblk1 V c 8 t) s.ds

/-- The run at a point of kind C, from what the point before left. -/
def bwdAtC (c : Dev nD) (t : Fin cfg1.N) (h : t.val % 17 ≠ 0) (h' : t.val % 17 ≠ 16) (s : St F) :=
  bwdRunC (F := F) c (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_7.stage (cfg1.slots t 7)) (hstage1_7 ((cfg1.slots t 7).cast nbuf1_7))
    (win1_8.stage (cfg1.slots t 8)) (hstage1_8 ((cfg1.slots t 8).cast nbuf1_8))
    (win1_9.stage (cfg1.slots t 9)) (hstage1_9 ((cfg1.slots t 9).cast nbuf1_9))
    (win1_10.stage (cfg1.slots t 10)) (hstage1_10 ((cfg1.slots t 10).cast nbuf1_10))
    (win1_11.stage (cfg1.slots t 11)) (hstage1_11 ((cfg1.slots t 11).cast nbuf1_11))
    (win1_12.stage (cfg1.slots t 12)) (hstage1_12 ((cfg1.slots t 12).cast nbuf1_12))
    sc0 (Memref.isWhole_whole _) sc1 (Memref.isWhole_whole _)
    (fun e => h ((start_iff t).mp e)) ((live_iff t).mpr h') (fun e => h (by have := (first_iff t).mp e; omega)) ((later_iff t).mpr (by omega))
    (iblk1 V c 0 t) (iblk1 V c 1 t) (iblk1 V c 2 t) (iblk1 V c 3 t) (iblk1 V c 4 t) (iblk1 V c 5 t) (iblk1 V c 6 t) (iblk1 V c 7 t) (iblk1 V c 8 t) s.ds s.kc s.vc

/-- The run at a point of kind D, from what the point before left. -/
def bwdAtD (c : Dev nD) (t : Fin cfg1.N) (h : t.val % 17 = 16) (s : St F) :=
  bwdRunD (F := F) c (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_7.stage (cfg1.slots t 7)) (hstage1_7 ((cfg1.slots t 7).cast nbuf1_7))
    (win1_8.stage (cfg1.slots t 8)) (hstage1_8 ((cfg1.slots t 8).cast nbuf1_8))
    (win1_9.stage (cfg1.slots t 9)) (hstage1_9 ((cfg1.slots t 9).cast nbuf1_9))
    (win1_10.stage (cfg1.slots t 10)) (hstage1_10 ((cfg1.slots t 10).cast nbuf1_10))
    (win1_11.stage (cfg1.slots t 11)) (hstage1_11 ((cfg1.slots t 11).cast nbuf1_11))
    (win1_12.stage (cfg1.slots t 12)) (hstage1_12 ((cfg1.slots t 12).cast nbuf1_12))
    sc0 (Memref.isWhole_whole _) sc1 (Memref.isWhole_whole _)
    (fun e => by have := (start_iff t).mp e; omega) (fun e => (live_iff t).mp e h) (fun e => by have := (first_iff t).mp e; omega) ((later_iff t).mpr (by omega))
    (iblk1 V c 0 t) (iblk1 V c 1 t) (iblk1 V c 2 t) (iblk1 V c 3 t) (iblk1 V c 4 t) (iblk1 V c 5 t) (iblk1 V c 6 t) (iblk1 V c 7 t) (iblk1 V c 8 t) s.dq s.ds s.kc s.vc

section
variable (h : t.val = 0)
theorem covA_dq : Covers (bwdAtA V c t h).1 := View.cover_of_tiledL _ S128x64.size (by sl_kernel_rfl)
theorem covA_dk : Covers (bwdAtA V c t h).2.1 := covers_head off2
theorem covA_dv : Covers (bwdAtA V c t h).2.2.1 := covers_head off2
theorem covA_ds : Covers (bwdAtA V c t h).2.2.2.1 := covers_head off2
theorem covA_kc : Covers (bwdAtA V c t h).2.2.2.2.1 := covers_head off2
theorem covA_vc : Covers (bwdAtA V c t h).2.2.2.2.2.1 := covers_head off2
end
/-- What a point of kind A leaves. -/
def stepA (c : Dev nD) (t : Fin cfg1.N) (h : t.val = 0) : St F :=
  ⟨View.canon (bwdAtA V c t h).1, View.canon (bwdAtA V c t h).2.1, View.canon (bwdAtA V c t h).2.2.1, View.canon (bwdAtA V c t h).2.2.2.1, View.canon (bwdAtA V c t h).2.2.2.2.1, View.canon (bwdAtA V c t h).2.2.2.2.2.1⟩

section
variable (h : t.val % 17 = 0) (h' : t.val ≠ 0) (s : St F)
theorem covB_dq : Covers (bwdAtB V c t h h' s).1 := View.cover_of_tiledL _ S128x64.size (by sl_kernel_rfl)
theorem covB_dk : Covers (bwdAtB V c t h h' s).2.1 := covers_head off2
theorem covB_dv : Covers (bwdAtB V c t h h' s).2.2.1 := covers_head off2
theorem covB_ds : Covers (bwdAtB V c t h h' s).2.2.2.1 := covers_head off2
theorem covB_kc : Covers (bwdAtB V c t h h' s).2.2.2.2.1 := covers_head off2
theorem covB_vc : Covers (bwdAtB V c t h h' s).2.2.2.2.2.1 := covers_head off2
end
/-- What a point of kind B leaves. -/
def stepB (c : Dev nD) (t : Fin cfg1.N) (h : t.val % 17 = 0) (h' : t.val ≠ 0) (s : St F) : St F :=
  ⟨View.canon (bwdAtB V c t h h' s).1, View.canon (bwdAtB V c t h h' s).2.1, View.canon (bwdAtB V c t h h' s).2.2.1, View.canon (bwdAtB V c t h h' s).2.2.2.1, View.canon (bwdAtB V c t h h' s).2.2.2.2.1, View.canon (bwdAtB V c t h h' s).2.2.2.2.2.1⟩

section
variable (h : t.val % 17 ≠ 0) (h' : t.val % 17 ≠ 16) (s : St F)
theorem covC_dq : Covers (bwdAtC V c t h h' s).1 := View.cover_of_tiledL _ S128x64.size (by sl_kernel_rfl)
theorem covC_dk : Covers (bwdAtC V c t h h' s).2.1 := covers_head off2
theorem covC_dv : Covers (bwdAtC V c t h h' s).2.2.1 := covers_head off2
theorem covC_ds : Covers (bwdAtC V c t h h' s).2.2.2.1 := covers_head off2
theorem covC_kc : Covers (bwdAtC V c t h h' s).2.2.2.2.1 := covers_head off2
theorem covC_vc : Covers (bwdAtC V c t h h' s).2.2.2.2.2.1 := covers_head off2
end
/-- What a point of kind C leaves. -/
def stepC (c : Dev nD) (t : Fin cfg1.N) (h : t.val % 17 ≠ 0) (h' : t.val % 17 ≠ 16) (s : St F) : St F :=
  ⟨View.canon (bwdAtC V c t h h' s).1, View.canon (bwdAtC V c t h h' s).2.1, View.canon (bwdAtC V c t h h' s).2.2.1, View.canon (bwdAtC V c t h h' s).2.2.2.1, View.canon (bwdAtC V c t h h' s).2.2.2.2.1, View.canon (bwdAtC V c t h h' s).2.2.2.2.2.1⟩

section
variable (h : t.val % 17 = 16) (s : St F)
theorem covD_dk : Covers (bwdAtD V c t h s).1 := covers_head off2
theorem covD_dv : Covers (bwdAtD V c t h s).2.1 := covers_head off2
theorem covD_ds : Covers (bwdAtD V c t h s).2.2.1 := covers_head off2
theorem covD_kc : Covers (bwdAtD V c t h s).2.2.2.1 := covers_head off2
theorem covD_vc : Covers (bwdAtD V c t h s).2.2.2.2.1 := covers_head off2
end
/-- What a point of kind D leaves. -/
def stepD (c : Dev nD) (t : Fin cfg1.N) (h : t.val % 17 = 16) (s : St F) : St F :=
  ⟨s.dq, View.canon (bwdAtD V c t h s).1, View.canon (bwdAtD V c t h s).2.1, View.canon (bwdAtD V c t h s).2.2.1, View.canon (bwdAtD V c t h s).2.2.2.1, View.canon (bwdAtD V c t h s).2.2.2.2.1⟩

/-- What the buffers hold after point `n`: the points taken in order, each from what the one before left. -/
def st (c : Dev nD) : (n : ℕ) → n < cfg1.N → St F
  | 0, hn => stepA V c ⟨0, hn⟩ rfl
  | n + 1, hn =>
    if hB : (n + 1) % 17 = 0 then stepB V c ⟨n + 1, hn⟩ hB (Nat.succ_ne_zero n) (st c n (Nat.lt_of_succ_lt hn))
    else if hD : (n + 1) % 17 = 16 then stepD V c ⟨n + 1, hn⟩ hD (st c n (Nat.lt_of_succ_lt hn))
    else stepC V c ⟨n + 1, hn⟩ hB hD (st c n (Nat.lt_of_succ_lt hn))

/-- What the buffers hold after the point before `t`. -/
abbrev stPrev (c : Dev nD) (t : Fin cfg1.N) : St F := st V c (t.val - 1) (Nat.lt_of_le_of_lt (Nat.sub_le _ _) t.isLt)

theorem st_A (h : t.val = 0) : st V c t.val t.isLt = stepA V c t h := by
  obtain ⟨n, hn⟩ := t; cases n with
  | zero => rfl
  | succ n => exact absurd h (Nat.succ_ne_zero n)
theorem st_B (h : t.val % 17 = 0) (h' : t.val ≠ 0) : st V c t.val t.isLt = stepB V c t h h' (stPrev V c t) := by
  obtain ⟨n, hn⟩ := t; cases n with
  | zero => exact absurd rfl h'
  | succ n => exact dif_pos h
theorem st_C (h : t.val % 17 ≠ 0) (h' : t.val % 17 ≠ 16) : st V c t.val t.isLt = stepC V c t h h' (stPrev V c t) := by
  obtain ⟨n, hn⟩ := t; cases n with
  | zero => exact absurd (Nat.zero_mod _) h
  | succ n => exact (dif_neg h).trans (dif_neg h')
theorem st_D (h : t.val % 17 = 16) : st V c t.val t.isLt = stepD V c t h (stPrev V c t) := by
  obtain ⟨n, hn⟩ := t; cases n with
  | zero => exact absurd ((Nat.zero_mod 17).symm.trans h) (by decide)
  | succ n => exact (dif_neg (by dsimp only at h; omega)).trans (dif_pos h)

/-! ## The invariant between points: the carried blocks -/

/-- The core's other scoped buffers at any contents, and its generator register. -/
def restAt (c : Dev nD) : Assn F :=
  iprop((∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_stg0_0), ((c : Thread nD τ).loc cc0_stg0_0) ↦{fullShare} f)
    ∗ (∃ r, prngReg c r))

theorem phi_split (c : Dev nD) :
    (Pipeline.ΦA spec1 c : Assn F) ⊢ iprop((∃ d, owns (c : Thread nD τ) sc0 fullShare d) ∗ (∃ d, owns (c : Thread nD τ) sc1 fullShare d) ∗ restAt c) := by
  unfold Pipeline.ΦA restAt; rw [scopedRest1_eq]; simp only [sc0, sc1, owns_whole]
  iintro ⟨⟨R0, R1, R2, R3, R4, R5, R6, R7, R8, R9, R10, R11, R12, R13, S0, S1, R14⟩, Hg⟩
  iframe S0 S1 R0 R1 R2 R3 R4 R5 R6 R7 R8 R9 R10 R11 R12 R13 R14
  iexact Hg

theorem phi_join (c : Dev nD) :
    (iprop((∃ d, owns (c : Thread nD τ) sc0 fullShare d) ∗ (∃ d, owns (c : Thread nD τ) sc1 fullShare d) ∗ restAt c) : Assn F) ⊢ Pipeline.ΦA spec1 c := by
  unfold Pipeline.ΦA restAt; rw [scopedRest1_eq]; simp only [sc0, sc1, owns_whole]
  iintro ⟨S0, S1, R0, R1, R2, R3, R4, R5, R6, R7, R8, R9, R10, R11, R12, R13, R14, Hg⟩
  isplitr [Hg]
  · iframe R0 R1 R2 R3 R4 R5 R6 R7 R8 R9 R10 R11 R12 R13 S0 S1
    iexact R14
  iexact Hg

/-- Before the first point the carried blocks hold anything, later what the point before left. -/
def carried (c : Dev nD) : (n : ℕ) → n ≤ cfg1.N → Assn F
  | 0, _ => Pipeline.ΦA spec1 c
  | n + 1, hn => iprop(owns (c : Thread nD τ) sc0 fullShare (st V c n hn).kc ∗ owns (c : Thread nD τ) sc1 fullShare (st V c n hn).vc ∗ restAt c)

theorem carried_pos (h : t.val ≠ 0) : carried V c t.val (Nat.le_of_lt t.isLt)
    = iprop(owns (c : Thread nD τ) sc0 fullShare (stPrev V c t).kc ∗ owns (c : Thread nD τ) sc1 fullShare (stPrev V c t).vc ∗ restAt c) := by
  obtain ⟨n, hn⟩ := t; cases n with
  | zero => exact absurd rfl h
  | succ n => rfl

/-- Before any point the carried blocks hold something. -/
theorem carried_any (c : Dev nD) (n : ℕ) (h : n ≤ cfg1.N) : carried V c n h ⊢ Pipeline.ΦA spec1 c := by
  cases n with
  | zero => exact .rfl
  | succ n =>
    refine BIBase.Entails.trans ?_ (phi_join c)
    unfold carried
    iintro ⟨H0, H1, H⟩
    isplitl [H0]; · iexists _; iexact H0
    isplitl [H1]; · iexists _; iexact H1
    iexact H

/-- The proof data of the backward call: the inputs stay at their blocks, the outputs hold what the points so far leave, and
    nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (st V c t.val t.isLt).dq
    | ⟨10, _⟩ => (st V c t.val t.isLt).dk
    | ⟨11, _⟩ => (st V c t.val t.isLt).dv
    | ⟨12, _⟩ => (st V c t.val t.isLt).ds
  Φ t := carried V c t.val (Nat.le_of_lt_succ t.isLt)
  q w := Pipeline.shareOf spec1 w
  owed _ := 0

theorem A_eq1 (c : Dev nD) (w : Fin cfg1.W) : (dat1 V c).A w = V c (Pipeline.arrRef spec1 w) := by
  dsimp only [dat1]

/-! What each input window's buffer holds after and before the body at a point: its block. -/

theorem after1_0 : (dat1 V c).after 0 t = iblk1 V c 0 t := by dsimp only [dat1]
theorem after1_1 : (dat1 V c).after 1 t = iblk1 V c 1 t := by dsimp only [dat1]
theorem after1_2 : (dat1 V c).after 2 t = iblk1 V c 2 t := by dsimp only [dat1]
theorem after1_3 : (dat1 V c).after 3 t = iblk1 V c 3 t := by dsimp only [dat1]
theorem after1_4 : (dat1 V c).after 4 t = iblk1 V c 4 t := by dsimp only [dat1]
theorem after1_5 : (dat1 V c).after 5 t = iblk1 V c 5 t := by dsimp only [dat1]
theorem after1_6 : (dat1 V c).after 6 t = iblk1 V c 6 t := by dsimp only [dat1]
theorem after1_7 : (dat1 V c).after 7 t = iblk1 V c 7 t := by dsimp only [dat1]
theorem after1_8 : (dat1 V c).after 8 t = iblk1 V c 8 t := by dsimp only [dat1]
theorem before1_0 (d) : (dat1 V c).before 0 t d = iblk1 V c 0 t :=
  (((dat1 V c)).before_in_eq_fetched 0 rfl (fun _ => rfl) (fun _ _ _ => rfl)
    (fun t => by rw [after1_0]; unfold Dat.blockOf iblk1; rw [A_eq1]) t d).trans (by unfold Dat.fetched Dat.blockOf iblk1; rw [A_eq1]; try rfl)
theorem before1_1 (d) : (dat1 V c).before 1 t d = iblk1 V c 1 t :=
  (((dat1 V c)).before_in_eq_fetched 1 rfl (fun _ => rfl) (fun _ _ _ => rfl)
    (fun t => by rw [after1_1]; unfold Dat.blockOf iblk1; rw [A_eq1]) t d).trans (by unfold Dat.fetched Dat.blockOf iblk1; rw [A_eq1]; try rfl)
theorem before1_2 (d) : (dat1 V c).before 2 t d = iblk1 V c 2 t :=
  (((dat1 V c)).before_in_eq_fetched 2 rfl (fun _ => rfl) (fun _ _ _ => rfl)
    (fun t => by rw [after1_2]; unfold Dat.blockOf iblk1; rw [A_eq1]) t d).trans (by unfold Dat.fetched Dat.blockOf iblk1; rw [A_eq1]; try rfl)
theorem before1_3 (d) : (dat1 V c).before 3 t d = iblk1 V c 3 t :=
  (((dat1 V c)).before_in_eq_fetched 3 rfl (fun _ => rfl) (fun _ _ _ => rfl)
    (fun t => by rw [after1_3]; unfold Dat.blockOf iblk1; rw [A_eq1]) t d).trans (by unfold Dat.fetched Dat.blockOf iblk1; rw [A_eq1]; try rfl)
theorem before1_4 (d) : (dat1 V c).before 4 t d = iblk1 V c 4 t :=
  (((dat1 V c)).before_in_eq_fetched 4 rfl (fun _ => rfl) (fun _ _ _ => rfl)
    (fun t => by rw [after1_4]; unfold Dat.blockOf iblk1; rw [A_eq1]) t d).trans (by unfold Dat.fetched Dat.blockOf iblk1; rw [A_eq1]; try rfl)
theorem before1_5 (d) : (dat1 V c).before 5 t d = iblk1 V c 5 t :=
  (((dat1 V c)).before_in_eq_fetched 5 rfl (fun _ => rfl) (fun _ _ _ => rfl)
    (fun t => by rw [after1_5]; unfold Dat.blockOf iblk1; rw [A_eq1]) t d).trans (by unfold Dat.fetched Dat.blockOf iblk1; rw [A_eq1]; try rfl)
theorem before1_6 (d) : (dat1 V c).before 6 t d = iblk1 V c 6 t :=
  (((dat1 V c)).before_in_eq_fetched 6 rfl (fun _ => rfl) (fun _ _ _ => rfl)
    (fun t => by rw [after1_6]; unfold Dat.blockOf iblk1; rw [A_eq1]) t d).trans (by unfold Dat.fetched Dat.blockOf iblk1; rw [A_eq1]; try rfl)
theorem before1_7 (d) : (dat1 V c).before 7 t d = iblk1 V c 7 t :=
  (((dat1 V c)).before_in_eq_fetched 7 rfl (fun _ => rfl) (fun _ _ _ => rfl)
    (fun t => by rw [after1_7]; unfold Dat.blockOf iblk1; rw [A_eq1]) t d).trans (by unfold Dat.fetched Dat.blockOf iblk1; rw [A_eq1]; try rfl)
theorem before1_8 (d) : (dat1 V c).before 8 t d = iblk1 V c 8 t :=
  (((dat1 V c)).before_in_eq_fetched 8 rfl (fun _ => rfl) (fun _ _ _ => rfl)
    (fun t => by rw [after1_8]; unfold Dat.blockOf iblk1; rw [A_eq1]) t d).trans (by unfold Dat.fetched Dat.blockOf iblk1; rw [A_eq1]; try rfl)
theorem after1_9 : (dat1 V c).after 9 t = (st V c t.val t.isLt).dq := by dsimp only [dat1]
theorem after1_10 : (dat1 V c).after 10 t = (st V c t.val t.isLt).dk := by dsimp only [dat1]
theorem after1_11 : (dat1 V c).after 11 t = (st V c t.val t.isLt).dv := by dsimp only [dat1]
theorem after1_12 : (dat1 V c).after 12 t = (st V c t.val t.isLt).ds := by dsimp only [dat1]

theorem phi_castSucc : (dat1 V c).Φ t.castSucc = carried V c t.val (Nat.le_of_lt t.isLt) := by
  dsimp only [dat1]; exact Pipeline.Dat.Φ_castSucc (carried V c) t
theorem phi_succ : (dat1 V c).Φ t.succ
    = iprop(owns (c : Thread nD τ) sc0 fullShare (st V c t.val t.isLt).kc ∗ owns (c : Thread nD τ) sc1 fullShare (st V c t.val t.isLt).vc ∗ restAt c) := by
  dsimp only [dat1]; rfl

/-- The sink gradient's buffer is not written back before the last point. -/
theorem before1_12 (h : t.val ≠ 0) (d) : (dat1 V c).before 12 t d = (stPrev V c t).ds := by
  have hN : t.val < 34 := lt_of_lt_of_eq t.isLt (show cfg1.N = 34 from N_1)
  rw [before_kept (dat1 V c) 12 rfl t h (Bool.eq_false_iff.mpr fun e => by have := (flush1_12 _).mp e; dsimp only at this; omega)
    (stored12 _) (fun _ _ => rfl), after1_12]
/-- At the last point of a batch entry the buffer of the gradient of `q` holds what the point before stored. -/
theorem before1_9 (h : t.val % 17 = 16) (d) : (dat1 V c).before 9 t d = (stPrev V c t).dq := by
  have e := stay9 ⟨t.val - 1, Nat.lt_of_le_of_lt (Nat.sub_le _ _) t.isLt⟩ (by dsimp only; omega)
  rw [before_kept (dat1 V c) 9 rfl t (by omega) e.1 e.2 (fun _ _ => rfl), after1_9]

/-- What the body is called with at point `t`. -/
def pre1 (c : Dev nD) (t : Fin cfg1.N) : Assn F :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ d, owns (c : Thread nD τ) (win1_6.stage (cfg1.slots t 6)) fullShare ((dat1 V c).before 6 t d))
    ∗ (∃ d, owns (c : Thread nD τ) (win1_7.stage (cfg1.slots t 7)) fullShare ((dat1 V c).before 7 t d))
    ∗ (∃ d, owns (c : Thread nD τ) (win1_8.stage (cfg1.slots t 8)) fullShare ((dat1 V c).before 8 t d))
    ∗ (∃ d, owns (c : Thread nD τ) (win1_9.stage (cfg1.slots t 9)) fullShare ((dat1 V c).before 9 t d))
    ∗ (∃ d, owns (c : Thread nD τ) (win1_10.stage (cfg1.slots t 10)) fullShare ((dat1 V c).before 10 t d))
    ∗ (∃ d, owns (c : Thread nD τ) (win1_11.stage (cfg1.slots t 11)) fullShare ((dat1 V c).before 11 t d))
    ∗ (∃ d, owns (c : Thread nD τ) (win1_12.stage (cfg1.slots t 12)) fullShare ((dat1 V c).before 12 t d)))

/-- What the body hands back at point `t`. -/
def post1 (c : Dev nD) (t : Fin cfg1.N) : Assn F :=
  iprop((dat1 V c).Φ t.succ ∗ (dat1 V c).owesAt () t.succ
    ∗ owns (c : Thread nD τ) (win1_0.stage (cfg1.slots t 0)) fullShare ((dat1 V c).after 0 t)
    ∗ owns (c : Thread nD τ) (win1_1.stage (cfg1.slots t 1)) fullShare ((dat1 V c).after 1 t)
    ∗ owns (c : Thread nD τ) (win1_2.stage (cfg1.slots t 2)) fullShare ((dat1 V c).after 2 t)
    ∗ owns (c : Thread nD τ) (win1_3.stage (cfg1.slots t 3)) fullShare ((dat1 V c).after 3 t)
    ∗ owns (c : Thread nD τ) (win1_4.stage (cfg1.slots t 4)) fullShare ((dat1 V c).after 4 t)
    ∗ owns (c : Thread nD τ) (win1_5.stage (cfg1.slots t 5)) fullShare ((dat1 V c).after 5 t)
    ∗ owns (c : Thread nD τ) (win1_6.stage (cfg1.slots t 6)) fullShare ((dat1 V c).after 6 t)
    ∗ owns (c : Thread nD τ) (win1_7.stage (cfg1.slots t 7)) fullShare ((dat1 V c).after 7 t)
    ∗ owns (c : Thread nD τ) (win1_8.stage (cfg1.slots t 8)) fullShare ((dat1 V c).after 8 t)
    ∗ (dat1 V c).leavesExact 9 t
    ∗ owns (c : Thread nD τ) (win1_10.stage (cfg1.slots t 10)) fullShare ((dat1 V c).after 10 t)
    ∗ owns (c : Thread nD τ) (win1_11.stage (cfg1.slots t 11)) fullShare ((dat1 V c).after 11 t)
    ∗ (dat1 V c).leavesExact 12 t)

/-- The blocks of a point's inputs. -/
def insAt (c : Dev nD) (t : Fin cfg1.N) : Assn F :=
  iprop(owns (c : Thread nD τ) (win1_0.stage (cfg1.slots t 0)) fullShare (iblk1 V c 0 t)
    ∗ owns (c : Thread nD τ) (win1_1.stage (cfg1.slots t 1)) fullShare (iblk1 V c 1 t)
    ∗ owns (c : Thread nD τ) (win1_2.stage (cfg1.slots t 2)) fullShare (iblk1 V c 2 t)
    ∗ owns (c : Thread nD τ) (win1_3.stage (cfg1.slots t 3)) fullShare (iblk1 V c 3 t)
    ∗ owns (c : Thread nD τ) (win1_4.stage (cfg1.slots t 4)) fullShare (iblk1 V c 4 t)
    ∗ owns (c : Thread nD τ) (win1_5.stage (cfg1.slots t 5)) fullShare (iblk1 V c 5 t)
    ∗ owns (c : Thread nD τ) (win1_6.stage (cfg1.slots t 6)) fullShare (iblk1 V c 6 t)
    ∗ owns (c : Thread nD τ) (win1_7.stage (cfg1.slots t 7)) fullShare (iblk1 V c 7 t)
    ∗ owns (c : Thread nD τ) (win1_8.stage (cfg1.slots t 8)) fullShare (iblk1 V c 8 t))
/-- What a point leaves in its outputs and the carried blocks. -/
def leftAt (c : Dev nD) (t : Fin cfg1.N) (s : St F) : Assn F :=
  iprop(owns (c : Thread nD τ) (win1_9.stage (cfg1.slots t 9)) fullShare s.dq
    ∗ owns (c : Thread nD τ) (win1_10.stage (cfg1.slots t 10)) fullShare s.dk
    ∗ owns (c : Thread nD τ) (win1_11.stage (cfg1.slots t 11)) fullShare s.dv
    ∗ owns (c : Thread nD τ) (win1_12.stage (cfg1.slots t 12)) fullShare s.ds
    ∗ owns (c : Thread nD τ) (sc0) fullShare s.kc
    ∗ owns (c : Thread nD τ) (sc1) fullShare s.vc)

set_option maxHeartbeats 800000 in
/-- The body at a point of kind A. -/
theorem tripleA (h : t.val = 0) (K : PUnit → Assn F) :
    iprop(insAt V c t ∗ (∃ d, owns (c : Thread nD τ) (win1_9.stage (cfg1.slots t 9)) fullShare d) ∗ (∃ d, owns (c : Thread nD τ) (win1_10.stage (cfg1.slots t 10)) fullShare d) ∗ (∃ d, owns (c : Thread nD τ) (win1_11.stage (cfg1.slots t 11)) fullShare d) ∗ (∃ d, owns (c : Thread nD τ) (win1_12.stage (cfg1.slots t 12)) fullShare d) ∗ (∃ d, owns (c : Thread nD τ) (sc0) fullShare d) ∗ (∃ d, owns (c : Thread nD τ) (sc1) fullShare d)
        ∗ (iprop(insAt V c t ∗ leftAt c t (stepA V c t h)) -∗ K ⟨⟩))
      ⊢ wp frame (wpE (defs₀ (F := F)) Variants.none c none) Set.univ (bodyAt1 t) K := by
  unfold insAt leftAt stepA bodyAt1; dsimp only
  iintro ⟨⟨H0, H1, H2, H3, H4, H5, H6, H7, H8⟩, H9, H10, H11, H12, H13, H14, Hk⟩
  iapply ((bwdAtA V c t h).2.2.2.2.2.2 Set.univ K)
  iframe H0 H1 H2 H3 H4 H5 H6 H7 H8 H9 H10 H11 H12 H13 H14
  iintro ⟨H0, H1, H2, H3, H4, H5, H6, H7, H8, H9, H10, H11, H12, H13, H14⟩
  iapply Hk
  isplitl [H0 H1 H2 H3 H4 H5 H6 H7 H8]
  · iframe H0 H1 H2 H3 H4 H5 H6 H7
    iexact H8
  isplitl [H9]; · iapply (owns_of_pieces c _ _ (covA_dq V c t h)); iexact H9
  isplitl [H10]; · iapply (owns_of_pieces c _ _ (covA_dk V c t h)); iexact H10
  isplitl [H11]; · iapply (owns_of_pieces c _ _ (covA_dv V c t h)); iexact H11
  isplitl [H12]; · iapply (owns_of_pieces c _ _ (covA_ds V c t h)); iexact H12
  isplitl [H13]; · iapply (owns_of_pieces c _ _ (covA_kc V c t h)); iexact H13
  iapply (owns_of_pieces c _ _ (covA_vc V c t h)); iexact H14

set_option maxHeartbeats 800000 in
/-- The body at a point of kind B. -/
theorem tripleB (h : t.val % 17 = 0) (h' : t.val ≠ 0) (s : St F) (K : PUnit → Assn F) :
    iprop(insAt V c t ∗ (∃ d, owns (c : Thread nD τ) (win1_9.stage (cfg1.slots t 9)) fullShare d) ∗ (∃ d, owns (c : Thread nD τ) (win1_10.stage (cfg1.slots t 10)) fullShare d) ∗ (∃ d, owns (c : Thread nD τ) (win1_11.stage (cfg1.slots t 11)) fullShare d) ∗ owns (c : Thread nD τ) (win1_12.stage (cfg1.slots t 12)) fullShare s.ds ∗ (∃ d, owns (c : Thread nD τ) (sc0) fullShare d) ∗ (∃ d, owns (c : Thread nD τ) (sc1) fullShare d)
        ∗ (iprop(insAt V c t ∗ leftAt c t (stepB V c t h h' s)) -∗ K ⟨⟩))
      ⊢ wp frame (wpE (defs₀ (F := F)) Variants.none c none) Set.univ (bodyAt1 t) K := by
  unfold insAt leftAt stepB bodyAt1; dsimp only
  iintro ⟨⟨H0, H1, H2, H3, H4, H5, H6, H7, H8⟩, H9, H10, H11, H12, H13, H14, Hk⟩
  iapply ((bwdAtB V c t h h' s).2.2.2.2.2.2 Set.univ K)
  iframe H0 H1 H2 H3 H4 H5 H6 H7 H8 H9 H10 H11 H12 H13 H14
  iintro ⟨H0, H1, H2, H3, H4, H5, H6, H7, H8, H9, H10, H11, H12, H13, H14⟩
  iapply Hk
  isplitl [H0 H1 H2 H3 H4 H5 H6 H7 H8]
  · iframe H0 H1 H2 H3 H4 H5 H6 H7
    iexact H8
  isplitl [H9]; · iapply (owns_of_pieces c _ _ (covB_dq V c t h h' s)); iexact H9
  isplitl [H10]; · iapply (owns_of_pieces c _ _ (covB_dk V c t h h' s)); iexact H10
  isplitl [H11]; · iapply (owns_of_pieces c _ _ (covB_dv V c t h h' s)); iexact H11
  isplitl [H12]; · iapply (owns_of_pieces c _ _ (covB_ds V c t h h' s)); iexact H12
  isplitl [H13]; · iapply (owns_of_pieces c _ _ (covB_kc V c t h h' s)); iexact H13
  iapply (owns_of_pieces c _ _ (covB_vc V c t h h' s)); iexact H14

set_option maxHeartbeats 800000 in
/-- The body at a point of kind C. -/
theorem tripleC (h : t.val % 17 ≠ 0) (h' : t.val % 17 ≠ 16) (s : St F) (K : PUnit → Assn F) :
    iprop(insAt V c t ∗ (∃ d, owns (c : Thread nD τ) (win1_9.stage (cfg1.slots t 9)) fullShare d) ∗ (∃ d, owns (c : Thread nD τ) (win1_10.stage (cfg1.slots t 10)) fullShare d) ∗ (∃ d, owns (c : Thread nD τ) (win1_11.stage (cfg1.slots t 11)) fullShare d) ∗ owns (c : Thread nD τ) (win1_12.stage (cfg1.slots t 12)) fullShare s.ds ∗ owns (c : Thread nD τ) (sc0) fullShare s.kc ∗ owns (c : Thread nD τ) (sc1) fullShare s.vc
        ∗ (iprop(insAt V c t ∗ leftAt c t (stepC V c t h h' s)) -∗ K ⟨⟩))
      ⊢ wp frame (wpE (defs₀ (F := F)) Variants.none c none) Set.univ (bodyAt1 t) K := by
  unfold insAt leftAt stepC bodyAt1; dsimp only
  iintro ⟨⟨H0, H1, H2, H3, H4, H5, H6, H7, H8⟩, H9, H10, H11, H12, H13, H14, Hk⟩
  iapply ((bwdAtC V c t h h' s).2.2.2.2.2.2 Set.univ K)
  iframe H0 H1 H2 H3 H4 H5 H6 H7 H8 H9 H10 H11 H12 H13 H14
  iintro ⟨H0, H1, H2, H3, H4, H5, H6, H7, H8, H9, H10, H11, H12, H13, H14⟩
  iapply Hk
  isplitl [H0 H1 H2 H3 H4 H5 H6 H7 H8]
  · iframe H0 H1 H2 H3 H4 H5 H6 H7
    iexact H8
  isplitl [H9]; · iapply (owns_of_pieces c _ _ (covC_dq V c t h h' s)); iexact H9
  isplitl [H10]; · iapply (owns_of_pieces c _ _ (covC_dk V c t h h' s)); iexact H10
  isplitl [H11]; · iapply (owns_of_pieces c _ _ (covC_dv V c t h h' s)); iexact H11
  isplitl [H12]; · iapply (owns_of_pieces c _ _ (covC_ds V c t h h' s)); iexact H12
  isplitl [H13]; · iapply (owns_of_pieces c _ _ (covC_kc V c t h h' s)); iexact H13
  iapply (owns_of_pieces c _ _ (covC_vc V c t h h' s)); iexact H14

set_option maxHeartbeats 800000 in
/-- The body at a point of kind D. -/
theorem tripleD (h : t.val % 17 = 16) (s : St F) (K : PUnit → Assn F) :
    iprop(insAt V c t ∗ owns (c : Thread nD τ) (win1_9.stage (cfg1.slots t 9)) fullShare s.dq ∗ (∃ d, owns (c : Thread nD τ) (win1_10.stage (cfg1.slots t 10)) fullShare d) ∗ (∃ d, owns (c : Thread nD τ) (win1_11.stage (cfg1.slots t 11)) fullShare d) ∗ owns (c : Thread nD τ) (win1_12.stage (cfg1.slots t 12)) fullShare s.ds ∗ owns (c : Thread nD τ) (sc0) fullShare s.kc ∗ owns (c : Thread nD τ) (sc1) fullShare s.vc
        ∗ (iprop(insAt V c t ∗ leftAt c t (stepD V c t h s)) -∗ K ⟨⟩))
      ⊢ wp frame (wpE (defs₀ (F := F)) Variants.none c none) Set.univ (bodyAt1 t) K := by
  unfold insAt leftAt stepD bodyAt1; dsimp only
  iintro ⟨⟨H0, H1, H2, H3, H4, H5, H6, H7, H8⟩, H9, H10, H11, H12, H13, H14, Hk⟩
  iapply ((bwdAtD V c t h s).2.2.2.2.2 Set.univ K)
  iframe H0 H1 H2 H3 H4 H5 H6 H7 H8 H9 H10 H11 H12 H13 H14
  iintro ⟨H0, H1, H2, H3, H4, H5, H6, H7, H8, H9, H10, H11, H12, H13, H14⟩
  iapply Hk
  isplitl [H0 H1 H2 H3 H4 H5 H6 H7 H8]
  · iframe H0 H1 H2 H3 H4 H5 H6 H7
    iexact H8
  isplitl [H9]; · iexact H9
  isplitl [H10]; · iapply (owns_of_pieces c _ _ (covD_dk V c t h s)); iexact H10
  isplitl [H11]; · iapply (owns_of_pieces c _ _ (covD_dv V c t h s)); iexact H11
  isplitl [H12]; · iapply (owns_of_pieces c _ _ (covD_ds V c t h s)); iexact H12
  isplitl [H13]; · iapply (owns_of_pieces c _ _ (covD_kc V c t h s)); iexact H13
  iapply (owns_of_pieces c _ _ (covD_vc V c t h s)); iexact H14

set_option maxHeartbeats 800000 in
/-- The backward body at any point, its kind told from the point's number. -/
theorem sound1 :
    pre1 V c t ⊢ wp frame (wpE (defs₀ (F := F)) Variants.none c none) Set.univ (bodyAt1 t) (fun _ => post1 V c t) := by
  have fin : iprop((dat1 V c).owesAt () t.castSucc ∗ insAt V c t ∗ leftAt c t (st V c t.val t.isLt) ∗ restAt c) ⊢ post1 V c t := by
    unfold post1 insAt leftAt
    rw [phi_succ, show (dat1 V c).owesAt () t.succ = (dat1 V c).owesAt () t.castSucc from rfl,
      after1_0, after1_1, after1_2, after1_3, after1_4, after1_5, after1_6, after1_7, after1_8, after1_10, after1_11,
      leaves_eq (dat1 V c) 9 t (leave9 t), leaves_eq (dat1 V c) 12 t (.inl (stored12 t)), after1_9, after1_12]
    iintro ⟨Ho, ⟨H0, H1, H2, H3, H4, H5, H6, H7, H8⟩, ⟨H9, H10, H11, H12, S0, S1⟩, Hr⟩
    isplitl [S0 S1 Hr]
    · iframe S0 S1
      iexact Hr
    iframe Ho H0 H1 H2 H3 H4 H5 H6 H7 H8 H9 H10 H11
    iexact H12
  unfold pre1
  simp only [before1_0, before1_1, before1_2, before1_3, before1_4, before1_5, before1_6, before1_7, before1_8]
  rw [phi_castSucc]
  by_cases h0 : t.val = 0
  · have h := h0
    refine BIBase.Entails.trans (sep_mono ((carried_any V c _ _).trans (phi_split c)) .rfl) ?_
    rw [st_A V c t h] at fin
    iintro ⟨⟨S0, S1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (tripleA V c t h _)
    isplitl [H0 H1 H2 H3 H4 H5 H6 H7 H8]
    · unfold insAt
      iframe H0 H1 H2 H3 H4 H5 H6 H7
      iexact H8
    isplitl [H9]; · iexists _; iexact H9
    isplitl [H10]; · iexists _; iexact H10
    isplitl [H11]; · iexists _; iexact H11
    isplitl [H12]; · iexists _; iexact H12
    iframe S0 S1
    iintro ⟨Hi, Hl⟩
    iapply fin
    iframe Ho Hi Hl
    iexact Hr
  by_cases h : t.val % 17 = 0
  · have h' := h0
    refine BIBase.Entails.trans (sep_mono ((carried_any V c _ _).trans (phi_split c)) .rfl) ?_
    simp only [before1_12 V c t (by omega)]
    rw [st_B V c t h h'] at fin
    iintro ⟨⟨S0, S1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (tripleB V c t h h' (stPrev V c t) _)
    isplitl [H0 H1 H2 H3 H4 H5 H6 H7 H8]
    · unfold insAt
      iframe H0 H1 H2 H3 H4 H5 H6 H7
      iexact H8
    isplitl [H9]; · iexists _; iexact H9
    isplitl [H10]; · iexists _; iexact H10
    isplitl [H11]; · iexists _; iexact H11
    iframe H12 S0 S1
    iintro ⟨Hi, Hl⟩
    iapply fin
    iframe Ho Hi Hl
    iexact Hr
  by_cases h' : t.val % 17 = 16
  · replace h := h'
    rw [carried_pos V c t (by omega)]
    simp only [before1_12 V c t (by omega)]
    simp only [before1_9 V c t h]
    rw [st_D V c t h] at fin
    iintro ⟨⟨S0, S1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (tripleD V c t h (stPrev V c t) _)
    isplitl [H0 H1 H2 H3 H4 H5 H6 H7 H8]
    · unfold insAt
      iframe H0 H1 H2 H3 H4 H5 H6 H7
      iexact H8
    isplitl [H9]; · iexact H9
    isplitl [H10]; · iexists _; iexact H10
    isplitl [H11]; · iexists _; iexact H11
    iframe H12 S0 S1
    iintro ⟨Hi, Hl⟩
    iapply fin
    iframe Ho Hi Hl
    iexact Hr
  rw [carried_pos V c t (by omega)]
  simp only [before1_12 V c t (by omega)]
  rw [st_C V c t h h'] at fin
  iintro ⟨⟨S0, S1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (tripleC V c t h h' (stPrev V c t) _)
  isplitl [H0 H1 H2 H3 H4 H5 H6 H7 H8]
  · unfold insAt
    iframe H0 H1 H2 H3 H4 H5 H6 H7
    iexact H8
  isplitl [H9]; · iexists _; iexact H9
  isplitl [H10]; · iexists _; iexact H10
  isplitl [H11]; · iexists _; iexact H11
  iframe H12 S0 S1
  iintro ⟨Hi, Hl⟩
  iapply fin
  iframe Ho Hi Hl
  iexact Hr

/-- The body table's row at the point's slots is the body. -/
theorem row1 (t : Fin cfg1.N) : defs₀ (F := F) .tc cfg1.body (cfg1.bodyArgs t (cfg1.slots t)) = bodyAt1 t := by
  unfold defs₀; rw [Defs.onTc_tc]

/-- The backward call's body obligation. -/
theorem obligation1 (c : Dev nD) : BodyObligation (dat1 (F := F) V c) (defs₀ (F := F)) Variants.none () Set.univ := fun t => by
  rw [bigSep_W1, bigSep_W1, row1]
  exact triple_restated (sound1 V c t) rfl .rfl fun _ => .rfl

end Cert.AttBackIdeal.Own

end
-- ==== Proof.AttMain.lean ====
/-
The attention pair run as a whole: the two calls one after the other from any memory, the arguments kept, every buffer at what
the two calls leave, every counter at zero. Written over any float type.
-/
module

public import proofs.«01_k».proof.Proof.AttBwdDat
public import Idealize.ShloMosaic.Lib.StableHlo.Run
public import Idealize.ShloMosaic.Lib.Quiescent

set_option maxRecDepth 16384

@[expose] public section

noncomputable section

namespace Cert.AttBackIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttBackIdeal.Gen

variable {F : FTy → Type} [FloatOps F]
variable (m : (ℓ : Loc nD τ sig) → Buf (Elt F) ℓ) (ρ : Dev nD → PrngReg)

/-! ## What the buffers hold between the items of the program -/

/-- The arguments. -/
abbrev argRefs : List (Ref sig .tc) := [main_arg0, main_arg1, main_arg2, main_arg3, main_arg4]
/-- The buffers the host operations before the first call write. -/
abbrev wrote0 : List (Ref sig .tc) := [main_v0, main_v1, main_v2, main_v3, main_v4, main_v5, main_v6]
/-- The buffer the host operation between the calls writes. -/
abbrev wrote1 : List (Ref sig .tc) := [main_v8]

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem writes0 : (hostOps0 : List (HloOp τ sig (Elt F))).Forall fun op => op.writes ⊆ (wrote0.map (Proc.devRef (τ := τ) .tc)).toFinset :=
  StableHlo.forall_writes_sub_of_map rfl
theorem writes1 : (hostOps1 : List (HloOp τ sig (Elt F))).Forall fun op => op.writes ⊆ (wrote1.map (Proc.devRef (τ := τ) .tc)).toFinset :=
  StableHlo.forall_writes_sub_of_map rfl

/-- At launch. -/
abbrev W0 : Dev nD → Valuation τ sig (Elt F) := fun c b => m (c, b)
/-- When the forward call starts. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- When the forward call has ended: its arrays at what its write-backs leave. -/
def W2 (c : Dev nD) : Valuation τ sig (Elt F) := Pipeline.withArrays spec0 c (W1 m c) fun w => (dat0 (V1 m) c).arrAt w cfg0.N
/-- When the backward call starts. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- When the backward call has ended. -/
def W4 (c : Dev nD) : Valuation τ sig (Elt F) := Pipeline.withArrays spec1 c (W3 m c) fun w => (dat1 (V3 m) c).arrAt w cfg1.N

theorem W2_arr (c : Dev nD) (w : Fin cfg0.W) : W2 m c (Proc.devRef .tc (Pipeline.arrRef spec0 w)) = (dat0 (V1 m) c).arrAt w cfg0.N := by
  unfold W2; exact (dat0 (V1 m) c).withArrays_arrAt launch₀0.sharedIn _ (A_eq0 (V1 m) c) w
theorem W2_off (c : Dev nD) (b : Ref sig .tc) (hb : ∀ w, Pipeline.arrRef spec0 w ≠ b) : W2 m c (Proc.devRef .tc b) = W1 m c (Proc.devRef .tc b) := by
  unfold W2; exact Pipeline.withArrays_of_ne spec0 c _ _ b hb
theorem W4_arr (c : Dev nD) (w : Fin cfg1.W) : W4 m c (Proc.devRef .tc (Pipeline.arrRef spec1 w)) = (dat1 (V3 m) c).arrAt w cfg1.N := by
  unfold W4; exact (dat1 (V3 m) c).withArrays_arrAt launch₀1.sharedIn _ (A_eq1 (V3 m) c) w
theorem W4_off (c : Dev nD) (b : Ref sig .tc) (hb : ∀ w, Pipeline.arrRef spec1 w ≠ b) : W4 m c (Proc.devRef .tc b) = W3 m c (Proc.devRef .tc b) := by
  unfold W4; exact Pipeline.withArrays_of_ne spec1 c _ _ b hb

/-- A buffer that is no output of the forward call is left as it was. -/
theorem W2_kept (c : Dev nD) (r : Ref sig .tc) (h : ∀ w : Fin cfg0.W, Pipeline.arrRef spec0 w = r → (cfg0.win w).isOut = false) :
    W2 m c (Proc.devRef .tc r) = W1 m c (Proc.devRef .tc r) := by
  by_cases e : ∃ w : Fin cfg0.W, Pipeline.arrRef spec0 w = r
  · obtain ⟨w, rfl⟩ := e
    rw [W2_arr, (dat0 (V1 m) c).arrAt_in w (h w rfl), A_eq0]
  · exact W2_off m c r fun w h => e ⟨w, h⟩
/-- A buffer that is no output of the backward call is left as it was. -/
theorem W4_kept (c : Dev nD) (r : Ref sig .tc) (h : ∀ w : Fin cfg1.W, Pipeline.arrRef spec1 w = r → (cfg1.win w).isOut = false) :
    W4 m c (Proc.devRef .tc r) = W3 m c (Proc.devRef .tc r) := by
  by_cases e : ∃ w : Fin cfg1.W, Pipeline.arrRef spec1 w = r
  · obtain ⟨w, rfl⟩ := e
    rw [W4_arr, (dat1 (V3 m) c).arrAt_in w (h w rfl), A_eq1]
  · exact W4_off m c r fun w h => e ⟨w, h⟩
/-- A buffer the host operation between the calls does not write. -/
theorem W3_kept (c : Dev nD) (r : Ref sig .tc) (h : r ∉ wrote1) : W3 m c (Proc.devRef .tc r) = W2 m c (Proc.devRef .tc r) :=
  StableHlo.after_of_writes_sub hostOps1 _ writes1 h
theorem W1_kept (c : Dev nD) (r : Ref sig .tc) (h : r ∉ wrote0) : W1 m c (Proc.devRef .tc r) = m ((c : Thread nD τ).loc r) :=
  StableHlo.after_of_writes_sub hostOps0 _ writes0 h

theorem args_kept : ∀ a ∈ argRefs, a ∉ wrote0 ∧ a ∉ wrote1
    ∧ (∀ w : Fin cfg0.W, Pipeline.arrRef spec0 w = a → (cfg0.win w).isOut = false)
    ∧ (∀ w : Fin cfg1.W, Pipeline.arrRef spec1 w = a → (cfg1.win w).isOut = false) :=
  ListAll.forall_mem_of_all_decide (by decide +kernel)
/-- No argument is changed. -/
theorem W4_arg (c : Dev nD) (a : Ref sig .tc) (h : a ∈ argRefs) : W4 m c (Proc.devRef .tc a) = m ((c : Thread nD τ).loc a) := by
  obtain ⟨h0, h1, i0, i1⟩ := args_kept a h
  rw [W4_kept m c a i1, W3_kept m c a h1, W2_kept m c a i0, W1_kept m c a h0]

/-! ## The two calls -/

abbrev adm : (p : Fin 2) → (pcfgs (F := F) p).Adm := fun p => (cfgs p).toPCfg_adm
/-- The proof data of the two calls. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev L : GSem nD τ sig → Finset Unit := fun _ => ∅
abbrev lv : GSem nD τ sig → Unit → ℕ := fun _ _ => 0

/-- The core's buffers at given contents. -/
abbrev buffers (c : Dev nD) (W : Valuation τ sig (Elt F)) : Assn F := StableHlo.held (c : Thread nD τ) (Pipeline.ucRefs τ sig) W
/-- What is held beside the buffers: the generator register, and nothing owed. -/
abbrev beside (c : Dev nD) : Assn F := iprop((∃ r, prngReg c r) ∗ ∃ W, owes (c : Thread nD τ) (0 : CellTallies nD τ sig Unit) W)
/-- What is held at the end but for the tally of what is owed. -/
abbrev atEnd (c : Dev nD) : Assn F := iprop(buffers c (W4 m c) ∗ ∃ r, prngReg c r)

/-- The invariant between points gives back the generator register and the scoped buffers. -/
theorem leave_rest {g n : ℕ} (spec : Fin n → Pipeline.WinSpec sig g) (c : Dev nD) : (Pipeline.ΦA spec c : Assn F)
    ⊢ iprop((∃ r, prngReg c r) ∗ BI.emp ∗ Pipeline.scopedRest (Ix := Unit) (Name := ℕ) (U := UR sig nD τ) (Lvl := ℕ) (Val := Elt F) spec c) := by
  unfold Pipeline.ΦA
  iintro ⟨Hr, Hp⟩
  isplitl [Hp]; · iexact Hp
  isplitr; · iempintro
  iexact Hr

set_option backward.isDefEq.respectTransparency.types false in
/-- Call 0 between the contents `W1` and `W2`: its arrays are taken out of the core's buffers and put back, nothing is owed. -/
def call0 : Pipeline.RegionSeg (pcfgs (F := F)) adm (pdats m) () defs₀ Variants.none L lv 0 where
  win := launch₀0.win
  block_pos := launch₀0.block_pos
  stage_whole := launch₀0.stage_whole
  K := PEmpty
  osem x := x.elim
  ho := Pipeline.OwnSemFacts.none _
  hbody c := (obligation0 (V1 m) c).loose
  hwaits := Pipeline.hwaits_of_owed_zero _ _ _ _ L lv 0 fun _ _ => rfl
  pre c := iprop(buffers c (W1 m c) ∗ beside c)
  post c := iprop(buffers c (W2 m c) ∗ beside c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    have h := Pipeline.arrays_of_unscopedBufs_shared (p := 0) (pcfgs (F := F)) adm (pdats m) launch₀0.win launch₀0.sharedIn
      launch₀0.arr_whole c (fun _ _ => rfl) (V1 m c) (A_eq0 (V1 m) c)
    rw [Pipeline.unscopedBufs_held] at h
    rw [Pipeline.ownSems0_none]
    iintro ⟨⟨Hb, Hp, Ho⟩, -, -⟩
    ihave H := h $$ Hb
    icases H with ⟨Ha, Hz⟩
    imodintro
    isplitl [Ha]; · iexact Ha
    isplitr; · unfold Pipeline.prefHeld; rw [show (Finset.univ : Finset (Fin 0)) = ∅ from rfl, BI.bigSep_empty]; iempintro
    isplitl [Ho]
    · icases Ho with ⟨%W, Ho⟩
      unfold Pipeline.Dat.owesAt Pipeline.owesWithin; iexists W
      isplitr; · ipureintro; exact fun _ _ => .inl trivial
      iexact Ho
    isplitl [Hp] <;> iassumption
  hin c := by
    rw [show (pdats m 0 c).Φ 0 = Pipeline.ΦA spec0 c from rfl]; unfold Pipeline.ΦA
    iintro ⟨Hp, -, Hr⟩; isplitl [Hr] <;> iassumption
  hout c := by
    rw [Pipeline.ownSems0_none]
    rw [show (pdats m 0 c).Φ (Fin.last _) = Pipeline.ΦA spec0 c from rfl]; exact leave_rest spec0 c
  hexit c := by
    have h := Pipeline.unscopedBufs_of_arrays_shared (p := 0) (pcfgs (F := F)) adm (Ix := Unit) (Name := ℕ) (U := UR sig nD τ) (Lvl := ℕ)
      launch₀0.win launch₀0.sharedIn launch₀0.arr_whole c (pdats m) (fun _ _ => rfl)
      (V1 m c) (fun b => W2 m c b) ((pdats m 0 c).arrAt · cfg0.N) (fun w => (W2_arr m c w).symm)
      (fun b hb => W2_off m c b fun w e => hb (Finset.mem_image.mpr ⟨w, Finset.mem_univ _, e⟩))
    rw [Pipeline.unscopedBufs_held] at h
    iintro ⟨Ha, Ho, Hp, Hz⟩
    imodintro
    isplitl [Ha Hz]
    · iapply h; isplitl [Ha] <;> iassumption
    isplitl [Hp]; · iexact Hp
    unfold Pipeline.Dat.owesAt Pipeline.owesWithin
    icases Ho with ⟨%W, -, Ho⟩; iexists W; iexact Ho

set_option backward.isDefEq.respectTransparency.types false in
/-- Call 1 between the contents `W3` and `W4`: its arrays are taken out of the core's buffers and put back, nothing is owed. -/
def call1 : Pipeline.RegionSeg (pcfgs (F := F)) adm (pdats m) () defs₀ Variants.none L lv 1 where
  win := launch₀1.win
  block_pos := launch₀1.block_pos
  stage_whole := launch₀1.stage_whole
  K := PEmpty
  osem x := x.elim
  ho := Pipeline.OwnSemFacts.none _
  hbody c := (obligation1 (V3 m) c).loose
  hwaits := Pipeline.hwaits_of_owed_zero _ _ _ _ L lv 1 fun _ _ => rfl
  pre c := iprop(buffers c (W3 m c) ∗ beside c)
  post c := iprop(atEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    have h := Pipeline.arrays_of_unscopedBufs_shared (p := 1) (pcfgs (F := F)) adm (pdats m) launch₀1.win launch₀1.sharedIn
      launch₀1.arr_whole c (fun _ _ => rfl) (V3 m c) (A_eq1 (V3 m) c)
    rw [Pipeline.unscopedBufs_held] at h
    rw [Pipeline.ownSems0_none]
    iintro ⟨⟨Hb, Hp, Ho⟩, -, -⟩
    ihave H := h $$ Hb
    icases H with ⟨Ha, Hz⟩
    imodintro
    isplitl [Ha]; · iexact Ha
    isplitr; · unfold Pipeline.prefHeld; rw [show (Finset.univ : Finset (Fin 0)) = ∅ from rfl, BI.bigSep_empty]; iempintro
    isplitl [Ho]
    · icases Ho with ⟨%W, Ho⟩
      unfold Pipeline.Dat.owesAt Pipeline.owesWithin; iexists W
      isplitr; · ipureintro; exact fun _ _ => .inl trivial
      iexact Ho
    isplitl [Hp] <;> iassumption
  hin c := by
    rw [show (pdats m 1 c).Φ 0 = Pipeline.ΦA spec1 c from rfl]; unfold Pipeline.ΦA
    iintro ⟨Hp, -, Hr⟩; isplitl [Hr] <;> iassumption
  hout c := by
    rw [Pipeline.ownSems0_none]
    exact (carried_any (V3 m) c cfg1.N (Nat.le_refl _)).trans (leave_rest spec1 c)
  hexit c := by
    have h := Pipeline.unscopedBufs_of_arrays_shared (p := 1) (pcfgs (F := F)) adm (Ix := Unit) (Name := ℕ) (U := UR sig nD τ) (Lvl := ℕ)
      launch₀1.win launch₀1.sharedIn launch₀1.arr_whole c (pdats m) (fun _ _ => rfl)
      (V3 m c) (fun b => W4 m c b) ((pdats m 1 c).arrAt · cfg1.N) (fun w => (W4_arr m c w).symm)
      (fun b hb => W4_off m c b fun w e => hb (Finset.mem_image.mpr ⟨w, Finset.mem_univ _, e⟩))
    rw [Pipeline.unscopedBufs_held] at h
    iintro ⟨Ha, Ho, Hp, Hz⟩
    imodintro
    isplitl [Ha Hz Hp]
    · isplitl [Ha Hz]
      · iapply h; isplitl [Ha] <;> iassumption
      iexact Hp
    unfold Pipeline.Dat.owesAt Pipeline.owesWithin
    icases Ho with ⟨%W, -, Ho⟩; iexists W; iexact Ho

/-! ## The whole program -/

/-- A stretch of host operations from given contents. -/
abbrev host (ops : List (HloOp τ sig (Elt F))) (hs : ops.Forall fun op => op.bufs ⊆ StableHlo.tcRefs τ sig)
    (hf : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op (List.forall_iff_forall_mem.mp hs op h)) (fun op h => List.forall_iff_forall_mem.mp hf op h) W beside

/-- The program's items in order. -/
abbrev items : List (Pipeline.Seg (pcfgs (F := F)) adm (pdats m) () defs₀ Variants.none L lv) :=
  [.host (host hostOps0 hostOps0_sub fresh0 (W0 m)), .region (call0 m), .host (host hostOps1 hostOps1_sub fresh1 (W2 m)), .region (call1 m)]

theorem main_items (c : Dev nD) : main (F := F) c = Pipeline.Seg.run (items m) := (main_chain c).trans (by chain_rfl)

theorem all_scoped : ∀ s : SemLoc sig, s.isScoped .tc = true := by decide

set_option backward.isDefEq.respectTransparency.types false in
/-- The program ends from any memory with zero counters, every buffer outside the calls at the contents `W4`, every counter at zero. -/
theorem run_main : θ_run defs (onTc (τ := τ) (main (F := F))) ⟨m, fun _ => 0, ρ⟩ (fun r =>
    (∀ (c : Dev nD), ∀ b ∈ Pipeline.ucRefs τ sig, r.2.mem ((c : Thread nD τ).1, b) = W4 m c b) ∧ r.2.sem = fun _ => 0) :=
  Pipeline.θ_run_regions_kit_sems (pcfgs (F := F)) adm (pdats m) () cellOf_inj emb₁ defs₀ Variants.none L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : Assn F)
            ⊢ BI.own (emb₁ (initOf (Pipeline.cells cfgs cellOf_inj) (Pipeline.launchToks cfgs cellOf_inj))) from .rfl)
        iexact Hu
      iapply (show (BI.emp : Assn F) ⊢ bigSep Finset.univ (fun _ : Dev nD => (BI.emp : Assn F)) from by rw [BI.bigSep_emp_const])
      iempintro)
    (T₀ := fun c => iprop(buffers c (W0 m c) ∗ beside c)) (Tₙ := atEnd m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = buffers c (W0 m c) from Pipeline.unscopedBufs_held c (W0 m c)]
      iintro ⟨⟨Hb, -, Ho, -, Hp, -⟩, -⟩
      imodintro
      isplitl [Hb]; · iexact Hb
      isplitl [Hp]; · iexists _; iexact Hp
      iexists ∅; iexact Ho)
    (QY := fun c s => ∀ b ∈ Pipeline.ucRefs τ sig, s.mem (((c : Thread nD τ)).1, b) = W4 m c b)
    (hfin := fun c s => by
      iintro ⟨⟨Hb, -⟩, Hs⟩
      unfold buffers StableHlo.held
      imodintro
      iapply (pointsTo_read_all (Pipeline.ucRefs τ sig) (fun b => (((c : Thread nD τ)).1, b)) (W4 m c) s)
      isplitl [Hb] <;> iassumption)
    (hQ := fun s h hz => ⟨h, funext fun g => hz g (.inr (all_scoped g.2))⟩)

/-- An unscoped buffer's final contents. -/
theorem run_reads {s : (ℓ : Loc nD τ sig) → Buf (Elt F) ℓ} (c : Dev nD) (h : ∀ b ∈ Pipeline.ucRefs τ sig, s ((c : Thread nD τ).1, b) = W4 m c b)
    (b : Ref sig .tc) (hb : ¬ (Proc.devRef .tc b : DevRef τ sig).isScoped) : s ((c : Thread nD τ).loc b) = W4 m c (Proc.devRef .tc b) :=
  h _ (Finset.mem_filter.mpr ⟨StableHlo.devRef_mem_tcRefs b, hb⟩)

end Cert.AttBackIdeal.Own

end
-- ==== Proof.AttRow.lean ====
/-
One row of masked attention with a sink, over the real numbers: the weights, and the extended-real steps a
softmax shifted by its maximum goes through.
-/
module

public import proofs.«01_k».proof.Proof.Reals

@[expose] public section

noncomputable section

namespace Own

open Idealize.ShloMosaic

/-- A row: the scores of its columns, which columns it sees, and the sink's score. -/
structure Row (n : ℕ) where
  S : Fin n → ℝ
  M : Fin n → Prop
  dec : DecidablePred M
  σ : ℝ

namespace Row

variable {n : ℕ} (R : Row n)

instance : DecidablePred R.M := R.dec

def E (c : Fin n) : ℝ := if R.M c then Real.exp (R.S c) else 0
def Z : ℝ := ∑ c, R.E c + Real.exp R.σ
/-- The weight of a column, and of the sink. -/
def p (c : Fin n) : ℝ := R.E c / R.Z
def ps : ℝ := Real.exp R.σ / R.Z

theorem E_nonneg (c : Fin n) : 0 ≤ R.E c := by unfold E; split <;> positivity
theorem Z_pos : 0 < R.Z := add_pos_of_nonneg_of_pos (Finset.sum_nonneg fun c _ => R.E_nonneg c) (Real.exp_pos _)

/-- The score as it enters the maximum. -/
def msk (c : Fin n) : EReal := if R.M c then ((R.S c : ℝ) : EReal) else ⊥

theorem msk_ne_top (c : Fin n) : R.msk c ≠ ⊤ := by
  unfold msk; split
  · exact EReal.coe_ne_top _
  · exact bot_ne_top

/-- The exponential of a score less `m`. -/
def em (m : ℝ) (c : Fin n) : ℝ := R.E c * Real.exp (-m)

theorem exp_msk (m : ℝ) (c : Fin n) : Ideal.exp (R.msk c - (m : EReal)) = ((R.em m c : ℝ) : EReal) := by
  unfold msk em E
  split
  · rw [← EReal.coe_sub, Ideal.exp_coe, sub_eq_add_neg, Real.exp_add]
  · rw [EReal.bot_sub, Ideal.exp_bot, zero_mul, EReal.coe_zero]

theorem exp_sink (m : ℝ) : Ideal.exp ((R.σ : EReal) - (m : EReal)) = ((Real.exp R.σ * Real.exp (-m) : ℝ) : EReal) := by
  rw [← EReal.coe_sub, Ideal.exp_coe, sub_eq_add_neg, Real.exp_add]

/-- The denominator over the shifted scores. -/
theorem den_em (m : ℝ) : ∑ c, R.em m c + Real.exp R.σ * Real.exp (-m) = R.Z * Real.exp (-m) := by
  unfold em Z; rw [← Finset.sum_mul]; ring

theorem den_pos (m : ℝ) : 0 < R.Z * Real.exp (-m) := mul_pos R.Z_pos (Real.exp_pos _)

theorem em_div (m : ℝ) (c : Fin n) : R.em m c / (R.Z * Real.exp (-m)) = R.p c := by
  unfold em p; rw [mul_div_mul_right _ _ (Real.exp_pos _).ne']

theorem log_den (m : ℝ) : m + Real.log (R.Z * Real.exp (-m)) = Real.log R.Z := by
  rw [Real.log_mul R.Z_pos.ne' (Real.exp_pos _).ne', Real.log_exp]; ring

/-- The weight again from the saved logarithm. -/
theorem exp_sub_log (c : Fin n) : (if R.M c then Real.exp (R.S c - Real.log R.Z) else 0) = R.p c := by
  unfold p E; split
  · rw [Real.exp_sub, Real.exp_log R.Z_pos]
  · rw [zero_div]

theorem exp_sink_sub_log : Real.exp (R.σ - Real.log R.Z) = R.ps := by
  unfold ps; rw [Real.exp_sub, Real.exp_log R.Z_pos]

end Row

/-- The greatest of finitely many values below `⊤` is below `⊤`. -/
theorem fold_max_ne_top {ι : Type*} (s : Finset ι) (f : ι → EReal) (h : ∀ i ∈ s, f i ≠ ⊤) : s.fold max ⊥ f ≠ ⊤ := by
  classical
  induction s using Finset.induction_on with
  | empty => rw [Finset.fold_empty]; exact bot_ne_top
  | insert a s ha ih =>
    rw [Finset.fold_insert ha]
    rcases max_choice (f a) (s.fold max ⊥ f) with e | e <;> rw [e]
    · exact h a (Finset.mem_insert_self _ _)
    · exact ih fun i hi => h i (Finset.mem_insert_of_mem hi)

/-- The greatest of finitely many values is one of them, or nothing is above `⊥`. -/
theorem fold_max_mem {ι : Type*} (s : Finset ι) (f : ι → EReal) : s.fold max ⊥ f = ⊥ ∨ ∃ i ∈ s, s.fold max ⊥ f = f i := by
  classical
  induction s using Finset.induction_on with
  | empty => exact .inl Finset.fold_empty
  | insert a s ha ih =>
    rw [Finset.fold_insert ha]
    rcases max_choice (f a) (s.fold max ⊥ f) with e | e <;> rw [e]
    · exact .inr ⟨a, Finset.mem_insert_self _ _, rfl⟩
    · exact ih.imp id fun ⟨i, hi, h⟩ => ⟨i, Finset.mem_insert_of_mem hi, h⟩

theorem le_fold_max {ι : Type*} (s : Finset ι) (f : ι → EReal) (i : ι) (hi : i ∈ s) : f i ≤ s.fold max ⊥ f :=
  (Finset.le_fold_max _).mpr (.inr ⟨i, hi, le_rfl⟩)

/-- A value below `⊤` against a real number: the greater of the two is a real number. -/
theorem max_coe (x : EReal) (σ : ℝ) (h : x ≠ ⊤) : ∃ m : ℝ, max x (σ : EReal) = (m : EReal) := by
  have h1 : max x (σ : EReal) ≠ ⊤ := by rcases max_choice x (σ : EReal) with e | e <;> rw [e]; exacts [h, EReal.coe_ne_top _]
  have h2 : max x (σ : EReal) ≠ ⊥ := fun e => EReal.coe_ne_bot σ (le_bot_iff.mp (e ▸ le_max_right _ _))
  exact ⟨_, (EReal.coe_toReal h1 h2).symm⟩

theorem kEighth : Ideal.ofBits .f32 0x3E000000#32 = ((1 / 8 : ℝ) : EReal) := by
  simp [Ideal.ofBits, Ideal.ieee]; rw [← EReal.coe_mul]; norm_num

theorem kNegInf : Ideal.ofBits .f32 0xFF800000#32 = ⊥ := by simp [Ideal.ofBits, Ideal.ieee]
theorem kZero : Ideal.ofBits .f32 0x00000000#32 = 0 := by simp [Ideal.ofBits, Ideal.ieee]
theorem kOne : Ideal.ofBits .f32 0x3F800000#32 = ((1 : ℝ) : EReal) := by
  simp [Ideal.ofBits, Ideal.ieee]; rw [← EReal.coe_mul]; norm_num

/-- The words of the heads' slopes. -/
def slopeW : Fin 8 → BitVec 32 :=
  ![0x3F000000#32, 0x3E800000#32, 0x3E000000#32, 0x3D800000#32, 0x3D000000#32, 0x3C800000#32, 0x3C000000#32, 0x3B800000#32]

/-- The slope of a head. -/
def slope (h : Fin 8) : ℝ := (2 : ℝ)⁻¹ ^ (h.val + 1)

theorem slopeW_eq (h : Fin 8) : Ideal.ofBits .f32 (slopeW h) = ((slope h : ℝ) : EReal) := by
  fin_cases h <;> (simp [slopeW, slope, Ideal.ofBits, Ideal.ieee]; rw [← EReal.coe_mul]; norm_num)

end Own
-- ==== Proof.AttHead.lean ====
/-
One head of the forward kernel at a point: its block of outputs and its column of logarithms, from the head's
scores.
-/
module

public import proofs.«01_k».proof.Proof.AttMain
public import proofs.«01_k».proof.Proof.AttRow
public import Idealize.ShloMosaic.Lib.Pipeline.Value
public import Idealize.ShloMosaic.Lib.Pipeline.ValueKit

set_option maxRecDepth 16384

@[expose] public section

noncomputable section

namespace Cert.AttBackIdeal.Own

open Idealize.ShloMosaic Idealize.ShloMosaic.TcCoe Idealize.SL.Sem Idealize.ShloMosaic.Tactic
open Cert.AttBackIdeal.Gen

section
variable {F : FTy → Type} [FloatOps F]

/-- The column of logarithms of a head, its slope in every row of `sl`. -/
def lseVec (sl : FVec F S128x1 .f32) (dist : FVec F S128x256 .f32) (mask : IVec S128x256 1) (qk : FVec F S128x256 .f32) (sink : Elt F .f32) :
    FVec F S128x1 .f32 :=
  k0_pay35 dist mask qk sl sink

/-- The block of outputs of a head. -/
def outVec (sl : FVec F S128x1 .f32) (dist : FVec F S128x256 .f32) (mask : IVec S128x256 1) (qk : FVec F S128x256 .f32) (sink : Elt F .f32)
    (v : FVec F S256x64 .bf16) : FVec F S128x64 .f32 :=
  mulf (matmul dot_S128x256_S256x64_S128x64_1_0_0_1_n_n none
      (k0_pay33 dist mask qk sl sink) v (constant S128x64 .f32 0x00000000#32))
    (broadcastTo S128x64 (k0_pay34 dist mask qk sl sink) broadcasts_S128x1_S128x64)

end

variable (sl : FVec Ideal S128x1 .f32) (dist : FVec Ideal S128x256 .f32) (mask : IVec S128x256 1) (qk : FVec Ideal S128x256 .f32)
    (sink : Elt Ideal .f32) (v : FVec Ideal S256x64 .bf16) (R : Own.Row 256) (r : Fin 128)

/-- What a row of the head's blocks has to hold for it to be the row `R`. -/
structure HeadRow : Prop where
  score : ∀ c, (qk (ix2 r c) : EReal) * ((1 / 8 : ℝ) : EReal) - (sl (ix2 r 0) : EReal) * (dist (ix2 r c) : EReal) = ((R.S c : ℝ) : EReal)
  mask : ∀ c, mask (ix2 r c) = if R.M c then 1#1 else 0#1
  sink : (sink : EReal) = ((R.σ : ℝ) : EReal)

variable {sl dist mask qk sink R r}

theorem head_msk (h : HeadRow sl dist mask qk sink R r) (c : Fin 256) :
    k0_pay29 (F := Ideal) dist mask qk sl (ix2 r c) = R.msk c := by
  pointwise [k0_pay29]
  rw [h.mask, Own.kEighth, Own.kNegInf, h.score]
  unfold Own.Row.msk
  split <;> rfl

theorem head_max (h : HeadRow sl dist mask qk sink R r) : ∃ m : ℝ,
    k0_pay30 (F := Ideal) dist mask qk sl sink (ix2 r 0) = (m : EReal) := by
  pointwise [k0_pay30, k0_pay28]
  rw [Own.kNegInf, h.sink]
  exact Own.max_coe _ _ (Own.fold_max_ne_top _ _ fun c _ => by rw [head_msk h]; exact R.msk_ne_top c)

theorem head_exp (h : HeadRow sl dist mask qk sink R r) (m : ℝ)
    (hm : k0_pay30 (F := Ideal) dist mask qk sl sink (ix2 r 0) = (m : EReal)) (c : Fin 256) :
    k0_pay31 (F := Ideal) dist mask qk sl sink (ix2 r c) = ((R.em m c : ℝ) : EReal) := by
  pointwise [k0_pay31]
  rw [head_msk h, hm]; exact R.exp_msk m c

theorem head_den (h : HeadRow sl dist mask qk sink R r) (m : ℝ)
    (hm : k0_pay30 (F := Ideal) dist mask qk sl sink (ix2 r 0) = (m : EReal)) :
    k0_pay32 (F := Ideal) dist mask qk sl sink (ix2 r 0) = ((R.Z * Real.exp (-m) : ℝ) : EReal) := by
  pointwise [k0_pay32, k0_pay28]
  rw [hm, Finset.sum_congr rfl fun c _ => head_exp h m hm c, h.sink, R.exp_sink, ← Own.coe_sum, ← EReal.coe_add, R.den_em]

theorem lseVec_row (h : HeadRow sl dist mask qk sink R r) : lseVec (F := Ideal) sl dist mask qk sink (ix2 r 0) = ((Real.log R.Z : ℝ) : EReal) := by
  obtain ⟨m, hm⟩ := head_max h
  pointwise [lseVec, k0_pay35]
  rw [hm, head_den h m hm, Ideal.log_coe, if_neg (not_le.mpr (R.den_pos m)), ← EReal.coe_add, R.log_den]

theorem outVec_row (h : HeadRow sl dist mask qk sink R r) (V : Fin 256 → ℝ) (d : Fin 64) (hv : ∀ c, v (ix2 c d) = ((V c : ℝ) : EReal)) :
    outVec (F := Ideal) sl dist mask qk sink v (ix2 r d) = ((∑ c, R.p c * V c : ℝ) : EReal) := by
  obtain ⟨m, hm⟩ := head_max h
  pointwise [outVec, k0_pay33, k0_pay34]
  rw [head_den h m hm, ← EReal.coe_one, Own.div_coe_coe _ _ (R.den_pos m).ne',
    Finset.sum_congr rfl fun c _ => (congrArg₂ (· * ·) (head_exp h m hm c) (hv c)).trans (EReal.coe_mul _ _).symm,
    ← Own.coe_sum, ← EReal.coe_mul, Finset.sum_mul, Finset.sum_congr rfl fun c _ => ?_]
  rw [← R.em_div m c]; ring

end Cert.AttBackIdeal.Own
end
end
-- ==== Proof.AttMask.lean ====
/-
The band a row sees: the distance of a column from the row, and the mask, as words and as numbers.
-/
module

public import proofs.«01_k».proof.Proof.AttRow
public import Idealize.ShloMosaic.Lib.WordCmp

@[expose] public section

noncomputable section

namespace Own

open Idealize.ShloMosaic

/-- The distance of column `c` of a row's two blocks from row `r`, as a word. -/
abbrev distW (r c : ℕ) : BitVec 32 := IntOp.subi (IntOp.addi (IntOp.andi (BitVec.ofNat 32 r) 127#32) 128#32) (BitVec.ofNat 32 c)

/-- The columns row `r` of block `n` sees: none ahead of it, none 128 or more behind, and none before the first block. -/
def Seen (n r c : ℕ) : Prop := c ≤ r % 128 + 128 ∧ r % 128 < c ∧ (128 ≤ c ∨ n ≠ 0)

instance (n r c : ℕ) : Decidable (Seen n r c) := by unfold Seen; infer_instance

theorem distW_toInt (r c : ℕ) (hr : r < 512) (hc : c < 256) : (distW r c).toInt = ((r % 128 : ℕ) : ℤ) + 128 - c := by
  have h : BitVec.ofNat 32 r &&& 127#32 = BitVec.ofNat 32 (r % 128) := by
    apply BitVec.eq_of_toNat_eq
    rw [BitVec.toNat_and]; simp only [BitVec.toNat_ofNat]
    rw [Nat.mod_eq_of_lt (by omega : r < 2 ^ 32), Nat.mod_eq_of_lt (by omega : r % 128 < 2 ^ 32)]
    exact Nat.and_two_pow_sub_one_eq_mod r 7
  have e : distW r c = BitVec.ofNat 32 (r % 128) + 128#32 - BitVec.ofNat 32 c := by
    show (BitVec.ofNat 32 r &&& 127#32) + 128#32 - BitVec.ofNat 32 c = _
    rw [h]
  rw [e, BitVec.toInt_eq_toNat_cond, BitVec.toNat_sub, BitVec.toNat_add]
  simp only [BitVec.toNat_ofNat]
  have : r % 128 < 128 := Nat.mod_lt _ (by norm_num)
  generalize r % 128 = a at *
  split <;> omega

theorem ofBool_and (a b : Bool) : IntOp.andi (BitVec.ofBool a) (BitVec.ofBool b) = BitVec.ofBool (a && b) := by
  cases a <;> cases b <;> rfl
theorem ofBool_or (a b : Bool) : IntOp.ori (BitVec.ofBool a) (BitVec.ofBool b) = BitVec.ofBool (a || b) := by
  cases a <;> cases b <;> rfl
theorem ofBool_not (a : Bool) : IntOp.xori (BitVec.ofBool a) 1#1 = BitVec.ofBool (!a) := by
  cases a <;> rfl
theorem ofBool_ite (p : Prop) [Decidable p] (b : Bool) (h : b = true ↔ p) : BitVec.ofBool b = if p then 1#1 else 0#1 := by
  by_cases hp : p
  · rw [if_pos hp, h.mpr hp]; rfl
  · rw [if_neg hp]; cases b
    · rfl
    · exact absurd (h.mp rfl) hp

theorem toInt_small (x : ℕ) (h : x < 2048) : (BitVec.ofNat 32 x).toInt = x := by
  rw [BitVec.toInt_eq_toNat_cond, BitVec.toNat_ofNat, Nat.mod_eq_of_lt (by omega : x < 2 ^ 32), if_pos (by omega)]

theorem eq_zero_word (n : ℕ) (h : n < 2048) : IntOp.cmpi .eq (BitVec.ofNat 32 n) 0#32 = BitVec.ofBool (decide (n = 0)) := by
  show BitVec.ofBool (BitVec.ofNat 32 n == 0#32) = _
  congr 1
  rw [Bool.eq_iff_iff, beq_iff_eq, decide_eq_true_iff]
  constructor
  · intro e; have := congrArg BitVec.toNat e; simp only [BitVec.toNat_ofNat] at this; omega
  · rintro rfl; rfl

theorem seen_word (n r c : ℕ) (hn : n < 2048) (hr : r < 512) (hc : c < 256) :
    IntOp.andi (IntOp.andi (IntOp.cmpi .sge (distW r c) 0#32) (IntOp.cmpi .slt (distW r c) 128#32))
      (IntOp.ori (IntOp.cmpi .sge (BitVec.ofNat 32 c) 128#32) (IntOp.xori (IntOp.cmpi .eq (BitVec.ofNat 32 n) 0#32) 1#1))
      = if Seen n r c then 1#1 else 0#1 := by
  rw [WordCmp.cmpi_sge_eq, WordCmp.cmpi_slt_eq, WordCmp.cmpi_sge_eq, eq_zero_word n hn, distW_toInt r c hr hc, toInt_small c (by omega),
    show (0#32 : BitVec 32).toInt = 0 from rfl, show (128#32 : BitVec 32).toInt = 128 from rfl,
    ofBool_not, ofBool_or, ofBool_and, ofBool_and]
  apply ofBool_ite
  unfold Seen
  simp only [Bool.and_eq_true, Bool.or_eq_true, Bool.not_eq_true', decide_eq_true_iff, decide_eq_false_iff_not]
  omega

/-- The distance as a number. -/
theorem distW_real (r c : ℕ) (hr : r < 512) (hc : c < 256) :
    (FloatOps.sitofp (F := Ideal) .f32 (distW r c) : EReal) = (((r % 128 : ℕ) + 128 - c : ℝ) : EReal) := by
  show (((distW r c).toInt : ℝ) : EReal) = _
  rw [distW_toInt r c hr hc]; push_cast; rfl

/-- The row itself is among the columns it sees. -/
theorem seen_self (n r : ℕ) (hr : r < 128) : Seen n r (r + 128) := by
  unfold Seen; rw [Nat.mod_eq_of_lt hr]; omega

end Own
-- ==== Proof.AttPoint.lean ====
/-
The forward kernel at a point, over the real numbers: its blocks of outputs and of logarithms as the rows' weights say.
-/
module

public import proofs.«01_k».proof.Proof.AttHead
public import proofs.«01_k».proof.Proof.AttMask

set_option maxRecDepth 16384

@[expose] public section

noncomputable section

namespace Cert.AttBackIdeal.Own

open Idealize.ShloMosaic Idealize.ShloMosaic.TcCoe Idealize.SL.Sem Idealize.ShloMosaic.Tactic
open Cert.AttBackIdeal.Gen

/-- Column `d` of head `h` among the query columns, and of its group among the key columns. -/
abbrev hcol (h : Fin 8) (d : Fin 64) : Fin 512 := ⟨64 * h.val + d.val, by omega⟩
abbrev kcol (h : Fin 8) (d : Fin 64) : Fin 128 := ⟨64 * (h.val / 4) + d.val, by omega⟩

/-- The real numbers a point works on: which block of its sequence it is, its queries, its two blocks of keys and of
    values, one after the other, and the sinks. -/
structure Blk where
  n : ℕ
  hn : n < 2048
  q : Fin 128 → Fin 512 → ℝ
  k : Fin 256 → Fin 128 → ℝ
  v : Fin 256 → Fin 128 → ℝ
  s : Fin 8 → ℝ

namespace Blk

variable (B : Blk)

/-- The row of head `h` and position `r`. -/
def row (h : Fin 8) (r : Fin 128) : _root_.Own.Row 256 where
  S c := (∑ d : Fin 64, B.q r (hcol h d) * B.k c (kcol h d)) * (1 / 8) - _root_.Own.slope h * ((r.val : ℝ) + 128 - (c.val : ℝ))
  M c := _root_.Own.Seen B.n r.val c.val
  dec := fun _ => inferInstance
  σ := B.s h

/-- The output of head `h` at position `r`. -/
def out (h : Fin 8) (r : Fin 128) (d : Fin 64) : ℝ := ∑ c, (B.row h r).p c * B.v c (kcol h d)

/-- The saved logarithm. -/
def lse (h : Fin 8) (r : Fin 128) : ℝ := Real.log (B.row h r).Z

end Blk

section
variable {F : FTy → Type} [FloatOps F]

/-- The heads' products of queries with keys, their values, and their sinks, as the forward kernel takes them. -/
def qkH (I1 : FVec F S128x512 .bf16) (I2 I3 : FVec F S128x128 .bf16) : Fin 8 → FVec F S128x256 .f32 :=
  ![k0_pay9 I2 I3 I1, k0_pay12 (k0_pay10 I1) (k0_pay11 I2 I3) (constant S128x256 .f32 0x00000000#32),
    k0_pay13 (k0_pay6 I2 I3) (k0_pay8 I1), k0_pay14 (k0_pay6 I2 I3) (k0_pay8 I1), k0_pay15 (k0_pay6 I2 I3) (k0_pay8 I1),
    k0_pay16 (k0_pay6 I2 I3) (k0_pay8 I1), k0_pay17 (k0_pay6 I2 I3) (k0_pay8 I1), k0_pay18 (k0_pay6 I2 I3) (k0_pay8 I1)]

def vLo (I4 I5 : FVec F S128x128 .bf16) : FVec F S256x64 .bf16 :=
  extractStridedSlice S256x64 ![0, 0] (k0_pay7 I4 I5) slices_S256x128_o0_0_S256x64
def vHi (I4 I5 : FVec F S128x128 .bf16) : FVec F S256x64 .bf16 :=
  extractStridedSlice S256x64 ![0, 64] (k0_pay7 I4 I5) slices_S256x128_o0_64_S256x64
def vvH (I4 I5 : FVec F S128x128 .bf16) : Fin 8 → FVec F S256x64 .bf16 :=
  ![vLo I4 I5, vLo I4 I5, vLo I4 I5, vLo I4 I5, vHi I4 I5, vHi I4 I5, vHi I4 I5, vHi I4 I5]

/-- One entry of the row of sinks, as a load of a single element reads it. -/
def sinkL (I0 : FVec F S8 .f32) (h : ℕ) (hb : ∀ a, (![h] : Fin 1 → ℕ) a + (![1] : Fin 1 → ℕ) a ≤ S8.size a) : Elt F .f32 :=
  View.ld I0 (Rect.unit ![h] ![1] hb) (Shape.Idx.first (Nat.one_pos : 0 < (⟨1, ![1]⟩ : Shape).numel))
def sinkH (I0 : FVec F S8 .f32) : Fin 8 → Elt F .f32 :=
  ![sinkL I0 0 inb_S8_S1_0, sinkL I0 1 inb_S8_S1_1, sinkL I0 2 inb_S8_S1_2, sinkL I0 3 inb_S8_S1_3,
    sinkL I0 4 inb_S8_S1_4, sinkL I0 5 inb_S8_S1_5, sinkL I0 6 inb_S8_S1_6, sinkL I0 7 inb_S8_S1_7]

def slV (h : Fin 8) : FVec F S128x1 .f32 := broadcast S128x1 (Scalar.ofBits .f32 (_root_.Own.slopeW h))

variable (V : (c : Dev nD) → (b : Ref sig .tc) → Buf (Elt F) ((c : Thread nD τ).loc b))

/-- The head's column of logarithms at a point, and its block of outputs. -/
abbrev lseAt (c : Dev nD) (t : Fin cfg0.N) (h : Fin 8) : FVec F S128x1 .f32 :=
  lseVec (slV h) k0_pay4 (k0_pay5 (grid0.coords t)) (qkH (iblk0 V c 1 t) (iblk0 V c 2 t) (iblk0 V c 3 t) h) (sinkH (iblk0 V c 0 t) h)
abbrev outAt (c : Dev nD) (t : Fin cfg0.N) (h : Fin 8) : FVec F S128x64 .f32 :=
  outVec (slV h) k0_pay4 (k0_pay5 (grid0.coords t)) (qkH (iblk0 V c 1 t) (iblk0 V c 2 t) (iblk0 V c 3 t) h) (sinkH (iblk0 V c 0 t) h)
    (vvH (iblk0 V c 4 t) (iblk0 V c 5 t) h)

theorem sinkL_eq (I0 : FVec F S8 .f32) (h : ℕ) (hb) (hh : h < 8) : sinkL I0 h hb = I0 (ix1 ⟨h, hh⟩) := by
  refine congrArg I0 (funext fun a => Fin.ext ?_)
  obtain rfl : a = 0 := Subsingleton.elim _ _
  rfl

set_option maxHeartbeats 2000000 in
theorem fwd_lse_list (c : Dev nD) (t : Fin cfg0.N) : (fwdAt V c t).2.1 =
    [⟨Rect.unit ![0, 7] ![128, 1] inb_S128x8_S128x1_0_7, lseAt V c t 7⟩, ⟨Rect.unit ![0, 6] ![128, 1] inb_S128x8_S128x1_0_6, lseAt V c t 6⟩,
     ⟨Rect.unit ![0, 5] ![128, 1] inb_S128x8_S128x1_0_5, lseAt V c t 5⟩, ⟨Rect.unit ![0, 4] ![128, 1] inb_S128x8_S128x1_0_4, lseAt V c t 4⟩,
     ⟨Rect.unit ![0, 3] ![128, 1] inb_S128x8_S128x1_0_3, lseAt V c t 3⟩, ⟨Rect.unit ![0, 2] ![128, 1] inb_S128x8_S128x1_0_2, lseAt V c t 2⟩,
     ⟨Rect.unit ![0, 1] ![128, 1] inb_S128x8_S128x1_0_1, lseAt V c t 1⟩, ⟨Rect.unit ![0, 0] ![128, 1] inb_S128x8_S128x1_0_0, lseAt V c t 0⟩] := by
  conv_lhs => unfold fwdAt fwdRun; dsimp only
  sl_unfold_words
  simp only [View.readAt_eq_ld, Memref.IsWhole.read_unread, View.ld_unit_zero (S := S128x512) off2, View.ld_unit_zero (S := S128x128) off2]
  rfl

set_option maxHeartbeats 2000000 in
theorem fwd_out_list (c : Dev nD) (t : Fin cfg0.N) : (fwdAt V c t).1 =
    [⟨Rect.unit ![0, 448] ![128, 64] inb_S128x512_S128x64_0_448, outAt V c t 7⟩,
     ⟨Rect.unit ![0, 384] ![128, 64] inb_S128x512_S128x64_0_384, outAt V c t 6⟩,
     ⟨Rect.unit ![0, 320] ![128, 64] inb_S128x512_S128x64_0_320, outAt V c t 5⟩,
     ⟨Rect.unit ![0, 256] ![128, 64] inb_S128x512_S128x64_0_256, outAt V c t 4⟩,
     ⟨Rect.unit ![0, 192] ![128, 64] inb_S128x512_S128x64_0_192, outAt V c t 3⟩,
     ⟨Rect.unit ![0, 128] ![128, 64] inb_S128x512_S128x64_0_128, outAt V c t 2⟩,
     ⟨Rect.unit ![0, 64] ![128, 64] inb_S128x512_S128x64_0_64, outAt V c t 1⟩,
     ⟨Rect.unit ![0, 0] ![128, 64] inb_S128x512_S128x64_0_0, outAt V c t 0⟩] := by
  conv_lhs => unfold fwdAt fwdRun; dsimp only
  sl_unfold_words
  simp only [View.readAt_eq_ld, Memref.IsWhole.read_unread, View.ld_unit_zero (S := S128x512) off2, View.ld_unit_zero (S := S128x128) off2]
  rfl

end

/-- The blocks a forward point reads hold the real numbers of `B`. -/
structure IsBlk (B : Blk) (I0 : FVec Ideal S8 .f32) (I1 : FVec Ideal S128x512 .bf16) (I2 I3 I4 I5 : FVec Ideal S128x128 .bf16) : Prop where
  s : ∀ h, I0 (ix1 h) = ((B.s h : ℝ) : EReal)
  q : ∀ r x, I1 (ix2 r x) = ((B.q r x : ℝ) : EReal)
  k : ∀ (c : Fin 256) x, (if h : c.val < 128 then I2 (ix2 ⟨c.val, h⟩ x) else I3 (ix2 ⟨c.val - 128, by omega⟩ x)) = ((B.k c x : ℝ) : EReal)
  v : ∀ (c : Fin 256) x, (if h : c.val < 128 then I4 (ix2 ⟨c.val, h⟩ x) else I5 (ix2 ⟨c.val - 128, by omega⟩ x)) = ((B.v c x : ℝ) : EReal)

section
variable {B : Blk} {I0 : FVec Ideal S8 .f32} {I1 : FVec Ideal S128x512 .bf16} {I2 I3 I4 I5 : FVec Ideal S128x128 .bf16}

theorem qkH_row (hB : IsBlk B I0 I1 I2 I3 I4 I5) (h : Fin 8) (r : Fin 128) (c : Fin 256) :
    qkH (F := Ideal) I1 I2 I3 h (ix2 r c) = ((∑ d : Fin 64, B.q r (hcol h d) * B.k c (kcol h d) : ℝ) : EReal) := by
  have e : qkH (F := Ideal) I1 I2 I3 h (ix2 r c) = ∑ d : Fin 64, (I1 (ix2 r (hcol h d)) : EReal)
      * (if hc : c.val < 128 then I2 (ix2 ⟨c.val, hc⟩ (kcol h d)) else I3 (ix2 ⟨c.val - 128, by omega⟩ (kcol h d)) : EReal) := by
    fin_cases h <;> pointwise [qkH, k0_pay9, k0_pay10, k0_pay11, k0_pay12, k0_pay13, k0_pay14, k0_pay15, k0_pay16, k0_pay17, k0_pay18, k0_pay6, k0_pay8] <;>
      simp [hcol, kcol]
  rw [e, _root_.Own.coe_sum]
  exact Finset.sum_congr rfl fun d _ => (congrArg₂ (· * ·) (hB.q _ _) (hB.k _ _)).trans (EReal.coe_mul _ _).symm

theorem vvH_row (hB : IsBlk B I0 I1 I2 I3 I4 I5) (h : Fin 8) (c : Fin 256) (d : Fin 64) :
    vvH (F := Ideal) I4 I5 h (ix2 c d) = ((B.v c (kcol h d) : ℝ) : EReal) := by
  refine Eq.trans ?_ (hB.v c (kcol h d))
  fin_cases h <;> pointwise [vvH, vLo, vHi, k0_pay7] <;> simp [kcol]

theorem sinkH_eq (h : Fin 8) : sinkH (F := Ideal) I0 h = I0 (ix1 h) := by
  fin_cases h <;> exact sinkL_eq I0 _ _ _

theorem headRow (hB : IsBlk B I0 I1 I2 I3 I4 I5) (i : grid0.Coords) (hi : (i 1).val = B.n) (h : Fin 8) (r : Fin 128) :
    HeadRow (slV h) k0_pay4 (k0_pay5 i) (qkH I1 I2 I3 h) (sinkH I0 h) (B.row h r) r where
  score c := by
    rw [qkH_row hB]
    have e1 : (slV (F := Ideal) h (ix2 r 0) : EReal) = ((_root_.Own.slope h : ℝ) : EReal) := _root_.Own.slopeW_eq h
    have e2 : (k0_pay4 (F := Ideal) (ix2 r c) : EReal) = (((r.val : ℝ) + 128 - (c.val : ℝ) : ℝ) : EReal) := by
      pointwise [k0_pay4, k0_pay3]
      have := _root_.Own.distW_real r.val c.val (by omega) c.isLt
      rw [Nat.mod_eq_of_lt r.isLt] at this; exact this
    rw [e1, e2, ← EReal.coe_mul, ← EReal.coe_mul, ← EReal.coe_sub]; rfl
  mask c := by
    pointwise [k0_pay5, k0_pay3]
    have := _root_.Own.seen_word B.n r.val c.val B.hn (by omega) c.isLt
    rw [hi]; exact this
  sink := (sinkH_eq h).trans (hB.s h)

end

section
variable (V : (c : Dev nD) → (b : Ref sig .tc) → Buf (Elt Ideal) ((c : Thread nD τ).loc b)) (c : Dev nD) (t : Fin cfg0.N) (B : Blk)
  (hB : IsBlk B (iblk0 V c 0 t) (iblk0 V c 1 t) (iblk0 V c 2 t) (iblk0 V c 3 t) (iblk0 V c 4 t) (iblk0 V c 5 t))
  (hi : (grid0.coords t 1).val = B.n)
include hB hi

theorem lseAt_eq (h : Fin 8) (r : Fin 128) (z : Fin 1) : lseAt V c t h (ix2 r z) = ((B.lse h r : ℝ) : EReal) := by
  rw [Fin.fin_one_eq_zero z]; exact lseVec_row (headRow hB _ hi h r)

theorem outAt_eq (h : Fin 8) (r : Fin 128) (d : Fin 64) : outAt V c t h (ix2 r d) = ((B.out h r d : ℝ) : EReal) :=
  outVec_row _ (headRow hB _ hi h r) _ d fun c => vvH_row hB h c d

omit hB hi in
theorem piece_row {s : Shape} (off size : Fin s.rank → ℕ) (hb) (x : (Rect.unit off size hb).shape.Idx) (a : Fin s.rank) :
    ((Rect.unit off size hb).emb x a).val = off a + (x a).val := ValueKit.rect_emb_unit_val off size hb x a

theorem lse_piece (h : Fin 8) (hb) (x : (Rect.unit (s := S128x8) ![0, h.val] ![128, 1] hb).shape.Idx) :
    lseAt V c t h x = (fun y : S128x8.Idx => ((B.lse (y 1) (y 0) : ℝ) : EReal)) ((Rect.unit (s := S128x8) ![0, h.val] ![128, 1] hb).emb x) := by
  have hx : x = ix2 (n0 := 128) (n1 := 1) (x 0) (x 1) := eq_ix2 x
  have e1 : (Rect.unit (s := S128x8) ![0, h.val] ![128, 1] hb).emb x 1 = h := Fin.ext (by
    rw [piece_row]
    have : (x 1).val < 1 := (x 1).isLt
    show h.val + (x 1).val = h.val
    omega)
  have e0 : (Rect.unit (s := S128x8) ![0, h.val] ![128, 1] hb).emb x 0 = x 0 := Fin.ext ((piece_row _ _ _ _ _).trans (Nat.zero_add _))
  dsimp only; rw [e1, e0]; rw [hx]; exact lseAt_eq V c t B hB hi h (x 0) (x 1)

/-- The outputs of a block by its columns. -/
def outG (y : S128x512.Idx) : EReal :=
  ((B.out ⟨(y 1).val / 64, Nat.div_lt_of_lt_mul (show (y 1).val < 64 * 8 from (y 1).isLt)⟩ (y 0) ⟨(y 1).val % 64, Nat.mod_lt _ (by norm_num)⟩ : ℝ) : EReal)

omit hB hi in
theorem outG_eq (y : S128x512.Idx) (r : Fin 128) (h : Fin 8) (d : Fin 64) (e0 : (y 0).val = r.val) (e1 : (y 1).val = 64 * h.val + d.val) :
    outG B y = ((B.out h r d : ℝ) : EReal) := by
  unfold outG
  congr 2
  · exact Fin.ext (by show (y 1).val / 64 = _; omega)
  · exact Fin.ext e0
  · exact Fin.ext (by show (y 1).val % 64 = _; omega)

theorem out_piece (h : Fin 8) (o : ℕ) (ho : o = 64 * h.val) (hb) (x : (Rect.unit (s := S128x512) ![0, o] ![128, 64] hb).shape.Idx) :
    outAt V c t h x = outG B ((Rect.unit (s := S128x512) ![0, o] ![128, 64] hb).emb x) := by
  have hx : x = ix2 (n0 := 128) (n1 := 64) (x 0) (x 1) := eq_ix2 x
  rw [outG_eq B _ (x 0) h (x 1) ((piece_row _ _ _ _ _).trans (Nat.zero_add _)) ((piece_row _ _ _ _ _).trans (by subst ho; rfl))]
  rw [hx]; exact outAt_eq V c t B hB hi h (x 0) (x 1)

/-- The forward point's column of logarithms and block of outputs. -/
theorem fwd_lse (r : Fin 128) (h : Fin 8) : View.canon (fwdAt V c t).2.1 (ix2 r h) = ((B.lse h r : ℝ) : EReal) := by
  refine (View.canon_apply_of_pieces (fun y : S128x8.Idx => ((B.lse (y 1) (y 0) : ℝ) : EReal)) _ ?_ _ (fwdCover7 V c t _))
  rw [fwd_lse_list]
  have P := lse_piece V c t B hB hi
  simp only [List.forall_mem_cons]
  exact ⟨P 7 _, P 6 _, P 5 _, P 4 _, P 3 _, P 2 _, P 1 _, P 0 _, fun _ h => absurd h List.not_mem_nil⟩

theorem fwd_out (r : Fin 128) (h : Fin 8) (d : Fin 64) : View.canon (fwdAt V c t).1 (ix2 r (hcol h d)) = ((B.out h r d : ℝ) : EReal) := by
  refine (View.canon_apply_of_pieces (outG B) _ ?_ _ (fwdCover6 V c t _)).trans (outG_eq B _ r h d rfl rfl)
  rw [fwd_out_list]
  have P := out_piece V c t B hB hi
  simp only [List.forall_mem_cons]
  exact ⟨P 7 _ rfl _, P 6 _ rfl _, P 5 _ rfl _, P 4 _ rfl _, P 3 _ rfl _, P 2 _ rfl _, P 1 _ rfl _, P 0 _ rfl _, fun _ h => absurd h List.not_mem_nil⟩

end

end Cert.AttBackIdeal.Own
end
end
-- ==== Proof.AttBwdRow.lean ====
/-
One group of four heads of the backward kernel at a point: the weights, the gradients of the scores, and what they send
to the queries, the keys, the values and the sinks.
-/
module

public import proofs.«01_k».proof.Proof.AttPoint

set_option maxRecDepth 16384

@[expose] public section

noncomputable section

namespace Cert.AttBackIdeal.Own

open Idealize.ShloMosaic Idealize.ShloMosaic.TcCoe Idealize.SL.Sem Idealize.ShloMosaic.Tactic
open Cert.AttBackIdeal.Gen

section
variable {F : FTy → Type} [FloatOps F]

/-- The weights of a group's rows, stacked head by head. -/
def pV (dist : FVec F S512x256 .f32) (mask : IVec S512x256 1) (kk : FVec F S256x64 .bf16) (sl : FVec F S512x1 .f32) (q : FVec F S512x64 .bf16)
    (ls : FVec F S512x1 .f32) : FVec F S512x256 .f32 :=
  select mask (exp (subf (subf (mulf (matmul dot_S512x64_S256x64_S512x256_1_1_0_0_n_n none q kk (constant S512x256 .f32 0x00000000#32))
      (broadcast S512x256 (Scalar.ofBits .f32 0x3E000000#32))) (mulf (broadcastTo S512x256 sl broadcasts_S512x1_S512x256) dist))
    (broadcastTo S512x256 ls broadcasts_S512x1_S512x256))) (broadcast S512x256 (Scalar.ofBits .f32 0x00000000#32))

/-- The gradients of the scores. -/
def dsV (P : FVec F S512x256 .f32) (vv : FVec F S256x64 .bf16) (g : FVec F S512x64 .f32) (de : FVec F S512x1 .f32) : FVec F S512x256 .f32 :=
  mulf P (subf (matmul dot_S512x64_S256x64_S512x256_1_1_0_0_n_n none (truncf .bf16 g bitsLt_bf16_f32) vv (constant S512x256 .f32 0x00000000#32))
    (broadcastTo S512x256 de broadcasts_S512x1_S512x256))

def dqV (ds : FVec F S512x256 .f32) (kk : FVec F S256x64 .bf16) : FVec F S512x64 .f32 :=
  mulf (matmul dot_S512x256_S256x64_S512x64_1_0_0_1_n_n none (truncf .bf16 ds bitsLt_bf16_f32) kk (constant S512x64 .f32 0x00000000#32))
    (broadcast S512x64 (Scalar.ofBits .f32 0x3E000000#32))

def dkV (ds : FVec F S512x256 .f32) (q : FVec F S512x64 .bf16) : FVec F S64x256 .f32 :=
  mulf (matmul dot_S512x64_S512x256_S64x256_0_0_1_1_n_n none q (truncf .bf16 ds bitsLt_bf16_f32) (constant S64x256 .f32 0x00000000#32))
    (broadcast S64x256 (Scalar.ofBits .f32 0x3E000000#32))

def dvV (P : FVec F S512x256 .f32) (g : FVec F S512x64 .f32) : FVec F S64x256 .f32 :=
  matmul dot_S512x64_S512x256_S64x256_0_0_1_1_n_n none (truncf .bf16 g bitsLt_bf16_f32) (truncf .bf16 P bitsLt_bf16_f32) (constant S64x256 .f32 0x00000000#32)

def sgV (b : BitVec 1) (si ls de : FVec F S512x1 .f32) : FVec F S512x1 .f32 :=
  Scalar.select b (mulf (exp (subf si ls)) de) (broadcast S512x1 (Scalar.ofBits .f32 0x00000000#32))

end

/-- The head and the position of row `R` of group `a`, and column `d` of the group's keys. -/
def hd (a : Fin 2) (R : Fin 512) : Fin 8 := ⟨4 * a.val + R.val / 128, by omega⟩
def rw (R : Fin 512) : Fin 128 := ⟨R.val % 128, by omega⟩
def gcol (a : Fin 2) (d : Fin 64) : Fin 128 := ⟨64 * a.val + d.val, by omega⟩

theorem kcol_hd (a : Fin 2) (R : Fin 512) (d : Fin 64) : kcol (hd a R) d = gcol a d :=
  Fin.ext (by unfold hd gcol; dsimp only; omega)

namespace Blk

variable (B : Blk) (g : Fin 128 → Fin 512 → ℝ)

/-- The gradient of a weight, the inner product of the output with its cotangent, and the gradient of a score. -/
def dp (h : Fin 8) (r : Fin 128) (c : Fin 256) : ℝ := ∑ d : Fin 64, g r (hcol h d) * B.v c (kcol h d)
def de (h : Fin 8) (r : Fin 128) : ℝ := ∑ d : Fin 64, g r (hcol h d) * B.out h r d
def dsc (h : Fin 8) (r : Fin 128) (c : Fin 256) : ℝ := (B.row h r).p c * (B.dp g h r c - B.de g h r)

/-- The gradients of a query, of a key, of a value and of a sink. -/
def dq (h : Fin 8) (r : Fin 128) (d : Fin 64) : ℝ := (∑ c, B.dsc g h r c * B.k c (kcol h d)) * (1 / 8)
def dk (a : Fin 2) (d : Fin 64) (c : Fin 256) : ℝ := (∑ R : Fin 512, B.q (rw R) (hcol (hd a R) d) * B.dsc g (hd a R) (rw R) c) * (1 / 8)
def dv (a : Fin 2) (d : Fin 64) (c : Fin 256) : ℝ := ∑ R : Fin 512, g (rw R) (hcol (hd a R) d) * (B.row (hd a R) (rw R)).p c
def sg (h : Fin 8) (r : Fin 128) : ℝ := (B.row h r).ps * B.de g h r

end Blk

section
variable (B : Blk) (g : Fin 128 → Fin 512 → ℝ) (a : Fin 2)
  (dist : FVec Ideal S512x256 .f32) (mask : IVec S512x256 1) (kk vv : FVec Ideal S256x64 .bf16) (sl si ls de : FVec Ideal S512x1 .f32)
  (q : FVec Ideal S512x64 .bf16) (G : FVec Ideal S512x64 .f32)

/-- What a group's operands have to hold for them to be group `a` of the block `B` with cotangent `g`. -/
structure Grp : Prop where
  dist : ∀ R c, dist (ix2 R c) = ((((rw R).val : ℝ) + 128 - (c.val : ℝ) : ℝ) : EReal)
  mask : ∀ R c, mask (ix2 R c) = if _root_.Own.Seen B.n (rw R).val c.val then 1#1 else 0#1
  kk : ∀ c d, kk (ix2 c d) = ((B.k c (gcol a d) : ℝ) : EReal)
  vv : ∀ c d, vv (ix2 c d) = ((B.v c (gcol a d) : ℝ) : EReal)
  sl : ∀ R, sl (ix2 R 0) = ((_root_.Own.slope (hd a R) : ℝ) : EReal)
  si : ∀ R, si (ix2 R 0) = ((B.s (hd a R) : ℝ) : EReal)
  ls : ∀ R, ls (ix2 R 0) = ((B.lse (hd a R) (rw R) : ℝ) : EReal)
  de : ∀ R, de (ix2 R 0) = ((B.de g (hd a R) (rw R) : ℝ) : EReal)
  q : ∀ R d, q (ix2 R d) = ((B.q (rw R) (hcol (hd a R) d) : ℝ) : EReal)
  G : ∀ R d, G (ix2 R d) = ((g (rw R) (hcol (hd a R) d) : ℝ) : EReal)

variable {B g a dist mask kk vv sl si ls de q G} (h : Grp B g a dist mask kk vv sl si ls de q G)
include h

theorem Grp.score (R : Fin 512) (c : Fin 256) :
    (∑ d : Fin 64, (q (ix2 R d) : EReal) * (kk (ix2 c d) : EReal)) * ((1 / 8 : ℝ) : EReal) - (sl (ix2 R 0) : EReal) * (dist (ix2 R c) : EReal)
      = (((B.row (hd a R) (rw R)).S c : ℝ) : EReal) := by
  rw [Finset.sum_congr rfl fun d _ => (congrArg₂ (· * ·) (h.q R d) (h.kk c d)).trans (EReal.coe_mul _ _).symm, h.sl, h.dist, ← _root_.Own.coe_sum,
    ← EReal.coe_mul, ← EReal.coe_mul, ← EReal.coe_sub]
  unfold Blk.row; dsimp only
  simp only [kcol_hd]

theorem Grp.p (R : Fin 512) (c : Fin 256) : pV (F := Ideal) dist mask kk sl q ls (ix2 R c) = (((B.row (hd a R) (rw R)).p c : ℝ) : EReal) := by
  have e := (B.row (hd a R) (rw R)).exp_sub_log c
  pointwise [pV]
  rw [_root_.Own.kEighth, h.score, h.ls, h.mask, ← EReal.coe_sub, Ideal.exp_coe, ← e]
  unfold Blk.lse
  by_cases hs : _root_.Own.Seen B.n (rw R).val c.val
  · rw [if_pos hs, if_pos (show (B.row (hd a R) (rw R)).M c from hs)]; rfl
  · rw [if_neg hs, if_neg (show ¬(B.row (hd a R) (rw R)).M c from hs)]; rfl

theorem Grp.ds (R : Fin 512) (c : Fin 256) :
    dsV (F := Ideal) (pV dist mask kk sl q ls) vv G de (ix2 R c) = ((B.dsc g (hd a R) (rw R) c : ℝ) : EReal) := by
  pointwise [dsV]
  rw [h.p, Finset.sum_congr rfl fun d _ => (congrArg₂ (· * ·) (h.G R d) (h.vv c d)).trans (EReal.coe_mul _ _).symm, ← _root_.Own.coe_sum, h.de,
    ← EReal.coe_sub, ← EReal.coe_mul]
  unfold Blk.dsc Blk.dp
  simp only [kcol_hd]

theorem Grp.dq (R : Fin 512) (d : Fin 64) :
    dqV (F := Ideal) (dsV (pV dist mask kk sl q ls) vv G de) kk (ix2 R d) = ((B.dq g (hd a R) (rw R) d : ℝ) : EReal) := by
  pointwise [dqV]
  rw [_root_.Own.kEighth, Finset.sum_congr rfl fun c _ => (congrArg₂ (· * ·) (h.ds R c) (h.kk c d)).trans (EReal.coe_mul _ _).symm, ← _root_.Own.coe_sum,
    ← EReal.coe_mul]
  unfold Blk.dq
  simp only [kcol_hd]

theorem Grp.dk (d : Fin 64) (c : Fin 256) :
    dkV (F := Ideal) (dsV (pV dist mask kk sl q ls) vv G de) q (ix2 d c) = ((B.dk g a d c : ℝ) : EReal) := by
  pointwise [dkV]
  rw [_root_.Own.kEighth, Finset.sum_congr rfl fun R _ => (congrArg₂ (· * ·) (h.q R d) (h.ds R c)).trans (EReal.coe_mul _ _).symm, ← _root_.Own.coe_sum,
    ← EReal.coe_mul]
  rfl

theorem Grp.dv (d : Fin 64) (c : Fin 256) :
    dvV (F := Ideal) (pV dist mask kk sl q ls) G (ix2 d c) = ((B.dv g a d c : ℝ) : EReal) := by
  pointwise [dvV]
  rw [Finset.sum_congr rfl fun R _ => (congrArg₂ (· * ·) (h.G R d) (h.p R c)).trans (EReal.coe_mul _ _).symm, ← _root_.Own.coe_sum]
  rfl

theorem Grp.sg (R : Fin 512) : sgV (F := Ideal) 1#1 si ls de (ix2 R 0) = ((B.sg g (hd a R) (rw R) : ℝ) : EReal) := by
  pointwise [sgV]
  rw [h.si, h.ls, h.de, ← EReal.coe_sub, Ideal.exp_coe]
  have e := (B.row (hd a R) (rw R)).exp_sink_sub_log
  unfold Blk.sg Blk.lse
  rw [← e, EReal.coe_mul]; rfl

end

section
variable (dist : FVec Ideal S512x256 .f32) (mask : IVec S512x256 1) (kk vv : FVec Ideal S256x64 .bf16) (sl si ls de : FVec Ideal S512x1 .f32)
  (q : FVec Ideal S512x64 .bf16) (G : FVec Ideal S512x64 .f32)

/-! Where nothing is seen, nothing is sent. -/

variable {mask} (hm : ∀ R c, mask (ix2 R c) = 0#1)
include hm

theorem p_unseen (R : Fin 512) (c : Fin 256) : pV (F := Ideal) dist mask kk sl q ls (ix2 R c) = (0 : EReal) := by
  pointwise [pV]
  rw [hm]; rfl

theorem ds_unseen (R : Fin 512) (c : Fin 256) : dsV (F := Ideal) (pV dist mask kk sl q ls) vv G de (ix2 R c) = (0 : EReal) := by
  pointwise [dsV]
  rw [p_unseen _ _ _ _ _ hm]; exact zero_mul _

theorem dk_unseen (d : Fin 64) (c : Fin 256) : dkV (F := Ideal) (dsV (pV dist mask kk sl q ls) vv G de) q (ix2 d c) = (0 : EReal) := by
  pointwise [dkV]
  rw [Finset.sum_congr rfl fun R _ => (congrArg₂ (· * ·) rfl (ds_unseen _ _ _ _ _ _ _ _ hm R c)).trans (mul_zero _), Finset.sum_const_zero]
  exact zero_mul _

theorem dv_unseen (d : Fin 64) (c : Fin 256) : dvV (F := Ideal) (pV dist mask kk sl q ls) G (ix2 d c) = (0 : EReal) := by
  pointwise [dvV]
  rw [Finset.sum_congr rfl fun R _ => (congrArg₂ (· * ·) rfl (p_unseen _ _ _ _ _ hm R c)).trans (mul_zero _), Finset.sum_const_zero]

omit hm in
theorem sg_unseen (R : Fin 512) : sgV (F := Ideal) 0#1 si ls de (ix2 R 0) = (0 : EReal) := by
  pointwise [sgV]

end

end Cert.AttBackIdeal.Own
end
end
-- ==== Proof.AttBwdIns.lean ====
/-
What the backward kernel reads at a point, and the two groups' vectors it computes from it.
-/
module

public import proofs.«01_k».proof.Proof.AttBwdRow

set_option maxRecDepth 16384

@[expose] public section

noncomputable section

namespace Cert.AttBackIdeal.Own

open Idealize.ShloMosaic Idealize.ShloMosaic.TcCoe Idealize.SL.Sem Idealize.ShloMosaic.Tactic
open Cert.AttBackIdeal.Gen

section
variable {F : FTy → Type} [FloatOps F]

/-- What the backward kernel reads at a point. -/
structure Ins (F : FTy → Type) [FloatOps F] where
  i : grid1.Coords
  x0 : FVec F S8 .f32
  x1 : FVec F S128x512 .bf16
  x2 : FVec F S128x128 .bf16
  x3 : FVec F S128x128 .bf16
  x4 : FVec F S128x128 .bf16
  x5 : FVec F S128x128 .bf16
  x6 : FVec F S128x512 .f32
  x7 : FVec F S128x512 .f32
  x8 : FVec F S128x8 .f32

/-- The sum of a column of 128 rows, negated. -/
def negs (v : FVec F S128x1 .f32) : FVec F S1x1 .f32 :=
  subf (broadcast S1x1 (Scalar.ofBits .f32 0x00000000#32))
    (shapeCast S1x1 (multiReduction .add [0] S1 v 0x00000000#32 reduces_S128x1_S1 (.inl rfl) rfl) shapeCasts_S1_S1x1)

/-- The groups' slopes. -/
def slG : Fin 2 → FVec F S512x1 .f32 := ![k1_pay15, k1_pay41]

namespace Ins
variable (X : Ins F)

def kk : Fin 2 → FVec F S256x64 .bf16 := ![k1_pay13 (k1_pay7 X.x2 X.x3), k1_pay39 (k1_pay7 X.x2 X.x3)]
def vv : Fin 2 → FVec F S256x64 .bf16 := ![k1_pay14 (k1_pay8 X.x4 X.x5), k1_pay40 (k1_pay8 X.x4 X.x5)]
def si : Fin 2 → FVec F S512x1 .f32 :=
  ![k1_pay16 (sinkL X.x0 0 inb_S8_S1_0) (sinkL X.x0 1 inb_S8_S1_1) (sinkL X.x0 2 inb_S8_S1_2) (sinkL X.x0 3 inb_S8_S1_3),
    k1_pay42 (sinkL X.x0 4 inb_S8_S1_4) (sinkL X.x0 5 inb_S8_S1_5) (sinkL X.x0 6 inb_S8_S1_6) (sinkL X.x0 7 inb_S8_S1_7)]
def ls : Fin 2 → FVec F S512x1 .f32 :=
  ![k1_pay24 (k1_pay20 X.x8) (k1_pay21 X.x8) (k1_pay22 X.x8) (k1_pay23 X.x8),
    k1_pay48 (k1_pay12 X.x8) (k1_pay46 (k1_pay12 X.x8)) (k1_pay47 (k1_pay12 X.x8))]
def q : Fin 2 → FVec F S512x64 .bf16 := ![k1_pay17 X.x1, k1_pay43 (k1_pay9 X.x1)]
def g : Fin 2 → FVec F S512x64 .f32 := ![k1_pay18 X.x7, k1_pay44 (k1_pay11 X.x7)]
def de : Fin 2 → FVec F S512x1 .f32 := ![k1_pay19 X.x6 X.x7, k1_pay45 (k1_pay10 X.x6) (k1_pay11 X.x7)]
def live : BitVec 1 := Scalar.cmpi .slt (BitVec.ofNat 32 (X.i 1).val) 16#32

def P (a : Fin 2) : FVec F S512x256 .f32 := pV k1_pay5 (k1_pay6 X.i) (X.kk a) (slG a) (X.q a) (X.ls a)
def ds (a : Fin 2) : FVec F S512x256 .f32 := dsV (X.P a) (X.vv a) (X.g a) (X.de a)
def dq (a : Fin 2) : FVec F S512x64 .f32 := dqV (X.ds a) (X.kk a)
def dk (a : Fin 2) : FVec F S64x256 .f32 := dkV (X.ds a) (X.q a)
def dv (a : Fin 2) : FVec F S64x256 .f32 := dvV (X.P a) (X.g a)
def sg (a : Fin 2) : FVec F S512x1 .f32 := sgV X.live (X.si a) (X.ls a) (X.de a)

/-- A head's gradient of the queries, and its gradient of the sink. -/
def dqP : Fin 8 → FVec F S128x64 .f32 :=
  ![extractStridedSlice S128x64 ![0, 0] (X.dq 0) slices_S512x64_o0_0_S128x64, extractStridedSlice S128x64 ![128, 0] (X.dq 0) slices_S512x64_o128_0_S128x64,
    extractStridedSlice S128x64 ![256, 0] (X.dq 0) slices_S512x64_o256_0_S128x64, extractStridedSlice S128x64 ![384, 0] (X.dq 0) slices_S512x64_o384_0_S128x64,
    extractStridedSlice S128x64 ![0, 0] (X.dq 1) slices_S512x64_o0_0_S128x64, extractStridedSlice S128x64 ![128, 0] (X.dq 1) slices_S512x64_o128_0_S128x64,
    extractStridedSlice S128x64 ![256, 0] (X.dq 1) slices_S512x64_o256_0_S128x64, extractStridedSlice S128x64 ![384, 0] (X.dq 1) slices_S512x64_o384_0_S128x64]
def sgP : Fin 8 → FVec F S1x1 .f32 :=
  ![negs (extractStridedSlice S128x1 ![0, 0] (X.sg 0) slices_S512x1_o0_0_S128x1), negs (extractStridedSlice S128x1 ![128, 0] (X.sg 0) slices_S512x1_o128_0_S128x1),
    negs (extractStridedSlice S128x1 ![256, 0] (X.sg 0) slices_S512x1_o256_0_S128x1), negs (extractStridedSlice S128x1 ![384, 0] (X.sg 0) slices_S512x1_o384_0_S128x1),
    negs (extractStridedSlice S128x1 ![0, 0] (X.sg 1) slices_S512x1_o0_0_S128x1), negs (extractStridedSlice S128x1 ![128, 0] (X.sg 1) slices_S512x1_o128_0_S128x1),
    negs (extractStridedSlice S128x1 ![256, 0] (X.sg 1) slices_S512x1_o256_0_S128x1), negs (extractStridedSlice S128x1 ![384, 0] (X.sg 1) slices_S512x1_o384_0_S128x1)]
def row : FVec F S1x8 .f32 :=
  concatenate S1x8 1 [⟨S1x1, X.sgP 0⟩, ⟨S1x1, X.sgP 1⟩, ⟨S1x1, X.sgP 2⟩, ⟨S1x1, X.sgP 3⟩, ⟨S1x1, X.sgP 4⟩, ⟨S1x1, X.sgP 5⟩, ⟨S1x1, X.sgP 6⟩, ⟨S1x1, X.sgP 7⟩]
    concatenates_S1x1_S1x1_S1x1_S1x1_S1x1_S1x1_S1x1_S1x1_S1x8_d1

/-- The pieces of the block of the queries' gradient, last first. -/
def dqL : List (View.Piece (Elt F) S128x512 .f32) :=
  [⟨Rect.unit ![0, 448] ![128, 64] inb_S128x512_S128x64_0_448, X.dqP 7⟩, ⟨Rect.unit ![0, 384] ![128, 64] inb_S128x512_S128x64_0_384, X.dqP 6⟩,
   ⟨Rect.unit ![0, 320] ![128, 64] inb_S128x512_S128x64_0_320, X.dqP 5⟩, ⟨Rect.unit ![0, 256] ![128, 64] inb_S128x512_S128x64_0_256, X.dqP 4⟩,
   ⟨Rect.unit ![0, 192] ![128, 64] inb_S128x512_S128x64_0_192, X.dqP 3⟩, ⟨Rect.unit ![0, 128] ![128, 64] inb_S128x512_S128x64_0_128, X.dqP 2⟩,
   ⟨Rect.unit ![0, 64] ![128, 64] inb_S128x512_S128x64_0_64, X.dqP 1⟩, ⟨Rect.unit ![0, 0] ![128, 64] inb_S128x512_S128x64_0_0, X.dqP 0⟩]

end Ins

variable (V : (c : Dev nD) → (b : Ref sig .tc) → Buf (Elt F) ((c : Thread nD τ).loc b))

/-- What point `t` reads. -/
def readAt (c : Dev nD) (t : Fin cfg1.N) : Ins F :=
  ⟨grid1.coords t, iblk1 V c 0 t, iblk1 V c 1 t, iblk1 V c 2 t, iblk1 V c 3 t, iblk1 V c 4 t, iblk1 V c 5 t, iblk1 V c 6 t, iblk1 V c 7 t, iblk1 V c 8 t⟩

variable (c : Dev nD) (t : Fin cfg1.N)

/-! The kernel's own words for the two groups' vectors. -/

section
variable (i : grid1.Coords) (x0 : FVec F S8 .f32) (x1 : FVec F S128x512 .bf16) (x2 x3 x4 x5 : FVec F S128x128 .bf16) (x6 x7 : FVec F S128x512 .f32) (x8 : FVec F S128x8 .f32)

theorem dk0_eq : k1_pay28 k1_pay5 (k1_pay6 i) (k1_pay13 (k1_pay7 x2 x3)) (k1_pay14 (k1_pay8 x4 x5)) k1_pay15 (k1_pay17 x1) (k1_pay18 x7) (k1_pay19 x6 x7)
    (k1_pay20 x8) (k1_pay21 x8) (k1_pay22 x8) (k1_pay23 x8) = (Ins.mk i x0 x1 x2 x3 x4 x5 x6 x7 x8).dk 0 := rfl
theorem dk1_eq : k1_pay52 k1_pay5 (k1_pay6 i) (k1_pay12 x8) (k1_pay39 (k1_pay7 x2 x3)) (k1_pay40 (k1_pay8 x4 x5)) k1_pay41 (k1_pay43 (k1_pay9 x1)) (k1_pay44 (k1_pay11 x7))
    (k1_pay45 (k1_pay10 x6) (k1_pay11 x7)) (k1_pay46 (k1_pay12 x8)) (k1_pay47 (k1_pay12 x8)) = (Ins.mk i x0 x1 x2 x3 x4 x5 x6 x7 x8).dk 1 := rfl
theorem dv0_eq : k1_pay29 k1_pay5 (k1_pay6 i) (k1_pay13 (k1_pay7 x2 x3)) k1_pay15 (k1_pay17 x1) (k1_pay18 x7)
    (k1_pay20 x8) (k1_pay21 x8) (k1_pay22 x8) (k1_pay23 x8) = (Ins.mk i x0 x1 x2 x3 x4 x5 x6 x7 x8).dv 0 := rfl
theorem dv1_eq : k1_pay53 k1_pay5 (k1_pay6 i) (k1_pay12 x8) (k1_pay39 (k1_pay7 x2 x3)) k1_pay41 (k1_pay43 (k1_pay9 x1)) (k1_pay44 (k1_pay11 x7))
    (k1_pay46 (k1_pay12 x8)) (k1_pay47 (k1_pay12 x8)) = (Ins.mk i x0 x1 x2 x3 x4 x5 x6 x7 x8).dv 1 := rfl

end

end

end Cert.AttBackIdeal.Own
end
end
-- ==== Proof.AttBwdVal.lean ====
/-
The backward kernel at a point, over the real numbers: what each group's vectors hold.
-/
module

public import proofs.«01_k».proof.Proof.AttBwdIns

set_option maxRecDepth 16384

@[expose] public section

noncomputable section

namespace Cert.AttBackIdeal.Own

open Idealize.ShloMosaic Idealize.ShloMosaic.TcCoe Idealize.SL.Sem Idealize.ShloMosaic.Tactic
open Cert.AttBackIdeal.Gen

/-- A point's inputs hold the block `B` and the cotangent `g`. -/
structure IsIns (B : Blk) (g : Fin 128 → Fin 512 → ℝ) (X : Ins Ideal) : Prop where
  blk : IsBlk B X.x0 X.x1 X.x2 X.x3 X.x4 X.x5
  g : ∀ r x, X.x7 (ix2 r x) = ((g r x : ℝ) : EReal)
  o : ∀ r h d, X.x6 (ix2 r (hcol h d)) = ((B.out h r d : ℝ) : EReal)
  l : ∀ r h, X.x8 (ix2 r h) = ((B.lse h r : ℝ) : EReal)

section
variable {B : Blk} {g : Fin 128 → Fin 512 → ℝ} {X : Ins Ideal} (hX : IsIns B g X) (a : Fin 2)
include hX

theorem IsIns.kk (c : Fin 256) (d : Fin 64) : X.kk a (ix2 c d) = ((B.k c (gcol a d) : ℝ) : EReal) := by
  refine Eq.trans ?_ (hX.blk.k c (gcol a d))
  fin_cases a <;> pointwise [Ins.kk, k1_pay13, k1_pay39, k1_pay7] <;> simp [gcol]

theorem IsIns.vv (c : Fin 256) (d : Fin 64) : X.vv a (ix2 c d) = ((B.v c (gcol a d) : ℝ) : EReal) := by
  refine Eq.trans ?_ (hX.blk.v c (gcol a d))
  fin_cases a <;> pointwise [Ins.vv, k1_pay14, k1_pay40, k1_pay8] <;> simp [gcol]

theorem IsIns.q (R : Fin 512) (d : Fin 64) : X.q a (ix2 R d) = ((B.q (rw R) (hcol (hd a R) d) : ℝ) : EReal) := by
  refine Eq.trans ?_ (hX.blk.q (rw R) (hcol (hd a R) d))
  fin_cases a <;> pointwise [Ins.q, k1_pay17, k1_pay43, k1_pay9] <;> split_ifs <;>
    exact congrArg X.x1 (congrArg₂ ix2 (Fin.ext (by simp [rw]; omega)) (Fin.ext (by simp [hd]; omega)))

theorem IsIns.G (R : Fin 512) (d : Fin 64) : X.g a (ix2 R d) = ((g (rw R) (hcol (hd a R) d) : ℝ) : EReal) := by
  refine Eq.trans ?_ (hX.g (rw R) (hcol (hd a R) d))
  fin_cases a <;> pointwise [Ins.g, k1_pay18, k1_pay44, k1_pay11] <;> split_ifs <;>
    exact congrArg X.x7 (congrArg₂ ix2 (Fin.ext (by simp [rw]; omega)) (Fin.ext (by simp [hd]; omega)))

theorem IsIns.ls (R : Fin 512) : X.ls a (ix2 R 0) = ((B.lse (hd a R) (rw R) : ℝ) : EReal) := by
  refine Eq.trans ?_ (hX.l (rw R) (hd a R))
  fin_cases a <;> pointwise [Ins.ls, k1_pay24, k1_pay20, k1_pay21, k1_pay22, k1_pay23, k1_pay48, k1_pay12, k1_pay46, k1_pay47] <;> split_ifs <;>
    exact congrArg X.x8 (congrArg₂ ix2 (Fin.ext (by simp [rw]; omega)) (Fin.ext (by simp [hd]; omega)))

set_option maxHeartbeats 2000000 in
theorem IsIns.de (R : Fin 512) : X.de a (ix2 R 0) = ((B.de g (hd a R) (rw R) : ℝ) : EReal) := by
  have e : X.de a (ix2 R 0) = ∑ d : Fin 64, (X.g a (ix2 R d) : EReal) * (X.x6 (ix2 (rw R) (hcol (hd a R) d)) : EReal) := by
    fin_cases a <;> pointwise [Ins.de, k1_pay19, k1_pay45, k1_pay10, k1_pay11] <;> refine Finset.sum_congr rfl fun d _ => ?_ <;> split_ifs <;>
      exact congrArg₂ (· * ·) (by first | rfl | pointwise [Ins.g, k1_pay44, k1_pay11]) (congrArg X.x6 (congrArg₂ ix2 (Fin.ext (by simp [rw]; omega)) (Fin.ext (by simp [hd]; omega))))
  rw [e, Finset.sum_congr rfl fun d _ => (congrArg₂ (· * ·) (hX.G a R d) (hX.o (rw R) (hd a R) d)).trans (EReal.coe_mul _ _).symm, ← _root_.Own.coe_sum]
  rfl

theorem IsIns.si (R : Fin 512) : X.si a (ix2 R 0) = ((B.s (hd a R) : ℝ) : EReal) := by
  refine Eq.trans ?_ (hX.blk.s (hd a R))
  fin_cases a <;> pointwise [Ins.si, k1_pay16, k1_pay42] <;> split_ifs <;>
    exact (sinkL_eq X.x0 _ _ (by omega)).trans (congrArg X.x0 (congrArg ix1 (Fin.ext (by simp [hd]; omega))))

omit hX in
theorem sl_row (R : Fin 512) : slG (F := Ideal) a (ix2 R 0) = ((_root_.Own.slope (hd a R) : ℝ) : EReal) := by
  refine Eq.trans ?_ (_root_.Own.slopeW_eq (hd a R))
  fin_cases a <;> pointwise [slG, k1_pay15, k1_pay41] <;> split_ifs
  · rw [show hd 0 R = 0 from Fin.ext (by simp [hd]; omega)]; rfl
  · rw [show hd 0 R = 1 from Fin.ext (by simp [hd]; omega)]; rfl
  · rw [show hd 0 R = 2 from Fin.ext (by simp [hd]; omega)]; rfl
  · rw [show hd 0 R = 3 from Fin.ext (by simp [hd]; omega)]; rfl
  · rw [show hd 1 R = 4 from Fin.ext (by simp [hd]; omega)]; rfl
  · rw [show hd 1 R = 5 from Fin.ext (by simp [hd]; omega)]; rfl
  · rw [show hd 1 R = 6 from Fin.ext (by simp [hd]; omega)]; rfl
  · rw [show hd 1 R = 7 from Fin.ext (by simp [hd]; omega)]; rfl

omit hX in
theorem dist_row (R : Fin 512) (c : Fin 256) : k1_pay5 (F := Ideal) (ix2 R c) = ((((rw R).val : ℝ) + 128 - (c.val : ℝ) : ℝ) : EReal) := by
  pointwise [k1_pay5, k1_pay4]
  exact _root_.Own.distW_real R.val c.val R.isLt c.isLt

omit hX in
theorem live_word (n : ℕ) (hn : n < 17) : Scalar.cmpi .slt (BitVec.ofNat 32 n) 16#32 = if n < 16 then 1#1 else 0#1 := by
  interval_cases n <;> rfl

omit hX in
theorem mask_row (i : grid1.Coords) (n : ℕ) (hi : (i 1).val = n) (hn : n < 17) (R : Fin 512) (c : Fin 256) :
    k1_pay6 i (ix2 R c) = if n < 16 ∧ _root_.Own.Seen n (rw R).val c.val then 1#1 else 0#1 := by
  have e := _root_.Own.seen_word n R.val c.val (by omega) R.isLt c.isLt
  have e2 := live_word n hn
  pointwise [k1_pay6, k1_pay4]
  rw [hi]
  refine (congrArg₂ IntOp.andi e e2).trans ?_
  have er : _root_.Own.Seen n (rw R).val c.val ↔ _root_.Own.Seen n R.val c.val := by simp only [_root_.Own.Seen, rw, Nat.mod_mod]
  by_cases h1 : n < 16 <;> by_cases h2 : _root_.Own.Seen n R.val c.val <;> simp only [er, h1, h2, if_true, if_false, and_self, and_true, true_and, and_false, false_and] <;> rfl

variable (hi : (X.i 1).val = B.n) (hn : B.n < 16)
include hi hn

theorem IsIns.grp : Grp B g a k1_pay5 (k1_pay6 X.i) (X.kk a) (X.vv a) (slG a) (X.si a) (X.ls a) (X.de a) (X.q a) (X.g a) where
  dist := dist_row
  mask R c := (mask_row X.i B.n hi (by omega) R c).trans (by simp only [hn, true_and])
  kk := hX.kk a
  vv := hX.vv a
  sl := sl_row a
  si := hX.si a
  ls := hX.ls a
  de := hX.de a
  q := hX.q a
  G := hX.G a

end

end Cert.AttBackIdeal.Own
end
end
-- ==== Proof.AttRead.lean ====
/-
The arguments as real numbers, and the blocks the two calls read off them.
-/
module

public import proofs.«01_k».proof.Proof.AttMain
public import proofs.«01_k».proof.Proof.AttPoint
public import Idealize.ShloMosaic.Lib.Pipeline.ValueKit
public import Idealize.ShloMosaic.Lib.Claim

set_option maxRecDepth 16384

@[expose] public section

noncomputable section

namespace Cert.AttBackIdeal.Own

open Idealize.ShloMosaic Idealize.ShloMosaic.TcCoe Idealize.SL.Sem Idealize.ShloMosaic.Tactic
open Idealize.ShloMosaic.Pipeline (Dat)
open Cert.AttBackIdeal.Gen

/-- The arguments: queries, keys, values, sinks and the cotangent of the outputs. -/
structure Data where
  q : Fin 2 → Fin 2048 → Fin 512 → ℝ
  k : Fin 2 → Fin 2048 → Fin 128 → ℝ
  v : Fin 2 → Fin 2048 → Fin 128 → ℝ
  s : Fin 8 → ℝ
  g : Fin 2 → Fin 2048 → Fin 512 → ℝ

/-- Position `r` of block `n`, and position `c` of the two blocks that end with block `n`. -/
def pos (n : Fin 16) (r : Fin 128) : Fin 2048 := ⟨128 * n.val + r.val, by omega⟩
def bpos (n : Fin 16) (c : Fin 256) : Fin 2048 :=
  ⟨if c.val < 128 then 128 * (n.val - 1) + c.val else 128 * n.val + (c.val - 128), by split <;> omega⟩

/-- Block `n` of sequence `b`. -/
def Data.blk (D : Data) (b : Fin 2) (n : Fin 16) : Blk where
  n := n.val
  hn := by omega
  q r x := D.q b (pos n r) x
  k c x := D.k b (bpos n c) x
  v c x := D.v b (bpos n c) x
  s := D.s

variable (m : (ℓ : Loc nD τ sig) → Buf (Elt Ideal) ℓ) (c : Dev nD)

/-- The arguments hold the real numbers of `D`. -/
structure IsData (D : Data) : Prop where
  q : ∀ b s x, m ((c : Thread nD τ).loc main_arg0) (ix3 b s x) = ((D.q b s x : ℝ) : EReal)
  k : ∀ b s x, m ((c : Thread nD τ).loc main_arg1) (ix3 b s x) = ((D.k b s x : ℝ) : EReal)
  v : ∀ b s x, m ((c : Thread nD τ).loc main_arg2) (ix3 b s x) = ((D.v b s x : ℝ) : EReal)
  s : ∀ z h, m ((c : Thread nD τ).loc main_arg3) (ix2 z h) = ((D.s h : ℝ) : EReal)
  g : ∀ b s x, m ((c : Thread nD τ).loc main_arg4) (ix3 b s x) = ((D.g b s x : ℝ) : EReal)

/-- Row `R` of the arrays that hold both sequences one after the other. -/
abbrev sq (R : Fin 4096) : Fin 2 := ⟨R.val / 2048, by omega⟩
abbrev ps (R : Fin 4096) : Fin 2048 := ⟨R.val % 2048, by omega⟩

variable {m c} {D : Data} (hD : IsData m c D)
include hD

theorem V1_q (R : Fin 4096) (x : Fin 512) : V1 m c main_v1 (ix2 R x) = ((D.q (sq R) (ps R) x : ℝ) : EReal) := by
  rw [← hD.q]
  unfold V1 W1
  entry_read
  pointwise

theorem V1_k (R : Fin 4096) (x : Fin 128) : V1 m c main_v3 (ix2 R x) = ((D.k (sq R) (ps R) x : ℝ) : EReal) := by
  rw [← hD.k]
  unfold V1 W1
  entry_read
  pointwise

theorem V1_v (R : Fin 4096) (x : Fin 128) : V1 m c main_v5 (ix2 R x) = ((D.v (sq R) (ps R) x : ℝ) : EReal) := by
  rw [← hD.v]
  unfold V1 W1
  entry_read
  pointwise

theorem V1_s (h : Fin 8) : V1 m c main_v6 (ix1 h) = ((D.s h : ℝ) : EReal) := by
  rw [← hD.s 0]
  unfold V1 W1
  entry_read
  pointwise

theorem V3_g (R : Fin 4096) (x : Fin 512) : V3 m c main_v8 (ix2 R x) = ((D.g (sq R) (ps R) x : ℝ) : EReal) := by
  rw [← hD.g]
  unfold V3 W3
  entry_read
  have e : W2 m c (Proc.devRef .tc main_arg4) = m ((c : Thread nD τ).loc main_arg4) := by
    rw [W2_kept m c main_arg4 (by decide +kernel), W1_kept m c main_arg4 (by decide +kernel)]
  pointwise
  exact congrFun e _

omit hD

theorem idx0_0 : ∀ t : Fin cfg0.N, win0_0.index t = ![0] := (by decide +kernel : ∀ t : Fin grid0.N, _)
theorem idx0_1 : ∀ t : Fin cfg0.N, win0_1.index t = ![t.val, 0] := (by decide +kernel : ∀ t : Fin grid0.N, _)
theorem idx0_2 : ∀ t : Fin cfg0.N, win0_2.index t = ![16 * (t.val / 16) + (t.val % 16 - 1), 0] := (by decide +kernel : ∀ t : Fin grid0.N, _)
theorem idx0_3 : ∀ t : Fin cfg0.N, win0_3.index t = ![t.val, 0] := (by decide +kernel : ∀ t : Fin grid0.N, _)
theorem idx0_4 : ∀ t : Fin cfg0.N, win0_4.index t = ![16 * (t.val / 16) + (t.val % 16 - 1), 0] := (by decide +kernel : ∀ t : Fin grid0.N, _)
theorem idx0_5 : ∀ t : Fin cfg0.N, win0_5.index t = ![t.val, 0] := (by decide +kernel : ∀ t : Fin grid0.N, _)
theorem idx0_6 : ∀ t : Fin cfg0.N, win0_6.index t = ![t.val, 0] := (by decide +kernel : ∀ t : Fin grid0.N, _)
theorem idx0_7 : ∀ t : Fin cfg0.N, win0_7.index t = ![t.val, 0] := (by decide +kernel : ∀ t : Fin grid0.N, _)

/-- The sequence and the block of a point of the forward call. -/
abbrev fb (t : Fin cfg0.N) : Fin 2 := ⟨t.val / 16, by have := t.isLt; have h : cfg0.N = 32 := N_0; omega⟩
abbrev fn (t : Fin cfg0.N) : Fin 16 := ⟨t.val % 16, by omega⟩

theorem coords0 : ∀ t : Fin cfg0.N, (grid0.coords t 1).val = t.val % 16 := (by decide +kernel : ∀ t : Fin grid0.N, _)

theorem fblk_0 (t : Fin cfg0.N) (x : Fin 8) : iblk0 (V1 m) c 0 t (ix1 x) = V1 m c main_v6 (ix1 x) := by
  blk_simp [iblk0, idx0_0 t]
  blk_ext [iblk0, idx0_0 t]

/-- Row `r` of block `j` of the arrays that hold both sequences. -/
def arow (j : Fin 32) (r : Fin 128) : Fin 4096 := ⟨128 * j.val + r.val, by omega⟩

theorem fblk_1 (t : Fin cfg0.N) (r : Fin 128) (x : Fin 512) :
    iblk0 (V1 m) c 1 t (ix2 r x) = V1 m c main_v1 (ix2 (arow ⟨t.val, lt_of_lt_of_eq t.isLt N_0⟩ r) x) := by
  unfold arow
  blk_simp [iblk0, idx0_1 t]
  blk_ext [iblk0, idx0_1 t]

theorem fblk_2 (t : Fin cfg0.N) (r : Fin 128) (x : Fin 128) :
    iblk0 (V1 m) c 2 t (ix2 r x) = V1 m c main_v3 (ix2 (arow ⟨16 * (t.val / 16) + (t.val % 16 - 1), by have := lt_of_lt_of_eq t.isLt N_0; omega⟩ r) x) := by
  unfold arow
  blk_simp [iblk0, idx0_2 t]
  blk_ext [iblk0, idx0_2 t]

theorem fblk_3 (t : Fin cfg0.N) (r : Fin 128) (x : Fin 128) :
    iblk0 (V1 m) c 3 t (ix2 r x) = V1 m c main_v3 (ix2 (arow ⟨t.val, lt_of_lt_of_eq t.isLt N_0⟩ r) x) := by
  unfold arow
  blk_simp [iblk0, idx0_3 t]
  blk_ext [iblk0, idx0_3 t]

theorem fblk_4 (t : Fin cfg0.N) (r : Fin 128) (x : Fin 128) :
    iblk0 (V1 m) c 4 t (ix2 r x) = V1 m c main_v5 (ix2 (arow ⟨16 * (t.val / 16) + (t.val % 16 - 1), by have := lt_of_lt_of_eq t.isLt N_0; omega⟩ r) x) := by
  unfold arow
  blk_simp [iblk0, idx0_4 t]
  blk_ext [iblk0, idx0_4 t]

theorem fblk_5 (t : Fin cfg0.N) (r : Fin 128) (x : Fin 128) :
    iblk0 (V1 m) c 5 t (ix2 r x) = V1 m c main_v5 (ix2 (arow ⟨t.val, lt_of_lt_of_eq t.isLt N_0⟩ r) x) := by
  unfold arow
  blk_simp [iblk0, idx0_5 t]
  blk_ext [iblk0, idx0_5 t]

/-- The place of a row of block `j`. -/
theorem sq_arow (b : Fin 2) (n : Fin 16) (j : Fin 32) (r : Fin 128) (h : j.val = 16 * b.val + n.val) : sq (arow j r) = b :=
  Fin.ext (by unfold arow; dsimp only; omega)
theorem ps_arow (b : Fin 2) (n : Fin 16) (j : Fin 32) (r : Fin 128) (h : j.val = 16 * b.val + n.val) : ps (arow j r) = pos n r :=
  Fin.ext (by unfold arow pos; dsimp only; omega)

theorem bpos_lo (n : Fin 16) (x : Fin 256) (h : x.val < 128) : bpos n x = pos ⟨n.val - 1, by omega⟩ ⟨x.val, h⟩ :=
  Fin.ext (by unfold bpos pos; dsimp only; rw [if_pos h])
theorem bpos_hi (n : Fin 16) (x : Fin 256) (h : ¬x.val < 128) : bpos n x = pos n ⟨x.val - 128, by omega⟩ :=
  Fin.ext (by unfold bpos pos; dsimp only; rw [if_neg h])

include hD

theorem isBlk0 (t : Fin cfg0.N) : IsBlk (D.blk (fb t) (fn t)) (iblk0 (V1 m) c 0 t) (iblk0 (V1 m) c 1 t) (iblk0 (V1 m) c 2 t)
    (iblk0 (V1 m) c 3 t) (iblk0 (V1 m) c 4 t) (iblk0 (V1 m) c 5 t) := by
  have hN := lt_of_lt_of_eq t.isLt N_0
  constructor
  · intro h; rw [fblk_0, V1_s hD]; rfl
  · intro r x
    rw [fblk_1, V1_q hD, sq_arow (fb t) (fn t) _ _ (by dsimp only; omega), ps_arow (fb t) (fn t) _ _ (by dsimp only; omega)]; rfl
  · intro y x
    by_cases h : y.val < 128
    · rw [dif_pos h, fblk_2, V1_k hD, sq_arow (fb t) ⟨t.val % 16 - 1, by omega⟩ _ _ (by dsimp only),
        ps_arow (fb t) ⟨t.val % 16 - 1, by omega⟩ _ _ (by dsimp only)]
      unfold Data.blk; dsimp only; rw [bpos_lo _ _ h]
    · rw [dif_neg h, fblk_3, V1_k hD, sq_arow (fb t) (fn t) _ _ (by dsimp only; omega), ps_arow (fb t) (fn t) _ _ (by dsimp only; omega)]
      unfold Data.blk; dsimp only; rw [bpos_hi _ _ h]
  · intro y x
    by_cases h : y.val < 128
    · rw [dif_pos h, fblk_4, V1_v hD, sq_arow (fb t) ⟨t.val % 16 - 1, by omega⟩ _ _ (by dsimp only),
        ps_arow (fb t) ⟨t.val % 16 - 1, by omega⟩ _ _ (by dsimp only)]
      unfold Data.blk; dsimp only; rw [bpos_lo _ _ h]
    · rw [dif_neg h, fblk_5, V1_v hD, sq_arow (fb t) (fn t) _ _ (by dsimp only; omega), ps_arow (fb t) (fn t) _ _ (by dsimp only; omega)]
      unfold Data.blk; dsimp only; rw [bpos_hi _ _ h]

omit hD

/-- The block and the place in it of a position. -/
abbrev pb (s : Fin 2048) : Fin 16 := ⟨s.val / 128, by omega⟩
abbrev pr (s : Fin 2048) : Fin 128 := ⟨s.val % 128, by omega⟩
/-- The head and the place in it of a column. -/
abbrev ch (x : Fin 512) : Fin 8 := ⟨x.val / 64, by omega⟩
abbrev cd (x : Fin 512) : Fin 64 := ⟨x.val % 64, by omega⟩

theorem hcol_ch_cd (x : Fin 512) : hcol (ch x) (cd x) = x := Fin.ext (by dsimp only; omega)

/-- The outputs and the saved logarithms of all positions. -/
def Data.o (D : Data) (b : Fin 2) (s : Fin 2048) (x : Fin 512) : ℝ := (D.blk b (pb s)).out (ch x) (pr s) (cd x)
def Data.l (D : Data) (b : Fin 2) (s : Fin 2048) (h : Fin 8) : ℝ := (D.blk b (pb s)).lse h (pr s)

def arrO (D : Data) (y : S4096x512.Idx) : EReal := ((D.o (sq (y 0)) (ps (y 0)) (y 1) : ℝ) : EReal)
def arrL (D : Data) (y : S4096x8.Idx) : EReal := ((D.l (sq (y 0)) (ps (y 0)) (y 1) : ℝ) : EReal)

include hD

theorem arr0_6 : (dat0 (V1 m) c).arrAt 6 cfg0.N = arrO D := by
  refine (dat0 (V1 m) c).arrAt_eq_of_covers 6 _ (by decide +kernel) fun t hf y => ?_
  blk_simp
  obtain ⟨r, x, rfl⟩ : ∃ (r : Fin 128) (x : Fin 512), y = ix2 r x := ⟨y 0, y 1, eq_ix2 (n0 := 128) (n1 := 512) y⟩
  have hN := lt_of_lt_of_eq t.isLt N_0
  have e : (win0_6.blk t).view.emb (ix2 r x) = ix2 (arow ⟨t.val, hN⟩ r) x := by
    unfold arow
    blk_ext [idx0_6 t]
  have k := fwd_out (V1 m) c t _ (isBlk0 hD t) (coords0 t) r (ch x) (cd x)
  rw [hcol_ch_cd] at k
  refine k.trans ?_
  rw [e]
  unfold arrO Data.o
  have e1 := sq_arow (fb t) (fn t) ⟨t.val, hN⟩ r (by dsimp only; omega)
  have e2 := ps_arow (fb t) (fn t) ⟨t.val, hN⟩ r (by dsimp only; omega)
  have e3 : pb (pos (fn t) r) = fn t := Fin.ext (by unfold pos; dsimp only; omega)
  have e4 : pr (pos (fn t) r) = r := Fin.ext (by unfold pos; dsimp only; omega)
  show _ = (((D.blk (sq (arow ⟨t.val, hN⟩ r)) (pb (ps (arow ⟨t.val, hN⟩ r)))).out (ch x) (pr (ps (arow ⟨t.val, hN⟩ r))) (cd x) : ℝ) : EReal)
  rw [e1, e2, e3, e4]

theorem arr0_7 : (dat0 (V1 m) c).arrAt 7 cfg0.N = arrL D := by
  refine (dat0 (V1 m) c).arrAt_eq_of_covers 7 _ (by decide +kernel) fun t hf y => ?_
  blk_simp
  obtain ⟨r, x, rfl⟩ : ∃ (r : Fin 128) (x : Fin 8), y = ix2 r x := ⟨y 0, y 1, eq_ix2 (n0 := 128) (n1 := 8) y⟩
  have hN := lt_of_lt_of_eq t.isLt N_0
  have e : (win0_7.blk t).view.emb (ix2 r x) = ix2 (arow ⟨t.val, hN⟩ r) x := by
    unfold arow
    blk_ext [idx0_7 t]
  refine (fwd_lse (V1 m) c t _ (isBlk0 hD t) (coords0 t) r x).trans ?_
  rw [e]
  unfold arrL Data.l
  have e1 := sq_arow (fb t) (fn t) ⟨t.val, hN⟩ r (by dsimp only; omega)
  have e2 := ps_arow (fb t) (fn t) ⟨t.val, hN⟩ r (by dsimp only; omega)
  have e3 : pb (pos (fn t) r) = fn t := Fin.ext (by unfold pos; dsimp only; omega)
  have e4 : pr (pos (fn t) r) = r := Fin.ext (by unfold pos; dsimp only; omega)
  show _ = (((D.blk (sq (arow ⟨t.val, hN⟩ r)) (pb (ps (arow ⟨t.val, hN⟩ r)))).lse x (pr (ps (arow ⟨t.val, hN⟩ r))) : ℝ) : EReal)
  rw [e1, e2, e3, e4]

omit hD

/-! ## What the backward call reads -/

theorem V3_old (r : Ref sig .tc) (h1 : r ∉ wrote1) (h : ∀ w : Fin cfg0.W, Pipeline.arrRef spec0 w = r → (cfg0.win w).isOut = false) :
    V3 m c r = V1 m c r := by
  show W3 m c (Proc.devRef .tc r) = _
  rw [W3_kept m c r h1, W2_kept m c r h]

theorem V3_v6 : V3 m c main_v6 = V1 m c main_v6 := V3_old _ (by decide +kernel) (by decide +kernel)
theorem V3_v1 : V3 m c main_v1 = V1 m c main_v1 := V3_old _ (by decide +kernel) (by decide +kernel)
theorem V3_v3 : V3 m c main_v3 = V1 m c main_v3 := V3_old _ (by decide +kernel) (by decide +kernel)
theorem V3_v5 : V3 m c main_v5 = V1 m c main_v5 := V3_old _ (by decide +kernel) (by decide +kernel)
theorem V3_o (hD : IsData m c D) : V3 m c main_v7_0 = arrO D :=
  (W3_kept m c main_v7_0 (by decide +kernel)).trans ((W2_arr m c 6).trans (arr0_6 hD))
theorem V3_l (hD : IsData m c D) : V3 m c main_v7_1 = arrL D :=
  (W3_kept m c main_v7_1 (by decide +kernel)).trans ((W2_arr m c 7).trans (arr0_7 hD))

/-- The sequence and the block of a point of the backward call, whose last point of a sequence stays at the last block. -/
abbrev bb (t : Fin cfg1.N) : Fin 2 := ⟨t.val / 17, by have := t.isLt; have h : cfg1.N = 34 := N_1; omega⟩
abbrev bn (t : Fin cfg1.N) : Fin 16 := ⟨min (t.val % 17) 15, by omega⟩
abbrev bj (t : Fin cfg1.N) : Fin 32 := ⟨16 * (t.val / 17) + min (t.val % 17) 15, by have := t.isLt; have h : cfg1.N = 34 := N_1; omega⟩
abbrev bp (t : Fin cfg1.N) : Fin 32 := ⟨16 * (t.val / 17) + (min (t.val % 17) 15 - 1), by have := t.isLt; have h : cfg1.N = 34 := N_1; omega⟩

theorem coords1 : ∀ t : Fin cfg1.N, (grid1.coords t 1).val = t.val % 17 := (by decide +kernel : ∀ t : Fin grid1.N, _)

theorem idx1_0 : ∀ t : Fin cfg1.N, win1_0.index t = ![0] := (by decide +kernel : ∀ t : Fin grid1.N, _)
theorem idx1_1 : ∀ t : Fin cfg1.N, win1_1.index t = ![(bj t).val, 0] := (by decide +kernel : ∀ t : Fin grid1.N, win1_1.index t = ![16 * (t.val / 17) + min (t.val % 17) 15, 0])
theorem idx1_2 : ∀ t : Fin cfg1.N, win1_2.index t = ![(bp t).val, 0] := (by decide +kernel : ∀ t : Fin grid1.N, win1_2.index t = ![16 * (t.val / 17) + (min (t.val % 17) 15 - 1), 0])
theorem idx1_3 : ∀ t : Fin cfg1.N, win1_3.index t = ![(bj t).val, 0] := (by decide +kernel : ∀ t : Fin grid1.N, win1_3.index t = ![16 * (t.val / 17) + min (t.val % 17) 15, 0])
theorem idx1_4 : ∀ t : Fin cfg1.N, win1_4.index t = ![(bp t).val, 0] := (by decide +kernel : ∀ t : Fin grid1.N, win1_4.index t = ![16 * (t.val / 17) + (min (t.val % 17) 15 - 1), 0])
theorem idx1_5 : ∀ t : Fin cfg1.N, win1_5.index t = ![(bj t).val, 0] := (by decide +kernel : ∀ t : Fin grid1.N, win1_5.index t = ![16 * (t.val / 17) + min (t.val % 17) 15, 0])
theorem idx1_6 : ∀ t : Fin cfg1.N, win1_6.index t = ![(bj t).val, 0] := (by decide +kernel : ∀ t : Fin grid1.N, win1_6.index t = ![16 * (t.val / 17) + min (t.val % 17) 15, 0])
theorem idx1_7 : ∀ t : Fin cfg1.N, win1_7.index t = ![(bj t).val, 0] := (by decide +kernel : ∀ t : Fin grid1.N, win1_7.index t = ![16 * (t.val / 17) + min (t.val % 17) 15, 0])
theorem idx1_8 : ∀ t : Fin cfg1.N, win1_8.index t = ![(bj t).val, 0] := (by decide +kernel : ∀ t : Fin grid1.N, win1_8.index t = ![16 * (t.val / 17) + min (t.val % 17) 15, 0])

section
variable (V : (c : Dev nD) → (b : Ref sig .tc) → Buf (Elt Ideal) ((c : Thread nD τ).loc b)) (t : Fin cfg1.N) (r : Fin 128)

theorem bblk_0 (x : Fin 8) : iblk1 V c 0 t (ix1 x) = V c main_v6 (ix1 x) := by
  blk_simp [iblk1, idx1_0 t]
  blk_ext [iblk1, idx1_0 t]
theorem bblk_1 (x : Fin 512) : iblk1 V c 1 t (ix2 r x) = V c main_v1 (ix2 (arow (bj t) r) x) := by
  unfold arow; blk_simp [iblk1, idx1_1 t]
  blk_ext [iblk1, idx1_1 t]
theorem bblk_2 (x : Fin 128) : iblk1 V c 2 t (ix2 r x) = V c main_v3 (ix2 (arow (bp t) r) x) := by
  unfold arow; blk_simp [iblk1, idx1_2 t]
  blk_ext [iblk1, idx1_2 t]
theorem bblk_3 (x : Fin 128) : iblk1 V c 3 t (ix2 r x) = V c main_v3 (ix2 (arow (bj t) r) x) := by
  unfold arow; blk_simp [iblk1, idx1_3 t]
  blk_ext [iblk1, idx1_3 t]
theorem bblk_4 (x : Fin 128) : iblk1 V c 4 t (ix2 r x) = V c main_v5 (ix2 (arow (bp t) r) x) := by
  unfold arow; blk_simp [iblk1, idx1_4 t]
  blk_ext [iblk1, idx1_4 t]
theorem bblk_5 (x : Fin 128) : iblk1 V c 5 t (ix2 r x) = V c main_v5 (ix2 (arow (bj t) r) x) := by
  unfold arow; blk_simp [iblk1, idx1_5 t]
  blk_ext [iblk1, idx1_5 t]
theorem bblk_6 (x : Fin 512) : iblk1 V c 6 t (ix2 r x) = V c main_v7_0 (ix2 (arow (bj t) r) x) := by
  unfold arow; blk_simp [iblk1, idx1_6 t]
  blk_ext [iblk1, idx1_6 t]
theorem bblk_7 (x : Fin 512) : iblk1 V c 7 t (ix2 r x) = V c main_v8 (ix2 (arow (bj t) r) x) := by
  unfold arow; blk_simp [iblk1, idx1_7 t]
  blk_ext [iblk1, idx1_7 t]
theorem bblk_8 (x : Fin 8) : iblk1 V c 8 t (ix2 r x) = V c main_v7_1 (ix2 (arow (bj t) r) x) := by
  unfold arow; blk_simp [iblk1, idx1_8 t]
  blk_ext [iblk1, idx1_8 t]

end

/-- The cotangent of a block's outputs. -/
def Data.cot (D : Data) (b : Fin 2) (n : Fin 16) (r : Fin 128) (x : Fin 512) : ℝ := D.g b (pos n r) x

include hD

theorem isBlk1 (t : Fin cfg1.N) : IsBlk (D.blk (bb t) (bn t)) (iblk1 (V3 m) c 0 t) (iblk1 (V3 m) c 1 t) (iblk1 (V3 m) c 2 t)
    (iblk1 (V3 m) c 3 t) (iblk1 (V3 m) c 4 t) (iblk1 (V3 m) c 5 t) := by
  have hN := lt_of_lt_of_eq t.isLt N_1
  constructor
  · intro h; rw [bblk_0, V3_v6, V1_s hD]; rfl
  · intro r x
    rw [bblk_1, V3_v1, V1_q hD, sq_arow (bb t) (bn t) _ _ rfl, ps_arow (bb t) (bn t) _ _ rfl]; rfl
  · intro y x
    by_cases h : y.val < 128
    · rw [dif_pos h, bblk_2, V3_v3, V1_k hD, sq_arow (bb t) ⟨(bn t).val - 1, by omega⟩ _ _ rfl, ps_arow (bb t) ⟨(bn t).val - 1, by omega⟩ _ _ rfl]
      unfold Data.blk; dsimp only; rw [bpos_lo _ _ h]
    · rw [dif_neg h, bblk_3, V3_v3, V1_k hD, sq_arow (bb t) (bn t) _ _ rfl, ps_arow (bb t) (bn t) _ _ rfl]
      unfold Data.blk; dsimp only; rw [bpos_hi _ _ h]
  · intro y x
    by_cases h : y.val < 128
    · rw [dif_pos h, bblk_4, V3_v5, V1_v hD, sq_arow (bb t) ⟨(bn t).val - 1, by omega⟩ _ _ rfl, ps_arow (bb t) ⟨(bn t).val - 1, by omega⟩ _ _ rfl]
      unfold Data.blk; dsimp only; rw [bpos_lo _ _ h]
    · rw [dif_neg h, bblk_5, V3_v5, V1_v hD, sq_arow (bb t) (bn t) _ _ rfl, ps_arow (bb t) (bn t) _ _ rfl]
      unfold Data.blk; dsimp only; rw [bpos_hi _ _ h]

theorem bblk_g (t : Fin cfg1.N) (r : Fin 128) (x : Fin 512) : iblk1 (V3 m) c 7 t (ix2 r x) = ((D.cot (bb t) (bn t) r x : ℝ) : EReal) := by
  rw [bblk_7, V3_g hD, sq_arow (bb t) (bn t) _ _ rfl, ps_arow (bb t) (bn t) _ _ rfl]; rfl

theorem bblk_o (t : Fin cfg1.N) (r : Fin 128) (h : Fin 8) (d : Fin 64) :
    iblk1 (V3 m) c 6 t (ix2 r (hcol h d)) = (((D.blk (bb t) (bn t)).out h r d : ℝ) : EReal) := by
  rw [bblk_6, V3_o hD]
  show ((D.o (sq (arow (bj t) r)) (ps (arow (bj t) r)) (hcol h d) : ℝ) : EReal) = _
  rw [sq_arow (bb t) (bn t) _ _ rfl, ps_arow (bb t) (bn t) _ _ rfl]
  unfold Data.o
  have e3 : pb (pos (bn t) r) = bn t := Fin.ext (by unfold pos; dsimp only; omega)
  have e4 : pr (pos (bn t) r) = r := Fin.ext (by unfold pos; dsimp only; omega)
  have e5 : ch (hcol h d) = h := Fin.ext (by dsimp only; omega)
  have e6 : cd (hcol h d) = d := Fin.ext (by dsimp only; omega)
  rw [e3, e4, e5, e6]

theorem bblk_l (t : Fin cfg1.N) (r : Fin 128) (h : Fin 8) : iblk1 (V3 m) c 8 t (ix2 r h) = (((D.blk (bb t) (bn t)).lse h r : ℝ) : EReal) := by
  rw [bblk_8, V3_l hD]
  show ((D.l (sq (arow (bj t) r)) (ps (arow (bj t) r)) h : ℝ) : EReal) = _
  rw [sq_arow (bb t) (bn t) _ _ rfl, ps_arow (bb t) (bn t) _ _ rfl]
  unfold Data.l
  have e3 : pb (pos (bn t) r) = bn t := Fin.ext (by unfold pos; dsimp only; omega)
  have e4 : pr (pos (bn t) r) = r := Fin.ext (by unfold pos; dsimp only; omega)
  rw [e3, e4]

omit hD

end Cert.AttBackIdeal.Own
end
end
-- ==== Proof.AttBwdBlk.lean ====
/-
The backward kernel's blocks at a point, over the real numbers.
-/
module

public import proofs.«01_k».proof.Proof.AttBwdVal
public import proofs.«01_k».proof.Proof.AttRead

set_option maxRecDepth 16384

@[expose] public section

noncomputable section

namespace Cert.AttBackIdeal.Own

open Idealize.ShloMosaic Idealize.ShloMosaic.TcCoe Idealize.SL.Sem Idealize.ShloMosaic.Tactic
open Cert.AttBackIdeal.Gen

/-- The group of a key column, and its column within the group. -/
abbrev kg (x : Fin 128) : Fin 2 := ⟨x.val / 64, by omega⟩
abbrev kd (x : Fin 128) : Fin 64 := ⟨x.val % 64, by omega⟩

/-- The lower and the upper half of two blocks. -/
abbrev lo (r : Fin 128) : Fin 256 := ⟨r.val, by omega⟩
abbrev up (r : Fin 128) : Fin 256 := ⟨128 + r.val, by omega⟩

section
variable (X : Ins Ideal)

theorem pay64_row (u v : FVec Ideal S64x256 .f32) (k : FVec Ideal S128x128 .f32) (r x : Fin 128) :
    k1_pay64 (F := Ideal) u v k (ix2 r x) = (k (ix2 x r) : EReal) + ((![u, v] : Fin 2 → FVec Ideal S64x256 .f32) (kg x) (ix2 (kd x) (lo r)) : EReal) := by
  pointwise [k1_pay64, k1_pay63]
  by_cases h : x.val < 64
  · rw [dif_pos h, show kg x = 0 from Fin.ext (by dsimp only; omega), show kd x = ⟨x.val, h⟩ from Fin.ext (by dsimp only; omega)]; rfl
  · rw [dif_neg h, show kg x = 1 from Fin.ext (by dsimp only; omega), show kd x = ⟨x.val - 64, by omega⟩ from Fin.ext (by dsimp only; omega)]; rfl

theorem pay67_row (u v : FVec Ideal S64x256 .f32) (k : FVec Ideal S128x128 .f32) (r x : Fin 128) :
    k1_pay67 (F := Ideal) u v k (ix2 r x) = (k (ix2 x r) : EReal) + ((![u, v] : Fin 2 → FVec Ideal S64x256 .f32) (kg x) (ix2 (kd x) (lo r)) : EReal) :=
  pay64_row u v k r x

theorem pay65_row (u v : FVec Ideal S64x256 .f32) (r x : Fin 128) :
    k1_pay65 (F := Ideal) u v (ix2 x r) = ((![u, v] : Fin 2 → FVec Ideal S64x256 .f32) (kg x) (ix2 (kd x) (up r)) : EReal) := by
  pointwise [k1_pay65, k1_pay63]
  by_cases h : x.val < 64
  · rw [dif_pos h, show kg x = 0 from Fin.ext (by dsimp only; omega), show kd x = ⟨x.val, h⟩ from Fin.ext (by dsimp only; omega)]; rfl
  · rw [dif_neg h, show kg x = 1 from Fin.ext (by dsimp only; omega), show kd x = ⟨x.val - 64, by omega⟩ from Fin.ext (by dsimp only; omega)]; rfl

theorem pay68_row (u v : FVec Ideal S64x256 .f32) (r x : Fin 128) :
    k1_pay68 (F := Ideal) u v (ix2 x r) = ((![u, v] : Fin 2 → FVec Ideal S64x256 .f32) (kg x) (ix2 (kd x) (up r)) : EReal) :=
  pay65_row u v r x

theorem dqP_row (h : Fin 8) (r : Fin 128) (d : Fin 64) :
    X.dqP h (ix2 r d) = X.dq ⟨h.val / 4, by omega⟩ (ix2 ⟨128 * (h.val % 4) + r.val, by omega⟩ d) := by
  fin_cases h <;> pointwise [Ins.dqP] <;> simp

theorem row_row (h : Fin 8) :
    X.row (ix2 0 h) = (0 : EReal) - ∑ r : Fin 128, (X.sg ⟨h.val / 4, by omega⟩ (ix2 ⟨128 * (h.val % 4) + r.val, by omega⟩ 0) : EReal) := by
  fin_cases h <;> pointwise [Ins.row, Ins.sgP, negs]

omit X in
theorem pair_eq (f : Fin 2 → FVec Ideal S64x256 .f32) (a : Fin 2) : (![f 0, f 1] : Fin 2 → FVec Ideal S64x256 .f32) a = f a := by
  fin_cases a <;> rfl

end

section
variable {B : Blk} {g : Fin 128 → Fin 512 → ℝ} {X : Ins Ideal}

/-- The row and the group of a head. -/
abbrev hg (h : Fin 8) : Fin 2 := ⟨h.val / 4, by omega⟩
abbrev hR (h : Fin 8) (r : Fin 128) : Fin 512 := ⟨128 * (h.val % 4) + r.val, by omega⟩

theorem hd_hR (h : Fin 8) (r : Fin 128) : hd (hg h) (hR h r) = h := Fin.ext (by unfold hd; dsimp only; omega)
theorem rw_hR (h : Fin 8) (r : Fin 128) : rw (hR h r) = r := Fin.ext (by unfold rw; dsimp only; omega)

/-- A block's gradient of the queries by its columns. -/
def dqG (B : Blk) (g : Fin 128 → Fin 512 → ℝ) (y : S128x512.Idx) : EReal := ((B.dq g (ch (y 1)) (y 0) (cd (y 1)) : ℝ) : EReal)

theorem dqG_eq (y : S128x512.Idx) (r : Fin 128) (h : Fin 8) (d : Fin 64) (e0 : (y 0).val = r.val) (e1 : (y 1).val = 64 * h.val + d.val) :
    dqG B g y = ((B.dq g h r d : ℝ) : EReal) := by
  unfold dqG
  rw [show ch (y 1) = h from Fin.ext (by show (y 1).val / 64 = _; omega), show cd (y 1) = d from Fin.ext (by show (y 1).val % 64 = _; omega),
    show y 0 = r from Fin.ext e0]

section
variable (hX : IsIns B g X) (hi : (X.i 1).val = B.n) (hn : B.n < 16)
include hX hi hn

theorem dk_live (a : Fin 2) (d : Fin 64) (c : Fin 256) : X.dk a (ix2 d c) = ((B.dk g a d c : ℝ) : EReal) := (hX.grp a hi hn).dk d c
theorem dv_live (a : Fin 2) (d : Fin 64) (c : Fin 256) : X.dv a (ix2 d c) = ((B.dv g a d c : ℝ) : EReal) := (hX.grp a hi hn).dv d c

theorem sg_live (a : Fin 2) (R : Fin 512) : X.sg a (ix2 R 0) = ((B.sg g (hd a R) (rw R) : ℝ) : EReal) := by
  unfold Ins.sg Ins.live
  rw [hi, live_word B.n (by omega), if_pos hn]
  exact (hX.grp a hi hn).sg R

theorem dqP_live (h : Fin 8) (r : Fin 128) (d : Fin 64) : X.dqP h (ix2 r d) = ((B.dq g h r d : ℝ) : EReal) := by
  rw [dqP_row X h r d]
  refine ((hX.grp (hg h) hi hn).dq (hR h r) d).trans ?_
  rw [hd_hR, rw_hR]

theorem row_live (h : Fin 8) : X.row (ix2 0 h) = ((-∑ r : Fin 128, B.sg g h r : ℝ) : EReal) := by
  rw [row_row X h, Finset.sum_congr rfl fun r _ => (sg_live hX hi hn (hg h) (hR h r)).trans (by rw [hd_hR, rw_hR]), ← _root_.Own.coe_sum, zero_sub,
    ← EReal.coe_neg]

theorem dq_piece (h : Fin 8) (o : ℕ) (ho : o = 64 * h.val) (hb) (x : (Rect.unit (s := S128x512) ![0, o] ![128, 64] hb).shape.Idx) :
    X.dqP h x = dqG B g ((Rect.unit (s := S128x512) ![0, o] ![128, 64] hb).emb x) := by
  have hx : x = ix2 (n0 := 128) (n1 := 64) (x 0) (x 1) := eq_ix2 x
  rw [dqG_eq _ (x 0) h (x 1) ((piece_row _ _ _ _ _).trans (Nat.zero_add _)) ((piece_row _ _ _ _ _).trans (by subst ho; rfl))]
  rw [hx]; exact dqP_live hX hi hn h (x 0) (x 1)

theorem dq_canon (r : Fin 128) (h : Fin 8) (d : Fin 64) (hcov : ∃ p ∈ X.dqL, ix2 r (hcol h d) ∈ p.1.set) :
    View.canon X.dqL (ix2 r (hcol h d)) = ((B.dq g h r d : ℝ) : EReal) := by
  refine (View.canon_apply_of_pieces (dqG B g) _ ?_ _ hcov).trans (dqG_eq _ r h d rfl rfl)
  have P := dq_piece hX hi hn
  unfold Ins.dqL
  simp only [List.forall_mem_cons]
  exact ⟨P 7 _ rfl _, P 6 _ rfl _, P 5 _ rfl _, P 4 _ rfl _, P 3 _ rfl _, P 2 _ rfl _, P 1 _ rfl _, P 0 _ rfl _, fun _ h => absurd h List.not_mem_nil⟩

end

section
variable (hi : (X.i 1).val = 16)
include hi

theorem mask_dead (R : Fin 512) (c : Fin 256) : k1_pay6 X.i (ix2 R c) = 0#1 :=
  (mask_row X.i 16 hi (by decide) R c).trans (if_neg fun h => absurd h.1 (by decide))

theorem dk_dead (a : Fin 2) (d : Fin 64) (c : Fin 256) : X.dk a (ix2 d c) = (0 : EReal) := dk_unseen _ _ _ _ _ _ _ _ (mask_dead hi) d c
theorem dv_dead (a : Fin 2) (d : Fin 64) (c : Fin 256) : X.dv a (ix2 d c) = (0 : EReal) := dv_unseen _ _ _ _ _ _ (mask_dead hi) d c

theorem row_dead (h : Fin 8) : X.row (ix2 0 h) = (0 : EReal) := by
  have e : ∀ R, X.sg (hg h) (ix2 R 0) = (0 : EReal) := fun R => by
    unfold Ins.sg Ins.live
    rw [hi]
    exact sg_unseen _ _ _ R
  rw [row_row X h, Finset.sum_congr rfl fun r _ => e (hR h r), Finset.sum_const_zero, sub_zero]

end

end

end Cert.AttBackIdeal.Own
end
end
-- ==== Proof.AttBwdPointA.lean ====
/-
What the backward kernel leaves at the first point of a batch entry, in terms of the two groups' vectors.
-/
module

public import proofs.«01_k».proof.Proof.AttBwdIns

set_option maxRecDepth 16384

@[expose] public section

noncomputable section

namespace Cert.AttBackIdeal.Own

open Idealize.ShloMosaic Idealize.ShloMosaic.TcCoe Idealize.SL.Sem Idealize.ShloMosaic.Tactic
open Cert.AttBackIdeal.Gen

section
variable {F : FTy → Type} [FloatOps F]
variable (V : (c : Dev nD) → (b : Ref sig .tc) → Buf (Elt F) ((c : Thread nD τ).loc b)) (c : Dev nD) (t : Fin cfg1.N)

set_option maxHeartbeats 2000000 in
theorem stepA_dq (h : t.val = 0) : (bwdAtA V c t h).1 = (readAt V c t).dqL := by
  conv_lhs => unfold bwdAtA bwdRunA; dsimp only
  sl_unfold_words
  simp only [View.readAt_eq_ld, Memref.IsWhole.read_unread, View.ld_unit_zero (S := S128x512) off2, View.ld_unit_zero (S := S128x128) off2, View.ld_unit_zero (S := S128x8) off2]
  rfl

set_option maxHeartbeats 2000000 in
theorem stepA_ds (h : t.val = 0) : (stepA V c t h).ds = (readAt V c t).row := by
  conv_lhs => unfold stepA; dsimp only; unfold bwdAtA bwdRunA; dsimp only
  sl_unfold_words
  rw [View.canon_unit_zero off2]
  simp only [View.readAt_eq_ld, Memref.IsWhole.read_unread, View.ld_unit_zero (S := S128x512) off2, View.ld_unit_zero (S := S128x128) off2, View.ld_unit_zero (S := S128x8) off2, View.ld_unit_zero (S := S1x8) off2]
  rfl

set_option maxHeartbeats 2000000 in
theorem stepA_kc (h : t.val = 0) : (stepA V c t h).kc = k1_pay65 ((readAt V c t).dk 0) ((readAt V c t).dk 1) := by
  conv_lhs => unfold stepA; dsimp only; unfold bwdAtA bwdRunA; dsimp only
  sl_unfold_words
  rw [View.canon_cons_unit_zero (S := S128x128) off2]
  simp only [View.readAt_eq_ld, Memref.IsWhole.read_unread, View.ld_unit_zero (S := S128x512) off2, View.ld_unit_zero (S := S128x128) off2, View.ld_unit_zero (S := S128x8) off2, View.ld_unit_zero (S := S1x8) off2]
  rw [dk0_eq _ (iblk1 V c 0 t), dk1_eq _ (iblk1 V c 0 t)]
  rfl

set_option maxHeartbeats 2000000 in
theorem stepA_vc (h : t.val = 0) : (stepA V c t h).vc = k1_pay68 ((readAt V c t).dv 0) ((readAt V c t).dv 1) := by
  conv_lhs => unfold stepA; dsimp only; unfold bwdAtA bwdRunA; dsimp only
  sl_unfold_words
  rw [View.canon_cons_unit_zero (S := S128x128) off2]
  simp only [View.readAt_eq_ld, Memref.IsWhole.read_unread, View.ld_unit_zero (S := S128x512) off2, View.ld_unit_zero (S := S128x128) off2, View.ld_unit_zero (S := S128x8) off2, View.ld_unit_zero (S := S1x8) off2]
  rw [dv0_eq _ (iblk1 V c 0 t), dv1_eq _ (iblk1 V c 0 t)]
  rfl

end

end Cert.AttBackIdeal.Own
end
end
-- ==== Proof.AttBwdPointB.lean ====
/-
What the backward kernel leaves at the first point of a later batch entry, in terms of the two groups' vectors.
-/
module

public import proofs.«01_k».proof.Proof.AttBwdIns

set_option maxRecDepth 16384

@[expose] public section

noncomputable section

namespace Cert.AttBackIdeal.Own

open Idealize.ShloMosaic Idealize.ShloMosaic.TcCoe Idealize.SL.Sem Idealize.ShloMosaic.Tactic
open Cert.AttBackIdeal.Gen

section
variable {F : FTy → Type} [FloatOps F]
variable (V : (c : Dev nD) → (b : Ref sig .tc) → Buf (Elt F) ((c : Thread nD τ).loc b)) (c : Dev nD) (t : Fin cfg1.N)

set_option maxHeartbeats 2000000 in
theorem stepB_dq (h : t.val % 17 = 0) (h' : t.val ≠ 0) (s : St F) : (bwdAtB V c t h h' s).1 = (readAt V c t).dqL := by
  conv_lhs => unfold bwdAtB bwdRunB; dsimp only
  sl_unfold_words
  simp only [View.readAt_eq_ld, Memref.IsWhole.read_unread, View.ld_unit_zero (S := S128x512) off2, View.ld_unit_zero (S := S128x128) off2, View.ld_unit_zero (S := S128x8) off2]
  rfl

set_option maxHeartbeats 2000000 in
theorem stepB_ds (h : t.val % 17 = 0) (h' : t.val ≠ 0) (s : St F) : (stepB V c t h h' s).ds = k1_pay1 (readAt V c t).row s.ds := by
  conv_lhs => unfold stepB; dsimp only; unfold bwdAtB bwdRunB; dsimp only
  sl_unfold_words
  rw [View.canon_unit_zero off2]
  simp only [View.readAt_eq_ld, Memref.IsWhole.read_unread, View.ld_unit_zero (S := S128x512) off2, View.ld_unit_zero (S := S128x128) off2, View.ld_unit_zero (S := S128x8) off2, View.ld_unit_zero (S := S1x8) off2]
  rfl

set_option maxHeartbeats 2000000 in
theorem stepB_kc (h : t.val % 17 = 0) (h' : t.val ≠ 0) (s : St F) : (stepB V c t h h' s).kc = k1_pay65 ((readAt V c t).dk 0) ((readAt V c t).dk 1) := by
  conv_lhs => unfold stepB; dsimp only; unfold bwdAtB bwdRunB; dsimp only
  sl_unfold_words
  rw [View.canon_cons_unit_zero (S := S128x128) off2]
  simp only [View.readAt_eq_ld, Memref.IsWhole.read_unread, View.ld_unit_zero (S := S128x512) off2, View.ld_unit_zero (S := S128x128) off2, View.ld_unit_zero (S := S128x8) off2, View.ld_unit_zero (S := S1x8) off2]
  rw [dk0_eq _ (iblk1 V c 0 t), dk1_eq _ (iblk1 V c 0 t)]
  rfl

set_option maxHeartbeats 2000000 in
theorem stepB_vc (h : t.val % 17 = 0) (h' : t.val ≠ 0) (s : St F) : (stepB V c t h h' s).vc = k1_pay68 ((readAt V c t).dv 0) ((readAt V c t).dv 1) := by
  conv_lhs => unfold stepB; dsimp only; unfold bwdAtB bwdRunB; dsimp only
  sl_unfold_words
  rw [View.canon_cons_unit_zero (S := S128x128) off2]
  simp only [View.readAt_eq_ld, Memref.IsWhole.read_unread, View.ld_unit_zero (S := S128x512) off2, View.ld_unit_zero (S := S128x128) off2, View.ld_unit_zero (S := S128x8) off2, View.ld_unit_zero (S := S1x8) off2]
  rw [dv0_eq _ (iblk1 V c 0 t), dv1_eq _ (iblk1 V c 0 t)]
  rfl

end

end Cert.AttBackIdeal.Own
end
end
-- ==== Proof.AttBwdPointC.lean ====
/-
What the backward kernel leaves at a point in the middle of a batch entry, in terms of the two groups' vectors.
-/
module

public import proofs.«01_k».proof.Proof.AttBwdIns
public import Idealize.ShloMosaic.Lib.Pipeline.ReadBack

set_option maxRecDepth 16384

@[expose] public section

noncomputable section

namespace Cert.AttBackIdeal.Own

open Idealize.ShloMosaic Idealize.ShloMosaic.TcCoe Idealize.SL.Sem Idealize.ShloMosaic.Tactic
open Cert.AttBackIdeal.Gen

section
variable {F : FTy → Type} [FloatOps F]
variable (V : (c : Dev nD) → (b : Ref sig .tc) → Buf (Elt F) ((c : Thread nD τ).loc b)) (c : Dev nD) (t : Fin cfg1.N)

set_option maxHeartbeats 2000000 in
theorem stepC_dq (h : t.val % 17 ≠ 0) (h' : t.val % 17 ≠ 16) (s : St F) : (bwdAtC V c t h h' s).1 = (readAt V c t).dqL := by
  conv_lhs => unfold bwdAtC bwdRunC; dsimp only
  sl_unfold_words
  simp only [View.readAt_eq_ld, Memref.IsWhole.read_unread, View.ld_unit_zero (S := S128x512) off2, View.ld_unit_zero (S := S128x128) off2, View.ld_unit_zero (S := S128x8) off2]
  rfl

set_option maxHeartbeats 2000000 in
theorem stepC_dk (h : t.val % 17 ≠ 0) (h' : t.val % 17 ≠ 16) (s : St F) : (stepC V c t h h' s).dk = k1_pay64 ((readAt V c t).dk 0) ((readAt V c t).dk 1) s.kc := by
  conv_lhs => unfold stepC; dsimp only; unfold bwdAtC bwdRunC; dsimp only
  sl_unfold_words
  rw [View.canon_unit_zero off2]
  simp only [View.readAt_eq_ld, Memref.IsWhole.read_unread, View.ld_unit_zero (S := S128x512) off2, View.ld_unit_zero (S := S128x128) off2, View.ld_unit_zero (S := S128x8) off2, View.ld_unit_zero (S := S1x8) off2]
  rw [read_unread_whole]
  rw [dk0_eq _ (iblk1 V c 0 t), dk1_eq _ (iblk1 V c 0 t)]
  rfl

set_option maxHeartbeats 2000000 in
theorem stepC_dv (h : t.val % 17 ≠ 0) (h' : t.val % 17 ≠ 16) (s : St F) : (stepC V c t h h' s).dv = k1_pay67 ((readAt V c t).dv 0) ((readAt V c t).dv 1) s.vc := by
  conv_lhs => unfold stepC; dsimp only; unfold bwdAtC bwdRunC; dsimp only
  sl_unfold_words
  rw [View.canon_unit_zero off2]
  simp only [View.readAt_eq_ld, Memref.IsWhole.read_unread, View.ld_unit_zero (S := S128x512) off2, View.ld_unit_zero (S := S128x128) off2, View.ld_unit_zero (S := S128x8) off2, View.ld_unit_zero (S := S1x8) off2]
  rw [read_unread_whole]
  rw [dv0_eq _ (iblk1 V c 0 t), dv1_eq _ (iblk1 V c 0 t)]
  rfl

set_option maxHeartbeats 2000000 in
theorem stepC_ds (h : t.val % 17 ≠ 0) (h' : t.val % 17 ≠ 16) (s : St F) : (stepC V c t h h' s).ds = k1_pay1 (readAt V c t).row s.ds := by
  conv_lhs => unfold stepC; dsimp only; unfold bwdAtC bwdRunC; dsimp only
  sl_unfold_words
  rw [View.canon_unit_zero off2]
  simp only [View.readAt_eq_ld, Memref.IsWhole.read_unread, View.ld_unit_zero (S := S128x512) off2, View.ld_unit_zero (S := S128x128) off2, View.ld_unit_zero (S := S128x8) off2, View.ld_unit_zero (S := S1x8) off2]
  rfl

set_option maxHeartbeats 2000000 in
theorem stepC_kc (h : t.val % 17 ≠ 0) (h' : t.val % 17 ≠ 16) (s : St F) : (stepC V c t h h' s).kc = k1_pay65 ((readAt V c t).dk 0) ((readAt V c t).dk 1) := by
  conv_lhs => unfold stepC; dsimp only; unfold bwdAtC bwdRunC; dsimp only
  sl_unfold_words
  rw [View.canon_unit_zero off2]
  simp only [View.readAt_eq_ld, Memref.IsWhole.read_unread, View.ld_unit_zero (S := S128x512) off2, View.ld_unit_zero (S := S128x128) off2, View.ld_unit_zero (S := S128x8) off2, View.ld_unit_zero (S := S1x8) off2]
  rw [dk0_eq _ (iblk1 V c 0 t), dk1_eq _ (iblk1 V c 0 t)]
  rfl

set_option maxHeartbeats 2000000 in
theorem stepC_vc (h : t.val % 17 ≠ 0) (h' : t.val % 17 ≠ 16) (s : St F) : (stepC V c t h h' s).vc = k1_pay68 ((readAt V c t).dv 0) ((readAt V c t).dv 1) := by
  conv_lhs => unfold stepC; dsimp only; unfold bwdAtC bwdRunC; dsimp only
  sl_unfold_words
  rw [View.canon_unit_zero off2]
  simp only [View.readAt_eq_ld, Memref.IsWhole.read_unread, View.ld_unit_zero (S := S128x512) off2, View.ld_unit_zero (S := S128x128) off2, View.ld_unit_zero (S := S128x8) off2, View.ld_unit_zero (S := S1x8) off2]
  rw [dv0_eq _ (iblk1 V c 0 t), dv1_eq _ (iblk1 V c 0 t)]
  rfl

end

end Cert.AttBackIdeal.Own
end
end
-- ==== Proof.AttBwdPointD.lean ====
/-
What the backward kernel leaves at the last point of a batch entry, in terms of the two groups' vectors.
-/
module

public import proofs.«01_k».proof.Proof.AttBwdIns
public import Idealize.ShloMosaic.Lib.Pipeline.ReadBack

set_option maxRecDepth 16384

@[expose] public section

noncomputable section

namespace Cert.AttBackIdeal.Own

open Idealize.ShloMosaic Idealize.ShloMosaic.TcCoe Idealize.SL.Sem Idealize.ShloMosaic.Tactic
open Cert.AttBackIdeal.Gen

section
variable {F : FTy → Type} [FloatOps F]
variable (V : (c : Dev nD) → (b : Ref sig .tc) → Buf (Elt F) ((c : Thread nD τ).loc b)) (c : Dev nD) (t : Fin cfg1.N)

set_option maxHeartbeats 2000000 in
theorem stepD_dk (h : t.val % 17 = 16) (s : St F) : (stepD V c t h s).dk = k1_pay64 ((readAt V c t).dk 0) ((readAt V c t).dk 1) s.kc := by
  conv_lhs => unfold stepD; dsimp only; unfold bwdAtD bwdRunD; dsimp only
  sl_unfold_words
  rw [View.canon_unit_zero off2]
  simp only [View.readAt_eq_ld, Memref.IsWhole.read_unread, View.ld_unit_zero (S := S128x512) off2, View.ld_unit_zero (S := S128x128) off2, View.ld_unit_zero (S := S128x8) off2, View.ld_unit_zero (S := S1x8) off2]
  rw [read_unread_whole]
  rw [dk0_eq _ (iblk1 V c 0 t), dk1_eq _ (iblk1 V c 0 t)]
  rfl

set_option maxHeartbeats 2000000 in
theorem stepD_dv (h : t.val % 17 = 16) (s : St F) : (stepD V c t h s).dv = k1_pay67 ((readAt V c t).dv 0) ((readAt V c t).dv 1) s.vc := by
  conv_lhs => unfold stepD; dsimp only; unfold bwdAtD bwdRunD; dsimp only
  sl_unfold_words
  rw [View.canon_unit_zero off2]
  simp only [View.readAt_eq_ld, Memref.IsWhole.read_unread, View.ld_unit_zero (S := S128x512) off2, View.ld_unit_zero (S := S128x128) off2, View.ld_unit_zero (S := S128x8) off2, View.ld_unit_zero (S := S1x8) off2]
  rw [read_unread_whole]
  rw [dv0_eq _ (iblk1 V c 0 t), dv1_eq _ (iblk1 V c 0 t)]
  rfl

set_option maxHeartbeats 2000000 in
theorem stepD_ds (h : t.val % 17 = 16) (s : St F) : (stepD V c t h s).ds = k1_pay1 (readAt V c t).row s.ds := by
  conv_lhs => unfold stepD; dsimp only; unfold bwdAtD bwdRunD; dsimp only
  sl_unfold_words
  rw [View.canon_unit_zero off2]
  simp only [View.readAt_eq_ld, Memref.IsWhole.read_unread, View.ld_unit_zero (S := S128x512) off2, View.ld_unit_zero (S := S128x128) off2, View.ld_unit_zero (S := S128x8) off2, View.ld_unit_zero (S := S1x8) off2]
  rfl

end

end Cert.AttBackIdeal.Own
end
end
-- ==== Proof.AttBwdSt.lean ====
/-
What the output buffers and the carried blocks hold after each point of the backward call, over the real numbers.
-/
module

public import proofs.«01_k».proof.Proof.AttBwdBlk
public import proofs.«01_k».proof.Proof.AttBwdPointA
public import proofs.«01_k».proof.Proof.AttBwdPointB
public import proofs.«01_k».proof.Proof.AttBwdPointC
public import proofs.«01_k».proof.Proof.AttBwdPointD

set_option maxRecDepth 16384

@[expose] public section

noncomputable section

namespace Cert.AttBackIdeal.Own

open Idealize.ShloMosaic Idealize.ShloMosaic.TcCoe Idealize.SL.Sem Idealize.ShloMosaic.Tactic
open Cert.AttBackIdeal.Gen

/-- What block `n` sends to its two blocks of keys and of values. -/
def Data.dkb (D : Data) (b : Fin 2) (n : Fin 16) (x : Fin 128) (c : Fin 256) : ℝ := (D.blk b n).dk (D.cot b n) (kg x) (kd x) c
def Data.dvb (D : Data) (b : Fin 2) (n : Fin 16) (x : Fin 128) (c : Fin 256) : ℝ := (D.blk b n).dv (D.cot b n) (kg x) (kd x) c

/-- The gradients of the keys and the values of block `n`: its own part and what the next block sends back. -/
def Data.dK (D : Data) (b : Fin 2) (n : Fin 16) (r x : Fin 128) : ℝ :=
  D.dkb b n x (up r) + (if h : n.val + 1 < 16 then D.dkb b ⟨n.val + 1, h⟩ x (lo r) else 0)
def Data.dV (D : Data) (b : Fin 2) (n : Fin 16) (r x : Fin 128) : ℝ :=
  D.dvb b n x (up r) + (if h : n.val + 1 < 16 then D.dvb b ⟨n.val + 1, h⟩ x (lo r) else 0)

/-- What point `s` adds to the gradient of a head's sink. -/
def Data.w (D : Data) (h : Fin 8) (s : ℕ) : ℝ :=
  if e : s / 17 < 2 ∧ s % 17 < 16 then -∑ r : Fin 128, (D.blk ⟨s / 17, e.1⟩ ⟨s % 17, e.2⟩).sg (D.cot ⟨s / 17, e.1⟩ ⟨s % 17, e.2⟩) h r else 0

variable {m : (ℓ : Loc nD τ sig) → Buf (Elt Ideal) ℓ} {c : Dev nD} {D : Data} (hD : IsData m c D)

/-- The point before. -/
abbrev prev (t : Fin cfg1.N) : Fin cfg1.N := ⟨t.val - 1, Nat.lt_of_le_of_lt (Nat.sub_le _ _) t.isLt⟩

theorem bn_lt (t : Fin cfg1.N) (h : t.val % 17 < 16) : (grid1.coords t 1).val = (bn t).val := by
  rw [coords1]; dsimp only; omega

include hD

theorem isIns (t : Fin cfg1.N) : IsIns (D.blk (bb t) (bn t)) (D.cot (bb t) (bn t)) (readAt (V3 m) c t) where
  blk := isBlk1 hD t
  g := bblk_g hD t
  o := bblk_o hD t
  l := bblk_l hD t

section
variable (t : Fin cfg1.N) (h : t.val % 17 < 16)
include h

theorem dk_val (a : Fin 2) (d : Fin 64) (y : Fin 256) :
    (readAt (V3 m) c t).dk a (ix2 d y) = (((D.blk (bb t) (bn t)).dk (D.cot (bb t) (bn t)) a d y : ℝ) : EReal) :=
  dk_live (isIns hD t) (bn_lt t h) (bn t).isLt a d y
theorem dv_val (a : Fin 2) (d : Fin 64) (y : Fin 256) :
    (readAt (V3 m) c t).dv a (ix2 d y) = (((D.blk (bb t) (bn t)).dv (D.cot (bb t) (bn t)) a d y : ℝ) : EReal) :=
  dv_live (isIns hD t) (bn_lt t h) (bn t).isLt a d y
theorem row_val (y : Fin 8) : (readAt (V3 m) c t).row (ix2 0 y) = ((D.w y t.val : ℝ) : EReal) := by
  refine (row_live (isIns hD t) (bn_lt t h) (bn t).isLt y).trans ?_
  unfold Data.w
  rw [dif_pos ⟨(bb t).isLt, h⟩, show bn t = ⟨t.val % 17, h⟩ from Fin.ext (by dsimp only; omega)]

theorem kc_at (x r : Fin 128) : (st (V3 m) c t.val t.isLt).kc (ix2 x r) = ((D.dkb (bb t) (bn t) x (up r) : ℝ) : EReal) := by
  have e : (st (V3 m) c t.val t.isLt).kc = k1_pay65 ((readAt (V3 m) c t).dk 0) ((readAt (V3 m) c t).dk 1) := by
    by_cases h0 : t.val % 17 = 0
    · by_cases h1 : t.val = 0
      · rw [st_A _ c t h1, stepA_kc]
      · rw [st_B _ c t h0 h1, stepB_kc]
    · rw [st_C _ c t h0 (by omega), stepC_kc]
  rw [e, pay65_row, pair_eq, dk_val hD t h]; rfl

theorem vc_at (x r : Fin 128) : (st (V3 m) c t.val t.isLt).vc (ix2 x r) = ((D.dvb (bb t) (bn t) x (up r) : ℝ) : EReal) := by
  have e : (st (V3 m) c t.val t.isLt).vc = k1_pay68 ((readAt (V3 m) c t).dv 0) ((readAt (V3 m) c t).dv 1) := by
    by_cases h0 : t.val % 17 = 0
    · by_cases h1 : t.val = 0
      · rw [st_A _ c t h1, stepA_vc]
      · rw [st_B _ c t h0 h1, stepB_vc]
    · rw [st_C _ c t h0 (by omega), stepC_vc]
  rw [e, pay68_row, pair_eq, dv_val hD t h]; rfl

theorem dq_live_at (r : Fin 128) (y : Fin 8) (d : Fin 64) :
    (st (V3 m) c t.val t.isLt).dq (ix2 r (hcol y d)) = (((D.blk (bb t) (bn t)).dq (D.cot (bb t) (bn t)) y r d : ℝ) : EReal) := by
  have k := dq_canon (isIns hD t) (bn_lt t h) (bn t).isLt r y d
  by_cases h0 : t.val % 17 = 0
  · by_cases h1 : t.val = 0
    · rw [st_A _ c t h1]
      have e := stepA_dq (V3 m) c t h1
      refine Eq.trans ?_ (k (e ▸ covA_dq (V3 m) c t h1 _))
      rw [← e]; rfl
    · rw [st_B _ c t h0 h1]
      have e := stepB_dq (V3 m) c t h0 h1 (stPrev (V3 m) c t)
      refine Eq.trans ?_ (k (e ▸ covB_dq (V3 m) c t h0 h1 _ _))
      rw [← e]; rfl
  · rw [st_C _ c t h0 (by omega)]
    have e := stepC_dq (V3 m) c t h0 (by omega) (stPrev (V3 m) c t)
    refine Eq.trans ?_ (k (e ▸ covC_dq (V3 m) c t h0 (by omega) _ _))
    rw [← e]; rfl

end

theorem dq_at (t : Fin cfg1.N) (r : Fin 128) (y : Fin 8) (d : Fin 64) :
    (st (V3 m) c t.val t.isLt).dq (ix2 r (hcol y d)) = (((D.blk (bb t) (bn t)).dq (D.cot (bb t) (bn t)) y r d : ℝ) : EReal) := by
  by_cases h : t.val % 17 < 16
  · exact dq_live_at hD t h r y d
  · rw [st_D _ c t (by omega)]
    refine (dq_live_at hD (prev t) (by dsimp only; omega) r y d).trans ?_
    rw [show bb (prev t) = bb t from Fin.ext (by dsimp only; omega), show bn (prev t) = bn t from Fin.ext (by dsimp only; omega)]

/-- The block of keys whose gradient a point completes. -/
abbrev bk (t : Fin cfg1.N) (h : t.val % 17 ≠ 0) : Fin 16 := ⟨t.val % 17 - 1, by omega⟩

theorem dk_at (t : Fin cfg1.N) (h : t.val % 17 ≠ 0) (r x : Fin 128) :
    (st (V3 m) c t.val t.isLt).dk (ix2 r x) = ((D.dK (bb t) (bk t h) r x : ℝ) : EReal) := by
  have e : (st (V3 m) c t.val t.isLt).dk = k1_pay64 ((readAt (V3 m) c t).dk 0) ((readAt (V3 m) c t).dk 1) (stPrev (V3 m) c t).kc := by
    by_cases h' : t.val % 17 = 16
    · rw [st_D _ c t h', stepD_dk]
    · rw [st_C _ c t h h', stepC_dk]
  have k := kc_at hD (prev t) (by dsimp only; omega) x r
  rw [show bb (prev t) = bb t from Fin.ext (by dsimp only; omega), show bn (prev t) = bk t h from Fin.ext (by dsimp only; omega)] at k
  rw [e, pay64_row, pair_eq]
  unfold Data.dK
  rw [EReal.coe_add]
  refine congrArg₂ (· + ·) k ?_
  by_cases h' : t.val % 17 = 16
  · rw [dif_neg (by dsimp only; omega)]
    exact dk_dead (X := readAt (V3 m) c t) ((coords1 t).trans h') _ _ _
  · rw [dif_pos (show (bk t h).val + 1 < 16 by dsimp only; omega)]
    refine (dk_val hD t (by omega) _ _ _).trans ?_
    rw [show bn t = ⟨(bk t h).val + 1, by dsimp only; omega⟩ from Fin.ext (by dsimp only; omega)]; rfl

theorem dv_at (t : Fin cfg1.N) (h : t.val % 17 ≠ 0) (r x : Fin 128) :
    (st (V3 m) c t.val t.isLt).dv (ix2 r x) = ((D.dV (bb t) (bk t h) r x : ℝ) : EReal) := by
  have e : (st (V3 m) c t.val t.isLt).dv = k1_pay67 ((readAt (V3 m) c t).dv 0) ((readAt (V3 m) c t).dv 1) (stPrev (V3 m) c t).vc := by
    by_cases h' : t.val % 17 = 16
    · rw [st_D _ c t h', stepD_dv]
    · rw [st_C _ c t h h', stepC_dv]
  have k := vc_at hD (prev t) (by dsimp only; omega) x r
  rw [show bb (prev t) = bb t from Fin.ext (by dsimp only; omega), show bn (prev t) = bk t h from Fin.ext (by dsimp only; omega)] at k
  rw [e, pay67_row, pair_eq]
  unfold Data.dV
  rw [EReal.coe_add]
  refine congrArg₂ (· + ·) k ?_
  by_cases h' : t.val % 17 = 16
  · rw [dif_neg (by dsimp only; omega)]
    exact dv_dead (X := readAt (V3 m) c t) ((coords1 t).trans h') _ _ _
  · rw [dif_pos (show (bk t h).val + 1 < 16 by dsimp only; omega)]
    refine (dv_val hD t (by omega) _ _ _).trans ?_
    rw [show bn t = ⟨(bk t h).val + 1, by dsimp only; omega⟩ from Fin.ext (by dsimp only; omega)]; rfl

theorem row_any (t : Fin cfg1.N) (y : Fin 8) : (readAt (V3 m) c t).row (ix2 0 y) = ((D.w y t.val : ℝ) : EReal) := by
  by_cases h : t.val % 17 < 16
  · exact row_val hD t h y
  · unfold Data.w
    rw [dif_neg fun e => h e.2]
    exact row_dead (X := readAt (V3 m) c t) ((coords1 t).trans (by omega)) y

omit hD in
theorem pay1_row (u v : FVec Ideal S1x8 .f32) (y : Fin 8) : k1_pay1 (F := Ideal) u v (ix2 0 y) = (v (ix2 0 y) : EReal) + (u (ix2 0 y) : EReal) := by
  pointwise [k1_pay1]

theorem ds_at (y : Fin 8) : ∀ (n : ℕ) (hn : n < cfg1.N), (st (V3 m) c n hn).ds (ix2 0 y) = ((∑ s ∈ Finset.range (n + 1), D.w y s : ℝ) : EReal) := by
  intro n
  induction n with
  | zero =>
    intro hn
    rw [Finset.sum_range_one]
    refine Eq.trans ?_ (row_any hD ⟨0, hn⟩ y)
    exact congrFun ((congrArg St.ds (st_A (V3 m) c ⟨0, hn⟩ rfl)).trans (stepA_ds _ _ _ _)) _
  | succ n ih =>
    intro hn
    have e : (st (V3 m) c (n + 1) hn).ds = k1_pay1 (readAt (V3 m) c ⟨n + 1, hn⟩).row (st (V3 m) c n (Nat.lt_of_succ_lt hn)).ds := by
      by_cases h0 : (n + 1) % 17 = 0
      · exact (congrArg St.ds (st_B (V3 m) c ⟨n + 1, hn⟩ h0 (Nat.succ_ne_zero n))).trans (stepB_ds _ _ _ _ _ _)
      · by_cases h1 : (n + 1) % 17 = 16
        · exact (congrArg St.ds (st_D (V3 m) c ⟨n + 1, hn⟩ h1)).trans (stepD_ds _ _ _ _ _)
        · exact (congrArg St.ds (st_C (V3 m) c ⟨n + 1, hn⟩ h0 h1)).trans (stepC_ds _ _ _ _ _ _)
    rw [e, pay1_row, ih, row_any hD ⟨n + 1, hn⟩ y, Finset.sum_range_succ _ (n + 1), ← EReal.coe_add]

end Cert.AttBackIdeal.Own
end
end
-- ==== Proof.AttBwdArr.lean ====
/-
The arrays the backward call leaves, over the real numbers.
-/
module

public import proofs.«01_k».proof.Proof.AttBwdSt

set_option maxRecDepth 16384

@[expose] public section

noncomputable section

namespace Cert.AttBackIdeal.Own

open Idealize.ShloMosaic Idealize.ShloMosaic.TcCoe Idealize.SL.Sem Idealize.ShloMosaic.Tactic
open Idealize.ShloMosaic.Pipeline (Dat)
open Cert.AttBackIdeal.Gen

/-- The gradient of the queries at all positions. -/
def Data.dQ (D : Data) (b : Fin 2) (s : Fin 2048) (x : Fin 512) : ℝ := (D.blk b (pb s)).dq (D.cot b (pb s)) (ch x) (pr s) (cd x)

/-- The gradient of a sink. -/
def Data.dS (D : Data) (h : Fin 8) : ℝ := -∑ b : Fin 2, ∑ n : Fin 16, ∑ r : Fin 128, (D.blk b n).sg (D.cot b n) h r

def arrQ (D : Data) (y : S4096x512.Idx) : EReal := ((D.dQ (sq (y 0)) (ps (y 0)) (y 1) : ℝ) : EReal)
def arrK (D : Data) (y : S4096x128.Idx) : EReal := ((D.dK (sq (y 0)) (pb (ps (y 0))) (pr (ps (y 0))) (y 1) : ℝ) : EReal)
def arrV (D : Data) (y : S4096x128.Idx) : EReal := ((D.dV (sq (y 0)) (pb (ps (y 0))) (pr (ps (y 0))) (y 1) : ℝ) : EReal)
def arrS (D : Data) (y : S1x8.Idx) : EReal := ((D.dS (y 1) : ℝ) : EReal)

theorem idx1_9 : ∀ t : Fin cfg1.N, win1_9.index t = ![(bj t).val, 0] := (by decide +kernel : ∀ t : Fin grid1.N, win1_9.index t = ![16 * (t.val / 17) + min (t.val % 17) 15, 0])
theorem idx1_10 : ∀ t : Fin cfg1.N, win1_10.index t = ![16 * (t.val / 17) + (t.val % 17 - 1), 0] := (by decide +kernel : ∀ t : Fin grid1.N, _)
theorem idx1_11 : ∀ t : Fin cfg1.N, win1_11.index t = ![16 * (t.val / 17) + (t.val % 17 - 1), 0] := (by decide +kernel : ∀ t : Fin grid1.N, _)
theorem idx1_12 : ∀ t : Fin cfg1.N, win1_12.index t = ![0, 0] := (by decide +kernel : ∀ t : Fin grid1.N, _)

theorem flush10 : ∀ t : Fin cfg1.N, (cfg1.win 10).flush t = true → t.val % 17 ≠ 0 := (by decide +kernel : ∀ t : Fin grid1.N, win1_10.flush t = true → t.val % 17 ≠ 0)
theorem flush11 : ∀ t : Fin cfg1.N, (cfg1.win 11).flush t = true → t.val % 17 ≠ 0 := (by decide +kernel : ∀ t : Fin grid1.N, win1_11.flush t = true → t.val % 17 ≠ 0)
theorem flush12 : ∀ t : Fin cfg1.N, (cfg1.win 12).flush t = true → t.val = 33 := (by decide +kernel : ∀ t : Fin grid1.N, win1_12.flush t = true → t.val = 33)

variable {m : (ℓ : Loc nD τ sig) → Buf (Elt Ideal) ℓ} {c : Dev nD} {D : Data} (hD : IsData m c D)

theorem pb_pos (n : Fin 16) (r : Fin 128) : pb (pos n r) = n := Fin.ext (by unfold pos; dsimp only; omega)
theorem pr_pos (n : Fin 16) (r : Fin 128) : pr (pos n r) = r := Fin.ext (by unfold pos; dsimp only; omega)

include hD

theorem arr1_9 : (dat1 (V3 m) c).arrAt 9 cfg1.N = arrQ D := by
  refine (dat1 (V3 m) c).arrAt_eq_of_covers 9 _ (by decide +kernel) fun t hf y => ?_
  blk_simp
  obtain ⟨r, x, rfl⟩ : ∃ (r : Fin 128) (x : Fin 512), y = ix2 r x := ⟨y 0, y 1, eq_ix2 (n0 := 128) (n1 := 512) y⟩
  have e : (win1_9.blk t).view.emb (ix2 r x) = ix2 (arow (bj t) r) x := by
    unfold arow
    blk_ext [idx1_9 t]
  have k := dq_at hD t r (ch x) (cd x)
  rw [hcol_ch_cd] at k
  refine k.trans ?_
  rw [e]
  show _ = ((D.dQ (sq (arow (bj t) r)) (ps (arow (bj t) r)) x : ℝ) : EReal)
  rw [sq_arow (bb t) (bn t) _ _ rfl, ps_arow (bb t) (bn t) _ _ rfl]
  unfold Data.dQ
  rw [pb_pos, pr_pos]

theorem arr1_10 : (dat1 (V3 m) c).arrAt 10 cfg1.N = arrK D := by
  refine (dat1 (V3 m) c).arrAt_eq_of_covers 10 _ (by decide +kernel) fun t hf y => ?_
  have h := flush10 t hf
  have hN := lt_of_lt_of_eq t.isLt N_1
  blk_simp
  obtain ⟨r, x, rfl⟩ : ∃ (r x : Fin 128), y = ix2 r x := ⟨y 0, y 1, eq_ix2 (n0 := 128) (n1 := 128) y⟩
  have e : (win1_10.blk t).view.emb (ix2 r x) = ix2 (arow ⟨16 * (t.val / 17) + (t.val % 17 - 1), by omega⟩ r) x := by
    unfold arow
    blk_ext [idx1_10 t]
  refine (dk_at hD t h r x).trans ?_
  rw [e]
  show _ = ((D.dK (sq (arow _ r)) (pb (ps (arow _ r))) (pr (ps (arow _ r))) x : ℝ) : EReal)
  rw [sq_arow (bb t) (bk t h) _ _ rfl, ps_arow (bb t) (bk t h) _ _ rfl, pb_pos, pr_pos]

theorem arr1_11 : (dat1 (V3 m) c).arrAt 11 cfg1.N = arrV D := by
  refine (dat1 (V3 m) c).arrAt_eq_of_covers 11 _ (by decide +kernel) fun t hf y => ?_
  have h := flush11 t hf
  have hN := lt_of_lt_of_eq t.isLt N_1
  blk_simp
  obtain ⟨r, x, rfl⟩ : ∃ (r x : Fin 128), y = ix2 r x := ⟨y 0, y 1, eq_ix2 (n0 := 128) (n1 := 128) y⟩
  have e : (win1_11.blk t).view.emb (ix2 r x) = ix2 (arow ⟨16 * (t.val / 17) + (t.val % 17 - 1), by omega⟩ r) x := by
    unfold arow
    blk_ext [idx1_11 t]
  refine (dv_at hD t h r x).trans ?_
  rw [e]
  show _ = ((D.dV (sq (arow _ r)) (pb (ps (arow _ r))) (pr (ps (arow _ r))) x : ℝ) : EReal)
  rw [sq_arow (bb t) (bk t h) _ _ rfl, ps_arow (bb t) (bk t h) _ _ rfl, pb_pos, pr_pos]

omit hD in
theorem sum_w (h : Fin 8) : ∑ s ∈ Finset.range 34, D.w h s = D.dS h := by
  have e : ∀ (b : Fin 2), ∑ n : Fin 17, D.w h (17 * b.val + n.val) = -∑ n : Fin 16, ∑ r : Fin 128, (D.blk b n).sg (D.cot b n) h r := fun b => by
    rw [Fin.sum_univ_castSucc, ← Finset.sum_neg_distrib]
    have z : D.w h (17 * b.val + (Fin.last 16).val) = 0 := by
      unfold Data.w
      rw [dif_neg (by rintro ⟨_, h2⟩; simp at h2)]
    rw [z, add_zero]
    refine Finset.sum_congr rfl fun n _ => ?_
    unfold Data.w
    have hb : (17 * b.val + n.castSucc.val) / 17 = b.val := by simp; omega
    have hn : (17 * b.val + n.castSucc.val) % 17 = n.val := by simp; omega
    rw [dif_pos ⟨by rw [hb]; exact b.isLt, by rw [hn]; exact n.isLt⟩]
    rw [show (⟨(17 * b.val + n.castSucc.val) / 17, by rw [hb]; exact b.isLt⟩ : Fin 2) = b from Fin.ext hb,
      show (⟨(17 * b.val + n.castSucc.val) % 17, by rw [hn]; exact n.isLt⟩ : Fin 16) = n from Fin.ext hn]
  unfold Data.dS
  rw [Fin.sum_univ_two, neg_add, ← e 0, ← e 1, ← Finset.sum_range (fun s => D.w h (17 * (0 : Fin 2).val + s)), ← Finset.sum_range (fun s => D.w h (17 * (1 : Fin 2).val + s)),
    show (34 : ℕ) = 17 + 17 from rfl, Finset.sum_range_add]
  simp

theorem arr1_12 : (dat1 (V3 m) c).arrAt 12 cfg1.N = arrS D := by
  refine (dat1 (V3 m) c).arrAt_eq_of_covers 12 _ (by decide +kernel) fun t hf y => ?_
  have h := flush12 t hf
  blk_simp
  obtain ⟨z, x, rfl⟩ : ∃ (z : Fin 1) (x : Fin 8), y = ix2 z x := ⟨y 0, y 1, eq_ix2 (n0 := 1) (n1 := 8) y⟩
  obtain rfl := Fin.fin_one_eq_zero z
  have e : (win1_12.blk t).view.emb (ix2 (0 : Fin 1) x) = ix2 (0 : Fin 1) x := by
    blk_ext [idx1_12 t]
  refine (ds_at hD x t.val t.isLt).trans ?_
  rw [e, h, sum_w]; rfl

end Cert.AttBackIdeal.Own
end
end
-- ==== Proof.AttFold.lean ====
/-
The host's sums and maxima over axes of rank-6 arrays, at an index.
-/
module

public import proofs.«01_k».proof.Proof.Fold
public import Idealize.ShloMosaic.Lib.Pointwise

@[expose] public section

namespace Own

open Idealize.ShloMosaic

section
variable {n0 n1 n2 n3 n4 n5 : ℕ} (h : (⟨6, ![n0, n1, n2, n3, n4, n5]⟩ : Shape).ReducesTo [5] (⟨5, ![n0, n1, n2, n3, n4]⟩ : Shape))
  (v : (⟨6, ![n0, n1, n2, n3, n4, n5]⟩ : Shape).Idx → EReal) (init : EReal) (a : Fin n0) (b : Fin n1) (c : Fin n2) (d : Fin n3) (e : Fin n4)

theorem drop_last (i : (⟨6, ![n0, n1, n2, n3, n4, n5]⟩ : Shape).Idx) : h.drop i = ix5 a b c d e ↔ ∃ q : Fin n5, ix6 a b c d e q = i := by
  constructor
  · intro w
    refine ⟨i 5, funext fun x => ?_⟩
    match x with
    | ⟨0, _⟩ => exact Fin.ext (congrArg Fin.val (congrFun w 0)).symm
    | ⟨1, _⟩ => exact Fin.ext (congrArg Fin.val (congrFun w 1)).symm
    | ⟨2, _⟩ => exact Fin.ext (congrArg Fin.val (congrFun w 2)).symm
    | ⟨3, _⟩ => exact Fin.ext (congrArg Fin.val (congrFun w 3)).symm
    | ⟨4, _⟩ => exact Fin.ext (congrArg Fin.val (congrFun w 4)).symm
    | ⟨5, _⟩ => rfl
  · rintro ⟨q, rfl⟩
    funext y
    fin_cases y <;> exact Fin.ext rfl

/-- A sum over the last axis. -/
theorem hostSum_last : Ideal.hostReduceAdd h v init (ix5 a b c d e) = init + ∑ q : Fin n5, v (ix6 a b c d e q) :=
  congrArg (init + ·) (Finset.sum_filter_eq_sum_of_fiber _ (fun q : Fin n5 => ix6 a b c d e q)
    (fun _ _ w => congrFun w 5) (drop_last h a b c d e) v)

/-- The entries a maximum over the last axis goes through. -/
theorem fold_last : Finset.fold max init v {i | h.drop i = ix5 a b c d e} = Finset.fold max init (fun q : Fin n5 => v (ix6 a b c d e q)) Finset.univ := by
  have hs : (Finset.univ.filter fun i => h.drop i = ix5 a b c d e)
      = Finset.univ.map ⟨fun q : Fin n5 => (ix6 a b c d e q : (⟨6, ![n0, n1, n2, n3, n4, n5]⟩ : Shape).Idx), fun _ _ w => congrFun w 5⟩ := by
    ext i
    simp only [Finset.mem_filter, Finset.mem_univ, true_and, Finset.mem_map, Function.Embedding.coeFn_mk]
    exact drop_last h a b c d e i
  rw [hs, Finset.fold_map]; rfl

end

/-- A sum over the batch, the blocks and the rows. -/
theorem hostSum_rows {n0 n1 n2 n3 n4 : ℕ} (h : (⟨6, ![n0, n1, n2, n3, n4, 1]⟩ : Shape).ReducesTo [0, 1, 4] (⟨3, ![n2, n3, 1]⟩ : Shape))
    (v : (⟨6, ![n0, n1, n2, n3, n4, 1]⟩ : Shape).Idx → EReal) (init : EReal) (c : Fin n2) (d : Fin n3) :
    Ideal.hostReduceAdd h v init (ix3 c d 0) = init + ∑ a : Fin n0, ∑ b : Fin n1, ∑ e : Fin n4, v (ix6 a b c d e 0) := by
  have hf : ∀ i : (⟨6, ![n0, n1, n2, n3, n4, 1]⟩ : Shape).Idx, h.drop i = ix3 c d 0 ↔ ∃ q : Fin n0 × Fin n1 × Fin n4, ix6 q.1 q.2.1 c d q.2.2 0 = i := by
    intro i
    constructor
    · intro w
      refine ⟨(i 0, i 1, i 4), funext fun x => ?_⟩
      match x with
      | ⟨0, _⟩ => rfl
      | ⟨1, _⟩ => rfl
      | ⟨2, _⟩ => exact Fin.ext (congrArg Fin.val (congrFun w 0)).symm
      | ⟨3, _⟩ => exact Fin.ext (congrArg Fin.val (congrFun w 1)).symm
      | ⟨4, _⟩ => rfl
      | ⟨5, _⟩ => exact (Fin.fin_one_eq_zero (i 5)).symm
    · rintro ⟨q, rfl⟩
      funext y
      fin_cases y <;> exact Fin.ext rfl
  refine congrArg (init + ·) ((Finset.sum_filter_eq_sum_of_fiber _ (fun q : Fin n0 × Fin n1 × Fin n4 => ix6 q.1 q.2.1 c d q.2.2 0)
    (fun p q w => by
      have h0 : p.1 = q.1 := congrFun w (0 : Fin 6)
      have h1 : p.2.1 = q.2.1 := congrFun w (1 : Fin 6)
      have h2 : p.2.2 = q.2.2 := congrFun w (4 : Fin 6)
      exact Prod.ext h0 (Prod.ext h1 h2)) hf v).trans ?_)
  simp only [Fintype.sum_prod_type]

/-- A sum over axes of a single element. -/
theorem hostSum_ones {n2 n3 : ℕ} (h : (⟨6, ![1, 1, n2, n3, 1, 1]⟩ : Shape).ReducesTo [0, 1, 4, 5] (⟨2, ![n2, n3]⟩ : Shape))
    (v : (⟨6, ![1, 1, n2, n3, 1, 1]⟩ : Shape).Idx → EReal) (init : EReal) (c : Fin n2) (d : Fin n3) :
    Ideal.hostReduceAdd h v init (ix2 c d) = init + v (ix6 0 0 c d 0 0) := by
  have hf : ∀ i : (⟨6, ![1, 1, n2, n3, 1, 1]⟩ : Shape).Idx, h.drop i = ix2 c d ↔ ∃ q : Fin 1, (fun _ => ix6 0 0 c d 0 0) q = i := by
    intro i
    constructor
    · intro w
      refine ⟨0, funext fun x => ?_⟩
      match x with
      | ⟨0, _⟩ => exact (Fin.fin_one_eq_zero (i 0)).symm
      | ⟨1, _⟩ => exact (Fin.fin_one_eq_zero (i 1)).symm
      | ⟨2, _⟩ => exact Fin.ext (congrArg Fin.val (congrFun w 0)).symm
      | ⟨3, _⟩ => exact Fin.ext (congrArg Fin.val (congrFun w 1)).symm
      | ⟨4, _⟩ => exact (Fin.fin_one_eq_zero (i 4)).symm
      | ⟨5, _⟩ => exact (Fin.fin_one_eq_zero (i 5)).symm
    · rintro ⟨q, rfl⟩
      funext y
      fin_cases y <;> exact Fin.ext rfl
  refine congrArg (init + ·) ((Finset.sum_filter_eq_sum_of_fiber _ (fun _ : Fin 1 => ix6 0 0 c d 0 0)
    (fun _ _ _ => Subsingleton.elim _ _) hf v).trans ?_)
  exact Fin.sum_univ_one _

end Own

end
-- ==== Proof.AttRefS.lean ====
/-
The reference of the attention's backward pass, read at an index: the bands, the mask, the slopes and the masked scores.
-/
module

public import proofs.«01_k».proof.Proof.AttBwdArr
public import proofs.«01_k».proof.Proof.AttFold
public import proofs.«01_k».proof.Proof.Gen.AttBackRefIdeal.Read

set_option maxRecDepth 16384

@[expose] public section

noncomputable section

namespace Own

open Idealize.ShloMosaic

/-- The distance of column `c` from row `r`, as the reference's word. -/
theorem distW_plain (r c : ℕ) (hr : r < 128) : IntOp.subi (IntOp.addi (BitVec.ofNat 32 r) 128#32) (BitVec.ofNat 32 c) = distW r c := by
  have h : BitVec.ofNat 32 r = IntOp.andi (BitVec.ofNat 32 r) 127#32 := by
    apply BitVec.eq_of_toNat_eq
    show _ = (BitVec.ofNat 32 r &&& 127#32).toNat
    rw [BitVec.toNat_and]; simp only [BitVec.toNat_ofNat]
    rw [Nat.mod_eq_of_lt (by omega : r < 2 ^ 32)]
    exact ((Nat.and_two_pow_sub_one_eq_mod r 7).trans (Nat.mod_eq_of_lt hr)).symm
  unfold distW
  rw [← h]

theorem pos_word (n : ℕ) (h : n < 2048) : IntOp.cmpi .sgt (BitVec.ofNat 32 n) 0#32 = IntOp.xori (IntOp.cmpi .eq (BitVec.ofNat 32 n) 0#32) 1#1 := by
  rw [WordCmp.cmpi_sgt_eq, eq_zero_word n h, ofBool_not, toInt_small n h, show (0#32 : BitVec 32).toInt = 0 from rfl]
  congr 1
  rw [Bool.eq_iff_iff]
  simp only [decide_eq_true_iff, Bool.not_eq_true', decide_eq_false_iff_not]
  omega

theorem ori_comm (a b : BitVec 1) : IntOp.ori a b = IntOp.ori b a := BitVec.or_comm a b

/-- A head's slope as a power of two. -/
theorem slope_pow (i : Fin 8) : Ideal.pow (Ideal.ofBits .f32 0x40000000#32)
    (Ideal.div (Ideal.ofBits .f32 0xC1000000#32 * (FloatOps.sitofp (F := Ideal) .f32 (BitVec.ofNat 32 i.val) + 1)) (Ideal.ofBits .f32 0x41000000#32))
      = ((slope i : ℝ) : EReal) := by
  have e2 : Ideal.ofBits .f32 0x40000000#32 = ((2 : ℝ) : EReal) := by
    simp [Ideal.ofBits, Ideal.ieee]; rw [← EReal.coe_mul]; norm_num
  have e8 : Ideal.ofBits .f32 0x41000000#32 = ((8 : ℝ) : EReal) := by
    simp [Ideal.ofBits, Ideal.ieee]; rw [← EReal.coe_mul]; norm_num
  have en : Ideal.ofBits .f32 0xC1000000#32 = ((-8 : ℝ) : EReal) := by
    simp [Ideal.ofBits, Ideal.ieee]; rw [← EReal.coe_mul]; norm_num
  have es : (FloatOps.sitofp (F := Ideal) .f32 (BitVec.ofNat 32 i.val) : EReal) = ((i.val : ℝ) : EReal) := by
    show (((BitVec.ofNat 32 i.val).toInt : ℝ) : EReal) = _
    rw [toInt_small i.val (by omega)]; norm_cast
  rw [e2, e8, en, es, ← EReal.coe_one, ← EReal.coe_add, ← EReal.coe_mul, div_coe_coe _ _ (by norm_num), Ideal.pow_coe_coe]
  unfold slope
  congr 1
  rw [show (-8 * ((i.val : ℝ) + 1) / 8) = -(((i.val + 1 : ℕ) : ℝ)) by push_cast; ring, Real.rpow_eq_pow, Real.rpow_neg (by norm_num), Real.rpow_natCast, inv_pow]

end Own

namespace Cert.AttBackIdeal.Own

open Idealize.ShloMosaic Idealize.ShloMosaic.TcCoe Idealize.SL.Sem
open Cert.AttBackRefIdeal.Read

/-- The head of a group and a number in it. -/
abbrev hh (k2 : Fin 2) (h : Fin 4) : Fin 8 := ⟨k2.val * 4 + h.val, by omega⟩

/-- The reference's arrays hold the real numbers of `D`. -/
structure RData (D : Data) (x0 : Cert.AttBackRefIdeal.S2x2048x512.Idx → EReal) (x1 x2 : Cert.AttBackRefIdeal.S2x2048x128.Idx → EReal)
    (x3 : Cert.AttBackRefIdeal.S1x8.Idx → EReal) (x4 : Cert.AttBackRefIdeal.S2x2048x512.Idx → EReal) : Prop where
  q : ∀ b s x, x0 (ix3 b s x) = ((D.q b s x : ℝ) : EReal)
  k : ∀ b s x, x1 (ix3 b s x) = ((D.k b s x : ℝ) : EReal)
  v : ∀ b s x, x2 (ix3 b s x) = ((D.v b s x : ℝ) : EReal)
  s : ∀ z h, x3 (ix2 z h) = ((D.s h : ℝ) : EReal)
  g : ∀ b s x, x4 (ix3 b s x) = ((D.g b s x : ℝ) : EReal)

/-- The two blocks of keys or values that end with block `n`, zero before the first. -/
def band (f : Fin 2 → Fin 2048 → Fin 128 → ℝ) (b : Fin 2) (n : Fin 16) (c : Fin 256) (x : Fin 128) : ℝ :=
  if c.val < 128 then if n.val < 1 then 0 else f b (bpos n c) x else f b (bpos n c) x

theorem band_seen (f : Fin 2 → Fin 2048 → Fin 128 → ℝ) (b : Fin 2) (n : Fin 16) (c : Fin 256) (x : Fin 128) (r : ℕ)
    (h : _root_.Own.Seen n.val r c.val) : band f b n c x = f b (bpos n c) x := by
  unfold band
  have := h.2.2
  split
  · rw [if_neg (by omega)]
  · rfl

section
variable {D : Data} {x0 : Cert.AttBackRefIdeal.S2x2048x512.Idx → EReal} {x1 x2 : Cert.AttBackRefIdeal.S2x2048x128.Idx → EReal}
  {x3 : Cert.AttBackRefIdeal.S1x8.Idx → EReal} {x4 : Cert.AttBackRefIdeal.S2x2048x512.Idx → EReal} (hD : RData D x0 x1 x2 x3 x4)
  (b : Fin 2) (n : Fin 16) (k2 : Fin 2) (h : Fin 4) (r : Fin 128) (c : Fin 256) (d : Fin 64)

theorem kcol_hh : kcol (hh k2 h) d = ⟨k2.val * 64 + d.val, by omega⟩ := Fin.ext (by dsimp only; omega)
theorem hcol_hh : hcol (hh k2 h) d = ⟨k2.val * 256 + h.val * 64 + d.val, by omega⟩ := Fin.ext (by dsimp only; omega)
theorem pos_mul : pos n r = ⟨n.val * 128 + r.val, by omega⟩ := Fin.ext (by unfold pos; dsimp only; omega)

include hD

theorem ref_k : val_main_v14 (F := Ideal) x1 (ix5 b n c k2 d) = ((band D.k b n c (kcol (hh k2 h) d) : ℝ) : EReal) := by
  pointwise [val_main_v14, val_main_v12, val_main_v11, val_main_v10, val_main_v8, val_main_cst_1]
  unfold band
  rw [kcol_hh]
  split_ifs <;> first
    | rfl
    | (rw [hD.k]; exact congrArg (fun p : Fin 2048 => ((D.k b p _ : ℝ) : EReal)) (Fin.ext (by unfold bpos; dsimp only; split_ifs; omega)))

theorem ref_v : val_main_v7 (F := Ideal) x2 (ix5 b n c k2 d) = ((band D.v b n c (kcol (hh k2 h) d) : ℝ) : EReal) := by
  pointwise [val_main_v7, val_main_v5, val_main_v4, val_main_v3, val_main_v1, val_main_cst]
  unfold band
  rw [kcol_hh]
  split_ifs <;> first
    | rfl
    | (rw [hD.v]; exact congrArg (fun p : Fin 2048 => ((D.v b p _ : ℝ) : EReal)) (Fin.ext (by unfold bpos; dsimp only; split_ifs; omega)))

theorem ref_q : val_main_v15 (F := Ideal) x0 (ix6 b n r k2 h d) = ((D.q b (pos n r) (hcol (hh k2 h) d) : ℝ) : EReal) := by
  pointwise [val_main_v15]
  rw [hD.q, hcol_hh, pos_mul]

omit hD in
theorem ref_dist : val_main_v28 (F := Ideal) (ix2 r c) = _root_.Own.distW r.val c.val := by
  pointwise [val_main_v28, val_main_v27, val_main_v26, val_main_v25, val_main_v24, val_main_v23, val_main_v22, val_main_v21, val_main_v20, val_main_c]
  exact _root_.Own.distW_plain r.val c.val r.isLt

omit hD in
theorem ref_mask : val_main_v49 (F := Ideal) (ix3 n r c) = if _root_.Own.Seen n.val r.val c.val then 1#1 else 0#1 := by
  pointwise [val_main_v49, val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v31, val_main_v30,
    val_main_v29, val_main_c_4, val_main_c_5, val_main_c_6, val_main_c_7]
  rw [ref_dist, _root_.Own.pos_word n.val (by omega), _root_.Own.ori_comm]
  exact _root_.Own.seen_word n.val r.val c.val (by omega) (by omega) c.isLt

omit hD in
theorem ref_bias : val_main_v66 (F := Ideal) (ix4 k2 h r c)
    = ((-(_root_.Own.slope (hh k2 h)) * ((r.val : ℝ) + 128 - (c.val : ℝ)) : ℝ) : EReal) := by
  pointwise [val_main_v66, val_main_v65, val_main_v64, val_main_v63, val_main_v62, val_main_v61, val_main_v60, val_main_v59, val_main_v58, val_main_v57,
    val_main_v56, val_main_v55, val_main_v54, val_main_v53, val_main_v52, val_main_v51, val_main_v50, val_main_cst_8, val_main_cst_9, val_main_cst_10,
    val_main_cst_11]
  rw [ref_dist, _root_.Own.distW_real r.val c.val (by omega) c.isLt, Nat.mod_eq_of_lt r.isLt]
  have e := _root_.Own.slope_pow (hh k2 h)
  rw [e, ← EReal.coe_neg, ← EReal.coe_mul]

theorem ref_score (hs : _root_.Own.Seen n.val r.val c.val) :
    val_main_v70 (F := Ideal) x0 x1 (ix6 b n k2 h r c) = ((((D.blk b n).row (hh k2 h) r).S c : ℝ) : EReal) := by
  pointwise [val_main_v70, val_main_v69, val_main_v68, val_main_v19, val_main_v18, val_main_v17, val_main_v16, val_main_cst_3]
  rw [ref_bias, _root_.Own.kEighth, Finset.sum_congr rfl fun x _ => (congrArg₂ (· * ·) (ref_k hD b n k2 h c x) (ref_q hD b n k2 h r x)).trans (EReal.coe_mul _ _).symm,
    ← _root_.Own.coe_sum, ← EReal.coe_mul, ← EReal.coe_add]
  refine congrArg _ ?_
  unfold Blk.row Data.blk
  dsimp only
  simp only [band_seen D.k b n c _ r.val hs]
  rw [Finset.sum_congr rfl fun x _ => mul_comm _ _]
  ring

omit hD in
theorem ref_m1 : val_main_v71_1 (F := Ideal) (ix6 b n k2 h r c) = if _root_.Own.Seen n.val r.val c.val then 1#1 else 0#1 := by
  pointwise [val_main_v71_1, val_main_v67]
  exact ref_mask n r c

theorem ref_msk : val_main_v71_0 (F := Ideal) x0 x1 (ix6 b n k2 h r c) = ((D.blk b n).row (hh k2 h) r).msk c := by
  pointwise [val_main_v71_0, val_main_call0_v2, val_main_call0_v0, val_main_cst_12]
  rw [ref_m1]
  unfold _root_.Own.Row.msk
  by_cases hs : _root_.Own.Seen n.val r.val c.val
  · rw [if_pos hs, if_pos (show ((D.blk b n).row (hh k2 h) r).M c from hs)]
    exact ref_score hD b n k2 h r c hs
  · rw [if_neg hs, if_neg (show ¬((D.blk b n).row (hh k2 h) r).M c from hs)]
    exact _root_.Own.kNegInf

end

end Cert.AttBackIdeal.Own
end
end
-- ==== Proof.AttRefR.lean ====
/-
The reference of the attention's backward pass, read at an index: a row's weights, and the gradients of its scores and
of its sink.
-/
module

public import proofs.«01_k».proof.Proof.AttRefS

set_option maxRecDepth 16384

@[expose] public section

noncomputable section

namespace Own.Row

variable {n : ℕ} (R : Row n)

theorem sum_p : ∑ c, R.p c = 1 - R.ps := by
  unfold p ps
  rw [← Finset.sum_div, eq_sub_iff_add_eq, ← add_div]
  exact div_self R.Z_pos.ne'

/-- The derivative of the quotient that a weight is, over shifted scores. -/
theorem quot (m : ℝ) (w : Fin n → ℝ) :
    ∑ c, w c * (1 / ((R.Z * Real.exp (-m)) * (R.Z * Real.exp (-m)))) * R.em m c = (∑ c, R.p c * w c) / (R.Z * Real.exp (-m)) := by
  rw [Finset.sum_div]
  refine Finset.sum_congr rfl fun c _ => ?_
  rw [← R.em_div m c]
  have := (R.den_pos m).ne'
  field_simp

theorem sink_div (m : ℝ) : Real.exp R.σ * Real.exp (-m) / (R.Z * Real.exp (-m)) = R.ps := by
  unfold ps; rw [mul_div_mul_right _ _ (Real.exp_pos _).ne']

theorem p_unseen (c : Fin n) (h : ¬R.M c) : R.p c = 0 := by
  unfold p E; rw [if_neg h, zero_div]

/-- One column's gradient over shifted scores. -/
theorem shift_ds (m w e : ℝ) (c : Fin n) : (w / (R.Z * Real.exp (-m)) + -(e / (R.Z * Real.exp (-m)))) * R.em m c = R.p c * (w - e) := by
  rw [← R.em_div m c]; ring

end Own.Row

namespace Cert.AttBackIdeal.Own

open Idealize.ShloMosaic Idealize.ShloMosaic.TcCoe Idealize.SL.Sem
open Cert.AttBackRefIdeal.Read

theorem Blk.de_eq (B : Blk) (g : Fin 128 → Fin 512 → ℝ) (h : Fin 8) (r : Fin 128) : B.de g h r = ∑ c, (B.row h r).p c * B.dp g h r c := by
  unfold Blk.de Blk.dp Blk.out
  simp only [Finset.mul_sum]
  rw [Finset.sum_comm]
  exact Finset.sum_congr rfl fun c _ => Finset.sum_congr rfl fun d _ => by ring

theorem Blk.dsc_sum (B : Blk) (g : Fin 128 → Fin 512 → ℝ) (h : Fin 8) (r : Fin 128) : ∑ c, B.dsc g h r c = B.sg g h r := by
  unfold Blk.dsc Blk.sg
  simp only [mul_sub]
  rw [Finset.sum_sub_distrib, ← Blk.de_eq, ← Finset.sum_mul, Own.Row.sum_p]
  ring

section
variable {D : Data} {x0 : Cert.AttBackRefIdeal.S2x2048x512.Idx → EReal} {x1 x2 : Cert.AttBackRefIdeal.S2x2048x128.Idx → EReal}
  {x3 : Cert.AttBackRefIdeal.S1x8.Idx → EReal} {x4 : Cert.AttBackRefIdeal.S2x2048x512.Idx → EReal} (hD : RData D x0 x1 x2 x3 x4)
  (b : Fin 2) (n : Fin 16) (k2 : Fin 2) (h : Fin 4) (r : Fin 128) (c : Fin 256) (d : Fin 64)

/-- The row of a head and a position. -/
abbrev rowOf (D : Data) (b : Fin 2) (n : Fin 16) (k2 : Fin 2) (h : Fin 4) (r : Fin 128) : _root_.Own.Row 256 := (D.blk b n).row (hh k2 h) r

include hD

theorem ref_top : val_main_v74 (F := Ideal) x0 x1 (ix5 b n k2 h r) = Finset.fold max ⊥ (rowOf D b n k2 h r).msk Finset.univ := by
  pointwise [val_main_v74, val_main_cst_13]
  rw [_root_.Own.fold_last, _root_.Own.kNegInf]
  exact congrArg (fun f => Finset.fold max ⊥ f Finset.univ) (funext fun c => ref_msk hD b n k2 h r c)

/-- The greatest masked score of a row is one of them. -/
theorem ref_top_mem : ∃ c, val_main_v71_0 (F := Ideal) x0 x1 (ix6 b n k2 h r c) = val_main_v74 (F := Ideal) x0 x1 (ix5 b n k2 h r) := by
  rw [ref_top hD]
  rcases _root_.Own.fold_max_mem Finset.univ (rowOf D b n k2 h r).msk with e | ⟨c, _, e⟩
  · exfalso
    have hs : (rowOf D b n k2 h r).M ⟨r.val + 128, by omega⟩ := _root_.Own.seen_self n.val r.val r.isLt
    have := _root_.Own.le_fold_max Finset.univ (rowOf D b n k2 h r).msk ⟨r.val + 128, by omega⟩ (Finset.mem_univ _)
    rw [e, le_bot_iff] at this
    unfold _root_.Own.Row.msk at this
    rw [if_pos hs] at this
    exact EReal.coe_ne_bot _ this
  · exact ⟨c, (ref_msk hD b n k2 h r c).trans e.symm⟩

theorem ref_sink (z0 z1 z2 z3 : Fin 1) : val_main_v73 (F := Ideal) x3 (ix6 z0 z1 k2 h z2 z3) = ((D.s (hh k2 h) : ℝ) : EReal) := by
  pointwise [val_main_v73, val_main_v72, val_main_v0]
  exact hD.s _ _

theorem ref_top_ne : val_main_v74 (F := Ideal) x0 x1 (ix5 b n k2 h r) ≠ ⊤ := by
  rw [ref_top hD]
  exact _root_.Own.fold_max_ne_top _ _ fun c _ => _root_.Own.Row.msk_ne_top _ c

omit hD in
theorem max_at (u v : EReal) : FloatOps.maximumf (F := Ideal) (φ := .f32) u v = max u v := rfl

theorem ref_max_eq : val_main_v82 (F := Ideal) x0 x1 x3 (ix6 b n k2 h r 0)
    = max (val_main_v74 (F := Ideal) x0 x1 (ix5 b n k2 h r) : EReal) ((D.s (hh k2 h) : ℝ) : EReal) := by
  have e0 : val_main_v80 (F := Ideal) x0 x1 (ix6 b n k2 h r 0) = val_main_v74 (F := Ideal) x0 x1 (ix5 b n k2 h r) := by
    pointwise [val_main_v80]
  have e1 : val_main_v81 (F := Ideal) x3 (ix6 b n k2 h r 0) = ((D.s (hh k2 h) : ℝ) : EReal) := by
    pointwise [val_main_v81]
    exact ref_sink hD k2 h _ _ _ _
  rw [val_main_v82_apply, e0, e1]
  generalize val_main_v74 (F := Ideal) x0 x1 (ix5 b n k2 h r) = u
  exact max_at u _

theorem ref_max : ∃ m : ℝ, val_main_v82 (F := Ideal) x0 x1 x3 (ix6 b n k2 h r 0) = (m : EReal) := by
  obtain ⟨m, e⟩ := _root_.Own.max_coe _ (D.s (hh k2 h)) (ref_top_ne hD b n k2 h r)
  exact ⟨m, (ref_max_eq hD b n k2 h r).trans e⟩

variable {b n k2 h r} {m : ℝ} (hm : val_main_v82 (F := Ideal) x0 x1 x3 (ix6 b n k2 h r 0) = (m : EReal))
include hm

theorem ref_exp : val_main_v103 (F := Ideal) x0 x1 x3 (ix6 b n k2 h r c) = (((rowOf D b n k2 h r).em m c : ℝ) : EReal) := by
  pointwise [val_main_v103, val_main_v102, val_main_v101]
  rw [ref_msk hD, hm]
  exact _root_.Own.Row.exp_msk _ m c

theorem ref_esink : val_main_v108 (F := Ideal) x0 x1 x3 (ix6 b n k2 h r 0) = ((Real.exp (D.s (hh k2 h)) * Real.exp (-m) : ℝ) : EReal) := by
  pointwise [val_main_v108, val_main_v107, val_main_v106]
  rw [ref_sink hD, hm]
  exact _root_.Own.Row.exp_sink (rowOf D b n k2 h r) m

theorem ref_den : val_main_v109 (F := Ideal) x0 x1 x3 (ix6 b n k2 h r 0) = (((rowOf D b n k2 h r).Z * Real.exp (-m) : ℝ) : EReal) := by
  pointwise [val_main_v109, val_main_v105, val_main_v104, val_main_cst_21]
  rw [_root_.Own.hostSum_last, zero_add (M := EReal), ref_esink hD hm, Finset.sum_congr rfl fun c _ => ref_exp hD c hm, ← _root_.Own.coe_sum, ← EReal.coe_add]
  exact congrArg _ ((rowOf D b n k2 h r).den_em m)

theorem ref_p : val_main_v111 (F := Ideal) x0 x1 x3 (ix6 b n k2 h r c) = (((rowOf D b n k2 h r).p c : ℝ) : EReal) := by
  pointwise [val_main_v111, val_main_v110]
  rw [ref_exp hD c hm, ref_den hD hm, _root_.Own.div_coe_coe _ _ (_root_.Own.Row.den_pos _ m).ne', _root_.Own.Row.em_div]

theorem ref_inv : val_main_v114 (F := Ideal) x0 x1 x3 (ix6 b n k2 h r 0)
    = ((1 / (((rowOf D b n k2 h r).Z * Real.exp (-m)) * ((rowOf D b n k2 h r).Z * Real.exp (-m))) : ℝ) : EReal) := by
  have hd := (_root_.Own.Row.den_pos (rowOf D b n k2 h r) m).ne'
  pointwise [val_main_v114, val_main_v113, val_main_v112, val_main_cst_22]
  rw [ref_den hD hm, ← EReal.coe_mul, ← EReal.coe_one, _root_.Own.div_coe_coe _ _ (mul_ne_zero hd hd)]

/-- The gradient of a weight over the band. -/
abbrev dpz (D : Data) (b : Fin 2) (n : Fin 16) (k2 : Fin 2) (h : Fin 4) (r : Fin 128) (c : Fin 256) : ℝ :=
  ∑ x : Fin 64, D.cot b n r (hcol (hh k2 h) x) * band D.v b n c (kcol (hh k2 h) x)

omit hm hD in
theorem p_dpz : (rowOf D b n k2 h r).p c * dpz D b n k2 h r c = (rowOf D b n k2 h r).p c * (D.blk b n).dp (D.cot b n) (hh k2 h) r c := by
  by_cases hs : (rowOf D b n k2 h r).M c
  · unfold dpz Blk.dp
    simp only [band_seen D.v b n c _ r.val hs]
    rfl
  · rw [_root_.Own.Row.p_unseen _ _ hs, zero_mul, zero_mul]

omit hm in
theorem ref_dp : val_main_v120 (F := Ideal) x2 x4 (ix6 b n k2 h r c) = ((dpz D b n k2 h r c : ℝ) : EReal) := by
  pointwise [val_main_v120, val_main_v119, val_main_v118]
  have e : ∀ x : Fin 64, x4 (ix3 b ⟨n.val * 128 + r.val, by omega⟩ ⟨k2.val * 256 + h.val * 64 + x.val, by omega⟩)
      = ((D.cot b n r (hcol (hh k2 h) x) : ℝ) : EReal) := by
    intro x; rw [hD.g, hcol_hh]; unfold Data.cot; rw [pos_mul]
  rw [Finset.sum_congr rfl fun x _ => (congrArg₂ (· * ·) (e x) (ref_v hD b n k2 h c x)).trans (EReal.coe_mul _ _).symm,
    ← _root_.Own.coe_sum]

theorem ref_dden : val_main_v128 (F := Ideal) x0 x1 x2 x3 x4 (ix6 b n k2 h r 0)
    = ((-((D.blk b n).de (D.cot b n) (hh k2 h) r / ((rowOf D b n k2 h r).Z * Real.exp (-m))) : ℝ) : EReal) := by
  pointwise [val_main_v128, val_main_v127, val_main_v126, val_main_cst_23]
  rw [_root_.Own.hostSum_last, zero_add (M := EReal)]
  have e : ∀ c : Fin 256, val_main_v125 (F := Ideal) x0 x1 x2 x3 x4 (ix6 b n k2 h r c) = ((dpz D b n k2 h r c
      * (1 / (((rowOf D b n k2 h r).Z * Real.exp (-m)) * ((rowOf D b n k2 h r).Z * Real.exp (-m)))) * (rowOf D b n k2 h r).em m c : ℝ) : EReal) := by
    intro c
    pointwise [val_main_v125, val_main_v124, val_main_v123]
    rw [ref_dp hD c, ref_inv hD hm, ref_exp hD c hm, ← EReal.coe_mul, ← EReal.coe_mul]
  rw [Finset.sum_congr rfl fun c _ => e c, ← _root_.Own.coe_sum, ← EReal.coe_neg, _root_.Own.Row.quot, Blk.de_eq,
    Finset.sum_congr rfl fun c _ => p_dpz c]

theorem ref_sg : val_main_v131 (F := Ideal) x0 x1 x2 x3 x4 (ix6 b n k2 h r 0) = ((-((D.blk b n).sg (D.cot b n) (hh k2 h) r) : ℝ) : EReal) := by
  pointwise [val_main_v131]
  rw [ref_dden hD hm, ref_esink hD hm, ← EReal.coe_mul]
  unfold Blk.sg
  rw [← _root_.Own.Row.sink_div ((D.blk b n).row (hh k2 h) r) m]
  refine congrArg _ ?_
  show _ = -(Real.exp (D.s (hh k2 h)) * Real.exp (-m) / _ * _)
  ring

theorem ref_ds : val_main_v138 (F := Ideal) x0 x1 x2 x3 x4 (ix6 b n k2 h r c) = (((D.blk b n).dsc (D.cot b n) (hh k2 h) r c : ℝ) : EReal) := by
  pointwise [val_main_v138, val_main_v137, val_main_v136, val_main_v135, val_main_v130, val_main_v129, val_main_cst_25]
  rw [_root_.Own.hostSum_last, zero_add (M := EReal), Fin.sum_univ_one, ref_dp hD c, ref_den hD hm, ref_dden hD hm, ref_exp hD c hm,
    _root_.Own.div_coe_coe _ _ (_root_.Own.Row.den_pos _ m).ne', ← EReal.coe_add, ← EReal.coe_mul, _root_.Own.Row.shift_ds]
  unfold Blk.dsc
  rw [mul_sub, mul_sub, p_dpz]

/-- Nothing goes to the maximum. -/
theorem ref_dmax : val_main_v142 (F := Ideal) x0 x1 x2 x3 x4 (ix6 b n k2 h r 0) = (0 : EReal) := by
  pointwise [val_main_v142, val_main_v141, val_main_v140, val_main_v134, val_main_cst_26]
  rw [_root_.Own.hostSum_last, zero_add (M := EReal), ref_sg hD hm]
  have e : ∀ c : Fin 256, val_main_v139 (F := Ideal) x0 x1 x2 x3 x4 (ix6 b n k2 h r c) = ((-((D.blk b n).dsc (D.cot b n) (hh k2 h) r c) : ℝ) : EReal) := by
    intro c
    pointwise [val_main_v139]
    rw [ref_ds hD c hm, ← EReal.coe_neg]
  rw [Finset.sum_congr rfl fun c _ => e c, ← _root_.Own.coe_sum, ← EReal.coe_neg, ← EReal.coe_add, Finset.sum_neg_distrib, Blk.dsc_sum, neg_neg,
    add_neg_cancel, EReal.coe_zero]

omit hm in
/-- Some column holds the greatest score. -/
theorem ref_count : ∃ x : ℝ, x ≠ 0 ∧ val_main_v79 (F := Ideal) x0 x1 (ix5 b n k2 h r) = (x : EReal) := by
  obtain ⟨c0, e0⟩ := ref_top_mem hD b n k2 h r
  have e : ∀ c : Fin 256, val_main_v78 (F := Ideal) x0 x1 (ix6 b n k2 h r c)
      = (((Ideal.cmp .oeq (val_main_v71_0 (F := Ideal) x0 x1 (ix6 b n k2 h r c)) (val_main_v74 (F := Ideal) x0 x1 (ix5 b n k2 h r))).toNat : ℝ) : EReal) := by
    intro c
    pointwise [val_main_v78, val_main_v77, val_main_v76, val_main_v75]
    rfl
  refine ⟨∑ c : Fin 256, ((Ideal.cmp .oeq (val_main_v71_0 (F := Ideal) x0 x1 (ix6 b n k2 h r c)) (val_main_v74 (F := Ideal) x0 x1 (ix5 b n k2 h r))).toNat : ℝ), ?_, ?_⟩
  · refine (Finset.sum_pos' (fun c _ => Nat.cast_nonneg _) ⟨c0, Finset.mem_univ _, ?_⟩).ne'
    rw [e0]
    simp [Ideal.cmp]
  · pointwise [val_main_v79, val_main_cst_14]
    rw [_root_.Own.hostSum_last, zero_add (M := EReal), Finset.sum_congr rfl fun c _ => e c, _root_.Own.coe_sum]
    rfl

theorem ref_dtop : val_main_v151 (F := Ideal) x0 x1 x2 x3 x4 (ix6 b n k2 h r c) = (0 : EReal) := by
  obtain ⟨x, hx, e⟩ := ref_count hD (b := b) (n := n) (k2 := k2) (h := h) (r := r)
  pointwise [val_main_v151, val_main_v150, val_main_v149, val_main_v148, val_main_cst_28]
  rw [_root_.Own.hostSum_last, zero_add (M := EReal), Fin.sum_univ_one, e]
  pointwise [val_main_v147]
  rw [ref_dmax hD hm, zero_mul, ← EReal.coe_zero, _root_.Own.div_coe_coe _ _ hx, zero_div, EReal.coe_zero, zero_mul]

theorem ref_dmsink : val_main_v143 (F := Ideal) x0 x1 x2 x3 x4 (ix6 b n k2 h r 0) = (0 : EReal) := by
  pointwise [val_main_v143]
  rw [ref_dmax hD hm, zero_mul]

/-- The gradient of a scaled product. -/
theorem ref_dqk : val_main_v157 (F := Ideal) x0 x1 x2 x3 x4 (ix6 b n k2 h r c)
    = (((D.blk b n).dsc (D.cot b n) (hh k2 h) r c * (1 / 8) : ℝ) : EReal) := by
  pointwise [val_main_v157, val_main_v156, val_main_v155, val_main_v152, val_main_call1_v0, val_main_call1_cst, val_main_cst_30]
  rw [ref_m1, ref_ds hD c hm, ref_dtop hD c hm, add_zero, _root_.Own.kEighth, EReal.coe_mul]
  by_cases hs : _root_.Own.Seen n.val r.val c.val
  · rw [if_pos hs]; rfl
  · rw [if_neg hs]
    have : (D.blk b n).dsc (D.cot b n) (hh k2 h) r c = 0 := by
      unfold Blk.dsc; rw [_root_.Own.Row.p_unseen _ _ hs, zero_mul]
    rw [this, EReal.coe_zero, zero_mul]
    rfl

end

end Cert.AttBackIdeal.Own
end
end
-- ==== Proof.AttRefA.lean ====
/-
The reference of the attention's backward pass, read at an index: the weights and the gradients of the scores
of every row, and the outputs.
-/
module

public import proofs.«01_k».proof.Proof.AttRefR

set_option maxRecDepth 16384

@[expose] public section

noncomputable section

namespace Cert.AttBackIdeal.Own

open Idealize.ShloMosaic Idealize.ShloMosaic.TcCoe Idealize.SL.Sem
open Cert.AttBackRefIdeal.Read

/-- The rows of a group, head by head. -/
theorem sum_group (f : Fin 4 → Fin 128 → ℝ) : ∑ R : Fin 512, f ⟨R.val / 128, by omega⟩ (rw R) = ∑ x : Fin 4, ∑ y : Fin 128, f x y := by
  rw [← Fintype.sum_prod_type']
  refine (Fintype.sum_equiv (finProdFinEquiv (m := 4) (n := 128)) _ _ fun p => ?_).symm
  refine congrArg₂ f (Fin.ext ?_) (Fin.ext ?_)
  · have := p.2.isLt; show p.1.val = (p.2.val + 128 * p.1.val) / 128; omega
  · have := p.2.isLt; show p.2.val = (p.2.val + 128 * p.1.val) % 128; omega

theorem hd_hh (a : Fin 2) (R : Fin 512) : hd a R = hh a ⟨R.val / 128, by omega⟩ := Fin.ext (by unfold hd; dsimp only; omega)

section
variable {D : Data} {x0 : Cert.AttBackRefIdeal.S2x2048x512.Idx → EReal} {x1 x2 : Cert.AttBackRefIdeal.S2x2048x128.Idx → EReal}
  {x3 : Cert.AttBackRefIdeal.S1x8.Idx → EReal} {x4 : Cert.AttBackRefIdeal.S2x2048x512.Idx → EReal} (hD : RData D x0 x1 x2 x3 x4)
  (b : Fin 2) (n : Fin 16) (k2 : Fin 2) (h : Fin 4) (r : Fin 128) (c : Fin 256) (d : Fin 64)

include hD

theorem ref_wt : val_main_v111 (F := Ideal) x0 x1 x3 (ix6 b n k2 h r c) = (((rowOf D b n k2 h r).p c : ℝ) : EReal) := by
  obtain ⟨m, hm⟩ := ref_max hD b n k2 h r
  exact ref_p hD c hm

theorem ref_gs : val_main_v157 (F := Ideal) x0 x1 x2 x3 x4 (ix6 b n k2 h r c) = (((D.blk b n).dsc (D.cot b n) (hh k2 h) r c * (1 / 8) : ℝ) : EReal) := by
  obtain ⟨m, hm⟩ := ref_max hD b n k2 h r
  exact ref_dqk hD c hm

theorem ref_gsink : val_main_v131 (F := Ideal) x0 x1 x2 x3 x4 (ix6 b n k2 h r 0) = ((-((D.blk b n).sg (D.cot b n) (hh k2 h) r) : ℝ) : EReal) := by
  obtain ⟨m, hm⟩ := ref_max hD b n k2 h r
  exact ref_sg hD hm

theorem ref_gmax : val_main_v143 (F := Ideal) x0 x1 x2 x3 x4 (ix6 b n k2 h r 0) = (0 : EReal) := by
  obtain ⟨m, hm⟩ := ref_max hD b n k2 h r
  exact ref_dmsink hD hm

theorem ref_cot : val_main_v119 (F := Ideal) x4 (ix6 b n k2 d h r) = ((D.cot b n r (hcol (hh k2 h) d) : ℝ) : EReal) := by
  pointwise [val_main_v119, val_main_v118]
  rw [hD.g, hcol_hh]; unfold Data.cot; rw [pos_mul]

theorem ref_out : ∑ c : Fin 256, val_main_v7 (F := Ideal) x2 (ix5 b n c k2 d) * val_main_v111 (F := Ideal) x0 x1 x3 (ix6 b n k2 h r c)
    = (((D.blk b n).out (hh k2 h) r d : ℝ) : EReal) := by
  rw [Finset.sum_congr rfl fun c _ => (congrArg₂ (· * ·) (ref_v hD b n k2 h c d) (ref_wt hD b n k2 h r c)).trans (EReal.coe_mul _ _).symm,
    ← _root_.Own.coe_sum]
  refine congrArg _ (Finset.sum_congr rfl fun c _ => ?_)
  by_cases hs : _root_.Own.Seen n.val r.val c.val
  · rw [band_seen D.v b n c _ r.val hs]; exact mul_comm _ _
  · rw [_root_.Own.Row.p_unseen (rowOf D b n k2 h r) c hs]; rw [mul_zero, zero_mul]

end

end Cert.AttBackIdeal.Own
end
end
-- ==== Proof.AttRef.lean ====
/-
The reference of the attention's backward pass, read at an index: its five results.
-/
module

public import proofs.«01_k».proof.Proof.AttRefA

set_option maxRecDepth 16384

@[expose] public section

noncomputable section

namespace Cert.AttBackIdeal.Own

open Idealize.ShloMosaic Idealize.ShloMosaic.TcCoe Idealize.SL.Sem
open Cert.AttBackRefIdeal.Read

/-- A value of the next block, where there is one. -/
theorem next_at (F : Fin 16 → EReal) (f : Fin 16 → ℝ) (e : ∀ i, F i = ((f i : ℝ) : EReal)) (n : ℕ) (P : Prop) [Decidable P] (hP : P ↔ n + 1 < 16)
    (q : P → 1 + n < 16) : (if h : P then F ⟨1 + n, q h⟩ else 0) = ((if h : n + 1 < 16 then f ⟨n + 1, h⟩ else 0 : ℝ) : EReal) := by
  by_cases h : P
  · rw [dif_pos h, dif_pos (hP.mp h), e]
    exact congrArg (fun i : Fin 16 => ((f i : ℝ) : EReal)) (Fin.ext (Nat.add_comm 1 n))
  · rw [dif_neg h, dif_neg (fun x => h (hP.mpr x)), EReal.coe_zero]

section
variable {D : Data} {x0 : Cert.AttBackRefIdeal.S2x2048x512.Idx → EReal} {x1 x2 : Cert.AttBackRefIdeal.S2x2048x128.Idx → EReal}
  {x3 : Cert.AttBackRefIdeal.S1x8.Idx → EReal} {x4 : Cert.AttBackRefIdeal.S2x2048x512.Idx → EReal} (hD : RData D x0 x1 x2 x3 x4)
  (b : Fin 2) (n : Fin 16) (k2 : Fin 2) (h : Fin 4) (r : Fin 128) (c : Fin 256) (d : Fin 64)

include hD

theorem ref_o (R : Fin 4096) (x : Fin 512) : val_main_v179 (F := Ideal) x0 x1 x2 x3 (ix2 R x) = arrO D (ix2 R x) := by
  pointwise [val_main_v179, val_main_v117, val_main_v116, val_main_v115]
  rw [ref_out hD]
  unfold arrO Data.o
  exact congrArg (fun h : Fin 8 => (((D.blk (sq R) (pb (ps R))).out h (pr (ps R)) (cd x) : ℝ) : EReal)) (Fin.ext (show x.val / 256 * 4 + x.val / 64 % 4 = x.val / 64 by omega))

theorem ref_gq : val_main_v159 (F := Ideal) x0 x1 x2 x3 x4 (ix6 b n k2 r h d) = (((D.blk b n).dq (D.cot b n) (hh k2 h) r d : ℝ) : EReal) := by
  pointwise [val_main_v159, val_main_v158]
  rw [Finset.sum_congr rfl fun c _ => (congrArg₂ (· * ·) (ref_gs hD b n k2 h r c) (ref_k hD b n k2 h c d)).trans (EReal.coe_mul _ _).symm,
    ← _root_.Own.coe_sum]
  refine congrArg _ ?_
  unfold Blk.dq
  rw [Finset.sum_mul]
  refine Finset.sum_congr rfl fun c _ => ?_
  by_cases hs : _root_.Own.Seen n.val r.val c.val
  · rw [band_seen D.k b n c _ r.val hs]; show _ * _ * D.k b (bpos n c) _ = _ * D.k b (bpos n c) _ * _; ring
  · unfold Blk.dsc; rw [_root_.Own.Row.p_unseen (rowOf D b n k2 h r) c hs]; simp only [zero_mul]

theorem ref_dq (R : Fin 4096) (x : Fin 512) : val_main_v180 (F := Ideal) x0 x1 x2 x3 x4 (ix2 R x) = arrQ D (ix2 R x) := by
  pointwise [val_main_v180, val_main_v163, val_main_v160]
  rw [ref_gq hD]
  unfold arrQ Data.dQ
  exact congrArg (fun h : Fin 8 => (((D.blk (sq R) (pb (ps R))).dq (D.cot (sq R) (pb (ps R))) h (pr (ps R)) (cd x) : ℝ) : EReal)) (Fin.ext (show x.val / 256 * 4 + x.val / 64 % 4 = x.val / 64 by omega))

theorem ref_gk : val_main_v161 (F := Ideal) x0 x1 x2 x3 x4 (ix5 b n k2 c d) = (((D.blk b n).dk (D.cot b n) k2 d c : ℝ) : EReal) := by
  pointwise [val_main_v161, val_main_v158]
  rw [Finset.sum_congr rfl fun y _ => (Finset.sum_congr rfl fun x _ =>
      (congrArg₂ (· * ·) (ref_gs hD b n k2 x y c) (ref_q hD b n k2 x y d)).trans (EReal.coe_mul _ _).symm).trans (_root_.Own.coe_sum _ _).symm,
    ← _root_.Own.coe_sum]
  refine congrArg _ ?_
  unfold Blk.dk
  simp only [hd_hh]
  rw [sum_group (fun x y => (D.blk b n).q y (hcol (hh k2 x) d) * (D.blk b n).dsc (D.cot b n) (hh k2 x) y c), Finset.sum_comm, Finset.sum_mul]
  refine Finset.sum_congr rfl fun x _ => ?_
  rw [Finset.sum_mul]
  refine Finset.sum_congr rfl fun y _ => ?_
  show _ * _ * D.q b (pos n y) _ = D.q b (pos n y) _ * _ * _
  ring

theorem ref_gv : val_main_v121 (F := Ideal) x0 x1 x3 x4 (ix5 b n k2 d c) = (((D.blk b n).dv (D.cot b n) k2 d c : ℝ) : EReal) := by
  pointwise [val_main_v121]
  rw [Finset.sum_congr rfl fun x _ => (Finset.sum_congr rfl fun y _ =>
      (congrArg₂ (· * ·) (ref_cot hD b n k2 x y d) (ref_wt hD b n k2 x y c)).trans (EReal.coe_mul _ _).symm).trans (_root_.Own.coe_sum _ _).symm,
    ← _root_.Own.coe_sum]
  refine congrArg _ ?_
  unfold Blk.dv
  simp only [hd_hh]
  rw [sum_group (fun x y => D.cot b n y (hcol (hh k2 x) d) * ((D.blk b n).row (hh k2 x) y).p c)]

theorem ref_dk (R : Fin 4096) (x : Fin 128) : val_main_v181 (F := Ideal) x0 x1 x2 x3 x4 (ix2 R x) = arrK D (ix2 R x) := by
  pointwise [val_main_v181, val_main_v170, val_main_v169, val_main_v168, val_main_v167, val_main_v165, val_main_v164, val_main_v162, val_main_cst_31]
  have e0 : arrK D (ix2 R x) = ((D.dkb (sq R) (pb (ps R)) x (up (pr (ps R))) : ℝ) : EReal)
      + ((if h : (pb (ps R)).val + 1 < 16 then D.dkb (sq R) ⟨(pb (ps R)).val + 1, h⟩ x (lo (pr (ps R))) else 0 : ℝ) : EReal) := by
    rw [← EReal.coe_add]; rfl
  refine Eq.trans ?_ e0.symm
  refine congrArg₂ (· + ·) (ref_gk hD _ _ _ _ _) ?_
  exact next_at (fun i => val_main_v161 (F := Ideal) x0 x1 x2 x3 x4 (ix5 (sq R) i (kg x) (lo (pr (ps R))) (kd x))) (fun i => D.dkb (sq R) i x (lo (pr (ps R))))
    (fun i => ref_gk hD _ _ _ _ _) (R.val % 2048 / 128) _ (by omega) (by omega)

theorem ref_dv (R : Fin 4096) (x : Fin 128) : val_main_v182 (F := Ideal) x0 x1 x3 x4 (ix2 R x) = arrV D (ix2 R x) := by
  pointwise [val_main_v182, val_main_v177, val_main_v176, val_main_v175, val_main_v174, val_main_v172, val_main_v171, val_main_v122, val_main_cst_32]
  have e0 : arrV D (ix2 R x) = ((D.dvb (sq R) (pb (ps R)) x (up (pr (ps R))) : ℝ) : EReal)
      + ((if h : (pb (ps R)).val + 1 < 16 then D.dvb (sq R) ⟨(pb (ps R)).val + 1, h⟩ x (lo (pr (ps R))) else 0 : ℝ) : EReal) := by
    rw [← EReal.coe_add]; rfl
  refine Eq.trans ?_ e0.symm
  refine congrArg₂ (· + ·) (ref_gv hD _ _ _ _ _) ?_
  exact next_at (fun i => val_main_v121 (F := Ideal) x0 x1 x3 x4 (ix5 (sq R) i (kg x) (kd x) (lo (pr (ps R))))) (fun i => D.dvb (sq R) i x (lo (pr (ps R))))
    (fun i => ref_gv hD _ _ _ _ _) (R.val % 2048 / 128) _ (by omega) (by omega)

theorem ref_rows_sink : val_main_v132 (F := Ideal) x0 x1 x2 x3 x4 (ix3 k2 h 0) = ((D.dS (hh k2 h) : ℝ) : EReal) := by
  pointwise [val_main_v132, val_main_cst_24]
  rw [_root_.Own.hostSum_rows, zero_add (M := EReal)]
  rw [Finset.sum_congr rfl fun b _ => (Finset.sum_congr rfl fun n _ => (Finset.sum_congr rfl fun r _ => ref_gsink hD b n k2 h r).trans
    (_root_.Own.coe_sum _ _).symm).trans (_root_.Own.coe_sum _ _).symm, ← _root_.Own.coe_sum]
  unfold Data.dS
  simp only [Finset.sum_neg_distrib]

theorem ref_rows_max : val_main_v144 (F := Ideal) x0 x1 x2 x3 x4 (ix3 k2 h 0) = (0 : EReal) := by
  pointwise [val_main_v144, val_main_cst_27]
  rw [_root_.Own.hostSum_rows, zero_add (M := EReal)]
  rw [Finset.sum_congr rfl fun b _ => (Finset.sum_congr rfl fun n _ => (Finset.sum_congr rfl fun r _ => ref_gmax hD b n k2 h r).trans
    Finset.sum_const_zero).trans Finset.sum_const_zero, Finset.sum_const_zero]

theorem ref_dsk (x : Fin 8) : val_main_v178 (F := Ideal) x0 x1 x2 x3 x4 (ix2 0 x) = arrS D (ix2 0 x) := by
  pointwise [val_main_v178, val_main_v154, val_main_v153, val_main_cst_29]
  rw [_root_.Own.hostSum_ones, zero_add (M := EReal)]
  pointwise [val_main_v146, val_main_v145, val_main_v133]
  rw [ref_rows_sink hD, ref_rows_max hD, add_zero]
  exact congrArg (fun h : Fin 8 => ((D.dS h : ℝ) : EReal)) (Fin.ext (show x.val / 4 * 4 + x.val % 4 = x.val by omega))

end

end Cert.AttBackIdeal.Own
end
end
-- ==== Proof.AttFrame.lean ====
/-
The frames of the attention call's forward and backward pass: it ends, every counter is zero again and its arguments are as they were.
-/
module

public import proofs.«01_k».proof.Defs
public import proofs.«01_k».proof.Proof.AttMain
public import proofs.«01_k».proof.Proof.Gen.AttBack
public import proofs.«01_k».proof.Proof.Gen.AttBackRefIdeal.Run
public import proofs.«01_k».proof.Proof.Gen.Pre_finite_att

set_option maxRecDepth 16384

@[expose] public section

noncomputable section

namespace Cert.AttBackIdeal.Own

open Idealize.ShloMosaic Idealize.ShloMosaic.TcCoe Idealize.SL.Sem
open Cert.AttBackIdeal.Gen

variable {F : FTy → Type} [FloatOps F]
variable (m : (ℓ : Loc nD τ sig) → Buf (Elt F) ℓ) (ρ : Dev nD → PrngReg)

/-- What the run leaves in the results, and the arguments as they were. -/
theorem run_results : θ_run defs (onTc (τ := τ) (main (F := F))) ⟨m, fun _ => 0, ρ⟩ (fun r =>
    (∀ c : Dev nD, (r.2.mem ((c : Thread nD τ).loc main_v7_0) = W4 m c (Proc.devRef .tc main_v7_0)
      ∧ r.2.mem ((c : Thread nD τ).loc main_v9_0) = W4 m c (Proc.devRef .tc main_v9_0)
      ∧ r.2.mem ((c : Thread nD τ).loc main_v9_1) = W4 m c (Proc.devRef .tc main_v9_1)
      ∧ r.2.mem ((c : Thread nD τ).loc main_v9_2) = W4 m c (Proc.devRef .tc main_v9_2)
      ∧ r.2.mem ((c : Thread nD τ).loc main_v9_3) = W4 m c (Proc.devRef .tc main_v9_3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  refine (θ_run defs _ _).mono (fun r h => ⟨fun c => ?_, h.2⟩) (run_main m ρ)
  have k : ∀ b : Ref sig .tc, ¬ (Proc.devRef .tc b : DevRef τ sig).isScoped → r.2.mem ((c : Thread nD τ).loc b) = W4 m c (Proc.devRef .tc b) :=
    fun b hb => run_reads m c (h.1 c) b hb
  have a : ∀ b ∈ argRefs, ¬ (Proc.devRef .tc b : DevRef τ sig).isScoped → r.2.mem ((c : Thread nD τ).loc b) = m ((c : Thread nD τ).loc b) :=
    fun b hm hb => (k b hb).trans (W4_arg m c b hm)
  exact ⟨⟨k _ (by decide), k _ (by decide), k _ (by decide), k _ (by decide), k _ (by decide)⟩,
    a _ (by decide) (by decide), a _ (by decide) (by decide), a _ (by decide) (by decide), a _ (by decide) (by decide), a _ (by decide) (by decide)⟩

/-- The frame of this program's text at any float instance. -/
def Frame (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem frame_any : Frame F := fun m ρ _ =>
  (θ_run defs _ _).mono (fun r h => ⟨fun c => (h.1 c).2, h.2⟩) (run_results (F := F) m ρ)

theorem bits_text : Frame Bits = Cert.quiescent_AttBack := by sl_kernel_rfl

theorem frame_bits : Cert.quiescent_AttBack := bits_text.mp frame_any
theorem frame_ideal : Cert.quiescent_AttBackIdeal := fun m ρ _ =>
  (θ_run Cert.AttBackIdeal.defs _ _).mono (fun r h => ⟨fun c => (h.1 c).2, h.2⟩) (run_results (F := Ideal) m ρ)
theorem frame_ideal_pre : Cert.quiescent_AttBackIdeal_pre_finite_att := fun m ρ _ => frame_ideal m ρ trivial
theorem frame_ref : Cert.quiescent_AttBackRefIdeal := fun m ρ _ =>
  (θ_run Cert.AttBackRefIdeal.defs _ _).mono (fun r h => ⟨fun c => (h c).2.2.2.2.2, sem_eq_zero_of_no_sems (by decide) r.2⟩)
    (Cert.AttBackRefIdeal.Value.run (F := Ideal) m ρ)
theorem frame_ref_pre : Cert.quiescent_AttBackRefIdeal_pre_finite_att := fun m ρ _ => frame_ref m ρ trivial

end Cert.AttBackIdeal.Own

end

end
-- ==== Proof.AttAlg.lean ====
/-
The attention's backward pass: the kernel's five results are the reference's.
-/
module

public import proofs.«01_k».proof.Proof.AttRef
public import proofs.«01_k».proof.Proof.AttFrame

set_option maxRecDepth 16384

@[expose] public section

noncomputable section

namespace Cert.AttBackIdeal.Own

open Idealize.ShloMosaic Idealize.ShloMosaic.TcCoe Idealize.SL.Sem
open Cert.AttBackRefIdeal.Read

section
variable (m : (ℓ : Loc nD τ sig) → Buf (Elt Ideal) ℓ) (c : Dev nD)

/-- The real numbers of the arguments. -/
def dataOf : Data where
  q b s x := (m ((c : Thread nD τ).loc main_arg0) (ix3 b s x) : EReal).toReal
  k b s x := (m ((c : Thread nD τ).loc main_arg1) (ix3 b s x) : EReal).toReal
  v b s x := (m ((c : Thread nD τ).loc main_arg2) (ix3 b s x) : EReal).toReal
  s h := (m ((c : Thread nD τ).loc main_arg3) (ix2 0 h) : EReal).toReal
  g b s x := (m ((c : Thread nD τ).loc main_arg4) (ix3 b s x) : EReal).toReal

theorem coe_of_real {x : EReal} (h : ∃ r : ℝ, x = (r : EReal)) : x = ((x.toReal : ℝ) : EReal) := by
  obtain ⟨r, rfl⟩ := h; rw [EReal.toReal_coe]

theorem isData_of_pre (hp : Cert.Pre_AttBackIdeal_finite_att m) : IsData m c (dataOf m c) := by
  have e := congrFun (hp c) ix0
  dsimp only [Cert.Pre_finite_att.fn, Cert.Pre_finite_att.fn_part1] at e
  obtain ⟨e, h4⟩ := IntOp.andi_eq_one.mp e
  obtain ⟨e, h3⟩ := IntOp.andi_eq_one.mp e
  obtain ⟨e, h2⟩ := IntOp.andi_eq_one.mp e
  obtain ⟨h0, h1⟩ := IntOp.andi_eq_one.mp e
  exact ⟨fun b s x => coe_of_real (_root_.Own.real_of_all _ _ _ _ _ h0 (ix3 b s x)), fun b s x => coe_of_real (_root_.Own.real_of_all _ _ _ _ _ h1 (ix3 b s x)),
    fun b s x => coe_of_real (_root_.Own.real_of_all _ _ _ _ _ h2 (ix3 b s x)),
    fun z h => by rw [Fin.fin_one_eq_zero z]; exact coe_of_real (_root_.Own.real_of_all _ _ _ _ _ h3 (ix2 0 h)),
    fun b s x => coe_of_real (_root_.Own.real_of_all _ _ _ _ _ h4 (ix3 b s x))⟩

variable {m c} {D : Data} (hD : IsData m c D)
include hD

theorem res_o : W4 m c (Proc.devRef .tc main_v7_0) = arrO D :=
  (W4_kept m c main_v7_0 (by decide +kernel)).trans (V3_o hD)
theorem res_q : W4 m c (Proc.devRef .tc main_v9_0) = arrQ D := (W4_arr m c 9).trans (arr1_9 hD)
theorem res_k : W4 m c (Proc.devRef .tc main_v9_1) = arrK D := (W4_arr m c 10).trans (arr1_10 hD)
theorem res_v : W4 m c (Proc.devRef .tc main_v9_2) = arrV D := (W4_arr m c 11).trans (arr1_11 hD)
theorem res_s : W4 m c (Proc.devRef .tc main_v9_3) = arrS D := (W4_arr m c 12).trans (arr1_12 hD)

end

theorem algebraic : Cert.algebraic_AttBackIdeal_AttBackRefIdeal_pre_finite_att := by
  intro m ρ m' ρ' hp ha
  refine ⟨fun c => arrO (dataOf m c), fun c => arrQ (dataOf m c), fun c => arrK (dataOf m c), fun c => arrV (dataOf m c), fun c => arrS (dataOf m c), ?_, ?_⟩
  · refine (θ_run defs _ _).mono (fun r h c => ?_) (run_results m ρ)
    have hD := isData_of_pre m c hp
    obtain ⟨⟨h0, h1, h2, h3, h4⟩, h5⟩ := h.1 c
    exact ⟨h0.trans (res_o hD), h1.trans (res_q hD), h2.trans (res_k hD), h3.trans (res_v hD), h4.trans (res_s hD), h5⟩
  · refine (θ_run Cert.AttBackRefIdeal.defs _ _).mono (fun r h c => ?_) (Cert.AttBackRefIdeal.Value.run (F := Ideal) m' ρ')
    obtain ⟨h0, h1, h2, h3, h4, h5⟩ := h c
    obtain ⟨a0, a1, a2, a3, a4⟩ := ha c
    have hI := isData_of_pre m c hp
    have hD : RData (dataOf m c) (m' ((c.tc : Thread Cert.AttBackRefIdeal.nD Cert.AttBackRefIdeal.τ).loc Cert.AttBackRefIdeal.main_arg0))
        (m' ((c.tc : Thread Cert.AttBackRefIdeal.nD Cert.AttBackRefIdeal.τ).loc Cert.AttBackRefIdeal.main_arg1))
        (m' ((c.tc : Thread Cert.AttBackRefIdeal.nD Cert.AttBackRefIdeal.τ).loc Cert.AttBackRefIdeal.main_arg2))
        (m' ((c.tc : Thread Cert.AttBackRefIdeal.nD Cert.AttBackRefIdeal.τ).loc Cert.AttBackRefIdeal.main_arg3))
        (m' ((c.tc : Thread Cert.AttBackRefIdeal.nD Cert.AttBackRefIdeal.τ).loc Cert.AttBackRefIdeal.main_arg4)) :=
      ⟨fun b s x => (congrFun a0 _).trans (hI.q b s x), fun b s x => (congrFun a1 _).trans (hI.k b s x), fun b s x => (congrFun a2 _).trans (hI.v b s x),
        fun z h => (congrFun a3 _).trans (hI.s z h), fun b s x => (congrFun a4 _).trans (hI.g b s x)⟩
    refine ⟨h0.trans ((val_main_v179_eq _).trans (funext fun y => ?_)), h1.trans ((val_main_v180_eq _).trans (funext fun y => ?_)),
      h2.trans ((val_main_v181_eq _).trans (funext fun y => ?_)), h3.trans ((val_main_v182_eq _).trans (funext fun y => ?_)),
      h4.trans ((val_main_v178_eq _).trans (funext fun y => ?_)), h5⟩
    · rw [eq_ix2 y]; exact ref_o hD _ _
    · rw [eq_ix2 y]; exact ref_dq hD _ _
    · rw [eq_ix2 y]; exact ref_dk hD _ _
    · rw [eq_ix2 y]; exact ref_dv hD _ _
    · rw [eq_ix2 y, Fin.fin_one_eq_zero (y 0)]; exact ref_dsk hD _

end Cert.AttBackIdeal.Own
end
end
-- ==== Proof.ParCases.lean ====
/-
The values the parameter kernel's stores leave, as terms of what it loads.
-/
module

public import proofs.«01_k».proof.Proof.Gen.ParBackIdeal.Frame
public import Idealize.ShloMosaic.Lib.Pipeline.Value
public import Idealize.ShloMosaic.Lib.Pipeline.ReadBack
public import Idealize.ShloMosaic.Lib.Tactic
public import Idealize.ShloMosaic.Lib.Quiescent

set_option maxRecDepth 16384

@[expose] public section

noncomputable section

namespace Cert.ParBackIdeal.Own

open Idealize.ShloMosaic Idealize.ShloMosaic.TcCoe Idealize.SL.Sem
open Idealize.ShloMosaic.Pipeline (Dat)
open Cert.ParBackIdeal.Gen

variable {F : FTy → Type} [FloatOps F]

theorem off2 : (![0, 0] : Fin 2 → Nat) = fun _ => 0 := funext fun a => by fin_cases a <;> rfl

/-- The four stores of the first part of the input matrix's cotangent, newest first. -/
def Lbr (x : Vec F S4x128x1024 .f32) : List (View.Piece (Elt F) S512x64 .f32) :=
  [⟨Rect.unit ![384, 0] ![128, 64] inb_S512x64_S128x64_384_0, k0_pay23 (k0_pay6 k0_pay3 k0_pay4 k0_pay5) k0_pay7 (View.ld x (Rect.unit ![3, 0, 0] ![1, 128, 512] inb_S4x128x1024_S1x128x512_3_0_0))⟩,
    ⟨Rect.unit ![256, 0] ![128, 64] inb_S512x64_S128x64_256_0, k0_pay18 (k0_pay6 k0_pay3 k0_pay4 k0_pay5) k0_pay7 (View.ld x (Rect.unit ![2, 0, 0] ![1, 128, 512] inb_S4x128x1024_S1x128x512_2_0_0))⟩,
    ⟨Rect.unit ![128, 0] ![128, 64] inb_S512x64_S128x64_128_0, k0_pay13 (k0_pay6 k0_pay3 k0_pay4 k0_pay5) k0_pay7 (View.ld x (Rect.unit ![1, 0, 0] ![1, 128, 512] inb_S4x128x1024_S1x128x512_1_0_0))⟩,
    ⟨Rect.unit ![0, 0] ![128, 64] inb_S512x64_S128x64_0_0, k0_pay8 k0_pay3 k0_pay4 k0_pay5 (View.ld x (Rect.unit ![0, 0, 0] ![1, 128, 512] inb_S4x128x1024_S1x128x512_0_0_0))⟩]

/-- The four stores of its second part. -/
def Lbi (x : Vec F S4x128x1024 .f32) : List (View.Piece (Elt F) S512x64 .f32) :=
  [⟨Rect.unit ![384, 0] ![128, 64] inb_S512x64_S128x64_384_0, k0_pay25 (k0_pay24 (k0_pay6 k0_pay3 k0_pay4 k0_pay5) k0_pay7 (View.ld x (Rect.unit ![3, 0, 512] ![1, 128, 512] inb_S4x128x1024_S1x128x512_3_0_512)))⟩,
    ⟨Rect.unit ![256, 0] ![128, 64] inb_S512x64_S128x64_256_0, k0_pay20 (k0_pay19 (k0_pay6 k0_pay3 k0_pay4 k0_pay5) k0_pay7 (View.ld x (Rect.unit ![2, 0, 512] ![1, 128, 512] inb_S4x128x1024_S1x128x512_2_0_512)))⟩,
    ⟨Rect.unit ![128, 0] ![128, 64] inb_S512x64_S128x64_128_0, k0_pay15 (k0_pay14 (k0_pay6 k0_pay3 k0_pay4 k0_pay5) k0_pay7 (View.ld x (Rect.unit ![1, 0, 512] ![1, 128, 512] inb_S4x128x1024_S1x128x512_1_0_512)))⟩,
    ⟨Rect.unit ![0, 0] ![128, 64] inb_S512x64_S128x64_0_0, k0_pay10 (k0_pay9 k0_pay3 k0_pay4 k0_pay5 (View.ld x (Rect.unit ![0, 0, 512] ![1, 128, 512] inb_S4x128x1024_S1x128x512_0_0_512)))⟩]

/-- The four stores of the first part of the output matrix's cotangent. -/
def Lcr (x : Vec F S4x128x1024 .f32) : List (View.Piece (Elt F) S512x64 .f32) :=
  [⟨Rect.unit ![384, 0] ![128, 64] inb_S512x64_S128x64_384_0, k0_pay26 (k0_pay6 k0_pay3 k0_pay4 k0_pay5) k0_pay7 (View.ld x (Rect.unit ![3, 0, 0] ![1, 128, 512] inb_S4x128x1024_S1x128x512_3_0_0))⟩,
    ⟨Rect.unit ![256, 0] ![128, 64] inb_S512x64_S128x64_256_0, k0_pay21 (k0_pay6 k0_pay3 k0_pay4 k0_pay5) k0_pay7 (View.ld x (Rect.unit ![2, 0, 0] ![1, 128, 512] inb_S4x128x1024_S1x128x512_2_0_0))⟩,
    ⟨Rect.unit ![128, 0] ![128, 64] inb_S512x64_S128x64_128_0, k0_pay16 (k0_pay6 k0_pay3 k0_pay4 k0_pay5) k0_pay7 (View.ld x (Rect.unit ![1, 0, 0] ![1, 128, 512] inb_S4x128x1024_S1x128x512_1_0_0))⟩,
    ⟨Rect.unit ![0, 0] ![128, 64] inb_S512x64_S128x64_0_0, k0_pay11 (k0_pay6 k0_pay3 k0_pay4 k0_pay5) k0_pay7 (View.ld x (Rect.unit ![0, 0, 0] ![1, 128, 512] inb_S4x128x1024_S1x128x512_0_0_0))⟩]

/-- The four stores of its second part. -/
def Lci (x : Vec F S4x128x1024 .f32) : List (View.Piece (Elt F) S512x64 .f32) :=
  [⟨Rect.unit ![384, 0] ![128, 64] inb_S512x64_S128x64_384_0, k0_pay27 (k0_pay6 k0_pay3 k0_pay4 k0_pay5) k0_pay7 (View.ld x (Rect.unit ![3, 0, 512] ![1, 128, 512] inb_S4x128x1024_S1x128x512_3_0_512))⟩,
    ⟨Rect.unit ![256, 0] ![128, 64] inb_S512x64_S128x64_256_0, k0_pay22 (k0_pay6 k0_pay3 k0_pay4 k0_pay5) k0_pay7 (View.ld x (Rect.unit ![2, 0, 512] ![1, 128, 512] inb_S4x128x1024_S1x128x512_2_0_512))⟩,
    ⟨Rect.unit ![128, 0] ![128, 64] inb_S512x64_S128x64_128_0, k0_pay17 (k0_pay6 k0_pay3 k0_pay4 k0_pay5) k0_pay7 (View.ld x (Rect.unit ![1, 0, 512] ![1, 128, 512] inb_S4x128x1024_S1x128x512_1_0_512))⟩,
    ⟨Rect.unit ![0, 0] ![128, 64] inb_S512x64_S128x64_0_0, k0_pay12 (k0_pay6 k0_pay3 k0_pay4 k0_pay5) k0_pay7 (View.ld x (Rect.unit ![0, 0, 512] ![1, 128, 512] inb_S4x128x1024_S1x128x512_0_0_512))⟩]

/-- A load of all of a buffer of this shape reads what its stores left. -/
theorem readCov_all {sp : Space} (v : View sig .tc sp S512x64 .f32) (L : List (View.Piece (Elt F) S512x64 .f32))
    (h : ∀ a, (![0, 0] : Fin 2 → Nat) a + S512x64.size a ≤ S512x64.size a) :
    v.readCov L (Rect.unit (s := S512x64) ![0, 0] S512x64.size h).toLoadRect = View.canon L :=
  (View.readCov_eq_canon' v L _).trans (View.ld_unit_zero off2 h (View.canon L))

variable (c : Dev nD)
  {a0 : Memref sig .tc .vmem S32x64 .f32}
  {a1 : Memref sig .tc .vmem S32x64 .f32}
  {a2 : Memref sig .tc .vmem S32x1 .f32}
  {a3 : Memref sig .tc .vmem S512x64 .f32}
  {a4 : Memref sig .tc .vmem S512x64 .f32}
  {a5 : Memref sig .tc .vmem S32x64 .f32}
  {a6 : Memref sig .tc .vmem S32x64 .f32}
  {a7 : Memref sig .tc .vmem S4x128x1024 .f32}
  {a8 : Memref sig .tc .vmem S4x128x1024 .f32}
  {a9 : Memref sig .tc .vmem S32x64 .f32}
  {a10 : Memref sig .tc .vmem S32x64 .f32}
  {a11 : Memref sig .tc .vmem S32x1 .f32}
  {a12 : Memref sig .tc .vmem S512x64 .f32}
  {a13 : Memref sig .tc .vmem S512x64 .f32}
  {a14 : Memref sig .tc .vmem S512x64 .f32}
  {a15 : Memref sig .tc .vmem S512x64 .f32}
  {a16 : Memref sig .tc .vmem S512x64 .f32}
  {a17 : Memref sig .tc .vmem S512x64 .f32}
  (h0 : a0.IsWhole) (h1 : a1.IsWhole) (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole) (h13 : a13.IsWhole) (h14 : a14.IsWhole) (h15 : a15.IsWhole) (h16 : a16.IsWhole) (h17 : a17.IsWhole)
  (x0 : Vec F S32x64 .f32) (x1 : Vec F S32x64 .f32) (x2 : Vec F S32x1 .f32) (x3 : Vec F S512x64 .f32) (x4 : Vec F S512x64 .f32) (x5 : Vec F S32x64 .f32) (x6 : Vec F S32x64 .f32) (x7 : Vec F S4x128x1024 .f32) (x8 : Vec F S4x128x1024 .f32)

theorem out_14 : out0_A_14 c a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 = View.canon (Lcr x8) := by
  unfold out0_A_14
  rw [View.read_writes_eq_canon _ _ _ (cover0_A_14 c a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8)]
  unfold kernelRun0_A; dsimp only
  sl_unfold_words
  simp only [View.readAt_eq_ld, Memref.IsWhole.read_unread, View.ld_unit_zero (S := S32x64) off2, View.ld_unit_zero (S := S32x1) off2, View.ld_unit_zero (S := S512x64) off2]
  rfl

theorem out_15 : out0_A_15 c a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 = k0_pay28 (View.canon (Lci x8)) := by
  unfold out0_A_15
  rw [View.read_writes_eq_canon _ _ _ (cover0_A_15 c a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8)]
  unfold kernelRun0_A; dsimp only
  sl_unfold_words
  rw [View.canon_cons_unit_zero (S := S512x64) off2]
  simp only [View.readAt_eq_ld, Memref.IsWhole.read_unread, View.ld_unit_zero (S := S32x64) off2, View.ld_unit_zero (S := S32x1) off2, View.ld_unit_zero (S := S512x64) off2, readCov_all]
  exact congrArg k0_pay28 (readCov_all _ (Lci x8) _)

theorem out_9 : out0_A_9 c a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 = (k0_pay56 (k0_pay29 x0) (k0_pay30 x1) (k0_pay31 x2) (k0_pay34 (k0_pay30 x1) (k0_pay32 x0 x2) (k0_pay33 x2)) (k0_pay35 (k0_pay30 x1) (k0_pay31 x2) (k0_pay32 x0 x2)) (k0_pay36 (k0_pay29 x0) (k0_pay30 x1)) (k0_pay37 (k0_pay29 x0) (k0_pay30 x1) (k0_pay31 x2) (k0_pay32 x0 x2) (k0_pay33 x2)) (k0_pay38 (k0_pay29 x0) (k0_pay30 x1) (k0_pay31 x2) (k0_pay32 x0 x2) (k0_pay33 x2)) (k0_pay41 x3) (k0_pay42 x4) (View.canon (Lbr x7)) (View.canon (Lbi x7)) x5 x6) := by
  unfold out0_A_9
  rw [View.read_writes_eq_canon _ _ _ (cover0_A_9 c a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8)]
  unfold kernelRun0_A; dsimp only
  sl_unfold_words
  rw [View.canon_cons_unit_zero (S := S32x64) off2]
  simp only [View.readAt_eq_ld, Memref.IsWhole.read_unread, View.ld_unit_zero (S := S32x64) off2, View.ld_unit_zero (S := S32x1) off2, View.ld_unit_zero (S := S512x64) off2, readCov_all]
  exact congrArg₂ (fun gr gi => (k0_pay56 (k0_pay29 x0) (k0_pay30 x1) (k0_pay31 x2) (k0_pay34 (k0_pay30 x1) (k0_pay32 x0 x2) (k0_pay33 x2)) (k0_pay35 (k0_pay30 x1) (k0_pay31 x2) (k0_pay32 x0 x2)) (k0_pay36 (k0_pay29 x0) (k0_pay30 x1)) (k0_pay37 (k0_pay29 x0) (k0_pay30 x1) (k0_pay31 x2) (k0_pay32 x0 x2) (k0_pay33 x2)) (k0_pay38 (k0_pay29 x0) (k0_pay30 x1) (k0_pay31 x2) (k0_pay32 x0 x2) (k0_pay33 x2)) (k0_pay41 x3) (k0_pay42 x4) gr gi x5 x6)) (readCov_all _ (Lbr x7) _) (readCov_all _ (Lbi x7) _)

theorem out_10 : out0_A_10 c a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 = (k0_pay1 (k0_pay31 x2) (k0_pay53 (k0_pay29 x0) (k0_pay30 x1) (k0_pay36 (k0_pay29 x0) (k0_pay30 x1)) (k0_pay37 (k0_pay29 x0) (k0_pay30 x1) (k0_pay31 x2) (k0_pay32 x0 x2) (k0_pay33 x2)) (k0_pay38 (k0_pay29 x0) (k0_pay30 x1) (k0_pay31 x2) (k0_pay32 x0 x2) (k0_pay33 x2)) (k0_pay41 x3) (k0_pay42 x4) (View.canon (Lbr x7)) (View.canon (Lbi x7))) (k0_pay55 (k0_pay29 x0) (k0_pay30 x1) (k0_pay34 (k0_pay30 x1) (k0_pay32 x0 x2) (k0_pay33 x2)) (k0_pay35 (k0_pay30 x1) (k0_pay31 x2) (k0_pay32 x0 x2)) (k0_pay36 (k0_pay29 x0) (k0_pay30 x1)) (k0_pay41 x3) (k0_pay42 x4) (View.canon (Lbr x7)) (View.canon (Lbi x7)) x5 x6)) := by
  unfold out0_A_10
  rw [View.read_writes_eq_canon _ _ _ (cover0_A_10 c a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8)]
  unfold kernelRun0_A; dsimp only
  sl_unfold_words
  rw [View.canon_cons_unit_zero (S := S32x64) off2]
  simp only [View.readAt_eq_ld, Memref.IsWhole.read_unread, View.ld_unit_zero (S := S32x64) off2, View.ld_unit_zero (S := S32x1) off2, View.ld_unit_zero (S := S512x64) off2, readCov_all]
  exact congrArg₂ (fun gr gi => (k0_pay1 (k0_pay31 x2) (k0_pay53 (k0_pay29 x0) (k0_pay30 x1) (k0_pay36 (k0_pay29 x0) (k0_pay30 x1)) (k0_pay37 (k0_pay29 x0) (k0_pay30 x1) (k0_pay31 x2) (k0_pay32 x0 x2) (k0_pay33 x2)) (k0_pay38 (k0_pay29 x0) (k0_pay30 x1) (k0_pay31 x2) (k0_pay32 x0 x2) (k0_pay33 x2)) (k0_pay41 x3) (k0_pay42 x4) gr gi) (k0_pay55 (k0_pay29 x0) (k0_pay30 x1) (k0_pay34 (k0_pay30 x1) (k0_pay32 x0 x2) (k0_pay33 x2)) (k0_pay35 (k0_pay30 x1) (k0_pay31 x2) (k0_pay32 x0 x2)) (k0_pay36 (k0_pay29 x0) (k0_pay30 x1)) (k0_pay41 x3) (k0_pay42 x4) gr gi x5 x6))) (readCov_all _ (Lbr x7) _) (readCov_all _ (Lbi x7) _)

theorem out_11 : out0_A_11 c a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 = (k0_pay2 (k0_pay29 x0) (k0_pay30 x1) (k0_pay31 x2) (k0_pay54 (k0_pay29 x0) (k0_pay30 x1) (k0_pay34 (k0_pay30 x1) (k0_pay32 x0 x2) (k0_pay33 x2)) (k0_pay35 (k0_pay30 x1) (k0_pay31 x2) (k0_pay32 x0 x2)) (k0_pay36 (k0_pay29 x0) (k0_pay30 x1)) (k0_pay41 x3) (k0_pay42 x4) (View.canon (Lbr x7)) (View.canon (Lbi x7)) x5 x6) (k0_pay55 (k0_pay29 x0) (k0_pay30 x1) (k0_pay34 (k0_pay30 x1) (k0_pay32 x0 x2) (k0_pay33 x2)) (k0_pay35 (k0_pay30 x1) (k0_pay31 x2) (k0_pay32 x0 x2)) (k0_pay36 (k0_pay29 x0) (k0_pay30 x1)) (k0_pay41 x3) (k0_pay42 x4) (View.canon (Lbr x7)) (View.canon (Lbi x7)) x5 x6)) := by
  unfold out0_A_11
  rw [View.read_writes_eq_canon _ _ _ (cover0_A_11 c a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8)]
  unfold kernelRun0_A; dsimp only
  sl_unfold_words
  rw [View.canon_cons_unit_zero (S := S32x1) off2]
  simp only [View.readAt_eq_ld, Memref.IsWhole.read_unread, View.ld_unit_zero (S := S32x64) off2, View.ld_unit_zero (S := S32x1) off2, View.ld_unit_zero (S := S512x64) off2, readCov_all]
  exact congrArg₂ (fun gr gi => (k0_pay2 (k0_pay29 x0) (k0_pay30 x1) (k0_pay31 x2) (k0_pay54 (k0_pay29 x0) (k0_pay30 x1) (k0_pay34 (k0_pay30 x1) (k0_pay32 x0 x2) (k0_pay33 x2)) (k0_pay35 (k0_pay30 x1) (k0_pay31 x2) (k0_pay32 x0 x2)) (k0_pay36 (k0_pay29 x0) (k0_pay30 x1)) (k0_pay41 x3) (k0_pay42 x4) gr gi x5 x6) (k0_pay55 (k0_pay29 x0) (k0_pay30 x1) (k0_pay34 (k0_pay30 x1) (k0_pay32 x0 x2) (k0_pay33 x2)) (k0_pay35 (k0_pay30 x1) (k0_pay31 x2) (k0_pay32 x0 x2)) (k0_pay36 (k0_pay29 x0) (k0_pay30 x1)) (k0_pay41 x3) (k0_pay42 x4) gr gi x5 x6))) (readCov_all _ (Lbr x7) _) (readCov_all _ (Lbi x7) _)

theorem out_12 : out0_A_12 c a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 = (k0_pay43 (k0_pay29 x0) (k0_pay30 x1) (k0_pay31 x2) (k0_pay32 x0 x2) (k0_pay33 x2) (View.canon (Lbr x7)) (View.canon (Lbi x7))) := by
  unfold out0_A_12
  rw [View.read_writes_eq_canon _ _ _ (cover0_A_12 c a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8)]
  unfold kernelRun0_A; dsimp only
  sl_unfold_words
  rw [View.canon_cons_unit_zero (S := S512x64) off2]
  simp only [View.readAt_eq_ld, Memref.IsWhole.read_unread, View.ld_unit_zero (S := S32x64) off2, View.ld_unit_zero (S := S32x1) off2, View.ld_unit_zero (S := S512x64) off2, readCov_all]
  exact congrArg₂ (fun gr gi => (k0_pay43 (k0_pay29 x0) (k0_pay30 x1) (k0_pay31 x2) (k0_pay32 x0 x2) (k0_pay33 x2) gr gi)) (readCov_all _ (Lbr x7) _) (readCov_all _ (Lbi x7) _)

theorem out_13 : out0_A_13 c a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8 = (k0_pay44 (k0_pay29 x0) (k0_pay30 x1) (k0_pay31 x2) (k0_pay32 x0 x2) (k0_pay33 x2) (View.canon (Lbr x7)) (View.canon (Lbi x7))) := by
  unfold out0_A_13
  rw [View.read_writes_eq_canon _ _ _ (cover0_A_13 c a0 h0 a1 h1 a2 h2 a3 h3 a4 h4 a5 h5 a6 h6 a7 h7 a8 h8 a9 h9 a10 h10 a11 h11 a12 h12 a13 h13 a14 h14 a15 h15 a16 h16 a17 h17 x0 x1 x2 x3 x4 x5 x6 x7 x8)]
  unfold kernelRun0_A; dsimp only
  sl_unfold_words
  rw [View.canon_cons_unit_zero (S := S512x64) off2]
  simp only [View.readAt_eq_ld, Memref.IsWhole.read_unread, View.ld_unit_zero (S := S32x64) off2, View.ld_unit_zero (S := S32x1) off2, View.ld_unit_zero (S := S512x64) off2, readCov_all]
  exact congrArg₂ (fun gr gi => (k0_pay44 (k0_pay29 x0) (k0_pay30 x1) (k0_pay31 x2) (k0_pay32 x0 x2) (k0_pay33 x2) gr gi)) (readCov_all _ (Lbr x7) _) (readCov_all _ (Lbi x7) _)

end Cert.ParBackIdeal.Own

end

end
-- ==== Proof.ParPoint.lean ====
/-
The parameter kernel's stores read at an index: the two matrices' cotangents on their diagonal blocks, and the closed forms over the reals.
-/
module

public import proofs.«01_k».proof.Proof.ParCases
public import proofs.«01_k».proof.Proof.Reals
public import proofs.«01_k».proof.Proof.Gen.ParBackIdeal.Value
public import Idealize.ShloMosaic.Lib.Pipeline.ValueKit
public import Idealize.ShloMosaic.Lib.Claim

set_option maxRecDepth 16384

@[expose] public section

noncomputable section

namespace Cert.ParBackIdeal.Own

open Idealize.ShloMosaic Idealize.ShloMosaic.TcCoe Idealize.SL.Sem
open Idealize.ShloMosaic.Pipeline (Dat)
open Cert.ParBackIdeal.Gen

theorem pay3_at (r : Fin 128) (k : Fin 512) : k0_pay3 (ix2 r k) = BitVec.ofNat 32 (r.val / 16) := by
  show k0_pay3 (ix2 r 0) = _
  revert r
  decide +kernel

/-- A column's group, as the word the kernel computes. -/
theorem col_at (k : Fin 512) : Scalar.select (k0_pay5 (ix2 0 k)) (IntOp.subi (k0_pay4 (ix2 0 k)) 1#32) (k0_pay4 (ix2 0 k)) = BitVec.ofNat 32 (k.val / 64) := by
  revert k
  decide +kernel

theorem word_eq (a b : Fin 64) : IntOp.cmpi .eq (BitVec.ofNat 32 a.val) (BitVec.ofNat 32 b.val) = if a.val = b.val then 1#1 else 0#1 := by
  revert a b
  decide +kernel

/-- The kernel's mask keeps the entries whose row and column are of the same group. -/
theorem mask_at (r : Fin 128) (k : Fin 512) : k0_pay6 k0_pay3 k0_pay4 k0_pay5 (ix2 r k) = if r.val / 16 = k.val / 64 then 1#1 else 0#1 := by
  have e : k0_pay6 k0_pay3 k0_pay4 k0_pay5 (ix2 r k)
      = IntOp.cmpi .eq (k0_pay3 (ix2 r k)) (Scalar.select (k0_pay5 (ix2 0 k)) (IntOp.subi (k0_pay4 (ix2 0 k)) 1#32) (k0_pay4 (ix2 0 k))) := rfl
  rw [e, pay3_at, col_at]
  exact word_eq ⟨r.val / 16, by omega⟩ ⟨k.val / 64, by omega⟩

/-- A row's place in its group, as the word the kernel computes. -/
def place (k : Fin 512) : BitVec 32 :=
  have w : BitVec 32 := Scalar.select (Scalar.cmpi CmpIPredicate.eq 64#32 0#32) 1#32 64#32
  have q : BitVec 32 := IntOp.remsi ArithUnit.vector (BitVec.ofNat 32 k.val) w
  Scalar.select (IntOp.andi (IntOp.xori (IntOp.cmpi CmpIPredicate.slt q 0#32) (Scalar.cmpi CmpIPredicate.slt w 0#32)) (IntOp.cmpi CmpIPredicate.ne q 0#32)) (IntOp.addi q w) q

theorem place_eq (k : Fin 512) : place k = BitVec.ofNat 32 (k.val % 64) := by
  revert k
  decide +kernel

theorem rep_at (k : Fin 512) (n : Fin 64) : k0_pay7 (F := Ideal) (ix2 k n) = if k.val % 64 = n.val then (1 : EReal) else 0 := by
  have e : k0_pay7 (F := Ideal) (ix2 k n) = FloatOps.sitofp FTy.f32 (BitVec.setWidth 32 (IntOp.cmpi CmpIPredicate.eq (place k) (BitVec.ofNat 32 n.val))) := by
    unfold k0_pay7
    pointwise
    rfl
  rw [e, place_eq, word_eq ⟨k.val % 64, by omega⟩ n]
  split_ifs
  · show (((1 : ℤ) : ℝ) : EReal) = 1
    simp
  · show (((0 : ℤ) : ℝ) : EReal) = 0
    simp

/-- A column of a row's own group. -/
def dcol (r : Fin 128) (n : Fin 64) : Fin 512 := ⟨64 * (r.val / 16) + n.val, by omega⟩

/-- The masked product with the replicated unit matrix reads the row's own group. -/
theorem diag_sum (v : Vec Ideal S1x128x512 .f32) (r : Fin 128) (n : Fin 64) :
    ∑ k : Fin 512, Scalar.select (k0_pay6 k0_pay3 k0_pay4 k0_pay5 (ix2 r k)) (v (ix3 0 r k) * k0_pay7 (F := Ideal) (ix2 k n)) (0 : EReal) = v (ix3 0 r (dcol r n)) := by
  have hc : (dcol r n).val = 64 * (r.val / 16) + n.val := rfl
  rw [Finset.sum_eq_single (dcol r n)]
  · rw [mask_at, if_pos (by omega), rep_at, if_pos (by omega), mul_one]
    rfl
  · intro k _ hk
    rw [mask_at]
    split_ifs with h
    · rw [rep_at, if_neg (fun e => hk (Fin.ext (by omega))), mul_zero]
      rfl
    · rfl
  · exact fun h => absurd (Finset.mem_univ _) h

/-- The entry a row of the stacked groups reads off the block-diagonal matrix, the part at column `o`. -/
def diag (x : Vec Ideal S4x128x1024 .f32) (o : ℕ) (ho : o ≤ 512) (y : S512x64.Idx) : EReal :=
  x (ix3 ⟨(y 0).val / 128, by have := (y 0).isLt; change _ < 512 at this; omega⟩ ⟨(y 0).val % 128, by omega⟩
    ⟨o + (64 * ((y 0).val % 128 / 16) + (y 1).val), by have := (y 1).isLt; change _ < 64 at this; omega⟩)

theorem diag_piece (x : Vec Ideal S4x128x1024 .f32) (o : ℕ) (ho : o ≤ 512) (j : Fin 4) (w : FVec Ideal S128x64 .f32) (R : ℕ) (hR : R = 128 * j.val) (hb) (hx)
    (hw : ∀ r n, w (ix2 r n) = (View.ld x (Rect.unit (s := S4x128x1024) ![j.val, 0, o] ![1, 128, 512] hx) : Vec Ideal S1x128x512 .f32) (ix3 0 r (dcol r n)))
    (z : (Rect.unit (s := S512x64) ![R, 0] ![128, 64] hb).shape.Idx) :
    w z = diag x o ho ((Rect.unit (s := S512x64) ![R, 0] ![128, 64] hb).emb z) := by
  have hz : z = ix2 (n0 := 128) (n1 := 64) (z 0) (z 1) := eq_ix2 z
  have z0 : (z 0).val < 128 := (z 0).isLt
  have z1 : (z 1).val < 64 := (z 1).isLt
  refine (congrArg w hz).trans ((hw _ _).trans ?_)
  unfold diag
  refine View.ld_unit_apply_of x _ _ hx _ _ ?_
  have e0 : ((Rect.unit (s := S512x64) ![R, 0] ![128, 64] hb).emb z 0).val = R + (z 0).val := Rect.idx_unit_val _ _ hb z 0
  have e1 : ((Rect.unit (s := S512x64) ![R, 0] ![128, 64] hb).emb z 1).val = 0 + (z 1).val := Rect.idx_unit_val _ _ hb z 1
  intro a
  have hj := j.isLt
  fin_cases a
  · show _ / 128 = j.val + 0
    rw [e0]; omega
  · show _ % 128 = 0 + (z 0).val
    rw [e0]; omega
  · show o + (64 * (_ % 128 / 16) + _) = o + (64 * ((z 0).val / 16) + (z 1).val)
    rw [e0, e1]; omega

theorem cr_at (x : Vec Ideal S4x128x1024 .f32) (y : S512x64.Idx) : View.canon (Lcr x) y = diag x 0 (by omega) y := by
  refine View.canon_apply_of_pieces (diag x 0 (by omega)) (Lcr x) ?_ y (View.cover_of_tiledL (Lcr x) S128x64.size (by sl_kernel_rfl) y)
  unfold Lcr
  simp only [List.forall_mem_cons]
  refine ⟨diag_piece x 0 _ 3 _ _ rfl _ inb_S4x128x1024_S1x128x512_3_0_0 ?_, diag_piece x 0 _ 2 _ _ rfl _ inb_S4x128x1024_S1x128x512_2_0_0 ?_, diag_piece x 0 _ 1 _ _ rfl _ inb_S4x128x1024_S1x128x512_1_0_0 ?_, diag_piece x 0 _ 0 _ _ rfl _ inb_S4x128x1024_S1x128x512_0_0_0 ?_,
    fun _ h => absurd h List.not_mem_nil⟩ <;>
  · intro r n
    refine Eq.trans ?_ (diag_sum _ r n)
    pointwise [k0_pay11, k0_pay16, k0_pay21, k0_pay26]

theorem ci_at (x : Vec Ideal S4x128x1024 .f32) (y : S512x64.Idx) : View.canon (Lci x) y = diag x 512 (by omega) y := by
  refine View.canon_apply_of_pieces (diag x 512 (by omega)) (Lci x) ?_ y (View.cover_of_tiledL (Lci x) S128x64.size (by sl_kernel_rfl) y)
  unfold Lci
  simp only [List.forall_mem_cons]
  refine ⟨diag_piece x 512 _ 3 _ _ rfl _ inb_S4x128x1024_S1x128x512_3_0_512 ?_, diag_piece x 512 _ 2 _ _ rfl _ inb_S4x128x1024_S1x128x512_2_0_512 ?_, diag_piece x 512 _ 1 _ _ rfl _ inb_S4x128x1024_S1x128x512_1_0_512 ?_, diag_piece x 512 _ 0 _ _ rfl _ inb_S4x128x1024_S1x128x512_0_0_512 ?_,
    fun _ h => absurd h List.not_mem_nil⟩ <;>
  · intro r n
    refine Eq.trans ?_ (diag_sum _ r n)
    pointwise [k0_pay12, k0_pay17, k0_pay22, k0_pay27]

theorem br_at (x : Vec Ideal S4x128x1024 .f32) (y : S512x64.Idx) : View.canon (Lbr x) y = diag x 0 (by omega) y := by
  refine View.canon_apply_of_pieces (diag x 0 (by omega)) (Lbr x) ?_ y (View.cover_of_tiledL (Lbr x) S128x64.size (by sl_kernel_rfl) y)
  unfold Lbr
  simp only [List.forall_mem_cons]
  refine ⟨diag_piece x 0 _ 3 _ _ rfl _ inb_S4x128x1024_S1x128x512_3_0_0 ?_, diag_piece x 0 _ 2 _ _ rfl _ inb_S4x128x1024_S1x128x512_2_0_0 ?_, diag_piece x 0 _ 1 _ _ rfl _ inb_S4x128x1024_S1x128x512_1_0_0 ?_, diag_piece x 0 _ 0 _ _ rfl _ inb_S4x128x1024_S1x128x512_0_0_0 ?_,
    fun _ h => absurd h List.not_mem_nil⟩ <;>
  · intro r n
    refine Eq.trans ?_ (diag_sum _ r n)
    pointwise [k0_pay8, k0_pay13, k0_pay18, k0_pay23]

theorem bi_at (x : Vec Ideal S4x128x1024 .f32) (y : S512x64.Idx) : View.canon (Lbi x) y = diag x 512 (by omega) y := by
  refine View.canon_apply_of_pieces (diag x 512 (by omega)) (Lbi x) ?_ y (View.cover_of_tiledL (Lbi x) S128x64.size (by sl_kernel_rfl) y)
  unfold Lbi
  simp only [List.forall_mem_cons]
  refine ⟨diag_piece x 512 _ 3 _ _ rfl _ inb_S4x128x1024_S1x128x512_3_0_512 ?_, diag_piece x 512 _ 2 _ _ rfl _ inb_S4x128x1024_S1x128x512_2_0_512 ?_, diag_piece x 512 _ 1 _ _ rfl _ inb_S4x128x1024_S1x128x512_1_0_512 ?_, diag_piece x 512 _ 0 _ _ rfl _ inb_S4x128x1024_S1x128x512_0_0_512 ?_,
    fun _ h => absurd h List.not_mem_nil⟩ <;>
  · intro r n
    refine Eq.trans ?_ (diag_sum _ r n)
    pointwise [k0_pay10, k0_pay9, k0_pay15, k0_pay14, k0_pay20, k0_pay19, k0_pay25, k0_pay24]

end Cert.ParBackIdeal.Own

end

end
-- ==== Proof.ParReal.lean ====
/-
The gradients of the recurrence's parameters over the reals, and the parameter kernel's stores as those numbers.
-/
module

public import proofs.«01_k».proof.Proof.ParPoint

set_option maxRecDepth 16384

@[expose] public section

noncomputable section

namespace Cert.ParBackIdeal.Own

open Idealize.ShloMosaic Idealize.ShloMosaic.TcCoe Idealize.SL.Sem
open Cert.ParBackIdeal.Gen

/-- Channel `p` of group `g`, as a row of the stacked groups, and the group of a row. -/
abbrev row (g : Fin 32) (p : Fin 16) : Fin 512 := ⟨g.val * 16 + p.val, by omega⟩
abbrev grp (R : Fin 512) : Fin 32 := ⟨R.val / 16, by omega⟩

/-- The parameters and cotangents as real numbers: eigenvalues, logarithms of the steps, input matrices, and the cotangents of
    the discretised eigenvalues and of the discretised input matrices. -/
structure Data where
  lr : Fin 32 → Fin 64 → ℝ
  li : Fin 32 → Fin 64 → ℝ
  ls : Fin 32 → ℝ
  br : Fin 512 → Fin 64 → ℝ
  bi : Fin 512 → Fin 64 → ℝ
  ga : Fin 32 → Fin 64 → ℝ
  gb : Fin 32 → Fin 64 → ℝ
  gr : Fin 512 → Fin 64 → ℝ
  gi : Fin 512 → Fin 64 → ℝ
  ne : ∀ g n, lr g n * lr g n + li g n * li g n ≠ 0

namespace Data

variable (D : Data) (g : Fin 32) (n : Fin 64)

def st : ℝ := Real.exp (D.ls g)
def ar : ℝ := Real.exp (D.lr g n * D.st g) * Real.cos (D.li g n * D.st g)
def ai : ℝ := Real.exp (D.lr g n * D.st g) * Real.sin (D.li g n * D.st g)
def den : ℝ := D.lr g n * D.lr g n + D.li g n * D.li g n
def cr : ℝ := ((D.ar g n - 1) * D.lr g n + D.ai g n * D.li g n) / D.den g n
def ci : ℝ := (D.ai g n * D.lr g n - (D.ar g n - 1) * D.li g n) / D.den g n
/-- The cotangent of the quotient of the discretised eigenvalue by the eigenvalue. -/
def sr : ℝ := ∑ p : Fin 16, (D.br (row g p) n * D.gr (row g p) n + D.bi (row g p) n * D.gi (row g p) n)
def si : ℝ := ∑ p : Fin 16, (D.br (row g p) n * D.gi (row g p) n - D.bi (row g p) n * D.gr (row g p) n)
/-- The cotangent of the discretised eigenvalue, of both its uses. -/
def pr : ℝ := D.ga g n + (D.lr g n * D.sr g n - D.li g n * D.si g n) / D.den g n
def pi : ℝ := D.gb g n + (D.lr g n * D.si g n + D.li g n * D.sr g n) / D.den g n
/-- The cotangent of the exponent. -/
def wr : ℝ := D.ar g n * D.pr g n + D.ai g n * D.pi g n
def wi : ℝ := D.ar g n * D.pi g n - D.ai g n * D.pr g n
def qr : ℝ := (D.cr g n * D.lr g n + D.ci g n * D.li g n) / D.den g n
def qi : ℝ := (D.ci g n * D.lr g n - D.cr g n * D.li g n) / D.den g n
def dlr : ℝ := -(D.qr g n * D.sr g n + D.qi g n * D.si g n) + D.st g * D.wr g n
def dli : ℝ := -(D.qr g n * D.si g n - D.qi g n * D.sr g n) + D.st g * D.wi g n
def dls (g : Fin 32) : ℝ := (∑ n : Fin 64, (D.lr g n * D.wr g n + D.li g n * D.wi g n)) * D.st g
def dbr (R : Fin 512) : ℝ := D.cr (grp R) n * D.gr R n + D.ci (grp R) n * D.gi R n
def dbi (R : Fin 512) : ℝ := D.cr (grp R) n * D.gi R n - D.ci (grp R) n * D.gr R n

theorem den_ne : D.den g n ≠ 0 := D.ne g n

end Data

/-- What the kernel's loads hold. -/
structure IsBlk (D : Data) (x0 x1 : Vec Ideal S32x64 .f32) (x2 : Vec Ideal S32x1 .f32) (x3 x4 : Vec Ideal S512x64 .f32) (x5 x6 : Vec Ideal S32x64 .f32)
    (x7 : Vec Ideal S4x128x1024 .f32) : Prop where
  lr : ∀ g n, x0 (ix2 g n) = (D.lr g n : EReal)
  li : ∀ g n, x1 (ix2 g n) = (D.li g n : EReal)
  ls : ∀ g, x2 (ix2 g 0) = (D.ls g : EReal)
  br : ∀ R n, x3 (ix2 R n) = (D.br R n : EReal)
  bi : ∀ R n, x4 (ix2 R n) = (D.bi R n : EReal)
  ga : ∀ g n, x5 (ix2 g n) = (D.ga g n : EReal)
  gb : ∀ g n, x6 (ix2 g n) = (D.gb g n : EReal)
  gr : ∀ R n, View.canon (Lbr x7) (ix2 R n) = (D.gr R n : EReal)
  gi : ∀ R n, View.canon (Lbi x7) (ix2 R n) = (D.gi R n : EReal)

section
variable {D : Data} {x0 x1 : Vec Ideal S32x64 .f32} {x2 : Vec Ideal S32x1 .f32} {x3 x4 : Vec Ideal S512x64 .f32} {x5 x6 : Vec Ideal S32x64 .f32}
  {x7 : Vec Ideal S4x128x1024 .f32} (h : IsBlk D x0 x1 x2 x3 x4 x5 x6 x7) (g : Fin 32) (n : Fin 64)
include h

theorem st_at : k0_pay31 (F := Ideal) x2 (ix2 g 0) = (D.st g : EReal) := by
  pointwise [k0_pay31]
  rw [h.ls]; rfl

theorem ar_at : k0_pay34 (F := Ideal) (k0_pay30 x1) (k0_pay32 x0 x2) (k0_pay33 x2) (ix2 g n) = (D.ar g n : EReal) := by
  pointwise [k0_pay34, k0_pay30, k0_pay32, k0_pay33, k0_pay29]
  rw [st_at h, h.lr, h.li, ← EReal.coe_mul, ← EReal.coe_mul]
  rfl

theorem ai_at : k0_pay35 (F := Ideal) (k0_pay30 x1) (k0_pay31 x2) (k0_pay32 x0 x2) (ix2 g n) = (D.ai g n : EReal) := by
  pointwise [k0_pay35, k0_pay30, k0_pay32, k0_pay29]
  rw [st_at h, h.lr, h.li, ← EReal.coe_mul, ← EReal.coe_mul]
  rfl

theorem den_at : k0_pay36 (F := Ideal) (k0_pay29 x0) (k0_pay30 x1) (ix2 g n) = (D.den g n : EReal) := by
  pointwise [k0_pay36, k0_pay29, k0_pay30]
  rw [h.lr, h.li]
  rfl

theorem cr_eq : k0_pay37 (F := Ideal) (k0_pay29 x0) (k0_pay30 x1) (k0_pay31 x2) (k0_pay32 x0 x2) (k0_pay33 x2) (ix2 g n) = (D.cr g n : EReal) := by
  pointwise [k0_pay37]
  rw [ar_at h, ai_at h, den_at h]
  pointwise [k0_pay29, k0_pay30]
  rw [h.lr, h.li, show (1 : EReal) = ((1 : ℝ) : EReal) from rfl, ← EReal.coe_sub, ← EReal.coe_mul, ← EReal.coe_mul, ← EReal.coe_add, Own.div_coe_coe _ _ (D.den_ne g n)]
  rfl

theorem ci_eq : k0_pay38 (F := Ideal) (k0_pay29 x0) (k0_pay30 x1) (k0_pay31 x2) (k0_pay32 x0 x2) (k0_pay33 x2) (ix2 g n) = (D.ci g n : EReal) := by
  pointwise [k0_pay38]
  rw [ar_at h, ai_at h, den_at h]
  pointwise [k0_pay29, k0_pay30]
  rw [h.lr, h.li, show (1 : EReal) = ((1 : ℝ) : EReal) from rfl, ← EReal.coe_sub, ← EReal.coe_mul, ← EReal.coe_mul, ← EReal.coe_sub, Own.div_coe_coe _ _ (D.den_ne g n)]
  rfl

theorem sr_at : k0_pay45 (F := Ideal) (k0_pay41 x3) (k0_pay42 x4) (View.canon (Lbr x7)) (View.canon (Lbi x7)) (ix2 g n) = (D.sr g n : EReal) := by
  pointwise [k0_pay45, k0_pay41, k0_pay42]
  rw [Data.sr, _root_.Own.coe_sum]
  exact Finset.sum_congr rfl fun p _ => by rw [h.br, h.bi, h.gr, h.gi, ← EReal.coe_mul, ← EReal.coe_mul, ← EReal.coe_add]

theorem si_at : k0_pay46 (F := Ideal) (k0_pay41 x3) (k0_pay42 x4) (View.canon (Lbr x7)) (View.canon (Lbi x7)) (ix2 g n) = (D.si g n : EReal) := by
  pointwise [k0_pay46, k0_pay41, k0_pay42]
  rw [Data.si, _root_.Own.coe_sum]
  exact Finset.sum_congr rfl fun p _ => by rw [h.br, h.bi, h.gr, h.gi, ← EReal.coe_mul, ← EReal.coe_mul, ← EReal.coe_sub]

theorem dbr_at (R : Fin 512) : k0_pay43 (F := Ideal) (k0_pay29 x0) (k0_pay30 x1) (k0_pay31 x2) (k0_pay32 x0 x2) (k0_pay33 x2) (View.canon (Lbr x7)) (View.canon (Lbi x7)) (ix2 R n) = (D.dbr n R : EReal) := by
  pointwise [k0_pay43, k0_pay39, k0_pay40]
  rw [cr_eq h, ci_eq h, h.gr, h.gi, ← EReal.coe_mul, ← EReal.coe_mul, ← EReal.coe_add]
  rfl

theorem dbi_at (R : Fin 512) : k0_pay44 (F := Ideal) (k0_pay29 x0) (k0_pay30 x1) (k0_pay31 x2) (k0_pay32 x0 x2) (k0_pay33 x2) (View.canon (Lbr x7)) (View.canon (Lbi x7)) (ix2 R n) = (D.dbi n R : EReal) := by
  pointwise [k0_pay44, k0_pay39, k0_pay40]
  rw [cr_eq h, ci_eq h, h.gr, h.gi, ← EReal.coe_mul, ← EReal.coe_mul, ← EReal.coe_sub]
  rfl

theorem ilr_at : k0_pay47 (F := Ideal) (k0_pay29 x0) (k0_pay36 (k0_pay29 x0) (k0_pay30 x1)) (ix2 g n) = ((D.lr g n / D.den g n : ℝ) : EReal) := by
  pointwise [k0_pay47]
  rw [den_at h]
  pointwise [k0_pay29]
  rw [h.lr, Own.div_coe_coe _ _ (D.den_ne g n)]

theorem ili_at : k0_pay48 (F := Ideal) (k0_pay30 x1) (k0_pay36 (k0_pay29 x0) (k0_pay30 x1)) (ix2 g n) = ((-D.li g n / D.den g n : ℝ) : EReal) := by
  pointwise [k0_pay48]
  rw [den_at h]
  pointwise [k0_pay30]
  rw [h.li, zero_sub, ← EReal.coe_neg, Own.div_coe_coe _ _ (D.den_ne g n)]

theorem pr_at : k0_pay49 (F := Ideal) (k0_pay29 x0) (k0_pay30 x1) (k0_pay36 (k0_pay29 x0) (k0_pay30 x1)) (k0_pay41 x3) (k0_pay42 x4) (View.canon (Lbr x7)) (View.canon (Lbi x7)) x5 (ix2 g n)
    = (D.pr g n : EReal) := by
  pointwise [k0_pay49]
  rw [ilr_at h, ili_at h, sr_at h, si_at h, h.ga]
  simp only [← EReal.coe_mul, ← EReal.coe_add]
  unfold Data.pr
  congr 1
  ring

theorem pi_at : k0_pay50 (F := Ideal) (k0_pay29 x0) (k0_pay30 x1) (k0_pay36 (k0_pay29 x0) (k0_pay30 x1)) (k0_pay41 x3) (k0_pay42 x4) (View.canon (Lbr x7)) (View.canon (Lbi x7)) x6 (ix2 g n)
    = (D.pi g n : EReal) := by
  pointwise [k0_pay50]
  rw [ilr_at h, ili_at h, sr_at h, si_at h, h.gb]
  simp only [← EReal.coe_mul, ← EReal.coe_add, ← EReal.coe_sub]
  unfold Data.pi
  congr 1
  ring

theorem wr_at : k0_pay54 (F := Ideal) (k0_pay29 x0) (k0_pay30 x1) (k0_pay34 (k0_pay30 x1) (k0_pay32 x0 x2) (k0_pay33 x2)) (k0_pay35 (k0_pay30 x1) (k0_pay31 x2) (k0_pay32 x0 x2)) (k0_pay36 (k0_pay29 x0) (k0_pay30 x1)) (k0_pay41 x3) (k0_pay42 x4) (View.canon (Lbr x7)) (View.canon (Lbi x7)) x5 x6 (ix2 g n) = (D.wr g n : EReal) := by
  pointwise [k0_pay54]
  rw [ar_at h, ai_at h, pr_at h, pi_at h, ← EReal.coe_mul, ← EReal.coe_mul, ← EReal.coe_add]
  rfl

theorem wi_at : k0_pay55 (F := Ideal) (k0_pay29 x0) (k0_pay30 x1) (k0_pay34 (k0_pay30 x1) (k0_pay32 x0 x2) (k0_pay33 x2)) (k0_pay35 (k0_pay30 x1) (k0_pay31 x2) (k0_pay32 x0 x2)) (k0_pay36 (k0_pay29 x0) (k0_pay30 x1)) (k0_pay41 x3) (k0_pay42 x4) (View.canon (Lbr x7)) (View.canon (Lbi x7)) x5 x6 (ix2 g n) = (D.wi g n : EReal) := by
  pointwise [k0_pay55]
  rw [ar_at h, ai_at h, pr_at h, pi_at h, ← EReal.coe_mul, ← EReal.coe_mul, ← EReal.coe_sub]
  rfl

theorem qr_at : k0_pay51 (F := Ideal) (k0_pay29 x0) (k0_pay30 x1) (k0_pay36 (k0_pay29 x0) (k0_pay30 x1)) (k0_pay37 (k0_pay29 x0) (k0_pay30 x1) (k0_pay31 x2) (k0_pay32 x0 x2) (k0_pay33 x2)) (k0_pay38 (k0_pay29 x0) (k0_pay30 x1) (k0_pay31 x2) (k0_pay32 x0 x2) (k0_pay33 x2)) (ix2 g n) = (D.qr g n : EReal) := by
  pointwise [k0_pay51]
  rw [cr_eq h, ci_eq h, ilr_at h, ili_at h]
  simp only [← EReal.coe_mul, ← EReal.coe_sub]
  unfold Data.qr
  congr 1
  ring

theorem qi_at : k0_pay52 (F := Ideal) (k0_pay29 x0) (k0_pay30 x1) (k0_pay36 (k0_pay29 x0) (k0_pay30 x1)) (k0_pay37 (k0_pay29 x0) (k0_pay30 x1) (k0_pay31 x2) (k0_pay32 x0 x2) (k0_pay33 x2)) (k0_pay38 (k0_pay29 x0) (k0_pay30 x1) (k0_pay31 x2) (k0_pay32 x0 x2) (k0_pay33 x2)) (ix2 g n) = (D.qi g n : EReal) := by
  pointwise [k0_pay52]
  rw [cr_eq h, ci_eq h, ilr_at h, ili_at h]
  simp only [← EReal.coe_mul, ← EReal.coe_add]
  unfold Data.qi
  congr 1
  ring

theorem dlr_at : k0_pay56 (F := Ideal) (k0_pay29 x0) (k0_pay30 x1) (k0_pay31 x2) (k0_pay34 (k0_pay30 x1) (k0_pay32 x0 x2) (k0_pay33 x2)) (k0_pay35 (k0_pay30 x1) (k0_pay31 x2) (k0_pay32 x0 x2)) (k0_pay36 (k0_pay29 x0) (k0_pay30 x1)) (k0_pay37 (k0_pay29 x0) (k0_pay30 x1) (k0_pay31 x2) (k0_pay32 x0 x2) (k0_pay33 x2)) (k0_pay38 (k0_pay29 x0) (k0_pay30 x1) (k0_pay31 x2) (k0_pay32 x0 x2) (k0_pay33 x2)) (k0_pay41 x3) (k0_pay42 x4) (View.canon (Lbr x7)) (View.canon (Lbi x7)) x5 x6 (ix2 g n) = (D.dlr g n : EReal) := by
  pointwise [k0_pay56]
  rw [qr_at h, qi_at h, sr_at h, si_at h, st_at h, wr_at h, zero_sub]
  simp only [← EReal.coe_mul, ← EReal.coe_add, ← EReal.coe_neg]
  rfl

theorem dli_at : k0_pay1 (F := Ideal) (k0_pay31 x2) (k0_pay53 (k0_pay29 x0) (k0_pay30 x1) (k0_pay36 (k0_pay29 x0) (k0_pay30 x1)) (k0_pay37 (k0_pay29 x0) (k0_pay30 x1) (k0_pay31 x2) (k0_pay32 x0 x2) (k0_pay33 x2)) (k0_pay38 (k0_pay29 x0) (k0_pay30 x1) (k0_pay31 x2) (k0_pay32 x0 x2) (k0_pay33 x2)) (k0_pay41 x3) (k0_pay42 x4) (View.canon (Lbr x7)) (View.canon (Lbi x7))) (k0_pay55 (k0_pay29 x0) (k0_pay30 x1) (k0_pay34 (k0_pay30 x1) (k0_pay32 x0 x2) (k0_pay33 x2)) (k0_pay35 (k0_pay30 x1) (k0_pay31 x2) (k0_pay32 x0 x2)) (k0_pay36 (k0_pay29 x0) (k0_pay30 x1)) (k0_pay41 x3) (k0_pay42 x4) (View.canon (Lbr x7)) (View.canon (Lbi x7)) x5 x6) (ix2 g n) = (D.dli g n : EReal) := by
  pointwise [k0_pay1, k0_pay53]
  rw [qr_at h, qi_at h, sr_at h, si_at h, st_at h, wi_at h, zero_sub]
  simp only [← EReal.coe_mul, ← EReal.coe_add, ← EReal.coe_sub, ← EReal.coe_neg]
  rfl

theorem dls_at : k0_pay2 (F := Ideal) (k0_pay29 x0) (k0_pay30 x1) (k0_pay31 x2) (k0_pay54 (k0_pay29 x0) (k0_pay30 x1) (k0_pay34 (k0_pay30 x1) (k0_pay32 x0 x2) (k0_pay33 x2)) (k0_pay35 (k0_pay30 x1) (k0_pay31 x2) (k0_pay32 x0 x2)) (k0_pay36 (k0_pay29 x0) (k0_pay30 x1)) (k0_pay41 x3) (k0_pay42 x4) (View.canon (Lbr x7)) (View.canon (Lbi x7)) x5 x6) (k0_pay55 (k0_pay29 x0) (k0_pay30 x1) (k0_pay34 (k0_pay30 x1) (k0_pay32 x0 x2) (k0_pay33 x2)) (k0_pay35 (k0_pay30 x1) (k0_pay31 x2) (k0_pay32 x0 x2)) (k0_pay36 (k0_pay29 x0) (k0_pay30 x1)) (k0_pay41 x3) (k0_pay42 x4) (View.canon (Lbr x7)) (View.canon (Lbi x7)) x5 x6) (ix2 g 0) = (D.dls g : EReal) := by
  pointwise [k0_pay2]
  rw [st_at h, Data.dls, EReal.coe_mul, _root_.Own.coe_sum]
  congr 1
  refine Finset.sum_congr rfl fun n _ => ?_
  rw [wr_at h, wi_at h]
  pointwise [k0_pay29, k0_pay30]
  rw [h.lr, h.li, ← EReal.coe_mul, ← EReal.coe_mul, ← EReal.coe_add]

end

end Cert.ParBackIdeal.Own

end

end
-- ==== Proof.ParRead.lean ====
/-
What the parameter kernel reads from the arguments, and the arrays it leaves, over the reals.
-/
module

public import proofs.«01_k».proof.Proof.ParReal
public import proofs.«01_k».proof.Proof.Gen.ParBackIdeal.Value

set_option maxRecDepth 16384

@[expose] public section

noncomputable section

namespace Cert.ParBackIdeal.Own

open Idealize.ShloMosaic Idealize.ShloMosaic.TcCoe Idealize.SL.Sem Idealize.ShloMosaic.Tactic
open Idealize.ShloMosaic.Pipeline (Dat)
open Cert.ParBackIdeal.Gen Cert.ParBackIdeal.Value

variable (m : (ℓ : Loc nD τ sig) → Buf (Elt Ideal) ℓ) (c : Dev nD)

theorem idx_0 : ∀ t : Fin cfg0.N, win0_0.index t = ![0, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![0, 0, 0] := (by decide +kernel : ∀ t : Fin grid0.N, _)
theorem idx_8 : ∀ t : Fin cfg0.N, win0_8.index t = ![0, 0, 0] := (by decide +kernel : ∀ t : Fin grid0.N, _)
theorem idx_9 : ∀ t : Fin cfg0.N, win0_9.index t = ![0, 0] := (by decide +kernel : ∀ t : Fin grid0.N, _)
theorem idx_10 : ∀ t : Fin cfg0.N, win0_10.index t = ![0, 0] := (by decide +kernel : ∀ t : Fin grid0.N, _)
theorem idx_11 : ∀ t : Fin cfg0.N, win0_11.index t = ![0, 0] := (by decide +kernel : ∀ t : Fin grid0.N, _)
theorem idx_12 : ∀ t : Fin cfg0.N, win0_12.index t = ![0, 0] := (by decide +kernel : ∀ t : Fin grid0.N, _)
theorem idx_13 : ∀ t : Fin cfg0.N, win0_13.index t = ![0, 0] := (by decide +kernel : ∀ t : Fin grid0.N, _)
theorem idx_14 : ∀ t : Fin cfg0.N, win0_14.index t = ![0, 0] := (by decide +kernel : ∀ t : Fin grid0.N, _)
theorem idx_15 : ∀ t : Fin cfg0.N, win0_15.index t = ![0, 0] := (by decide +kernel : ∀ t : Fin grid0.N, _)

/-- The channel of a row of the stacked groups. -/
abbrev chn (R : Fin 512) : Fin 16 := ⟨R.val % 16, by omega⟩

theorem blk_0 (t : Fin cfg0.N) (g : Fin 32) (n : Fin 64) : iblk m c 0 t (ix2 g n) = m ((c : Thread nD τ).loc main_arg0) (ix3 0 g n) := by
  blk_simp [iblk, V, idx_0 t]
  entry_read
  pointwise
  blk_ext [iblk, V, idx_0 t]

theorem blk_1 (t : Fin cfg0.N) (g : Fin 32) (n : Fin 64) : iblk m c 1 t (ix2 g n) = m ((c : Thread nD τ).loc main_arg1) (ix3 0 g n) := by
  blk_simp [iblk, V, idx_1 t]
  entry_read
  pointwise
  blk_ext [iblk, V, idx_1 t]

theorem blk_2 (t : Fin cfg0.N) (g : Fin 32) : iblk m c 2 t (ix2 g 0) = m ((c : Thread nD τ).loc main_arg2) (ix2 0 g) := by
  blk_simp [iblk, V, idx_2 t]
  entry_read
  pointwise
  blk_ext [iblk, V, idx_2 t]

theorem blk_3 (t : Fin cfg0.N) (R : Fin 512) (n : Fin 64) : iblk m c 3 t (ix2 R n) = m ((c : Thread nD τ).loc main_arg3) (ix4 0 (grp R) n (chn R)) := by
  blk_simp [iblk, V, idx_3 t]
  entry_read
  pointwise
  blk_ext [iblk, V, idx_3 t]

theorem blk_4 (t : Fin cfg0.N) (R : Fin 512) (n : Fin 64) : iblk m c 4 t (ix2 R n) = m ((c : Thread nD τ).loc main_arg4) (ix4 0 (grp R) n (chn R)) := by
  blk_simp [iblk, V, idx_4 t]
  entry_read
  pointwise
  blk_ext [iblk, V, idx_4 t]

theorem blk_5 (t : Fin cfg0.N) (g : Fin 32) (n : Fin 64) : iblk m c 5 t (ix2 g n) = m ((c : Thread nD τ).loc main_arg7) (ix2 g n) := by
  blk_ext [iblk, V, idx_5 t]

theorem blk_6 (t : Fin cfg0.N) (g : Fin 32) (n : Fin 64) : iblk m c 6 t (ix2 g n) = m ((c : Thread nD τ).loc main_arg8) (ix2 g n) := by
  blk_ext [iblk, V, idx_6 t]

theorem blk_7 (t : Fin cfg0.N) : iblk m c 7 t = m ((c : Thread nD τ).loc main_arg9) := by
  funext y
  blk_ext [iblk, V, idx_7 t]

theorem blk_8 (t : Fin cfg0.N) : iblk m c 8 t = m ((c : Thread nD τ).loc main_arg10) := by
  funext y
  blk_ext [iblk, V, idx_8 t]

variable {m c}

/-- The numbers that the arguments hold. -/
structure IsData (m : (ℓ : Loc nD τ sig) → Buf (Elt Ideal) ℓ) (c : Dev nD) (D : Data) : Prop where
  lr : ∀ g n, m ((c : Thread nD τ).loc main_arg0) (ix3 0 g n) = (D.lr g n : EReal)
  li : ∀ g n, m ((c : Thread nD τ).loc main_arg1) (ix3 0 g n) = (D.li g n : EReal)
  ls : ∀ g, m ((c : Thread nD τ).loc main_arg2) (ix2 0 g) = (D.ls g : EReal)
  br : ∀ R n, m ((c : Thread nD τ).loc main_arg3) (ix4 0 (grp R) n (chn R)) = (D.br R n : EReal)
  bi : ∀ R n, m ((c : Thread nD τ).loc main_arg4) (ix4 0 (grp R) n (chn R)) = (D.bi R n : EReal)
  ga : ∀ g n, m ((c : Thread nD τ).loc main_arg7) (ix2 g n) = (D.ga g n : EReal)
  gb : ∀ g n, m ((c : Thread nD τ).loc main_arg8) (ix2 g n) = (D.gb g n : EReal)
  gr : ∀ R n, diag (m ((c : Thread nD τ).loc main_arg9)) 0 (by omega) (ix2 R n) = (D.gr R n : EReal)
  gi : ∀ R n, diag (m ((c : Thread nD τ).loc main_arg9)) 512 (by omega) (ix2 R n) = (D.gi R n : EReal)

variable {D : Data} (hD : IsData m c D)

include hD

theorem isBlk (t : Fin cfg0.N) : IsBlk D (iblk m c 0 t) (iblk m c 1 t) (iblk m c 2 t) (iblk m c 3 t) (iblk m c 4 t) (iblk m c 5 t) (iblk m c 6 t) (iblk m c 7 t) where
  lr g n := (blk_0 m c t g n).trans (hD.lr g n)
  li g n := (blk_1 m c t g n).trans (hD.li g n)
  ls g := (blk_2 m c t g).trans (hD.ls g)
  br R n := (blk_3 m c t R n).trans (hD.br R n)
  bi R n := (blk_4 m c t R n).trans (hD.bi R n)
  ga g n := (blk_5 m c t g n).trans (hD.ga g n)
  gb g n := (blk_6 m c t g n).trans (hD.gb g n)
  gr R n := by rw [br_at, blk_7]; exact hD.gr R n
  gi R n := by rw [bi_at, blk_7]; exact hD.gi R n

theorem arr_9 : (dats m 0 c).arrAt 9 cfg0.N = fun y : S32x64.Idx => ((D.dlr (y 0) (y 1) : ℝ) : EReal) := by
  refine (dats m 0 c).arrAt_eq_of_covers 9 _ (by decide +kernel) fun t hf y => ?_
  refine (congrFun (flushed9_A (m := m) (c := c) (t := t)) y).trans ?_
  rw [out_9]
  blk_simp
  obtain ⟨g, n, rfl⟩ : ∃ (g : Fin 32) (n : Fin 64), y = ix2 g n := ⟨y 0, y 1, eq_ix2 (n0 := 32) (n1 := 64) y⟩
  have e : (win0_9.blk t).view.emb (ix2 g n) = ix2 g n := by blk_ext [idx_9 t]
  rw [e]
  exact dlr_at (isBlk hD t) g n

theorem arr_10 : (dats m 0 c).arrAt 10 cfg0.N = fun y : S32x64.Idx => ((D.dli (y 0) (y 1) : ℝ) : EReal) := by
  refine (dats m 0 c).arrAt_eq_of_covers 10 _ (by decide +kernel) fun t hf y => ?_
  refine (congrFun (flushed10_A (m := m) (c := c) (t := t)) y).trans ?_
  rw [out_10]
  blk_simp
  obtain ⟨g, n, rfl⟩ : ∃ (g : Fin 32) (n : Fin 64), y = ix2 g n := ⟨y 0, y 1, eq_ix2 (n0 := 32) (n1 := 64) y⟩
  have e : (win0_10.blk t).view.emb (ix2 g n) = ix2 g n := by blk_ext [idx_10 t]
  rw [e]
  exact dli_at (isBlk hD t) g n

theorem arr_11 : (dats m 0 c).arrAt 11 cfg0.N = fun y : S32x1.Idx => ((D.dls (y 0) : ℝ) : EReal) := by
  refine (dats m 0 c).arrAt_eq_of_covers 11 _ (by decide +kernel) fun t hf y => ?_
  refine (congrFun (flushed11_A (m := m) (c := c) (t := t)) y).trans ?_
  rw [out_11]
  blk_simp
  obtain ⟨g, rfl⟩ : ∃ g : Fin 32, y = ix2 g 0 := ⟨y 0, (eq_ix2 (n0 := 32) (n1 := 1) y).trans (congrArg (ix2 (n0 := 32) (n1 := 1) (y 0)) (Fin.ext (by have h : (y 1).val < 1 := (y 1).isLt; show (y 1).val = 0; omega)))⟩
  have e : (win0_11.blk t).view.emb (ix2 g 0) = ix2 g 0 := by blk_ext [idx_11 t]
  rw [e]
  exact dls_at (isBlk hD t) g

theorem arr_12 : (dats m 0 c).arrAt 12 cfg0.N = fun y : S512x64.Idx => ((D.dbr (y 1) (y 0) : ℝ) : EReal) := by
  refine (dats m 0 c).arrAt_eq_of_covers 12 _ (by decide +kernel) fun t hf y => ?_
  refine (congrFun (flushed12_A (m := m) (c := c) (t := t)) y).trans ?_
  rw [out_12]
  blk_simp
  obtain ⟨R, n, rfl⟩ : ∃ (R : Fin 512) (n : Fin 64), y = ix2 R n := ⟨y 0, y 1, eq_ix2 (n0 := 512) (n1 := 64) y⟩
  have e : (win0_12.blk t).view.emb (ix2 R n) = ix2 R n := by blk_ext [idx_12 t]
  rw [e]
  exact dbr_at (isBlk hD t) n R

theorem arr_13 : (dats m 0 c).arrAt 13 cfg0.N = fun y : S512x64.Idx => ((D.dbi (y 1) (y 0) : ℝ) : EReal) := by
  refine (dats m 0 c).arrAt_eq_of_covers 13 _ (by decide +kernel) fun t hf y => ?_
  refine (congrFun (flushed13_A (m := m) (c := c) (t := t)) y).trans ?_
  rw [out_13]
  blk_simp
  obtain ⟨R, n, rfl⟩ : ∃ (R : Fin 512) (n : Fin 64), y = ix2 R n := ⟨y 0, y 1, eq_ix2 (n0 := 512) (n1 := 64) y⟩
  have e : (win0_13.blk t).view.emb (ix2 R n) = ix2 R n := by blk_ext [idx_13 t]
  rw [e]
  exact dbi_at (isBlk hD t) n R

omit hD

theorem arr_14 : (dats m 0 c).arrAt 14 cfg0.N = fun y : S512x64.Idx => diag (m ((c : Thread nD τ).loc main_arg10)) 0 (by omega) y := by
  refine (dats m 0 c).arrAt_eq_of_covers 14 _ (by decide +kernel) fun t hf y => ?_
  refine (congrFun (flushed14_A (m := m) (c := c) (t := t)) y).trans ?_
  rw [out_14]
  blk_simp
  obtain ⟨R, n, rfl⟩ : ∃ (R : Fin 512) (n : Fin 64), y = ix2 R n := ⟨y 0, y 1, eq_ix2 (n0 := 512) (n1 := 64) y⟩
  have e : (win0_14.blk t).view.emb (ix2 R n) = ix2 R n := by blk_ext [idx_14 t]
  rw [e]
  refine (cr_at _ _).trans ?_
  rw [blk_8]
  rfl

theorem arr_15 : (dats m 0 c).arrAt 15 cfg0.N = fun y : S512x64.Idx => -diag (m ((c : Thread nD τ).loc main_arg10)) 512 (by omega) y := by
  refine (dats m 0 c).arrAt_eq_of_covers 15 _ (by decide +kernel) fun t hf y => ?_
  refine (congrFun (flushed15_A (m := m) (c := c) (t := t)) y).trans ?_
  rw [out_15]
  blk_simp
  obtain ⟨R, n, rfl⟩ : ∃ (R : Fin 512) (n : Fin 64), y = ix2 R n := ⟨y 0, y 1, eq_ix2 (n0 := 512) (n1 := 64) y⟩
  have e : (win0_15.blk t).view.emb (ix2 R n) = ix2 R n := by blk_ext [idx_15 t]
  rw [e]
  pointwise [k0_pay28]
  rw [ci_at, blk_8, zero_sub]
  rfl

end Cert.ParBackIdeal.Own

end

end
-- ==== Proof.ParRef.lean ====
/-
The reference of the parameter gradients, read at an index, as the real numbers the parameter kernel leaves.
-/
module

public import proofs.«01_k».proof.Proof.ParRead
public import proofs.«01_k».proof.Proof.Gen.ParBackRefIdeal.Read

set_option maxRecDepth 16384

@[expose] public section

noncomputable section

namespace Cert.ParBackIdeal.Own

open Idealize.ShloMosaic Idealize.ShloMosaic.TcCoe Idealize.SL.Sem
open Cert.ParBackRefIdeal.Read

/-- An entry of the unit matrix that the reference multiplies by. -/
theorem unit_at (a k : Fin 8) : FloatOps.uitofp (F := Ideal) .f32 (IntOp.cmpi .eq (BitVec.ofNat 32 a.val) (BitVec.ofNat 32 k.val)) = if k = a then (1 : EReal) else 0 := by
  have e : (BitVec.ofNat 32 a.val = BitVec.ofNat 32 k.val) ↔ k = a := by
    refine ⟨fun h => Fin.ext ?_, fun h => by rw [h]⟩
    have := congrArg BitVec.toNat h
    simp only [BitVec.toNat_ofNat] at this
    omega
  by_cases h : k = a
  · rw [if_pos h, h, show IntOp.cmpi .eq (BitVec.ofNat 32 a.val) (BitVec.ofNat 32 a.val) = 1#1 by simp [IntOp.cmpi]]
    exact congrArg Real.toEReal (show ((1 : ℕ) : ℝ) = 1 from Nat.cast_one)
  · rw [if_neg h]
    have h' : ¬ (BitVec.ofNat 32 a.val = BitVec.ofNat 32 k.val) := fun x => h (e.mp x)
    rw [show IntOp.cmpi .eq (BitVec.ofNat 32 a.val) (BitVec.ofNat 32 k.val) = 0#1 by unfold IntOp.cmpi; dsimp only; rw [beq_eq_false_iff_ne.mpr h']; rfl]
    exact congrArg Real.toEReal (show ((0 : ℕ) : ℝ) = 0 from Nat.cast_zero)

theorem ix3_congr {n0 n1 n2 : ℕ} {a a' : Fin n0} {b b' : Fin n1} {c c' : Fin n2} (ha : a = a') (hb : b = b') (hc : c = c') : ix3 a b c = ix3 a' b' c' := by
  rw [ha, hb, hc]

/-- A sum against a row of the unit matrix is the entry of that row. -/
theorem pick (f u : Fin 8 → EReal) (a : Fin 8) (hu : ∀ k, u k = if k = a then 1 else 0) : ∑ k, f k * u k = f a := by
  rw [Finset.sum_eq_single a]
  · rw [hu, if_pos rfl, mul_one]
  · intro k _ hk
    rw [hu, if_neg hk, mul_zero]
  · exact fun h => absurd (Finset.mem_univ _) h

theorem eye_br (a k : Fin 8) : val_main_v63 (F := Ideal) (ix2 a k) = if k = a then 1 else 0 := by
  pointwise [val_main_v63, val_main_v62, val_main_v61, val_main_v60, val_main_v59, val_main_v58, val_main_v57, val_main_v56]
  exact unit_at a k

theorem eye_bi (a k : Fin 8) : val_main_v79 (F := Ideal) (ix2 a k) = if k = a then 1 else 0 := by
  pointwise [val_main_v79, val_main_v78, val_main_v77, val_main_v76, val_main_v75, val_main_v74, val_main_v73, val_main_v72]
  exact unit_at a k

theorem eye_cr (a k : Fin 8) : val_main_v96 (F := Ideal) (ix2 a k) = if k = a then 1 else 0 := by
  pointwise [val_main_v96, val_main_v95, val_main_v94, val_main_v93, val_main_v92, val_main_v91, val_main_v90, val_main_v89]
  exact unit_at a k

theorem eye_ci (a k : Fin 8) : val_main_v113 (F := Ideal) (ix2 a k) = if k = a then 1 else 0 := by
  pointwise [val_main_v113, val_main_v112, val_main_v111, val_main_v110, val_main_v109, val_main_v108, val_main_v107, val_main_v106]
  exact unit_at a k

theorem own_ci (x : Vec Ideal S4x128x1024 .f32) (g : Fin 32) (p : Fin 16) (n : Fin 64) : val_main_v130 (F := Ideal) x (ix3 g p n) = diag x 512 (by omega) (ix2 (row g p) n) := by
  pointwise [val_main_v130, val_main_v129, val_main_v128, val_main_v127, val_main_v126, val_main_v125, val_main_v116, val_main_v124, val_main_v123, val_main_cst_2, val_main_cst_3]
  rw [Fin.sum_univ_one, pick _ _ ⟨g.val % 8, by omega⟩ (eye_ci _)]
  unfold diag
  refine congrArg x (ix3_congr (Fin.ext ?_) (Fin.ext ?_) (Fin.ext ?_))
  · show g.val / 8 = (g.val * 16 + p.val) / 128; omega
  · show g.val % 8 * 16 + p.val = (g.val * 16 + p.val) % 128; omega
  · show 512 + (g.val % 8 * 64 + n.val) = 512 + (64 * ((g.val * 16 + p.val) % 128 / 16) + n.val); omega

theorem own_cr (x : Vec Ideal S4x128x1024 .f32) (g : Fin 32) (p : Fin 16) (n : Fin 64) : val_main_v139 (F := Ideal) x (ix3 g p n) = diag x 0 (by omega) (ix2 (row g p) n) := by
  pointwise [val_main_v139, val_main_v138, val_main_v137, val_main_v136, val_main_v135, val_main_v134, val_main_v99, val_main_v133, val_main_v122, val_main_cst_4, val_main_cst_5]
  rw [Fin.sum_univ_one, pick _ _ ⟨g.val % 8, by omega⟩ (eye_cr _)]
  unfold diag
  refine congrArg x (ix3_congr (Fin.ext ?_) (Fin.ext ?_) (Fin.ext ?_))
  · show g.val / 8 = (g.val * 16 + p.val) / 128; omega
  · show g.val % 8 * 16 + p.val = (g.val * 16 + p.val) % 128; omega
  · show g.val % 8 * 64 + n.val = 0 + (64 * ((g.val * 16 + p.val) % 128 / 16) + n.val); omega

theorem own_bi (x : Vec Ideal S4x128x1024 .f32) (g : Fin 32) (p : Fin 16) (n : Fin 64) : val_main_v149 (F := Ideal) x (ix3 g p n) = diag x 512 (by omega) (ix2 (row g p) n) := by
  pointwise [val_main_v149, val_main_v148, val_main_v147, val_main_v146, val_main_v145, val_main_v144, val_main_v82, val_main_v143, val_main_v142, val_main_cst_6, val_main_cst_7]
  rw [Fin.sum_univ_one, pick _ _ ⟨g.val % 8, by omega⟩ (eye_bi _)]
  unfold diag
  refine congrArg x (ix3_congr (Fin.ext ?_) (Fin.ext ?_) (Fin.ext ?_))
  · show g.val / 8 = (g.val * 16 + p.val) / 128; omega
  · show g.val % 8 * 16 + p.val = (g.val * 16 + p.val) % 128; omega
  · show 512 + (g.val % 8 * 64 + n.val) = 512 + (64 * ((g.val * 16 + p.val) % 128 / 16) + n.val); omega

theorem own_br (x : Vec Ideal S4x128x1024 .f32) (g : Fin 32) (p : Fin 16) (n : Fin 64) : val_main_v157 (F := Ideal) x (ix3 g p n) = diag x 0 (by omega) (ix2 (row g p) n) := by
  pointwise [val_main_v157, val_main_v156, val_main_v155, val_main_v154, val_main_v153, val_main_v152, val_main_v66, val_main_v151, val_main_v141, val_main_cst_8, val_main_cst_9]
  rw [Fin.sum_univ_one, pick _ _ ⟨g.val % 8, by omega⟩ (eye_br _)]
  unfold diag
  refine congrArg x (ix3_congr (Fin.ext ?_) (Fin.ext ?_) (Fin.ext ?_))
  · show g.val / 8 = (g.val * 16 + p.val) / 128; omega
  · show g.val % 8 * 16 + p.val = (g.val * 16 + p.val) % 128; omega
  · show g.val % 8 * 64 + n.val = 0 + (64 * ((g.val * 16 + p.val) % 128 / 16) + n.val); omega

theorem row_grp (R : Fin 512) : row (grp R) (chn R) = R := Fin.ext (show R.val / 16 * 16 + R.val % 16 = R.val by omega)
theorem grp_row (g : Fin 32) (p : Fin 16) : grp (row g p) = g := Fin.ext (show (g.val * 16 + p.val) / 16 = g.val by omega)
theorem chn_row (g : Fin 32) (p : Fin 16) : chn (row g p) = p := Fin.ext (show (g.val * 16 + p.val) % 16 = p.val by omega)

/-- The cotangent of the output matrix's first part. -/
theorem ref_dcr (x : Vec Ideal S4x128x1024 .f32) (R : Fin 512) (n : Fin 64) : val_main_v267 (F := Ideal) x (ix2 R n) = diag x 0 (by omega) (ix2 R n) := by
  pointwise [val_main_v267, val_main_v140]
  exact (own_cr x (grp R) (chn R) n).trans (by rw [row_grp])

/-- The cotangent of its second part. -/
theorem ref_dci (x : Vec Ideal S4x128x1024 .f32) (R : Fin 512) (n : Fin 64) : val_main_v268 (F := Ideal) x (ix2 R n) = -diag x 512 (by omega) (ix2 R n) := by
  pointwise [val_main_v268, val_main_v132, val_main_v131]
  exact congrArg Neg.neg ((own_ci x (grp R) (chn R) n).trans (by rw [row_grp]))

/-- The numbers that the reference's arguments hold. -/
structure RData (D : Data) (x0 x1 : Vec Ideal Cert.ParBackRefIdeal.S1x32x64 .f32) (x2 : Vec Ideal Cert.ParBackRefIdeal.S1x32 .f32)
    (x3 x4 : Vec Ideal Cert.ParBackRefIdeal.S1x32x64x16 .f32) (x7 x8 : Vec Ideal Cert.ParBackRefIdeal.S32x64 .f32) (x9 : Vec Ideal S4x128x1024 .f32) : Prop where
  lr : ∀ g n, x0 (ix3 0 g n) = (D.lr g n : EReal)
  li : ∀ g n, x1 (ix3 0 g n) = (D.li g n : EReal)
  ls : ∀ g, x2 (ix2 0 g) = (D.ls g : EReal)
  br : ∀ R n, x3 (ix4 0 (grp R) n (chn R)) = (D.br R n : EReal)
  bi : ∀ R n, x4 (ix4 0 (grp R) n (chn R)) = (D.bi R n : EReal)
  ga : ∀ g n, x7 (ix2 g n) = (D.ga g n : EReal)
  gb : ∀ g n, x8 (ix2 g n) = (D.gb g n : EReal)
  gr : ∀ R n, diag x9 0 (by omega) (ix2 R n) = (D.gr R n : EReal)
  gi : ∀ R n, diag x9 512 (by omega) (ix2 R n) = (D.gi R n : EReal)

namespace Data

variable (D : Data) (g : Fin 32) (n : Fin 64)

def mg : ℝ := Real.exp (D.lr g n * D.st g)
def numr : ℝ := (D.ar g n - 1) * D.lr g n + D.ai g n * D.li g n
def numi : ℝ := D.ai g n * D.lr g n - (D.ar g n - 1) * D.li g n
/-- The cotangent of the eigenvalue's squared modulus. -/
def ck : ℝ := -(D.si g n * (1 / (D.den g n * D.den g n)) * D.numi g n) + -(D.sr g n * (1 / (D.den g n * D.den g n)) * D.numr g n)

end Data

section
variable {D : Data} {x0 x1 : Vec Ideal Cert.ParBackRefIdeal.S1x32x64 .f32} {x2 : Vec Ideal Cert.ParBackRefIdeal.S1x32 .f32}
  {x3 x4 : Vec Ideal Cert.ParBackRefIdeal.S1x32x64x16 .f32} {x7 x8 : Vec Ideal Cert.ParBackRefIdeal.S32x64 .f32} {x9 : Vec Ideal S4x128x1024 .f32}
  (h : RData D x0 x1 x2 x3 x4 x7 x8 x9) (g : Fin 32) (n : Fin 64) (p : Fin 16)

include h

theorem r_st : val_main_v3 x2 (ix1 g) = ((D.st g : ℝ) : EReal) := by
  pointwise [val_main_v3, val_main_v2]
  rw [h.ls]
  rfl

theorem r_mg : val_main_v7 x0 x2 (ix2 g n) = ((D.mg g n : ℝ) : EReal) := by
  pointwise [val_main_v7, val_main_v6, val_main_v5, val_main_v4, val_main_v0]
  rw [h.lr, r_st h, ← EReal.coe_mul]
  rfl

theorem r_cos : val_main_v10 x1 x2 (ix2 g n) = ((Real.cos (D.li g n * D.st g) : ℝ) : EReal) := by
  pointwise [val_main_v10, val_main_v9, val_main_v8, val_main_v4, val_main_v1]
  rw [h.li, r_st h, ← EReal.coe_mul]
  rfl

theorem r_sin : val_main_v11 x1 x2 (ix2 g n) = ((Real.sin (D.li g n * D.st g) : ℝ) : EReal) := by
  pointwise [val_main_v11, val_main_v9, val_main_v8, val_main_v4, val_main_v1]
  rw [h.li, r_st h, ← EReal.coe_mul]
  rfl

theorem r_sin2 : val_main_v15 x1 x2 (ix2 g n) = ((Real.sin (D.li g n * D.st g) : ℝ) : EReal) := by
  pointwise [val_main_v15, val_main_v14, val_main_v13, val_main_v4, val_main_v1]
  rw [h.li, r_st h, ← EReal.coe_mul]
  rfl

theorem r_cos2 : val_main_v16 x1 x2 (ix2 g n) = ((Real.cos (D.li g n * D.st g) : ℝ) : EReal) := by
  pointwise [val_main_v16, val_main_v14, val_main_v13, val_main_v4, val_main_v1]
  rw [h.li, r_st h, ← EReal.coe_mul]
  rfl

theorem r_ar : val_main_v12 x0 x1 x2 (ix2 g n) = ((D.ar g n : ℝ) : EReal) := by
  pointwise [val_main_v12]
  rw [r_mg h, r_cos h]
  simp only [← EReal.coe_mul, ← EReal.coe_add, ← EReal.coe_sub, ← EReal.coe_neg]
  rfl

theorem r_ai : val_main_v17 x0 x1 x2 (ix2 g n) = ((D.ai g n : ℝ) : EReal) := by
  pointwise [val_main_v17]
  rw [r_mg h, r_sin2 h]
  simp only [← EReal.coe_mul, ← EReal.coe_add, ← EReal.coe_sub, ← EReal.coe_neg]
  rfl

theorem r_den : val_main_v20 x0 x1 (ix2 g n) = ((D.den g n : ℝ) : EReal) := by
  pointwise [val_main_v20, val_main_v19, val_main_v18, val_main_v0, val_main_v1]
  rw [h.lr, h.li]
  simp only [← EReal.coe_mul, ← EReal.coe_add, ← EReal.coe_sub, ← EReal.coe_neg]
  rfl

theorem r_ar1 : val_main_v22 x0 x1 x2 (ix2 g n) = ((D.ar g n - 1 : ℝ) : EReal) := by
  pointwise [val_main_v22, val_main_v21, val_main_cst]
  rw [r_ar h, ← EReal.coe_one]
  simp only [← EReal.coe_mul, ← EReal.coe_add, ← EReal.coe_sub, ← EReal.coe_neg]

theorem r_numr : val_main_v25 x0 x1 x2 (ix2 g n) = ((D.numr g n : ℝ) : EReal) := by
  pointwise [val_main_v25, val_main_v24, val_main_v23, val_main_v0, val_main_v1]
  rw [r_ar1 h, r_ai h, h.lr, h.li]
  simp only [← EReal.coe_mul, ← EReal.coe_add, ← EReal.coe_sub, ← EReal.coe_neg]
  rfl

theorem r_cr : val_main_v26 x0 x1 x2 (ix2 g n) = ((D.cr g n : ℝ) : EReal) := by
  pointwise [val_main_v26]
  rw [r_numr h, r_den h, Own.div_coe_coe _ _ (D.den_ne g n)]
  rfl

theorem r_inv : val_main_v29 x0 x1 (ix2 g n) = ((1 / (D.den g n * D.den g n) : ℝ) : EReal) := by
  pointwise [val_main_v29, val_main_v28, val_main_v27, val_main_cst_0]
  rw [r_den h, ← EReal.coe_one, ← EReal.coe_mul, Own.div_coe_coe _ _ (mul_ne_zero (D.den_ne g n) (D.den_ne g n))]

theorem r_numi : val_main_v32 x0 x1 x2 (ix2 g n) = ((D.numi g n : ℝ) : EReal) := by
  pointwise [val_main_v32, val_main_v31, val_main_v30, val_main_v0, val_main_v1]
  rw [r_ar1 h, r_ai h, h.lr, h.li]
  simp only [← EReal.coe_mul, ← EReal.coe_add, ← EReal.coe_sub, ← EReal.coe_neg]
  rfl

theorem r_ci : val_main_v33 x0 x1 x2 (ix2 g n) = ((D.ci g n : ℝ) : EReal) := by
  pointwise [val_main_v33]
  rw [r_numi h, r_den h, Own.div_coe_coe _ _ (D.den_ne g n)]
  rfl

theorem r_inv2 : val_main_v36 x0 x1 (ix2 g n) = ((1 / (D.den g n * D.den g n) : ℝ) : EReal) := by
  pointwise [val_main_v36, val_main_v35, val_main_v34, val_main_cst_1]
  rw [r_den h, ← EReal.coe_one, ← EReal.coe_mul, Own.div_coe_coe _ _ (mul_ne_zero (D.den_ne g n) (D.den_ne g n))]

theorem r_gi : val_main_v150 x9 (ix3 g n p) = ((D.gi (row g p) n : ℝ) : EReal) := by
  pointwise [val_main_v150]
  rw [own_bi, h.gi]

theorem r_gr : val_main_v158 x9 (ix3 g n p) = ((D.gr (row g p) n : ℝ) : EReal) := by
  pointwise [val_main_v158]
  rw [own_br, h.gr]

theorem r_b3 : x3 (ix4 0 g n p) = ((D.br (row g p) n : ℝ) : EReal) := by
  have := h.br (row g p) n
  rwa [grp_row, chn_row] at this

theorem r_b4 : x4 (ix4 0 g n p) = ((D.bi (row g p) n : ℝ) : EReal) := by
  have := h.bi (row g p) n
  rwa [grp_row, chn_row] at this

theorem s_ib : val_main_v165 x3 x9 (ix2 g n) = ((∑ p : Fin 16, D.gi (row g p) n * D.br (row g p) n : ℝ) : EReal) := by
  pointwise [val_main_v165, val_main_v163, val_main_v162, val_main_v161, val_main_v51, val_main_cst_10, val_main_cst_11]
  rw [Fin.sum_univ_one, _root_.Own.coe_sum]
  refine Finset.sum_congr rfl fun p _ => ?_
  rw [r_gi h, r_b3 h]
  simp only [← EReal.coe_mul, ← EReal.coe_add, ← EReal.coe_sub, ← EReal.coe_neg]

theorem s_ii : val_main_v172 x4 x9 (ix2 g n) = ((∑ p : Fin 16, D.gi (row g p) n * D.bi (row g p) n : ℝ) : EReal) := by
  pointwise [val_main_v172, val_main_v170, val_main_v169, val_main_v168, val_main_v47, val_main_cst_12, val_main_cst_13]
  rw [Fin.sum_univ_one, _root_.Own.coe_sum]
  refine Finset.sum_congr rfl fun p _ => ?_
  rw [r_gi h, r_b4 h]
  simp only [← EReal.coe_mul, ← EReal.coe_add, ← EReal.coe_sub, ← EReal.coe_neg]

theorem s_ri : val_main_v181 x4 x9 (ix2 g n) = ((∑ p : Fin 16, -D.gr (row g p) n * D.bi (row g p) n : ℝ) : EReal) := by
  pointwise [val_main_v181, val_main_v178, val_main_v177, val_main_v176, val_main_v173, val_main_v42, val_main_cst_14, val_main_cst_15]
  rw [Fin.sum_univ_one, _root_.Own.coe_sum]
  refine Finset.sum_congr rfl fun p _ => ?_
  rw [r_gr h, r_b4 h]
  simp only [← EReal.coe_mul, ← EReal.coe_add, ← EReal.coe_sub, ← EReal.coe_neg]

theorem s_rb : val_main_v190 x3 x9 (ix2 g n) = ((∑ p : Fin 16, D.gr (row g p) n * D.br (row g p) n : ℝ) : EReal) := by
  pointwise [val_main_v190, val_main_v187, val_main_v186, val_main_v185, val_main_v38, val_main_cst_16, val_main_cst_17]
  rw [Fin.sum_univ_one, _root_.Own.coe_sum]
  refine Finset.sum_congr rfl fun p _ => ?_
  rw [r_gr h, r_b3 h]
  simp only [← EReal.coe_mul, ← EReal.coe_add, ← EReal.coe_sub, ← EReal.coe_neg]

theorem r_si : val_main_v182 x3 x4 x9 (ix2 g n) = ((D.si g n : ℝ) : EReal) := by
  pointwise [val_main_v182]
  rw [s_ib h, s_ri h]
  simp only [← EReal.coe_mul, ← EReal.coe_add, ← EReal.coe_sub, ← EReal.coe_neg]
  rw [← Finset.sum_add_distrib]
  refine congrArg _ (Finset.sum_congr rfl fun p _ => ?_)
  ring

theorem r_sr : val_main_v191 x3 x4 x9 (ix2 g n) = ((D.sr g n : ℝ) : EReal) := by
  pointwise [val_main_v191]
  rw [s_ii h, s_rb h]
  simp only [← EReal.coe_mul, ← EReal.coe_add, ← EReal.coe_sub, ← EReal.coe_neg]
  rw [← Finset.sum_add_distrib]
  refine congrArg _ (Finset.sum_congr rfl fun p _ => ?_)
  ring

theorem r_ck : val_main_v206 x0 x1 x2 x3 x4 x9 (ix2 g n) = ((D.ck g n : ℝ) : EReal) := by
  pointwise [val_main_v206, val_main_v205, val_main_v204, val_main_v203, val_main_v194, val_main_v193, val_main_v192]
  rw [r_si h, r_inv2 h, r_numi h, r_sr h, r_inv h, r_numr h]
  simp only [← EReal.coe_mul, ← EReal.coe_add, ← EReal.coe_sub, ← EReal.coe_neg]
  rfl

theorem r_sid : val_main_v195 x0 x1 x3 x4 x9 (ix2 g n) = ((D.si g n / D.den g n : ℝ) : EReal) := by
  pointwise [val_main_v195]
  rw [r_si h, r_den h, Own.div_coe_coe _ _ (D.den_ne g n)]

theorem r_srd : val_main_v207 x0 x1 x3 x4 x9 (ix2 g n) = ((D.sr g n / D.den g n : ℝ) : EReal) := by
  pointwise [val_main_v207]
  rw [r_sr h, r_den h, Own.div_coe_coe _ _ (D.den_ne g n)]

theorem r_pi : val_main_v211 x0 x1 x3 x4 x8 x9 (ix2 g n) = ((D.pi g n : ℝ) : EReal) := by
  pointwise [val_main_v211, val_main_v210, val_main_v202, val_main_v201, val_main_v0, val_main_v1]
  rw [h.gb, r_sid h, r_srd h, h.lr, h.li]
  simp only [← EReal.coe_mul, ← EReal.coe_add, ← EReal.coe_sub, ← EReal.coe_neg]
  refine congrArg _ ?_
  unfold Data.pi; ring

theorem r_pr : val_main_v215 x0 x1 x3 x4 x7 x9 (ix2 g n) = ((D.pr g n : ℝ) : EReal) := by
  pointwise [val_main_v215, val_main_v214, val_main_v199, val_main_v198, val_main_v196, val_main_v0, val_main_v1]
  rw [h.ga, r_sid h, r_srd h, h.lr, h.li]
  simp only [← EReal.coe_mul, ← EReal.coe_add, ← EReal.coe_sub, ← EReal.coe_neg]
  refine congrArg _ ?_
  unfold Data.pr; ring

theorem r_qi : val_main_v219 x0 x1 x2 x3 x4 x9 (ix2 g n) = ((-(D.qr g n * D.si g n - D.qi g n * D.sr g n) : ℝ) : EReal) := by
  pointwise [val_main_v219, val_main_v218, val_main_v217, val_main_v216, val_main_v209, val_main_v208, val_main_v197, val_main_v196, val_main_v1]
  rw [r_ar1 h, r_sid h, r_ai h, r_srd h, h.li, r_ck h]
  simp only [← EReal.coe_mul, ← EReal.coe_add, ← EReal.coe_sub, ← EReal.coe_neg]
  refine congrArg _ ?_
  have hd := D.den_ne g n
  unfold Data.ck Data.qr Data.qi Data.cr Data.ci Data.numr Data.numi
  field_simp
  unfold Data.den
  ring

theorem r_qr : val_main_v223 x0 x1 x2 x3 x4 x9 (ix2 g n) = ((-(D.qr g n * D.sr g n + D.qi g n * D.si g n) : ℝ) : EReal) := by
  pointwise [val_main_v223, val_main_v222, val_main_v221, val_main_v220, val_main_v213, val_main_v212, val_main_v200, val_main_v0]
  rw [r_ar1 h, r_sid h, r_ai h, r_srd h, h.lr, r_ck h]
  simp only [← EReal.coe_mul, ← EReal.coe_add, ← EReal.coe_sub, ← EReal.coe_neg]
  refine congrArg _ ?_
  have hd := D.den_ne g n
  unfold Data.ck Data.qr Data.qi Data.cr Data.ci Data.numr Data.numi
  field_simp
  unfold Data.den
  ring

theorem r_wa : val_main_v226 x0 x1 x2 x3 x4 x8 x9 (ix2 g n) = ((D.mg g n * D.pi g n * Real.cos (D.li g n * D.st g) : ℝ) : EReal) := by
  pointwise [val_main_v226, val_main_v224]
  rw [r_mg h, r_pi h, r_cos2 h]
  simp only [← EReal.coe_mul, ← EReal.coe_add, ← EReal.coe_sub, ← EReal.coe_neg]

theorem r_wb : val_main_v237 x0 x1 x2 x3 x4 x7 x9 (ix2 g n) = ((-(D.mg g n * D.pr g n) * Real.sin (D.li g n * D.st g) : ℝ) : EReal) := by
  pointwise [val_main_v237, val_main_v236, val_main_v233]
  rw [r_mg h, r_pr h, r_sin h]
  simp only [← EReal.coe_mul, ← EReal.coe_add, ← EReal.coe_sub, ← EReal.coe_neg]

theorem r_wr : val_main_v245 x0 x1 x2 x3 x4 x7 x8 x9 (ix2 g n) = ((D.wr g n : ℝ) : EReal) := by
  pointwise [val_main_v245, val_main_v235, val_main_v234, val_main_v225]
  rw [r_pi h, r_sin2 h, r_pr h, r_cos h, r_mg h]
  simp only [← EReal.coe_mul, ← EReal.coe_add, ← EReal.coe_sub, ← EReal.coe_neg]
  refine congrArg _ ?_
  unfold Data.wr Data.ar Data.ai Data.mg; ring

theorem r_dli : val_main_v244 x0 x1 x2 x3 x4 x7 x8 x9 (ix2 g n) = ((D.dli g n : ℝ) : EReal) := by
  pointwise [val_main_v244, val_main_v243, val_main_v242, val_main_v232, val_main_v231, val_main_v230, val_main_v4]
  rw [r_qi h, r_wa h, r_wb h, r_st h]
  simp only [← EReal.coe_mul, ← EReal.coe_add, ← EReal.coe_sub, ← EReal.coe_neg]
  refine congrArg _ ?_
  unfold Data.dli Data.wi Data.ar Data.ai Data.mg; ring

theorem r_dlr : val_main_v252 x0 x1 x2 x3 x4 x7 x8 x9 (ix2 g n) = ((D.dlr g n : ℝ) : EReal) := by
  pointwise [val_main_v252, val_main_v251, val_main_v250, val_main_v4]
  rw [r_qr h, r_wr h, r_st h]
  simp only [← EReal.coe_mul, ← EReal.coe_add, ← EReal.coe_sub, ← EReal.coe_neg]
  refine congrArg _ ?_
  unfold Data.dlr; ring

theorem r_dls : val_main_v254 x0 x1 x2 x3 x4 x7 x8 x9 (ix1 g) = ((D.dls g : ℝ) : EReal) := by
  pointwise [val_main_v254, val_main_v253, val_main_v249, val_main_v248, val_main_v247, val_main_v246, val_main_v241, val_main_v240, val_main_v239, val_main_v238, val_main_v229, val_main_v228, val_main_v227, val_main_v1, val_main_v0, val_main_cst_18, val_main_cst_19, val_main_cst_20, val_main_cst_21]
  rw [Fin.sum_univ_one, r_st h, ← Finset.sum_add_distrib, ← Finset.sum_add_distrib, Data.dls, EReal.coe_mul, _root_.Own.coe_sum]
  congr 1
  refine Finset.sum_congr rfl fun n _ => ?_
  rw [h.li, h.lr, r_wa h, r_wb h, r_wr h]
  simp only [← EReal.coe_mul, ← EReal.coe_add, ← EReal.coe_sub, ← EReal.coe_neg]
  refine congrArg _ ?_
  unfold Data.wi Data.ar Data.ai Data.mg; ring

theorem ref_dlr : val_main_v258 x0 x1 x2 x3 x4 x7 x8 x9 (ix2 g n) = ((D.dlr g n : ℝ) : EReal) := by
  pointwise [val_main_v258, val_main_v257]
  exact r_dlr h g n

theorem ref_dli : val_main_v259 x0 x1 x2 x3 x4 x7 x8 x9 (ix2 g n) = ((D.dli g n : ℝ) : EReal) := by
  pointwise [val_main_v259, val_main_v256]
  exact r_dli h g n

theorem ref_dls : val_main_v260 x0 x1 x2 x3 x4 x7 x8 x9 (ix2 g 0) = ((D.dls g : ℝ) : EReal) := by
  pointwise [val_main_v260, val_main_v255]
  exact r_dls h g

theorem ref_dbr (R : Fin 512) : val_main_v263 x0 x1 x2 x9 (ix2 R n) = ((D.dbr n R : ℝ) : EReal) := by
  pointwise [val_main_v263, val_main_v262, val_main_v261, val_main_v189, val_main_v188, val_main_v184, val_main_v183, val_main_v37, val_main_v164, val_main_v160, val_main_v159, val_main_v50]
  rw [r_ci h (grp R) n, r_gi h (grp R) n (chn R), r_cr h (grp R) n, r_gr h (grp R) n (chn R)]
  simp only [← EReal.coe_mul, ← EReal.coe_add, ← EReal.coe_sub, ← EReal.coe_neg]
  refine congrArg _ ?_
  unfold Data.dbr
  rw [row_grp]
  ring

theorem ref_dbi (R : Fin 512) : val_main_v266 x0 x1 x2 x9 (ix2 R n) = ((D.dbi n R : ℝ) : EReal) := by
  pointwise [val_main_v266, val_main_v265, val_main_v264, val_main_v180, val_main_v179, val_main_v175, val_main_v174, val_main_v173, val_main_v41, val_main_v171, val_main_v167, val_main_v166, val_main_v46]
  rw [r_cr h (grp R) n, r_gi h (grp R) n (chn R), r_ci h (grp R) n, r_gr h (grp R) n (chn R)]
  simp only [← EReal.coe_mul, ← EReal.coe_add, ← EReal.coe_sub, ← EReal.coe_neg]
  refine congrArg _ ?_
  unfold Data.dbi
  rw [row_grp]
  ring

end

end Cert.ParBackIdeal.Own

end

end
-- ==== Proof.Par.lean ====
/-
The claims about the gradients of the recurrence's parameters.
-/
module

public import proofs.«01_k».proof.Defs
public import proofs.«01_k».proof.Proof.ParRef
public import proofs.«01_k».proof.Proof.Gen.ParBackRefIdeal.Run
public import proofs.«01_k».proof.Proof.Gen.Pre_nonzero_lam
public import proofs.«01_k».proof.Proof.Gen.ParBack.Frame

set_option maxRecDepth 16384

@[expose] public section

noncomputable section

namespace Cert.ParBackIdeal.Own

open Idealize.ShloMosaic Idealize.ShloMosaic.TcCoe Idealize.SL.Sem
open Idealize.ShloMosaic.Pipeline (Dat)
open Cert.ParBackIdeal.Gen Cert.ParBackIdeal.Value Cert.ParBackRefIdeal.Read

/-- A real number that the printed test finds above zero is not zero. -/
theorem ne_of_gt (r : ℝ) (h : FloatOps.cmpf (F := Ideal) (φ := .f32) .ogt (r : EReal) (FloatOps.ofBits (F := Ideal) .f32 0x00000000#32) = 1#1) : r ≠ 0 := by
  rintro rfl
  have hz : Ideal.ofBits .f32 0x00000000#32 = 0 := by simp [Ideal.ofBits, Ideal.ieee]
  have h' : Ideal.cmp .ogt ((0 : ℝ) : EReal) (Ideal.ofBits .f32 0x00000000#32) = 1#1 := h
  rw [hz, EReal.coe_zero] at h'
  change BitVec.ofBool (decide ((0 : EReal) < 0)) = 1#1 at h'
  rw [decide_eq_false (lt_irrefl _)] at h'
  exact absurd h' (by decide)

/-- What the precondition says: the arguments it names are real, and no eigenvalue is zero. -/
theorem data_of_pre (m : (ℓ : Loc nD τ sig) → Buf (Elt Ideal) ℓ) (c : Dev nD) (hp : Cert.Pre_ParBackIdeal_nonzero_lam m) : ∃ D : Data, IsData m c D := by
  have e := congrFun (hp c) ix0
  dsimp only [Cert.Pre_nonzero_lam.fn, Cert.Pre_nonzero_lam.fn_part1, Cert.Pre_nonzero_lam.fn_part2] at e
  obtain ⟨e, hn⟩ := IntOp.andi_eq_one.mp e
  obtain ⟨e, h9⟩ := IntOp.andi_eq_one.mp e
  obtain ⟨e, h8⟩ := IntOp.andi_eq_one.mp e
  obtain ⟨e, h7⟩ := IntOp.andi_eq_one.mp e
  obtain ⟨e, h4⟩ := IntOp.andi_eq_one.mp e
  obtain ⟨e, h3⟩ := IntOp.andi_eq_one.mp e
  obtain ⟨e, h2⟩ := IntOp.andi_eq_one.mp e
  obtain ⟨h0, h1⟩ := IntOp.andi_eq_one.mp e
  choose f0 e0 using _root_.Own.real_of_all _ _ _ _ _ h0
  choose f1 e1 using _root_.Own.real_of_all _ _ _ _ _ h1
  choose f2 e2 using _root_.Own.real_of_all _ _ _ _ _ h2
  choose f3 e3 using _root_.Own.real_of_all _ _ _ _ _ h3
  choose f4 e4 using _root_.Own.real_of_all _ _ _ _ _ h4
  choose f7 e7 using _root_.Own.real_of_all _ _ _ _ _ h7
  choose f8 e8 using _root_.Own.real_of_all _ _ _ _ _ h8
  choose f9 e9 using _root_.Own.real_of_all _ _ _ _ _ h9
  refine ⟨{ lr := fun g n => f0 (ix3 0 g n), li := fun g n => f1 (ix3 0 g n), ls := fun g => f2 (ix2 0 g),
            br := fun R n => f3 (ix4 0 (grp R) n (chn R)), bi := fun R n => f4 (ix4 0 (grp R) n (chn R)),
            ga := fun g n => f7 (ix2 g n), gb := fun g n => f8 (ix2 g n),
            gr := fun R n => f9 (ix3 ⟨R.val / 128, by omega⟩ ⟨R.val % 128, by omega⟩ ⟨0 + (64 * (R.val % 128 / 16) + n.val), by omega⟩),
            gi := fun R n => f9 (ix3 ⟨R.val / 128, by omega⟩ ⟨R.val % 128, by omega⟩ ⟨512 + (64 * (R.val % 128 / 16) + n.val), by omega⟩),
            ne := fun g n => ne_of_gt _ ?_ },
    { lr := fun g n => e0 _, li := fun g n => e1 _, ls := fun g => e2 _, br := fun R n => e3 _, bi := fun R n => e4 _,
      ga := fun g n => e7 _, gb := fun g n => e8 _, gr := fun R n => e9 _, gi := fun R n => e9 _ }⟩
  have k := Host.reduce_andi_all _ _ _ _ _ hn (ix3 0 g n)
  rw [EReal.coe_add, EReal.coe_mul, EReal.coe_mul, ← e0, ← e1]
  exact k

theorem frame_bits : Cert.quiescent_ParBack := fun m ρ _ => Cert.ParBack.Gen.frame m ρ
theorem frame_ideal : Cert.quiescent_ParBackIdeal := fun m ρ _ => Cert.ParBackIdeal.Gen.frame m ρ
theorem frame_ideal_pre : Cert.quiescent_ParBackIdeal_pre_nonzero_lam := fun m ρ _ => Cert.ParBackIdeal.Gen.frame m ρ
theorem frame_ref : Cert.quiescent_ParBackRefIdeal := fun m ρ _ =>
  (θ_run Cert.ParBackRefIdeal.defs _ _).mono (fun r h => ⟨fun c => (h c).2.2.2.2.2.2.2, sem_eq_zero_of_no_sems (by decide) r.2⟩)
    (Cert.ParBackRefIdeal.Value.run (F := Ideal) m ρ)
theorem frame_ref_pre : Cert.quiescent_ParBackRefIdeal_pre_nonzero_lam := fun m ρ _ => frame_ref m ρ trivial

theorem algebraic : Cert.algebraic_ParBackIdeal_ParBackRefIdeal_pre_nonzero_lam := by
  intro m ρ m' ρ' hp ha
  refine ⟨fun c => (dats m 0 c).arrAt 9 cfg0.N, fun c => (dats m 0 c).arrAt 10 cfg0.N, fun c => (dats m 0 c).arrAt 11 cfg0.N, fun c => (dats m 0 c).arrAt 12 cfg0.N,
    fun c => (dats m 0 c).arrAt 13 cfg0.N, fun c => (dats m 0 c).arrAt 14 cfg0.N, fun c => (dats m 0 c).arrAt 15 cfg0.N, run_blocks m ρ, ?_⟩
  refine (θ_run Cert.ParBackRefIdeal.defs _ _).mono (fun r h c => ?_) (Cert.ParBackRefIdeal.Value.run (F := Ideal) m' ρ')
  obtain ⟨h0, h1, h2, h3, h4, h5, h6, h7⟩ := h c
  obtain ⟨a0, a1, a2, a3, a4, _, _, a7, a8, a9, a10⟩ := ha c
  obtain ⟨D, hI⟩ := data_of_pre m c hp
  have hD : RData D (m' ((c.tc : Thread Cert.ParBackRefIdeal.nD Cert.ParBackRefIdeal.τ).loc Cert.ParBackRefIdeal.main_arg0))
      (m' ((c.tc : Thread Cert.ParBackRefIdeal.nD Cert.ParBackRefIdeal.τ).loc Cert.ParBackRefIdeal.main_arg1))
      (m' ((c.tc : Thread Cert.ParBackRefIdeal.nD Cert.ParBackRefIdeal.τ).loc Cert.ParBackRefIdeal.main_arg2))
      (m' ((c.tc : Thread Cert.ParBackRefIdeal.nD Cert.ParBackRefIdeal.τ).loc Cert.ParBackRefIdeal.main_arg3))
      (m' ((c.tc : Thread Cert.ParBackRefIdeal.nD Cert.ParBackRefIdeal.τ).loc Cert.ParBackRefIdeal.main_arg4))
      (m' ((c.tc : Thread Cert.ParBackRefIdeal.nD Cert.ParBackRefIdeal.τ).loc Cert.ParBackRefIdeal.main_arg7))
      (m' ((c.tc : Thread Cert.ParBackRefIdeal.nD Cert.ParBackRefIdeal.τ).loc Cert.ParBackRefIdeal.main_arg8))
      (m' ((c.tc : Thread Cert.ParBackRefIdeal.nD Cert.ParBackRefIdeal.τ).loc Cert.ParBackRefIdeal.main_arg9)) :=
    ⟨fun g n => (congrFun a0 _).trans (hI.lr g n), fun g n => (congrFun a1 _).trans (hI.li g n), fun g => (congrFun a2 _).trans (hI.ls g),
      fun R n => (congrFun a3 _).trans (hI.br R n), fun R n => (congrFun a4 _).trans (hI.bi R n), fun g n => (congrFun a7 _).trans (hI.ga g n),
      fun g n => (congrFun a8 _).trans (hI.gb g n), fun R n => (congrArg (fun x => diag x 0 (by omega) (ix2 R n)) a9).trans (hI.gr R n),
      fun R n => (congrArg (fun x => diag x 512 (by omega) (ix2 R n)) a9).trans (hI.gi R n)⟩
  refine ⟨h0.trans ((val_main_v258_eq _).trans ((funext fun y => ?_).trans (arr_9 hI).symm)), h1.trans ((val_main_v259_eq _).trans ((funext fun y => ?_).trans (arr_10 hI).symm)),
    h2.trans ((val_main_v260_eq _).trans ((funext fun y => ?_).trans (arr_11 hI).symm)), h3.trans ((val_main_v263_eq _).trans ((funext fun y => ?_).trans (arr_12 hI).symm)),
    h4.trans ((val_main_v266_eq _).trans ((funext fun y => ?_).trans (arr_13 hI).symm)), h5.trans ((val_main_v267_eq _).trans ((funext fun y => ?_).trans arr_14.symm)),
    h6.trans ((val_main_v268_eq _).trans ((funext fun y => ?_).trans arr_15.symm)), h7⟩
  · rw [eq_ix2 y]; exact ref_dlr hD _ _
  · rw [eq_ix2 y]; exact ref_dli hD _ _
  · rw [eq_ix2 y, Fin.fin_one_eq_zero (y 1)]; exact ref_dls hD _
  · rw [eq_ix2 y]; exact ref_dbr hD _ _
  · rw [eq_ix2 y]; exact ref_dbi hD _ _
  · rw [eq_ix2 y]; exact (ref_dcr _ _ _).trans (congrArg (fun x => diag x 0 (by omega) (ix2 (y 0) (y 1))) a10)
  · rw [eq_ix2 y]; exact (ref_dci _ _ _).trans (congrArg (fun x => -diag x 512 (by omega) (ix2 (y 0) (y 1))) a10)

end Cert.ParBackIdeal.Own

end

end
-- ==== Proof.MixSkel.lean ====
/- The congruences of the parts of the mix kernel's body, which its runs share. -/
module

public import proofs.«01_k».proof.Proof.Gen.MixBackIdeal.Frame.Runs

@[expose] public section

set_option maxRecDepth 16384

noncomputable section

namespace Cert.MixBackIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixBackIdeal.Gen

variable {F : FTy → Type} [FloatOps F] [Named F]

/-- Statements about the machine. -/
abbrev Assn (F : FTy → Type) [FloatOps F] [Named F] := sProp (MT nD τ sig Unit (Elt F) ℕ (UR sig nD τ) ℕ)

theorem parts_congr : True := by
  have h3 := @k0_part3_skel.congr_simp
  have h4 := @k0_part4_skel.congr_simp
  have h5 := @k0_part5_skel.congr_simp
  have h6 := @k0_part6_skel.congr_simp
  have h7 := @k0_part7_skel.congr_simp
  have h8 := @k0_part8_skel.congr_simp
  trivial

end Cert.MixBackIdeal.Own

end
-- ==== Proof.MixRunA.lean ====
/- What the mix kernel leaves at the first point. -/
module

public import proofs.«01_k».proof.Proof.MixSkel

@[expose] public section

set_option maxRecDepth 16384

noncomputable section

namespace Cert.MixBackIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixBackIdeal.Gen

variable {F : FTy → Type} [FloatOps F] [Named F]

set_option maxHeartbeats 8000000 in
/-- The body at the first point: the sums and the gradients it carries are cleared first, and the rounded gradients are not
    written; from the fourteen input blocks it ends with the inputs as they were and the listed pieces written. -/
noncomputable def mixRunA (c : Dev nD) (i : grid0.Coords)
  (a0 : Memref sig .tc .vmem S256x1024 .f32) (h0 : a0.IsWhole)
  (a1 : Memref sig .tc .vmem S256x512 .f32) (h1 : a1.IsWhole)
  (a2 : Memref sig .tc .vmem S256x512 .f32) (h2 : a2.IsWhole)
  (a3 : Memref sig .tc .vmem S256x512 .f32) (h3 : a3.IsWhole)
  (a4 : Memref sig .tc .vmem S256x512 .f32) (h4 : a4.IsWhole)
  (a5 : Memref sig .tc .vmem S256x256 .f32) (h5 : a5.IsWhole)
  (a6 : Memref sig .tc .vmem S256x1024 .f32) (h6 : a6.IsWhole)
  (a7 : Memref sig .tc .vmem S512x512 .bf16) (h7 : a7.IsWhole)
  (a8 : Memref sig .tc .vmem S1x512 .f32) (h8 : a8.IsWhole)
  (a9 : Memref sig .tc .vmem S1024x1024 .bf16) (h9 : a9.IsWhole)
  (a10 : Memref sig .tc .vmem S1x1024 .f32) (h10 : a10.IsWhole)
  (a11 : Memref sig .tc .vmem S1024x1024 .bf16) (h11 : a11.IsWhole)
  (a12 : Memref sig .tc .vmem S1x1024 .f32) (h12 : a12.IsWhole)
  (a13 : Memref sig .tc .vmem S256x1024 .bf16) (h13 : a13.IsWhole)
  (a14 : Memref sig .tc .vmem S1x1 .f32) (h14 : a14.IsWhole)
  (a15 : Memref sig .tc .vmem S256x1024 .f32) (h15 : a15.IsWhole)
  (a16 : Memref sig .tc .vmem S256x512 .f32) (h16 : a16.IsWhole)
  (a17 : Memref sig .tc .vmem S256x512 .bf16) (h17 : a17.IsWhole)
  (a18 : Memref sig .tc .vmem S256x512 .f32) (h18 : a18.IsWhole)
  (a19 : Memref sig .tc .vmem S256x512 .bf16) (h19 : a19.IsWhole)
  (a20 : Memref sig .tc .vmem S1x64x512 .f32) (h20 : a20.IsWhole)
  (a21 : Memref sig .tc .vmem S1x512 .f32) (h21 : a21.IsWhole)
  (a22 : Memref sig .tc .vmem S1x128x1024 .f32) (h22 : a22.IsWhole)
  (a23 : Memref sig .tc .vmem S1x1024 .f32) (h23 : a23.IsWhole)
  (a24 : Memref sig .tc .vmem S1x128x1024 .f32) (h24 : a24.IsWhole)
  (a25 : Memref sig .tc .vmem S1x1024 .f32) (h25 : a25.IsWhole)
  (a26 : Memref sig .tc .vmem S1x256x128 .f32) (h26 : a26.IsWhole)
  (a27 : Memref sig .tc .vmem S1024x1024 .bf16) (h27 : a27.IsWhole)
  (a28 : Memref sig .tc .vmem S1024x1024 .bf16) (h28 : a28.IsWhole)
  (a29 : Memref sig .tc .vmem S8x256x128 .bf16) (h29 : a29.IsWhole)
  (a30 : Memref sig .tc .vmem S512x512 .bf16) (h30 : a30.IsWhole)
  (a31 : Memref sig .tc .vmem S512x512 .f32) (h31 : a31.IsWhole)
  (a32 : Memref sig .tc .vmem S1024x1024 .f32) (h32 : a32.IsWhole)
  (a33 : Memref sig .tc .vmem S1024x1024 .f32) (h33 : a33.IsWhole)
  (a34 : Memref sig .tc .vmem S256x1024 .f32) (h34 : a34.IsWhole)
  (c0 : cond0_0 i) (c1 : ¬cond0_1 i)
  (x0 : Vec F S256x1024 .f32) (x1 : Vec F S256x512 .f32) (x2 : Vec F S256x512 .f32) (x3 : Vec F S256x512 .f32) (x4 : Vec F S256x512 .f32) (x5 : Vec F S256x256 .f32) (x6 : Vec F S256x1024 .f32) (x7 : Vec F S512x512 .bf16) (x8 : Vec F S1x512 .f32) (x9 : Vec F S1024x1024 .bf16) (x10 : Vec F S1x1024 .f32) (x11 : Vec F S1024x1024 .bf16) (x12 : Vec F S1x1024 .f32) (x13 : Vec F S256x1024 .bf16) :
    Σ' (L14 : List (View.Piece (Elt F) S1x1 .f32)), Σ' (L15 : List (View.Piece (Elt F) S256x1024 .f32)), Σ' (L16 : List (View.Piece (Elt F) S256x512 .f32)), Σ' (L17 : List (View.Piece (Elt F) S256x512 .bf16)), Σ' (L18 : List (View.Piece (Elt F) S256x512 .f32)), Σ' (L19 : List (View.Piece (Elt F) S256x512 .bf16)), Σ' (L21 : List (View.Piece (Elt F) S1x512 .f32)), Σ' (L23 : List (View.Piece (Elt F) S1x1024 .f32)), Σ' (L25 : List (View.Piece (Elt F) S1x1024 .f32)), Σ' (L31 : List (View.Piece (Elt F) S512x512 .f32)), Σ' (L32 : List (View.Piece (Elt F) S1024x1024 .f32)), Σ' (L33 : List (View.Piece (Elt F) S1024x1024 .f32)), { L34 : List (View.Piece (Elt F) S256x1024 .f32) //
      ∀ (E : Set ℕ) (K : PUnit → Assn F),
        iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ owns (c : Thread nD τ) a8 fullShare x8
          ∗ owns (c : Thread nD τ) a9 fullShare x9
          ∗ owns (c : Thread nD τ) a10 fullShare x10
          ∗ owns (c : Thread nD τ) a11 fullShare x11
          ∗ owns (c : Thread nD τ) a12 fullShare x12
          ∗ owns (c : Thread nD τ) a13 fullShare x13
          ∗ (∃ d, owns (c : Thread nD τ) a14 fullShare d)
          ∗ (∃ d, owns (c : Thread nD τ) a15 fullShare d)
          ∗ (∃ d, owns (c : Thread nD τ) a16 fullShare d)
          ∗ (∃ d, owns (c : Thread nD τ) a17 fullShare d)
          ∗ (∃ d, owns (c : Thread nD τ) a18 fullShare d)
          ∗ (∃ d, owns (c : Thread nD τ) a19 fullShare d)
          ∗ (∃ d, owns (c : Thread nD τ) a21 fullShare d)
          ∗ (∃ d, owns (c : Thread nD τ) a23 fullShare d)
          ∗ (∃ d, owns (c : Thread nD τ) a25 fullShare d)
          ∗ (∃ d, owns (c : Thread nD τ) a31 fullShare d)
          ∗ (∃ d, owns (c : Thread nD τ) a32 fullShare d)
          ∗ (∃ d, owns (c : Thread nD τ) a33 fullShare d)
          ∗ (∃ d, owns (c : Thread nD τ) a34 fullShare d)
          ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ owns (c : Thread nD τ) a9 fullShare x9
            ∗ owns (c : Thread nD τ) a10 fullShare x10
            ∗ owns (c : Thread nD τ) a11 fullShare x11
            ∗ owns (c : Thread nD τ) a12 fullShare x12
            ∗ owns (c : Thread nD τ) a13 fullShare x13
            ∗ (∃ f, a14.view.loc (c : Thread nD τ) ↦[a14.view.set]{fullShare} a14.view.writes (Elt F) f L14)
            ∗ (∃ f, a15.view.loc (c : Thread nD τ) ↦[a15.view.set]{fullShare} a15.view.writes (Elt F) f L15)
            ∗ (∃ f, a16.view.loc (c : Thread nD τ) ↦[a16.view.set]{fullShare} a16.view.writes (Elt F) f L16)
            ∗ (∃ f, a17.view.loc (c : Thread nD τ) ↦[a17.view.set]{fullShare} a17.view.writes (Elt F) f L17)
            ∗ (∃ f, a18.view.loc (c : Thread nD τ) ↦[a18.view.set]{fullShare} a18.view.writes (Elt F) f L18)
            ∗ (∃ f, a19.view.loc (c : Thread nD τ) ↦[a19.view.set]{fullShare} a19.view.writes (Elt F) f L19)
            ∗ (∃ f, a21.view.loc (c : Thread nD τ) ↦[a21.view.set]{fullShare} a21.view.writes (Elt F) f L21)
            ∗ (∃ f, a23.view.loc (c : Thread nD τ) ↦[a23.view.set]{fullShare} a23.view.writes (Elt F) f L23)
            ∗ (∃ f, a25.view.loc (c : Thread nD τ) ↦[a25.view.set]{fullShare} a25.view.writes (Elt F) f L25)
            ∗ (∃ f, a31.view.loc (c : Thread nD τ) ↦[a31.view.set]{fullShare} a31.view.writes (Elt F) f L31)
            ∗ (∃ f, a32.view.loc (c : Thread nD τ) ↦[a32.view.set]{fullShare} a32.view.writes (Elt F) f L32)
            ∗ (∃ f, a33.view.loc (c : Thread nD τ) ↦[a33.view.set]{fullShare} a33.view.writes (Elt F) f L33)
            ∗ (∃ f, a34.view.loc (c : Thread nD τ) ↦[a34.view.set]{fullShare} a34.view.writes (Elt F) f L34)) -∗ K ⟨⟩))
          ⊢ wp frame (wpE (defs₀ (F := F)) Variants.none c none) E (cc0_mix_forward_backward i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34) K } := by
  refine ⟨?_, ?_, ?_, ?_, ?_, ?_, ?_, ?_, ?_, ?_, ?_, ?_, ?_, fun E K => ?run⟩
  case run =>
    simp only [cc0_mix_forward_backward_eq_skeleton]; unfold cc0_mix_forward_backward_skel
    simp only [k0_part3_eq_skeleton, k0_part4_eq_skeleton, k0_part5_eq_skeleton, k0_part6_eq_skeleton, k0_part7_eq_skeleton, k0_part8_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d21, %f21, -, H21⟩, ⟨%d23, %f23, -, H23⟩, ⟨%d25, %f25, -, H25⟩, ⟨%d31, %f31, -, H31⟩, ⟨%d32, %f32, -, H32⟩, ⟨%d33, %f33, -, H33⟩, ⟨%d34, %f34, -, H34⟩, Hk⟩
    obtain rfl := h0.eq_unread e0
    obtain rfl := h1.eq_unread e1
    obtain rfl := h2.eq_unread e2
    obtain rfl := h3.eq_unread e3
    obtain rfl := h4.eq_unread e4
    obtain rfl := h5.eq_unread e5
    obtain rfl := h6.eq_unread e6
    obtain rfl := h7.eq_unread e7
    obtain rfl := h8.eq_unread e8
    obtain rfl := h9.eq_unread e9
    obtain rfl := h10.eq_unread e10
    obtain rfl := h11.eq_unread e11
    obtain rfl := h12.eq_unread e12
    obtain rfl := h13.eq_unread e13
    sl_exec (disch := first | sl_exact c0 | sl_exact c1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H21]; · iexists _; iexact H21
    isplitl [H23]; · iexists _; iexact H23
    isplitl [H25]; · iexists _; iexact H25
    isplitl [H31]; · iexists _; iexact H31
    isplitl [H32]; · iexists _; iexact H32
    isplitl [H33]; · iexists _; iexact H33
    iexists _; iexact H34

end Cert.MixBackIdeal.Own

end
-- ==== Proof.MixRunB.lean ====
/- What the mix kernel leaves at a point between the first and the last. -/
module

public import proofs.«01_k».proof.Proof.MixSkel

@[expose] public section

set_option maxRecDepth 16384

noncomputable section

namespace Cert.MixBackIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixBackIdeal.Gen

variable {F : FTy → Type} [FloatOps F] [Named F]

set_option maxHeartbeats 8000000 in
/-- The body at a point between the first and the last: the sums and the gradients it carries are added to. -/
noncomputable def mixRunB (c : Dev nD) (i : grid0.Coords)
  (a0 : Memref sig .tc .vmem S256x1024 .f32) (h0 : a0.IsWhole)
  (a1 : Memref sig .tc .vmem S256x512 .f32) (h1 : a1.IsWhole)
  (a2 : Memref sig .tc .vmem S256x512 .f32) (h2 : a2.IsWhole)
  (a3 : Memref sig .tc .vmem S256x512 .f32) (h3 : a3.IsWhole)
  (a4 : Memref sig .tc .vmem S256x512 .f32) (h4 : a4.IsWhole)
  (a5 : Memref sig .tc .vmem S256x256 .f32) (h5 : a5.IsWhole)
  (a6 : Memref sig .tc .vmem S256x1024 .f32) (h6 : a6.IsWhole)
  (a7 : Memref sig .tc .vmem S512x512 .bf16) (h7 : a7.IsWhole)
  (a8 : Memref sig .tc .vmem S1x512 .f32) (h8 : a8.IsWhole)
  (a9 : Memref sig .tc .vmem S1024x1024 .bf16) (h9 : a9.IsWhole)
  (a10 : Memref sig .tc .vmem S1x1024 .f32) (h10 : a10.IsWhole)
  (a11 : Memref sig .tc .vmem S1024x1024 .bf16) (h11 : a11.IsWhole)
  (a12 : Memref sig .tc .vmem S1x1024 .f32) (h12 : a12.IsWhole)
  (a13 : Memref sig .tc .vmem S256x1024 .bf16) (h13 : a13.IsWhole)
  (a14 : Memref sig .tc .vmem S1x1 .f32) (h14 : a14.IsWhole)
  (a15 : Memref sig .tc .vmem S256x1024 .f32) (h15 : a15.IsWhole)
  (a16 : Memref sig .tc .vmem S256x512 .f32) (h16 : a16.IsWhole)
  (a17 : Memref sig .tc .vmem S256x512 .bf16) (h17 : a17.IsWhole)
  (a18 : Memref sig .tc .vmem S256x512 .f32) (h18 : a18.IsWhole)
  (a19 : Memref sig .tc .vmem S256x512 .bf16) (h19 : a19.IsWhole)
  (a20 : Memref sig .tc .vmem S1x64x512 .f32) (h20 : a20.IsWhole)
  (a21 : Memref sig .tc .vmem S1x512 .f32) (h21 : a21.IsWhole)
  (a22 : Memref sig .tc .vmem S1x128x1024 .f32) (h22 : a22.IsWhole)
  (a23 : Memref sig .tc .vmem S1x1024 .f32) (h23 : a23.IsWhole)
  (a24 : Memref sig .tc .vmem S1x128x1024 .f32) (h24 : a24.IsWhole)
  (a25 : Memref sig .tc .vmem S1x1024 .f32) (h25 : a25.IsWhole)
  (a26 : Memref sig .tc .vmem S1x256x128 .f32) (h26 : a26.IsWhole)
  (a27 : Memref sig .tc .vmem S1024x1024 .bf16) (h27 : a27.IsWhole)
  (a28 : Memref sig .tc .vmem S1024x1024 .bf16) (h28 : a28.IsWhole)
  (a29 : Memref sig .tc .vmem S8x256x128 .bf16) (h29 : a29.IsWhole)
  (a30 : Memref sig .tc .vmem S512x512 .bf16) (h30 : a30.IsWhole)
  (a31 : Memref sig .tc .vmem S512x512 .f32) (h31 : a31.IsWhole)
  (a32 : Memref sig .tc .vmem S1024x1024 .f32) (h32 : a32.IsWhole)
  (a33 : Memref sig .tc .vmem S1024x1024 .f32) (h33 : a33.IsWhole)
  (a34 : Memref sig .tc .vmem S256x1024 .f32) (h34 : a34.IsWhole)
  (c0 : ¬cond0_0 i) (c1 : ¬cond0_1 i)
  (x0 : Vec F S256x1024 .f32) (x1 : Vec F S256x512 .f32) (x2 : Vec F S256x512 .f32) (x3 : Vec F S256x512 .f32) (x4 : Vec F S256x512 .f32) (x5 : Vec F S256x256 .f32) (x6 : Vec F S256x1024 .f32) (x7 : Vec F S512x512 .bf16) (x8 : Vec F S1x512 .f32) (x9 : Vec F S1024x1024 .bf16) (x10 : Vec F S1x1024 .f32) (x11 : Vec F S1024x1024 .bf16) (x12 : Vec F S1x1024 .f32) (x13 : Vec F S256x1024 .bf16) (x14 : Vec F S1x1 .f32) (x21 : Vec F S1x512 .f32) (x23 : Vec F S1x1024 .f32) (x25 : Vec F S1x1024 .f32) (x31 : Vec F S512x512 .f32) (x32 : Vec F S1024x1024 .f32) (x33 : Vec F S1024x1024 .f32) (x34 : Vec F S256x1024 .f32) :
    Σ' (L14 : List (View.Piece (Elt F) S1x1 .f32)), Σ' (L15 : List (View.Piece (Elt F) S256x1024 .f32)), Σ' (L16 : List (View.Piece (Elt F) S256x512 .f32)), Σ' (L17 : List (View.Piece (Elt F) S256x512 .bf16)), Σ' (L18 : List (View.Piece (Elt F) S256x512 .f32)), Σ' (L19 : List (View.Piece (Elt F) S256x512 .bf16)), Σ' (L21 : List (View.Piece (Elt F) S1x512 .f32)), Σ' (L23 : List (View.Piece (Elt F) S1x1024 .f32)), Σ' (L25 : List (View.Piece (Elt F) S1x1024 .f32)), Σ' (L31 : List (View.Piece (Elt F) S512x512 .f32)), Σ' (L32 : List (View.Piece (Elt F) S1024x1024 .f32)), Σ' (L33 : List (View.Piece (Elt F) S1024x1024 .f32)), { L34 : List (View.Piece (Elt F) S256x1024 .f32) //
      ∀ (E : Set ℕ) (K : PUnit → Assn F),
        iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ owns (c : Thread nD τ) a8 fullShare x8
          ∗ owns (c : Thread nD τ) a9 fullShare x9
          ∗ owns (c : Thread nD τ) a10 fullShare x10
          ∗ owns (c : Thread nD τ) a11 fullShare x11
          ∗ owns (c : Thread nD τ) a12 fullShare x12
          ∗ owns (c : Thread nD τ) a13 fullShare x13
          ∗ owns (c : Thread nD τ) a14 fullShare x14
          ∗ (∃ d, owns (c : Thread nD τ) a15 fullShare d)
          ∗ (∃ d, owns (c : Thread nD τ) a16 fullShare d)
          ∗ (∃ d, owns (c : Thread nD τ) a17 fullShare d)
          ∗ (∃ d, owns (c : Thread nD τ) a18 fullShare d)
          ∗ (∃ d, owns (c : Thread nD τ) a19 fullShare d)
          ∗ owns (c : Thread nD τ) a21 fullShare x21
          ∗ owns (c : Thread nD τ) a23 fullShare x23
          ∗ owns (c : Thread nD τ) a25 fullShare x25
          ∗ owns (c : Thread nD τ) a31 fullShare x31
          ∗ owns (c : Thread nD τ) a32 fullShare x32
          ∗ owns (c : Thread nD τ) a33 fullShare x33
          ∗ owns (c : Thread nD τ) a34 fullShare x34
          ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ owns (c : Thread nD τ) a9 fullShare x9
            ∗ owns (c : Thread nD τ) a10 fullShare x10
            ∗ owns (c : Thread nD τ) a11 fullShare x11
            ∗ owns (c : Thread nD τ) a12 fullShare x12
            ∗ owns (c : Thread nD τ) a13 fullShare x13
            ∗ (∃ f, a14.view.loc (c : Thread nD τ) ↦[a14.view.set]{fullShare} a14.view.writes (Elt F) f L14)
            ∗ (∃ f, a15.view.loc (c : Thread nD τ) ↦[a15.view.set]{fullShare} a15.view.writes (Elt F) f L15)
            ∗ (∃ f, a16.view.loc (c : Thread nD τ) ↦[a16.view.set]{fullShare} a16.view.writes (Elt F) f L16)
            ∗ (∃ f, a17.view.loc (c : Thread nD τ) ↦[a17.view.set]{fullShare} a17.view.writes (Elt F) f L17)
            ∗ (∃ f, a18.view.loc (c : Thread nD τ) ↦[a18.view.set]{fullShare} a18.view.writes (Elt F) f L18)
            ∗ (∃ f, a19.view.loc (c : Thread nD τ) ↦[a19.view.set]{fullShare} a19.view.writes (Elt F) f L19)
            ∗ (∃ f, a21.view.loc (c : Thread nD τ) ↦[a21.view.set]{fullShare} a21.view.writes (Elt F) f L21)
            ∗ (∃ f, a23.view.loc (c : Thread nD τ) ↦[a23.view.set]{fullShare} a23.view.writes (Elt F) f L23)
            ∗ (∃ f, a25.view.loc (c : Thread nD τ) ↦[a25.view.set]{fullShare} a25.view.writes (Elt F) f L25)
            ∗ (∃ f, a31.view.loc (c : Thread nD τ) ↦[a31.view.set]{fullShare} a31.view.writes (Elt F) f L31)
            ∗ (∃ f, a32.view.loc (c : Thread nD τ) ↦[a32.view.set]{fullShare} a32.view.writes (Elt F) f L32)
            ∗ (∃ f, a33.view.loc (c : Thread nD τ) ↦[a33.view.set]{fullShare} a33.view.writes (Elt F) f L33)
            ∗ (∃ f, a34.view.loc (c : Thread nD τ) ↦[a34.view.set]{fullShare} a34.view.writes (Elt F) f L34)) -∗ K ⟨⟩))
          ⊢ wp frame (wpE (defs₀ (F := F)) Variants.none c none) E (cc0_mix_forward_backward i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34) K } := by
  refine ⟨?_, ?_, ?_, ?_, ?_, ?_, ?_, ?_, ?_, ?_, ?_, ?_, ?_, fun E K => ?run⟩
  case run =>
    simp only [cc0_mix_forward_backward_eq_skeleton]; unfold cc0_mix_forward_backward_skel
    simp only [k0_part3_eq_skeleton, k0_part4_eq_skeleton, k0_part5_eq_skeleton, k0_part6_eq_skeleton, k0_part7_eq_skeleton, k0_part8_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%d15, %f15, -, H15⟩, ⟨%d16, %f16, -, H16⟩, ⟨%d17, %f17, -, H17⟩, ⟨%d18, %f18, -, H18⟩, ⟨%d19, %f19, -, H19⟩, ⟨%f21, %e21, H21⟩, ⟨%f23, %e23, H23⟩, ⟨%f25, %e25, H25⟩, ⟨%f31, %e31, H31⟩, ⟨%f32, %e32, H32⟩, ⟨%f33, %e33, H33⟩, ⟨%f34, %e34, H34⟩, Hk⟩
    obtain rfl := h0.eq_unread e0
    obtain rfl := h1.eq_unread e1
    obtain rfl := h2.eq_unread e2
    obtain rfl := h3.eq_unread e3
    obtain rfl := h4.eq_unread e4
    obtain rfl := h5.eq_unread e5
    obtain rfl := h6.eq_unread e6
    obtain rfl := h7.eq_unread e7
    obtain rfl := h8.eq_unread e8
    obtain rfl := h9.eq_unread e9
    obtain rfl := h10.eq_unread e10
    obtain rfl := h11.eq_unread e11
    obtain rfl := h12.eq_unread e12
    obtain rfl := h13.eq_unread e13
    obtain rfl := h14.eq_unread e14
    obtain rfl := h21.eq_unread e21
    obtain rfl := h23.eq_unread e23
    obtain rfl := h25.eq_unread e25
    obtain rfl := h31.eq_unread e31
    obtain rfl := h32.eq_unread e32
    obtain rfl := h33.eq_unread e33
    obtain rfl := h34.eq_unread e34
    sl_exec (disch := first | sl_exact c0 | sl_exact c1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H21]; · iexists _; iexact H21
    isplitl [H23]; · iexists _; iexact H23
    isplitl [H25]; · iexists _; iexact H25
    isplitl [H31]; · iexists _; iexact H31
    isplitl [H32]; · iexists _; iexact H32
    isplitl [H33]; · iexists _; iexact H33
    iexists _; iexact H34

end Cert.MixBackIdeal.Own

end
-- ==== Proof.MixRunC.lean ====
/- What the mix kernel leaves at the last point. -/
module

public import proofs.«01_k».proof.Proof.MixSkel

@[expose] public section

set_option maxRecDepth 16384

noncomputable section

namespace Cert.MixBackIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixBackIdeal.Gen

variable {F : FTy → Type} [FloatOps F] [Named F]

set_option maxHeartbeats 8000000 in
/-- The body at the last point: the sums and the gradients it carries are added to, and the gradients are then written out,
    a device's own rows and the rounded whole. -/
noncomputable def mixRunC (c : Dev nD) (i : grid0.Coords)
  (a0 : Memref sig .tc .vmem S256x1024 .f32) (h0 : a0.IsWhole)
  (a1 : Memref sig .tc .vmem S256x512 .f32) (h1 : a1.IsWhole)
  (a2 : Memref sig .tc .vmem S256x512 .f32) (h2 : a2.IsWhole)
  (a3 : Memref sig .tc .vmem S256x512 .f32) (h3 : a3.IsWhole)
  (a4 : Memref sig .tc .vmem S256x512 .f32) (h4 : a4.IsWhole)
  (a5 : Memref sig .tc .vmem S256x256 .f32) (h5 : a5.IsWhole)
  (a6 : Memref sig .tc .vmem S256x1024 .f32) (h6 : a6.IsWhole)
  (a7 : Memref sig .tc .vmem S512x512 .bf16) (h7 : a7.IsWhole)
  (a8 : Memref sig .tc .vmem S1x512 .f32) (h8 : a8.IsWhole)
  (a9 : Memref sig .tc .vmem S1024x1024 .bf16) (h9 : a9.IsWhole)
  (a10 : Memref sig .tc .vmem S1x1024 .f32) (h10 : a10.IsWhole)
  (a11 : Memref sig .tc .vmem S1024x1024 .bf16) (h11 : a11.IsWhole)
  (a12 : Memref sig .tc .vmem S1x1024 .f32) (h12 : a12.IsWhole)
  (a13 : Memref sig .tc .vmem S256x1024 .bf16) (h13 : a13.IsWhole)
  (a14 : Memref sig .tc .vmem S1x1 .f32) (h14 : a14.IsWhole)
  (a15 : Memref sig .tc .vmem S256x1024 .f32) (h15 : a15.IsWhole)
  (a16 : Memref sig .tc .vmem S256x512 .f32) (h16 : a16.IsWhole)
  (a17 : Memref sig .tc .vmem S256x512 .bf16) (h17 : a17.IsWhole)
  (a18 : Memref sig .tc .vmem S256x512 .f32) (h18 : a18.IsWhole)
  (a19 : Memref sig .tc .vmem S256x512 .bf16) (h19 : a19.IsWhole)
  (a20 : Memref sig .tc .vmem S1x64x512 .f32) (h20 : a20.IsWhole)
  (a21 : Memref sig .tc .vmem S1x512 .f32) (h21 : a21.IsWhole)
  (a22 : Memref sig .tc .vmem S1x128x1024 .f32) (h22 : a22.IsWhole)
  (a23 : Memref sig .tc .vmem S1x1024 .f32) (h23 : a23.IsWhole)
  (a24 : Memref sig .tc .vmem S1x128x1024 .f32) (h24 : a24.IsWhole)
  (a25 : Memref sig .tc .vmem S1x1024 .f32) (h25 : a25.IsWhole)
  (a26 : Memref sig .tc .vmem S1x256x128 .f32) (h26 : a26.IsWhole)
  (a27 : Memref sig .tc .vmem S1024x1024 .bf16) (h27 : a27.IsWhole)
  (a28 : Memref sig .tc .vmem S1024x1024 .bf16) (h28 : a28.IsWhole)
  (a29 : Memref sig .tc .vmem S8x256x128 .bf16) (h29 : a29.IsWhole)
  (a30 : Memref sig .tc .vmem S512x512 .bf16) (h30 : a30.IsWhole)
  (a31 : Memref sig .tc .vmem S512x512 .f32) (h31 : a31.IsWhole)
  (a32 : Memref sig .tc .vmem S1024x1024 .f32) (h32 : a32.IsWhole)
  (a33 : Memref sig .tc .vmem S1024x1024 .f32) (h33 : a33.IsWhole)
  (a34 : Memref sig .tc .vmem S256x1024 .f32) (h34 : a34.IsWhole)
  (c0 : ¬cond0_0 i) (c1 : cond0_1 i)
  (x0 : Vec F S256x1024 .f32) (x1 : Vec F S256x512 .f32) (x2 : Vec F S256x512 .f32) (x3 : Vec F S256x512 .f32) (x4 : Vec F S256x512 .f32) (x5 : Vec F S256x256 .f32) (x6 : Vec F S256x1024 .f32) (x7 : Vec F S512x512 .bf16) (x8 : Vec F S1x512 .f32) (x9 : Vec F S1024x1024 .bf16) (x10 : Vec F S1x1024 .f32) (x11 : Vec F S1024x1024 .bf16) (x12 : Vec F S1x1024 .f32) (x13 : Vec F S256x1024 .bf16) (x14 : Vec F S1x1 .f32) (x21 : Vec F S1x512 .f32) (x23 : Vec F S1x1024 .f32) (x25 : Vec F S1x1024 .f32) (x31 : Vec F S512x512 .f32) (x32 : Vec F S1024x1024 .f32) (x33 : Vec F S1024x1024 .f32) (x34 : Vec F S256x1024 .f32) :
    Σ' (L14 : List (View.Piece (Elt F) S1x1 .f32)), Σ' (L15 : List (View.Piece (Elt F) S256x1024 .f32)), Σ' (L16 : List (View.Piece (Elt F) S256x512 .f32)), Σ' (L17 : List (View.Piece (Elt F) S256x512 .bf16)), Σ' (L18 : List (View.Piece (Elt F) S256x512 .f32)), Σ' (L19 : List (View.Piece (Elt F) S256x512 .bf16)), Σ' (L20 : List (View.Piece (Elt F) S1x64x512 .f32)), Σ' (L21 : List (View.Piece (Elt F) S1x512 .f32)), Σ' (L22 : List (View.Piece (Elt F) S1x128x1024 .f32)), Σ' (L23 : List (View.Piece (Elt F) S1x1024 .f32)), Σ' (L24 : List (View.Piece (Elt F) S1x128x1024 .f32)), Σ' (L25 : List (View.Piece (Elt F) S1x1024 .f32)), Σ' (L26 : List (View.Piece (Elt F) S1x256x128 .f32)), Σ' (L27 : List (View.Piece (Elt F) S1024x1024 .bf16)), Σ' (L28 : List (View.Piece (Elt F) S1024x1024 .bf16)), Σ' (L29 : List (View.Piece (Elt F) S8x256x128 .bf16)), Σ' (L30 : List (View.Piece (Elt F) S512x512 .bf16)), Σ' (L31 : List (View.Piece (Elt F) S512x512 .f32)), Σ' (L32 : List (View.Piece (Elt F) S1024x1024 .f32)), Σ' (L33 : List (View.Piece (Elt F) S1024x1024 .f32)), { L34 : List (View.Piece (Elt F) S256x1024 .f32) //
      ∀ (E : Set ℕ) (K : PUnit → Assn F),
        iprop(owns (c : Thread nD τ) a0 fullShare x0
          ∗ owns (c : Thread nD τ) a1 fullShare x1
          ∗ owns (c : Thread nD τ) a2 fullShare x2
          ∗ owns (c : Thread nD τ) a3 fullShare x3
          ∗ owns (c : Thread nD τ) a4 fullShare x4
          ∗ owns (c : Thread nD τ) a5 fullShare x5
          ∗ owns (c : Thread nD τ) a6 fullShare x6
          ∗ owns (c : Thread nD τ) a7 fullShare x7
          ∗ owns (c : Thread nD τ) a8 fullShare x8
          ∗ owns (c : Thread nD τ) a9 fullShare x9
          ∗ owns (c : Thread nD τ) a10 fullShare x10
          ∗ owns (c : Thread nD τ) a11 fullShare x11
          ∗ owns (c : Thread nD τ) a12 fullShare x12
          ∗ owns (c : Thread nD τ) a13 fullShare x13
          ∗ owns (c : Thread nD τ) a14 fullShare x14
          ∗ (∃ d, owns (c : Thread nD τ) a15 fullShare d)
          ∗ (∃ d, owns (c : Thread nD τ) a16 fullShare d)
          ∗ (∃ d, owns (c : Thread nD τ) a17 fullShare d)
          ∗ (∃ d, owns (c : Thread nD τ) a18 fullShare d)
          ∗ (∃ d, owns (c : Thread nD τ) a19 fullShare d)
          ∗ (∃ d, owns (c : Thread nD τ) a20 fullShare d)
          ∗ owns (c : Thread nD τ) a21 fullShare x21
          ∗ (∃ d, owns (c : Thread nD τ) a22 fullShare d)
          ∗ owns (c : Thread nD τ) a23 fullShare x23
          ∗ (∃ d, owns (c : Thread nD τ) a24 fullShare d)
          ∗ owns (c : Thread nD τ) a25 fullShare x25
          ∗ (∃ d, owns (c : Thread nD τ) a26 fullShare d)
          ∗ (∃ d, owns (c : Thread nD τ) a27 fullShare d)
          ∗ (∃ d, owns (c : Thread nD τ) a28 fullShare d)
          ∗ (∃ d, owns (c : Thread nD τ) a29 fullShare d)
          ∗ (∃ d, owns (c : Thread nD τ) a30 fullShare d)
          ∗ owns (c : Thread nD τ) a31 fullShare x31
          ∗ owns (c : Thread nD τ) a32 fullShare x32
          ∗ owns (c : Thread nD τ) a33 fullShare x33
          ∗ owns (c : Thread nD τ) a34 fullShare x34
          ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ owns (c : Thread nD τ) a9 fullShare x9
            ∗ owns (c : Thread nD τ) a10 fullShare x10
            ∗ owns (c : Thread nD τ) a11 fullShare x11
            ∗ owns (c : Thread nD τ) a12 fullShare x12
            ∗ owns (c : Thread nD τ) a13 fullShare x13
            ∗ (∃ f, a14.view.loc (c : Thread nD τ) ↦[a14.view.set]{fullShare} a14.view.writes (Elt F) f L14)
            ∗ (∃ f, a15.view.loc (c : Thread nD τ) ↦[a15.view.set]{fullShare} a15.view.writes (Elt F) f L15)
            ∗ (∃ f, a16.view.loc (c : Thread nD τ) ↦[a16.view.set]{fullShare} a16.view.writes (Elt F) f L16)
            ∗ (∃ f, a17.view.loc (c : Thread nD τ) ↦[a17.view.set]{fullShare} a17.view.writes (Elt F) f L17)
            ∗ (∃ f, a18.view.loc (c : Thread nD τ) ↦[a18.view.set]{fullShare} a18.view.writes (Elt F) f L18)
            ∗ (∃ f, a19.view.loc (c : Thread nD τ) ↦[a19.view.set]{fullShare} a19.view.writes (Elt F) f L19)
            ∗ (∃ f, a20.view.loc (c : Thread nD τ) ↦[a20.view.set]{fullShare} a20.view.writes (Elt F) f L20)
            ∗ (∃ f, a21.view.loc (c : Thread nD τ) ↦[a21.view.set]{fullShare} a21.view.writes (Elt F) f L21)
            ∗ (∃ f, a22.view.loc (c : Thread nD τ) ↦[a22.view.set]{fullShare} a22.view.writes (Elt F) f L22)
            ∗ (∃ f, a23.view.loc (c : Thread nD τ) ↦[a23.view.set]{fullShare} a23.view.writes (Elt F) f L23)
            ∗ (∃ f, a24.view.loc (c : Thread nD τ) ↦[a24.view.set]{fullShare} a24.view.writes (Elt F) f L24)
            ∗ (∃ f, a25.view.loc (c : Thread nD τ) ↦[a25.view.set]{fullShare} a25.view.writes (Elt F) f L25)
            ∗ (∃ f, a26.view.loc (c : Thread nD τ) ↦[a26.view.set]{fullShare} a26.view.writes (Elt F) f L26)
            ∗ (∃ f, a27.view.loc (c : Thread nD τ) ↦[a27.view.set]{fullShare} a27.view.writes (Elt F) f L27)
            ∗ (∃ f, a28.view.loc (c : Thread nD τ) ↦[a28.view.set]{fullShare} a28.view.writes (Elt F) f L28)
            ∗ (∃ f, a29.view.loc (c : Thread nD τ) ↦[a29.view.set]{fullShare} a29.view.writes (Elt F) f L29)
            ∗ (∃ f, a30.view.loc (c : Thread nD τ) ↦[a30.view.set]{fullShare} a30.view.writes (Elt F) f L30)
            ∗ (∃ f, a31.view.loc (c : Thread nD τ) ↦[a31.view.set]{fullShare} a31.view.writes (Elt F) f L31)
            ∗ (∃ f, a32.view.loc (c : Thread nD τ) ↦[a32.view.set]{fullShare} a32.view.writes (Elt F) f L32)
            ∗ (∃ f, a33.view.loc (c : Thread nD τ) ↦[a33.view.set]{fullShare} a33.view.writes (Elt F) f L33)
            ∗ (∃ f, a34.view.loc (c : Thread nD τ) ↦[a34.view.set]{fullShare} a34.view.writes (Elt F) f L34)) -∗ K ⟨⟩))
          ⊢ wp frame (wpE (defs₀ (F := F)) Variants.none c none) E (cc0_mix_forward_backward i a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34) K } := by
  refine ⟨?_, ?_, ?_, ?_, ?_, ?_, ?_, ?_, ?_, ?_, ?_, ?_, ?_, ?_, ?_, ?_, ?_, ?_, ?_, ?_, ?_, fun E K => ?run⟩
  case run =>
    simp only [cc0_mix_forward_backward_eq_skeleton]; unfold cc0_mix_forward_backward_skel
    simp only [k0_part3_eq_skeleton, k0_part4_eq_skeleton, k0_part5_eq_skeleton, k0_part6_eq_skeleton, k0_part7_eq_skeleton, k0_part8_eq_skeleton, k0_part1_eq_skeleton, k0_part2_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f21, %e21, H21⟩, ⟨%d22, %f22, -, H22⟩, ⟨%f23, %e23, H23⟩, ⟨%d24, %f24, -, H24⟩, ⟨%f25, %e25, H25⟩, ⟨%d26, %f26, -, H26⟩, ⟨%d27, %f27, -, H27⟩, ⟨%d28, %f28, -, H28⟩, ⟨%d29, %f29, -, H29⟩, ⟨%d30, %f30, -, H30⟩, ⟨%f31, %e31, H31⟩, ⟨%f32, %e32, H32⟩, ⟨%f33, %e33, H33⟩, ⟨%f34, %e34, H34⟩, Hk⟩
    obtain rfl := h0.eq_unread e0
    obtain rfl := h1.eq_unread e1
    obtain rfl := h2.eq_unread e2
    obtain rfl := h3.eq_unread e3
    obtain rfl := h4.eq_unread e4
    obtain rfl := h5.eq_unread e5
    obtain rfl := h6.eq_unread e6
    obtain rfl := h7.eq_unread e7
    obtain rfl := h8.eq_unread e8
    obtain rfl := h9.eq_unread e9
    obtain rfl := h10.eq_unread e10
    obtain rfl := h11.eq_unread e11
    obtain rfl := h12.eq_unread e12
    obtain rfl := h13.eq_unread e13
    obtain rfl := h14.eq_unread e14
    obtain rfl := h21.eq_unread e21
    obtain rfl := h23.eq_unread e23
    obtain rfl := h25.eq_unread e25
    obtain rfl := h31.eq_unread e31
    obtain rfl := h32.eq_unread e32
    obtain rfl := h33.eq_unread e33
    obtain rfl := h34.eq_unread e34
    sl_exec (disch := first | sl_exact c0 | sl_exact c1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    isplitl [H13]
    · iexists _; isplitr; · ipureintro; exact h13.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    iexists _; iexact H34

end Cert.MixBackIdeal.Own

end
-- ==== Proof.MixDat.lean ====
/- The proof data of the mix call: what its buffers hold after each grid point, and its body obligation. -/
module

public import proofs.«01_k».proof.Proof.MixRunA
public import proofs.«01_k».proof.Proof.MixRunB
public import proofs.«01_k».proof.Proof.MixRunC
public import Idealize.ShloMosaic.Lib.Claim

@[expose] public section

set_option maxRecDepth 16384

noncomputable section

namespace Cert.MixBackIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixBackIdeal.Gen

variable {F : FTy → Type} [FloatOps F] [Named F]

/-- A window's staging buffer once the stores listed in `L`, which cover it, have run. -/
theorem owns_of_pieces {S : Shape} {e : EltTy} (c : Dev nD) (a : Memref sig .tc .vmem S e) (L : List (View.Piece (Elt F) S e))
    (h : ∀ y, ∃ p ∈ L, y ∈ p.1.set) :
    (iprop(∃ f, a.view.loc (c : Thread nD τ) ↦[a.view.set]{fullShare} a.view.writes (Elt F) f L) : Assn F)
      ⊢ owns (c : Thread nD τ) a fullShare (View.canon L) := by
  iintro ⟨%f, H⟩
  unfold owns; iexists _; isplitr
  swap; · iexact H
  ipureintro; exact View.read_writes_eq_canon _ _ _ h

theorem leaves_eq {cfg : Cfg sig Λ₀} {c : Dev nD} (dat : Dat τ (Elt F) Unit ℕ (UR sig nD τ) ℕ cfg c) (w : Fin cfg.W) (t : Fin cfg.N)
    (h : cfg.idle w (cfg.grid.coords t) = false) :
    dat.leavesExact w t = owns c ((cfg.win w).stage (cfg.slots t w)) fullShare (dat.after w t) := by
  unfold Dat.leavesExact; rw [h]

/-! ## The grid's sixteen points -/

theorem lt16 (t : Fin cfg0.N) : t.val < 16 := lt_of_lt_of_eq t.isLt (show cfg0.N = 16 from N_0)
theorem first (t : Fin cfg0.N) (h : t.val = 0) : cond0_0 (grid0.coords t) := (hcond0_0 t).mpr (by omega)
theorem notFirst (t : Fin cfg0.N) (h : t.val ≠ 0) : ¬cond0_0 (grid0.coords t) := fun e => by
  have := (hcond0_0 t).mp e; have := lt16 t; omega
theorem last (t : Fin cfg0.N) (h : t.val = 15) : cond0_1 (grid0.coords t) := (hcond0_1 t).mpr (by omega)
theorem notLast (t : Fin cfg0.N) (h : t.val ≠ 15) : ¬cond0_1 (grid0.coords t) := fun e => by
  have := (hcond0_1 t).mp e; have := lt16 t; omega

variable (m : (ℓ : Loc nD τ sig) → Buf (Elt F) ℓ) (ρ : Dev nD → PrngReg)

/-- What the output buffers and the four carried gradients hold after a point. -/
structure St (F : FTy → Type) where
  o14 : Vec F S1x1 .f32
  o15 : Vec F S256x1024 .f32
  o16 : Vec F S256x512 .f32
  o17 : Vec F S256x512 .bf16
  o18 : Vec F S256x512 .f32
  o19 : Vec F S256x512 .bf16
  o20 : Vec F S1x64x512 .f32
  o21 : Vec F S1x512 .f32
  o22 : Vec F S1x128x1024 .f32
  o23 : Vec F S1x1024 .f32
  o24 : Vec F S1x128x1024 .f32
  o25 : Vec F S1x1024 .f32
  o26 : Vec F S1x256x128 .f32
  o27 : Vec F S1024x1024 .bf16
  o28 : Vec F S1024x1024 .bf16
  o29 : Vec F S8x256x128 .bf16
  o30 : Vec F S512x512 .bf16
  o31 : Vec F S512x512 .f32
  o32 : Vec F S1024x1024 .f32
  o33 : Vec F S1024x1024 .f32
  o34 : Vec F S256x1024 .f32

/-- A list of stores covers its buffer. -/
abbrev Covers {S : Shape} {e : EltTy} (L : List (View.Piece (Elt F) S e)) : Prop := ∀ y : S.Idx, ∃ p ∈ L, y ∈ p.1.set

variable (c : Dev nD) (t : Fin cfg0.N)

/-- The run at the first point. -/
def atA (c : Dev nD) (t : Fin cfg0.N) (h : t.val = 0) :=
  mixRunA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) scM0_0 (Memref.isWhole_whole _) scM0_1 (Memref.isWhole_whole _) scM0_2 (Memref.isWhole_whole _) scM0_3 (Memref.isWhole_whole _)
    (first t h) (notLast t (by omega))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
section
variable (h : t.val = 0)
theorem covA_14 : Covers (atA m c t h).1 := View.cover_of_tiledL _ S1x1.size (by sl_kernel_rfl)
theorem covA_15 : Covers (atA m c t h).2.1 := View.cover_of_tiledL _ S256x1024.size (by sl_kernel_rfl)
theorem covA_16 : Covers (atA m c t h).2.2.1 := View.cover_of_tiledL _ S256x512.size (by sl_kernel_rfl)
theorem covA_17 : Covers (atA m c t h).2.2.2.1 := View.cover_of_tiledL _ S256x512.size (by sl_kernel_rfl)
theorem covA_18 : Covers (atA m c t h).2.2.2.2.1 := View.cover_of_tiledL _ S256x512.size (by sl_kernel_rfl)
theorem covA_19 : Covers (atA m c t h).2.2.2.2.2.1 := View.cover_of_tiledL _ S256x512.size (by sl_kernel_rfl)
theorem covA_21 : Covers (atA m c t h).2.2.2.2.2.2.1 := View.cover_of_tiledL _ S1x512.size (by sl_kernel_rfl)
theorem covA_23 : Covers (atA m c t h).2.2.2.2.2.2.2.1 := View.cover_of_tiledL _ S1x1024.size (by sl_kernel_rfl)
theorem covA_25 : Covers (atA m c t h).2.2.2.2.2.2.2.2.1 := View.cover_of_tiledL _ S1x1024.size (by sl_kernel_rfl)
theorem covA_31 : Covers (atA m c t h).2.2.2.2.2.2.2.2.2.1 := View.cover_of_tiledL _ S512x512.size (by sl_kernel_rfl)
theorem covA_32 : Covers (atA m c t h).2.2.2.2.2.2.2.2.2.2.1 := View.cover_of_tiledL _ S1024x1024.size (by sl_kernel_rfl)
theorem covA_33 : Covers (atA m c t h).2.2.2.2.2.2.2.2.2.2.2.1 := View.cover_of_tiledL _ S1024x1024.size (by sl_kernel_rfl)
theorem covA_34 : Covers (atA m c t h).2.2.2.2.2.2.2.2.2.2.2.2.1 := View.cover_of_tiledL _ S256x1024.size (by sl_kernel_rfl)
end

/-- What the first point leaves. -/
def stepA (c : Dev nD) (t : Fin cfg0.N) (h : t.val = 0) : St F where
  o14 := View.canon (atA m c t h).1
  o15 := View.canon (atA m c t h).2.1
  o16 := View.canon (atA m c t h).2.2.1
  o17 := View.canon (atA m c t h).2.2.2.1
  o18 := View.canon (atA m c t h).2.2.2.2.1
  o19 := View.canon (atA m c t h).2.2.2.2.2.1
  o20 := View.canon []
  o21 := View.canon (atA m c t h).2.2.2.2.2.2.1
  o22 := View.canon []
  o23 := View.canon (atA m c t h).2.2.2.2.2.2.2.1
  o24 := View.canon []
  o25 := View.canon (atA m c t h).2.2.2.2.2.2.2.2.1
  o26 := View.canon []
  o27 := View.canon []
  o28 := View.canon []
  o29 := View.canon []
  o30 := View.canon []
  o31 := View.canon (atA m c t h).2.2.2.2.2.2.2.2.2.1
  o32 := View.canon (atA m c t h).2.2.2.2.2.2.2.2.2.2.1
  o33 := View.canon (atA m c t h).2.2.2.2.2.2.2.2.2.2.2.1
  o34 := View.canon (atA m c t h).2.2.2.2.2.2.2.2.2.2.2.2.1

/-- The run at a point between the first and the last. -/
def atB (c : Dev nD) (t : Fin cfg0.N) (h : t.val ≠ 0) (h' : t.val ≠ 15) (s : St F) :=
  mixRunB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) scM0_0 (Memref.isWhole_whole _) scM0_1 (Memref.isWhole_whole _) scM0_2 (Memref.isWhole_whole _) scM0_3 (Memref.isWhole_whole _)
    (notFirst t h) (notLast t h')
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) s.o14 s.o21 s.o23 s.o25 s.o31 s.o32 s.o33 s.o34
section
variable (h : t.val ≠ 0) (h' : t.val ≠ 15) (s : St F)
theorem covB_14 : Covers (atB m c t h h' s).1 := View.cover_of_tiledL _ S1x1.size (by sl_kernel_rfl)
theorem covB_15 : Covers (atB m c t h h' s).2.1 := View.cover_of_tiledL _ S256x1024.size (by sl_kernel_rfl)
theorem covB_16 : Covers (atB m c t h h' s).2.2.1 := View.cover_of_tiledL _ S256x512.size (by sl_kernel_rfl)
theorem covB_17 : Covers (atB m c t h h' s).2.2.2.1 := View.cover_of_tiledL _ S256x512.size (by sl_kernel_rfl)
theorem covB_18 : Covers (atB m c t h h' s).2.2.2.2.1 := View.cover_of_tiledL _ S256x512.size (by sl_kernel_rfl)
theorem covB_19 : Covers (atB m c t h h' s).2.2.2.2.2.1 := View.cover_of_tiledL _ S256x512.size (by sl_kernel_rfl)
theorem covB_21 : Covers (atB m c t h h' s).2.2.2.2.2.2.1 := View.cover_of_tiledL _ S1x512.size (by sl_kernel_rfl)
theorem covB_23 : Covers (atB m c t h h' s).2.2.2.2.2.2.2.1 := View.cover_of_tiledL _ S1x1024.size (by sl_kernel_rfl)
theorem covB_25 : Covers (atB m c t h h' s).2.2.2.2.2.2.2.2.1 := View.cover_of_tiledL _ S1x1024.size (by sl_kernel_rfl)
theorem covB_31 : Covers (atB m c t h h' s).2.2.2.2.2.2.2.2.2.1 := View.cover_of_tiledL _ S512x512.size (by sl_kernel_rfl)
theorem covB_32 : Covers (atB m c t h h' s).2.2.2.2.2.2.2.2.2.2.1 := View.cover_of_tiledL _ S1024x1024.size (by sl_kernel_rfl)
theorem covB_33 : Covers (atB m c t h h' s).2.2.2.2.2.2.2.2.2.2.2.1 := View.cover_of_tiledL _ S1024x1024.size (by sl_kernel_rfl)
theorem covB_34 : Covers (atB m c t h h' s).2.2.2.2.2.2.2.2.2.2.2.2.1 := View.cover_of_tiledL _ S256x1024.size (by sl_kernel_rfl)
end

/-- What a point between the first and the last leaves. -/
def stepB (c : Dev nD) (t : Fin cfg0.N) (h : t.val ≠ 0) (h' : t.val ≠ 15) (s : St F) : St F where
  o14 := View.canon (atB m c t h h' s).1
  o15 := View.canon (atB m c t h h' s).2.1
  o16 := View.canon (atB m c t h h' s).2.2.1
  o17 := View.canon (atB m c t h h' s).2.2.2.1
  o18 := View.canon (atB m c t h h' s).2.2.2.2.1
  o19 := View.canon (atB m c t h h' s).2.2.2.2.2.1
  o20 := View.canon []
  o21 := View.canon (atB m c t h h' s).2.2.2.2.2.2.1
  o22 := View.canon []
  o23 := View.canon (atB m c t h h' s).2.2.2.2.2.2.2.1
  o24 := View.canon []
  o25 := View.canon (atB m c t h h' s).2.2.2.2.2.2.2.2.1
  o26 := View.canon []
  o27 := View.canon []
  o28 := View.canon []
  o29 := View.canon []
  o30 := View.canon []
  o31 := View.canon (atB m c t h h' s).2.2.2.2.2.2.2.2.2.1
  o32 := View.canon (atB m c t h h' s).2.2.2.2.2.2.2.2.2.2.1
  o33 := View.canon (atB m c t h h' s).2.2.2.2.2.2.2.2.2.2.2.1
  o34 := View.canon (atB m c t h h' s).2.2.2.2.2.2.2.2.2.2.2.2.1

/-- The run at the last point. -/
def atC (c : Dev nD) (t : Fin cfg0.N) (h : t.val = 15) (s : St F) :=
  mixRunC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) scM0_0 (Memref.isWhole_whole _) scM0_1 (Memref.isWhole_whole _) scM0_2 (Memref.isWhole_whole _) scM0_3 (Memref.isWhole_whole _)
    (notFirst t (by omega)) (last t h)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) s.o14 s.o21 s.o23 s.o25 s.o31 s.o32 s.o33 s.o34
section
variable (h : t.val = 15) (s : St F)
theorem covC_14 : Covers (atC m c t h s).1 := View.cover_of_tiledL _ S1x1.size (by sl_kernel_rfl)
theorem covC_15 : Covers (atC m c t h s).2.1 := View.cover_of_tiledL _ S256x1024.size (by sl_kernel_rfl)
theorem covC_16 : Covers (atC m c t h s).2.2.1 := View.cover_of_tiledL _ S256x512.size (by sl_kernel_rfl)
theorem covC_17 : Covers (atC m c t h s).2.2.2.1 := View.cover_of_tiledL _ S256x512.size (by sl_kernel_rfl)
theorem covC_18 : Covers (atC m c t h s).2.2.2.2.1 := View.cover_of_tiledL _ S256x512.size (by sl_kernel_rfl)
theorem covC_19 : Covers (atC m c t h s).2.2.2.2.2.1 := View.cover_of_tiledL _ S256x512.size (by sl_kernel_rfl)
theorem covC_20 : Covers (atC m c t h s).2.2.2.2.2.2.1 := View.cover_of_tiledL _ S1x64x512.size (by sl_kernel_rfl)
theorem covC_21 : Covers (atC m c t h s).2.2.2.2.2.2.2.1 := View.cover_of_tiledL _ S1x512.size (by sl_kernel_rfl)
theorem covC_22 : Covers (atC m c t h s).2.2.2.2.2.2.2.2.1 := View.cover_of_tiledL _ S1x128x1024.size (by sl_kernel_rfl)
theorem covC_23 : Covers (atC m c t h s).2.2.2.2.2.2.2.2.2.1 := View.cover_of_tiledL _ S1x1024.size (by sl_kernel_rfl)
theorem covC_24 : Covers (atC m c t h s).2.2.2.2.2.2.2.2.2.2.1 := View.cover_of_tiledL _ S1x128x1024.size (by sl_kernel_rfl)
theorem covC_25 : Covers (atC m c t h s).2.2.2.2.2.2.2.2.2.2.2.1 := View.cover_of_tiledL _ S1x1024.size (by sl_kernel_rfl)
theorem covC_26 : Covers (atC m c t h s).2.2.2.2.2.2.2.2.2.2.2.2.1 := View.cover_of_tiledL _ S1x256x128.size (by sl_kernel_rfl)
theorem covC_27 : Covers (atC m c t h s).2.2.2.2.2.2.2.2.2.2.2.2.2.1 := View.cover_of_tiledL _ S64x1024.size (by sl_kernel_rfl)
theorem covC_28 : Covers (atC m c t h s).2.2.2.2.2.2.2.2.2.2.2.2.2.2.1 := View.cover_of_tiledL _ S64x1024.size (by sl_kernel_rfl)
theorem covC_29 : Covers (atC m c t h s).2.2.2.2.2.2.2.2.2.2.2.2.2.2.2.1 := View.cover_of_tiledL _ S1x256x128.size (by sl_kernel_rfl)
theorem covC_30 : Covers (atC m c t h s).2.2.2.2.2.2.2.2.2.2.2.2.2.2.2.2.1 := View.cover_of_tiledL _ S64x512.size (by sl_kernel_rfl)
theorem covC_31 : Covers (atC m c t h s).2.2.2.2.2.2.2.2.2.2.2.2.2.2.2.2.2.1 := View.cover_of_tiledL _ S512x512.size (by sl_kernel_rfl)
theorem covC_32 : Covers (atC m c t h s).2.2.2.2.2.2.2.2.2.2.2.2.2.2.2.2.2.2.1 := View.cover_of_tiledL _ S1024x1024.size (by sl_kernel_rfl)
theorem covC_33 : Covers (atC m c t h s).2.2.2.2.2.2.2.2.2.2.2.2.2.2.2.2.2.2.2.1 := View.cover_of_tiledL _ S1024x1024.size (by sl_kernel_rfl)
theorem covC_34 : Covers (atC m c t h s).2.2.2.2.2.2.2.2.2.2.2.2.2.2.2.2.2.2.2.2.1 := View.cover_of_tiledL _ S256x1024.size (by sl_kernel_rfl)
end

/-- What the last point leaves. -/
def stepC (c : Dev nD) (t : Fin cfg0.N) (h : t.val = 15) (s : St F) : St F where
  o14 := View.canon (atC m c t h s).1
  o15 := View.canon (atC m c t h s).2.1
  o16 := View.canon (atC m c t h s).2.2.1
  o17 := View.canon (atC m c t h s).2.2.2.1
  o18 := View.canon (atC m c t h s).2.2.2.2.1
  o19 := View.canon (atC m c t h s).2.2.2.2.2.1
  o20 := View.canon (atC m c t h s).2.2.2.2.2.2.1
  o21 := View.canon (atC m c t h s).2.2.2.2.2.2.2.1
  o22 := View.canon (atC m c t h s).2.2.2.2.2.2.2.2.1
  o23 := View.canon (atC m c t h s).2.2.2.2.2.2.2.2.2.1
  o24 := View.canon (atC m c t h s).2.2.2.2.2.2.2.2.2.2.1
  o25 := View.canon (atC m c t h s).2.2.2.2.2.2.2.2.2.2.2.1
  o26 := View.canon (atC m c t h s).2.2.2.2.2.2.2.2.2.2.2.2.1
  o27 := View.canon (atC m c t h s).2.2.2.2.2.2.2.2.2.2.2.2.2.1
  o28 := View.canon (atC m c t h s).2.2.2.2.2.2.2.2.2.2.2.2.2.2.1
  o29 := View.canon (atC m c t h s).2.2.2.2.2.2.2.2.2.2.2.2.2.2.2.1
  o30 := View.canon (atC m c t h s).2.2.2.2.2.2.2.2.2.2.2.2.2.2.2.2.1
  o31 := View.canon (atC m c t h s).2.2.2.2.2.2.2.2.2.2.2.2.2.2.2.2.2.1
  o32 := View.canon (atC m c t h s).2.2.2.2.2.2.2.2.2.2.2.2.2.2.2.2.2.2.1
  o33 := View.canon (atC m c t h s).2.2.2.2.2.2.2.2.2.2.2.2.2.2.2.2.2.2.2.1
  o34 := View.canon (atC m c t h s).2.2.2.2.2.2.2.2.2.2.2.2.2.2.2.2.2.2.2.2.1

/-- What the buffers hold after point `n`: the points taken in order, each from what the one before left. -/
def st (c : Dev nD) : (n : ℕ) → n < cfg0.N → St F
  | 0, hn => stepA m c ⟨0, hn⟩ rfl
  | n + 1, hn =>
    if h : n + 1 = 15 then stepC m c ⟨n + 1, hn⟩ h (st c n (Nat.lt_of_succ_lt hn))
    else stepB m c ⟨n + 1, hn⟩ (Nat.succ_ne_zero n) h (st c n (Nat.lt_of_succ_lt hn))

/-- What the buffers hold after the point before `t`. -/
abbrev stPrev (c : Dev nD) (t : Fin cfg0.N) : St F := st m c (t.val - 1) (Nat.lt_of_le_of_lt (Nat.sub_le _ _) t.isLt)

theorem st_A (h : t.val = 0) : st m c t.val t.isLt = stepA m c t h := by
  obtain ⟨n, hn⟩ := t; cases n with
  | zero => rfl
  | succ n => exact absurd h (Nat.succ_ne_zero n)
theorem st_B (h : t.val ≠ 0) (h' : t.val ≠ 15) : st m c t.val t.isLt = stepB m c t h h' (stPrev m c t) := by
  obtain ⟨n, hn⟩ := t; cases n with
  | zero => exact absurd rfl h
  | succ n => exact dif_neg h'
theorem st_C (h : t.val = 15) : st m c t.val t.isLt = stepC m c t h (stPrev m c t) := by
  obtain ⟨n, hn⟩ := t; cases n with
  | zero => exact absurd (show 0 = 15 from h) (by decide)
  | succ n => exact dif_pos h

/-! ## The invariant between points: the four carried gradients -/

/-- The four carried gradients at what a state says of them, and the generator register. -/
def heldAt (c : Dev nD) (s : St F) : Assn F :=
  iprop(iprop(owns (c : Thread nD τ) scM0_0 fullShare s.o31 ∗ owns (c : Thread nD τ) scM0_1 fullShare s.o32 ∗ owns (c : Thread nD τ) scM0_2 fullShare s.o33 ∗ owns (c : Thread nD τ) scM0_3 fullShare s.o34) ∗ (∃ r, prngReg c r))

/-- Before the first point the carried gradients hold anything, later what the point before left. -/
def carried (c : Dev nD) : (n : ℕ) → n ≤ cfg0.N → Assn F
  | 0, _ => Pipeline.ΦA spec0 c
  | n + 1, hn => heldAt c (st m c n hn)

theorem carried_zero (c : Dev nD) (n : ℕ) (h : n ≤ cfg0.N) (hz : n = 0) : carried m c n h = Pipeline.ΦA spec0 c := by
  subst hz; rfl
theorem carried_pos (h : t.val ≠ 0) : carried m c t.val (Nat.le_of_lt t.isLt) = heldAt c (stPrev m c t) := by
  obtain ⟨n, hn⟩ := t; cases n with
  | zero => exact absurd rfl h
  | succ n => rfl
/-- Before any point the carried gradients hold something. -/
theorem carried_any (c : Dev nD) (n : ℕ) (h : n ≤ cfg0.N) : carried m c n h ⊢ Pipeline.ΦA spec0 c := by
  cases n with
  | zero => exact .rfl
  | succ n =>
    rw [PhiA0_eq]; unfold carried heldAt
    iintro ⟨⟨H0, H1, H2, H3⟩, Hg⟩
    isplitl [H0 H1 H2 H3]
    · isplitl [H0]; · iexists _; iexact H0
      isplitl [H1]; · iexists _; iexact H1
      isplitl [H2]; · iexists _; iexact H2
      iexists _; iexact H3
    iexact Hg

/-- The proof data of the call: the inputs stay at their blocks, the outputs hold what the points so far leave, and
    nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (st m c t.val t.isLt).o14
    | ⟨15, _⟩ => (st m c t.val t.isLt).o15
    | ⟨16, _⟩ => (st m c t.val t.isLt).o16
    | ⟨17, _⟩ => (st m c t.val t.isLt).o17
    | ⟨18, _⟩ => (st m c t.val t.isLt).o18
    | ⟨19, _⟩ => (st m c t.val t.isLt).o19
    | ⟨20, _⟩ => (st m c t.val t.isLt).o20
    | ⟨21, _⟩ => (st m c t.val t.isLt).o21
    | ⟨22, _⟩ => (st m c t.val t.isLt).o22
    | ⟨23, _⟩ => (st m c t.val t.isLt).o23
    | ⟨24, _⟩ => (st m c t.val t.isLt).o24
    | ⟨25, _⟩ => (st m c t.val t.isLt).o25
    | ⟨26, _⟩ => (st m c t.val t.isLt).o26
    | ⟨27, _⟩ => (st m c t.val t.isLt).o27
    | ⟨28, _⟩ => (st m c t.val t.isLt).o28
    | ⟨29, _⟩ => (st m c t.val t.isLt).o29
    | ⟨30, _⟩ => (st m c t.val t.isLt).o30
    | ⟨_ + 31, h⟩ => absurd h (Nat.not_lt.2 (Nat.le_add_left _ _))
  Φ t := carried m c t.val (Nat.le_of_lt_succ t.isLt)
  q _ := fullShare
  owed _ := 0

theorem A_eq (c : Dev nD) (w : Fin cfg0.W) : (dats m 0 c).A w = V m c (Pipeline.arrRef spec0 w) := by
  dsimp only [dats]
theorem phi_castSucc : (dats m 0 c).Φ t.castSucc = carried m c t.val (Nat.le_of_lt t.isLt) := by
  dsimp only [dats]; exact Pipeline.Dat.Φ_castSucc (carried m c) t
theorem phi_succ : (dats m 0 c).Φ t.succ = heldAt c (st m c t.val t.isLt) := rfl

/-! What each window's buffer holds after and before the body at a point. -/
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = iblk m c 6 t := by dsimp only [dats]
theorem after0_7 : (dats m 0 c).after 7 t = iblk m c 7 t := by dsimp only [dats]
theorem after0_8 : (dats m 0 c).after 8 t = iblk m c 8 t := by dsimp only [dats]
theorem after0_9 : (dats m 0 c).after 9 t = iblk m c 9 t := by dsimp only [dats]
theorem after0_10 : (dats m 0 c).after 10 t = iblk m c 10 t := by dsimp only [dats]
theorem after0_11 : (dats m 0 c).after 11 t = iblk m c 11 t := by dsimp only [dats]
theorem after0_12 : (dats m 0 c).after 12 t = iblk m c 12 t := by dsimp only [dats]
theorem after0_13 : (dats m 0 c).after 13 t = iblk m c 13 t := by dsimp only [dats]
theorem after0_14 : (dats m 0 c).after 14 t = (st m c t.val t.isLt).o14 := by dsimp only [dats]
theorem after0_15 : (dats m 0 c).after 15 t = (st m c t.val t.isLt).o15 := by dsimp only [dats]
theorem after0_16 : (dats m 0 c).after 16 t = (st m c t.val t.isLt).o16 := by dsimp only [dats]
theorem after0_17 : (dats m 0 c).after 17 t = (st m c t.val t.isLt).o17 := by dsimp only [dats]
theorem after0_18 : (dats m 0 c).after 18 t = (st m c t.val t.isLt).o18 := by dsimp only [dats]
theorem after0_19 : (dats m 0 c).after 19 t = (st m c t.val t.isLt).o19 := by dsimp only [dats]
theorem after0_20 : (dats m 0 c).after 20 t = (st m c t.val t.isLt).o20 := by dsimp only [dats]
theorem after0_21 : (dats m 0 c).after 21 t = (st m c t.val t.isLt).o21 := by dsimp only [dats]
theorem after0_22 : (dats m 0 c).after 22 t = (st m c t.val t.isLt).o22 := by dsimp only [dats]
theorem after0_23 : (dats m 0 c).after 23 t = (st m c t.val t.isLt).o23 := by dsimp only [dats]
theorem after0_24 : (dats m 0 c).after 24 t = (st m c t.val t.isLt).o24 := by dsimp only [dats]
theorem after0_25 : (dats m 0 c).after 25 t = (st m c t.val t.isLt).o25 := by dsimp only [dats]
theorem after0_26 : (dats m 0 c).after 26 t = (st m c t.val t.isLt).o26 := by dsimp only [dats]
theorem after0_27 : (dats m 0 c).after 27 t = (st m c t.val t.isLt).o27 := by dsimp only [dats]
theorem after0_28 : (dats m 0 c).after 28 t = (st m c t.val t.isLt).o28 := by dsimp only [dats]
theorem after0_29 : (dats m 0 c).after 29 t = (st m c t.val t.isLt).o29 := by dsimp only [dats]
theorem after0_30 : (dats m 0 c).after 30 t = (st m c t.val t.isLt).o30 := by dsimp only [dats]
theorem before0_0 (d) : (dats m 0 c).before 0 t d = iblk m c 0 t :=
  before0_0_of m (dats m 0 c) (A_eq m c 0) (after0_0 m c) t d
theorem before0_1 (d) : (dats m 0 c).before 1 t d = iblk m c 1 t :=
  before0_1_of m (dats m 0 c) (A_eq m c 1) (after0_1 m c) t d
theorem before0_2 (d) : (dats m 0 c).before 2 t d = iblk m c 2 t :=
  before0_2_of m (dats m 0 c) (A_eq m c 2) (after0_2 m c) t d
theorem before0_3 (d) : (dats m 0 c).before 3 t d = iblk m c 3 t :=
  before0_3_of m (dats m 0 c) (A_eq m c 3) (after0_3 m c) t d
theorem before0_4 (d) : (dats m 0 c).before 4 t d = iblk m c 4 t :=
  before0_4_of m (dats m 0 c) (A_eq m c 4) (after0_4 m c) t d
theorem before0_5 (d) : (dats m 0 c).before 5 t d = iblk m c 5 t :=
  before0_5_of m (dats m 0 c) (A_eq m c 5) (after0_5 m c) t d
theorem before0_6 (d) : (dats m 0 c).before 6 t d = iblk m c 6 t :=
  before0_6_of m (dats m 0 c) (A_eq m c 6) (after0_6 m c) t d
theorem before0_7 (d) : (dats m 0 c).before 7 t d = iblk m c 7 t :=
  before0_7_of m (dats m 0 c) (A_eq m c 7) (after0_7 m c) t d
theorem before0_8 (d) : (dats m 0 c).before 8 t d = iblk m c 8 t :=
  before0_8_of m (dats m 0 c) (A_eq m c 8) (after0_8 m c) t d
theorem before0_9 (d) : (dats m 0 c).before 9 t d = iblk m c 9 t :=
  before0_9_of m (dats m 0 c) (A_eq m c 9) (after0_9 m c) t d
theorem before0_10 (d) : (dats m 0 c).before 10 t d = iblk m c 10 t :=
  before0_10_of m (dats m 0 c) (A_eq m c 10) (after0_10 m c) t d
theorem before0_11 (d) : (dats m 0 c).before 11 t d = iblk m c 11 t :=
  before0_11_of m (dats m 0 c) (A_eq m c 11) (after0_11 m c) t d
theorem before0_12 (d) : (dats m 0 c).before 12 t d = iblk m c 12 t :=
  before0_12_of m (dats m 0 c) (A_eq m c 12) (after0_12 m c) t d
theorem before0_13 (d) : (dats m 0 c).before 13 t d = iblk m c 13 t :=
  before0_13_of m (dats m 0 c) (A_eq m c 13) (after0_13 m c) t d
theorem before0_14 (h : t.val ≠ 0) (d) : (dats m 0 c).before 14 t d = (stPrev m c t).o14 := by
  have hN := lt16 t
  rw [Dat.before_out_kept _ 14 rfl t h (Bool.eq_false_iff.mpr fun e => by have := (flush0_14 _).mp e; dsimp only at this; omega)
    (fun _ => rfl) (fun _ _ => rfl)]
  dsimp only [dats]
theorem before0_21 (h : t.val ≠ 0) (d) : (dats m 0 c).before 21 t d = (stPrev m c t).o21 := by
  have hN := lt16 t
  rw [Dat.before_out_kept _ 21 rfl t h (Bool.eq_false_iff.mpr fun e => by have := (flush0_21 _).mp e; dsimp only at this; omega)
    (fun _ => rfl) (fun _ _ => rfl)]
  dsimp only [dats]
theorem before0_23 (h : t.val ≠ 0) (d) : (dats m 0 c).before 23 t d = (stPrev m c t).o23 := by
  have hN := lt16 t
  rw [Dat.before_out_kept _ 23 rfl t h (Bool.eq_false_iff.mpr fun e => by have := (flush0_23 _).mp e; dsimp only at this; omega)
    (fun _ => rfl) (fun _ _ => rfl)]
  dsimp only [dats]
theorem before0_25 (h : t.val ≠ 0) (d) : (dats m 0 c).before 25 t d = (stPrev m c t).o25 := by
  have hN := lt16 t
  rw [Dat.before_out_kept _ 25 rfl t h (Bool.eq_false_iff.mpr fun e => by have := (flush0_25 _).mp e; dsimp only at this; omega)
    (fun _ => rfl) (fun _ _ => rfl)]
  dsimp only [dats]

/-! ## The body obligation -/

/-- What the body is called with at point `t`. -/
def pre (c : Dev nD) (t : Fin cfg0.N) : Assn F :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d)))
/-- What it returns. -/
def post (c : Dev nD) (t : Fin cfg0.N) : Assn F :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t)

/-- What it returns once the buffers are read off a state, the windows written at the last point apart. -/
theorem post_eq : post m c t
    = iprop(heldAt c (st m c t.val t.isLt) ∗ (dats m 0 c).owesAt () t.castSucc
      ∗ owns (c : Thread nD τ) (ms0_0 t) fullShare (iblk m c 0 t)
      ∗ owns (c : Thread nD τ) (ms0_1 t) fullShare (iblk m c 1 t)
      ∗ owns (c : Thread nD τ) (ms0_2 t) fullShare (iblk m c 2 t)
      ∗ owns (c : Thread nD τ) (ms0_3 t) fullShare (iblk m c 3 t)
      ∗ owns (c : Thread nD τ) (ms0_4 t) fullShare (iblk m c 4 t)
      ∗ owns (c : Thread nD τ) (ms0_5 t) fullShare (iblk m c 5 t)
      ∗ owns (c : Thread nD τ) (ms0_6 t) fullShare (iblk m c 6 t)
      ∗ owns (c : Thread nD τ) (ms0_7 t) fullShare (iblk m c 7 t)
      ∗ owns (c : Thread nD τ) (ms0_8 t) fullShare (iblk m c 8 t)
      ∗ owns (c : Thread nD τ) (ms0_9 t) fullShare (iblk m c 9 t)
      ∗ owns (c : Thread nD τ) (ms0_10 t) fullShare (iblk m c 10 t)
      ∗ owns (c : Thread nD τ) (ms0_11 t) fullShare (iblk m c 11 t)
      ∗ owns (c : Thread nD τ) (ms0_12 t) fullShare (iblk m c 12 t)
      ∗ owns (c : Thread nD τ) (ms0_13 t) fullShare (iblk m c 13 t)
      ∗ owns (c : Thread nD τ) (ms0_14 t) fullShare (st m c t.val t.isLt).o14
      ∗ owns (c : Thread nD τ) (ms0_15 t) fullShare (st m c t.val t.isLt).o15
      ∗ owns (c : Thread nD τ) (ms0_16 t) fullShare (st m c t.val t.isLt).o16
      ∗ owns (c : Thread nD τ) (ms0_17 t) fullShare (st m c t.val t.isLt).o17
      ∗ owns (c : Thread nD τ) (ms0_18 t) fullShare (st m c t.val t.isLt).o18
      ∗ owns (c : Thread nD τ) (ms0_19 t) fullShare (st m c t.val t.isLt).o19
      ∗ (dats m 0 c).leavesExact 20 t
      ∗ owns (c : Thread nD τ) (ms0_21 t) fullShare (st m c t.val t.isLt).o21
      ∗ (dats m 0 c).leavesExact 22 t
      ∗ owns (c : Thread nD τ) (ms0_23 t) fullShare (st m c t.val t.isLt).o23
      ∗ (dats m 0 c).leavesExact 24 t
      ∗ owns (c : Thread nD τ) (ms0_25 t) fullShare (st m c t.val t.isLt).o25
      ∗ (dats m 0 c).leavesExact 26 t
      ∗ (dats m 0 c).leavesExact 27 t
      ∗ (dats m 0 c).leavesExact 28 t
      ∗ (dats m 0 c).leavesExact 29 t
      ∗ (dats m 0 c).leavesExact 30 t) := by
  unfold post
  rw [phi_succ, show (dats m 0 c).owesAt () t.succ = (dats m 0 c).owesAt () t.castSucc from rfl,
    leaves_eq (dats m 0 c) 0 t (liveAt0_0 t), after0_0, leaves_eq (dats m 0 c) 1 t (liveAt0_1 t), after0_1, leaves_eq (dats m 0 c) 2 t (liveAt0_2 t), after0_2, leaves_eq (dats m 0 c) 3 t (liveAt0_3 t), after0_3, leaves_eq (dats m 0 c) 4 t (liveAt0_4 t), after0_4, leaves_eq (dats m 0 c) 5 t (liveAt0_5 t), after0_5, leaves_eq (dats m 0 c) 6 t (liveAt0_6 t), after0_6, leaves_eq (dats m 0 c) 7 t (liveAt0_7 t), after0_7, leaves_eq (dats m 0 c) 8 t (liveAt0_8 t), after0_8, leaves_eq (dats m 0 c) 9 t (liveAt0_9 t), after0_9, leaves_eq (dats m 0 c) 10 t (liveAt0_10 t), after0_10, leaves_eq (dats m 0 c) 11 t (liveAt0_11 t), after0_11, leaves_eq (dats m 0 c) 12 t (liveAt0_12 t), after0_12, leaves_eq (dats m 0 c) 13 t (liveAt0_13 t), after0_13, leaves_eq (dats m 0 c) 14 t (liveAt0_14 t), after0_14, leaves_eq (dats m 0 c) 15 t (liveAt0_15 t), after0_15, leaves_eq (dats m 0 c) 16 t (liveAt0_16 t), after0_16, leaves_eq (dats m 0 c) 17 t (liveAt0_17 t), after0_17, leaves_eq (dats m 0 c) 18 t (liveAt0_18 t), after0_18, leaves_eq (dats m 0 c) 19 t (liveAt0_19 t), after0_19, leaves_eq (dats m 0 c) 21 t (liveAt0_21 t), after0_21, leaves_eq (dats m 0 c) 23 t (liveAt0_23 t), after0_23, leaves_eq (dats m 0 c) 25 t (liveAt0_25 t), after0_25]

set_option maxHeartbeats 4000000 in
/-- The body at the first point. -/
theorem soundA (h : t.val = 0) :
    pre m c t ⊢ wp frame (wpE (defs₀ (F := F)) Variants.none c none) Set.univ (bodyAt0 t) (fun _ => post m c t) := by
  rw [post_eq]; unfold pre bodyAt0 heldAt
  simp only [before0_0, before0_1, before0_2, before0_3, before0_4, before0_5, before0_6, before0_7, before0_8, before0_9, before0_10, before0_11, before0_12, before0_13]
  have a := first t h
  have b := notLast t (by omega)
  rw [Dat.leavesExact_idle (dats m 0 c) 20 t (idleAt0_20_A t a b) (noFlush0_20_A t a b), Dat.leavesExact_idle (dats m 0 c) 22 t (idleAt0_22_A t a b) (noFlush0_22_A t a b), Dat.leavesExact_idle (dats m 0 c) 24 t (idleAt0_24_A t a b) (noFlush0_24_A t a b), Dat.leavesExact_idle (dats m 0 c) 26 t (idleAt0_26_A t a b) (noFlush0_26_A t a b), Dat.leavesExact_idle (dats m 0 c) 27 t (idleAt0_27_A t a b) (noFlush0_27_A t a b), Dat.leavesExact_idle (dats m 0 c) 28 t (idleAt0_28_A t a b) (noFlush0_28_A t a b), Dat.leavesExact_idle (dats m 0 c) 29 t (idleAt0_29_A t a b) (noFlush0_29_A t a b), Dat.leavesExact_idle (dats m 0 c) 30 t (idleAt0_30_A t a b) (noFlush0_30_A t a b)]
  rw [phi_castSucc, carried_zero m c _ _ h, PhiA0_eq, st_A m c t h]
  unfold stepA; dsimp only
  iintro ⟨⟨⟨H31, H32, H33, H34⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply ((atA m c t h).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H21]; · iexists _; iexact H21
  isplitl [H23]; · iexists _; iexact H23
  isplitl [H25]; · iexists _; iexact H25
  isplitl [H31]; · iexact H31
  isplitl [H32]; · iexact H32
  isplitl [H33]; · iexact H33
  isplitl [H34]; · iexact H34
  iintro ⟨H0, H1, H2, H3, H4, H5, H6, H7, H8, H9, H10, H11, H12, H13, H14, H15, H16, H17, H18, H19, H21, H23, H25, H31, H32, H33, H34⟩
  isplitl [H31 H32 H33 H34 Hg]
  · isplitl [H31 H32 H33 H34]
    · isplitl [H31]; · iapply (owns_of_pieces c _ _ (covA_31 m c t h)); iexact H31
      isplitl [H32]; · iapply (owns_of_pieces c _ _ (covA_32 m c t h)); iexact H32
      isplitl [H33]; · iapply (owns_of_pieces c _ _ (covA_33 m c t h)); iexact H33
      iapply (owns_of_pieces c _ _ (covA_34 m c t h)); iexact H34
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (owns_of_pieces c _ _ (covA_14 m c t h)); iexact H14
  isplitl [H15]; · iapply (owns_of_pieces c _ _ (covA_15 m c t h)); iexact H15
  isplitl [H16]; · iapply (owns_of_pieces c _ _ (covA_16 m c t h)); iexact H16
  isplitl [H17]; · iapply (owns_of_pieces c _ _ (covA_17 m c t h)); iexact H17
  isplitl [H18]; · iapply (owns_of_pieces c _ _ (covA_18 m c t h)); iexact H18
  isplitl [H19]; · iapply (owns_of_pieces c _ _ (covA_19 m c t h)); iexact H19
  isplitl [H20]; · iexists _; iexact H20
  isplitl [H21]; · iapply (owns_of_pieces c _ _ (covA_21 m c t h)); iexact H21
  isplitl [H22]; · iexists _; iexact H22
  isplitl [H23]; · iapply (owns_of_pieces c _ _ (covA_23 m c t h)); iexact H23
  isplitl [H24]; · iexists _; iexact H24
  isplitl [H25]; · iapply (owns_of_pieces c _ _ (covA_25 m c t h)); iexact H25
  isplitl [H26]; · iexists _; iexact H26
  isplitl [H27]; · iexists _; iexact H27
  isplitl [H28]; · iexists _; iexact H28
  isplitl [H29]; · iexists _; iexact H29
  iexists _; iexact H30

set_option maxHeartbeats 4000000 in
/-- The body at a point between the first and the last. -/
theorem soundB (h : t.val ≠ 0) (h' : t.val ≠ 15) :
    pre m c t ⊢ wp frame (wpE (defs₀ (F := F)) Variants.none c none) Set.univ (bodyAt0 t) (fun _ => post m c t) := by
  rw [post_eq]; unfold pre bodyAt0 heldAt
  simp only [before0_0, before0_1, before0_2, before0_3, before0_4, before0_5, before0_6, before0_7, before0_8, before0_9, before0_10, before0_11, before0_12, before0_13]
  have a := notFirst t h
  have b := notLast t h'
  rw [Dat.leavesExact_idle (dats m 0 c) 20 t (idleAt0_20_B t a b) (noFlush0_20_B t a b), Dat.leavesExact_idle (dats m 0 c) 22 t (idleAt0_22_B t a b) (noFlush0_22_B t a b), Dat.leavesExact_idle (dats m 0 c) 24 t (idleAt0_24_B t a b) (noFlush0_24_B t a b), Dat.leavesExact_idle (dats m 0 c) 26 t (idleAt0_26_B t a b) (noFlush0_26_B t a b), Dat.leavesExact_idle (dats m 0 c) 27 t (idleAt0_27_B t a b) (noFlush0_27_B t a b), Dat.leavesExact_idle (dats m 0 c) 28 t (idleAt0_28_B t a b) (noFlush0_28_B t a b), Dat.leavesExact_idle (dats m 0 c) 29 t (idleAt0_29_B t a b) (noFlush0_29_B t a b), Dat.leavesExact_idle (dats m 0 c) 30 t (idleAt0_30_B t a b) (noFlush0_30_B t a b)]
  simp only [before0_14 m c t h, before0_21 m c t h, before0_23 m c t h, before0_25 m c t h]
  rw [phi_castSucc, carried_pos m c t h, st_B m c t h h']
  unfold stepB heldAt; dsimp only
  iintro ⟨⟨⟨H31, H32, H33, H34⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply ((atB m c t h h' (stPrev m c t)).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H21]; · iexact H21
  isplitl [H23]; · iexact H23
  isplitl [H25]; · iexact H25
  isplitl [H31]; · iexact H31
  isplitl [H32]; · iexact H32
  isplitl [H33]; · iexact H33
  isplitl [H34]; · iexact H34
  iintro ⟨H0, H1, H2, H3, H4, H5, H6, H7, H8, H9, H10, H11, H12, H13, H14, H15, H16, H17, H18, H19, H21, H23, H25, H31, H32, H33, H34⟩
  isplitl [H31 H32 H33 H34 Hg]
  · isplitl [H31 H32 H33 H34]
    · isplitl [H31]; · iapply (owns_of_pieces c _ _ (covB_31 m c t h h' (stPrev m c t))); iexact H31
      isplitl [H32]; · iapply (owns_of_pieces c _ _ (covB_32 m c t h h' (stPrev m c t))); iexact H32
      isplitl [H33]; · iapply (owns_of_pieces c _ _ (covB_33 m c t h h' (stPrev m c t))); iexact H33
      iapply (owns_of_pieces c _ _ (covB_34 m c t h h' (stPrev m c t))); iexact H34
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (owns_of_pieces c _ _ (covB_14 m c t h h' (stPrev m c t))); iexact H14
  isplitl [H15]; · iapply (owns_of_pieces c _ _ (covB_15 m c t h h' (stPrev m c t))); iexact H15
  isplitl [H16]; · iapply (owns_of_pieces c _ _ (covB_16 m c t h h' (stPrev m c t))); iexact H16
  isplitl [H17]; · iapply (owns_of_pieces c _ _ (covB_17 m c t h h' (stPrev m c t))); iexact H17
  isplitl [H18]; · iapply (owns_of_pieces c _ _ (covB_18 m c t h h' (stPrev m c t))); iexact H18
  isplitl [H19]; · iapply (owns_of_pieces c _ _ (covB_19 m c t h h' (stPrev m c t))); iexact H19
  isplitl [H20]; · iexists _; iexact H20
  isplitl [H21]; · iapply (owns_of_pieces c _ _ (covB_21 m c t h h' (stPrev m c t))); iexact H21
  isplitl [H22]; · iexists _; iexact H22
  isplitl [H23]; · iapply (owns_of_pieces c _ _ (covB_23 m c t h h' (stPrev m c t))); iexact H23
  isplitl [H24]; · iexists _; iexact H24
  isplitl [H25]; · iapply (owns_of_pieces c _ _ (covB_25 m c t h h' (stPrev m c t))); iexact H25
  isplitl [H26]; · iexists _; iexact H26
  isplitl [H27]; · iexists _; iexact H27
  isplitl [H28]; · iexists _; iexact H28
  isplitl [H29]; · iexists _; iexact H29
  iexists _; iexact H30

set_option maxHeartbeats 4000000 in
/-- The body at the last point. -/
theorem soundC (h : t.val = 15) :
    pre m c t ⊢ wp frame (wpE (defs₀ (F := F)) Variants.none c none) Set.univ (bodyAt0 t) (fun _ => post m c t) := by
  rw [post_eq]; unfold pre bodyAt0 heldAt
  simp only [before0_0, before0_1, before0_2, before0_3, before0_4, before0_5, before0_6, before0_7, before0_8, before0_9, before0_10, before0_11, before0_12, before0_13]
  rw [leaves_eq (dats m 0 c) 20 t (liveAt0_20_C t (notFirst t (by omega)) (last t h)), after0_20, leaves_eq (dats m 0 c) 22 t (liveAt0_22_C t (notFirst t (by omega)) (last t h)), after0_22, leaves_eq (dats m 0 c) 24 t (liveAt0_24_C t (notFirst t (by omega)) (last t h)), after0_24, leaves_eq (dats m 0 c) 26 t (liveAt0_26_C t (notFirst t (by omega)) (last t h)), after0_26, leaves_eq (dats m 0 c) 27 t (liveAt0_27_C t (notFirst t (by omega)) (last t h)), after0_27, leaves_eq (dats m 0 c) 28 t (liveAt0_28_C t (notFirst t (by omega)) (last t h)), after0_28, leaves_eq (dats m 0 c) 29 t (liveAt0_29_C t (notFirst t (by omega)) (last t h)), after0_29, leaves_eq (dats m 0 c) 30 t (liveAt0_30_C t (notFirst t (by omega)) (last t h)), after0_30]
  have h0 : t.val ≠ 0 := by omega
  simp only [before0_14 m c t h0, before0_21 m c t h0, before0_23 m c t h0, before0_25 m c t h0]
  rw [phi_castSucc, carried_pos m c t h0, st_C m c t h]
  unfold stepC heldAt; dsimp only
  iintro ⟨⟨⟨H31, H32, H33, H34⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply ((atC m c t h (stPrev m c t)).2.2.2.2.2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexact H21
  isplitl [H22]; · iexists _; iexact H22
  isplitl [H23]; · iexact H23
  isplitl [H24]; · iexists _; iexact H24
  isplitl [H25]; · iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexact H31
  isplitl [H32]; · iexact H32
  isplitl [H33]; · iexact H33
  isplitl [H34]; · iexact H34
  iintro ⟨H0, H1, H2, H3, H4, H5, H6, H7, H8, H9, H10, H11, H12, H13, H14, H15, H16, H17, H18, H19, H20, H21, H22, H23, H24, H25, H26, H27, H28, H29, H30, H31, H32, H33, H34⟩
  isplitl [H31 H32 H33 H34 Hg]
  · isplitl [H31 H32 H33 H34]
    · isplitl [H31]; · iapply (owns_of_pieces c _ _ (covC_31 m c t h (stPrev m c t))); iexact H31
      isplitl [H32]; · iapply (owns_of_pieces c _ _ (covC_32 m c t h (stPrev m c t))); iexact H32
      isplitl [H33]; · iapply (owns_of_pieces c _ _ (covC_33 m c t h (stPrev m c t))); iexact H33
      iapply (owns_of_pieces c _ _ (covC_34 m c t h (stPrev m c t))); iexact H34
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iapply (owns_of_pieces c _ _ (covC_14 m c t h (stPrev m c t))); iexact H14
  isplitl [H15]; · iapply (owns_of_pieces c _ _ (covC_15 m c t h (stPrev m c t))); iexact H15
  isplitl [H16]; · iapply (owns_of_pieces c _ _ (covC_16 m c t h (stPrev m c t))); iexact H16
  isplitl [H17]; · iapply (owns_of_pieces c _ _ (covC_17 m c t h (stPrev m c t))); iexact H17
  isplitl [H18]; · iapply (owns_of_pieces c _ _ (covC_18 m c t h (stPrev m c t))); iexact H18
  isplitl [H19]; · iapply (owns_of_pieces c _ _ (covC_19 m c t h (stPrev m c t))); iexact H19
  isplitl [H20]; · iapply (owns_of_pieces c _ _ (covC_20 m c t h (stPrev m c t))); iexact H20
  isplitl [H21]; · iapply (owns_of_pieces c _ _ (covC_21 m c t h (stPrev m c t))); iexact H21
  isplitl [H22]; · iapply (owns_of_pieces c _ _ (covC_22 m c t h (stPrev m c t))); iexact H22
  isplitl [H23]; · iapply (owns_of_pieces c _ _ (covC_23 m c t h (stPrev m c t))); iexact H23
  isplitl [H24]; · iapply (owns_of_pieces c _ _ (covC_24 m c t h (stPrev m c t))); iexact H24
  isplitl [H25]; · iapply (owns_of_pieces c _ _ (covC_25 m c t h (stPrev m c t))); iexact H25
  isplitl [H26]; · iapply (owns_of_pieces c _ _ (covC_26 m c t h (stPrev m c t))); iexact H26
  isplitl [H27]; · iapply (owns_of_pieces c _ _ (covC_27 m c t h (stPrev m c t))); iexact H27
  isplitl [H28]; · iapply (owns_of_pieces c _ _ (covC_28 m c t h (stPrev m c t))); iexact H28
  isplitl [H29]; · iapply (owns_of_pieces c _ _ (covC_29 m c t h (stPrev m c t))); iexact H29
  iapply (owns_of_pieces c _ _ (covC_30 m c t h (stPrev m c t))); iexact H30

theorem row (t : Fin cfg0.N) : defs₀ (F := F) .tc cfg0.body (cfg0.bodyArgs t (cfg0.slots t)) = bodyAt0 t := by
  unfold defs₀; rw [Defs.onTc_tc]

theorem sound :
    pre m c t ⊢ wp frame (wpE (defs₀ (F := F)) Variants.none c none) Set.univ (bodyAt0 t) (fun _ => post m c t) := by
  by_cases h : t.val = 0
  · exact soundA m c t h
  · by_cases h' : t.val = 15
    · exact soundC m c t h'
    · exact soundB m c t h h'

set_option maxHeartbeats 4000000 in
/-- The body's obligation at every point. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

/-! ## The run -/

theorem hin (c : Dev nD) : Pipeline.ΦA spec0 c ⊢ (dats m 0 c).Φ 0 := .rfl
theorem hout (c : Dev nD) : (dats m 0 c).Φ (Fin.last cfg0.N) ⊢ Pipeline.ΦA spec0 c :=
  carried_any m c _ (Nat.le_of_lt_succ (Fin.last cfg0.N).isLt)

set_option backward.isDefEq.respectTransparency.types false in
/-- Every run of the program ends, with every array at what the proof data says and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The arguments end as they were and every counter ends at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_quiet m ρ))

end Cert.MixBackIdeal.Own

end
-- ==== Proof.MixReal.lean ====
/-
The mix call's forward pass and gradients as real numbers: gelu and gate, silu gates, output projection, norm, gate and loss.
-/
module

public import proofs.«01_k».proof.Proof.Reals

@[expose] public section

noncomputable section

namespace Cert.MixBackIdeal.Own

open Idealize.ShloMosaic

/-- The logistic function, which is a real number at the infinities too. -/
def sg (z : EReal) : ℝ := (Ideal.div 1 (1 + Ideal.exp (-z))).toReal

theorem sg_eq (z : EReal) : Ideal.div 1 (1 + Ideal.exp (-z)) = (sg z : EReal) := by
  have h : ∃ r : ℝ, Ideal.div 1 (1 + Ideal.exp (-z)) = (r : EReal) := by
    induction z with
    | bot =>
      refine ⟨0, ?_⟩
      rw [EReal.neg_bot, Ideal.exp_top]
      unfold Ideal.div
      rw [show (1 : EReal) + ⊤ = ⊤ from EReal.coe_add_top 1, if_neg (by simp), EReal.inv_top, mul_zero]; rfl
    | top =>
      refine ⟨1, ?_⟩
      rw [EReal.neg_top, Ideal.exp_bot, add_zero]
      have := Own.div_coe_coe 1 1 one_ne_zero
      rw [div_one] at this
      exact this
    | coe r =>
      have hp : (1 : ℝ) + Real.exp (-r) ≠ 0 := by positivity
      exact ⟨1 / (1 + Real.exp (-r)), (Own.div_coe_coe 1 (1 + Real.exp (-r)) hp)⟩
  obtain ⟨r, e⟩ := h
  unfold sg; rw [e, EReal.toReal_coe]

theorem sg_eq' (z : EReal) : Ideal.div 1 (1 + Ideal.exp (0 - z)) = (sg z : EReal) := by rw [zero_sub, sg_eq]

/-- The constant of gelu, the single nearest the root of two over pi. -/
def cc : ℝ := 13386282 / 16777216
theorem kC : Ideal.ofBits .f32 0x3F4C422A#32 = (cc : EReal) := by
  unfold cc; simp [Ideal.ofBits, Ideal.ieee]; rw [← EReal.coe_mul]; norm_num
theorem kH : Ideal.ofBits .f32 0x3F000000#32 = ((1 / 2 : ℝ) : EReal) := by
  simp [Ideal.ofBits, Ideal.ieee]; rw [← EReal.coe_mul]; norm_num
theorem kL : Ideal.ofBits .f32 0x3A000000#32 = ((1 / 2048 : ℝ) : EReal) := by
  simp [Ideal.ofBits, Ideal.ieee]; rw [← EReal.coe_mul]; norm_num
theorem kD : Ideal.ofBits .f32 0x3A800000#32 = ((1 / 1024 : ℝ) : EReal) := by
  simp [Ideal.ofBits, Ideal.ieee]; rw [← EReal.coe_mul]; norm_num
theorem kNum : Ideal.ofBits .f32 0x472EAB00#32 = ((44715 : ℝ) : EReal) := by
  simp [Ideal.ofBits, Ideal.ieee]; rw [← EReal.coe_mul]; norm_num
theorem kDen : Ideal.ofBits .f32 0x49742400#32 = ((1000000 : ℝ) : EReal) := by
  simp [Ideal.ofBits, Ideal.ieee]; rw [← EReal.coe_mul]; norm_num
theorem kThree : Ideal.ofBits .f32 0x40400000#32 = ((3 : ℝ) : EReal) := by
  simp [Ideal.ofBits, Ideal.ieee]; rw [← EReal.coe_mul]; norm_num
theorem kTwo : Ideal.ofBits .f32 0x40000000#32 = ((2 : ℝ) : EReal) := by
  simp [Ideal.ofBits, Ideal.ieee]; rw [← EReal.coe_mul]; norm_num

/-- The arguments: real numbers, the two biases any. -/
structure Data where
  x : Fin 2 → Fin 2048 → Fin 1024 → ℝ
  y : Fin 2 → Fin 2048 → Fin 512 → ℝ
  zs : Fin 2 → Fin 2048 → Fin 512 → ℝ
  at' : Fin 2 → Fin 2048 → Fin 512 → ℝ
  za : Fin 2 → Fin 2048 → Fin 512 → ℝ
  p : Fin 2 → Fin 2048 → Fin 256 → ℝ
  tg : Fin 2 → Fin 2048 → Fin 1024 → ℝ
  wu : Fin 512 → Fin 512 → ℝ
  bu : Fin 512 → EReal
  wo : Fin 1024 → Fin 1024 → ℝ
  gp : Fin 1024 → ℝ
  wp : Fin 256 → Fin 1024 → ℝ
  wg : Fin 1024 → Fin 1024 → ℝ
  bg : Fin 1024 → EReal

namespace Data

variable (D : Data) (b : Fin 2) (s : Fin 2048)

def th (j : Fin 512) : ℝ := Real.tanh (cc * (D.y b s j + 8943 / 200000 * D.y b s j * D.y b s j * D.y b s j))
def gl (j : Fin 512) : ℝ := 1 / 2 * D.y b s j * (1 + D.th b s j)
def sa (j : Fin 512) : ℝ := sg (((∑ k : Fin 512, D.gl b s k * D.wu k j : ℝ) : EReal) + D.bu j)
def glu (j : Fin 512) : ℝ := D.gl b s j * D.sa b s j
def ss (j : Fin 512) : ℝ := sg (D.zs b s j : EReal)
def sA (j : Fin 512) : ℝ := sg (D.za b s j : EReal)
def so (j : Fin 512) : ℝ := D.glu b s j * (D.zs b s j * D.ss b s j)
def ao (j : Fin 512) : ℝ := D.at' b s j * (D.za b s j * D.sA b s j)
def cat (n : Fin 1024) : ℝ := if h : n.val < 512 then D.so b s ⟨n.val, h⟩ else D.ao b s ⟨n.val - 512, by omega⟩
def mx (d : Fin 1024) : ℝ := ∑ k : Fin 1024, D.cat b s k * D.wo k d
def ms : ℝ := (∑ d : Fin 1024, D.mx b s d * D.mx b s d) / 1024 + Own.eps
def r : ℝ := (Real.sqrt (D.ms b s))⁻¹
def nh (d : Fin 1024) : ℝ := D.mx b s d * D.r b s
def h1 (d : Fin 1024) : ℝ := D.x b s d + D.nh b s d * D.gp d
def gt (d : Fin 1024) : ℝ := sg (((∑ k : Fin 1024, D.h1 b s k * D.wg k d : ℝ) : EReal) + D.bg d)
def pp (d : Fin 1024) : ℝ := ∑ k : Fin 256, D.p b s k * D.wp k d
def er (d : Fin 1024) : ℝ := D.h1 b s d + D.gt b s d * D.pp b s d - D.tg b s d
def d2 (d : Fin 1024) : ℝ := D.er b s d * (1 / 1024)
def dgp (d : Fin 1024) : ℝ := D.d2 b s d * D.pp b s d * D.gt b s d * (1 - D.gt b s d)
def dpp (d : Fin 1024) : ℝ := D.d2 b s d * D.gt b s d
def d1 (d : Fin 1024) : ℝ := D.d2 b s d + ∑ n : Fin 1024, D.dgp b s n * D.wg d n
def du (d : Fin 1024) : ℝ := D.d1 b s d * D.gp d
def dm (d : Fin 1024) : ℝ := D.r b s * (D.du b s d - D.nh b s d * ((∑ e : Fin 1024, D.du b s e * D.nh b s e) / 1024))
def dc (k : Fin 1024) : ℝ := ∑ d : Fin 1024, D.dm b s d * D.wo k d
def dso (j : Fin 512) : ℝ := D.dc b s ⟨j.val, by omega⟩
def dao (j : Fin 512) : ℝ := D.dc b s ⟨512 + j.val, by omega⟩
def dat (j : Fin 512) : ℝ := D.dao b s j * (D.za b s j * D.sA b s j)
def dza (j : Fin 512) : ℝ := D.dao b s j * D.at' b s j * (D.sA b s j * (1 + D.za b s j * (1 - D.sA b s j)))
def dzs (j : Fin 512) : ℝ := D.dso b s j * D.glu b s j * (D.ss b s j * (1 + D.zs b s j * (1 - D.ss b s j)))
def dg (j : Fin 512) : ℝ := D.dso b s j * (D.zs b s j * D.ss b s j)
def da (j : Fin 512) : ℝ := D.dg b s j * D.gl b s j * D.sa b s j * (1 - D.sa b s j)
def dy (j : Fin 512) : ℝ := (D.dg b s j * D.sa b s j + ∑ n : Fin 512, D.da b s n * D.wu j n)
  * (1 / 2 * (1 + D.th b s j) + 1 / 2 * D.y b s j * (1 - D.th b s j * D.th b s j) * (cc * (1 + 26829 / 200000 * D.y b s j * D.y b s j)))

/-- The row's part of the loss. -/
def ls : ℝ := ∑ d : Fin 1024, D.er b s d * D.er b s d

theorem ms_pos : 0 < D.ms b s := by
  unfold ms
  have := Own.eps_pos
  have h : 0 ≤ ∑ d : Fin 1024, D.mx b s d * D.mx b s d := Finset.sum_nonneg fun d _ => mul_self_nonneg _
  positivity

theorem r_sq : D.r b s * D.r b s = (D.ms b s)⁻¹ := by
  unfold r
  rw [← mul_inv, Real.mul_self_sqrt (D.ms_pos b s).le]

/-! The sums over the rows: the loss and the weights' gradients. -/
def L : ℝ := (∑ b : Fin 2, ∑ s : Fin 2048, D.ls b s) * (1 / 2048)
def gU (k j : Fin 512) : ℝ := ∑ b : Fin 2, ∑ s : Fin 2048, D.gl b s k * D.da b s j
def gbU (j : Fin 512) : ℝ := ∑ b : Fin 2, ∑ s : Fin 2048, D.da b s j
def gO (k d : Fin 1024) : ℝ := ∑ b : Fin 2, ∑ s : Fin 2048, D.cat b s k * D.dm b s d
def gN (d : Fin 1024) : ℝ := ∑ b : Fin 2, ∑ s : Fin 2048, D.d1 b s d * D.nh b s d
def gG (k d : Fin 1024) : ℝ := ∑ b : Fin 2, ∑ s : Fin 2048, D.h1 b s k * D.dgp b s d
def gbG (d : Fin 1024) : ℝ := ∑ b : Fin 2, ∑ s : Fin 2048, D.dgp b s d
def gP (k : Fin 256) (d : Fin 1024) : ℝ := ∑ b : Fin 2, ∑ s : Fin 2048, D.p b s k * D.dpp b s d

end Data

/-- The fourteen argument arrays hold the data. -/
structure Is (x : (⟨3, ![2, 2048, 1024]⟩ : Shape).Idx → EReal) (y zs at' za : (⟨3, ![2, 2048, 512]⟩ : Shape).Idx → EReal)
    (p : (⟨4, ![1, 2, 2048, 256]⟩ : Shape).Idx → EReal) (tg : (⟨3, ![2, 2048, 1024]⟩ : Shape).Idx → EReal)
    (wu : (⟨3, ![1, 512, 512]⟩ : Shape).Idx → EReal) (bu : (⟨2, ![1, 512]⟩ : Shape).Idx → EReal)
    (wo : (⟨3, ![1, 1024, 1024]⟩ : Shape).Idx → EReal) (gp : (⟨2, ![1, 1024]⟩ : Shape).Idx → EReal)
    (wp : (⟨3, ![1, 256, 1024]⟩ : Shape).Idx → EReal) (wg : (⟨3, ![1, 1024, 1024]⟩ : Shape).Idx → EReal)
    (bg : (⟨2, ![1, 1024]⟩ : Shape).Idx → EReal) (D : Data) : Prop where
  x : ∀ b s d, x (ix3 b s d) = (D.x b s d : EReal)
  y : ∀ b s d, y (ix3 b s d) = (D.y b s d : EReal)
  zs : ∀ b s d, zs (ix3 b s d) = (D.zs b s d : EReal)
  at' : ∀ b s d, at' (ix3 b s d) = (D.at' b s d : EReal)
  za : ∀ b s d, za (ix3 b s d) = (D.za b s d : EReal)
  p : ∀ b s d, p (ix4 0 b s d) = (D.p b s d : EReal)
  tg : ∀ b s d, tg (ix3 b s d) = (D.tg b s d : EReal)
  wu : ∀ k d, wu (ix3 0 k d) = (D.wu k d : EReal)
  bu : ∀ d, bu (ix2 0 d) = D.bu d
  wo : ∀ k d, wo (ix3 0 k d) = (D.wo k d : EReal)
  gp : ∀ d, gp (ix2 0 d) = (D.gp d : EReal)
  wp : ∀ k d, wp (ix3 0 k d) = (D.wp k d : EReal)
  wg : ∀ k d, wg (ix3 0 k d) = (D.wg k d : EReal)
  bg : ∀ d, bg (ix2 0 d) = D.bg d

end Cert.MixBackIdeal.Own

end

end
-- ==== Proof.MixPoint.lean ====
/-
The mix call's blocks read at an index, and one grid point's payloads on them, as real numbers.
-/
module

public import proofs.«01_k».proof.Proof.MixReal
public import proofs.«01_k».proof.Proof.Gen.MixBackIdeal.Skeleton
public import proofs.«01_k».proof.Proof.Gen.MixBackIdeal.Frame.Runs
public import proofs.«01_k».proof.Proof.Gen.MixBackIdeal.Points
public import proofs.«01_k».proof.Proof.Gen.MixBackIdeal.Launch
public import Idealize.ShloMosaic.Lib.Pipeline.Value
public import Idealize.ShloMosaic.Lib.Pipeline.ValueKit
public import Idealize.ShloMosaic.Lib.StableHlo.Run
public import Idealize.ShloMosaic.Lib.Tactic
public import Idealize.ShloMosaic.Lib.Claim

set_option maxRecDepth 16384

@[expose] public section

noncomputable section

namespace Cert.MixBackIdeal.Own

open Idealize.ShloMosaic Idealize.ShloMosaic.TcCoe Idealize.SL.Sem
open Cert.MixBackIdeal.Gen

variable {m : (ℓ : Loc nD τ sig) → Buf (Elt Ideal) ℓ} {c : Dev nD} {D : Data}

/-- The kernel's arguments hold the data. -/
abbrev IsM (m : (ℓ : Loc nD τ sig) → Buf (Elt Ideal) ℓ) (c : Dev nD) (D : Data) : Prop :=
  Is (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) D

/-- Row `p` of block `t` is the row `(256 t + p) mod 2048` of batch `(256 t + p) / 2048`. -/
def bat (t : Fin cfg0.N) (p : Fin 256) : Fin 2 := ⟨(256 * t.val + p.val) / 2048, by
  have := t.isLt; have h : cfg0.N = 16 := N_0; omega⟩
def tok (t : Fin cfg0.N) (p : Fin 256) : Fin 2048 := ⟨(256 * t.val + p.val) % 2048, by omega⟩

theorem one_c : (1 : EReal) = ((1 : ℝ) : EReal) := rfl

theorem idx_in : ∀ t : Fin cfg0.N,
    win0_0.index t = ![t.val, 0] ∧ win0_1.index t = ![t.val, 0] ∧ win0_2.index t = ![t.val, 0] ∧ win0_3.index t = ![t.val, 0] ∧
    win0_4.index t = ![t.val, 0] ∧ win0_5.index t = ![t.val, 0] ∧ win0_6.index t = ![t.val, 0] ∧ win0_7.index t = ![0, 0] ∧
    win0_8.index t = ![0, 0] ∧ win0_9.index t = ![0, 0] ∧ win0_10.index t = ![0, 0] ∧ win0_11.index t = ![0, 0] ∧
    win0_12.index t = ![0, 0] ∧ win0_13.index t = ![0, 0] :=
  (by decide +kernel : ∀ t : Fin grid0.N, _)

variable (h : IsM m c D)
include h

variable (t : Fin cfg0.N) (p : Fin 256)

theorem blk_0 (q : Fin 1024) : iblk m c 0 t (ix2 p q) = (D.x (bat t p) (tok t p) q : EReal) := by
  have hN : cfg0.N = 16 := N_0
  have ht := t.isLt
  rw [← h.x]
  blk_simp [iblk, V, idx_in t]
  entry_read
  pointwise
  unfold bat tok
  blk_ext [iblk, V, idx_in t]

theorem blk_1 (q : Fin 512) : iblk m c 1 t (ix2 p q) = (D.y (bat t p) (tok t p) q : EReal) := by
  have hN : cfg0.N = 16 := N_0
  have ht := t.isLt
  rw [← h.y]
  blk_simp [iblk, V, idx_in t]
  entry_read
  pointwise
  unfold bat tok
  blk_ext [iblk, V, idx_in t]

theorem blk_2 (q : Fin 512) : iblk m c 2 t (ix2 p q) = (D.zs (bat t p) (tok t p) q : EReal) := by
  have hN : cfg0.N = 16 := N_0
  have ht := t.isLt
  rw [← h.zs]
  blk_simp [iblk, V, idx_in t]
  entry_read
  pointwise
  unfold bat tok
  blk_ext [iblk, V, idx_in t]

theorem blk_3 (q : Fin 512) : iblk m c 3 t (ix2 p q) = (D.at' (bat t p) (tok t p) q : EReal) := by
  have hN : cfg0.N = 16 := N_0
  have ht := t.isLt
  rw [← h.at']
  blk_simp [iblk, V, idx_in t]
  entry_read
  pointwise
  unfold bat tok
  blk_ext [iblk, V, idx_in t]

theorem blk_4 (q : Fin 512) : iblk m c 4 t (ix2 p q) = (D.za (bat t p) (tok t p) q : EReal) := by
  have hN : cfg0.N = 16 := N_0
  have ht := t.isLt
  rw [← h.za]
  blk_simp [iblk, V, idx_in t]
  entry_read
  pointwise
  unfold bat tok
  blk_ext [iblk, V, idx_in t]

theorem blk_5 (q : Fin 256) : iblk m c 5 t (ix2 p q) = (D.p (bat t p) (tok t p) q : EReal) := by
  have hN : cfg0.N = 16 := N_0
  have ht := t.isLt
  rw [← h.p]
  blk_simp [iblk, V, idx_in t]
  entry_read
  pointwise
  unfold bat tok
  blk_ext [iblk, V, idx_in t]

theorem blk_6 (q : Fin 1024) : iblk m c 6 t (ix2 p q) = (D.tg (bat t p) (tok t p) q : EReal) := by
  have hN : cfg0.N = 16 := N_0
  have ht := t.isLt
  rw [← h.tg]
  blk_simp [iblk, V, idx_in t]
  entry_read
  pointwise
  unfold bat tok
  blk_ext [iblk, V, idx_in t]

theorem blk_7 (p : Fin 512) (q : Fin 512) : iblk m c 7 t (ix2 p q) = (D.wu p q : EReal) := by
  rw [← h.wu]
  blk_simp [iblk, V, idx_in t]
  entry_read
  pointwise
  blk_ext [iblk, V, idx_in t]

theorem blk_9 (p : Fin 1024) (q : Fin 1024) : iblk m c 9 t (ix2 p q) = (D.wo p q : EReal) := by
  rw [← h.wo]
  blk_simp [iblk, V, idx_in t]
  entry_read
  pointwise
  blk_ext [iblk, V, idx_in t]

theorem blk_11 (p : Fin 1024) (q : Fin 1024) : iblk m c 11 t (ix2 p q) = (D.wg p q : EReal) := by
  rw [← h.wg]
  blk_simp [iblk, V, idx_in t]
  entry_read
  pointwise
  blk_ext [iblk, V, idx_in t]

theorem blk_13 (q : Fin 1024) : iblk m c 13 t (ix2 p q) = (D.wp p q : EReal) := by
  rw [← h.wp]
  blk_simp [iblk, V, idx_in t]
  entry_read
  pointwise
  blk_ext [iblk, V, idx_in t]

theorem blk_8 (q : Fin 512) : iblk m c 8 t (ix2 0 q) = D.bu q := by
  rw [← h.bu]
  blk_ext [iblk, V, idx_in t]

theorem blk_10 (q : Fin 1024) : iblk m c 10 t (ix2 0 q) = (D.gp q : EReal) := by
  rw [← h.gp]
  blk_ext [iblk, V, idx_in t]

theorem blk_12 (q : Fin 1024) : iblk m c 12 t (ix2 0 q) = D.bg q := by
  rw [← h.bg]
  blk_ext [iblk, V, idx_in t]

omit h

variable (m c)

abbrev bCat (t : Fin cfg0.N) : FVec Ideal S256x1024 .bf16 := k0_pay39 (F := Ideal) (k0_pay32 (iblk m c 1 t) (iblk m c 7 t) (iblk m c 8 t)) (k0_pay33 (iblk m c 2 t)) k0_pay34 (iblk m c 4 t) (iblk m c 3 t)
abbrev bMx (t : Fin cfg0.N) : FVec Ideal S256x1024 .f32 := k0_pay40 (F := Ideal) (k0_pay32 (iblk m c 1 t) (iblk m c 7 t) (iblk m c 8 t)) (k0_pay33 (iblk m c 2 t)) k0_pay34 (iblk m c 4 t) (iblk m c 3 t) (iblk m c 9 t)
abbrev bR (t : Fin cfg0.N) : FVec Ideal S256x1 .f32 := k0_pay41 (F := Ideal) (k0_pay32 (iblk m c 1 t) (iblk m c 7 t) (iblk m c 8 t)) (k0_pay33 (iblk m c 2 t)) k0_pay34 (iblk m c 4 t) (iblk m c 3 t) (iblk m c 9 t)
abbrev bNh (t : Fin cfg0.N) : FVec Ideal S256x1024 .f32 := k0_pay42 (F := Ideal) (k0_pay32 (iblk m c 1 t) (iblk m c 7 t) (iblk m c 8 t)) (k0_pay33 (iblk m c 2 t)) k0_pay34 (iblk m c 4 t) (iblk m c 3 t) (iblk m c 9 t)
abbrev bH1 (t : Fin cfg0.N) : FVec Ideal S256x1024 .f32 := k0_pay43 (F := Ideal) (iblk m c 10 t) (k0_pay32 (iblk m c 1 t) (iblk m c 7 t) (iblk m c 8 t)) (k0_pay33 (iblk m c 2 t)) k0_pay34 (iblk m c 4 t) (iblk m c 3 t) (iblk m c 9 t) (iblk m c 0 t)
abbrev bEr (t : Fin cfg0.N) : FVec Ideal S256x1024 .f32 := k0_pay47 (F := Ideal) (bH1 m c t) (iblk m c 11 t) (iblk m c 12 t) (iblk m c 5 t) (iblk m c 13 t) (iblk m c 6 t)
abbrev bD2 (t : Fin cfg0.N) : FVec Ideal S256x1024 .f32 := k0_pay49 (F := Ideal) (bH1 m c t) (iblk m c 11 t) (iblk m c 12 t) (iblk m c 5 t) (iblk m c 13 t) (iblk m c 6 t)
abbrev bDgp (t : Fin cfg0.N) : FVec Ideal S256x1024 .f32 := k0_pay50 (F := Ideal) (bH1 m c t) (iblk m c 11 t) (iblk m c 12 t) (iblk m c 5 t) (iblk m c 13 t) (iblk m c 6 t)
abbrev bDpp (t : Fin cfg0.N) : FVec Ideal S256x1024 .f32 := k0_pay51 (F := Ideal) (bH1 m c t) (iblk m c 11 t) (iblk m c 12 t) (iblk m c 5 t) (iblk m c 13 t) (iblk m c 6 t)
abbrev bD1 (t : Fin cfg0.N) : FVec Ideal S256x1024 .f32 := k0_pay52 (F := Ideal) (bD2 m c t) (bDgp m c t) (iblk m c 11 t)
abbrev bDm (t : Fin cfg0.N) : FVec Ideal S256x1024 .f32 := k0_pay55 (F := Ideal) (iblk m c 10 t) (bR m c t) (bNh m c t) (bD2 m c t) (bDgp m c t) (iblk m c 11 t)
abbrev bDc (t : Fin cfg0.N) : FVec Ideal S256x1024 .f32 := k0_pay56 (F := Ideal) (iblk m c 10 t) (bR m c t) (bNh m c t) (bD2 m c t) (bDgp m c t) (iblk m c 11 t) (iblk m c 9 t)
abbrev bDa (t : Fin cfg0.N) : FVec Ideal S256x512 .f32 := k0_pay64 (F := Ideal) (k0_pay30 (iblk m c 1 t)) (k0_pay31 (iblk m c 1 t) (iblk m c 7 t) (iblk m c 8 t)) (k0_pay33 (iblk m c 2 t)) (k0_pay35 (k0_pay33 (iblk m c 2 t)) k0_pay34) (bDc m c t)
abbrev bDat (t : Fin cfg0.N) : FVec Ideal S256x512 .f32 := k0_pay60 (F := Ideal) (k0_pay36 (iblk m c 4 t)) (k0_pay37 (iblk m c 4 t)) (bDc m c t)
abbrev bDza (t : Fin cfg0.N) : FVec Ideal S256x512 .bf16 := k0_pay61 (F := Ideal) (k0_pay36 (iblk m c 4 t)) (k0_pay37 (iblk m c 4 t)) (k0_pay38 (iblk m c 3 t)) (bDc m c t)
abbrev bDzs (t : Fin cfg0.N) : FVec Ideal S256x512 .bf16 := k0_pay62 (F := Ideal) (k0_pay32 (iblk m c 1 t) (iblk m c 7 t) (iblk m c 8 t)) (k0_pay33 (iblk m c 2 t)) (k0_pay35 (k0_pay33 (iblk m c 2 t)) k0_pay34) (bDc m c t)
abbrev bDy (t : Fin cfg0.N) : FVec Ideal S256x512 .f32 := k0_pay67 (F := Ideal) (k0_pay28 (iblk m c 1 t)) (k0_pay29 (iblk m c 1 t)) (bDa m c t) (k0_pay65 (F := Ideal) (k0_pay31 (iblk m c 1 t) (iblk m c 7 t) (iblk m c 8 t)) (k0_pay33 (iblk m c 2 t)) (k0_pay35 (k0_pay33 (iblk m c 2 t)) k0_pay34) (bDc m c t)) (iblk m c 7 t)
abbrev bLs (t : Fin cfg0.N) : FVec Ideal S1x1 .f32 := k0_pay48 (F := Ideal) (bH1 m c t) (iblk m c 11 t) (iblk m c 12 t) (iblk m c 5 t) (iblk m c 13 t) (iblk m c 6 t)

variable {m c}
include h

theorem v28 (q : Fin 512) : k0_pay28 (F := Ideal) (iblk m c 1 t) (ix2 p q) = ((D.y (bat t p) (tok t p) q : ℝ) : EReal) := by
  pointwise [k0_pay28]
  rw [blk_1 h]

omit h in
theorem kk : Named.named (F := Ideal) κ "gelu_k" (φ := .f32) 0x3D372713#32 = ((8943 / 200000 : ℝ) : EReal) := rfl
omit h in
theorem kk3 : Named.named (F := Ideal) κ "gelu_3k" (φ := .f32) 0x3E095D4F#32 = ((26829 / 200000 : ℝ) : EReal) := rfl

theorem v29 (q : Fin 512) : k0_pay29 (F := Ideal) (iblk m c 1 t) (ix2 p q) = ((D.th (bat t p) (tok t p) q : ℝ) : EReal) := by
  pointwise [k0_pay29]
  simp only [v28 h, kk, kC]
  simp only [one_c, ← EReal.coe_mul, ← EReal.coe_add, ← EReal.coe_sub, ← Own.coe_sum]
  rfl

theorem v30 (q : Fin 512) : k0_pay30 (F := Ideal) (iblk m c 1 t) (ix2 p q) = ((D.gl (bat t p) (tok t p) q : ℝ) : EReal) := by
  pointwise [k0_pay30]
  simp only [v28 h, v29 h, kH]
  simp only [one_c, ← EReal.coe_mul, ← EReal.coe_add, ← EReal.coe_sub, ← Own.coe_sum]
  rfl

theorem v31 (q : Fin 512) : k0_pay31 (F := Ideal) (iblk m c 1 t) (iblk m c 7 t) (iblk m c 8 t) (ix2 p q) = ((D.sa (bat t p) (tok t p) q : ℝ) : EReal) := by
  pointwise [k0_pay31]
  simp only [v30 h, blk_7 h, blk_8 h, ← EReal.coe_mul, ← Own.coe_sum]
  exact sg_eq' _

theorem v32 (q : Fin 512) : k0_pay32 (F := Ideal) (iblk m c 1 t) (iblk m c 7 t) (iblk m c 8 t) (ix2 p q) = ((D.glu (bat t p) (tok t p) q : ℝ) : EReal) := by
  pointwise [k0_pay32]
  simp only [v30 h, v31 h, ← EReal.coe_mul]
  rfl

theorem v33 (q : Fin 512) : k0_pay33 (F := Ideal) (iblk m c 2 t) (ix2 p q) = ((D.zs (bat t p) (tok t p) q : ℝ) : EReal) := by
  pointwise [k0_pay33]
  rw [blk_2 h]

theorem v36 (q : Fin 512) : k0_pay36 (F := Ideal) (iblk m c 4 t) (ix2 p q) = ((D.za (bat t p) (tok t p) q : ℝ) : EReal) := by
  pointwise [k0_pay36]
  rw [blk_4 h]

theorem v38 (q : Fin 512) : k0_pay38 (F := Ideal) (iblk m c 3 t) (ix2 p q) = ((D.at' (bat t p) (tok t p) q : ℝ) : EReal) := by
  pointwise [k0_pay38]
  rw [blk_3 h]

theorem v35 (q : Fin 512) : k0_pay35 (F := Ideal) (k0_pay33 (iblk m c 2 t)) k0_pay34 (ix2 p q) = ((D.ss (bat t p) (tok t p) q : ℝ) : EReal) := by
  pointwise [k0_pay35, k0_pay34]
  simp only [v33 h]
  exact sg_eq' _

theorem v37 (q : Fin 512) : k0_pay37 (F := Ideal) (iblk m c 4 t) (ix2 p q) = ((D.sA (bat t p) (tok t p) q : ℝ) : EReal) := by
  pointwise [k0_pay37]
  simp only [v36 h]
  exact sg_eq' _

theorem vCat (q : Fin 1024) : bCat m c t (ix2 p q) = ((D.cat (bat t p) (tok t p) q : ℝ) : EReal) := by
  pointwise [bCat, k0_pay39]
  simp only [v32 h, v33 h, v35 h, v36 h, v37 h, v38 h, ← EReal.coe_mul]
  unfold Data.cat
  split <;> rfl

theorem vMx (q : Fin 1024) : bMx m c t (ix2 p q) = ((D.mx (bat t p) (tok t p) q : ℝ) : EReal) := by
  pointwise [bMx, k0_pay40]
  simp only [vCat h, blk_9 h, ← EReal.coe_mul, ← Own.coe_sum]
  rfl

theorem vR : bR m c t (ix2 p 0) = ((D.r (bat t p) (tok t p) : ℝ) : EReal) := by
  pointwise [bR, k0_pay41]
  simp only [vMx h, ← EReal.coe_mul, ← Own.coe_sum, Own.k1024, Own.kEps]
  rw [Own.div_coe_coe _ _ (by norm_num), ← EReal.coe_add]
  exact Own.rsqrt_pos _ (D.ms_pos _ _)

theorem vNh (q : Fin 1024) : bNh m c t (ix2 p q) = ((D.nh (bat t p) (tok t p) q : ℝ) : EReal) := by
  pointwise [bNh, k0_pay42]
  simp only [vMx h, vR h, ← EReal.coe_mul]
  rfl

theorem vH1 (q : Fin 1024) : bH1 m c t (ix2 p q) = ((D.h1 (bat t p) (tok t p) q : ℝ) : EReal) := by
  pointwise [bH1, k0_pay43]
  simp only [vNh h, blk_10 h, blk_0 h, ← EReal.coe_mul, ← EReal.coe_add]
  rfl

theorem v44 (q : Fin 1024) : k0_pay44 (F := Ideal) (bH1 m c t) (iblk m c 11 t) (iblk m c 12 t) (ix2 p q) = ((D.gt (bat t p) (tok t p) q : ℝ) : EReal) := by
  pointwise [k0_pay44]
  simp only [vH1 h, blk_11 h, blk_12 h, ← EReal.coe_mul, ← Own.coe_sum]
  exact sg_eq' _

theorem v46 (q : Fin 1024) : k0_pay46 (F := Ideal) (iblk m c 5 t) (iblk m c 13 t) (ix2 p q) = ((D.pp (bat t p) (tok t p) q : ℝ) : EReal) := by
  pointwise [k0_pay46, k0_pay45]
  simp only [blk_5 h, blk_13 h, ← EReal.coe_mul, ← Own.coe_sum]
  rfl

theorem vEr (q : Fin 1024) : bEr m c t (ix2 p q) = ((D.er (bat t p) (tok t p) q : ℝ) : EReal) := by
  pointwise [bEr, k0_pay47]
  simp only [vH1 h, v44 h, v46 h, blk_6 h, ← EReal.coe_mul, ← EReal.coe_add, ← EReal.coe_sub]
  rfl

theorem vD2 (q : Fin 1024) : bD2 m c t (ix2 p q) = ((D.d2 (bat t p) (tok t p) q : ℝ) : EReal) := by
  pointwise [bD2, k0_pay49]
  simp only [vEr h, kD, ← EReal.coe_mul]
  rfl

theorem vDgp (q : Fin 1024) : bDgp m c t (ix2 p q) = ((D.dgp (bat t p) (tok t p) q : ℝ) : EReal) := by
  pointwise [bDgp, k0_pay50]
  simp only [vD2 h, v44 h, v46 h]
  simp only [one_c, ← EReal.coe_mul, ← EReal.coe_add, ← EReal.coe_sub, ← Own.coe_sum]
  rfl

theorem vDpp (q : Fin 1024) : bDpp m c t (ix2 p q) = ((D.dpp (bat t p) (tok t p) q : ℝ) : EReal) := by
  pointwise [bDpp, k0_pay51]
  simp only [vD2 h, v44 h, ← EReal.coe_mul]
  rfl

theorem vD1 (q : Fin 1024) : bD1 m c t (ix2 p q) = ((D.d1 (bat t p) (tok t p) q : ℝ) : EReal) := by
  pointwise [bD1, k0_pay52]
  simp only [vD2 h, vDgp h, blk_11 h]
  simp only [one_c, ← EReal.coe_mul, ← EReal.coe_add, ← EReal.coe_sub, ← Own.coe_sum]
  rfl

theorem vDm (q : Fin 1024) : bDm m c t (ix2 p q) = ((D.dm (bat t p) (tok t p) q : ℝ) : EReal) := by
  pointwise [bDm, k0_pay55]
  simp only [vD1 h, vR h, vNh h, blk_10 h, Own.k1024]
  simp only [one_c, ← EReal.coe_mul, ← EReal.coe_add, ← EReal.coe_sub, ← Own.coe_sum]
  rw [Own.div_coe_coe _ _ (by norm_num)]
  simp only [one_c, ← EReal.coe_mul, ← EReal.coe_add, ← EReal.coe_sub, ← Own.coe_sum]
  rfl

theorem vDc (q : Fin 1024) : bDc m c t (ix2 p q) = ((D.dc (bat t p) (tok t p) q : ℝ) : EReal) := by
  pointwise [bDc, k0_pay56]
  simp only [vDm h, blk_9 h]
  simp only [one_c, ← EReal.coe_mul, ← EReal.coe_add, ← EReal.coe_sub, ← Own.coe_sum]
  rfl

theorem v58 (q : Fin 512) : k0_pay58 (F := Ideal) (bDc m c t) (ix2 p q) = ((D.dso (bat t p) (tok t p) q : ℝ) : EReal) := by
  pointwise [k0_pay58]
  simp only [vDc h]
  rfl

theorem v59 (q : Fin 512) : k0_pay59 (F := Ideal) (bDc m c t) (ix2 p q) = ((D.dao (bat t p) (tok t p) q : ℝ) : EReal) := by
  pointwise [k0_pay59]
  simp only [vDc h]
  rfl

theorem vDat (q : Fin 512) : bDat m c t (ix2 p q) = ((D.dat (bat t p) (tok t p) q : ℝ) : EReal) := by
  pointwise [bDat, k0_pay60]
  simp only [v59 h, v36 h, v37 h]
  simp only [one_c, ← EReal.coe_mul, ← EReal.coe_add, ← EReal.coe_sub, ← Own.coe_sum]
  rfl

theorem vDza (q : Fin 512) : bDza m c t (ix2 p q) = ((D.dza (bat t p) (tok t p) q : ℝ) : EReal) := by
  pointwise [bDza, k0_pay61]
  simp only [v59 h, v36 h, v37 h, v38 h]
  simp only [one_c, ← EReal.coe_mul, ← EReal.coe_add, ← EReal.coe_sub, ← Own.coe_sum]
  rfl

theorem vDzs (q : Fin 512) : bDzs m c t (ix2 p q) = ((D.dzs (bat t p) (tok t p) q : ℝ) : EReal) := by
  pointwise [bDzs, k0_pay62]
  simp only [v58 h, v33 h, v35 h, v32 h]
  simp only [one_c, ← EReal.coe_mul, ← EReal.coe_add, ← EReal.coe_sub, ← Own.coe_sum]
  rfl

theorem v63 (q : Fin 512) : k0_pay63 (F := Ideal) (k0_pay33 (iblk m c 2 t)) (k0_pay35 (k0_pay33 (iblk m c 2 t)) k0_pay34) (bDc m c t) (ix2 p q) = ((D.dg (bat t p) (tok t p) q : ℝ) : EReal) := by
  pointwise [k0_pay63]
  simp only [v58 h, v33 h, v35 h]
  simp only [one_c, ← EReal.coe_mul, ← EReal.coe_add, ← EReal.coe_sub, ← Own.coe_sum]
  rfl

theorem vDa (q : Fin 512) : bDa m c t (ix2 p q) = ((D.da (bat t p) (tok t p) q : ℝ) : EReal) := by
  pointwise [bDa, k0_pay64]
  simp only [v63 h, v30 h, v31 h]
  simp only [one_c, ← EReal.coe_mul, ← EReal.coe_add, ← EReal.coe_sub, ← Own.coe_sum]
  rfl

theorem vDy (q : Fin 512) : bDy m c t (ix2 p q) = ((D.dy (bat t p) (tok t p) q : ℝ) : EReal) := by
  pointwise [bDy, k0_pay67, k0_pay65]
  simp only [v63 h, v31 h, vDa h, blk_7 h, v28 h, v29 h, kH, kC, kk3]
  simp only [one_c, ← EReal.coe_mul, ← EReal.coe_add, ← EReal.coe_sub, ← Own.coe_sum]
  rfl

theorem vLs : bLs m c t (ix2 0 0) = (((∑ p : Fin 256, D.ls (bat t p) (tok t p)) * (1 / 2048) : ℝ) : EReal) := by
  pointwise [bLs, k0_pay48]
  simp only [vEr h, kL]
  simp only [one_c, ← EReal.coe_mul, ← EReal.coe_add, ← EReal.coe_sub, ← Own.coe_sum]
  rfl

end Cert.MixBackIdeal.Own

end

end
-- ==== Proof.MixCases.lean ====
/-
What the mix call's stores leave at the first point, at a later one and at the last, as payloads of the blocks and of the carried sums.
-/
module

public import proofs.«01_k».proof.Proof.MixDat
public import proofs.«01_k».proof.Proof.MixPoint
public import Idealize.ShloMosaic.Lib.Pipeline.Value
public import Idealize.ShloMosaic.Lib.Pipeline.ReadBack
public import Idealize.ShloMosaic.Lib.StableHlo.Run
public import Idealize.ShloMosaic.Lib.Tactic
public import Idealize.ShloMosaic.Lib.Quiescent

set_option maxRecDepth 16384

@[expose] public section

noncomputable section

namespace Cert.MixBackIdeal.Own

open Idealize.ShloMosaic Idealize.ShloMosaic.TcCoe Idealize.SL.Sem
open Idealize.ShloMosaic.Pipeline (Dat)
open Cert.MixBackIdeal.Gen

theorem off2 : (![0, 0] : Fin 2 → Nat) = fun _ => 0 := funext fun a => by fin_cases a <;> rfl
theorem off3 : (![0, 0, 0] : Fin 3 → Nat) = fun _ => 0 := funext fun a => by fin_cases a <;> rfl

variable (m : (ℓ : Loc nD τ sig) → Buf (Elt Ideal) ℓ) (c : Dev nD) (t : Fin cfg0.N)

/-- What a point leaves in the outputs of its own rows and in the running sums, from the sums `s` before it. -/
structure Steps (s s' : St Ideal) : Prop where
  o14 : s'.o14 = k0_pay3 (bLs m c t) s.o14
  o15 : s'.o15 = bD1 m c t
  o16 : s'.o16 = bDy m c t
  o17 : s'.o17 = bDzs m c t
  o18 : s'.o18 = bDat m c t
  o19 : s'.o19 = bDza m c t
  o21 : s'.o21 = k0_pay68 (bDa m c t) s.o21
  o23 : s'.o23 = k0_pay1 (bNh m c t) (bD1 m c t) s.o23
  o25 : s'.o25 = k0_pay2 (bDgp m c t) s.o25
  o31 : s'.o31 = k0_pay66 (k0_pay30 (iblk m c 1 t)) (bDa m c t) s.o31
  o32 : s'.o32 = k0_pay57 (bCat m c t) (bDm m c t) s.o32
  o33 : s'.o33 = k0_pay54 (bH1 m c t) (bDgp m c t) s.o33
  o34 : s'.o34 = k0_pay53 (k0_pay45 (iblk m c 5 t)) (bDpp m c t) s.o34

/-- The sums' start. -/
def zeros : St Ideal where
  o14 := k0_pay27 (F := Ideal)
  o15 := View.canon []
  o16 := View.canon []
  o17 := View.canon []
  o18 := View.canon []
  o19 := View.canon []
  o20 := View.canon []
  o21 := k0_pay21 (F := Ideal)
  o22 := View.canon []
  o23 := k0_pay23 (F := Ideal)
  o24 := View.canon []
  o25 := k0_pay25 (F := Ideal)
  o26 := View.canon []
  o27 := View.canon []
  o28 := View.canon []
  o29 := View.canon []
  o30 := View.canon []
  o31 := k0_pay20 (F := Ideal)
  o32 := k0_pay22 (F := Ideal)
  o33 := k0_pay24 (F := Ideal)
  o34 := k0_pay26 (F := Ideal)

set_option maxHeartbeats 4000000 in
theorem steps_A (h : t.val = 0) : Steps m c t zeros (stepA m c t h) := by
  unfold stepA atA mixRunA
  constructor <;>
  ( dsimp only [zeros]
    sl_unfold_words
    first
      | rw [View.canon_unit_zero off2]
      | rw [View.canon_cons_unit_zero off2]
    simp only [View.readAt_eq_ld, View.readCov_unit_zero (S := S512x512) _ off2, View.readCov_unit_zero (S := S1x512) _ off2, View.readCov_unit_zero (S := S1x1024) _ off2, View.readCov_unit_zero (S := S1024x1024) _ off2, View.readCov_unit_zero (S := S256x1024) _ off2, View.readCov_unit_zero (S := S1x1) _ off2, Memref.IsWhole.read_unread, (Memref.isWhole_whole cc0_scratch0).read_unread, (Memref.isWhole_whole cc0_scratch1).read_unread, (Memref.isWhole_whole cc0_scratch2).read_unread, (Memref.isWhole_whole cc0_scratch3).read_unread, View.ld_unit_zero (S := S256x1024) off2, View.ld_unit_zero (S := S256x512) off2, View.ld_unit_zero (S := S256x256) off2, View.ld_unit_zero (S := S512x512) off2, View.ld_unit_zero (S := S1x512) off2, View.ld_unit_zero (S := S1x1024) off2, View.ld_unit_zero (S := S1024x1024) off2, View.ld_unit_zero (S := S1x1) off2]
    try rfl )

set_option maxHeartbeats 4000000 in
theorem steps_B (h : t.val ≠ 0) (h' : t.val ≠ 15) (s : St Ideal) : Steps m c t s (stepB m c t h h' s) := by
  unfold stepB atB mixRunB
  constructor <;>
  ( dsimp only
    sl_unfold_words
    rw [View.canon_unit_zero off2]
    simp only [View.readAt_eq_ld, Memref.IsWhole.read_unread, (Memref.isWhole_whole cc0_scratch0).read_unread, (Memref.isWhole_whole cc0_scratch1).read_unread, (Memref.isWhole_whole cc0_scratch2).read_unread, (Memref.isWhole_whole cc0_scratch3).read_unread, View.ld_unit_zero (S := S256x1024) off2, View.ld_unit_zero (S := S256x512) off2, View.ld_unit_zero (S := S256x256) off2, View.ld_unit_zero (S := S512x512) off2, View.ld_unit_zero (S := S1x512) off2, View.ld_unit_zero (S := S1x1024) off2, View.ld_unit_zero (S := S1024x1024) off2, View.ld_unit_zero (S := S1x1) off2]
    try rfl )

set_option maxHeartbeats 4000000 in
theorem steps_C (h : t.val = 15) (s : St Ideal) : Steps m c t s (stepC m c t h s) := by
  unfold stepC atC mixRunC
  constructor <;>
  ( dsimp only
    sl_unfold_words
    rw [View.canon_unit_zero off2]
    simp only [View.readAt_eq_ld, Memref.IsWhole.read_unread, (Memref.isWhole_whole cc0_scratch0).read_unread, (Memref.isWhole_whole cc0_scratch1).read_unread, (Memref.isWhole_whole cc0_scratch2).read_unread, (Memref.isWhole_whole cc0_scratch3).read_unread, View.ld_unit_zero (S := S256x1024) off2, View.ld_unit_zero (S := S256x512) off2, View.ld_unit_zero (S := S256x256) off2, View.ld_unit_zero (S := S512x512) off2, View.ld_unit_zero (S := S1x512) off2, View.ld_unit_zero (S := S1x1024) off2, View.ld_unit_zero (S := S1024x1024) off2, View.ld_unit_zero (S := S1x1) off2]
    try rfl )

end Cert.MixBackIdeal.Own

end

end
-- ==== Proof.MixFold.lean ====
/-
The mix call's running sums: after every point they hold the sum over the rows met so far.
-/
module

public import proofs.«01_k».proof.Proof.MixCases

set_option maxRecDepth 16384

@[expose] public section

noncomputable section

namespace Cert.MixBackIdeal.Own

open Idealize.ShloMosaic Idealize.ShloMosaic.TcCoe Idealize.SL.Sem
open Cert.MixBackIdeal.Gen

/-- The sum over the rows of one block. -/
def blkSum (f : Fin 2 → Fin 2048 → ℝ) (t : Fin cfg0.N) : ℝ := ∑ p : Fin 256, f (bat t p) (tok t p)

/-- The sum over the rows of the first `n` blocks. -/
def part (f : Fin 2 → Fin 2048 → ℝ) (n : ℕ) : ℝ := ∑ i ∈ Finset.range n, if h : i < cfg0.N then blkSum f ⟨i, h⟩ else 0

theorem part_zero (f : Fin 2 → Fin 2048 → ℝ) : part f 0 = 0 := rfl

theorem part_succ (f : Fin 2 → Fin 2048 → ℝ) (t : Fin cfg0.N) : part f (t.val + 1) = part f t.val + blkSum f t := by
  unfold part
  rw [Finset.sum_range_succ, dif_pos t.isLt]

theorem part_all (f : Fin 2 → Fin 2048 → ℝ) : part f 16 = ∑ b : Fin 2, ∑ s : Fin 2048, f b s := by
  have h1 := Fin.sum_univ_tiles 16 256 (N := 4096) rfl fun T => f ⟨T.val / 2048, by omega⟩ ⟨T.val % 2048, by omega⟩
  have h2 := Fin.sum_univ_tiles 2 2048 (N := 4096) rfl fun T => f ⟨T.val / 2048, by omega⟩ ⟨T.val % 2048, by omega⟩
  unfold part
  rw [Finset.sum_range]
  refine Eq.trans ?_ (h1.symm.trans (h2.trans ?_))
  · refine Finset.sum_congr rfl fun k _ => ?_
    rw [dif_pos (show k.val < cfg0.N by rw [show cfg0.N = 16 from N_0]; exact k.isLt)]
    refine Finset.sum_congr rfl fun p _ => ?_
    congr 1 <;> exact Fin.ext (by dsimp only [bat, tok]; rw [Nat.mul_comm])
  · refine Finset.sum_congr rfl fun b _ => Finset.sum_congr rfl fun s _ => ?_
    congr 1 <;> exact Fin.ext (by dsimp only; omega)

/-- The running sums hold the rows of the first `n` blocks. -/
structure Sums (D : Data) (n : ℕ) (s : St Ideal) : Prop where
  o14 : (s.o14 (ix2 0 0) : EReal) = ((part (fun b r => D.ls b r * (1 / 2048)) n : ℝ) : EReal)
  o21 : ∀ (j : Fin 512), (s.o21 (ix2 0 j) : EReal) = ((part (fun b r => D.da b r j) n : ℝ) : EReal)
  o23 : ∀ (j : Fin 1024), (s.o23 (ix2 0 j) : EReal) = ((part (fun b r => D.d1 b r j * D.nh b r j) n : ℝ) : EReal)
  o25 : ∀ (j : Fin 1024), (s.o25 (ix2 0 j) : EReal) = ((part (fun b r => D.dgp b r j) n : ℝ) : EReal)
  o31 : ∀ (k j : Fin 512), (s.o31 (ix2 k j) : EReal) = ((part (fun b r => D.gl b r k * D.da b r j) n : ℝ) : EReal)
  o32 : ∀ (k j : Fin 1024), (s.o32 (ix2 k j) : EReal) = ((part (fun b r => D.cat b r k * D.dm b r j) n : ℝ) : EReal)
  o33 : ∀ (k j : Fin 1024), (s.o33 (ix2 k j) : EReal) = ((part (fun b r => D.h1 b r k * D.dgp b r j) n : ℝ) : EReal)
  o34 : ∀ (k : Fin 256) (j : Fin 1024), (s.o34 (ix2 k j) : EReal) = ((part (fun b r => D.p b r k * D.dpp b r j) n : ℝ) : EReal)

variable {m : (ℓ : Loc nD τ sig) → Buf (Elt Ideal) ℓ} {c : Dev nD} {D : Data}

theorem sums_zero : Sums D 0 zeros := by
  constructor <;> intros <;> simp only [zeros, part_zero] <;>
    pointwise [k0_pay20, k0_pay21, k0_pay22, k0_pay23, k0_pay24, k0_pay25, k0_pay26, k0_pay27] <;>
    exact EReal.coe_zero.symm

variable (h : IsM m c D) {t : Fin cfg0.N} {s s' : St Ideal} (S : Sums D t.val s)
include h S

theorem step_o14 : (k0_pay3 (F := Ideal) (bLs m c t) s.o14 (ix2 0 0) : EReal) = ((part (fun b r => D.ls b r * (1 / 2048)) (t.val + 1) : ℝ) : EReal) := by
  have e := S.o14
  rw [part_succ]
  pointwise [k0_pay3]
  simp only [e, vLs h]
  simp only [Finset.sum_mul]
  simp only [one_c, ← EReal.coe_mul, ← EReal.coe_add, ← EReal.coe_sub, ← Own.coe_sum]
  rfl

theorem step_o21 (j : Fin 512) : (k0_pay68 (F := Ideal) (bDa m c t) s.o21 (ix2 0 j) : EReal) = ((part (fun b r => D.da b r j) (t.val + 1) : ℝ) : EReal) := by
  have e := S.o21 j
  rw [part_succ]
  pointwise [k0_pay68]
  simp only [e, vDa h]
  simp only [one_c, ← EReal.coe_mul, ← EReal.coe_add, ← EReal.coe_sub, ← Own.coe_sum]
  rfl

theorem step_o23 (j : Fin 1024) : (k0_pay1 (F := Ideal) (bNh m c t) (bD1 m c t) s.o23 (ix2 0 j) : EReal) = ((part (fun b r => D.d1 b r j * D.nh b r j) (t.val + 1) : ℝ) : EReal) := by
  have e := S.o23 j
  rw [part_succ]
  pointwise [k0_pay1]
  simp only [e, vD1 h, vNh h]
  simp only [one_c, ← EReal.coe_mul, ← EReal.coe_add, ← EReal.coe_sub, ← Own.coe_sum]
  rfl

theorem step_o25 (j : Fin 1024) : (k0_pay2 (F := Ideal) (bDgp m c t) s.o25 (ix2 0 j) : EReal) = ((part (fun b r => D.dgp b r j) (t.val + 1) : ℝ) : EReal) := by
  have e := S.o25 j
  rw [part_succ]
  pointwise [k0_pay2]
  simp only [e, vDgp h]
  simp only [one_c, ← EReal.coe_mul, ← EReal.coe_add, ← EReal.coe_sub, ← Own.coe_sum]
  rfl

theorem step_o31 (k j : Fin 512) : (k0_pay66 (F := Ideal) (k0_pay30 (iblk m c 1 t)) (bDa m c t) s.o31 (ix2 k j) : EReal) = ((part (fun b r => D.gl b r k * D.da b r j) (t.val + 1) : ℝ) : EReal) := by
  have e := S.o31 k j
  rw [part_succ]
  pointwise [k0_pay66]
  simp only [e, v30 h, vDa h]
  simp only [one_c, ← EReal.coe_mul, ← EReal.coe_add, ← EReal.coe_sub, ← Own.coe_sum]
  rfl

theorem step_o32 (k j : Fin 1024) : (k0_pay57 (F := Ideal) (bCat m c t) (bDm m c t) s.o32 (ix2 k j) : EReal) = ((part (fun b r => D.cat b r k * D.dm b r j) (t.val + 1) : ℝ) : EReal) := by
  have e := S.o32 k j
  rw [part_succ]
  pointwise [k0_pay57]
  simp only [e, vCat h, vDm h]
  simp only [one_c, ← EReal.coe_mul, ← EReal.coe_add, ← EReal.coe_sub, ← Own.coe_sum]
  rfl

theorem step_o33 (k j : Fin 1024) : (k0_pay54 (F := Ideal) (bH1 m c t) (bDgp m c t) s.o33 (ix2 k j) : EReal) = ((part (fun b r => D.h1 b r k * D.dgp b r j) (t.val + 1) : ℝ) : EReal) := by
  have e := S.o33 k j
  rw [part_succ]
  pointwise [k0_pay54]
  simp only [e, vH1 h, vDgp h]
  simp only [one_c, ← EReal.coe_mul, ← EReal.coe_add, ← EReal.coe_sub, ← Own.coe_sum]
  rfl

theorem step_o34 (k : Fin 256) (j : Fin 1024) : (k0_pay53 (F := Ideal) (k0_pay45 (iblk m c 5 t)) (bDpp m c t) s.o34 (ix2 k j) : EReal) = ((part (fun b r => D.p b r k * D.dpp b r j) (t.val + 1) : ℝ) : EReal) := by
  have e := S.o34 k j
  rw [part_succ]
  pointwise [k0_pay53, k0_pay45]
  simp only [e, blk_5 h, vDpp h]
  simp only [one_c, ← EReal.coe_mul, ← EReal.coe_add, ← EReal.coe_sub, ← Own.coe_sum]
  rfl

theorem sums_step (K : Steps m c t s s') : Sums D (t.val + 1) s' where
  o14 := (congrFun K.o14 _).trans (step_o14 h S)
  o21 := fun j => (congrFun K.o21 _).trans (step_o21 h S j)
  o23 := fun j => (congrFun K.o23 _).trans (step_o23 h S j)
  o25 := fun j => (congrFun K.o25 _).trans (step_o25 h S j)
  o31 := fun k j => (congrFun K.o31 _).trans (step_o31 h S k j)
  o32 := fun k j => (congrFun K.o32 _).trans (step_o32 h S k j)
  o33 := fun k j => (congrFun K.o33 _).trans (step_o33 h S k j)
  o34 := fun k j => (congrFun K.o34 _).trans (step_o34 h S k j)

omit S in
/-- What every point leaves, from the sums of the points before. -/
theorem run_step (t : Fin cfg0.N) (P : t.val ≠ 0 → Sums D t.val (stPrev m c t)) :
    ∃ s, Sums D t.val s ∧ Steps m c t s (st m c t.val t.isLt) := by
  by_cases h0 : t.val = 0
  · refine ⟨zeros, ?_, ?_⟩
    · rw [h0]; exact sums_zero
    · rw [st_A m c t h0]; exact steps_A m c t h0
  · by_cases h1 : t.val = 15
    · refine ⟨_, P h0, ?_⟩
      rw [st_C m c t h1]; exact steps_C m c t h1 _
    · refine ⟨_, P h0, ?_⟩
      rw [st_B m c t h0 h1]; exact steps_B m c t h0 h1 _

omit S in
theorem sums_at : ∀ (n : ℕ) (hn : n < cfg0.N), Sums D (n + 1) (st m c n hn)
  | 0, hn => by
    obtain ⟨s, S, K⟩ := run_step h ⟨0, hn⟩ fun e => absurd rfl e
    exact sums_step h S K
  | n + 1, hn => by
    obtain ⟨s, S, K⟩ := run_step h ⟨n + 1, hn⟩ fun _ => sums_at n (Nat.lt_of_succ_lt hn)
    exact sums_step h S K

omit S in
theorem steps_at (t : Fin cfg0.N) : ∃ s, Steps m c t s (st m c t.val t.isLt) := by
  obtain ⟨s, _, K⟩ := run_step h t fun e => by
    have := sums_at h (t.val - 1) (Nat.lt_of_le_of_lt (Nat.sub_le _ _) t.isLt)
    rwa [Nat.sub_add_cancel (Nat.pos_of_ne_zero e)] at this
  exact ⟨s, K⟩

end Cert.MixBackIdeal.Own

end

end
-- ==== Proof.MixLast.lean ====
/-
What the mix call's last point stores besides: slabs of the weight gradients and their rounded copies.
-/
module

public import proofs.«01_k».proof.Proof.MixCases
public import proofs.«01_k».proof.Proof.MixPoint
public import Idealize.ShloMosaic.Lib.Pipeline.Value
public import Idealize.ShloMosaic.Lib.Pipeline.ReadBack
public import Idealize.ShloMosaic.Lib.StableHlo.Run
public import Idealize.ShloMosaic.Lib.Tactic
public import Idealize.ShloMosaic.Lib.Quiescent

set_option maxRecDepth 16384

@[expose] public section

noncomputable section

namespace Cert.MixBackIdeal.Own

open Idealize.ShloMosaic Idealize.ShloMosaic.TcCoe Idealize.SL.Sem
open Idealize.ShloMosaic.Pipeline (Dat)
open Cert.MixBackIdeal.Gen

variable (m : (ℓ : Loc nD τ sig) → Buf (Elt Ideal) ℓ) (c : Dev nD) (t : Fin cfg0.N)

set_option maxHeartbeats 4000000 in
theorem C_20 (h : t.val = 15) (s : St Ideal) : (stepC m c t h s).o20 = k0_pay10 (View.ld (stepC m c t h s).o31 (Rect.unit ![0, 0] ![64, 512] inb_S512x512_S64x512_0_0)) := by
  unfold stepC atC mixRunC
  dsimp only
  sl_unfold_words
  rw [View.canon_unit_zero off3, View.readCov_eq_canon']

set_option maxHeartbeats 4000000 in
theorem C_22 (h : t.val = 15) (s : St Ideal) : (stepC m c t h s).o22 = k0_pay11 (View.ld (stepC m c t h s).o32 (Rect.unit ![0, 0] ![128, 1024] inb_S1024x1024_S128x1024_0_0)) := by
  unfold stepC atC mixRunC
  dsimp only
  sl_unfold_words
  rw [View.canon_unit_zero off3, View.readCov_eq_canon']

set_option maxHeartbeats 4000000 in
theorem C_24 (h : t.val = 15) (s : St Ideal) : (stepC m c t h s).o24 = k0_pay12 (View.ld (stepC m c t h s).o33 (Rect.unit ![0, 0] ![128, 1024] inb_S1024x1024_S128x1024_0_0)) := by
  unfold stepC atC mixRunC
  dsimp only
  sl_unfold_words
  rw [View.canon_unit_zero off3, View.readCov_eq_canon']

set_option maxHeartbeats 4000000 in
theorem C_26 (h : t.val = 15) (s : St Ideal) : (stepC m c t h s).o26 = k0_pay15 (View.ld (stepC m c t h s).o34 (Rect.unit ![0, 0] ![256, 128] inb_S256x1024_S256x128_0_0)) := by
  unfold stepC atC mixRunC
  dsimp only
  sl_unfold_words
  rw [View.canon_unit_zero off3, View.readCov_eq_canon']

/-- Column slab `n` of a carried sum. -/
def g29 (W : Vec Ideal S256x1024 .f32) (y : S8x256x128.Idx) : EReal :=
  W (ix2 ⟨(y 1).val, (y 1).isLt⟩ ⟨(y 0).val * 128 + (y 2).val, by
    have h0 : (y 0).val < 8 := (y 0).isLt
    have h2 : (y 2).val < 128 := (y 2).isLt
    omega⟩)

theorem slab_piece (W : Vec Ideal S256x1024 .f32) (j : Fin 8) (w : Vec Ideal S1x256x128 .bf16) (R : ℕ) (hR : R = 128 * j.val) (hb) (hx)
    (hw : ∀ k n, (w (ix3 0 k n) : EReal) = (View.ld W (Rect.unit (s := S256x1024) ![0, R] ![256, 128] hx) : Vec Ideal S256x128 .f32) (ix2 k n))
    (z : (Rect.unit (s := S8x256x128) ![j.val, 0, 0] ![1, 256, 128] hb).shape.Idx) :
    (w z : EReal) = g29 W ((Rect.unit (s := S8x256x128) ![j.val, 0, 0] ![1, 256, 128] hb).emb z) := by
  have hz : z = ix3 (n0 := 1) (n1 := 256) (n2 := 128) 0 (z 1) (z 2) :=
    (eq_ix3 z).trans (congrArg (fun q : Fin 1 => ix3 q (z 1) (z 2)) (Fin.fin_one_eq_zero (z 0)))
  have z0 : (z 0).val < 1 := (z 0).isLt
  refine (congrArg w hz).trans ((hw _ _).trans ?_)
  unfold g29
  refine View.ld_unit_apply_of W _ _ hx _ _ ?_
  have e0 : ((Rect.unit (s := S8x256x128) ![j.val, 0, 0] ![1, 256, 128] hb).emb z 0).val = j.val + (z 0).val := Rect.idx_unit_val _ _ hb z 0
  have e1 : ((Rect.unit (s := S8x256x128) ![j.val, 0, 0] ![1, 256, 128] hb).emb z 1).val = 0 + (z 1).val := Rect.idx_unit_val _ _ hb z 1
  have e2 : ((Rect.unit (s := S8x256x128) ![j.val, 0, 0] ![1, 256, 128] hb).emb z 2).val = 0 + (z 2).val := Rect.idx_unit_val _ _ hb z 2
  intro a
  fin_cases a
  · show _ = 0 + (z 1).val
    exact e1
  · show _ * 128 + _ = R + (z 2).val
    rw [e0, e2]; omega

/-- The eight slabs' stores. -/
def L29 (W : Vec Ideal S256x1024 .f32) : List (View.Piece (Elt Ideal) S8x256x128 .bf16) :=
  [⟨Rect.unit ![7, 0, 0] ![1, 256, 128] inb_S8x256x128_S1x256x128_7_0_0, k0_pay6 (View.ld W (Rect.unit ![0, 896] ![256, 128] inb_S256x1024_S256x128_0_896))⟩,
    ⟨Rect.unit ![6, 0, 0] ![1, 256, 128] inb_S8x256x128_S1x256x128_6_0_0, k0_pay5 (View.ld W (Rect.unit ![0, 768] ![256, 128] inb_S256x1024_S256x128_0_768))⟩,
    ⟨Rect.unit ![5, 0, 0] ![1, 256, 128] inb_S8x256x128_S1x256x128_5_0_0, k0_pay4 (View.ld W (Rect.unit ![0, 640] ![256, 128] inb_S256x1024_S256x128_0_640))⟩,
    ⟨Rect.unit ![4, 0, 0] ![1, 256, 128] inb_S8x256x128_S1x256x128_4_0_0, k0_pay19 (View.ld W (Rect.unit ![0, 512] ![256, 128] inb_S256x1024_S256x128_0_512))⟩,
    ⟨Rect.unit ![3, 0, 0] ![1, 256, 128] inb_S8x256x128_S1x256x128_3_0_0, k0_pay18 (View.ld W (Rect.unit ![0, 384] ![256, 128] inb_S256x1024_S256x128_0_384))⟩,
    ⟨Rect.unit ![2, 0, 0] ![1, 256, 128] inb_S8x256x128_S1x256x128_2_0_0, k0_pay17 (View.ld W (Rect.unit ![0, 256] ![256, 128] inb_S256x1024_S256x128_0_256))⟩,
    ⟨Rect.unit ![1, 0, 0] ![1, 256, 128] inb_S8x256x128_S1x256x128_1_0_0, k0_pay16 (View.ld W (Rect.unit ![0, 128] ![256, 128] inb_S256x1024_S256x128_0_128))⟩,
    ⟨Rect.unit ![0, 0, 0] ![1, 256, 128] inb_S8x256x128_S1x256x128_0_0_0, k0_pay14 (k0_pay13 (View.ld W (Rect.unit ![0, 0] ![256, 128] inb_S256x1024_S256x128_0_0)))⟩]

theorem L29_at (W : Vec Ideal S256x1024 .f32) (y : S8x256x128.Idx) : (View.canon (L29 W) y : EReal) = g29 W y := by
  refine View.canon_apply_of_pieces (g29 W) (L29 W) ?_ y (View.cover_of_tiledL (L29 W) S1x256x128.size (by sl_kernel_rfl) y)
  unfold L29
  simp only [List.forall_mem_cons]
  refine ⟨slab_piece W 7 _ _ rfl _ inb_S256x1024_S256x128_0_896 ?_, slab_piece W 6 _ _ rfl _ inb_S256x1024_S256x128_0_768 ?_, slab_piece W 5 _ _ rfl _ inb_S256x1024_S256x128_0_640 ?_, slab_piece W 4 _ _ rfl _ inb_S256x1024_S256x128_0_512 ?_, slab_piece W 3 _ _ rfl _ inb_S256x1024_S256x128_0_384 ?_, slab_piece W 2 _ _ rfl _ inb_S256x1024_S256x128_0_256 ?_, slab_piece W 1 _ _ rfl _ inb_S256x1024_S256x128_0_128 ?_, slab_piece W 0 _ _ rfl _ inb_S256x1024_S256x128_0_0 ?_,
    fun _ h => absurd h List.not_mem_nil⟩ <;>
  · intro k n
    pointwise [k0_pay4, k0_pay5, k0_pay6, k0_pay13, k0_pay14, k0_pay16, k0_pay17, k0_pay18, k0_pay19]

set_option maxHeartbeats 4000000 in
theorem C_29 (h : t.val = 15) (s : St Ideal) : (stepC m c t h s).o29 = View.canon (L29 (stepC m c t h s).o34) := by
  unfold stepC atC mixRunC
  dsimp only
  sl_unfold_words
  generalize k0_pay53 (F := Ideal) _ _ _ = W
  simp only [View.readCov_eq_canon']
  rfl

/-- The trips of a closing loop store blocks of rows of the rounded sum. -/
theorem loop1 (hc : cond0_1 (grid0.coords t)) (X : BufTy.Contents (Elt Ideal) scM0_1.view.ty) : ∀ n : Nat,
    ∀ p ∈ pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) scM0_0 (Memref.isWhole_whole _) scM0_1 (Memref.isWhole_whole _) scM0_2 (Memref.isWhole_whole _) scM0_3 (Memref.isWhole_whole _) hc X n, ∀ x : p.1.shape.Idx,
      p.2 x = (View.read (Elt Ideal) scM0_1.view X : Vec Ideal S1024x1024 .f32) (p.1.emb x)
  | 0 => fun p hp => absurd hp List.not_mem_nil
  | n + 1 => fun p hp => by
    rw [pb_k0_t1.eq_2] at hp
    unfold pb_k0_t1Step at hp
    split at hp
    · rcases List.mem_append.mp hp with h | h
      · unfold tripL_k0_t1 trip_k0_t1 at h
        obtain rfl := List.mem_singleton.mp h
        exact fun x => rfl
      · exact loop1 hc X n p h
    · exact loop1 hc X n p hp

set_option maxHeartbeats 4000000 in
theorem C_27 (h : t.val = 15) (s : St Ideal) (y : S1024x1024.Idx) : (stepC m c t h s).o27 y = (stepC m c t h s).o32 y := by
  have hcov := covC_27 m c t h s y
  unfold stepC
  dsimp only
  unfold atC mixRunC at hcov ⊢
  dsimp only at hcov ⊢
  rw [View.canon_apply_of_pieces _ _ (loop1 c t (last t h) _ _) y hcov]
  sl_unfold_words
  rw [View.read_writes_eq_canon _ _ _ (fun _ => ⟨_, List.mem_singleton_self _, View.mem_set_unit_zero off2 inb_S1024x1024_S1024x1024_0_0 _⟩)]

/-- The trips of a closing loop store blocks of rows of the rounded sum. -/
theorem loop2 (hc : cond0_1 (grid0.coords t)) (X : BufTy.Contents (Elt Ideal) scM0_2.view.ty) : ∀ n : Nat,
    ∀ p ∈ pb_k0_t2 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) scM0_0 (Memref.isWhole_whole _) scM0_1 (Memref.isWhole_whole _) scM0_2 (Memref.isWhole_whole _) scM0_3 (Memref.isWhole_whole _) hc X n, ∀ x : p.1.shape.Idx,
      p.2 x = (View.read (Elt Ideal) scM0_2.view X : Vec Ideal S1024x1024 .f32) (p.1.emb x)
  | 0 => fun p hp => absurd hp List.not_mem_nil
  | n + 1 => fun p hp => by
    rw [pb_k0_t2.eq_2] at hp
    unfold pb_k0_t2Step at hp
    split at hp
    · rcases List.mem_append.mp hp with h | h
      · unfold tripL_k0_t2 trip_k0_t2 at h
        obtain rfl := List.mem_singleton.mp h
        exact fun x => rfl
      · exact loop2 hc X n p h
    · exact loop2 hc X n p hp

set_option maxHeartbeats 4000000 in
theorem C_28 (h : t.val = 15) (s : St Ideal) (y : S1024x1024.Idx) : (stepC m c t h s).o28 y = (stepC m c t h s).o33 y := by
  have hcov := covC_28 m c t h s y
  unfold stepC
  dsimp only
  unfold atC mixRunC at hcov ⊢
  dsimp only at hcov ⊢
  rw [View.canon_apply_of_pieces _ _ (loop2 c t (last t h) _ _) y hcov]
  sl_unfold_words
  rw [View.read_writes_eq_canon _ _ _ (fun _ => ⟨_, List.mem_singleton_self _, View.mem_set_unit_zero off2 inb_S1024x1024_S1024x1024_0_0 _⟩)]

/-- The trips of a closing loop store blocks of rows of the rounded sum. -/
theorem loop3 (hc : cond0_1 (grid0.coords t)) (X : BufTy.Contents (Elt Ideal) scM0_0.view.ty) : ∀ n : Nat,
    ∀ p ∈ pb_k0_t3 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) scM0_0 (Memref.isWhole_whole _) scM0_1 (Memref.isWhole_whole _) scM0_2 (Memref.isWhole_whole _) scM0_3 (Memref.isWhole_whole _) hc X n, ∀ x : p.1.shape.Idx,
      p.2 x = (View.read (Elt Ideal) scM0_0.view X : Vec Ideal S512x512 .f32) (p.1.emb x)
  | 0 => fun p hp => absurd hp List.not_mem_nil
  | n + 1 => fun p hp => by
    rw [pb_k0_t3.eq_2] at hp
    unfold pb_k0_t3Step at hp
    split at hp
    · rcases List.mem_append.mp hp with h | h
      · unfold tripL_k0_t3 trip_k0_t3 at h
        obtain rfl := List.mem_singleton.mp h
        exact fun x => rfl
      · exact loop3 hc X n p h
    · exact loop3 hc X n p hp

set_option maxHeartbeats 4000000 in
theorem C_30 (h : t.val = 15) (s : St Ideal) (y : S512x512.Idx) : (stepC m c t h s).o30 y = (stepC m c t h s).o31 y := by
  have hcov := covC_30 m c t h s y
  unfold stepC
  dsimp only
  unfold atC mixRunC at hcov ⊢
  dsimp only at hcov ⊢
  rw [View.canon_apply_of_pieces _ _ (loop3 c t (last t h) _ _) y hcov]
  sl_unfold_words
  rw [View.read_writes_eq_canon _ _ _ (fun _ => ⟨_, List.mem_singleton_self _, View.mem_set_unit_zero off2 inb_S512x512_S512x512_0_0 _⟩)]

end Cert.MixBackIdeal.Own

end

end
-- ==== Proof.MixArr.lean ====
/-
The arrays the mix call leaves, over the real numbers.
-/
module

public import proofs.«01_k».proof.Proof.MixFold
public import proofs.«01_k».proof.Proof.MixLast

set_option maxRecDepth 16384

@[expose] public section

noncomputable section

namespace Cert.MixBackIdeal.Own

open Idealize.ShloMosaic Idealize.ShloMosaic.TcCoe Idealize.SL.Sem Idealize.ShloMosaic.Tactic
open Idealize.ShloMosaic.Pipeline (Dat)
open Cert.MixBackIdeal.Gen

/-- An array of real numbers with two axes, and with three. -/
def arr2 {a b : ℕ} (f : Fin a → Fin b → ℝ) (y : (⟨2, ![a, b]⟩ : Shape).Idx) : EReal := ((f (y 0) (y 1) : ℝ) : EReal)
def arr3 {a b d : ℕ} (f : Fin a → Fin b → Fin d → ℝ) (y : (⟨3, ![a, b, d]⟩ : Shape).Idx) : EReal := ((f (y 0) (y 1) (y 2) : ℝ) : EReal)

/-- A function of batch and token as one of the row. -/
def rows {b : ℕ} (f : Fin 2 → Fin 2048 → Fin b → ℝ) (T : Fin 4096) : Fin b → ℝ := f ⟨T.val / 2048, by omega⟩ ⟨T.val % 2048, by omega⟩

theorem idx_out : ∀ t : Fin cfg0.N,
    win0_14.index t = ![0, 0] ∧ win0_15.index t = ![t.val, 0] ∧ win0_16.index t = ![t.val, 0] ∧ win0_17.index t = ![t.val, 0] ∧
    win0_18.index t = ![t.val, 0] ∧ win0_19.index t = ![t.val, 0] ∧ win0_20.index t = ![0, 0, 0] ∧ win0_21.index t = ![0, 0] ∧
    win0_22.index t = ![0, 0, 0] ∧ win0_23.index t = ![0, 0] ∧ win0_24.index t = ![0, 0, 0] ∧ win0_25.index t = ![0, 0] ∧
    win0_26.index t = ![0, 0, 0] ∧ win0_27.index t = ![0, 0] ∧ win0_28.index t = ![0, 0] ∧ win0_29.index t = ![0, 0, 0] ∧
    win0_30.index t = ![0, 0] :=
  (by decide +kernel : ∀ t : Fin grid0.N, _)
theorem fl : ∀ t : Fin cfg0.N, (win0_14.flush t = true → t.val = 15) ∧ (win0_20.flush t = true → t.val = 15) ∧ (win0_21.flush t = true → t.val = 15) ∧
    (win0_22.flush t = true → t.val = 15) ∧ (win0_23.flush t = true → t.val = 15) ∧ (win0_24.flush t = true → t.val = 15) ∧
    (win0_25.flush t = true → t.val = 15) ∧ (win0_26.flush t = true → t.val = 15) ∧ (win0_27.flush t = true → t.val = 15) ∧
    (win0_28.flush t = true → t.val = 15) ∧ (win0_29.flush t = true → t.val = 15) ∧ (win0_30.flush t = true → t.val = 15) :=
  (by decide +kernel : ∀ t : Fin grid0.N, _)

theorem coords2 {a b : ℕ} (y : (⟨2, ![a, b]⟩ : Shape).Idx) : ∃ (p : Fin a) (q : Fin b), y = ix2 p q := ⟨y 0, y 1, eq_ix2 y⟩
theorem coords3 {a b d : ℕ} (y : (⟨3, ![a, b, d]⟩ : Shape).Idx) : ∃ (n : Fin a) (p : Fin b) (q : Fin d), y = ix3 n p q :=
  ⟨y 0, y 1, y 2, eq_ix3 y⟩

theorem sl_20 (W : Vec Ideal S512x512 .f32) (k : Fin 64) (j : Fin 512) :
    (k0_pay10 (F := Ideal) (View.ld W (Rect.unit ![0, 0] ![64, 512] inb_S512x512_S64x512_0_0)) (ix3 0 k j) : EReal) = W (ix2 ⟨k.val, by omega⟩ ⟨j.val, by omega⟩) := by
  pointwise [k0_pay10]

theorem sl_22 (W : Vec Ideal S1024x1024 .f32) (k : Fin 128) (j : Fin 1024) :
    (k0_pay11 (F := Ideal) (View.ld W (Rect.unit ![0, 0] ![128, 1024] inb_S1024x1024_S128x1024_0_0)) (ix3 0 k j) : EReal) = W (ix2 ⟨k.val, by omega⟩ ⟨j.val, by omega⟩) := by
  pointwise [k0_pay11]

theorem sl_24 (W : Vec Ideal S1024x1024 .f32) (k : Fin 128) (j : Fin 1024) :
    (k0_pay12 (F := Ideal) (View.ld W (Rect.unit ![0, 0] ![128, 1024] inb_S1024x1024_S128x1024_0_0)) (ix3 0 k j) : EReal) = W (ix2 ⟨k.val, by omega⟩ ⟨j.val, by omega⟩) := by
  pointwise [k0_pay12]

theorem sl_26 (W : Vec Ideal S256x1024 .f32) (k : Fin 256) (j : Fin 128) :
    (k0_pay15 (F := Ideal) (View.ld W (Rect.unit ![0, 0] ![256, 128] inb_S256x1024_S256x128_0_0)) (ix3 0 k j) : EReal) = W (ix2 ⟨k.val, by omega⟩ ⟨j.val, by omega⟩) := by
  pointwise [k0_pay15]

variable {m : (ℓ : Loc nD τ sig) → Buf (Elt Ideal) ℓ} {c : Dev nD} {D : Data} (h : IsM m c D)
include h

section
variable (t : Fin cfg0.N) (ht : t.val = 15)
include ht

theorem st_14 : ((st m c t.val t.isLt).o14 (ix2 0 0) : EReal) = ((D.L : ℝ) : EReal) := by
  have e := (sums_at h t.val t.isLt).o14
  rw [show t.val + 1 = 16 by omega, part_all] at e
  unfold Data.L
  simp only [← Finset.sum_mul] at e
  exact e

theorem st_21 (j : Fin 512) : ((st m c t.val t.isLt).o21 (ix2 0 j) : EReal) = ((D.gbU j : ℝ) : EReal) := by
  have e := (sums_at h t.val t.isLt).o21 j
  rw [show t.val + 1 = 16 by omega, part_all] at e
  exact e

theorem st_23 (j : Fin 1024) : ((st m c t.val t.isLt).o23 (ix2 0 j) : EReal) = ((D.gN j : ℝ) : EReal) := by
  have e := (sums_at h t.val t.isLt).o23 j
  rw [show t.val + 1 = 16 by omega, part_all] at e
  exact e

theorem st_25 (j : Fin 1024) : ((st m c t.val t.isLt).o25 (ix2 0 j) : EReal) = ((D.gbG j : ℝ) : EReal) := by
  have e := (sums_at h t.val t.isLt).o25 j
  rw [show t.val + 1 = 16 by omega, part_all] at e
  exact e

theorem st_31 (k j : Fin 512) : ((st m c t.val t.isLt).o31 (ix2 k j) : EReal) = ((D.gU k j : ℝ) : EReal) := by
  have e := (sums_at h t.val t.isLt).o31 k j
  rw [show t.val + 1 = 16 by omega, part_all] at e
  exact e

theorem st_32 (k j : Fin 1024) : ((st m c t.val t.isLt).o32 (ix2 k j) : EReal) = ((D.gO k j : ℝ) : EReal) := by
  have e := (sums_at h t.val t.isLt).o32 k j
  rw [show t.val + 1 = 16 by omega, part_all] at e
  exact e

theorem st_33 (k j : Fin 1024) : ((st m c t.val t.isLt).o33 (ix2 k j) : EReal) = ((D.gG k j : ℝ) : EReal) := by
  have e := (sums_at h t.val t.isLt).o33 k j
  rw [show t.val + 1 = 16 by omega, part_all] at e
  exact e

theorem st_34 (k : Fin 256) (j : Fin 1024) : ((st m c t.val t.isLt).o34 (ix2 k j) : EReal) = ((D.gP k j : ℝ) : EReal) := by
  have e := (sums_at h t.val t.isLt).o34 k j
  rw [show t.val + 1 = 16 by omega, part_all] at e
  exact e

theorem st_20 (k : Fin 64) (j : Fin 512) :
    ((st m c t.val t.isLt).o20 (ix3 0 k j) : EReal) = ((D.gU ⟨k.val, by omega⟩ ⟨j.val, by omega⟩ : ℝ) : EReal) := by
  have e := C_20 m c t ht (stPrev m c t)
  rw [← st_C m c t ht] at e
  exact (congrFun e _).trans ((sl_20 _ k j).trans (st_31 h t ht _ _))

theorem st_22 (k : Fin 128) (j : Fin 1024) :
    ((st m c t.val t.isLt).o22 (ix3 0 k j) : EReal) = ((D.gO ⟨k.val, by omega⟩ ⟨j.val, by omega⟩ : ℝ) : EReal) := by
  have e := C_22 m c t ht (stPrev m c t)
  rw [← st_C m c t ht] at e
  exact (congrFun e _).trans ((sl_22 _ k j).trans (st_32 h t ht _ _))

theorem st_24 (k : Fin 128) (j : Fin 1024) :
    ((st m c t.val t.isLt).o24 (ix3 0 k j) : EReal) = ((D.gG ⟨k.val, by omega⟩ ⟨j.val, by omega⟩ : ℝ) : EReal) := by
  have e := C_24 m c t ht (stPrev m c t)
  rw [← st_C m c t ht] at e
  exact (congrFun e _).trans ((sl_24 _ k j).trans (st_33 h t ht _ _))

theorem st_26 (k : Fin 256) (j : Fin 128) :
    ((st m c t.val t.isLt).o26 (ix3 0 k j) : EReal) = ((D.gP ⟨k.val, by omega⟩ ⟨j.val, by omega⟩ : ℝ) : EReal) := by
  have e := C_26 m c t ht (stPrev m c t)
  rw [← st_C m c t ht] at e
  exact (congrFun e _).trans ((sl_26 _ k j).trans (st_34 h t ht _ _))

theorem st_27 (k j : Fin 1024) : ((st m c t.val t.isLt).o27 (ix2 k j) : EReal) = ((D.gO k j : ℝ) : EReal) := by
  have e := C_27 m c t ht (stPrev m c t) (ix2 k j)
  rw [← st_C m c t ht] at e
  exact e.trans (st_32 h t ht _ _)

theorem st_28 (k j : Fin 1024) : ((st m c t.val t.isLt).o28 (ix2 k j) : EReal) = ((D.gG k j : ℝ) : EReal) := by
  have e := C_28 m c t ht (stPrev m c t) (ix2 k j)
  rw [← st_C m c t ht] at e
  exact e.trans (st_33 h t ht _ _)

theorem st_30 (k j : Fin 512) : ((st m c t.val t.isLt).o30 (ix2 k j) : EReal) = ((D.gU k j : ℝ) : EReal) := by
  have e := C_30 m c t ht (stPrev m c t) (ix2 k j)
  rw [← st_C m c t ht] at e
  exact e.trans (st_31 h t ht _ _)

theorem st_29 (n : Fin 8) (k : Fin 256) (j : Fin 128) :
    ((st m c t.val t.isLt).o29 (ix3 n k j) : EReal) = ((D.gP k ⟨n.val * 128 + j.val, by omega⟩ : ℝ) : EReal) := by
  have e := C_29 m c t ht (stPrev m c t)
  rw [← st_C m c t ht] at e
  exact (congrFun e _).trans ((L29_at _ _).trans (st_34 h t ht _ _))

end

theorem arr_15 : (dats m 0 c).arrAt 15 cfg0.N = arr2 (rows D.d1) := by
  refine (dats m 0 c).arrAt_eq_of_covers 15 _ (by decide +kernel) fun t hf y => ?_
  have hN := lt16 t
  blk_simp
  obtain ⟨p, q, rfl⟩ := coords2 (a := 256) (b := 1024) y
  obtain ⟨s, K⟩ := steps_at h t
  refine (congrFun K.o15 _).trans ((vD1 h t p q).trans ?_)
  rw [show (win0_15.blk t).view.emb (ix2 p q) = ix2 (n0 := 4096) ⟨256 * t.val + p.val, by omega⟩ q by blk_ext [idx_out t]]
  rfl

theorem arr_16 : (dats m 0 c).arrAt 16 cfg0.N = arr2 (rows D.dy) := by
  refine (dats m 0 c).arrAt_eq_of_covers 16 _ (by decide +kernel) fun t hf y => ?_
  have hN := lt16 t
  blk_simp
  obtain ⟨p, q, rfl⟩ := coords2 (a := 256) (b := 512) y
  obtain ⟨s, K⟩ := steps_at h t
  refine (congrFun K.o16 _).trans ((vDy h t p q).trans ?_)
  rw [show (win0_16.blk t).view.emb (ix2 p q) = ix2 (n0 := 4096) ⟨256 * t.val + p.val, by omega⟩ q by blk_ext [idx_out t]]
  rfl

theorem arr_17 : (dats m 0 c).arrAt 17 cfg0.N = arr2 (rows D.dzs) := by
  refine (dats m 0 c).arrAt_eq_of_covers 17 _ (by decide +kernel) fun t hf y => ?_
  have hN := lt16 t
  blk_simp
  obtain ⟨p, q, rfl⟩ := coords2 (a := 256) (b := 512) y
  obtain ⟨s, K⟩ := steps_at h t
  refine (congrFun K.o17 _).trans ((vDzs h t p q).trans ?_)
  rw [show (win0_17.blk t).view.emb (ix2 p q) = ix2 (n0 := 4096) ⟨256 * t.val + p.val, by omega⟩ q by blk_ext [idx_out t]]
  rfl

theorem arr_18 : (dats m 0 c).arrAt 18 cfg0.N = arr2 (rows D.dat) := by
  refine (dats m 0 c).arrAt_eq_of_covers 18 _ (by decide +kernel) fun t hf y => ?_
  have hN := lt16 t
  blk_simp
  obtain ⟨p, q, rfl⟩ := coords2 (a := 256) (b := 512) y
  obtain ⟨s, K⟩ := steps_at h t
  refine (congrFun K.o18 _).trans ((vDat h t p q).trans ?_)
  rw [show (win0_18.blk t).view.emb (ix2 p q) = ix2 (n0 := 4096) ⟨256 * t.val + p.val, by omega⟩ q by blk_ext [idx_out t]]
  rfl

theorem arr_19 : (dats m 0 c).arrAt 19 cfg0.N = arr2 (rows D.dza) := by
  refine (dats m 0 c).arrAt_eq_of_covers 19 _ (by decide +kernel) fun t hf y => ?_
  have hN := lt16 t
  blk_simp
  obtain ⟨p, q, rfl⟩ := coords2 (a := 256) (b := 512) y
  obtain ⟨s, K⟩ := steps_at h t
  refine (congrFun K.o19 _).trans ((vDza h t p q).trans ?_)
  rw [show (win0_19.blk t).view.emb (ix2 p q) = ix2 (n0 := 4096) ⟨256 * t.val + p.val, by omega⟩ q by blk_ext [idx_out t]]
  rfl

theorem arr_14 : (dats m 0 c).arrAt 14 cfg0.N = arr2 (fun _ _ => D.L) := by
  refine (dats m 0 c).arrAt_eq_of_covers 14 _ (by decide +kernel) fun t hf y => ?_
  have ht := (fl t).1 hf
  blk_simp
  obtain rfl : y = ix2 0 0 := (eq_ix2 (n0 := 1) (n1 := 1) y).trans (by rw [Fin.fin_one_eq_zero (y 0 : Fin 1), Fin.fin_one_eq_zero (y 1 : Fin 1)])
  refine (st_14 h t ht).trans ?_
  rw [show (win0_14.blk t).view.emb (ix2 (0 : Fin 1) (0 : Fin 1)) = (ix2 (0 : Fin 1) (0 : Fin 1)) by blk_ext [idx_out t]]
  rfl

theorem arr_21 : (dats m 0 c).arrAt 21 cfg0.N = arr2 (fun _ j => D.gbU j) := by
  refine (dats m 0 c).arrAt_eq_of_covers 21 _ (by decide +kernel) fun t hf y => ?_
  have ht := (fl t).2.2.1 hf
  blk_simp
  obtain ⟨k, q, rfl⟩ := coords2 (a := 1) (b := 512) y
  obtain rfl := Fin.fin_one_eq_zero k
  refine (st_21 h t ht q).trans ?_
  rw [show (win0_21.blk t).view.emb (ix2 (0 : Fin 1) q) = (ix2 (0 : Fin 1) q) by blk_ext [idx_out t]]
  rfl

theorem arr_23 : (dats m 0 c).arrAt 23 cfg0.N = arr2 (fun _ j => D.gN j) := by
  refine (dats m 0 c).arrAt_eq_of_covers 23 _ (by decide +kernel) fun t hf y => ?_
  have ht := (fl t).2.2.2.2.1 hf
  blk_simp
  obtain ⟨k, q, rfl⟩ := coords2 (a := 1) (b := 1024) y
  obtain rfl := Fin.fin_one_eq_zero k
  refine (st_23 h t ht q).trans ?_
  rw [show (win0_23.blk t).view.emb (ix2 (0 : Fin 1) q) = (ix2 (0 : Fin 1) q) by blk_ext [idx_out t]]
  rfl

theorem arr_25 : (dats m 0 c).arrAt 25 cfg0.N = arr2 (fun _ j => D.gbG j) := by
  refine (dats m 0 c).arrAt_eq_of_covers 25 _ (by decide +kernel) fun t hf y => ?_
  have ht := (fl t).2.2.2.2.2.2.1 hf
  blk_simp
  obtain ⟨k, q, rfl⟩ := coords2 (a := 1) (b := 1024) y
  obtain rfl := Fin.fin_one_eq_zero k
  refine (st_25 h t ht q).trans ?_
  rw [show (win0_25.blk t).view.emb (ix2 (0 : Fin 1) q) = (ix2 (0 : Fin 1) q) by blk_ext [idx_out t]]
  rfl

theorem arr_27 : (dats m 0 c).arrAt 27 cfg0.N = arr2 (D.gO) := by
  refine (dats m 0 c).arrAt_eq_of_covers 27 _ (by decide +kernel) fun t hf y => ?_
  have ht := (fl t).2.2.2.2.2.2.2.2.1 hf
  blk_simp
  obtain ⟨k, q, rfl⟩ := coords2 (a := 1024) (b := 1024) y
  refine (st_27 h t ht k q).trans ?_
  rw [show (win0_27.blk t).view.emb (ix2 k q) = (ix2 k q) by blk_ext [idx_out t]]
  rfl

theorem arr_28 : (dats m 0 c).arrAt 28 cfg0.N = arr2 (D.gG) := by
  refine (dats m 0 c).arrAt_eq_of_covers 28 _ (by decide +kernel) fun t hf y => ?_
  have ht := (fl t).2.2.2.2.2.2.2.2.2.1 hf
  blk_simp
  obtain ⟨k, q, rfl⟩ := coords2 (a := 1024) (b := 1024) y
  refine (st_28 h t ht k q).trans ?_
  rw [show (win0_28.blk t).view.emb (ix2 k q) = (ix2 k q) by blk_ext [idx_out t]]
  rfl

theorem arr_30 : (dats m 0 c).arrAt 30 cfg0.N = arr2 (D.gU) := by
  refine (dats m 0 c).arrAt_eq_of_covers 30 _ (by decide +kernel) fun t hf y => ?_
  have ht := (fl t).2.2.2.2.2.2.2.2.2.2.2 hf
  blk_simp
  obtain ⟨k, q, rfl⟩ := coords2 (a := 512) (b := 512) y
  refine (st_30 h t ht k q).trans ?_
  rw [show (win0_30.blk t).view.emb (ix2 k q) = (ix2 k q) by blk_ext [idx_out t]]
  rfl

theorem arr_20 : (dats m 0 c).arrAt 20 cfg0.N = arr3 (a := 1) (b := 64) (d := 512) (fun _ k j => D.gU ⟨k.val, by omega⟩ ⟨j.val, by omega⟩) := by
  refine (dats m 0 c).arrAt_eq_of_covers 20 _ (by decide +kernel) fun t hf y => ?_
  have ht := (fl t).2.1 hf
  blk_simp
  obtain ⟨n, k, q, rfl⟩ := coords3 (a := 1) (b := 64) (d := 512) y
  obtain rfl := Fin.fin_one_eq_zero n
  refine (st_20 h t ht k q).trans ?_
  rw [show (win0_20.blk t).view.emb (ix3 (0 : Fin 1) k q) = (ix3 (0 : Fin 1) k q) by blk_ext [idx_out t]]
  rfl

theorem arr_22 : (dats m 0 c).arrAt 22 cfg0.N = arr3 (a := 1) (b := 128) (d := 1024) (fun _ k j => D.gO ⟨k.val, by omega⟩ ⟨j.val, by omega⟩) := by
  refine (dats m 0 c).arrAt_eq_of_covers 22 _ (by decide +kernel) fun t hf y => ?_
  have ht := (fl t).2.2.2.1 hf
  blk_simp
  obtain ⟨n, k, q, rfl⟩ := coords3 (a := 1) (b := 128) (d := 1024) y
  obtain rfl := Fin.fin_one_eq_zero n
  refine (st_22 h t ht k q).trans ?_
  rw [show (win0_22.blk t).view.emb (ix3 (0 : Fin 1) k q) = (ix3 (0 : Fin 1) k q) by blk_ext [idx_out t]]
  rfl

theorem arr_24 : (dats m 0 c).arrAt 24 cfg0.N = arr3 (a := 1) (b := 128) (d := 1024) (fun _ k j => D.gG ⟨k.val, by omega⟩ ⟨j.val, by omega⟩) := by
  refine (dats m 0 c).arrAt_eq_of_covers 24 _ (by decide +kernel) fun t hf y => ?_
  have ht := (fl t).2.2.2.2.2.1 hf
  blk_simp
  obtain ⟨n, k, q, rfl⟩ := coords3 (a := 1) (b := 128) (d := 1024) y
  obtain rfl := Fin.fin_one_eq_zero n
  refine (st_24 h t ht k q).trans ?_
  rw [show (win0_24.blk t).view.emb (ix3 (0 : Fin 1) k q) = (ix3 (0 : Fin 1) k q) by blk_ext [idx_out t]]
  rfl

theorem arr_26 : (dats m 0 c).arrAt 26 cfg0.N = arr3 (a := 1) (b := 256) (d := 128) (fun _ k j => D.gP ⟨k.val, by omega⟩ ⟨j.val, by omega⟩) := by
  refine (dats m 0 c).arrAt_eq_of_covers 26 _ (by decide +kernel) fun t hf y => ?_
  have ht := (fl t).2.2.2.2.2.2.2.1 hf
  blk_simp
  obtain ⟨n, k, q, rfl⟩ := coords3 (a := 1) (b := 256) (d := 128) y
  obtain rfl := Fin.fin_one_eq_zero n
  refine (st_26 h t ht k q).trans ?_
  rw [show (win0_26.blk t).view.emb (ix3 (0 : Fin 1) k q) = (ix3 (0 : Fin 1) k q) by blk_ext [idx_out t]]
  rfl

theorem arr_29 : (dats m 0 c).arrAt 29 cfg0.N = arr3 (a := 8) (b := 256) (d := 128) (fun n k j => D.gP k ⟨n.val * 128 + j.val, by omega⟩) := by
  refine (dats m 0 c).arrAt_eq_of_covers 29 _ (by decide +kernel) fun t hf y => ?_
  have ht := (fl t).2.2.2.2.2.2.2.2.2.2.1 hf
  blk_simp
  obtain ⟨n, k, q, rfl⟩ := coords3 (a := 8) (b := 256) (d := 128) y
  refine (st_29 h t ht n k q).trans ?_
  rw [show (win0_29.blk t).view.emb (ix3 n k q) = (ix3 n k q) by blk_ext [idx_out t]]
  rfl

end Cert.MixBackIdeal.Own

end

end
-- ==== Proof.MixRef.lean ====
/-
The reference of the mix call, read at an index, as the same real numbers.
-/
module

public import proofs.«01_k».proof.Proof.MixReal
public import proofs.«01_k».proof.Proof.Fold
public import proofs.«01_k».proof.Proof.Gen.MixBackRefIdeal.Read

set_option maxRecDepth 16384

@[expose] public section

noncomputable section

namespace Cert.MixBackIdeal.Own

open Idealize.ShloMosaic Idealize.ShloMosaic.TcCoe Idealize.SL.Sem
open Cert.MixBackRefIdeal.Read
open Cert.MixBackRefIdeal (S2x2048x1024 S2x2048x512 S1x2x2048x256 S1x512x512 S1x512 S1x1024x1024 S1x1024 S1x256x1024)

theorem one_c' : (1 : EReal) = ((1 : ℝ) : EReal) := rfl

/-- What the norm's backward pass sends on, in the two ways of writing it. -/
theorem dm_eq {D : Data} (b : Fin 2) (s : Fin 2048) (j : Fin 1024) :
    D.du b s j * D.r b s + D.mx b s j * ((∑ e : Fin 1024, D.mx b s e * D.du b s e) * (-(1 / 2) * (D.r b s * (D.ms b s)⁻¹)) / 1024)
      + (∑ e : Fin 1024, D.mx b s e * D.du b s e) * (-(1 / 2) * (D.r b s * (D.ms b s)⁻¹)) / 1024 * D.mx b s j = D.dm b s j := by
  have e : ∑ e : Fin 1024, D.du b s e * D.nh b s e = (∑ e : Fin 1024, D.mx b s e * D.du b s e) * D.r b s := by
    rw [Finset.sum_mul]
    exact Finset.sum_congr rfl fun e _ => by unfold Data.nh; ring
  unfold Data.dm
  rw [e, ← D.r_sq b s]
  unfold Data.nh
  ring

theorem t0 : val_main_v0 (F := Ideal) ix0 = ((8943 / 200000 : ℝ) : EReal) := by
  pointwise [val_main_v0, val_main_cst, val_main_cst_0]
  simp only [kNum, kDen]
  rw [Own.div_coe_coe _ _ (by norm_num)]
  norm_num

section
variable {D : Data} {x0 : Vec Ideal S2x2048x1024 .f32} {x1 x2 x3 x4 : Vec Ideal S2x2048x512 .f32} {x5 : Vec Ideal S1x2x2048x256 .f32}
  {x6 : Vec Ideal S2x2048x1024 .f32} {x7 : Vec Ideal S1x512x512 .f32} {x8 : Vec Ideal S1x512 .f32} {x9 : Vec Ideal S1x1024x1024 .f32}
  {x10 : Vec Ideal S1x1024 .f32} {x11 : Vec Ideal S1x256x1024 .f32} {x12 : Vec Ideal S1x1024x1024 .f32} {x13 : Vec Ideal S1x1024 .f32}
  (h : Is x0 x1 x2 x3 x4 x5 x6 x7 x8 x9 x10 x11 x12 x13 D)

include h

variable (b : Fin 2) (s : Fin 2048)

theorem rTh (j : Fin 512) : val_main_v11 x1 (ix3 b s j) = ((D.th b s j : ℝ) : EReal) := by
  pointwise [val_main_v11, val_main_v10, val_main_v9, val_main_v8, val_main_v7, val_main_v6, val_main_v2, val_main_v1, val_main_cst_2]
  simp only [h.y, t0, kC]
  simp only [one_c', ← EReal.coe_mul, ← EReal.coe_add, ← EReal.coe_sub, ← Own.coe_sum]
  refine congrArg Real.toEReal ?_
  unfold Data.th
  refine congrArg Real.tanh ?_
  ring

theorem r20 (j : Fin 512) : val_main_v20 x1 (ix3 b s j) = ((1 / 2 * (1 + D.th b s j) : ℝ) : EReal) := by
  pointwise [val_main_v20, val_main_v19, val_main_v18, val_main_v17, val_main_cst_5, val_main_cst_6]
  simp only [rTh h, kH]
  simp only [one_c', ← EReal.coe_mul, ← EReal.coe_add, ← EReal.coe_sub, ← Own.coe_sum]

theorem rGl (j : Fin 512) : val_main_v21 x1 (ix3 b s j) = ((D.gl b s j : ℝ) : EReal) := by
  pointwise [val_main_v21]
  simp only [r20 h, h.y]
  simp only [one_c', ← EReal.coe_mul, ← EReal.coe_add, ← EReal.coe_sub, ← Own.coe_sum]
  refine congrArg Real.toEReal ?_
  unfold Data.gl
  ring

theorem r16 (j : Fin 512) : val_main_v16 x1 (ix3 b s j) = (((1 + D.th b s j) * (1 - D.th b s j) : ℝ) : EReal) := by
  pointwise [val_main_v16, val_main_v15, val_main_v14, val_main_v13, val_main_v12, val_main_cst_3, val_main_cst_4]
  simp only [rTh h]
  simp only [one_c', ← EReal.coe_mul, ← EReal.coe_add, ← EReal.coe_sub, ← Own.coe_sum]

theorem rSa (j : Fin 512) : val_main_v33 x1 x7 x8 (ix3 b s j) = ((D.sa b s j : ℝ) : EReal) := by
  pointwise [val_main_v33, val_main_v32, val_main_v31, val_main_v30, val_main_v29, val_main_v28, val_main_v27, val_main_v26, val_main_v25, val_main_v24, val_main_v23, val_main_v22, val_main_cst_7, val_main_cst_8]
  simp only [rGl h, h.wu, h.bu, ← EReal.coe_mul, ← Own.coe_sum]
  exact sg_eq _

theorem r36 (j : Fin 512) : val_main_v36 x1 x7 x8 (ix3 b s j) = ((D.sa b s j * (1 - D.sa b s j) : ℝ) : EReal) := by
  pointwise [val_main_v36, val_main_v35, val_main_v34, val_main_cst_9]
  simp only [rSa h]
  simp only [one_c', ← EReal.coe_mul, ← EReal.coe_add, ← EReal.coe_sub, ← Own.coe_sum]

theorem rGlu (j : Fin 512) : val_main_v37 x1 x7 x8 (ix3 b s j) = ((D.glu b s j : ℝ) : EReal) := by
  pointwise [val_main_v37]
  simp only [rGl h, rSa h]
  simp only [one_c', ← EReal.coe_mul, ← EReal.coe_add, ← EReal.coe_sub, ← Own.coe_sum]
  rfl

theorem r38_2 (j : Fin 512) : val_main_v38_2 (F := Ideal) x2 (ix3 b s j) = ((D.ss b s j : ℝ) : EReal) := by
  pointwise [val_main_v38_2, val_main_call0_v0, val_main_call0_v1, val_main_call0_cst, val_main_call0_v2, val_main_call0_v3, val_main_call0_cst_0, val_main_call0_v4]
  simp only [h.zs]
  exact sg_eq _

theorem r38_1 (j : Fin 512) : val_main_v38_1 (F := Ideal) x2 (ix3 b s j) = ((D.ss b s j * (1 - D.ss b s j) : ℝ) : EReal) := by
  pointwise [val_main_v38_1, val_main_call0_cst_1, val_main_call0_v6, val_main_call0_v7]
  simp only [r38_2 h]
  simp only [one_c', ← EReal.coe_mul, ← EReal.coe_add, ← EReal.coe_sub, ← Own.coe_sum]

theorem r38_0 (j : Fin 512) : val_main_v38_0 (F := Ideal) x2 (ix3 b s j) = ((D.zs b s j * D.ss b s j : ℝ) : EReal) := by
  pointwise [val_main_v38_0]
  simp only [r38_2 h, h.zs]
  simp only [one_c', ← EReal.coe_mul, ← EReal.coe_add, ← EReal.coe_sub, ← Own.coe_sum]

theorem r40_2 (j : Fin 512) : val_main_v40_2 (F := Ideal) x4 (ix3 b s j) = ((D.sA b s j : ℝ) : EReal) := by
  pointwise [val_main_v40_2, val_main_call1_v0, val_main_call1_v1, val_main_call1_cst, val_main_call1_v2, val_main_call1_v3, val_main_call1_cst_0, val_main_call1_v4]
  simp only [h.za]
  exact sg_eq _

theorem r40_1 (j : Fin 512) : val_main_v40_1 (F := Ideal) x4 (ix3 b s j) = ((D.sA b s j * (1 - D.sA b s j) : ℝ) : EReal) := by
  pointwise [val_main_v40_1, val_main_call1_cst_1, val_main_call1_v6, val_main_call1_v7]
  simp only [r40_2 h]
  simp only [one_c', ← EReal.coe_mul, ← EReal.coe_add, ← EReal.coe_sub, ← Own.coe_sum]

theorem r40_0 (j : Fin 512) : val_main_v40_0 (F := Ideal) x4 (ix3 b s j) = ((D.za b s j * D.sA b s j : ℝ) : EReal) := by
  pointwise [val_main_v40_0]
  simp only [r40_2 h, h.za]
  simp only [one_c', ← EReal.coe_mul, ← EReal.coe_add, ← EReal.coe_sub, ← Own.coe_sum]

theorem rSo (j : Fin 512) : val_main_v39 x1 x2 x7 x8 (ix3 b s j) = ((D.so b s j : ℝ) : EReal) := by
  pointwise [val_main_v39]
  simp only [rGlu h, r38_0 h]
  simp only [one_c', ← EReal.coe_mul, ← EReal.coe_add, ← EReal.coe_sub, ← Own.coe_sum]
  rfl

theorem rAo (j : Fin 512) : val_main_v41 x3 x4 (ix3 b s j) = ((D.ao b s j : ℝ) : EReal) := by
  pointwise [val_main_v41]
  simp only [r40_0 h, h.at']
  simp only [one_c', ← EReal.coe_mul, ← EReal.coe_add, ← EReal.coe_sub, ← Own.coe_sum]
  rfl

theorem rCat (j : Fin 1024) : val_main_v42 x1 x2 x3 x4 x7 x8 (ix3 b s j) = ((D.cat b s j : ℝ) : EReal) := by
  pointwise [val_main_v42]
  simp only [rSo h, rAo h]
  unfold Data.cat
  split <;> rfl

theorem rMx (j : Fin 1024) : val_main_v44 x1 x2 x3 x4 x7 x8 x9 (ix3 b s j) = ((D.mx b s j : ℝ) : EReal) := by
  pointwise [val_main_v44, val_main_v43]
  simp only [rCat h, h.wo]
  simp only [one_c', ← EReal.coe_mul, ← EReal.coe_add, ← EReal.coe_sub, ← Own.coe_sum]
  rfl

theorem rMs : val_main_v52 x1 x2 x3 x4 x7 x8 x9 (ix3 b s 0) = ((D.ms b s : ℝ) : EReal) := by
  pointwise [val_main_v52, val_main_v51, val_main_v50, val_main_v49, val_main_v48, val_main_v47, val_main_v46, val_main_cst_10, val_main_cst_11, val_main_cst_12]
  simp only [rMx h, ← EReal.coe_mul, ← Own.coe_sum, Own.k1024, Own.kEps]
  rw [Own.div_coe_coe _ _ (by norm_num), ← EReal.coe_add]
  rfl

theorem rR : val_main_v53 x1 x2 x3 x4 x7 x8 x9 (ix3 b s 0) = ((D.r b s : ℝ) : EReal) := by
  pointwise [val_main_v53]
  simp only [rMs h]
  exact Own.rsqrt_pos _ (D.ms_pos b s)

theorem r56 : val_main_v56 x1 x2 x3 x4 x7 x8 x9 (ix3 b s 0) = ((-(1 / 2) * (D.r b s * (D.ms b s)⁻¹) : ℝ) : EReal) := by
  pointwise [val_main_v56, val_main_v55, val_main_v54, val_main_cst_13]
  simp only [rR h, rMs h, Own.kHalf]
  rw [Own.div_coe_coe _ _ (D.ms_pos b s).ne', ← EReal.coe_mul]
  refine congrArg Real.toEReal ?_
  ring

theorem rNh (j : Fin 1024) : val_main_v58 x1 x2 x3 x4 x7 x8 x9 (ix3 b s j) = ((D.nh b s j : ℝ) : EReal) := by
  pointwise [val_main_v58, val_main_v57]
  simp only [rMx h, rR h]
  simp only [one_c', ← EReal.coe_mul, ← EReal.coe_add, ← EReal.coe_sub, ← Own.coe_sum]
  rfl

theorem rH1 (j : Fin 1024) : val_main_v62 x0 x1 x2 x3 x4 x7 x8 x9 x10 (ix3 b s j) = ((D.h1 b s j : ℝ) : EReal) := by
  pointwise [val_main_v62, val_main_v61, val_main_v60, val_main_v59, val_main_v45]
  simp only [rNh h, h.gp, h.x]
  simp only [one_c', ← EReal.coe_mul, ← EReal.coe_add, ← EReal.coe_sub, ← Own.coe_sum]
  rfl

theorem rGt (j : Fin 1024) : val_main_v74 x0 x1 x2 x3 x4 x7 x8 x9 x10 x12 x13 (ix3 b s j) = ((D.gt b s j : ℝ) : EReal) := by
  pointwise [val_main_v74, val_main_v73, val_main_v72, val_main_v71, val_main_v70, val_main_v69, val_main_v68, val_main_v67, val_main_v66, val_main_v65, val_main_v64, val_main_v63, val_main_cst_14, val_main_cst_15]
  simp only [rH1 h, h.wg, h.bg, ← EReal.coe_mul, ← Own.coe_sum]
  exact sg_eq _

theorem r77 (j : Fin 1024) : val_main_v77 x0 x1 x2 x3 x4 x7 x8 x9 x10 x12 x13 (ix3 b s j) = ((D.gt b s j * (1 - D.gt b s j) : ℝ) : EReal) := by
  pointwise [val_main_v77, val_main_v76, val_main_v75, val_main_cst_16]
  simp only [rGt h]
  simp only [one_c', ← EReal.coe_mul, ← EReal.coe_add, ← EReal.coe_sub, ← Own.coe_sum]

theorem r78 (j : Fin 256) : val_main_v78 x5 (ix3 b s j) = ((D.p b s j : ℝ) : EReal) := by
  pointwise [val_main_v78]
  simp only [h.p]

theorem rPp (j : Fin 1024) : val_main_v80 x5 x11 (ix3 b s j) = ((D.pp b s j : ℝ) : EReal) := by
  pointwise [val_main_v80, val_main_v79]
  simp only [r78 h, h.wp]
  simp only [one_c', ← EReal.coe_mul, ← EReal.coe_add, ← EReal.coe_sub, ← Own.coe_sum]
  rfl

theorem rEr (j : Fin 1024) : val_main_v83 x0 x1 x2 x3 x4 x5 x6 x7 x8 x9 x10 x11 x12 x13 (ix3 b s j) = ((D.er b s j : ℝ) : EReal) := by
  pointwise [val_main_v83, val_main_v82, val_main_v81]
  simp only [rH1 h, rGt h, rPp h, h.tg]
  simp only [one_c', ← EReal.coe_mul, ← EReal.coe_add, ← EReal.coe_sub, ← Own.coe_sum]
  rfl

theorem rD2 (j : Fin 1024) : val_main_v97 x0 x1 x2 x3 x4 x5 x6 x7 x8 x9 x10 x11 x12 x13 (ix3 b s j) = ((D.d2 b s j : ℝ) : EReal) := by
  pointwise [val_main_v97, val_main_v96, val_main_v95, val_main_v94, val_main_v93, val_main_v92, val_main_v86, val_main_v85, val_main_cst_17, val_main_cst_22, val_main_cst_23, val_main_cst_24]
  simp only [rEr h, kTwo, kH, Own.k1024, ← EReal.coe_mul]
  rw [Own.div_coe_coe _ _ (by norm_num), ← EReal.coe_mul]
  refine congrArg Real.toEReal ?_
  unfold Data.d2
  ring

theorem rDpp (j : Fin 1024) : val_main_v98 x0 x1 x2 x3 x4 x5 x6 x7 x8 x9 x10 x11 x12 x13 (ix3 b s j) = ((D.dpp b s j : ℝ) : EReal) := by
  pointwise [val_main_v98]
  simp only [rGt h, rD2 h]
  simp only [one_c', ← EReal.coe_mul, ← EReal.coe_add, ← EReal.coe_sub, ← Own.coe_sum]
  refine congrArg Real.toEReal ?_
  unfold Data.dpp
  ring

theorem rDgp (j : Fin 1024) : val_main_v103 x0 x1 x2 x3 x4 x5 x6 x7 x8 x9 x10 x11 x12 x13 (ix3 b s j) = ((D.dgp b s j : ℝ) : EReal) := by
  pointwise [val_main_v103, val_main_v99]
  simp only [r77 h, rD2 h, rPp h]
  simp only [one_c', ← EReal.coe_mul, ← EReal.coe_add, ← EReal.coe_sub, ← Own.coe_sum]
  refine congrArg Real.toEReal ?_
  unfold Data.dgp
  ring

theorem rD1 (j : Fin 1024) : val_main_v111 x0 x1 x2 x3 x4 x5 x6 x7 x8 x9 x10 x11 x12 x13 (ix3 b s j) = ((D.d1 b s j : ℝ) : EReal) := by
  pointwise [val_main_v111, val_main_v110, val_main_v63]
  simp only [rDgp h, rD2 h, h.wg]
  simp only [one_c', ← EReal.coe_mul, ← EReal.coe_add, ← EReal.coe_sub, ← Own.coe_sum]
  rfl

theorem rDu (j : Fin 1024) : val_main_v117 x0 x1 x2 x3 x4 x5 x6 x7 x8 x9 x10 x11 x12 x13 (ix3 b s j) = ((D.du b s j : ℝ) : EReal) := by
  pointwise [val_main_v117, val_main_v116, val_main_v59, val_main_v45]
  simp only [rD1 h, h.gp]
  simp only [one_c', ← EReal.coe_mul, ← EReal.coe_add, ← EReal.coe_sub, ← Own.coe_sum]
  rfl

theorem r127 : val_main_v127 x0 x1 x2 x3 x4 x5 x6 x7 x8 x9 x10 x11 x12 x13 (ix2 b s) = (((∑ e : Fin 1024, D.mx b s e * D.du b s e) * (-(1 / 2) * (D.r b s * (D.ms b s)⁻¹)) / 1024 : ℝ) : EReal) := by
  pointwise [val_main_v127, val_main_v126, val_main_v125, val_main_v124, val_main_v121, val_main_v120, val_main_v119, val_main_cst_29, val_main_cst_30, val_main_cst_31]
  simp only [rMx h, rDu h, r56 h, Own.k1024, Fin.sum_univ_one, ← EReal.coe_mul, ← Own.coe_sum]
  rw [Own.div_coe_coe _ _ (by norm_num)]

theorem rDm (j : Fin 1024) : val_main_v132 x0 x1 x2 x3 x4 x5 x6 x7 x8 x9 x10 x11 x12 x13 (ix3 b s j) = ((D.dm b s j : ℝ) : EReal) := by
  pointwise [val_main_v132, val_main_v131, val_main_v130, val_main_v129, val_main_v128, val_main_v123, val_main_v122]
  simp only [rMx h, rDu h, rR h, r127 h]
  simp only [one_c', ← EReal.coe_mul, ← EReal.coe_add, ← EReal.coe_sub, ← Own.coe_sum]
  refine congrArg Real.toEReal ?_
  exact dm_eq b s j

theorem rDc (j : Fin 1024) : val_main_v136 x0 x1 x2 x3 x4 x5 x6 x7 x8 x9 x10 x11 x12 x13 (ix3 b s j) = ((D.dc b s j : ℝ) : EReal) := by
  pointwise [val_main_v136, val_main_v43]
  simp only [rDm h, h.wo]
  simp only [one_c', ← EReal.coe_mul, ← EReal.coe_add, ← EReal.coe_sub, ← Own.coe_sum]
  rfl

theorem rDso (j : Fin 512) : val_main_v138 x0 x1 x2 x3 x4 x5 x6 x7 x8 x9 x10 x11 x12 x13 (ix3 b s j) = ((D.dso b s j : ℝ) : EReal) := by
  pointwise [val_main_v138]
  simp only [rDc h]
  rfl

theorem rDao (j : Fin 512) : val_main_v139 x0 x1 x2 x3 x4 x5 x6 x7 x8 x9 x10 x11 x12 x13 (ix3 b s j) = ((D.dao b s j : ℝ) : EReal) := by
  pointwise [val_main_v139]
  simp only [rDc h]
  rfl

theorem rDat (j : Fin 512) : val_main_v141 x0 x1 x2 x3 x4 x5 x6 x7 x8 x9 x10 x11 x12 x13 (ix3 b s j) = ((D.dat b s j : ℝ) : EReal) := by
  pointwise [val_main_v141]
  simp only [rDao h, r40_0 h]
  simp only [one_c', ← EReal.coe_mul, ← EReal.coe_add, ← EReal.coe_sub, ← Own.coe_sum]
  rfl

theorem rDza (j : Fin 512) : val_main_v142 x0 x1 x2 x3 x4 x5 x6 x7 x8 x9 x10 x11 x12 x13 (ix3 b s j) = ((D.dza b s j : ℝ) : EReal) := by
  pointwise [val_main_v142, val_main_call2_v0, val_main_call2_v1, val_main_call2_v2, val_main_v140]
  simp only [rDao h, r40_1 h, r40_2 h, h.za, h.at']
  simp only [one_c', ← EReal.coe_mul, ← EReal.coe_add, ← EReal.coe_sub, ← Own.coe_sum]
  refine congrArg Real.toEReal ?_
  unfold Data.dza
  ring

theorem rDzs (j : Fin 512) : val_main_v145 x0 x1 x2 x3 x4 x5 x6 x7 x8 x9 x10 x11 x12 x13 (ix3 b s j) = ((D.dzs b s j : ℝ) : EReal) := by
  pointwise [val_main_v145, val_main_call3_v0, val_main_call3_v1, val_main_call3_v2, val_main_v143]
  simp only [rDso h, rGlu h, r38_1 h, r38_2 h, h.zs]
  simp only [one_c', ← EReal.coe_mul, ← EReal.coe_add, ← EReal.coe_sub, ← Own.coe_sum]
  refine congrArg Real.toEReal ?_
  unfold Data.dzs
  ring

theorem rDg (j : Fin 512) : val_main_v144 x0 x1 x2 x3 x4 x5 x6 x7 x8 x9 x10 x11 x12 x13 (ix3 b s j) = ((D.dg b s j : ℝ) : EReal) := by
  pointwise [val_main_v144]
  simp only [rDso h, r38_0 h]
  simp only [one_c', ← EReal.coe_mul, ← EReal.coe_add, ← EReal.coe_sub, ← Own.coe_sum]
  rfl

theorem rDa (j : Fin 512) : val_main_v148 x0 x1 x2 x3 x4 x5 x6 x7 x8 x9 x10 x11 x12 x13 (ix3 b s j) = ((D.da b s j : ℝ) : EReal) := by
  pointwise [val_main_v148, val_main_v146]
  simp only [rGl h, rDg h, r36 h]
  simp only [one_c', ← EReal.coe_mul, ← EReal.coe_add, ← EReal.coe_sub, ← Own.coe_sum]
  refine congrArg Real.toEReal ?_
  unfold Data.da
  ring

theorem rDy (j : Fin 512) : val_main_v169 x0 x1 x2 x3 x4 x5 x6 x7 x8 x9 x10 x11 x12 x13 (ix3 b s j) = ((D.dy b s j : ℝ) : EReal) := by
  pointwise [val_main_v169, val_main_v168, val_main_v167, val_main_v166, val_main_v165, val_main_v164, val_main_v163, val_main_v162, val_main_v161, val_main_v160, val_main_v159, val_main_v158, val_main_v156, val_main_v155, val_main_v147, val_main_v22, val_main_v5, val_main_v4, val_main_v3, val_main_cst_1, val_main_cst_34, val_main_cst_35]
  simp only [rDg h, rSa h, rDa h, h.wu, h.y, t0, kThree, kC, kH, r20 h, r16 h]
  simp only [one_c', ← EReal.coe_mul, ← EReal.coe_add, ← EReal.coe_sub, ← Own.coe_sum]
  refine congrArg Real.toEReal ?_
  unfold Data.dy
  ring

theorem rgP (k : Fin 256) (d : Fin 1024) : val_main_v102 x0 x1 x2 x3 x4 x5 x6 x7 x8 x9 x10 x11 x12 x13 (ix3 0 k d) = ((D.gP k d : ℝ) : EReal) := by
  pointwise [val_main_v102, val_main_v101, val_main_v100]
  simp only [rDpp h, r78 h]
  simp only [one_c', ← EReal.coe_mul, ← EReal.coe_add, ← EReal.coe_sub, ← Own.coe_sum]
  refine congrArg Real.toEReal (Finset.sum_congr rfl fun b _ => Finset.sum_congr rfl fun s _ => ?_)
  ring

theorem rgG (k d : Fin 1024) : val_main_v109 x0 x1 x2 x3 x4 x5 x6 x7 x8 x9 x10 x11 x12 x13 (ix2 k d) = ((D.gG k d : ℝ) : EReal) := by
  pointwise [val_main_v109, val_main_v108]
  simp only [rDgp h, rH1 h]
  simp only [one_c', ← EReal.coe_mul, ← EReal.coe_add, ← EReal.coe_sub, ← Own.coe_sum]
  refine congrArg Real.toEReal (Finset.sum_congr rfl fun b _ => Finset.sum_congr rfl fun s _ => ?_)
  ring

theorem rgO (k d : Fin 1024) : val_main_v135 x0 x1 x2 x3 x4 x5 x6 x7 x8 x9 x10 x11 x12 x13 (ix2 k d) = ((D.gO k d : ℝ) : EReal) := by
  pointwise [val_main_v135, val_main_v134]
  simp only [rDm h, rCat h]
  simp only [one_c', ← EReal.coe_mul, ← EReal.coe_add, ← EReal.coe_sub, ← Own.coe_sum]
  refine congrArg Real.toEReal (Finset.sum_congr rfl fun b _ => Finset.sum_congr rfl fun s _ => ?_)
  ring

theorem rgU (k d : Fin 512) : val_main_v154 x0 x1 x2 x3 x4 x5 x6 x7 x8 x9 x10 x11 x12 x13 (ix2 k d) = ((D.gU k d : ℝ) : EReal) := by
  pointwise [val_main_v154, val_main_v153]
  simp only [rDa h, rGl h]
  simp only [one_c', ← EReal.coe_mul, ← EReal.coe_add, ← EReal.coe_sub, ← Own.coe_sum]
  refine congrArg Real.toEReal (Finset.sum_congr rfl fun b _ => Finset.sum_congr rfl fun s _ => ?_)
  ring

theorem rgbG (d : Fin 1024) : val_main_v107 x0 x1 x2 x3 x4 x5 x6 x7 x8 x9 x10 x11 x12 x13 (ix2 0 d) = ((D.gbG d : ℝ) : EReal) := by
  pointwise [val_main_v107, val_main_v106, val_main_v105, val_main_v104, val_main_cst_25, val_main_cst_26]
  rw [Own.hostSum_lead]
  pointwise
  simp only [Own.hostSum_lead, Fin.sum_univ_one]
  pointwise
  simp only [rDgp h]
  simp only [one_c', ← EReal.coe_mul, ← EReal.coe_add, ← EReal.coe_sub, ← Own.coe_sum]
  rfl

theorem rgbU (d : Fin 512) : val_main_v152 x0 x1 x2 x3 x4 x5 x6 x7 x8 x9 x10 x11 x12 x13 (ix2 0 d) = ((D.gbU d : ℝ) : EReal) := by
  pointwise [val_main_v152, val_main_v151, val_main_v150, val_main_v149, val_main_cst_32, val_main_cst_33]
  rw [Own.hostSum_lead]
  pointwise
  simp only [Own.hostSum_lead, Fin.sum_univ_one]
  pointwise
  simp only [rDa h]
  simp only [one_c', ← EReal.coe_mul, ← EReal.coe_add, ← EReal.coe_sub, ← Own.coe_sum]
  rfl

theorem rgN (d : Fin 1024) : val_main_v133 x0 x1 x2 x3 x4 x5 x6 x7 x8 x9 x10 x11 x12 x13 (ix2 0 d) = ((D.gN d : ℝ) : EReal) := by
  pointwise [val_main_v133, val_main_v118, val_main_v115, val_main_v114, val_main_v113, val_main_cst_27, val_main_cst_28]
  rw [Own.hostSum_lead]
  pointwise
  simp only [Own.hostSum_lead, Fin.sum_univ_one]
  pointwise
  simp only [rD1 h, rNh h]
  simp only [one_c', ← EReal.coe_mul, ← EReal.coe_add, ← EReal.coe_sub, ← Own.coe_sum]
  refine congrArg Real.toEReal (Finset.sum_congr rfl fun b _ => Finset.sum_congr rfl fun s _ => ?_)
  ring

theorem rLs : val_main_v89 x0 x1 x2 x3 x4 x5 x6 x7 x8 x9 x10 x11 x12 x13 (ix2 b s) = ((D.ls b s / 1024 : ℝ) : EReal) := by
  pointwise [val_main_v89, val_main_v88, val_main_v87, val_main_v84, val_main_cst_18, val_main_cst_19]
  simp only [rEr h, Own.k1024, ← EReal.coe_mul, ← Own.coe_sum]
  rw [Own.div_coe_coe _ _ (by norm_num)]
  rfl

theorem rL : val_main_v173 x0 x1 x2 x3 x4 x5 x6 x7 x8 x9 x10 x11 x12 x13 (ix2 0 0) = ((D.L : ℝ) : EReal) := by
  pointwise [val_main_v173, val_main_v91, val_main_v90, val_main_cst_20, val_main_cst_21]
  simp only [rLs h, kH]
  simp only [one_c', ← EReal.coe_mul, ← EReal.coe_add, ← EReal.coe_sub, ← Own.coe_sum]
  refine congrArg Real.toEReal ?_
  unfold Data.L
  simp only [← Finset.sum_div]
  ring

theorem oDx (T : Fin 4096) (j : Fin 1024) : val_main_v174 x0 x1 x2 x3 x4 x5 x6 x7 x8 x9 x10 x11 x12 x13 (ix2 T j) = ((D.d1 ⟨T.val / 2048, by omega⟩ ⟨T.val % 2048, by omega⟩ j : ℝ) : EReal) := by
  pointwise [val_main_v174]
  exact rD1 h _ _ _

theorem oDy (T : Fin 4096) (j : Fin 512) : val_main_v175 x0 x1 x2 x3 x4 x5 x6 x7 x8 x9 x10 x11 x12 x13 (ix2 T j) = ((D.dy ⟨T.val / 2048, by omega⟩ ⟨T.val % 2048, by omega⟩ j : ℝ) : EReal) := by
  pointwise [val_main_v175]
  exact rDy h _ _ _

theorem oDzs (T : Fin 4096) (j : Fin 512) : val_main_v177 x0 x1 x2 x3 x4 x5 x6 x7 x8 x9 x10 x11 x12 x13 (ix2 T j) = ((D.dzs ⟨T.val / 2048, by omega⟩ ⟨T.val % 2048, by omega⟩ j : ℝ) : EReal) := by
  pointwise [val_main_v177, val_main_v176]
  exact rDzs h _ _ _

theorem oDat (T : Fin 4096) (j : Fin 512) : val_main_v178 x0 x1 x2 x3 x4 x5 x6 x7 x8 x9 x10 x11 x12 x13 (ix2 T j) = ((D.dat ⟨T.val / 2048, by omega⟩ ⟨T.val % 2048, by omega⟩ j : ℝ) : EReal) := by
  pointwise [val_main_v178]
  exact rDat h _ _ _

theorem oDza (T : Fin 4096) (j : Fin 512) : val_main_v180 x0 x1 x2 x3 x4 x5 x6 x7 x8 x9 x10 x11 x12 x13 (ix2 T j) = ((D.dza ⟨T.val / 2048, by omega⟩ ⟨T.val % 2048, by omega⟩ j : ℝ) : EReal) := by
  pointwise [val_main_v180, val_main_v179]
  exact rDza h _ _ _

theorem oU0 (k : Fin 64) (j : Fin 512) : val_main_v181 x0 x1 x2 x3 x4 x5 x6 x7 x8 x9 x10 x11 x12 x13 (ix3 0 k j) = ((D.gU ⟨k.val, by omega⟩ j : ℝ) : EReal) := by
  pointwise [val_main_v181, val_main_v157]
  exact rgU h _ _

theorem oO0 (k : Fin 128) (j : Fin 1024) : val_main_v182 x0 x1 x2 x3 x4 x5 x6 x7 x8 x9 x10 x11 x12 x13 (ix3 0 k j) = ((D.gO ⟨k.val, by omega⟩ j : ℝ) : EReal) := by
  pointwise [val_main_v182, val_main_v137]
  exact rgO h _ _

theorem oG0 (k : Fin 128) (j : Fin 1024) : val_main_v183 x0 x1 x2 x3 x4 x5 x6 x7 x8 x9 x10 x11 x12 x13 (ix3 0 k j) = ((D.gG ⟨k.val, by omega⟩ j : ℝ) : EReal) := by
  pointwise [val_main_v183, val_main_v112]
  exact rgG h _ _

theorem oP0 (k : Fin 256) (j : Fin 128) : val_main_v184 x0 x1 x2 x3 x4 x5 x6 x7 x8 x9 x10 x11 x12 x13 (ix3 0 k j) = ((D.gP k ⟨j.val, by omega⟩ : ℝ) : EReal) := by
  pointwise [val_main_v184, val_main_v172, val_main_v171, val_main_v170]
  exact rgP h _ _

theorem oO (k j : Fin 1024) : val_main_v186 x0 x1 x2 x3 x4 x5 x6 x7 x8 x9 x10 x11 x12 x13 (ix2 k j) = ((D.gO k j : ℝ) : EReal) := by
  pointwise [val_main_v186, val_main_v185, val_main_v137]
  exact rgO h _ _

theorem oG (k j : Fin 1024) : val_main_v188 x0 x1 x2 x3 x4 x5 x6 x7 x8 x9 x10 x11 x12 x13 (ix2 k j) = ((D.gG k j : ℝ) : EReal) := by
  pointwise [val_main_v188, val_main_v187, val_main_v112]
  exact rgG h _ _

theorem oP (n : Fin 8) (k : Fin 256) (j : Fin 128) : val_main_v189 x0 x1 x2 x3 x4 x5 x6 x7 x8 x9 x10 x11 x12 x13 (ix3 n k j) = ((D.gP k ⟨n.val * 128 + j.val, by omega⟩ : ℝ) : EReal) := by
  pointwise [val_main_v189, val_main_v172, val_main_v171, val_main_v170]
  exact rgP h _ _

theorem oU (k j : Fin 512) : val_main_v191 x0 x1 x2 x3 x4 x5 x6 x7 x8 x9 x10 x11 x12 x13 (ix2 k j) = ((D.gU k j : ℝ) : EReal) := by
  pointwise [val_main_v191, val_main_v190, val_main_v157]
  exact rgU h _ _

end

end Cert.MixBackIdeal.Own

end

end
-- ==== Proof.MixText.lean ====
/- The mix kernel's program before and after its two constants are named: one text. -/
module

public import proofs.«01_k».proof.Defs
public import proofs.«01_k».proof.Proof.MixSkel
public import proofs.«01_k».proof.Proof.Gen.MixBack

set_option maxRecDepth 16384

@[expose] public section

noncomputable section

namespace Cert.MixBackIdeal.Own

open Idealize.ShloMosaic Idealize.ShloMosaic.TcCoe Idealize.SL.Sem
open Cert.MixBackIdeal.Gen

/-- On words a named constant is its word. -/
@[reducible] def namedBits : Named Bits where
  named _ _ {φ} bits := Scalar.ofBits φ bits

/-- The frame of this program's text at any float instance and any reading of the named constants. -/
def Frame (F : FTy → Type) [FloatOps F] [Named F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0)

set_option maxHeartbeats 4000000 in
theorem bits_text : @Frame Bits _ namedBits = Cert.quiescent_MixBack := by sl_kernel_rfl

end Cert.MixBackIdeal.Own

end

end
-- ==== Proof.MixFrame.lean ====
/-
The frames of the mix call's forward and backward pass: it ends, every counter is zero again and its arguments are as they were.
-/
module

public import proofs.«01_k».proof.Proof.MixText
public import proofs.«01_k».proof.Proof.MixDat
public import proofs.«01_k».proof.Proof.Gen.MixBackRefIdeal.Run
public import proofs.«01_k».proof.Proof.Gen.Pre_finite_mix

set_option maxRecDepth 16384

@[expose] public section

noncomputable section

namespace Cert.MixBackIdeal.Own

open Idealize.ShloMosaic Idealize.ShloMosaic.TcCoe Idealize.SL.Sem
open Cert.MixBackIdeal.Gen

theorem frame_bits : Cert.quiescent_MixBack := bits_text.mp fun m ρ _ => @frame_any Bits _ namedBits m ρ
theorem frame_ideal : Cert.quiescent_MixBackIdeal := fun m ρ _ => frame_any m ρ
theorem frame_ideal_pre : Cert.quiescent_MixBackIdeal_pre_finite_mix := fun m ρ _ => frame_any m ρ
theorem frame_ref : Cert.quiescent_MixBackRefIdeal := fun m ρ _ =>
  (θ_run Cert.MixBackRefIdeal.defs _ _).mono (fun r h => ⟨fun c => (h c).2.2.2.2.2.2.2.2.2.2.2.2.2.2.2.2.2, sem_eq_zero_of_no_sems (by decide) r.2⟩)
    (Cert.MixBackRefIdeal.Value.run (F := Ideal) m ρ)
theorem frame_ref_pre : Cert.quiescent_MixBackRefIdeal_pre_finite_mix := fun m ρ _ => frame_ref m ρ trivial

/-- The two constants of the kernel's gelu are the words nearest 0.044715 and three times it. -/
theorem named_pair : Cert.preserves_MixBack_MixBackIdeal :=
  ⟨IdealRules.named_const.statement _ _ _ _ _ rfl, IdealRules.named_const.statement _ _ _ _ _ rfl⟩

end Cert.MixBackIdeal.Own

end

end
-- ==== Proof.MixAlg.lean ====
/-
The mix call leaves what plain mathematics says: the loss, the gradients of its inputs and of its weights.
-/
module

public import proofs.«01_k».proof.Proof.MixArr
public import proofs.«01_k».proof.Proof.MixRef
public import proofs.«01_k».proof.Proof.MixFrame

set_option maxRecDepth 16384

@[expose] public section

noncomputable section

namespace Cert.MixBackIdeal.Own

open Idealize.ShloMosaic Idealize.ShloMosaic.TcCoe Idealize.SL.Sem
open Idealize.ShloMosaic.Pipeline (Dat)
open Cert.MixBackIdeal.Gen Cert.MixBackRefIdeal.Read

/-- What the precondition says: the arguments it names are real numbers. -/
theorem data_of_pre (m : (ℓ : Loc nD τ sig) → Buf (Elt Ideal) ℓ) (c : Dev nD) (hp : Cert.Pre_MixBackIdeal_finite_mix m) : ∃ D : Data, IsM m c D := by
  have e := congrFun (hp c) ix0
  dsimp only [Cert.Pre_finite_mix.fn, Cert.Pre_finite_mix.fn_part1, Cert.Pre_finite_mix.fn_part2] at e
  obtain ⟨e, h12⟩ := IntOp.andi_eq_one.mp e
  obtain ⟨e, h11⟩ := IntOp.andi_eq_one.mp e
  obtain ⟨e, h10⟩ := IntOp.andi_eq_one.mp e
  obtain ⟨e, h9⟩ := IntOp.andi_eq_one.mp e
  obtain ⟨e, h7⟩ := IntOp.andi_eq_one.mp e
  obtain ⟨e, h6⟩ := IntOp.andi_eq_one.mp e
  obtain ⟨e, h5⟩ := IntOp.andi_eq_one.mp e
  obtain ⟨e, h4⟩ := IntOp.andi_eq_one.mp e
  obtain ⟨e, h3⟩ := IntOp.andi_eq_one.mp e
  obtain ⟨e, h2⟩ := IntOp.andi_eq_one.mp e
  obtain ⟨h0, h1⟩ := IntOp.andi_eq_one.mp e
  choose f0 e0 using _root_.Own.real_of_all _ _ _ _ _ h0
  choose f1 e1 using _root_.Own.real_of_all _ _ _ _ _ h1
  choose f2 e2 using _root_.Own.real_of_all _ _ _ _ _ h2
  choose f3 e3 using _root_.Own.real_of_all _ _ _ _ _ h3
  choose f4 e4 using _root_.Own.real_of_all _ _ _ _ _ h4
  choose f5 e5 using _root_.Own.real_of_all _ _ _ _ _ h5
  choose f6 e6 using _root_.Own.real_of_all _ _ _ _ _ h6
  choose f7 e7 using _root_.Own.real_of_all _ _ _ _ _ h7
  choose f9 e9 using _root_.Own.real_of_all _ _ _ _ _ h9
  choose f10 e10 using _root_.Own.real_of_all _ _ _ _ _ h10
  choose f11 e11 using _root_.Own.real_of_all _ _ _ _ _ h11
  choose f12 e12 using _root_.Own.real_of_all _ _ _ _ _ h12
  exact ⟨{ x := fun b s d => f0 (ix3 b s d), y := fun b s d => f1 (ix3 b s d), zs := fun b s d => f2 (ix3 b s d), at' := fun b s d => f3 (ix3 b s d), za := fun b s d => f4 (ix3 b s d), p := fun b s d => f5 (ix4 0 b s d), tg := fun b s d => f6 (ix3 b s d), wu := fun k d => f7 (ix3 0 k d), bu := fun d => m ((c : Thread nD τ).loc main_arg8) (ix2 0 d), wo := fun k d => f9 (ix3 0 k d), gp := fun d => f10 (ix2 0 d), wp := fun k d => f11 (ix3 0 k d), wg := fun k d => f12 (ix3 0 k d), bg := fun d => m ((c : Thread nD τ).loc main_arg13) (ix2 0 d) },
    { x := fun _ _ _ => e0 _, y := fun _ _ _ => e1 _, zs := fun _ _ _ => e2 _, at' := fun _ _ _ => e3 _, za := fun _ _ _ => e4 _, p := fun _ _ _ => e5 _, tg := fun _ _ _ => e6 _, wu := fun _ _ => e7 _, bu := fun _ => rfl, wo := fun _ _ => e9 _, gp := fun _ => e10 _, wp := fun _ _ => e11 _, wg := fun _ _ => e12 _, bg := fun _ => rfl }⟩

set_option maxHeartbeats 4000000 in
/-- The run with each output array named, the arguments unchanged. -/
theorem run_blocks (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16_0) = (dats m 0 c).arrAt 14 cfg0.N
      ∧ r.2.mem ((c.tc : Thread nD τ).loc main_v16_1) = (dats m 0 c).arrAt 15 cfg0.N
      ∧ r.2.mem ((c.tc : Thread nD τ).loc main_v16_2) = (dats m 0 c).arrAt 16 cfg0.N
      ∧ r.2.mem ((c.tc : Thread nD τ).loc main_v16_3) = (dats m 0 c).arrAt 17 cfg0.N
      ∧ r.2.mem ((c.tc : Thread nD τ).loc main_v16_4) = (dats m 0 c).arrAt 18 cfg0.N
      ∧ r.2.mem ((c.tc : Thread nD τ).loc main_v16_5) = (dats m 0 c).arrAt 19 cfg0.N
      ∧ r.2.mem ((c.tc : Thread nD τ).loc main_v16_6) = (dats m 0 c).arrAt 20 cfg0.N
      ∧ r.2.mem ((c.tc : Thread nD τ).loc main_v16_7) = (dats m 0 c).arrAt 21 cfg0.N
      ∧ r.2.mem ((c.tc : Thread nD τ).loc main_v16_8) = (dats m 0 c).arrAt 22 cfg0.N
      ∧ r.2.mem ((c.tc : Thread nD τ).loc main_v16_9) = (dats m 0 c).arrAt 23 cfg0.N
      ∧ r.2.mem ((c.tc : Thread nD τ).loc main_v16_10) = (dats m 0 c).arrAt 24 cfg0.N
      ∧ r.2.mem ((c.tc : Thread nD τ).loc main_v16_11) = (dats m 0 c).arrAt 25 cfg0.N
      ∧ r.2.mem ((c.tc : Thread nD τ).loc main_v16_12) = (dats m 0 c).arrAt 26 cfg0.N
      ∧ r.2.mem ((c.tc : Thread nD τ).loc main_v16_13) = (dats m 0 c).arrAt 27 cfg0.N
      ∧ r.2.mem ((c.tc : Thread nD τ).loc main_v16_14) = (dats m 0 c).arrAt 28 cfg0.N
      ∧ r.2.mem ((c.tc : Thread nD τ).loc main_v16_15) = (dats m 0 c).arrAt 29 cfg0.N
      ∧ r.2.mem ((c.tc : Thread nD τ).loc main_v16_16) = (dats m 0 c).arrAt 30 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨(h.1 c).1 14, (h.1 c).1 15, (h.1 c).1 16, (h.1 c).1 17, (h.1 c).1 18, (h.1 c).1 19, (h.1 c).1 20, (h.1 c).1 21, (h.1 c).1 22, (h.1 c).1 23, (h.1 c).1 24, (h.1 c).1 25, (h.1 c).1 26, (h.1 c).1 27, (h.1 c).1 28, (h.1 c).1 29, (h.1 c).1 30, h.2 c⟩)
    (θ_run_and (run_main m ρ) (frame_of m ρ (dats m) (A_eq m) (run_main m ρ)))

set_option maxHeartbeats 4000000 in
theorem algebraic : Cert.algebraic_MixBackIdeal_MixBackRefIdeal_pre_finite_mix := by
  intro m ρ m' ρ' hp ha
  refine ⟨fun c => (dats m 0 c).arrAt 14 cfg0.N, fun c => (dats m 0 c).arrAt 15 cfg0.N, fun c => (dats m 0 c).arrAt 16 cfg0.N, fun c => (dats m 0 c).arrAt 17 cfg0.N, fun c => (dats m 0 c).arrAt 18 cfg0.N, fun c => (dats m 0 c).arrAt 19 cfg0.N, fun c => (dats m 0 c).arrAt 20 cfg0.N, fun c => (dats m 0 c).arrAt 21 cfg0.N, fun c => (dats m 0 c).arrAt 22 cfg0.N, fun c => (dats m 0 c).arrAt 23 cfg0.N, fun c => (dats m 0 c).arrAt 24 cfg0.N, fun c => (dats m 0 c).arrAt 25 cfg0.N, fun c => (dats m 0 c).arrAt 26 cfg0.N, fun c => (dats m 0 c).arrAt 27 cfg0.N, fun c => (dats m 0 c).arrAt 28 cfg0.N, fun c => (dats m 0 c).arrAt 29 cfg0.N, fun c => (dats m 0 c).arrAt 30 cfg0.N, run_blocks m ρ, ?_⟩
  refine (θ_run Cert.MixBackRefIdeal.defs _ _).mono (fun r h c => ?_) (Cert.MixBackRefIdeal.Value.run (F := Ideal) m' ρ')
  obtain ⟨h0, h1, h2, h3, h4, h5, h6, h7, h8, h9, h10, h11, h12, h13, h14, h15, h16, hk⟩ := h c
  obtain ⟨a0, a1, a2, a3, a4, a5, a6, a7, a8, a9, a10, a11, a12, a13⟩ := ha c
  obtain ⟨D, hI⟩ := data_of_pre m c hp
  have hD : Is (m' ((c.tc : Thread Cert.MixBackRefIdeal.nD Cert.MixBackRefIdeal.τ).loc Cert.MixBackRefIdeal.main_arg0)) (m' ((c.tc : Thread Cert.MixBackRefIdeal.nD Cert.MixBackRefIdeal.τ).loc Cert.MixBackRefIdeal.main_arg1)) (m' ((c.tc : Thread Cert.MixBackRefIdeal.nD Cert.MixBackRefIdeal.τ).loc Cert.MixBackRefIdeal.main_arg2)) (m' ((c.tc : Thread Cert.MixBackRefIdeal.nD Cert.MixBackRefIdeal.τ).loc Cert.MixBackRefIdeal.main_arg3)) (m' ((c.tc : Thread Cert.MixBackRefIdeal.nD Cert.MixBackRefIdeal.τ).loc Cert.MixBackRefIdeal.main_arg4)) (m' ((c.tc : Thread Cert.MixBackRefIdeal.nD Cert.MixBackRefIdeal.τ).loc Cert.MixBackRefIdeal.main_arg5)) (m' ((c.tc : Thread Cert.MixBackRefIdeal.nD Cert.MixBackRefIdeal.τ).loc Cert.MixBackRefIdeal.main_arg6)) (m' ((c.tc : Thread Cert.MixBackRefIdeal.nD Cert.MixBackRefIdeal.τ).loc Cert.MixBackRefIdeal.main_arg7)) (m' ((c.tc : Thread Cert.MixBackRefIdeal.nD Cert.MixBackRefIdeal.τ).loc Cert.MixBackRefIdeal.main_arg8)) (m' ((c.tc : Thread Cert.MixBackRefIdeal.nD Cert.MixBackRefIdeal.τ).loc Cert.MixBackRefIdeal.main_arg9)) (m' ((c.tc : Thread Cert.MixBackRefIdeal.nD Cert.MixBackRefIdeal.τ).loc Cert.MixBackRefIdeal.main_arg10)) (m' ((c.tc : Thread Cert.MixBackRefIdeal.nD Cert.MixBackRefIdeal.τ).loc Cert.MixBackRefIdeal.main_arg11)) (m' ((c.tc : Thread Cert.MixBackRefIdeal.nD Cert.MixBackRefIdeal.τ).loc Cert.MixBackRefIdeal.main_arg12)) (m' ((c.tc : Thread Cert.MixBackRefIdeal.nD Cert.MixBackRefIdeal.τ).loc Cert.MixBackRefIdeal.main_arg13)) D := by
    rw [a0, a1, a2, a3, a4, a5, a6, a7, a8, a9, a10, a11, a12, a13]
    exact hI
  refine ⟨h0.trans ((val_main_v173_eq _).trans ((funext fun y => ?_).trans (arr_14 hI).symm)),
    h1.trans ((val_main_v174_eq _).trans ((funext fun y => ?_).trans (arr_15 hI).symm)),
    h2.trans ((val_main_v175_eq _).trans ((funext fun y => ?_).trans (arr_16 hI).symm)),
    h3.trans ((val_main_v177_eq _).trans ((funext fun y => ?_).trans (arr_17 hI).symm)),
    h4.trans ((val_main_v178_eq _).trans ((funext fun y => ?_).trans (arr_18 hI).symm)),
    h5.trans ((val_main_v180_eq _).trans ((funext fun y => ?_).trans (arr_19 hI).symm)),
    h6.trans ((val_main_v181_eq _).trans ((funext fun y => ?_).trans (arr_20 hI).symm)),
    h7.trans ((val_main_v152_eq _).trans ((funext fun y => ?_).trans (arr_21 hI).symm)),
    h8.trans ((val_main_v182_eq _).trans ((funext fun y => ?_).trans (arr_22 hI).symm)),
    h9.trans ((val_main_v133_eq _).trans ((funext fun y => ?_).trans (arr_23 hI).symm)),
    h10.trans ((val_main_v183_eq _).trans ((funext fun y => ?_).trans (arr_24 hI).symm)),
    h11.trans ((val_main_v107_eq _).trans ((funext fun y => ?_).trans (arr_25 hI).symm)),
    h12.trans ((val_main_v184_eq _).trans ((funext fun y => ?_).trans (arr_26 hI).symm)),
    h13.trans ((val_main_v186_eq _).trans ((funext fun y => ?_).trans (arr_27 hI).symm)),
    h14.trans ((val_main_v188_eq _).trans ((funext fun y => ?_).trans (arr_28 hI).symm)),
    h15.trans ((val_main_v189_eq _).trans ((funext fun y => ?_).trans (arr_29 hI).symm)),
    h16.trans ((val_main_v191_eq _).trans ((funext fun y => ?_).trans (arr_30 hI).symm)), hk⟩
  · rw [eq_ix2 y, Fin.fin_one_eq_zero (y 0), Fin.fin_one_eq_zero (y 1)]; exact rL hD
  · rw [eq_ix2 y]; exact oDx hD _ _
  · rw [eq_ix2 y]; exact oDy hD _ _
  · rw [eq_ix2 y]; exact oDzs hD _ _
  · rw [eq_ix2 y]; exact oDat hD _ _
  · rw [eq_ix2 y]; exact oDza hD _ _
  · rw [eq_ix3 y, Fin.fin_one_eq_zero (y 0)]; exact oU0 hD _ _
  · rw [eq_ix2 y, Fin.fin_one_eq_zero (y 0)]; exact rgbU hD _
  · rw [eq_ix3 y, Fin.fin_one_eq_zero (y 0)]; exact oO0 hD _ _
  · rw [eq_ix2 y, Fin.fin_one_eq_zero (y 0)]; exact rgN hD _
  · rw [eq_ix3 y, Fin.fin_one_eq_zero (y 0)]; exact oG0 hD _ _
  · rw [eq_ix2 y, Fin.fin_one_eq_zero (y 0)]; exact rgbG hD _
  · rw [eq_ix3 y, Fin.fin_one_eq_zero (y 0)]; exact oP0 hD _ _
  · rw [eq_ix2 y]; exact oO hD _ _
  · rw [eq_ix2 y]; exact oG hD _ _
  · rw [eq_ix3 y]; exact oP hD _ _ _
  · rw [eq_ix2 y]; exact oU hD _ _

end Cert.MixBackIdeal.Own

end

end
-- ==== Proof.lean ====
module

public import proofs.«01_k».proof.Defs
public import proofs.«01_k».proof.Proof.Gen.AttBack
public import proofs.«01_k».proof.Proof.Gen.AttBackIdeal
public import proofs.«01_k».proof.Proof.Gen.AttBackIdeal.Skeleton
public import proofs.«01_k».proof.Proof.Gen.AttBackIdeal.Launch
public import proofs.«01_k».proof.Proof.Gen.AttBackIdeal.Points
public import proofs.«01_k».proof.Proof.Gen.AttBackIdeal.Regions
public import proofs.«01_k».proof.Proof.Gen.AttBackRefIdeal
public import proofs.«01_k».proof.Proof.Gen.AttBackRefIdeal.Run
public import proofs.«01_k».proof.Proof.Gen.AttBackRefIdeal.Read
public import proofs.«01_k».proof.Proof.Gen.Pre_finite_att
public import proofs.«01_k».proof.Proof.Gen.InBack
public import proofs.«01_k».proof.Proof.Gen.InBack.Skeleton
public import proofs.«01_k».proof.Proof.Gen.InBack.Loops
public import proofs.«01_k».proof.Proof.Gen.InBack.Launch
public import proofs.«01_k».proof.Proof.Gen.InBack.Points
public import proofs.«01_k».proof.Proof.Gen.InBack.Frame
public import proofs.«01_k».proof.Proof.Gen.InBackIdeal
public import proofs.«01_k».proof.Proof.Gen.InBackIdeal.Skeleton
public import proofs.«01_k».proof.Proof.Gen.InBackIdeal.Loops
public import proofs.«01_k».proof.Proof.Gen.InBackIdeal.Launch
public import proofs.«01_k».proof.Proof.Gen.InBackIdeal.Points
public import proofs.«01_k».proof.Proof.Gen.InBackIdeal.Frame
public import proofs.«01_k».proof.Proof.Gen.InBackRefIdeal
public import proofs.«01_k».proof.Proof.Gen.Pre_finite_in
public import proofs.«01_k».proof.Proof.Gen.InBackIdeal.Value
public import proofs.«01_k».proof.Proof.Gen.InBackRefIdeal.Run
public import proofs.«01_k».proof.Proof.Gen.InBackRefIdeal.Read
public import proofs.«01_k».proof.Proof.Gen.ParBack
public import proofs.«01_k».proof.Proof.Gen.ParBack.Skeleton
public import proofs.«01_k».proof.Proof.Gen.ParBack.Launch
public import proofs.«01_k».proof.Proof.Gen.ParBack.Points
public import proofs.«01_k».proof.Proof.Gen.ParBack.Frame
public import proofs.«01_k».proof.Proof.Gen.ParBackIdeal
public import proofs.«01_k».proof.Proof.Gen.ParBackIdeal.Skeleton
public import proofs.«01_k».proof.Proof.Gen.ParBackIdeal.Launch
public import proofs.«01_k».proof.Proof.Gen.ParBackIdeal.Points
public import proofs.«01_k».proof.Proof.Gen.ParBackIdeal.Frame
public import proofs.«01_k».proof.Proof.Gen.ParBackRefIdeal
public import proofs.«01_k».proof.Proof.Gen.ParBackIdeal.Value
public import proofs.«01_k».proof.Proof.Gen.ParBackRefIdeal.Run
public import proofs.«01_k».proof.Proof.Gen.ParBackRefIdeal.Read
public import proofs.«01_k».proof.Proof.Gen.Pre_nonzero_lam
public import proofs.«01_k».proof.Proof.Gen.MixBack
public import proofs.«01_k».proof.Proof.Gen.MixBack.Skeleton
public import proofs.«01_k».proof.Proof.Gen.MixBack.Loops
public import proofs.«01_k».proof.Proof.Gen.MixBack.Launch
public import proofs.«01_k».proof.Proof.Gen.MixBack.Points
public import proofs.«01_k».proof.Proof.Gen.MixBackIdeal
public import proofs.«01_k».proof.Proof.Gen.MixBackIdeal.Skeleton
public import proofs.«01_k».proof.Proof.Gen.MixBackIdeal.Loops
public import proofs.«01_k».proof.Proof.Gen.MixBackIdeal.Launch
public import proofs.«01_k».proof.Proof.Gen.MixBackIdeal.Points
public import proofs.«01_k».proof.Proof.Gen.MixBackRefIdeal
public import proofs.«01_k».proof.Proof.Gen.MixBackRefIdeal.Run
public import proofs.«01_k».proof.Proof.Gen.MixBackRefIdeal.Read
public import proofs.«01_k».proof.Proof.Gen.Pre_finite_mix
public import proofs.«01_k».proof.Proof.InBack
public import proofs.«01_k».proof.Proof.AttAlg
public import proofs.«01_k».proof.Proof.Par
public import proofs.«01_k».proof.Proof.MixAlg
public import Idealize.ShloMosaic.Adequacy
public import Idealize.ShloMosaic.Init

@[expose] public section

noncomputable section

namespace Cert.Proof

open Idealize.ShloMosaic Idealize.SL.Sem Cert.InBack

theorem claim : Cert.Claim := ⟨Cert.InBack.Gen.facts, Cert.InBackIdeal.Gen.facts, Cert.InBackRefIdeal.Gen.facts, Cert.AttBack.Gen.facts,
  Cert.AttBackIdeal.Gen.facts, Cert.AttBackRefIdeal.Gen.facts, Cert.ParBack.Gen.facts, Cert.ParBackIdeal.Gen.facts, Cert.ParBackRefIdeal.Gen.facts,
  Cert.MixBack.Gen.facts, Cert.MixBackIdeal.Gen.facts, Cert.MixBackRefIdeal.Gen.facts,
  Cert.Pre_finite_in.Gen.facts, Cert.Pre_finite_att.Gen.facts, Cert.Pre_nonzero_lam.Gen.facts, Cert.Pre_finite_mix.Gen.facts,
  Cert.InBackIdeal.Own.frame_bits, Cert.InBackIdeal.Own.frame_ideal, Cert.InBackIdeal.Own.frame_ideal_pre, Cert.InBackIdeal.Own.frame_ref,
  Cert.InBackIdeal.Own.frame_ref_pre, Cert.AttBackIdeal.Own.frame_bits, Cert.AttBackIdeal.Own.frame_ideal, Cert.AttBackIdeal.Own.frame_ideal_pre,
  Cert.AttBackIdeal.Own.frame_ref, Cert.AttBackIdeal.Own.frame_ref_pre, Cert.ParBackIdeal.Own.frame_bits, Cert.ParBackIdeal.Own.frame_ideal,
  Cert.ParBackIdeal.Own.frame_ideal_pre, Cert.ParBackIdeal.Own.frame_ref, Cert.ParBackIdeal.Own.frame_ref_pre,
  Cert.MixBackIdeal.Own.frame_bits, Cert.MixBackIdeal.Own.frame_ideal, Cert.MixBackIdeal.Own.frame_ideal_pre, Cert.MixBackIdeal.Own.frame_ref,
  Cert.MixBackIdeal.Own.frame_ref_pre, trivial, Cert.InBackIdeal.Own.algebraic,
  trivial, Cert.AttBackIdeal.Own.algebraic, trivial, Cert.ParBackIdeal.Own.algebraic,
  Cert.MixBackIdeal.Own.named_pair, Cert.MixBackIdeal.Own.algebraic⟩

end Cert.Proof

end
